-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_SbIn (m : (ℓ : Loc Cert.SbIn.nD Cert.SbIn.τ Cert.SbIn.sig) → Buf (Elt Bits) ℓ) : Prop :=
  True

def Pre_SbInIdeal (m : (ℓ : Loc Cert.SbInIdeal.nD Cert.SbInIdeal.τ Cert.SbInIdeal.sig) → Buf (Elt Ideal) ℓ) : Prop :=
  True

def Pre_SbInRefIdeal (m : (ℓ : Loc Cert.SbInRefIdeal.nD Cert.SbInRefIdeal.τ Cert.SbInRefIdeal.sig) → Buf (Elt Ideal) ℓ) : Prop :=
  True

def Pre_SbInBack (m : (ℓ : Loc Cert.SbInBack.nD Cert.SbInBack.τ Cert.SbInBack.sig) → Buf (Elt Bits) ℓ) : Prop :=
  True

def Pre_SbInBackIdeal (m : (ℓ : Loc Cert.SbInBackIdeal.nD Cert.SbInBackIdeal.τ Cert.SbInBackIdeal.sig) → Buf (Elt Ideal) ℓ) : Prop :=
  True

def Pre_SbInBackRefIdeal (m : (ℓ : Loc Cert.SbInBackRefIdeal.nD Cert.SbInBackRefIdeal.τ Cert.SbInBackRefIdeal.sig) → Buf (Elt Ideal) ℓ) : Prop :=
  True

def Pre_PleGate (m : (ℓ : Loc Cert.PleGate.nD Cert.PleGate.τ Cert.PleGate.sig) → Buf (Elt Bits) ℓ) : Prop :=
  True

def Pre_PleGateIdeal (m : (ℓ : Loc Cert.PleGateIdeal.nD Cert.PleGateIdeal.τ Cert.PleGateIdeal.sig) → Buf (Elt Ideal) ℓ) : Prop :=
  True

def Pre_PleGateRefIdeal (m : (ℓ : Loc Cert.PleGateRefIdeal.nD Cert.PleGateRefIdeal.τ Cert.PleGateRefIdeal.sig) → Buf (Elt Ideal) ℓ) : Prop :=
  True

def Pre_SbOut (m : (ℓ : Loc Cert.SbOut.nD Cert.SbOut.τ Cert.SbOut.sig) → Buf (Elt Bits) ℓ) : Prop :=
  True

def Pre_SbOutIdeal (m : (ℓ : Loc Cert.SbOutIdeal.nD Cert.SbOutIdeal.τ Cert.SbOutIdeal.sig) → Buf (Elt Ideal) ℓ) : Prop :=
  True

def Pre_SbOutRefIdeal (m : (ℓ : Loc Cert.SbOutRefIdeal.nD Cert.SbOutRefIdeal.τ Cert.SbOutRefIdeal.sig) → Buf (Elt Ideal) ℓ) : Prop :=
  True

def Pre_SsdOut (m : (ℓ : Loc Cert.SsdOut.nD Cert.SsdOut.τ Cert.SsdOut.sig) → Buf (Elt Bits) ℓ) : Prop :=
  True

def Pre_SsdOutIdeal (m : (ℓ : Loc Cert.SsdOutIdeal.nD Cert.SsdOutIdeal.τ Cert.SsdOutIdeal.sig) → Buf (Elt Ideal) ℓ) : Prop :=
  True

def Pre_SsdOutRefIdeal (m : (ℓ : Loc Cert.SsdOutRefIdeal.nD Cert.SsdOutRefIdeal.τ Cert.SsdOutRefIdeal.sig) → Buf (Elt Ideal) ℓ) : Prop :=
  True

def Pre_SsdIn (m : (ℓ : Loc Cert.SsdIn.nD Cert.SsdIn.τ Cert.SsdIn.sig) → Buf (Elt Bits) ℓ) : Prop :=
  True

def Pre_SsdInIdeal (m : (ℓ : Loc Cert.SsdInIdeal.nD Cert.SsdInIdeal.τ Cert.SsdInIdeal.sig) → Buf (Elt Ideal) ℓ) : Prop :=
  True

def Pre_SsdInRefIdeal (m : (ℓ : Loc Cert.SsdInRefIdeal.nD Cert.SsdInRefIdeal.τ Cert.SsdInRefIdeal.sig) → Buf (Elt Ideal) ℓ) : Prop :=
  True

def Pre_SsdBc (m : (ℓ : Loc Cert.SsdBc.nD Cert.SsdBc.τ Cert.SsdBc.sig) → Buf (Elt Bits) ℓ) : Prop :=
  True

def Pre_SsdBcIdeal (m : (ℓ : Loc Cert.SsdBcIdeal.nD Cert.SsdBcIdeal.τ Cert.SsdBcIdeal.sig) → Buf (Elt Ideal) ℓ) : Prop :=
  True

def Pre_SsdBcRefIdeal (m : (ℓ : Loc Cert.SsdBcRefIdeal.nD Cert.SsdBcRefIdeal.τ Cert.SsdBcRefIdeal.sig) → Buf (Elt Ideal) ℓ) : Prop :=
  True

def Pre_PleProj (m : (ℓ : Loc Cert.PleProj.nD Cert.PleProj.τ Cert.PleProj.sig) → Buf (Elt Bits) ℓ) : Prop :=
  True

def Pre_PleProjIdeal (m : (ℓ : Loc Cert.PleProjIdeal.nD Cert.PleProjIdeal.τ Cert.PleProjIdeal.sig) → Buf (Elt Ideal) ℓ) : Prop :=
  True

def Pre_PleProjRefIdeal (m : (ℓ : Loc Cert.PleProjRefIdeal.nD Cert.PleProjRefIdeal.τ Cert.PleProjRefIdeal.sig) → Buf (Elt Ideal) ℓ) : Prop :=
  True

def Pre_PleBack (m : (ℓ : Loc Cert.PleBack.nD Cert.PleBack.τ Cert.PleBack.sig) → Buf (Elt Bits) ℓ) : Prop :=
  True

def Pre_PleBackIdeal (m : (ℓ : Loc Cert.PleBackIdeal.nD Cert.PleBackIdeal.τ Cert.PleBackIdeal.sig) → Buf (Elt Ideal) ℓ) : Prop :=
  True

def Pre_PleBackRefIdeal (m : (ℓ : Loc Cert.PleBackRefIdeal.nD Cert.PleBackRefIdeal.τ Cert.PleBackRefIdeal.sig) → Buf (Elt Ideal) ℓ) : Prop :=
  True

def Pre_SbGateBack (m : (ℓ : Loc Cert.SbGateBack.nD Cert.SbGateBack.τ Cert.SbGateBack.sig) → Buf (Elt Bits) ℓ) : Prop :=
  True

def Pre_SbGateBackIdeal (m : (ℓ : Loc Cert.SbGateBackIdeal.nD Cert.SbGateBackIdeal.τ Cert.SbGateBackIdeal.sig) → Buf (Elt Ideal) ℓ) : Prop :=
  True

def Pre_SbGateBackIdeal_finite_gate [hPre_finite_gate : Cert.Pre_finite_gate.Facts] (m : (ℓ : Loc Cert.SbGateBackIdeal.nD Cert.SbGateBackIdeal.τ Cert.SbGateBackIdeal.sig) → Buf (Elt Ideal) ℓ) : Prop :=
  ∀ c : Dev Cert.SbGateBackIdeal.nD,
    (Cert.Pre_finite_gate.fn (F := Ideal) (m ((c.tc : Thread Cert.SbGateBackIdeal.nD Cert.SbGateBackIdeal.τ).loc Cert.SbGateBackIdeal.main_arg0)) (m ((c.tc : Thread Cert.SbGateBackIdeal.nD Cert.SbGateBackIdeal.τ).loc Cert.SbGateBackIdeal.main_arg1)) (m ((c.tc : Thread Cert.SbGateBackIdeal.nD Cert.SbGateBackIdeal.τ).loc Cert.SbGateBackIdeal.main_arg2))) = (fun _ => 1#1)

def Pre_SbGateBackRefIdeal (m : (ℓ : Loc Cert.SbGateBackRefIdeal.nD Cert.SbGateBackRefIdeal.τ Cert.SbGateBackRefIdeal.sig) → Buf (Elt Ideal) ℓ) : Prop :=
  True

def Pre_SbGateBackRefIdeal_finite_gate [hPre_finite_gate : Cert.Pre_finite_gate.Facts] (m : (ℓ : Loc Cert.SbGateBackRefIdeal.nD Cert.SbGateBackRefIdeal.τ Cert.SbGateBackRefIdeal.sig) → Buf (Elt Ideal) ℓ) : Prop :=
  ∀ c : Dev Cert.SbGateBackRefIdeal.nD,
    (Cert.Pre_finite_gate.fn (F := Ideal) (m ((c.tc : Thread Cert.SbGateBackRefIdeal.nD Cert.SbGateBackRefIdeal.τ).loc Cert.SbGateBackRefIdeal.main_arg0)) (m ((c.tc : Thread Cert.SbGateBackRefIdeal.nD Cert.SbGateBackRefIdeal.τ).loc Cert.SbGateBackRefIdeal.main_arg1)) (m ((c.tc : Thread Cert.SbGateBackRefIdeal.nD Cert.SbGateBackRefIdeal.τ).loc Cert.SbGateBackRefIdeal.main_arg2))) = (fun _ => 1#1)

def Pre_SbFwd (m : (ℓ : Loc Cert.SbFwd.nD Cert.SbFwd.τ Cert.SbFwd.sig) → Buf (Elt Bits) ℓ) : Prop :=
  True

def Pre_SbFwdIdeal (m : (ℓ : Loc Cert.SbFwdIdeal.nD Cert.SbFwdIdeal.τ Cert.SbFwdIdeal.sig) → Buf (Elt Ideal) ℓ) : Prop :=
  True

def Pre_SbFwdIdeal_finite_logits [hPre_finite_logits : Cert.Pre_finite_logits.Facts] (m : (ℓ : Loc Cert.SbFwdIdeal.nD Cert.SbFwdIdeal.τ Cert.SbFwdIdeal.sig) → Buf (Elt Ideal) ℓ) : Prop :=
  ∀ c : Dev Cert.SbFwdIdeal.nD,
    (Cert.Pre_finite_logits.fn (F := Ideal) (m ((c.tc : Thread Cert.SbFwdIdeal.nD Cert.SbFwdIdeal.τ).loc Cert.SbFwdIdeal.main_arg0)) (m ((c.tc : Thread Cert.SbFwdIdeal.nD Cert.SbFwdIdeal.τ).loc Cert.SbFwdIdeal.main_arg1)) (m ((c.tc : Thread Cert.SbFwdIdeal.nD Cert.SbFwdIdeal.τ).loc Cert.SbFwdIdeal.main_arg2))) = (fun _ => 1#1)

def Pre_SbFwdRefIdeal (m : (ℓ : Loc Cert.SbFwdRefIdeal.nD Cert.SbFwdRefIdeal.τ Cert.SbFwdRefIdeal.sig) → Buf (Elt Ideal) ℓ) : Prop :=
  True

def Pre_SbFwdRefIdeal_finite_logits [hPre_finite_logits : Cert.Pre_finite_logits.Facts] (m : (ℓ : Loc Cert.SbFwdRefIdeal.nD Cert.SbFwdRefIdeal.τ Cert.SbFwdRefIdeal.sig) → Buf (Elt Ideal) ℓ) : Prop :=
  ∀ c : Dev Cert.SbFwdRefIdeal.nD,
    (Cert.Pre_finite_logits.fn (F := Ideal) (m ((c.tc : Thread Cert.SbFwdRefIdeal.nD Cert.SbFwdRefIdeal.τ).loc Cert.SbFwdRefIdeal.main_arg0)) (m ((c.tc : Thread Cert.SbFwdRefIdeal.nD Cert.SbFwdRefIdeal.τ).loc Cert.SbFwdRefIdeal.main_arg1)) (m ((c.tc : Thread Cert.SbFwdRefIdeal.nD Cert.SbFwdRefIdeal.τ).loc Cert.SbFwdRefIdeal.main_arg2))) = (fun _ => 1#1)

def Pre_SsdDt (m : (ℓ : Loc Cert.SsdDt.nD Cert.SsdDt.τ Cert.SsdDt.sig) → Buf (Elt Bits) ℓ) : Prop :=
  True

def Pre_SsdDtIdeal (m : (ℓ : Loc Cert.SsdDtIdeal.nD Cert.SsdDtIdeal.τ Cert.SsdDtIdeal.sig) → Buf (Elt Ideal) ℓ) : Prop :=
  True

def Pre_SsdDtRefIdeal (m : (ℓ : Loc Cert.SsdDtRefIdeal.nD Cert.SsdDtRefIdeal.τ Cert.SsdDtRefIdeal.sig) → Buf (Elt Ideal) ℓ) : Prop :=
  True

def Pre_PleFwd (m : (ℓ : Loc Cert.PleFwd.nD Cert.PleFwd.τ Cert.PleFwd.sig) → Buf (Elt Bits) ℓ) : Prop :=
  True

def Pre_PleFwdIdeal (m : (ℓ : Loc Cert.PleFwdIdeal.nD Cert.PleFwdIdeal.τ Cert.PleFwdIdeal.sig) → Buf (Elt Ideal) ℓ) : Prop :=
  True

def Pre_PleFwdRefIdeal (m : (ℓ : Loc Cert.PleFwdRefIdeal.nD Cert.PleFwdRefIdeal.τ Cert.PleFwdRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_DtFwd (m : (ℓ : Loc Cert.DtFwd.nD Cert.DtFwd.τ Cert.DtFwd.sig) → Buf (Elt Bits) ℓ) : Prop :=
  True

def Pre_DtFwdIdeal (m : (ℓ : Loc Cert.DtFwdIdeal.nD Cert.DtFwdIdeal.τ Cert.DtFwdIdeal.sig) → Buf (Elt Ideal) ℓ) : Prop :=
  True

def Pre_DtFwdRefIdeal (m : (ℓ : Loc Cert.DtFwdRefIdeal.nD Cert.DtFwdRefIdeal.τ Cert.DtFwdRefIdeal.sig) → Buf (Elt Ideal) ℓ) : Prop :=
  True

def Pre_NormBack (m : (ℓ : Loc Cert.NormBack.nD Cert.NormBack.τ Cert.NormBack.sig) → Buf (Elt Bits) ℓ) : Prop :=
  True

def Pre_NormBackIdeal (m : (ℓ : Loc Cert.NormBackIdeal.nD Cert.NormBackIdeal.τ Cert.NormBackIdeal.sig) → Buf (Elt Ideal) ℓ) : Prop :=
  True

def Pre_NormBackRefIdeal (m : (ℓ : Loc Cert.NormBackRefIdeal.nD Cert.NormBackRefIdeal.τ Cert.NormBackRefIdeal.sig) → Buf (Elt Ideal) ℓ) : Prop :=
  True

def Pre_DtBack (m : (ℓ : Loc Cert.DtBack.nD Cert.DtBack.τ Cert.DtBack.sig) → Buf (Elt Bits) ℓ) : Prop :=
  True

def Pre_DtBackIdeal (m : (ℓ : Loc Cert.DtBackIdeal.nD Cert.DtBackIdeal.τ Cert.DtBackIdeal.sig) → Buf (Elt Ideal) ℓ) : Prop :=
  True

def Pre_DtBackRefIdeal (m : (ℓ : Loc Cert.DtBackRefIdeal.nD Cert.DtBackRefIdeal.τ Cert.DtBackRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_SbIn [hSbIn : Cert.SbIn.Facts] : Prop :=
  ∀ (m : (ℓ : Loc Cert.SbIn.nD Cert.SbIn.τ Cert.SbIn.sig) → Buf (Elt Bits) ℓ) (g : Dev Cert.SbIn.nD → PrngReg), Pre_SbIn m →
    θ_run (Cert.SbIn.defs (F := Bits)) (onTc (τ := Cert.SbIn.τ) (Cert.SbIn.main (F := Bits))) ⟨m, fun _ => 0, g⟩ (fun r => (∀ c : Dev Cert.SbIn.nD,
      r.2.mem ((c.tc : Thread Cert.SbIn.nD Cert.SbIn.τ).loc Cert.SbIn.main_arg0) = m ((c.tc : Thread Cert.SbIn.nD Cert.SbIn.τ).loc Cert.SbIn.main_arg0)
      ∧ r.2.mem ((c.tc : Thread Cert.SbIn.nD Cert.SbIn.τ).loc Cert.SbIn.main_arg1) = m ((c.tc : Thread Cert.SbIn.nD Cert.SbIn.τ).loc Cert.SbIn.main_arg1)
      ∧ r.2.mem ((c.tc : Thread Cert.SbIn.nD Cert.SbIn.τ).loc Cert.SbIn.main_arg2) = m ((c.tc : Thread Cert.SbIn.nD Cert.SbIn.τ).loc Cert.SbIn.main_arg2))
      ∧ r.2.sem = fun _ => 0)

def quiescent_SbInIdeal [hSbInIdeal : Cert.SbInIdeal.Facts] : Prop :=
  ∀ (m : (ℓ : Loc Cert.SbInIdeal.nD Cert.SbInIdeal.τ Cert.SbInIdeal.sig) → Buf (Elt Ideal) ℓ) (g : Dev Cert.SbInIdeal.nD → PrngReg), Pre_SbInIdeal m →
    θ_run (Cert.SbInIdeal.defs (F := Ideal)) (onTc (τ := Cert.SbInIdeal.τ) (Cert.SbInIdeal.main (F := Ideal))) ⟨m, fun _ => 0, g⟩ (fun r => (∀ c : Dev Cert.SbInIdeal.nD,
      r.2.mem ((c.tc : Thread Cert.SbInIdeal.nD Cert.SbInIdeal.τ).loc Cert.SbInIdeal.main_arg0) = m ((c.tc : Thread Cert.SbInIdeal.nD Cert.SbInIdeal.τ).loc Cert.SbInIdeal.main_arg0)
      ∧ r.2.mem ((c.tc : Thread Cert.SbInIdeal.nD Cert.SbInIdeal.τ).loc Cert.SbInIdeal.main_arg1) = m ((c.tc : Thread Cert.SbInIdeal.nD Cert.SbInIdeal.τ).loc Cert.SbInIdeal.main_arg1)
      ∧ r.2.mem ((c.tc : Thread Cert.SbInIdeal.nD Cert.SbInIdeal.τ).loc Cert.SbInIdeal.main_arg2) = m ((c.tc : Thread Cert.SbInIdeal.nD Cert.SbInIdeal.τ).loc Cert.SbInIdeal.main_arg2))
      ∧ r.2.sem = fun _ => 0)

def quiescent_SbInRefIdeal [hSbInRefIdeal : Cert.SbInRefIdeal.Facts] : Prop :=
  ∀ (m : (ℓ : Loc Cert.SbInRefIdeal.nD Cert.SbInRefIdeal.τ Cert.SbInRefIdeal.sig) → Buf (Elt Ideal) ℓ) (g : Dev Cert.SbInRefIdeal.nD → PrngReg), Pre_SbInRefIdeal m →
    θ_run (Cert.SbInRefIdeal.defs (F := Ideal)) (onTc (τ := Cert.SbInRefIdeal.τ) (Cert.SbInRefIdeal.main (F := Ideal))) ⟨m, fun _ => 0, g⟩ (fun r => (∀ c : Dev Cert.SbInRefIdeal.nD,
      r.2.mem ((c.tc : Thread Cert.SbInRefIdeal.nD Cert.SbInRefIdeal.τ).loc Cert.SbInRefIdeal.main_arg0) = m ((c.tc : Thread Cert.SbInRefIdeal.nD Cert.SbInRefIdeal.τ).loc Cert.SbInRefIdeal.main_arg0)
      ∧ r.2.mem ((c.tc : Thread Cert.SbInRefIdeal.nD Cert.SbInRefIdeal.τ).loc Cert.SbInRefIdeal.main_arg1) = m ((c.tc : Thread Cert.SbInRefIdeal.nD Cert.SbInRefIdeal.τ).loc Cert.SbInRefIdeal.main_arg1)
      ∧ r.2.mem ((c.tc : Thread Cert.SbInRefIdeal.nD Cert.SbInRefIdeal.τ).loc Cert.SbInRefIdeal.main_arg2) = m ((c.tc : Thread Cert.SbInRefIdeal.nD Cert.SbInRefIdeal.τ).loc Cert.SbInRefIdeal.main_arg2))
      ∧ r.2.sem = fun _ => 0)

def quiescent_SbInBack [hSbInBack : Cert.SbInBack.Facts] : Prop :=
  ∀ (m : (ℓ : Loc Cert.SbInBack.nD Cert.SbInBack.τ Cert.SbInBack.sig) → Buf (Elt Bits) ℓ) (g : Dev Cert.SbInBack.nD → PrngReg), Pre_SbInBack m →
    θ_run (Cert.SbInBack.defs (F := Bits)) (onTc (τ := Cert.SbInBack.τ) (Cert.SbInBack.main (F := Bits))) ⟨m, fun _ => 0, g⟩ (fun r => (∀ c : Dev Cert.SbInBack.nD,
      r.2.mem ((c.tc : Thread Cert.SbInBack.nD Cert.SbInBack.τ).loc Cert.SbInBack.main_arg0) = m ((c.tc : Thread Cert.SbInBack.nD Cert.SbInBack.τ).loc Cert.SbInBack.main_arg0)
      ∧ r.2.mem ((c.tc : Thread Cert.SbInBack.nD Cert.SbInBack.τ).loc Cert.SbInBack.main_arg1) = m ((c.tc : Thread Cert.SbInBack.nD Cert.SbInBack.τ).loc Cert.SbInBack.main_arg1))
      ∧ r.2.sem = fun _ => 0)

def quiescent_SbInBackIdeal [hSbInBackIdeal : Cert.SbInBackIdeal.Facts] : Prop :=
  ∀ (m : (ℓ : Loc Cert.SbInBackIdeal.nD Cert.SbInBackIdeal.τ Cert.SbInBackIdeal.sig) → Buf (Elt Ideal) ℓ) (g : Dev Cert.SbInBackIdeal.nD → PrngReg), Pre_SbInBackIdeal m →
    θ_run (Cert.SbInBackIdeal.defs (F := Ideal)) (onTc (τ := Cert.SbInBackIdeal.τ) (Cert.SbInBackIdeal.main (F := Ideal))) ⟨m, fun _ => 0, g⟩ (fun r => (∀ c : Dev Cert.SbInBackIdeal.nD,
      r.2.mem ((c.tc : Thread Cert.SbInBackIdeal.nD Cert.SbInBackIdeal.τ).loc Cert.SbInBackIdeal.main_arg0) = m ((c.tc : Thread Cert.SbInBackIdeal.nD Cert.SbInBackIdeal.τ).loc Cert.SbInBackIdeal.main_arg0)
      ∧ r.2.mem ((c.tc : Thread Cert.SbInBackIdeal.nD Cert.SbInBackIdeal.τ).loc Cert.SbInBackIdeal.main_arg1) = m ((c.tc : Thread Cert.SbInBackIdeal.nD Cert.SbInBackIdeal.τ).loc Cert.SbInBackIdeal.main_arg1))
      ∧ r.2.sem = fun _ => 0)

def quiescent_SbInBackRefIdeal [hSbInBackRefIdeal : Cert.SbInBackRefIdeal.Facts] : Prop :=
  ∀ (m : (ℓ : Loc Cert.SbInBackRefIdeal.nD Cert.SbInBackRefIdeal.τ Cert.SbInBackRefIdeal.sig) → Buf (Elt Ideal) ℓ) (g : Dev Cert.SbInBackRefIdeal.nD → PrngReg), Pre_SbInBackRefIdeal m →
    θ_run (Cert.SbInBackRefIdeal.defs (F := Ideal)) (onTc (τ := Cert.SbInBackRefIdeal.τ) (Cert.SbInBackRefIdeal.main (F := Ideal))) ⟨m, fun _ => 0, g⟩ (fun r => (∀ c : Dev Cert.SbInBackRefIdeal.nD,
      r.2.mem ((c.tc : Thread Cert.SbInBackRefIdeal.nD Cert.SbInBackRefIdeal.τ).loc Cert.SbInBackRefIdeal.main_arg0) = m ((c.tc : Thread Cert.SbInBackRefIdeal.nD Cert.SbInBackRefIdeal.τ).loc Cert.SbInBackRefIdeal.main_arg0)
      ∧ r.2.mem ((c.tc : Thread Cert.SbInBackRefIdeal.nD Cert.SbInBackRefIdeal.τ).loc Cert.SbInBackRefIdeal.main_arg1) = m ((c.tc : Thread Cert.SbInBackRefIdeal.nD Cert.SbInBackRefIdeal.τ).loc Cert.SbInBackRefIdeal.main_arg1))
      ∧ r.2.sem = fun _ => 0)

def quiescent_PleGate [hPleGate : Cert.PleGate.Facts] : Prop :=
  ∀ (m : (ℓ : Loc Cert.PleGate.nD Cert.PleGate.τ Cert.PleGate.sig) → Buf (Elt Bits) ℓ) (g : Dev Cert.PleGate.nD → PrngReg), Pre_PleGate m →
    θ_run (Cert.PleGate.defs (F := Bits)) (onTc (τ := Cert.PleGate.τ) (Cert.PleGate.main (F := Bits))) ⟨m, fun _ => 0, g⟩ (fun r => (∀ c : Dev Cert.PleGate.nD,
      r.2.mem ((c.tc : Thread Cert.PleGate.nD Cert.PleGate.τ).loc Cert.PleGate.main_arg0) = m ((c.tc : Thread Cert.PleGate.nD Cert.PleGate.τ).loc Cert.PleGate.main_arg0)
      ∧ r.2.mem ((c.tc : Thread Cert.PleGate.nD Cert.PleGate.τ).loc Cert.PleGate.main_arg1) = m ((c.tc : Thread Cert.PleGate.nD Cert.PleGate.τ).loc Cert.PleGate.main_arg1)
      ∧ r.2.mem ((c.tc : Thread Cert.PleGate.nD Cert.PleGate.τ).loc Cert.PleGate.main_arg2) = m ((c.tc : Thread Cert.PleGate.nD Cert.PleGate.τ).loc Cert.PleGate.main_arg2))
      ∧ r.2.sem = fun _ => 0)

def quiescent_PleGateIdeal [hPleGateIdeal : Cert.PleGateIdeal.Facts] : Prop :=
  ∀ (m : (ℓ : Loc Cert.PleGateIdeal.nD Cert.PleGateIdeal.τ Cert.PleGateIdeal.sig) → Buf (Elt Ideal) ℓ) (g : Dev Cert.PleGateIdeal.nD → PrngReg), Pre_PleGateIdeal m →
    θ_run (Cert.PleGateIdeal.defs (F := Ideal)) (onTc (τ := Cert.PleGateIdeal.τ) (Cert.PleGateIdeal.main (F := Ideal))) ⟨m, fun _ => 0, g⟩ (fun r => (∀ c : Dev Cert.PleGateIdeal.nD,
      r.2.mem ((c.tc : Thread Cert.PleGateIdeal.nD Cert.PleGateIdeal.τ).loc Cert.PleGateIdeal.main_arg0) = m ((c.tc : Thread Cert.PleGateIdeal.nD Cert.PleGateIdeal.τ).loc Cert.PleGateIdeal.main_arg0)
      ∧ r.2.mem ((c.tc : Thread Cert.PleGateIdeal.nD Cert.PleGateIdeal.τ).loc Cert.PleGateIdeal.main_arg1) = m ((c.tc : Thread Cert.PleGateIdeal.nD Cert.PleGateIdeal.τ).loc Cert.PleGateIdeal.main_arg1)
      ∧ r.2.mem ((c.tc : Thread Cert.PleGateIdeal.nD Cert.PleGateIdeal.τ).loc Cert.PleGateIdeal.main_arg2) = m ((c.tc : Thread Cert.PleGateIdeal.nD Cert.PleGateIdeal.τ).loc Cert.PleGateIdeal.main_arg2))
      ∧ r.2.sem = fun _ => 0)

def quiescent_PleGateRefIdeal [hPleGateRefIdeal : Cert.PleGateRefIdeal.Facts] : Prop :=
  ∀ (m : (ℓ : Loc Cert.PleGateRefIdeal.nD Cert.PleGateRefIdeal.τ Cert.PleGateRefIdeal.sig) → Buf (Elt Ideal) ℓ) (g : Dev Cert.PleGateRefIdeal.nD → PrngReg), Pre_PleGateRefIdeal m →
    θ_run (Cert.PleGateRefIdeal.defs (F := Ideal)) (onTc (τ := Cert.PleGateRefIdeal.τ) (Cert.PleGateRefIdeal.main (F := Ideal))) ⟨m, fun _ => 0, g⟩ (fun r => (∀ c : Dev Cert.PleGateRefIdeal.nD,
      r.2.mem ((c.tc : Thread Cert.PleGateRefIdeal.nD Cert.PleGateRefIdeal.τ).loc Cert.PleGateRefIdeal.main_arg0) = m ((c.tc : Thread Cert.PleGateRefIdeal.nD Cert.PleGateRefIdeal.τ).loc Cert.PleGateRefIdeal.main_arg0)
      ∧ r.2.mem ((c.tc : Thread Cert.PleGateRefIdeal.nD Cert.PleGateRefIdeal.τ).loc Cert.PleGateRefIdeal.main_arg1) = m ((c.tc : Thread Cert.PleGateRefIdeal.nD Cert.PleGateRefIdeal.τ).loc Cert.PleGateRefIdeal.main_arg1)
      ∧ r.2.mem ((c.tc : Thread Cert.PleGateRefIdeal.nD Cert.PleGateRefIdeal.τ).loc Cert.PleGateRefIdeal.main_arg2) = m ((c.tc : Thread Cert.PleGateRefIdeal.nD Cert.PleGateRefIdeal.τ).loc Cert.PleGateRefIdeal.main_arg2))
      ∧ r.2.sem = fun _ => 0)

def quiescent_SbOut [hSbOut : Cert.SbOut.Facts] : Prop :=
  ∀ (m : (ℓ : Loc Cert.SbOut.nD Cert.SbOut.τ Cert.SbOut.sig) → Buf (Elt Bits) ℓ) (g : Dev Cert.SbOut.nD → PrngReg), Pre_SbOut m →
    θ_run (Cert.SbOut.defs (F := Bits)) (onTc (τ := Cert.SbOut.τ) (Cert.SbOut.main (F := Bits))) ⟨m, fun _ => 0, g⟩ (fun r => (∀ c : Dev Cert.SbOut.nD,
      r.2.mem ((c.tc : Thread Cert.SbOut.nD Cert.SbOut.τ).loc Cert.SbOut.main_arg0) = m ((c.tc : Thread Cert.SbOut.nD Cert.SbOut.τ).loc Cert.SbOut.main_arg0)
      ∧ r.2.mem ((c.tc : Thread Cert.SbOut.nD Cert.SbOut.τ).loc Cert.SbOut.main_arg1) = m ((c.tc : Thread Cert.SbOut.nD Cert.SbOut.τ).loc Cert.SbOut.main_arg1)
      ∧ r.2.mem ((c.tc : Thread Cert.SbOut.nD Cert.SbOut.τ).loc Cert.SbOut.main_arg2) = m ((c.tc : Thread Cert.SbOut.nD Cert.SbOut.τ).loc Cert.SbOut.main_arg2)
      ∧ r.2.mem ((c.tc : Thread Cert.SbOut.nD Cert.SbOut.τ).loc Cert.SbOut.main_arg3) = m ((c.tc : Thread Cert.SbOut.nD Cert.SbOut.τ).loc Cert.SbOut.main_arg3))
      ∧ r.2.sem = fun _ => 0)

def quiescent_SbOutIdeal [hSbOutIdeal : Cert.SbOutIdeal.Facts] : Prop :=
  ∀ (m : (ℓ : Loc Cert.SbOutIdeal.nD Cert.SbOutIdeal.τ Cert.SbOutIdeal.sig) → Buf (Elt Ideal) ℓ) (g : Dev Cert.SbOutIdeal.nD → PrngReg), Pre_SbOutIdeal m →
    θ_run (Cert.SbOutIdeal.defs (F := Ideal)) (onTc (τ := Cert.SbOutIdeal.τ) (Cert.SbOutIdeal.main (F := Ideal))) ⟨m, fun _ => 0, g⟩ (fun r => (∀ c : Dev Cert.SbOutIdeal.nD,
      r.2.mem ((c.tc : Thread Cert.SbOutIdeal.nD Cert.SbOutIdeal.τ).loc Cert.SbOutIdeal.main_arg0) = m ((c.tc : Thread Cert.SbOutIdeal.nD Cert.SbOutIdeal.τ).loc Cert.SbOutIdeal.main_arg0)
      ∧ r.2.mem ((c.tc : Thread Cert.SbOutIdeal.nD Cert.SbOutIdeal.τ).loc Cert.SbOutIdeal.main_arg1) = m ((c.tc : Thread Cert.SbOutIdeal.nD Cert.SbOutIdeal.τ).loc Cert.SbOutIdeal.main_arg1)
      ∧ r.2.mem ((c.tc : Thread Cert.SbOutIdeal.nD Cert.SbOutIdeal.τ).loc Cert.SbOutIdeal.main_arg2) = m ((c.tc : Thread Cert.SbOutIdeal.nD Cert.SbOutIdeal.τ).loc Cert.SbOutIdeal.main_arg2)
      ∧ r.2.mem ((c.tc : Thread Cert.SbOutIdeal.nD Cert.SbOutIdeal.τ).loc Cert.SbOutIdeal.main_arg3) = m ((c.tc : Thread Cert.SbOutIdeal.nD Cert.SbOutIdeal.τ).loc Cert.SbOutIdeal.main_arg3))
      ∧ r.2.sem = fun _ => 0)

def quiescent_SbOutRefIdeal [hSbOutRefIdeal : Cert.SbOutRefIdeal.Facts] : Prop :=
  ∀ (m : (ℓ : Loc Cert.SbOutRefIdeal.nD Cert.SbOutRefIdeal.τ Cert.SbOutRefIdeal.sig) → Buf (Elt Ideal) ℓ) (g : Dev Cert.SbOutRefIdeal.nD → PrngReg), Pre_SbOutRefIdeal m →
    θ_run (Cert.SbOutRefIdeal.defs (F := Ideal)) (onTc (τ := Cert.SbOutRefIdeal.τ) (Cert.SbOutRefIdeal.main (F := Ideal))) ⟨m, fun _ => 0, g⟩ (fun r => (∀ c : Dev Cert.SbOutRefIdeal.nD,
      r.2.mem ((c.tc : Thread Cert.SbOutRefIdeal.nD Cert.SbOutRefIdeal.τ).loc Cert.SbOutRefIdeal.main_arg0) = m ((c.tc : Thread Cert.SbOutRefIdeal.nD Cert.SbOutRefIdeal.τ).loc Cert.SbOutRefIdeal.main_arg0)
      ∧ r.2.mem ((c.tc : Thread Cert.SbOutRefIdeal.nD Cert.SbOutRefIdeal.τ).loc Cert.SbOutRefIdeal.main_arg1) = m ((c.tc : Thread Cert.SbOutRefIdeal.nD Cert.SbOutRefIdeal.τ).loc Cert.SbOutRefIdeal.main_arg1)
      ∧ r.2.mem ((c.tc : Thread Cert.SbOutRefIdeal.nD Cert.SbOutRefIdeal.τ).loc Cert.SbOutRefIdeal.main_arg2) = m ((c.tc : Thread Cert.SbOutRefIdeal.nD Cert.SbOutRefIdeal.τ).loc Cert.SbOutRefIdeal.main_arg2)
      ∧ r.2.mem ((c.tc : Thread Cert.SbOutRefIdeal.nD Cert.SbOutRefIdeal.τ).loc Cert.SbOutRefIdeal.main_arg3) = m ((c.tc : Thread Cert.SbOutRefIdeal.nD Cert.SbOutRefIdeal.τ).loc Cert.SbOutRefIdeal.main_arg3))
      ∧ r.2.sem = fun _ => 0)

def quiescent_SsdOut [hSsdOut : Cert.SsdOut.Facts] : Prop :=
  ∀ (m : (ℓ : Loc Cert.SsdOut.nD Cert.SsdOut.τ Cert.SsdOut.sig) → Buf (Elt Bits) ℓ) (g : Dev Cert.SsdOut.nD → PrngReg), Pre_SsdOut m →
    θ_run (Cert.SsdOut.defs (F := Bits)) (onTc (τ := Cert.SsdOut.τ) (Cert.SsdOut.main (F := Bits))) ⟨m, fun _ => 0, g⟩ (fun r => (∀ c : Dev Cert.SsdOut.nD,
      r.2.mem ((c.tc : Thread Cert.SsdOut.nD Cert.SsdOut.τ).loc Cert.SsdOut.main_arg0) = m ((c.tc : Thread Cert.SsdOut.nD Cert.SsdOut.τ).loc Cert.SsdOut.main_arg0)
      ∧ r.2.mem ((c.tc : Thread Cert.SsdOut.nD Cert.SsdOut.τ).loc Cert.SsdOut.main_arg1) = m ((c.tc : Thread Cert.SsdOut.nD Cert.SsdOut.τ).loc Cert.SsdOut.main_arg1)
      ∧ r.2.mem ((c.tc : Thread Cert.SsdOut.nD Cert.SsdOut.τ).loc Cert.SsdOut.main_arg2) = m ((c.tc : Thread Cert.SsdOut.nD Cert.SsdOut.τ).loc Cert.SsdOut.main_arg2)
      ∧ r.2.mem ((c.tc : Thread Cert.SsdOut.nD Cert.SsdOut.τ).loc Cert.SsdOut.main_arg3) = m ((c.tc : Thread Cert.SsdOut.nD Cert.SsdOut.τ).loc Cert.SsdOut.main_arg3))
      ∧ r.2.sem = fun _ => 0)

def quiescent_SsdOutIdeal [hSsdOutIdeal : Cert.SsdOutIdeal.Facts] : Prop :=
  ∀ (m : (ℓ : Loc Cert.SsdOutIdeal.nD Cert.SsdOutIdeal.τ Cert.SsdOutIdeal.sig) → Buf (Elt Ideal) ℓ) (g : Dev Cert.SsdOutIdeal.nD → PrngReg), Pre_SsdOutIdeal m →
    θ_run (Cert.SsdOutIdeal.defs (F := Ideal)) (onTc (τ := Cert.SsdOutIdeal.τ) (Cert.SsdOutIdeal.main (F := Ideal))) ⟨m, fun _ => 0, g⟩ (fun r => (∀ c : Dev Cert.SsdOutIdeal.nD,
      r.2.mem ((c.tc : Thread Cert.SsdOutIdeal.nD Cert.SsdOutIdeal.τ).loc Cert.SsdOutIdeal.main_arg0) = m ((c.tc : Thread Cert.SsdOutIdeal.nD Cert.SsdOutIdeal.τ).loc Cert.SsdOutIdeal.main_arg0)
      ∧ r.2.mem ((c.tc : Thread Cert.SsdOutIdeal.nD Cert.SsdOutIdeal.τ).loc Cert.SsdOutIdeal.main_arg1) = m ((c.tc : Thread Cert.SsdOutIdeal.nD Cert.SsdOutIdeal.τ).loc Cert.SsdOutIdeal.main_arg1)
      ∧ r.2.mem ((c.tc : Thread Cert.SsdOutIdeal.nD Cert.SsdOutIdeal.τ).loc Cert.SsdOutIdeal.main_arg2) = m ((c.tc : Thread Cert.SsdOutIdeal.nD Cert.SsdOutIdeal.τ).loc Cert.SsdOutIdeal.main_arg2)
      ∧ r.2.mem ((c.tc : Thread Cert.SsdOutIdeal.nD Cert.SsdOutIdeal.τ).loc Cert.SsdOutIdeal.main_arg3) = m ((c.tc : Thread Cert.SsdOutIdeal.nD Cert.SsdOutIdeal.τ).loc Cert.SsdOutIdeal.main_arg3))
      ∧ r.2.sem = fun _ => 0)

def quiescent_SsdOutRefIdeal [hSsdOutRefIdeal : Cert.SsdOutRefIdeal.Facts] : Prop :=
  ∀ (m : (ℓ : Loc Cert.SsdOutRefIdeal.nD Cert.SsdOutRefIdeal.τ Cert.SsdOutRefIdeal.sig) → Buf (Elt Ideal) ℓ) (g : Dev Cert.SsdOutRefIdeal.nD → PrngReg), Pre_SsdOutRefIdeal m →
    θ_run (Cert.SsdOutRefIdeal.defs (F := Ideal)) (onTc (τ := Cert.SsdOutRefIdeal.τ) (Cert.SsdOutRefIdeal.main (F := Ideal))) ⟨m, fun _ => 0, g⟩ (fun r => (∀ c : Dev Cert.SsdOutRefIdeal.nD,
      r.2.mem ((c.tc : Thread Cert.SsdOutRefIdeal.nD Cert.SsdOutRefIdeal.τ).loc Cert.SsdOutRefIdeal.main_arg0) = m ((c.tc : Thread Cert.SsdOutRefIdeal.nD Cert.SsdOutRefIdeal.τ).loc Cert.SsdOutRefIdeal.main_arg0)
      ∧ r.2.mem ((c.tc : Thread Cert.SsdOutRefIdeal.nD Cert.SsdOutRefIdeal.τ).loc Cert.SsdOutRefIdeal.main_arg1) = m ((c.tc : Thread Cert.SsdOutRefIdeal.nD Cert.SsdOutRefIdeal.τ).loc Cert.SsdOutRefIdeal.main_arg1)
      ∧ r.2.mem ((c.tc : Thread Cert.SsdOutRefIdeal.nD Cert.SsdOutRefIdeal.τ).loc Cert.SsdOutRefIdeal.main_arg2) = m ((c.tc : Thread Cert.SsdOutRefIdeal.nD Cert.SsdOutRefIdeal.τ).loc Cert.SsdOutRefIdeal.main_arg2)
      ∧ r.2.mem ((c.tc : Thread Cert.SsdOutRefIdeal.nD Cert.SsdOutRefIdeal.τ).loc Cert.SsdOutRefIdeal.main_arg3) = m ((c.tc : Thread Cert.SsdOutRefIdeal.nD Cert.SsdOutRefIdeal.τ).loc Cert.SsdOutRefIdeal.main_arg3))
      ∧ r.2.sem = fun _ => 0)

def quiescent_SsdIn [hSsdIn : Cert.SsdIn.Facts] : Prop :=
  ∀ (m : (ℓ : Loc Cert.SsdIn.nD Cert.SsdIn.τ Cert.SsdIn.sig) → Buf (Elt Bits) ℓ) (g : Dev Cert.SsdIn.nD → PrngReg), Pre_SsdIn m →
    θ_run (Cert.SsdIn.defs (F := Bits)) (onTc (τ := Cert.SsdIn.τ) (Cert.SsdIn.main (F := Bits))) ⟨m, fun _ => 0, g⟩ (fun r => (∀ c : Dev Cert.SsdIn.nD,
      r.2.mem ((c.tc : Thread Cert.SsdIn.nD Cert.SsdIn.τ).loc Cert.SsdIn.main_arg0) = m ((c.tc : Thread Cert.SsdIn.nD Cert.SsdIn.τ).loc Cert.SsdIn.main_arg0)
      ∧ r.2.mem ((c.tc : Thread Cert.SsdIn.nD Cert.SsdIn.τ).loc Cert.SsdIn.main_arg1) = m ((c.tc : Thread Cert.SsdIn.nD Cert.SsdIn.τ).loc Cert.SsdIn.main_arg1)
      ∧ r.2.mem ((c.tc : Thread Cert.SsdIn.nD Cert.SsdIn.τ).loc Cert.SsdIn.main_arg2) = m ((c.tc : Thread Cert.SsdIn.nD Cert.SsdIn.τ).loc Cert.SsdIn.main_arg2)
      ∧ r.2.mem ((c.tc : Thread Cert.SsdIn.nD Cert.SsdIn.τ).loc Cert.SsdIn.main_arg3) = m ((c.tc : Thread Cert.SsdIn.nD Cert.SsdIn.τ).loc Cert.SsdIn.main_arg3))
      ∧ r.2.sem = fun _ => 0)

def quiescent_SsdInIdeal [hSsdInIdeal : Cert.SsdInIdeal.Facts] : Prop :=
  ∀ (m : (ℓ : Loc Cert.SsdInIdeal.nD Cert.SsdInIdeal.τ Cert.SsdInIdeal.sig) → Buf (Elt Ideal) ℓ) (g : Dev Cert.SsdInIdeal.nD → PrngReg), Pre_SsdInIdeal m →
    θ_run (Cert.SsdInIdeal.defs (F := Ideal)) (onTc (τ := Cert.SsdInIdeal.τ) (Cert.SsdInIdeal.main (F := Ideal))) ⟨m, fun _ => 0, g⟩ (fun r => (∀ c : Dev Cert.SsdInIdeal.nD,
      r.2.mem ((c.tc : Thread Cert.SsdInIdeal.nD Cert.SsdInIdeal.τ).loc Cert.SsdInIdeal.main_arg0) = m ((c.tc : Thread Cert.SsdInIdeal.nD Cert.SsdInIdeal.τ).loc Cert.SsdInIdeal.main_arg0)
      ∧ r.2.mem ((c.tc : Thread Cert.SsdInIdeal.nD Cert.SsdInIdeal.τ).loc Cert.SsdInIdeal.main_arg1) = m ((c.tc : Thread Cert.SsdInIdeal.nD Cert.SsdInIdeal.τ).loc Cert.SsdInIdeal.main_arg1)
      ∧ r.2.mem ((c.tc : Thread Cert.SsdInIdeal.nD Cert.SsdInIdeal.τ).loc Cert.SsdInIdeal.main_arg2) = m ((c.tc : Thread Cert.SsdInIdeal.nD Cert.SsdInIdeal.τ).loc Cert.SsdInIdeal.main_arg2)
      ∧ r.2.mem ((c.tc : Thread Cert.SsdInIdeal.nD Cert.SsdInIdeal.τ).loc Cert.SsdInIdeal.main_arg3) = m ((c.tc : Thread Cert.SsdInIdeal.nD Cert.SsdInIdeal.τ).loc Cert.SsdInIdeal.main_arg3))
      ∧ r.2.sem = fun _ => 0)

def quiescent_SsdInRefIdeal [hSsdInRefIdeal : Cert.SsdInRefIdeal.Facts] : Prop :=
  ∀ (m : (ℓ : Loc Cert.SsdInRefIdeal.nD Cert.SsdInRefIdeal.τ Cert.SsdInRefIdeal.sig) → Buf (Elt Ideal) ℓ) (g : Dev Cert.SsdInRefIdeal.nD → PrngReg), Pre_SsdInRefIdeal m →
    θ_run (Cert.SsdInRefIdeal.defs (F := Ideal)) (onTc (τ := Cert.SsdInRefIdeal.τ) (Cert.SsdInRefIdeal.main (F := Ideal))) ⟨m, fun _ => 0, g⟩ (fun r => (∀ c : Dev Cert.SsdInRefIdeal.nD,
      r.2.mem ((c.tc : Thread Cert.SsdInRefIdeal.nD Cert.SsdInRefIdeal.τ).loc Cert.SsdInRefIdeal.main_arg0) = m ((c.tc : Thread Cert.SsdInRefIdeal.nD Cert.SsdInRefIdeal.τ).loc Cert.SsdInRefIdeal.main_arg0)
      ∧ r.2.mem ((c.tc : Thread Cert.SsdInRefIdeal.nD Cert.SsdInRefIdeal.τ).loc Cert.SsdInRefIdeal.main_arg1) = m ((c.tc : Thread Cert.SsdInRefIdeal.nD Cert.SsdInRefIdeal.τ).loc Cert.SsdInRefIdeal.main_arg1)
      ∧ r.2.mem ((c.tc : Thread Cert.SsdInRefIdeal.nD Cert.SsdInRefIdeal.τ).loc Cert.SsdInRefIdeal.main_arg2) = m ((c.tc : Thread Cert.SsdInRefIdeal.nD Cert.SsdInRefIdeal.τ).loc Cert.SsdInRefIdeal.main_arg2)
      ∧ r.2.mem ((c.tc : Thread Cert.SsdInRefIdeal.nD Cert.SsdInRefIdeal.τ).loc Cert.SsdInRefIdeal.main_arg3) = m ((c.tc : Thread Cert.SsdInRefIdeal.nD Cert.SsdInRefIdeal.τ).loc Cert.SsdInRefIdeal.main_arg3))
      ∧ r.2.sem = fun _ => 0)

def quiescent_SsdBc [hSsdBc : Cert.SsdBc.Facts] : Prop :=
  ∀ (m : (ℓ : Loc Cert.SsdBc.nD Cert.SsdBc.τ Cert.SsdBc.sig) → Buf (Elt Bits) ℓ) (g : Dev Cert.SsdBc.nD → PrngReg), Pre_SsdBc m →
    θ_run (Cert.SsdBc.defs (F := Bits)) (onTc (τ := Cert.SsdBc.τ) (Cert.SsdBc.main (F := Bits))) ⟨m, fun _ => 0, g⟩ (fun r => (∀ c : Dev Cert.SsdBc.nD,
      r.2.mem ((c.tc : Thread Cert.SsdBc.nD Cert.SsdBc.τ).loc Cert.SsdBc.main_arg0) = m ((c.tc : Thread Cert.SsdBc.nD Cert.SsdBc.τ).loc Cert.SsdBc.main_arg0)
      ∧ r.2.mem ((c.tc : Thread Cert.SsdBc.nD Cert.SsdBc.τ).loc Cert.SsdBc.main_arg1) = m ((c.tc : Thread Cert.SsdBc.nD Cert.SsdBc.τ).loc Cert.SsdBc.main_arg1)
      ∧ r.2.mem ((c.tc : Thread Cert.SsdBc.nD Cert.SsdBc.τ).loc Cert.SsdBc.main_arg2) = m ((c.tc : Thread Cert.SsdBc.nD Cert.SsdBc.τ).loc Cert.SsdBc.main_arg2)
      ∧ r.2.mem ((c.tc : Thread Cert.SsdBc.nD Cert.SsdBc.τ).loc Cert.SsdBc.main_arg3) = m ((c.tc : Thread Cert.SsdBc.nD Cert.SsdBc.τ).loc Cert.SsdBc.main_arg3))
      ∧ r.2.sem = fun _ => 0)

def quiescent_SsdBcIdeal [hSsdBcIdeal : Cert.SsdBcIdeal.Facts] : Prop :=
  ∀ (m : (ℓ : Loc Cert.SsdBcIdeal.nD Cert.SsdBcIdeal.τ Cert.SsdBcIdeal.sig) → Buf (Elt Ideal) ℓ) (g : Dev Cert.SsdBcIdeal.nD → PrngReg), Pre_SsdBcIdeal m →
    θ_run (Cert.SsdBcIdeal.defs (F := Ideal)) (onTc (τ := Cert.SsdBcIdeal.τ) (Cert.SsdBcIdeal.main (F := Ideal))) ⟨m, fun _ => 0, g⟩ (fun r => (∀ c : Dev Cert.SsdBcIdeal.nD,
      r.2.mem ((c.tc : Thread Cert.SsdBcIdeal.nD Cert.SsdBcIdeal.τ).loc Cert.SsdBcIdeal.main_arg0) = m ((c.tc : Thread Cert.SsdBcIdeal.nD Cert.SsdBcIdeal.τ).loc Cert.SsdBcIdeal.main_arg0)
      ∧ r.2.mem ((c.tc : Thread Cert.SsdBcIdeal.nD Cert.SsdBcIdeal.τ).loc Cert.SsdBcIdeal.main_arg1) = m ((c.tc : Thread Cert.SsdBcIdeal.nD Cert.SsdBcIdeal.τ).loc Cert.SsdBcIdeal.main_arg1)
      ∧ r.2.mem ((c.tc : Thread Cert.SsdBcIdeal.nD Cert.SsdBcIdeal.τ).loc Cert.SsdBcIdeal.main_arg2) = m ((c.tc : Thread Cert.SsdBcIdeal.nD Cert.SsdBcIdeal.τ).loc Cert.SsdBcIdeal.main_arg2)
      ∧ r.2.mem ((c.tc : Thread Cert.SsdBcIdeal.nD Cert.SsdBcIdeal.τ).loc Cert.SsdBcIdeal.main_arg3) = m ((c.tc : Thread Cert.SsdBcIdeal.nD Cert.SsdBcIdeal.τ).loc Cert.SsdBcIdeal.main_arg3))
      ∧ r.2.sem = fun _ => 0)

def quiescent_SsdBcRefIdeal [hSsdBcRefIdeal : Cert.SsdBcRefIdeal.Facts] : Prop :=
  ∀ (m : (ℓ : Loc Cert.SsdBcRefIdeal.nD Cert.SsdBcRefIdeal.τ Cert.SsdBcRefIdeal.sig) → Buf (Elt Ideal) ℓ) (g : Dev Cert.SsdBcRefIdeal.nD → PrngReg), Pre_SsdBcRefIdeal m →
    θ_run (Cert.SsdBcRefIdeal.defs (F := Ideal)) (onTc (τ := Cert.SsdBcRefIdeal.τ) (Cert.SsdBcRefIdeal.main (F := Ideal))) ⟨m, fun _ => 0, g⟩ (fun r => (∀ c : Dev Cert.SsdBcRefIdeal.nD,
      r.2.mem ((c.tc : Thread Cert.SsdBcRefIdeal.nD Cert.SsdBcRefIdeal.τ).loc Cert.SsdBcRefIdeal.main_arg0) = m ((c.tc : Thread Cert.SsdBcRefIdeal.nD Cert.SsdBcRefIdeal.τ).loc Cert.SsdBcRefIdeal.main_arg0)
      ∧ r.2.mem ((c.tc : Thread Cert.SsdBcRefIdeal.nD Cert.SsdBcRefIdeal.τ).loc Cert.SsdBcRefIdeal.main_arg1) = m ((c.tc : Thread Cert.SsdBcRefIdeal.nD Cert.SsdBcRefIdeal.τ).loc Cert.SsdBcRefIdeal.main_arg1)
      ∧ r.2.mem ((c.tc : Thread Cert.SsdBcRefIdeal.nD Cert.SsdBcRefIdeal.τ).loc Cert.SsdBcRefIdeal.main_arg2) = m ((c.tc : Thread Cert.SsdBcRefIdeal.nD Cert.SsdBcRefIdeal.τ).loc Cert.SsdBcRefIdeal.main_arg2)
      ∧ r.2.mem ((c.tc : Thread Cert.SsdBcRefIdeal.nD Cert.SsdBcRefIdeal.τ).loc Cert.SsdBcRefIdeal.main_arg3) = m ((c.tc : Thread Cert.SsdBcRefIdeal.nD Cert.SsdBcRefIdeal.τ).loc Cert.SsdBcRefIdeal.main_arg3))
      ∧ r.2.sem = fun _ => 0)

def quiescent_PleProj [hPleProj : Cert.PleProj.Facts] : Prop :=
  ∀ (m : (ℓ : Loc Cert.PleProj.nD Cert.PleProj.τ Cert.PleProj.sig) → Buf (Elt Bits) ℓ) (g : Dev Cert.PleProj.nD → PrngReg), Pre_PleProj m →
    θ_run (Cert.PleProj.defs (F := Bits)) (onTc (τ := Cert.PleProj.τ) (Cert.PleProj.main (F := Bits))) ⟨m, fun _ => 0, g⟩ (fun r => (∀ c : Dev Cert.PleProj.nD,
      r.2.mem ((c.tc : Thread Cert.PleProj.nD Cert.PleProj.τ).loc Cert.PleProj.main_arg0) = m ((c.tc : Thread Cert.PleProj.nD Cert.PleProj.τ).loc Cert.PleProj.main_arg0)
      ∧ r.2.mem ((c.tc : Thread Cert.PleProj.nD Cert.PleProj.τ).loc Cert.PleProj.main_arg1) = m ((c.tc : Thread Cert.PleProj.nD Cert.PleProj.τ).loc Cert.PleProj.main_arg1)
      ∧ r.2.mem ((c.tc : Thread Cert.PleProj.nD Cert.PleProj.τ).loc Cert.PleProj.main_arg2) = m ((c.tc : Thread Cert.PleProj.nD Cert.PleProj.τ).loc Cert.PleProj.main_arg2))
      ∧ r.2.sem = fun _ => 0)

def quiescent_PleProjIdeal [hPleProjIdeal : Cert.PleProjIdeal.Facts] : Prop :=
  ∀ (m : (ℓ : Loc Cert.PleProjIdeal.nD Cert.PleProjIdeal.τ Cert.PleProjIdeal.sig) → Buf (Elt Ideal) ℓ) (g : Dev Cert.PleProjIdeal.nD → PrngReg), Pre_PleProjIdeal m →
    θ_run (Cert.PleProjIdeal.defs (F := Ideal)) (onTc (τ := Cert.PleProjIdeal.τ) (Cert.PleProjIdeal.main (F := Ideal))) ⟨m, fun _ => 0, g⟩ (fun r => (∀ c : Dev Cert.PleProjIdeal.nD,
      r.2.mem ((c.tc : Thread Cert.PleProjIdeal.nD Cert.PleProjIdeal.τ).loc Cert.PleProjIdeal.main_arg0) = m ((c.tc : Thread Cert.PleProjIdeal.nD Cert.PleProjIdeal.τ).loc Cert.PleProjIdeal.main_arg0)
      ∧ r.2.mem ((c.tc : Thread Cert.PleProjIdeal.nD Cert.PleProjIdeal.τ).loc Cert.PleProjIdeal.main_arg1) = m ((c.tc : Thread Cert.PleProjIdeal.nD Cert.PleProjIdeal.τ).loc Cert.PleProjIdeal.main_arg1)
      ∧ r.2.mem ((c.tc : Thread Cert.PleProjIdeal.nD Cert.PleProjIdeal.τ).loc Cert.PleProjIdeal.main_arg2) = m ((c.tc : Thread Cert.PleProjIdeal.nD Cert.PleProjIdeal.τ).loc Cert.PleProjIdeal.main_arg2))
      ∧ r.2.sem = fun _ => 0)

def quiescent_PleProjRefIdeal [hPleProjRefIdeal : Cert.PleProjRefIdeal.Facts] : Prop :=
  ∀ (m : (ℓ : Loc Cert.PleProjRefIdeal.nD Cert.PleProjRefIdeal.τ Cert.PleProjRefIdeal.sig) → Buf (Elt Ideal) ℓ) (g : Dev Cert.PleProjRefIdeal.nD → PrngReg), Pre_PleProjRefIdeal m →
    θ_run (Cert.PleProjRefIdeal.defs (F := Ideal)) (onTc (τ := Cert.PleProjRefIdeal.τ) (Cert.PleProjRefIdeal.main (F := Ideal))) ⟨m, fun _ => 0, g⟩ (fun r => (∀ c : Dev Cert.PleProjRefIdeal.nD,
      r.2.mem ((c.tc : Thread Cert.PleProjRefIdeal.nD Cert.PleProjRefIdeal.τ).loc Cert.PleProjRefIdeal.main_arg0) = m ((c.tc : Thread Cert.PleProjRefIdeal.nD Cert.PleProjRefIdeal.τ).loc Cert.PleProjRefIdeal.main_arg0)
      ∧ r.2.mem ((c.tc : Thread Cert.PleProjRefIdeal.nD Cert.PleProjRefIdeal.τ).loc Cert.PleProjRefIdeal.main_arg1) = m ((c.tc : Thread Cert.PleProjRefIdeal.nD Cert.PleProjRefIdeal.τ).loc Cert.PleProjRefIdeal.main_arg1)
      ∧ r.2.mem ((c.tc : Thread Cert.PleProjRefIdeal.nD Cert.PleProjRefIdeal.τ).loc Cert.PleProjRefIdeal.main_arg2) = m ((c.tc : Thread Cert.PleProjRefIdeal.nD Cert.PleProjRefIdeal.τ).loc Cert.PleProjRefIdeal.main_arg2))
      ∧ r.2.sem = fun _ => 0)

def quiescent_PleBack [hPleBack : Cert.PleBack.Facts] : Prop :=
  ∀ (m : (ℓ : Loc Cert.PleBack.nD Cert.PleBack.τ Cert.PleBack.sig) → Buf (Elt Bits) ℓ) (g : Dev Cert.PleBack.nD → PrngReg), Pre_PleBack m →
    θ_run (Cert.PleBack.defs (F := Bits)) (onTc (τ := Cert.PleBack.τ) (Cert.PleBack.main (F := Bits))) ⟨m, fun _ => 0, g⟩ (fun r => (∀ c : Dev Cert.PleBack.nD,
      r.2.mem ((c.tc : Thread Cert.PleBack.nD Cert.PleBack.τ).loc Cert.PleBack.main_arg0) = m ((c.tc : Thread Cert.PleBack.nD Cert.PleBack.τ).loc Cert.PleBack.main_arg0)
      ∧ r.2.mem ((c.tc : Thread Cert.PleBack.nD Cert.PleBack.τ).loc Cert.PleBack.main_arg1) = m ((c.tc : Thread Cert.PleBack.nD Cert.PleBack.τ).loc Cert.PleBack.main_arg1)
      ∧ r.2.mem ((c.tc : Thread Cert.PleBack.nD Cert.PleBack.τ).loc Cert.PleBack.main_arg2) = m ((c.tc : Thread Cert.PleBack.nD Cert.PleBack.τ).loc Cert.PleBack.main_arg2))
      ∧ r.2.sem = fun _ => 0)

def quiescent_PleBackIdeal [hPleBackIdeal : Cert.PleBackIdeal.Facts] : Prop :=
  ∀ (m : (ℓ : Loc Cert.PleBackIdeal.nD Cert.PleBackIdeal.τ Cert.PleBackIdeal.sig) → Buf (Elt Ideal) ℓ) (g : Dev Cert.PleBackIdeal.nD → PrngReg), Pre_PleBackIdeal m →
    θ_run (Cert.PleBackIdeal.defs (F := Ideal)) (onTc (τ := Cert.PleBackIdeal.τ) (Cert.PleBackIdeal.main (F := Ideal))) ⟨m, fun _ => 0, g⟩ (fun r => (∀ c : Dev Cert.PleBackIdeal.nD,
      r.2.mem ((c.tc : Thread Cert.PleBackIdeal.nD Cert.PleBackIdeal.τ).loc Cert.PleBackIdeal.main_arg0) = m ((c.tc : Thread Cert.PleBackIdeal.nD Cert.PleBackIdeal.τ).loc Cert.PleBackIdeal.main_arg0)
      ∧ r.2.mem ((c.tc : Thread Cert.PleBackIdeal.nD Cert.PleBackIdeal.τ).loc Cert.PleBackIdeal.main_arg1) = m ((c.tc : Thread Cert.PleBackIdeal.nD Cert.PleBackIdeal.τ).loc Cert.PleBackIdeal.main_arg1)
      ∧ r.2.mem ((c.tc : Thread Cert.PleBackIdeal.nD Cert.PleBackIdeal.τ).loc Cert.PleBackIdeal.main_arg2) = m ((c.tc : Thread Cert.PleBackIdeal.nD Cert.PleBackIdeal.τ).loc Cert.PleBackIdeal.main_arg2))
      ∧ r.2.sem = fun _ => 0)

def quiescent_PleBackRefIdeal [hPleBackRefIdeal : Cert.PleBackRefIdeal.Facts] : Prop :=
  ∀ (m : (ℓ : Loc Cert.PleBackRefIdeal.nD Cert.PleBackRefIdeal.τ Cert.PleBackRefIdeal.sig) → Buf (Elt Ideal) ℓ) (g : Dev Cert.PleBackRefIdeal.nD → PrngReg), Pre_PleBackRefIdeal m →
    θ_run (Cert.PleBackRefIdeal.defs (F := Ideal)) (onTc (τ := Cert.PleBackRefIdeal.τ) (Cert.PleBackRefIdeal.main (F := Ideal))) ⟨m, fun _ => 0, g⟩ (fun r => (∀ c : Dev Cert.PleBackRefIdeal.nD,
      r.2.mem ((c.tc : Thread Cert.PleBackRefIdeal.nD Cert.PleBackRefIdeal.τ).loc Cert.PleBackRefIdeal.main_arg0) = m ((c.tc : Thread Cert.PleBackRefIdeal.nD Cert.PleBackRefIdeal.τ).loc Cert.PleBackRefIdeal.main_arg0)
      ∧ r.2.mem ((c.tc : Thread Cert.PleBackRefIdeal.nD Cert.PleBackRefIdeal.τ).loc Cert.PleBackRefIdeal.main_arg1) = m ((c.tc : Thread Cert.PleBackRefIdeal.nD Cert.PleBackRefIdeal.τ).loc Cert.PleBackRefIdeal.main_arg1)
      ∧ r.2.mem ((c.tc : Thread Cert.PleBackRefIdeal.nD Cert.PleBackRefIdeal.τ).loc Cert.PleBackRefIdeal.main_arg2) = m ((c.tc : Thread Cert.PleBackRefIdeal.nD Cert.PleBackRefIdeal.τ).loc Cert.PleBackRefIdeal.main_arg2))
      ∧ r.2.sem = fun _ => 0)

def quiescent_SbGateBack [hSbGateBack : Cert.SbGateBack.Facts] : Prop :=
  ∀ (m : (ℓ : Loc Cert.SbGateBack.nD Cert.SbGateBack.τ Cert.SbGateBack.sig) → Buf (Elt Bits) ℓ) (g : Dev Cert.SbGateBack.nD → PrngReg), Pre_SbGateBack m →
    θ_run (Cert.SbGateBack.defs (F := Bits)) (onTc (τ := Cert.SbGateBack.τ) (Cert.SbGateBack.main (F := Bits))) ⟨m, fun _ => 0, g⟩ (fun r => (∀ c : Dev Cert.SbGateBack.nD,
      r.2.mem ((c.tc : Thread Cert.SbGateBack.nD Cert.SbGateBack.τ).loc Cert.SbGateBack.main_arg0) = m ((c.tc : Thread Cert.SbGateBack.nD Cert.SbGateBack.τ).loc Cert.SbGateBack.main_arg0)
      ∧ r.2.mem ((c.tc : Thread Cert.SbGateBack.nD Cert.SbGateBack.τ).loc Cert.SbGateBack.main_arg1) = m ((c.tc : Thread Cert.SbGateBack.nD Cert.SbGateBack.τ).loc Cert.SbGateBack.main_arg1)
      ∧ r.2.mem ((c.tc : Thread Cert.SbGateBack.nD Cert.SbGateBack.τ).loc Cert.SbGateBack.main_arg2) = m ((c.tc : Thread Cert.SbGateBack.nD Cert.SbGateBack.τ).loc Cert.SbGateBack.main_arg2))
      ∧ r.2.sem = fun _ => 0)

def quiescent_SbGateBackIdeal [hSbGateBackIdeal : Cert.SbGateBackIdeal.Facts] : Prop :=
  ∀ (m : (ℓ : Loc Cert.SbGateBackIdeal.nD Cert.SbGateBackIdeal.τ Cert.SbGateBackIdeal.sig) → Buf (Elt Ideal) ℓ) (g : Dev Cert.SbGateBackIdeal.nD → PrngReg), Pre_SbGateBackIdeal m →
    θ_run (Cert.SbGateBackIdeal.defs (F := Ideal)) (onTc (τ := Cert.SbGateBackIdeal.τ) (Cert.SbGateBackIdeal.main (F := Ideal))) ⟨m, fun _ => 0, g⟩ (fun r => (∀ c : Dev Cert.SbGateBackIdeal.nD,
      r.2.mem ((c.tc : Thread Cert.SbGateBackIdeal.nD Cert.SbGateBackIdeal.τ).loc Cert.SbGateBackIdeal.main_arg0) = m ((c.tc : Thread Cert.SbGateBackIdeal.nD Cert.SbGateBackIdeal.τ).loc Cert.SbGateBackIdeal.main_arg0)
      ∧ r.2.mem ((c.tc : Thread Cert.SbGateBackIdeal.nD Cert.SbGateBackIdeal.τ).loc Cert.SbGateBackIdeal.main_arg1) = m ((c.tc : Thread Cert.SbGateBackIdeal.nD Cert.SbGateBackIdeal.τ).loc Cert.SbGateBackIdeal.main_arg1)
      ∧ r.2.mem ((c.tc : Thread Cert.SbGateBackIdeal.nD Cert.SbGateBackIdeal.τ).loc Cert.SbGateBackIdeal.main_arg2) = m ((c.tc : Thread Cert.SbGateBackIdeal.nD Cert.SbGateBackIdeal.τ).loc Cert.SbGateBackIdeal.main_arg2))
      ∧ r.2.sem = fun _ => 0)

def quiescent_SbGateBackIdeal_pre_finite_gate [hSbGateBackIdeal : Cert.SbGateBackIdeal.Facts] [hPre_finite_gate : Cert.Pre_finite_gate.Facts] : Prop :=
  ∀ (m : (ℓ : Loc Cert.SbGateBackIdeal.nD Cert.SbGateBackIdeal.τ Cert.SbGateBackIdeal.sig) → Buf (Elt Ideal) ℓ) (g : Dev Cert.SbGateBackIdeal.nD → PrngReg), Pre_SbGateBackIdeal_finite_gate m →
    θ_run (Cert.SbGateBackIdeal.defs (F := Ideal)) (onTc (τ := Cert.SbGateBackIdeal.τ) (Cert.SbGateBackIdeal.main (F := Ideal))) ⟨m, fun _ => 0, g⟩ (fun r => (∀ c : Dev Cert.SbGateBackIdeal.nD,
      r.2.mem ((c.tc : Thread Cert.SbGateBackIdeal.nD Cert.SbGateBackIdeal.τ).loc Cert.SbGateBackIdeal.main_arg0) = m ((c.tc : Thread Cert.SbGateBackIdeal.nD Cert.SbGateBackIdeal.τ).loc Cert.SbGateBackIdeal.main_arg0)
      ∧ r.2.mem ((c.tc : Thread Cert.SbGateBackIdeal.nD Cert.SbGateBackIdeal.τ).loc Cert.SbGateBackIdeal.main_arg1) = m ((c.tc : Thread Cert.SbGateBackIdeal.nD Cert.SbGateBackIdeal.τ).loc Cert.SbGateBackIdeal.main_arg1)
      ∧ r.2.mem ((c.tc : Thread Cert.SbGateBackIdeal.nD Cert.SbGateBackIdeal.τ).loc Cert.SbGateBackIdeal.main_arg2) = m ((c.tc : Thread Cert.SbGateBackIdeal.nD Cert.SbGateBackIdeal.τ).loc Cert.SbGateBackIdeal.main_arg2))
      ∧ r.2.sem = fun _ => 0)

def quiescent_SbGateBackRefIdeal [hSbGateBackRefIdeal : Cert.SbGateBackRefIdeal.Facts] : Prop :=
  ∀ (m : (ℓ : Loc Cert.SbGateBackRefIdeal.nD Cert.SbGateBackRefIdeal.τ Cert.SbGateBackRefIdeal.sig) → Buf (Elt Ideal) ℓ) (g : Dev Cert.SbGateBackRefIdeal.nD → PrngReg), Pre_SbGateBackRefIdeal m →
    θ_run (Cert.SbGateBackRefIdeal.defs (F := Ideal)) (onTc (τ := Cert.SbGateBackRefIdeal.τ) (Cert.SbGateBackRefIdeal.main (F := Ideal))) ⟨m, fun _ => 0, g⟩ (fun r => (∀ c : Dev Cert.SbGateBackRefIdeal.nD,
      r.2.mem ((c.tc : Thread Cert.SbGateBackRefIdeal.nD Cert.SbGateBackRefIdeal.τ).loc Cert.SbGateBackRefIdeal.main_arg0) = m ((c.tc : Thread Cert.SbGateBackRefIdeal.nD Cert.SbGateBackRefIdeal.τ).loc Cert.SbGateBackRefIdeal.main_arg0)
      ∧ r.2.mem ((c.tc : Thread Cert.SbGateBackRefIdeal.nD Cert.SbGateBackRefIdeal.τ).loc Cert.SbGateBackRefIdeal.main_arg1) = m ((c.tc : Thread Cert.SbGateBackRefIdeal.nD Cert.SbGateBackRefIdeal.τ).loc Cert.SbGateBackRefIdeal.main_arg1)
      ∧ r.2.mem ((c.tc : Thread Cert.SbGateBackRefIdeal.nD Cert.SbGateBackRefIdeal.τ).loc Cert.SbGateBackRefIdeal.main_arg2) = m ((c.tc : Thread Cert.SbGateBackRefIdeal.nD Cert.SbGateBackRefIdeal.τ).loc Cert.SbGateBackRefIdeal.main_arg2))
      ∧ r.2.sem = fun _ => 0)

def quiescent_SbGateBackRefIdeal_pre_finite_gate [hSbGateBackRefIdeal : Cert.SbGateBackRefIdeal.Facts] [hPre_finite_gate : Cert.Pre_finite_gate.Facts] : Prop :=
  ∀ (m : (ℓ : Loc Cert.SbGateBackRefIdeal.nD Cert.SbGateBackRefIdeal.τ Cert.SbGateBackRefIdeal.sig) → Buf (Elt Ideal) ℓ) (g : Dev Cert.SbGateBackRefIdeal.nD → PrngReg), Pre_SbGateBackRefIdeal_finite_gate m →
    θ_run (Cert.SbGateBackRefIdeal.defs (F := Ideal)) (onTc (τ := Cert.SbGateBackRefIdeal.τ) (Cert.SbGateBackRefIdeal.main (F := Ideal))) ⟨m, fun _ => 0, g⟩ (fun r => (∀ c : Dev Cert.SbGateBackRefIdeal.nD,
      r.2.mem ((c.tc : Thread Cert.SbGateBackRefIdeal.nD Cert.SbGateBackRefIdeal.τ).loc Cert.SbGateBackRefIdeal.main_arg0) = m ((c.tc : Thread Cert.SbGateBackRefIdeal.nD Cert.SbGateBackRefIdeal.τ).loc Cert.SbGateBackRefIdeal.main_arg0)
      ∧ r.2.mem ((c.tc : Thread Cert.SbGateBackRefIdeal.nD Cert.SbGateBackRefIdeal.τ).loc Cert.SbGateBackRefIdeal.main_arg1) = m ((c.tc : Thread Cert.SbGateBackRefIdeal.nD Cert.SbGateBackRefIdeal.τ).loc Cert.SbGateBackRefIdeal.main_arg1)
      ∧ r.2.mem ((c.tc : Thread Cert.SbGateBackRefIdeal.nD Cert.SbGateBackRefIdeal.τ).loc Cert.SbGateBackRefIdeal.main_arg2) = m ((c.tc : Thread Cert.SbGateBackRefIdeal.nD Cert.SbGateBackRefIdeal.τ).loc Cert.SbGateBackRefIdeal.main_arg2))
      ∧ r.2.sem = fun _ => 0)

def quiescent_SbFwd [hSbFwd : Cert.SbFwd.Facts] : Prop :=
  ∀ (m : (ℓ : Loc Cert.SbFwd.nD Cert.SbFwd.τ Cert.SbFwd.sig) → Buf (Elt Bits) ℓ) (g : Dev Cert.SbFwd.nD → PrngReg), Pre_SbFwd m →
    θ_run (Cert.SbFwd.defs (F := Bits)) (onTc (τ := Cert.SbFwd.τ) (Cert.SbFwd.main (F := Bits))) ⟨m, fun _ => 0, g⟩ (fun r => (∀ c : Dev Cert.SbFwd.nD,
      r.2.mem ((c.tc : Thread Cert.SbFwd.nD Cert.SbFwd.τ).loc Cert.SbFwd.main_arg0) = m ((c.tc : Thread Cert.SbFwd.nD Cert.SbFwd.τ).loc Cert.SbFwd.main_arg0)
      ∧ r.2.mem ((c.tc : Thread Cert.SbFwd.nD Cert.SbFwd.τ).loc Cert.SbFwd.main_arg1) = m ((c.tc : Thread Cert.SbFwd.nD Cert.SbFwd.τ).loc Cert.SbFwd.main_arg1)
      ∧ r.2.mem ((c.tc : Thread Cert.SbFwd.nD Cert.SbFwd.τ).loc Cert.SbFwd.main_arg2) = m ((c.tc : Thread Cert.SbFwd.nD Cert.SbFwd.τ).loc Cert.SbFwd.main_arg2))
      ∧ r.2.sem = fun _ => 0)

def quiescent_SbFwdIdeal [hSbFwdIdeal : Cert.SbFwdIdeal.Facts] : Prop :=
  ∀ (m : (ℓ : Loc Cert.SbFwdIdeal.nD Cert.SbFwdIdeal.τ Cert.SbFwdIdeal.sig) → Buf (Elt Ideal) ℓ) (g : Dev Cert.SbFwdIdeal.nD → PrngReg), Pre_SbFwdIdeal m →
    θ_run (Cert.SbFwdIdeal.defs (F := Ideal)) (onTc (τ := Cert.SbFwdIdeal.τ) (Cert.SbFwdIdeal.main (F := Ideal))) ⟨m, fun _ => 0, g⟩ (fun r => (∀ c : Dev Cert.SbFwdIdeal.nD,
      r.2.mem ((c.tc : Thread Cert.SbFwdIdeal.nD Cert.SbFwdIdeal.τ).loc Cert.SbFwdIdeal.main_arg0) = m ((c.tc : Thread Cert.SbFwdIdeal.nD Cert.SbFwdIdeal.τ).loc Cert.SbFwdIdeal.main_arg0)
      ∧ r.2.mem ((c.tc : Thread Cert.SbFwdIdeal.nD Cert.SbFwdIdeal.τ).loc Cert.SbFwdIdeal.main_arg1) = m ((c.tc : Thread Cert.SbFwdIdeal.nD Cert.SbFwdIdeal.τ).loc Cert.SbFwdIdeal.main_arg1)
      ∧ r.2.mem ((c.tc : Thread Cert.SbFwdIdeal.nD Cert.SbFwdIdeal.τ).loc Cert.SbFwdIdeal.main_arg2) = m ((c.tc : Thread Cert.SbFwdIdeal.nD Cert.SbFwdIdeal.τ).loc Cert.SbFwdIdeal.main_arg2))
      ∧ r.2.sem = fun _ => 0)

def quiescent_SbFwdIdeal_pre_finite_logits [hSbFwdIdeal : Cert.SbFwdIdeal.Facts] [hPre_finite_logits : Cert.Pre_finite_logits.Facts] : Prop :=
  ∀ (m : (ℓ : Loc Cert.SbFwdIdeal.nD Cert.SbFwdIdeal.τ Cert.SbFwdIdeal.sig) → Buf (Elt Ideal) ℓ) (g : Dev Cert.SbFwdIdeal.nD → PrngReg), Pre_SbFwdIdeal_finite_logits m →
    θ_run (Cert.SbFwdIdeal.defs (F := Ideal)) (onTc (τ := Cert.SbFwdIdeal.τ) (Cert.SbFwdIdeal.main (F := Ideal))) ⟨m, fun _ => 0, g⟩ (fun r => (∀ c : Dev Cert.SbFwdIdeal.nD,
      r.2.mem ((c.tc : Thread Cert.SbFwdIdeal.nD Cert.SbFwdIdeal.τ).loc Cert.SbFwdIdeal.main_arg0) = m ((c.tc : Thread Cert.SbFwdIdeal.nD Cert.SbFwdIdeal.τ).loc Cert.SbFwdIdeal.main_arg0)
      ∧ r.2.mem ((c.tc : Thread Cert.SbFwdIdeal.nD Cert.SbFwdIdeal.τ).loc Cert.SbFwdIdeal.main_arg1) = m ((c.tc : Thread Cert.SbFwdIdeal.nD Cert.SbFwdIdeal.τ).loc Cert.SbFwdIdeal.main_arg1)
      ∧ r.2.mem ((c.tc : Thread Cert.SbFwdIdeal.nD Cert.SbFwdIdeal.τ).loc Cert.SbFwdIdeal.main_arg2) = m ((c.tc : Thread Cert.SbFwdIdeal.nD Cert.SbFwdIdeal.τ).loc Cert.SbFwdIdeal.main_arg2))
      ∧ r.2.sem = fun _ => 0)

def quiescent_SbFwdRefIdeal [hSbFwdRefIdeal : Cert.SbFwdRefIdeal.Facts] : Prop :=
  ∀ (m : (ℓ : Loc Cert.SbFwdRefIdeal.nD Cert.SbFwdRefIdeal.τ Cert.SbFwdRefIdeal.sig) → Buf (Elt Ideal) ℓ) (g : Dev Cert.SbFwdRefIdeal.nD → PrngReg), Pre_SbFwdRefIdeal m →
    θ_run (Cert.SbFwdRefIdeal.defs (F := Ideal)) (onTc (τ := Cert.SbFwdRefIdeal.τ) (Cert.SbFwdRefIdeal.main (F := Ideal))) ⟨m, fun _ => 0, g⟩ (fun r => (∀ c : Dev Cert.SbFwdRefIdeal.nD,
      r.2.mem ((c.tc : Thread Cert.SbFwdRefIdeal.nD Cert.SbFwdRefIdeal.τ).loc Cert.SbFwdRefIdeal.main_arg0) = m ((c.tc : Thread Cert.SbFwdRefIdeal.nD Cert.SbFwdRefIdeal.τ).loc Cert.SbFwdRefIdeal.main_arg0)
      ∧ r.2.mem ((c.tc : Thread Cert.SbFwdRefIdeal.nD Cert.SbFwdRefIdeal.τ).loc Cert.SbFwdRefIdeal.main_arg1) = m ((c.tc : Thread Cert.SbFwdRefIdeal.nD Cert.SbFwdRefIdeal.τ).loc Cert.SbFwdRefIdeal.main_arg1)
      ∧ r.2.mem ((c.tc : Thread Cert.SbFwdRefIdeal.nD Cert.SbFwdRefIdeal.τ).loc Cert.SbFwdRefIdeal.main_arg2) = m ((c.tc : Thread Cert.SbFwdRefIdeal.nD Cert.SbFwdRefIdeal.τ).loc Cert.SbFwdRefIdeal.main_arg2))
      ∧ r.2.sem = fun _ => 0)

def quiescent_SbFwdRefIdeal_pre_finite_logits [hSbFwdRefIdeal : Cert.SbFwdRefIdeal.Facts] [hPre_finite_logits : Cert.Pre_finite_logits.Facts] : Prop :=
  ∀ (m : (ℓ : Loc Cert.SbFwdRefIdeal.nD Cert.SbFwdRefIdeal.τ Cert.SbFwdRefIdeal.sig) → Buf (Elt Ideal) ℓ) (g : Dev Cert.SbFwdRefIdeal.nD → PrngReg), Pre_SbFwdRefIdeal_finite_logits m →
    θ_run (Cert.SbFwdRefIdeal.defs (F := Ideal)) (onTc (τ := Cert.SbFwdRefIdeal.τ) (Cert.SbFwdRefIdeal.main (F := Ideal))) ⟨m, fun _ => 0, g⟩ (fun r => (∀ c : Dev Cert.SbFwdRefIdeal.nD,
      r.2.mem ((c.tc : Thread Cert.SbFwdRefIdeal.nD Cert.SbFwdRefIdeal.τ).loc Cert.SbFwdRefIdeal.main_arg0) = m ((c.tc : Thread Cert.SbFwdRefIdeal.nD Cert.SbFwdRefIdeal.τ).loc Cert.SbFwdRefIdeal.main_arg0)
      ∧ r.2.mem ((c.tc : Thread Cert.SbFwdRefIdeal.nD Cert.SbFwdRefIdeal.τ).loc Cert.SbFwdRefIdeal.main_arg1) = m ((c.tc : Thread Cert.SbFwdRefIdeal.nD Cert.SbFwdRefIdeal.τ).loc Cert.SbFwdRefIdeal.main_arg1)
      ∧ r.2.mem ((c.tc : Thread Cert.SbFwdRefIdeal.nD Cert.SbFwdRefIdeal.τ).loc Cert.SbFwdRefIdeal.main_arg2) = m ((c.tc : Thread Cert.SbFwdRefIdeal.nD Cert.SbFwdRefIdeal.τ).loc Cert.SbFwdRefIdeal.main_arg2))
      ∧ r.2.sem = fun _ => 0)

def quiescent_SsdDt [hSsdDt : Cert.SsdDt.Facts] : Prop :=
  ∀ (m : (ℓ : Loc Cert.SsdDt.nD Cert.SsdDt.τ Cert.SsdDt.sig) → Buf (Elt Bits) ℓ) (g : Dev Cert.SsdDt.nD → PrngReg), Pre_SsdDt m →
    θ_run (Cert.SsdDt.defs (F := Bits)) (onTc (τ := Cert.SsdDt.τ) (Cert.SsdDt.main (F := Bits))) ⟨m, fun _ => 0, g⟩ (fun r => (∀ c : Dev Cert.SsdDt.nD,
      r.2.mem ((c.tc : Thread Cert.SsdDt.nD Cert.SsdDt.τ).loc Cert.SsdDt.main_arg0) = m ((c.tc : Thread Cert.SsdDt.nD Cert.SsdDt.τ).loc Cert.SsdDt.main_arg0)
      ∧ r.2.mem ((c.tc : Thread Cert.SsdDt.nD Cert.SsdDt.τ).loc Cert.SsdDt.main_arg1) = m ((c.tc : Thread Cert.SsdDt.nD Cert.SsdDt.τ).loc Cert.SsdDt.main_arg1)
      ∧ r.2.mem ((c.tc : Thread Cert.SsdDt.nD Cert.SsdDt.τ).loc Cert.SsdDt.main_arg2) = m ((c.tc : Thread Cert.SsdDt.nD Cert.SsdDt.τ).loc Cert.SsdDt.main_arg2)
      ∧ r.2.mem ((c.tc : Thread Cert.SsdDt.nD Cert.SsdDt.τ).loc Cert.SsdDt.main_arg3) = m ((c.tc : Thread Cert.SsdDt.nD Cert.SsdDt.τ).loc Cert.SsdDt.main_arg3))
      ∧ r.2.sem = fun _ => 0)

def quiescent_SsdDtIdeal [hSsdDtIdeal : Cert.SsdDtIdeal.Facts] : Prop :=
  ∀ (m : (ℓ : Loc Cert.SsdDtIdeal.nD Cert.SsdDtIdeal.τ Cert.SsdDtIdeal.sig) → Buf (Elt Ideal) ℓ) (g : Dev Cert.SsdDtIdeal.nD → PrngReg), Pre_SsdDtIdeal m →
    θ_run (Cert.SsdDtIdeal.defs (F := Ideal)) (onTc (τ := Cert.SsdDtIdeal.τ) (Cert.SsdDtIdeal.main (F := Ideal))) ⟨m, fun _ => 0, g⟩ (fun r => (∀ c : Dev Cert.SsdDtIdeal.nD,
      r.2.mem ((c.tc : Thread Cert.SsdDtIdeal.nD Cert.SsdDtIdeal.τ).loc Cert.SsdDtIdeal.main_arg0) = m ((c.tc : Thread Cert.SsdDtIdeal.nD Cert.SsdDtIdeal.τ).loc Cert.SsdDtIdeal.main_arg0)
      ∧ r.2.mem ((c.tc : Thread Cert.SsdDtIdeal.nD Cert.SsdDtIdeal.τ).loc Cert.SsdDtIdeal.main_arg1) = m ((c.tc : Thread Cert.SsdDtIdeal.nD Cert.SsdDtIdeal.τ).loc Cert.SsdDtIdeal.main_arg1)
      ∧ r.2.mem ((c.tc : Thread Cert.SsdDtIdeal.nD Cert.SsdDtIdeal.τ).loc Cert.SsdDtIdeal.main_arg2) = m ((c.tc : Thread Cert.SsdDtIdeal.nD Cert.SsdDtIdeal.τ).loc Cert.SsdDtIdeal.main_arg2)
      ∧ r.2.mem ((c.tc : Thread Cert.SsdDtIdeal.nD Cert.SsdDtIdeal.τ).loc Cert.SsdDtIdeal.main_arg3) = m ((c.tc : Thread Cert.SsdDtIdeal.nD Cert.SsdDtIdeal.τ).loc Cert.SsdDtIdeal.main_arg3))
      ∧ r.2.sem = fun _ => 0)

def quiescent_SsdDtRefIdeal [hSsdDtRefIdeal : Cert.SsdDtRefIdeal.Facts] : Prop :=
  ∀ (m : (ℓ : Loc Cert.SsdDtRefIdeal.nD Cert.SsdDtRefIdeal.τ Cert.SsdDtRefIdeal.sig) → Buf (Elt Ideal) ℓ) (g : Dev Cert.SsdDtRefIdeal.nD → PrngReg), Pre_SsdDtRefIdeal m →
    θ_run (Cert.SsdDtRefIdeal.defs (F := Ideal)) (onTc (τ := Cert.SsdDtRefIdeal.τ) (Cert.SsdDtRefIdeal.main (F := Ideal))) ⟨m, fun _ => 0, g⟩ (fun r => (∀ c : Dev Cert.SsdDtRefIdeal.nD,
      r.2.mem ((c.tc : Thread Cert.SsdDtRefIdeal.nD Cert.SsdDtRefIdeal.τ).loc Cert.SsdDtRefIdeal.main_arg0) = m ((c.tc : Thread Cert.SsdDtRefIdeal.nD Cert.SsdDtRefIdeal.τ).loc Cert.SsdDtRefIdeal.main_arg0)
      ∧ r.2.mem ((c.tc : Thread Cert.SsdDtRefIdeal.nD Cert.SsdDtRefIdeal.τ).loc Cert.SsdDtRefIdeal.main_arg1) = m ((c.tc : Thread Cert.SsdDtRefIdeal.nD Cert.SsdDtRefIdeal.τ).loc Cert.SsdDtRefIdeal.main_arg1)
      ∧ r.2.mem ((c.tc : Thread Cert.SsdDtRefIdeal.nD Cert.SsdDtRefIdeal.τ).loc Cert.SsdDtRefIdeal.main_arg2) = m ((c.tc : Thread Cert.SsdDtRefIdeal.nD Cert.SsdDtRefIdeal.τ).loc Cert.SsdDtRefIdeal.main_arg2)
      ∧ r.2.mem ((c.tc : Thread Cert.SsdDtRefIdeal.nD Cert.SsdDtRefIdeal.τ).loc Cert.SsdDtRefIdeal.main_arg3) = m ((c.tc : Thread Cert.SsdDtRefIdeal.nD Cert.SsdDtRefIdeal.τ).loc Cert.SsdDtRefIdeal.main_arg3))
      ∧ r.2.sem = fun _ => 0)

def quiescent_PleFwd [hPleFwd : Cert.PleFwd.Facts] : Prop :=
  ∀ (m : (ℓ : Loc Cert.PleFwd.nD Cert.PleFwd.τ Cert.PleFwd.sig) → Buf (Elt Bits) ℓ) (g : Dev Cert.PleFwd.nD → PrngReg), Pre_PleFwd m →
    θ_run (Cert.PleFwd.defs (F := Bits)) (onTc (τ := Cert.PleFwd.τ) (Cert.PleFwd.main (F := Bits))) ⟨m, fun _ => 0, g⟩ (fun r => (∀ c : Dev Cert.PleFwd.nD,
      r.2.mem ((c.tc : Thread Cert.PleFwd.nD Cert.PleFwd.τ).loc Cert.PleFwd.main_arg0) = m ((c.tc : Thread Cert.PleFwd.nD Cert.PleFwd.τ).loc Cert.PleFwd.main_arg0)
      ∧ r.2.mem ((c.tc : Thread Cert.PleFwd.nD Cert.PleFwd.τ).loc Cert.PleFwd.main_arg1) = m ((c.tc : Thread Cert.PleFwd.nD Cert.PleFwd.τ).loc Cert.PleFwd.main_arg1)
      ∧ r.2.mem ((c.tc : Thread Cert.PleFwd.nD Cert.PleFwd.τ).loc Cert.PleFwd.main_arg2) = m ((c.tc : Thread Cert.PleFwd.nD Cert.PleFwd.τ).loc Cert.PleFwd.main_arg2))
      ∧ r.2.sem = fun _ => 0)

def quiescent_PleFwdIdeal [hPleFwdIdeal : Cert.PleFwdIdeal.Facts] : Prop :=
  ∀ (m : (ℓ : Loc Cert.PleFwdIdeal.nD Cert.PleFwdIdeal.τ Cert.PleFwdIdeal.sig) → Buf (Elt Ideal) ℓ) (g : Dev Cert.PleFwdIdeal.nD → PrngReg), Pre_PleFwdIdeal m →
    θ_run (Cert.PleFwdIdeal.defs (F := Ideal)) (onTc (τ := Cert.PleFwdIdeal.τ) (Cert.PleFwdIdeal.main (F := Ideal))) ⟨m, fun _ => 0, g⟩ (fun r => (∀ c : Dev Cert.PleFwdIdeal.nD,
      r.2.mem ((c.tc : Thread Cert.PleFwdIdeal.nD Cert.PleFwdIdeal.τ).loc Cert.PleFwdIdeal.main_arg0) = m ((c.tc : Thread Cert.PleFwdIdeal.nD Cert.PleFwdIdeal.τ).loc Cert.PleFwdIdeal.main_arg0)
      ∧ r.2.mem ((c.tc : Thread Cert.PleFwdIdeal.nD Cert.PleFwdIdeal.τ).loc Cert.PleFwdIdeal.main_arg1) = m ((c.tc : Thread Cert.PleFwdIdeal.nD Cert.PleFwdIdeal.τ).loc Cert.PleFwdIdeal.main_arg1)
      ∧ r.2.mem ((c.tc : Thread Cert.PleFwdIdeal.nD Cert.PleFwdIdeal.τ).loc Cert.PleFwdIdeal.main_arg2) = m ((c.tc : Thread Cert.PleFwdIdeal.nD Cert.PleFwdIdeal.τ).loc Cert.PleFwdIdeal.main_arg2))
      ∧ r.2.sem = fun _ => 0)

def quiescent_PleFwdRefIdeal [hPleFwdRefIdeal : Cert.PleFwdRefIdeal.Facts] : Prop :=
  ∀ (m : (ℓ : Loc Cert.PleFwdRefIdeal.nD Cert.PleFwdRefIdeal.τ Cert.PleFwdRefIdeal.sig) → Buf (Elt Ideal) ℓ) (g : Dev Cert.PleFwdRefIdeal.nD → PrngReg), Pre_PleFwdRefIdeal m →
    θ_run (Cert.PleFwdRefIdeal.defs (F := Ideal)) (onTc (τ := Cert.PleFwdRefIdeal.τ) (Cert.PleFwdRefIdeal.main (F := Ideal))) ⟨m, fun _ => 0, g⟩ (fun r => (∀ c : Dev Cert.PleFwdRefIdeal.nD,
      r.2.mem ((c.tc : Thread Cert.PleFwdRefIdeal.nD Cert.PleFwdRefIdeal.τ).loc Cert.PleFwdRefIdeal.main_arg0) = m ((c.tc : Thread Cert.PleFwdRefIdeal.nD Cert.PleFwdRefIdeal.τ).loc Cert.PleFwdRefIdeal.main_arg0)
      ∧ r.2.mem ((c.tc : Thread Cert.PleFwdRefIdeal.nD Cert.PleFwdRefIdeal.τ).loc Cert.PleFwdRefIdeal.main_arg1) = m ((c.tc : Thread Cert.PleFwdRefIdeal.nD Cert.PleFwdRefIdeal.τ).loc Cert.PleFwdRefIdeal.main_arg1)
      ∧ r.2.mem ((c.tc : Thread Cert.PleFwdRefIdeal.nD Cert.PleFwdRefIdeal.τ).loc Cert.PleFwdRefIdeal.main_arg2) = m ((c.tc : Thread Cert.PleFwdRefIdeal.nD Cert.PleFwdRefIdeal.τ).loc Cert.PleFwdRefIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_DtFwd [hDtFwd : Cert.DtFwd.Facts] : Prop :=
  ∀ (m : (ℓ : Loc Cert.DtFwd.nD Cert.DtFwd.τ Cert.DtFwd.sig) → Buf (Elt Bits) ℓ) (g : Dev Cert.DtFwd.nD → PrngReg), Pre_DtFwd m →
    θ_run (Cert.DtFwd.defs (F := Bits)) (onTc (τ := Cert.DtFwd.τ) (Cert.DtFwd.main (F := Bits))) ⟨m, fun _ => 0, g⟩ (fun r => (∀ c : Dev Cert.DtFwd.nD,
      r.2.mem ((c.tc : Thread Cert.DtFwd.nD Cert.DtFwd.τ).loc Cert.DtFwd.main_arg0) = m ((c.tc : Thread Cert.DtFwd.nD Cert.DtFwd.τ).loc Cert.DtFwd.main_arg0)
      ∧ r.2.mem ((c.tc : Thread Cert.DtFwd.nD Cert.DtFwd.τ).loc Cert.DtFwd.main_arg1) = m ((c.tc : Thread Cert.DtFwd.nD Cert.DtFwd.τ).loc Cert.DtFwd.main_arg1)
      ∧ r.2.mem ((c.tc : Thread Cert.DtFwd.nD Cert.DtFwd.τ).loc Cert.DtFwd.main_arg2) = m ((c.tc : Thread Cert.DtFwd.nD Cert.DtFwd.τ).loc Cert.DtFwd.main_arg2))
      ∧ r.2.sem = fun _ => 0)

def quiescent_DtFwdIdeal [hDtFwdIdeal : Cert.DtFwdIdeal.Facts] : Prop :=
  ∀ (m : (ℓ : Loc Cert.DtFwdIdeal.nD Cert.DtFwdIdeal.τ Cert.DtFwdIdeal.sig) → Buf (Elt Ideal) ℓ) (g : Dev Cert.DtFwdIdeal.nD → PrngReg), Pre_DtFwdIdeal m →
    θ_run (Cert.DtFwdIdeal.defs (F := Ideal)) (onTc (τ := Cert.DtFwdIdeal.τ) (Cert.DtFwdIdeal.main (F := Ideal))) ⟨m, fun _ => 0, g⟩ (fun r => (∀ c : Dev Cert.DtFwdIdeal.nD,
      r.2.mem ((c.tc : Thread Cert.DtFwdIdeal.nD Cert.DtFwdIdeal.τ).loc Cert.DtFwdIdeal.main_arg0) = m ((c.tc : Thread Cert.DtFwdIdeal.nD Cert.DtFwdIdeal.τ).loc Cert.DtFwdIdeal.main_arg0)
      ∧ r.2.mem ((c.tc : Thread Cert.DtFwdIdeal.nD Cert.DtFwdIdeal.τ).loc Cert.DtFwdIdeal.main_arg1) = m ((c.tc : Thread Cert.DtFwdIdeal.nD Cert.DtFwdIdeal.τ).loc Cert.DtFwdIdeal.main_arg1)
      ∧ r.2.mem ((c.tc : Thread Cert.DtFwdIdeal.nD Cert.DtFwdIdeal.τ).loc Cert.DtFwdIdeal.main_arg2) = m ((c.tc : Thread Cert.DtFwdIdeal.nD Cert.DtFwdIdeal.τ).loc Cert.DtFwdIdeal.main_arg2))
      ∧ r.2.sem = fun _ => 0)

def quiescent_DtFwdRefIdeal [hDtFwdRefIdeal : Cert.DtFwdRefIdeal.Facts] : Prop :=
  ∀ (m : (ℓ : Loc Cert.DtFwdRefIdeal.nD Cert.DtFwdRefIdeal.τ Cert.DtFwdRefIdeal.sig) → Buf (Elt Ideal) ℓ) (g : Dev Cert.DtFwdRefIdeal.nD → PrngReg), Pre_DtFwdRefIdeal m →
    θ_run (Cert.DtFwdRefIdeal.defs (F := Ideal)) (onTc (τ := Cert.DtFwdRefIdeal.τ) (Cert.DtFwdRefIdeal.main (F := Ideal))) ⟨m, fun _ => 0, g⟩ (fun r => (∀ c : Dev Cert.DtFwdRefIdeal.nD,
      r.2.mem ((c.tc : Thread Cert.DtFwdRefIdeal.nD Cert.DtFwdRefIdeal.τ).loc Cert.DtFwdRefIdeal.main_arg0) = m ((c.tc : Thread Cert.DtFwdRefIdeal.nD Cert.DtFwdRefIdeal.τ).loc Cert.DtFwdRefIdeal.main_arg0)
      ∧ r.2.mem ((c.tc : Thread Cert.DtFwdRefIdeal.nD Cert.DtFwdRefIdeal.τ).loc Cert.DtFwdRefIdeal.main_arg1) = m ((c.tc : Thread Cert.DtFwdRefIdeal.nD Cert.DtFwdRefIdeal.τ).loc Cert.DtFwdRefIdeal.main_arg1)
      ∧ r.2.mem ((c.tc : Thread Cert.DtFwdRefIdeal.nD Cert.DtFwdRefIdeal.τ).loc Cert.DtFwdRefIdeal.main_arg2) = m ((c.tc : Thread Cert.DtFwdRefIdeal.nD Cert.DtFwdRefIdeal.τ).loc Cert.DtFwdRefIdeal.main_arg2))
      ∧ r.2.sem = fun _ => 0)

def quiescent_NormBack [hNormBack : Cert.NormBack.Facts] : Prop :=
  ∀ (m : (ℓ : Loc Cert.NormBack.nD Cert.NormBack.τ Cert.NormBack.sig) → Buf (Elt Bits) ℓ) (g : Dev Cert.NormBack.nD → PrngReg), Pre_NormBack m →
    θ_run (Cert.NormBack.defs (F := Bits)) (onTc (τ := Cert.NormBack.τ) (Cert.NormBack.main (F := Bits))) ⟨m, fun _ => 0, g⟩ (fun r => (∀ c : Dev Cert.NormBack.nD,
      r.2.mem ((c.tc : Thread Cert.NormBack.nD Cert.NormBack.τ).loc Cert.NormBack.main_arg0) = m ((c.tc : Thread Cert.NormBack.nD Cert.NormBack.τ).loc Cert.NormBack.main_arg0)
      ∧ r.2.mem ((c.tc : Thread Cert.NormBack.nD Cert.NormBack.τ).loc Cert.NormBack.main_arg1) = m ((c.tc : Thread Cert.NormBack.nD Cert.NormBack.τ).loc Cert.NormBack.main_arg1)
      ∧ r.2.mem ((c.tc : Thread Cert.NormBack.nD Cert.NormBack.τ).loc Cert.NormBack.main_arg2) = m ((c.tc : Thread Cert.NormBack.nD Cert.NormBack.τ).loc Cert.NormBack.main_arg2)
      ∧ r.2.mem ((c.tc : Thread Cert.NormBack.nD Cert.NormBack.τ).loc Cert.NormBack.main_arg3) = m ((c.tc : Thread Cert.NormBack.nD Cert.NormBack.τ).loc Cert.NormBack.main_arg3))
      ∧ r.2.sem = fun _ => 0)

def quiescent_NormBackIdeal [hNormBackIdeal : Cert.NormBackIdeal.Facts] : Prop :=
  ∀ (m : (ℓ : Loc Cert.NormBackIdeal.nD Cert.NormBackIdeal.τ Cert.NormBackIdeal.sig) → Buf (Elt Ideal) ℓ) (g : Dev Cert.NormBackIdeal.nD → PrngReg), Pre_NormBackIdeal m →
    θ_run (Cert.NormBackIdeal.defs (F := Ideal)) (onTc (τ := Cert.NormBackIdeal.τ) (Cert.NormBackIdeal.main (F := Ideal))) ⟨m, fun _ => 0, g⟩ (fun r => (∀ c : Dev Cert.NormBackIdeal.nD,
      r.2.mem ((c.tc : Thread Cert.NormBackIdeal.nD Cert.NormBackIdeal.τ).loc Cert.NormBackIdeal.main_arg0) = m ((c.tc : Thread Cert.NormBackIdeal.nD Cert.NormBackIdeal.τ).loc Cert.NormBackIdeal.main_arg0)
      ∧ r.2.mem ((c.tc : Thread Cert.NormBackIdeal.nD Cert.NormBackIdeal.τ).loc Cert.NormBackIdeal.main_arg1) = m ((c.tc : Thread Cert.NormBackIdeal.nD Cert.NormBackIdeal.τ).loc Cert.NormBackIdeal.main_arg1)
      ∧ r.2.mem ((c.tc : Thread Cert.NormBackIdeal.nD Cert.NormBackIdeal.τ).loc Cert.NormBackIdeal.main_arg2) = m ((c.tc : Thread Cert.NormBackIdeal.nD Cert.NormBackIdeal.τ).loc Cert.NormBackIdeal.main_arg2)
      ∧ r.2.mem ((c.tc : Thread Cert.NormBackIdeal.nD Cert.NormBackIdeal.τ).loc Cert.NormBackIdeal.main_arg3) = m ((c.tc : Thread Cert.NormBackIdeal.nD Cert.NormBackIdeal.τ).loc Cert.NormBackIdeal.main_arg3))
      ∧ r.2.sem = fun _ => 0)

def quiescent_NormBackRefIdeal [hNormBackRefIdeal : Cert.NormBackRefIdeal.Facts] : Prop :=
  ∀ (m : (ℓ : Loc Cert.NormBackRefIdeal.nD Cert.NormBackRefIdeal.τ Cert.NormBackRefIdeal.sig) → Buf (Elt Ideal) ℓ) (g : Dev Cert.NormBackRefIdeal.nD → PrngReg), Pre_NormBackRefIdeal m →
    θ_run (Cert.NormBackRefIdeal.defs (F := Ideal)) (onTc (τ := Cert.NormBackRefIdeal.τ) (Cert.NormBackRefIdeal.main (F := Ideal))) ⟨m, fun _ => 0, g⟩ (fun r => (∀ c : Dev Cert.NormBackRefIdeal.nD,
      r.2.mem ((c.tc : Thread Cert.NormBackRefIdeal.nD Cert.NormBackRefIdeal.τ).loc Cert.NormBackRefIdeal.main_arg0) = m ((c.tc : Thread Cert.NormBackRefIdeal.nD Cert.NormBackRefIdeal.τ).loc Cert.NormBackRefIdeal.main_arg0)
      ∧ r.2.mem ((c.tc : Thread Cert.NormBackRefIdeal.nD Cert.NormBackRefIdeal.τ).loc Cert.NormBackRefIdeal.main_arg1) = m ((c.tc : Thread Cert.NormBackRefIdeal.nD Cert.NormBackRefIdeal.τ).loc Cert.NormBackRefIdeal.main_arg1)
      ∧ r.2.mem ((c.tc : Thread Cert.NormBackRefIdeal.nD Cert.NormBackRefIdeal.τ).loc Cert.NormBackRefIdeal.main_arg2) = m ((c.tc : Thread Cert.NormBackRefIdeal.nD Cert.NormBackRefIdeal.τ).loc Cert.NormBackRefIdeal.main_arg2)
      ∧ r.2.mem ((c.tc : Thread Cert.NormBackRefIdeal.nD Cert.NormBackRefIdeal.τ).loc Cert.NormBackRefIdeal.main_arg3) = m ((c.tc : Thread Cert.NormBackRefIdeal.nD Cert.NormBackRefIdeal.τ).loc Cert.NormBackRefIdeal.main_arg3))
      ∧ r.2.sem = fun _ => 0)

def quiescent_DtBack [hDtBack : Cert.DtBack.Facts] : Prop :=
  ∀ (m : (ℓ : Loc Cert.DtBack.nD Cert.DtBack.τ Cert.DtBack.sig) → Buf (Elt Bits) ℓ) (g : Dev Cert.DtBack.nD → PrngReg), Pre_DtBack m →
    θ_run (Cert.DtBack.defs (F := Bits)) (onTc (τ := Cert.DtBack.τ) (Cert.DtBack.main (F := Bits))) ⟨m, fun _ => 0, g⟩ (fun r => (∀ c : Dev Cert.DtBack.nD,
      r.2.mem ((c.tc : Thread Cert.DtBack.nD Cert.DtBack.τ).loc Cert.DtBack.main_arg0) = m ((c.tc : Thread Cert.DtBack.nD Cert.DtBack.τ).loc Cert.DtBack.main_arg0)
      ∧ r.2.mem ((c.tc : Thread Cert.DtBack.nD Cert.DtBack.τ).loc Cert.DtBack.main_arg1) = m ((c.tc : Thread Cert.DtBack.nD Cert.DtBack.τ).loc Cert.DtBack.main_arg1)
      ∧ r.2.mem ((c.tc : Thread Cert.DtBack.nD Cert.DtBack.τ).loc Cert.DtBack.main_arg2) = m ((c.tc : Thread Cert.DtBack.nD Cert.DtBack.τ).loc Cert.DtBack.main_arg2)
      ∧ r.2.mem ((c.tc : Thread Cert.DtBack.nD Cert.DtBack.τ).loc Cert.DtBack.main_arg3) = m ((c.tc : Thread Cert.DtBack.nD Cert.DtBack.τ).loc Cert.DtBack.main_arg3)
      ∧ r.2.mem ((c.tc : Thread Cert.DtBack.nD Cert.DtBack.τ).loc Cert.DtBack.main_arg4) = m ((c.tc : Thread Cert.DtBack.nD Cert.DtBack.τ).loc Cert.DtBack.main_arg4))
      ∧ r.2.sem = fun _ => 0)

def quiescent_DtBackIdeal [hDtBackIdeal : Cert.DtBackIdeal.Facts] : Prop :=
  ∀ (m : (ℓ : Loc Cert.DtBackIdeal.nD Cert.DtBackIdeal.τ Cert.DtBackIdeal.sig) → Buf (Elt Ideal) ℓ) (g : Dev Cert.DtBackIdeal.nD → PrngReg), Pre_DtBackIdeal m →
    θ_run (Cert.DtBackIdeal.defs (F := Ideal)) (onTc (τ := Cert.DtBackIdeal.τ) (Cert.DtBackIdeal.main (F := Ideal))) ⟨m, fun _ => 0, g⟩ (fun r => (∀ c : Dev Cert.DtBackIdeal.nD,
      r.2.mem ((c.tc : Thread Cert.DtBackIdeal.nD Cert.DtBackIdeal.τ).loc Cert.DtBackIdeal.main_arg0) = m ((c.tc : Thread Cert.DtBackIdeal.nD Cert.DtBackIdeal.τ).loc Cert.DtBackIdeal.main_arg0)
      ∧ r.2.mem ((c.tc : Thread Cert.DtBackIdeal.nD Cert.DtBackIdeal.τ).loc Cert.DtBackIdeal.main_arg1) = m ((c.tc : Thread Cert.DtBackIdeal.nD Cert.DtBackIdeal.τ).loc Cert.DtBackIdeal.main_arg1)
      ∧ r.2.mem ((c.tc : Thread Cert.DtBackIdeal.nD Cert.DtBackIdeal.τ).loc Cert.DtBackIdeal.main_arg2) = m ((c.tc : Thread Cert.DtBackIdeal.nD Cert.DtBackIdeal.τ).loc Cert.DtBackIdeal.main_arg2)
      ∧ r.2.mem ((c.tc : Thread Cert.DtBackIdeal.nD Cert.DtBackIdeal.τ).loc Cert.DtBackIdeal.main_arg3) = m ((c.tc : Thread Cert.DtBackIdeal.nD Cert.DtBackIdeal.τ).loc Cert.DtBackIdeal.main_arg3)
      ∧ r.2.mem ((c.tc : Thread Cert.DtBackIdeal.nD Cert.DtBackIdeal.τ).loc Cert.DtBackIdeal.main_arg4) = m ((c.tc : Thread Cert.DtBackIdeal.nD Cert.DtBackIdeal.τ).loc Cert.DtBackIdeal.main_arg4))
      ∧ r.2.sem = fun _ => 0)

def quiescent_DtBackRefIdeal [hDtBackRefIdeal : Cert.DtBackRefIdeal.Facts] : Prop :=
  ∀ (m : (ℓ : Loc Cert.DtBackRefIdeal.nD Cert.DtBackRefIdeal.τ Cert.DtBackRefIdeal.sig) → Buf (Elt Ideal) ℓ) (g : Dev Cert.DtBackRefIdeal.nD → PrngReg), Pre_DtBackRefIdeal m →
    θ_run (Cert.DtBackRefIdeal.defs (F := Ideal)) (onTc (τ := Cert.DtBackRefIdeal.τ) (Cert.DtBackRefIdeal.main (F := Ideal))) ⟨m, fun _ => 0, g⟩ (fun r => (∀ c : Dev Cert.DtBackRefIdeal.nD,
      r.2.mem ((c.tc : Thread Cert.DtBackRefIdeal.nD Cert.DtBackRefIdeal.τ).loc Cert.DtBackRefIdeal.main_arg0) = m ((c.tc : Thread Cert.DtBackRefIdeal.nD Cert.DtBackRefIdeal.τ).loc Cert.DtBackRefIdeal.main_arg0)
      ∧ r.2.mem ((c.tc : Thread Cert.DtBackRefIdeal.nD Cert.DtBackRefIdeal.τ).loc Cert.DtBackRefIdeal.main_arg1) = m ((c.tc : Thread Cert.DtBackRefIdeal.nD Cert.DtBackRefIdeal.τ).loc Cert.DtBackRefIdeal.main_arg1)
      ∧ r.2.mem ((c.tc : Thread Cert.DtBackRefIdeal.nD Cert.DtBackRefIdeal.τ).loc Cert.DtBackRefIdeal.main_arg2) = m ((c.tc : Thread Cert.DtBackRefIdeal.nD Cert.DtBackRefIdeal.τ).loc Cert.DtBackRefIdeal.main_arg2)
      ∧ r.2.mem ((c.tc : Thread Cert.DtBackRefIdeal.nD Cert.DtBackRefIdeal.τ).loc Cert.DtBackRefIdeal.main_arg3) = m ((c.tc : Thread Cert.DtBackRefIdeal.nD Cert.DtBackRefIdeal.τ).loc Cert.DtBackRefIdeal.main_arg3)
      ∧ r.2.mem ((c.tc : Thread Cert.DtBackRefIdeal.nD Cert.DtBackRefIdeal.τ).loc Cert.DtBackRefIdeal.main_arg4) = m ((c.tc : Thread Cert.DtBackRefIdeal.nD Cert.DtBackRefIdeal.τ).loc Cert.DtBackRefIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v24_0)) (v1 : (c : Dev Cert.KernelIdeal.nD) → Buf (Elt Ideal) ((c.tc : Thread Cert.KernelIdeal.nD Cert.KernelIdeal.τ).loc Cert.KernelIdeal.main_v24_1)) (v2 : (c : Dev Cert.KernelIdeal.nD) → Buf (Elt Ideal) ((c.tc : Thread Cert.KernelIdeal.nD Cert.KernelIdeal.τ).loc Cert.KernelIdeal.main_v24_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24_0) = v0 c
          ∧ r.2.mem ((c.tc : Thread Cert.KernelIdeal.nD Cert.KernelIdeal.τ).loc Cert.KernelIdeal.main_v24_1) = v1 c
          ∧ r.2.mem ((c.tc : Thread Cert.KernelIdeal.nD Cert.KernelIdeal.τ).loc Cert.KernelIdeal.main_v24_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_v51) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_SbIn_SbInIdeal : Prop :=
  True

def algebraic_SbInIdeal_SbInRefIdeal [hSbInIdeal : Cert.SbInIdeal.Facts] [hSbInRefIdeal : Cert.SbInRefIdeal.Facts] : Prop :=
  ∀ (m : (ℓ : Loc Cert.SbInIdeal.nD Cert.SbInIdeal.τ Cert.SbInIdeal.sig) → Buf (Elt Ideal) ℓ) (g : Dev Cert.SbInIdeal.nD → PrngReg)
    (m' : (ℓ : Loc Cert.SbInRefIdeal.nD Cert.SbInRefIdeal.τ Cert.SbInRefIdeal.sig) → Buf (Elt Ideal) ℓ) (g' : Dev Cert.SbInRefIdeal.nD → PrngReg), Pre_SbInIdeal m →
    (∀ c : Dev Cert.SbInIdeal.nD,
      m' ((c.tc : Thread Cert.SbInRefIdeal.nD Cert.SbInRefIdeal.τ).loc Cert.SbInRefIdeal.main_arg0) = m ((c.tc : Thread Cert.SbInIdeal.nD Cert.SbInIdeal.τ).loc Cert.SbInIdeal.main_arg0)
      ∧ m' ((c.tc : Thread Cert.SbInRefIdeal.nD Cert.SbInRefIdeal.τ).loc Cert.SbInRefIdeal.main_arg1) = m ((c.tc : Thread Cert.SbInIdeal.nD Cert.SbInIdeal.τ).loc Cert.SbInIdeal.main_arg1)
      ∧ m' ((c.tc : Thread Cert.SbInRefIdeal.nD Cert.SbInRefIdeal.τ).loc Cert.SbInRefIdeal.main_arg2) = m ((c.tc : Thread Cert.SbInIdeal.nD Cert.SbInIdeal.τ).loc Cert.SbInIdeal.main_arg2)) →
    ∃ (v0 : (c : Dev Cert.SbInIdeal.nD) → Buf (Elt Ideal) ((c.tc : Thread Cert.SbInIdeal.nD Cert.SbInIdeal.τ).loc Cert.SbInIdeal.main_v3)) (v1 : (c : Dev Cert.SbInIdeal.nD) → Buf (Elt Ideal) ((c.tc : Thread Cert.SbInIdeal.nD Cert.SbInIdeal.τ).loc Cert.SbInIdeal.main_v4)),
      θ_run (Cert.SbInIdeal.defs (F := Ideal)) (onTc (τ := Cert.SbInIdeal.τ) (Cert.SbInIdeal.main (F := Ideal))) ⟨m, fun _ => 0, g⟩ (fun r => ∀ c : Dev Cert.SbInIdeal.nD,
          r.2.mem ((c.tc : Thread Cert.SbInIdeal.nD Cert.SbInIdeal.τ).loc Cert.SbInIdeal.main_v3) = v0 c
          ∧ r.2.mem ((c.tc : Thread Cert.SbInIdeal.nD Cert.SbInIdeal.τ).loc Cert.SbInIdeal.main_v4) = v1 c
          ∧ r.2.mem ((c.tc : Thread Cert.SbInIdeal.nD Cert.SbInIdeal.τ).loc Cert.SbInIdeal.main_arg0) = m ((c.tc : Thread Cert.SbInIdeal.nD Cert.SbInIdeal.τ).loc Cert.SbInIdeal.main_arg0)
          ∧ r.2.mem ((c.tc : Thread Cert.SbInIdeal.nD Cert.SbInIdeal.τ).loc Cert.SbInIdeal.main_arg1) = m ((c.tc : Thread Cert.SbInIdeal.nD Cert.SbInIdeal.τ).loc Cert.SbInIdeal.main_arg1)
          ∧ r.2.mem ((c.tc : Thread Cert.SbInIdeal.nD Cert.SbInIdeal.τ).loc Cert.SbInIdeal.main_arg2) = m ((c.tc : Thread Cert.SbInIdeal.nD Cert.SbInIdeal.τ).loc Cert.SbInIdeal.main_arg2))
      ∧ θ_run (Cert.SbInRefIdeal.defs (F := Ideal)) (onTc (τ := Cert.SbInRefIdeal.τ) (Cert.SbInRefIdeal.main (F := Ideal))) ⟨m', fun _ => 0, g'⟩ (fun r => ∀ c : Dev Cert.SbInRefIdeal.nD,
          r.2.mem ((c.tc : Thread Cert.SbInRefIdeal.nD Cert.SbInRefIdeal.τ).loc Cert.SbInRefIdeal.main_v1) = v0 c
          ∧ r.2.mem ((c.tc : Thread Cert.SbInRefIdeal.nD Cert.SbInRefIdeal.τ).loc Cert.SbInRefIdeal.main_v7) = v1 c
          ∧ r.2.mem ((c.tc : Thread Cert.SbInRefIdeal.nD Cert.SbInRefIdeal.τ).loc Cert.SbInRefIdeal.main_arg0) = m' ((c.tc : Thread Cert.SbInRefIdeal.nD Cert.SbInRefIdeal.τ).loc Cert.SbInRefIdeal.main_arg0)
          ∧ r.2.mem ((c.tc : Thread Cert.SbInRefIdeal.nD Cert.SbInRefIdeal.τ).loc Cert.SbInRefIdeal.main_arg1) = m' ((c.tc : Thread Cert.SbInRefIdeal.nD Cert.SbInRefIdeal.τ).loc Cert.SbInRefIdeal.main_arg1)
          ∧ r.2.mem ((c.tc : Thread Cert.SbInRefIdeal.nD Cert.SbInRefIdeal.τ).loc Cert.SbInRefIdeal.main_arg2) = m' ((c.tc : Thread Cert.SbInRefIdeal.nD Cert.SbInRefIdeal.τ).loc Cert.SbInRefIdeal.main_arg2))

def preserves_SbInBack_SbInBackIdeal : Prop :=
  True

def algebraic_SbInBackIdeal_SbInBackRefIdeal [hSbInBackIdeal : Cert.SbInBackIdeal.Facts] [hSbInBackRefIdeal : Cert.SbInBackRefIdeal.Facts] : Prop :=
  ∀ (m : (ℓ : Loc Cert.SbInBackIdeal.nD Cert.SbInBackIdeal.τ Cert.SbInBackIdeal.sig) → Buf (Elt Ideal) ℓ) (g : Dev Cert.SbInBackIdeal.nD → PrngReg)
    (m' : (ℓ : Loc Cert.SbInBackRefIdeal.nD Cert.SbInBackRefIdeal.τ Cert.SbInBackRefIdeal.sig) → Buf (Elt Ideal) ℓ) (g' : Dev Cert.SbInBackRefIdeal.nD → PrngReg), Pre_SbInBackIdeal m →
    (∀ c : Dev Cert.SbInBackIdeal.nD,
      m' ((c.tc : Thread Cert.SbInBackRefIdeal.nD Cert.SbInBackRefIdeal.τ).loc Cert.SbInBackRefIdeal.main_arg0) = m ((c.tc : Thread Cert.SbInBackIdeal.nD Cert.SbInBackIdeal.τ).loc Cert.SbInBackIdeal.main_arg0)
      ∧ m' ((c.tc : Thread Cert.SbInBackRefIdeal.nD Cert.SbInBackRefIdeal.τ).loc Cert.SbInBackRefIdeal.main_arg1) = m ((c.tc : Thread Cert.SbInBackIdeal.nD Cert.SbInBackIdeal.τ).loc Cert.SbInBackIdeal.main_arg1)) →
    ∃ (v0 : (c : Dev Cert.SbInBackIdeal.nD) → Buf (Elt Ideal) ((c.tc : Thread Cert.SbInBackIdeal.nD Cert.SbInBackIdeal.τ).loc Cert.SbInBackIdeal.main_v3)),
      θ_run (Cert.SbInBackIdeal.defs (F := Ideal)) (onTc (τ := Cert.SbInBackIdeal.τ) (Cert.SbInBackIdeal.main (F := Ideal))) ⟨m, fun _ => 0, g⟩ (fun r => ∀ c : Dev Cert.SbInBackIdeal.nD,
          r.2.mem ((c.tc : Thread Cert.SbInBackIdeal.nD Cert.SbInBackIdeal.τ).loc Cert.SbInBackIdeal.main_v3) = v0 c
          ∧ r.2.mem ((c.tc : Thread Cert.SbInBackIdeal.nD Cert.SbInBackIdeal.τ).loc Cert.SbInBackIdeal.main_arg0) = m ((c.tc : Thread Cert.SbInBackIdeal.nD Cert.SbInBackIdeal.τ).loc Cert.SbInBackIdeal.main_arg0)
          ∧ r.2.mem ((c.tc : Thread Cert.SbInBackIdeal.nD Cert.SbInBackIdeal.τ).loc Cert.SbInBackIdeal.main_arg1) = m ((c.tc : Thread Cert.SbInBackIdeal.nD Cert.SbInBackIdeal.τ).loc Cert.SbInBackIdeal.main_arg1))
      ∧ θ_run (Cert.SbInBackRefIdeal.defs (F := Ideal)) (onTc (τ := Cert.SbInBackRefIdeal.τ) (Cert.SbInBackRefIdeal.main (F := Ideal))) ⟨m', fun _ => 0, g'⟩ (fun r => ∀ c : Dev Cert.SbInBackRefIdeal.nD,
          r.2.mem ((c.tc : Thread Cert.SbInBackRefIdeal.nD Cert.SbInBackRefIdeal.τ).loc Cert.SbInBackRefIdeal.main_v3) = v0 c
          ∧ r.2.mem ((c.tc : Thread Cert.SbInBackRefIdeal.nD Cert.SbInBackRefIdeal.τ).loc Cert.SbInBackRefIdeal.main_arg0) = m' ((c.tc : Thread Cert.SbInBackRefIdeal.nD Cert.SbInBackRefIdeal.τ).loc Cert.SbInBackRefIdeal.main_arg0)
          ∧ r.2.mem ((c.tc : Thread Cert.SbInBackRefIdeal.nD Cert.SbInBackRefIdeal.τ).loc Cert.SbInBackRefIdeal.main_arg1) = m' ((c.tc : Thread Cert.SbInBackRefIdeal.nD Cert.SbInBackRefIdeal.τ).loc Cert.SbInBackRefIdeal.main_arg1))

def preserves_PleGate_PleGateIdeal : Prop :=
  True

def algebraic_PleGateIdeal_PleGateRefIdeal [hPleGateIdeal : Cert.PleGateIdeal.Facts] [hPleGateRefIdeal : Cert.PleGateRefIdeal.Facts] : Prop :=
  ∀ (m : (ℓ : Loc Cert.PleGateIdeal.nD Cert.PleGateIdeal.τ Cert.PleGateIdeal.sig) → Buf (Elt Ideal) ℓ) (g : Dev Cert.PleGateIdeal.nD → PrngReg)
    (m' : (ℓ : Loc Cert.PleGateRefIdeal.nD Cert.PleGateRefIdeal.τ Cert.PleGateRefIdeal.sig) → Buf (Elt Ideal) ℓ) (g' : Dev Cert.PleGateRefIdeal.nD → PrngReg), Pre_PleGateIdeal m →
    (∀ c : Dev Cert.PleGateIdeal.nD,
      m' ((c.tc : Thread Cert.PleGateRefIdeal.nD Cert.PleGateRefIdeal.τ).loc Cert.PleGateRefIdeal.main_arg0) = m ((c.tc : Thread Cert.PleGateIdeal.nD Cert.PleGateIdeal.τ).loc Cert.PleGateIdeal.main_arg0)
      ∧ m' ((c.tc : Thread Cert.PleGateRefIdeal.nD Cert.PleGateRefIdeal.τ).loc Cert.PleGateRefIdeal.main_arg1) = m ((c.tc : Thread Cert.PleGateIdeal.nD Cert.PleGateIdeal.τ).loc Cert.PleGateIdeal.main_arg1)
      ∧ m' ((c.tc : Thread Cert.PleGateRefIdeal.nD Cert.PleGateRefIdeal.τ).loc Cert.PleGateRefIdeal.main_arg2) = m ((c.tc : Thread Cert.PleGateIdeal.nD Cert.PleGateIdeal.τ).loc Cert.PleGateIdeal.main_arg2)) →
    ∃ (v0 : (c : Dev Cert.PleGateIdeal.nD) → Buf (Elt Ideal) ((c.tc : Thread Cert.PleGateIdeal.nD Cert.PleGateIdeal.τ).loc Cert.PleGateIdeal.main_v1)) (v1 : (c : Dev Cert.PleGateIdeal.nD) → Buf (Elt Ideal) ((c.tc : Thread Cert.PleGateIdeal.nD Cert.PleGateIdeal.τ).loc Cert.PleGateIdeal.main_v2)) (v2 : (c : Dev Cert.PleGateIdeal.nD) → Buf (Elt Ideal) ((c.tc : Thread Cert.PleGateIdeal.nD Cert.PleGateIdeal.τ).loc Cert.PleGateIdeal.main_v3)),
      θ_run (Cert.PleGateIdeal.defs (F := Ideal)) (onTc (τ := Cert.PleGateIdeal.τ) (Cert.PleGateIdeal.main (F := Ideal))) ⟨m, fun _ => 0, g⟩ (fun r => ∀ c : Dev Cert.PleGateIdeal.nD,
          r.2.mem ((c.tc : Thread Cert.PleGateIdeal.nD Cert.PleGateIdeal.τ).loc Cert.PleGateIdeal.main_v1) = v0 c
          ∧ r.2.mem ((c.tc : Thread Cert.PleGateIdeal.nD Cert.PleGateIdeal.τ).loc Cert.PleGateIdeal.main_v2) = v1 c
          ∧ r.2.mem ((c.tc : Thread Cert.PleGateIdeal.nD Cert.PleGateIdeal.τ).loc Cert.PleGateIdeal.main_v3) = v2 c
          ∧ r.2.mem ((c.tc : Thread Cert.PleGateIdeal.nD Cert.PleGateIdeal.τ).loc Cert.PleGateIdeal.main_arg0) = m ((c.tc : Thread Cert.PleGateIdeal.nD Cert.PleGateIdeal.τ).loc Cert.PleGateIdeal.main_arg0)
          ∧ r.2.mem ((c.tc : Thread Cert.PleGateIdeal.nD Cert.PleGateIdeal.τ).loc Cert.PleGateIdeal.main_arg1) = m ((c.tc : Thread Cert.PleGateIdeal.nD Cert.PleGateIdeal.τ).loc Cert.PleGateIdeal.main_arg1)
          ∧ r.2.mem ((c.tc : Thread Cert.PleGateIdeal.nD Cert.PleGateIdeal.τ).loc Cert.PleGateIdeal.main_arg2) = m ((c.tc : Thread Cert.PleGateIdeal.nD Cert.PleGateIdeal.τ).loc Cert.PleGateIdeal.main_arg2))
      ∧ θ_run (Cert.PleGateRefIdeal.defs (F := Ideal)) (onTc (τ := Cert.PleGateRefIdeal.τ) (Cert.PleGateRefIdeal.main (F := Ideal))) ⟨m', fun _ => 0, g'⟩ (fun r => ∀ c : Dev Cert.PleGateRefIdeal.nD,
          r.2.mem ((c.tc : Thread Cert.PleGateRefIdeal.nD Cert.PleGateRefIdeal.τ).loc Cert.PleGateRefIdeal.main_v1) = v0 c
          ∧ r.2.mem ((c.tc : Thread Cert.PleGateRefIdeal.nD Cert.PleGateRefIdeal.τ).loc Cert.PleGateRefIdeal.main_v6) = v1 c
          ∧ r.2.mem ((c.tc : Thread Cert.PleGateRefIdeal.nD Cert.PleGateRefIdeal.τ).loc Cert.PleGateRefIdeal.main_v5) = v2 c
          ∧ r.2.mem ((c.tc : Thread Cert.PleGateRefIdeal.nD Cert.PleGateRefIdeal.τ).loc Cert.PleGateRefIdeal.main_arg0) = m' ((c.tc : Thread Cert.PleGateRefIdeal.nD Cert.PleGateRefIdeal.τ).loc Cert.PleGateRefIdeal.main_arg0)
          ∧ r.2.mem ((c.tc : Thread Cert.PleGateRefIdeal.nD Cert.PleGateRefIdeal.τ).loc Cert.PleGateRefIdeal.main_arg1) = m' ((c.tc : Thread Cert.PleGateRefIdeal.nD Cert.PleGateRefIdeal.τ).loc Cert.PleGateRefIdeal.main_arg1)
          ∧ r.2.mem ((c.tc : Thread Cert.PleGateRefIdeal.nD Cert.PleGateRefIdeal.τ).loc Cert.PleGateRefIdeal.main_arg2) = m' ((c.tc : Thread Cert.PleGateRefIdeal.nD Cert.PleGateRefIdeal.τ).loc Cert.PleGateRefIdeal.main_arg2))

def preserves_SbOut_SbOutIdeal : Prop :=
  True

def algebraic_SbOutIdeal_SbOutRefIdeal [hSbOutIdeal : Cert.SbOutIdeal.Facts] [hSbOutRefIdeal : Cert.SbOutRefIdeal.Facts] : Prop :=
  ∀ (m : (ℓ : Loc Cert.SbOutIdeal.nD Cert.SbOutIdeal.τ Cert.SbOutIdeal.sig) → Buf (Elt Ideal) ℓ) (g : Dev Cert.SbOutIdeal.nD → PrngReg)
    (m' : (ℓ : Loc Cert.SbOutRefIdeal.nD Cert.SbOutRefIdeal.τ Cert.SbOutRefIdeal.sig) → Buf (Elt Ideal) ℓ) (g' : Dev Cert.SbOutRefIdeal.nD → PrngReg), Pre_SbOutIdeal m →
    (∀ c : Dev Cert.SbOutIdeal.nD,
      m' ((c.tc : Thread Cert.SbOutRefIdeal.nD Cert.SbOutRefIdeal.τ).loc Cert.SbOutRefIdeal.main_arg0) = m ((c.tc : Thread Cert.SbOutIdeal.nD Cert.SbOutIdeal.τ).loc Cert.SbOutIdeal.main_arg0)
      ∧ m' ((c.tc : Thread Cert.SbOutRefIdeal.nD Cert.SbOutRefIdeal.τ).loc Cert.SbOutRefIdeal.main_arg1) = m ((c.tc : Thread Cert.SbOutIdeal.nD Cert.SbOutIdeal.τ).loc Cert.SbOutIdeal.main_arg1)
      ∧ m' ((c.tc : Thread Cert.SbOutRefIdeal.nD Cert.SbOutRefIdeal.τ).loc Cert.SbOutRefIdeal.main_arg2) = m ((c.tc : Thread Cert.SbOutIdeal.nD Cert.SbOutIdeal.τ).loc Cert.SbOutIdeal.main_arg2)
      ∧ m' ((c.tc : Thread Cert.SbOutRefIdeal.nD Cert.SbOutRefIdeal.τ).loc Cert.SbOutRefIdeal.main_arg3) = m ((c.tc : Thread Cert.SbOutIdeal.nD Cert.SbOutIdeal.τ).loc Cert.SbOutIdeal.main_arg3)) →
    ∃ (v0 : (c : Dev Cert.SbOutIdeal.nD) → Buf (Elt Ideal) ((c.tc : Thread Cert.SbOutIdeal.nD Cert.SbOutIdeal.τ).loc Cert.SbOutIdeal.main_v1)) (v1 : (c : Dev Cert.SbOutIdeal.nD) → Buf (Elt Ideal) ((c.tc : Thread Cert.SbOutIdeal.nD Cert.SbOutIdeal.τ).loc Cert.SbOutIdeal.main_v2)) (v2 : (c : Dev Cert.SbOutIdeal.nD) → Buf (Elt Ideal) ((c.tc : Thread Cert.SbOutIdeal.nD Cert.SbOutIdeal.τ).loc Cert.SbOutIdeal.main_v3)),
      θ_run (Cert.SbOutIdeal.defs (F := Ideal)) (onTc (τ := Cert.SbOutIdeal.τ) (Cert.SbOutIdeal.main (F := Ideal))) ⟨m, fun _ => 0, g⟩ (fun r => ∀ c : Dev Cert.SbOutIdeal.nD,
          r.2.mem ((c.tc : Thread Cert.SbOutIdeal.nD Cert.SbOutIdeal.τ).loc Cert.SbOutIdeal.main_v1) = v0 c
          ∧ r.2.mem ((c.tc : Thread Cert.SbOutIdeal.nD Cert.SbOutIdeal.τ).loc Cert.SbOutIdeal.main_v2) = v1 c
          ∧ r.2.mem ((c.tc : Thread Cert.SbOutIdeal.nD Cert.SbOutIdeal.τ).loc Cert.SbOutIdeal.main_v3) = v2 c
          ∧ r.2.mem ((c.tc : Thread Cert.SbOutIdeal.nD Cert.SbOutIdeal.τ).loc Cert.SbOutIdeal.main_arg0) = m ((c.tc : Thread Cert.SbOutIdeal.nD Cert.SbOutIdeal.τ).loc Cert.SbOutIdeal.main_arg0)
          ∧ r.2.mem ((c.tc : Thread Cert.SbOutIdeal.nD Cert.SbOutIdeal.τ).loc Cert.SbOutIdeal.main_arg1) = m ((c.tc : Thread Cert.SbOutIdeal.nD Cert.SbOutIdeal.τ).loc Cert.SbOutIdeal.main_arg1)
          ∧ r.2.mem ((c.tc : Thread Cert.SbOutIdeal.nD Cert.SbOutIdeal.τ).loc Cert.SbOutIdeal.main_arg2) = m ((c.tc : Thread Cert.SbOutIdeal.nD Cert.SbOutIdeal.τ).loc Cert.SbOutIdeal.main_arg2)
          ∧ r.2.mem ((c.tc : Thread Cert.SbOutIdeal.nD Cert.SbOutIdeal.τ).loc Cert.SbOutIdeal.main_arg3) = m ((c.tc : Thread Cert.SbOutIdeal.nD Cert.SbOutIdeal.τ).loc Cert.SbOutIdeal.main_arg3))
      ∧ θ_run (Cert.SbOutRefIdeal.defs (F := Ideal)) (onTc (τ := Cert.SbOutRefIdeal.τ) (Cert.SbOutRefIdeal.main (F := Ideal))) ⟨m', fun _ => 0, g'⟩ (fun r => ∀ c : Dev Cert.SbOutRefIdeal.nD,
          r.2.mem ((c.tc : Thread Cert.SbOutRefIdeal.nD Cert.SbOutRefIdeal.τ).loc Cert.SbOutRefIdeal.main_v2) = v0 c
          ∧ r.2.mem ((c.tc : Thread Cert.SbOutRefIdeal.nD Cert.SbOutRefIdeal.τ).loc Cert.SbOutRefIdeal.main_v6) = v1 c
          ∧ r.2.mem ((c.tc : Thread Cert.SbOutRefIdeal.nD Cert.SbOutRefIdeal.τ).loc Cert.SbOutRefIdeal.main_v5) = v2 c
          ∧ r.2.mem ((c.tc : Thread Cert.SbOutRefIdeal.nD Cert.SbOutRefIdeal.τ).loc Cert.SbOutRefIdeal.main_arg0) = m' ((c.tc : Thread Cert.SbOutRefIdeal.nD Cert.SbOutRefIdeal.τ).loc Cert.SbOutRefIdeal.main_arg0)
          ∧ r.2.mem ((c.tc : Thread Cert.SbOutRefIdeal.nD Cert.SbOutRefIdeal.τ).loc Cert.SbOutRefIdeal.main_arg1) = m' ((c.tc : Thread Cert.SbOutRefIdeal.nD Cert.SbOutRefIdeal.τ).loc Cert.SbOutRefIdeal.main_arg1)
          ∧ r.2.mem ((c.tc : Thread Cert.SbOutRefIdeal.nD Cert.SbOutRefIdeal.τ).loc Cert.SbOutRefIdeal.main_arg2) = m' ((c.tc : Thread Cert.SbOutRefIdeal.nD Cert.SbOutRefIdeal.τ).loc Cert.SbOutRefIdeal.main_arg2)
          ∧ r.2.mem ((c.tc : Thread Cert.SbOutRefIdeal.nD Cert.SbOutRefIdeal.τ).loc Cert.SbOutRefIdeal.main_arg3) = m' ((c.tc : Thread Cert.SbOutRefIdeal.nD Cert.SbOutRefIdeal.τ).loc Cert.SbOutRefIdeal.main_arg3))

def preserves_SsdOut_SsdOutIdeal : Prop :=
  True

def algebraic_SsdOutIdeal_SsdOutRefIdeal [hSsdOutIdeal : Cert.SsdOutIdeal.Facts] [hSsdOutRefIdeal : Cert.SsdOutRefIdeal.Facts] : Prop :=
  ∀ (m : (ℓ : Loc Cert.SsdOutIdeal.nD Cert.SsdOutIdeal.τ Cert.SsdOutIdeal.sig) → Buf (Elt Ideal) ℓ) (g : Dev Cert.SsdOutIdeal.nD → PrngReg)
    (m' : (ℓ : Loc Cert.SsdOutRefIdeal.nD Cert.SsdOutRefIdeal.τ Cert.SsdOutRefIdeal.sig) → Buf (Elt Ideal) ℓ) (g' : Dev Cert.SsdOutRefIdeal.nD → PrngReg), Pre_SsdOutIdeal m →
    (∀ c : Dev Cert.SsdOutIdeal.nD,
      m' ((c.tc : Thread Cert.SsdOutRefIdeal.nD Cert.SsdOutRefIdeal.τ).loc Cert.SsdOutRefIdeal.main_arg0) = m ((c.tc : Thread Cert.SsdOutIdeal.nD Cert.SsdOutIdeal.τ).loc Cert.SsdOutIdeal.main_arg0)
      ∧ m' ((c.tc : Thread Cert.SsdOutRefIdeal.nD Cert.SsdOutRefIdeal.τ).loc Cert.SsdOutRefIdeal.main_arg1) = m ((c.tc : Thread Cert.SsdOutIdeal.nD Cert.SsdOutIdeal.τ).loc Cert.SsdOutIdeal.main_arg1)
      ∧ m' ((c.tc : Thread Cert.SsdOutRefIdeal.nD Cert.SsdOutRefIdeal.τ).loc Cert.SsdOutRefIdeal.main_arg2) = m ((c.tc : Thread Cert.SsdOutIdeal.nD Cert.SsdOutIdeal.τ).loc Cert.SsdOutIdeal.main_arg2)
      ∧ m' ((c.tc : Thread Cert.SsdOutRefIdeal.nD Cert.SsdOutRefIdeal.τ).loc Cert.SsdOutRefIdeal.main_arg3) = m ((c.tc : Thread Cert.SsdOutIdeal.nD Cert.SsdOutIdeal.τ).loc Cert.SsdOutIdeal.main_arg3)) →
    ∃ (v0 : (c : Dev Cert.SsdOutIdeal.nD) → Buf (Elt Ideal) ((c.tc : Thread Cert.SsdOutIdeal.nD Cert.SsdOutIdeal.τ).loc Cert.SsdOutIdeal.main_v1)) (v1 : (c : Dev Cert.SsdOutIdeal.nD) → Buf (Elt Ideal) ((c.tc : Thread Cert.SsdOutIdeal.nD Cert.SsdOutIdeal.τ).loc Cert.SsdOutIdeal.main_v2)) (v2 : (c : Dev Cert.SsdOutIdeal.nD) → Buf (Elt Ideal) ((c.tc : Thread Cert.SsdOutIdeal.nD Cert.SsdOutIdeal.τ).loc Cert.SsdOutIdeal.main_v3)),
      θ_run (Cert.SsdOutIdeal.defs (F := Ideal)) (onTc (τ := Cert.SsdOutIdeal.τ) (Cert.SsdOutIdeal.main (F := Ideal))) ⟨m, fun _ => 0, g⟩ (fun r => ∀ c : Dev Cert.SsdOutIdeal.nD,
          r.2.mem ((c.tc : Thread Cert.SsdOutIdeal.nD Cert.SsdOutIdeal.τ).loc Cert.SsdOutIdeal.main_v1) = v0 c
          ∧ r.2.mem ((c.tc : Thread Cert.SsdOutIdeal.nD Cert.SsdOutIdeal.τ).loc Cert.SsdOutIdeal.main_v2) = v1 c
          ∧ r.2.mem ((c.tc : Thread Cert.SsdOutIdeal.nD Cert.SsdOutIdeal.τ).loc Cert.SsdOutIdeal.main_v3) = v2 c
          ∧ r.2.mem ((c.tc : Thread Cert.SsdOutIdeal.nD Cert.SsdOutIdeal.τ).loc Cert.SsdOutIdeal.main_arg0) = m ((c.tc : Thread Cert.SsdOutIdeal.nD Cert.SsdOutIdeal.τ).loc Cert.SsdOutIdeal.main_arg0)
          ∧ r.2.mem ((c.tc : Thread Cert.SsdOutIdeal.nD Cert.SsdOutIdeal.τ).loc Cert.SsdOutIdeal.main_arg1) = m ((c.tc : Thread Cert.SsdOutIdeal.nD Cert.SsdOutIdeal.τ).loc Cert.SsdOutIdeal.main_arg1)
          ∧ r.2.mem ((c.tc : Thread Cert.SsdOutIdeal.nD Cert.SsdOutIdeal.τ).loc Cert.SsdOutIdeal.main_arg2) = m ((c.tc : Thread Cert.SsdOutIdeal.nD Cert.SsdOutIdeal.τ).loc Cert.SsdOutIdeal.main_arg2)
          ∧ r.2.mem ((c.tc : Thread Cert.SsdOutIdeal.nD Cert.SsdOutIdeal.τ).loc Cert.SsdOutIdeal.main_arg3) = m ((c.tc : Thread Cert.SsdOutIdeal.nD Cert.SsdOutIdeal.τ).loc Cert.SsdOutIdeal.main_arg3))
      ∧ θ_run (Cert.SsdOutRefIdeal.defs (F := Ideal)) (onTc (τ := Cert.SsdOutRefIdeal.τ) (Cert.SsdOutRefIdeal.main (F := Ideal))) ⟨m', fun _ => 0, g'⟩ (fun r => ∀ c : Dev Cert.SsdOutRefIdeal.nD,
          r.2.mem ((c.tc : Thread Cert.SsdOutRefIdeal.nD Cert.SsdOutRefIdeal.τ).loc Cert.SsdOutRefIdeal.main_v2) = v0 c
          ∧ r.2.mem ((c.tc : Thread Cert.SsdOutRefIdeal.nD Cert.SsdOutRefIdeal.τ).loc Cert.SsdOutRefIdeal.main_v6) = v1 c
          ∧ r.2.mem ((c.tc : Thread Cert.SsdOutRefIdeal.nD Cert.SsdOutRefIdeal.τ).loc Cert.SsdOutRefIdeal.main_v5) = v2 c
          ∧ r.2.mem ((c.tc : Thread Cert.SsdOutRefIdeal.nD Cert.SsdOutRefIdeal.τ).loc Cert.SsdOutRefIdeal.main_arg0) = m' ((c.tc : Thread Cert.SsdOutRefIdeal.nD Cert.SsdOutRefIdeal.τ).loc Cert.SsdOutRefIdeal.main_arg0)
          ∧ r.2.mem ((c.tc : Thread Cert.SsdOutRefIdeal.nD Cert.SsdOutRefIdeal.τ).loc Cert.SsdOutRefIdeal.main_arg1) = m' ((c.tc : Thread Cert.SsdOutRefIdeal.nD Cert.SsdOutRefIdeal.τ).loc Cert.SsdOutRefIdeal.main_arg1)
          ∧ r.2.mem ((c.tc : Thread Cert.SsdOutRefIdeal.nD Cert.SsdOutRefIdeal.τ).loc Cert.SsdOutRefIdeal.main_arg2) = m' ((c.tc : Thread Cert.SsdOutRefIdeal.nD Cert.SsdOutRefIdeal.τ).loc Cert.SsdOutRefIdeal.main_arg2)
          ∧ r.2.mem ((c.tc : Thread Cert.SsdOutRefIdeal.nD Cert.SsdOutRefIdeal.τ).loc Cert.SsdOutRefIdeal.main_arg3) = m' ((c.tc : Thread Cert.SsdOutRefIdeal.nD Cert.SsdOutRefIdeal.τ).loc Cert.SsdOutRefIdeal.main_arg3))

def preserves_SsdIn_SsdInIdeal : Prop :=
  True

def algebraic_SsdInIdeal_SsdInRefIdeal [hSsdInIdeal : Cert.SsdInIdeal.Facts] [hSsdInRefIdeal : Cert.SsdInRefIdeal.Facts] : Prop :=
  ∀ (m : (ℓ : Loc Cert.SsdInIdeal.nD Cert.SsdInIdeal.τ Cert.SsdInIdeal.sig) → Buf (Elt Ideal) ℓ) (g : Dev Cert.SsdInIdeal.nD → PrngReg)
    (m' : (ℓ : Loc Cert.SsdInRefIdeal.nD Cert.SsdInRefIdeal.τ Cert.SsdInRefIdeal.sig) → Buf (Elt Ideal) ℓ) (g' : Dev Cert.SsdInRefIdeal.nD → PrngReg), Pre_SsdInIdeal m →
    (∀ c : Dev Cert.SsdInIdeal.nD,
      m' ((c.tc : Thread Cert.SsdInRefIdeal.nD Cert.SsdInRefIdeal.τ).loc Cert.SsdInRefIdeal.main_arg0) = m ((c.tc : Thread Cert.SsdInIdeal.nD Cert.SsdInIdeal.τ).loc Cert.SsdInIdeal.main_arg0)
      ∧ m' ((c.tc : Thread Cert.SsdInRefIdeal.nD Cert.SsdInRefIdeal.τ).loc Cert.SsdInRefIdeal.main_arg1) = m ((c.tc : Thread Cert.SsdInIdeal.nD Cert.SsdInIdeal.τ).loc Cert.SsdInIdeal.main_arg1)
      ∧ m' ((c.tc : Thread Cert.SsdInRefIdeal.nD Cert.SsdInRefIdeal.τ).loc Cert.SsdInRefIdeal.main_arg2) = m ((c.tc : Thread Cert.SsdInIdeal.nD Cert.SsdInIdeal.τ).loc Cert.SsdInIdeal.main_arg2)
      ∧ m' ((c.tc : Thread Cert.SsdInRefIdeal.nD Cert.SsdInRefIdeal.τ).loc Cert.SsdInRefIdeal.main_arg3) = m ((c.tc : Thread Cert.SsdInIdeal.nD Cert.SsdInIdeal.τ).loc Cert.SsdInIdeal.main_arg3)) →
    ∃ (v0 : (c : Dev Cert.SsdInIdeal.nD) → Buf (Elt Ideal) ((c.tc : Thread Cert.SsdInIdeal.nD Cert.SsdInIdeal.τ).loc Cert.SsdInIdeal.main_v1)) (v1 : (c : Dev Cert.SsdInIdeal.nD) → Buf (Elt Ideal) ((c.tc : Thread Cert.SsdInIdeal.nD Cert.SsdInIdeal.τ).loc Cert.SsdInIdeal.main_v2)) (v2 : (c : Dev Cert.SsdInIdeal.nD) → Buf (Elt Ideal) ((c.tc : Thread Cert.SsdInIdeal.nD Cert.SsdInIdeal.τ).loc Cert.SsdInIdeal.main_v3)) (v3 : (c : Dev Cert.SsdInIdeal.nD) → Buf (Elt Ideal) ((c.tc : Thread Cert.SsdInIdeal.nD Cert.SsdInIdeal.τ).loc Cert.SsdInIdeal.main_v4)),
      θ_run (Cert.SsdInIdeal.defs (F := Ideal)) (onTc (τ := Cert.SsdInIdeal.τ) (Cert.SsdInIdeal.main (F := Ideal))) ⟨m, fun _ => 0, g⟩ (fun r => ∀ c : Dev Cert.SsdInIdeal.nD,
          r.2.mem ((c.tc : Thread Cert.SsdInIdeal.nD Cert.SsdInIdeal.τ).loc Cert.SsdInIdeal.main_v1) = v0 c
          ∧ r.2.mem ((c.tc : Thread Cert.SsdInIdeal.nD Cert.SsdInIdeal.τ).loc Cert.SsdInIdeal.main_v2) = v1 c
          ∧ r.2.mem ((c.tc : Thread Cert.SsdInIdeal.nD Cert.SsdInIdeal.τ).loc Cert.SsdInIdeal.main_v3) = v2 c
          ∧ r.2.mem ((c.tc : Thread Cert.SsdInIdeal.nD Cert.SsdInIdeal.τ).loc Cert.SsdInIdeal.main_v4) = v3 c
          ∧ r.2.mem ((c.tc : Thread Cert.SsdInIdeal.nD Cert.SsdInIdeal.τ).loc Cert.SsdInIdeal.main_arg0) = m ((c.tc : Thread Cert.SsdInIdeal.nD Cert.SsdInIdeal.τ).loc Cert.SsdInIdeal.main_arg0)
          ∧ r.2.mem ((c.tc : Thread Cert.SsdInIdeal.nD Cert.SsdInIdeal.τ).loc Cert.SsdInIdeal.main_arg1) = m ((c.tc : Thread Cert.SsdInIdeal.nD Cert.SsdInIdeal.τ).loc Cert.SsdInIdeal.main_arg1)
          ∧ r.2.mem ((c.tc : Thread Cert.SsdInIdeal.nD Cert.SsdInIdeal.τ).loc Cert.SsdInIdeal.main_arg2) = m ((c.tc : Thread Cert.SsdInIdeal.nD Cert.SsdInIdeal.τ).loc Cert.SsdInIdeal.main_arg2)
          ∧ r.2.mem ((c.tc : Thread Cert.SsdInIdeal.nD Cert.SsdInIdeal.τ).loc Cert.SsdInIdeal.main_arg3) = m ((c.tc : Thread Cert.SsdInIdeal.nD Cert.SsdInIdeal.τ).loc Cert.SsdInIdeal.main_arg3))
      ∧ θ_run (Cert.SsdInRefIdeal.defs (F := Ideal)) (onTc (τ := Cert.SsdInRefIdeal.τ) (Cert.SsdInRefIdeal.main (F := Ideal))) ⟨m', fun _ => 0, g'⟩ (fun r => ∀ c : Dev Cert.SsdInRefIdeal.nD,
          r.2.mem ((c.tc : Thread Cert.SsdInRefIdeal.nD Cert.SsdInRefIdeal.τ).loc Cert.SsdInRefIdeal.main_v1) = v0 c
          ∧ r.2.mem ((c.tc : Thread Cert.SsdInRefIdeal.nD Cert.SsdInRefIdeal.τ).loc Cert.SsdInRefIdeal.main_v6) = v1 c
          ∧ r.2.mem ((c.tc : Thread Cert.SsdInRefIdeal.nD Cert.SsdInRefIdeal.τ).loc Cert.SsdInRefIdeal.main_v5) = v2 c
          ∧ r.2.mem ((c.tc : Thread Cert.SsdInRefIdeal.nD Cert.SsdInRefIdeal.τ).loc Cert.SsdInRefIdeal.main_v7) = v3 c
          ∧ r.2.mem ((c.tc : Thread Cert.SsdInRefIdeal.nD Cert.SsdInRefIdeal.τ).loc Cert.SsdInRefIdeal.main_arg0) = m' ((c.tc : Thread Cert.SsdInRefIdeal.nD Cert.SsdInRefIdeal.τ).loc Cert.SsdInRefIdeal.main_arg0)
          ∧ r.2.mem ((c.tc : Thread Cert.SsdInRefIdeal.nD Cert.SsdInRefIdeal.τ).loc Cert.SsdInRefIdeal.main_arg1) = m' ((c.tc : Thread Cert.SsdInRefIdeal.nD Cert.SsdInRefIdeal.τ).loc Cert.SsdInRefIdeal.main_arg1)
          ∧ r.2.mem ((c.tc : Thread Cert.SsdInRefIdeal.nD Cert.SsdInRefIdeal.τ).loc Cert.SsdInRefIdeal.main_arg2) = m' ((c.tc : Thread Cert.SsdInRefIdeal.nD Cert.SsdInRefIdeal.τ).loc Cert.SsdInRefIdeal.main_arg2)
          ∧ r.2.mem ((c.tc : Thread Cert.SsdInRefIdeal.nD Cert.SsdInRefIdeal.τ).loc Cert.SsdInRefIdeal.main_arg3) = m' ((c.tc : Thread Cert.SsdInRefIdeal.nD Cert.SsdInRefIdeal.τ).loc Cert.SsdInRefIdeal.main_arg3))

def preserves_SsdBc_SsdBcIdeal : Prop :=
  True

def algebraic_SsdBcIdeal_SsdBcRefIdeal [hSsdBcIdeal : Cert.SsdBcIdeal.Facts] [hSsdBcRefIdeal : Cert.SsdBcRefIdeal.Facts] : Prop :=
  ∀ (m : (ℓ : Loc Cert.SsdBcIdeal.nD Cert.SsdBcIdeal.τ Cert.SsdBcIdeal.sig) → Buf (Elt Ideal) ℓ) (g : Dev Cert.SsdBcIdeal.nD → PrngReg)
    (m' : (ℓ : Loc Cert.SsdBcRefIdeal.nD Cert.SsdBcRefIdeal.τ Cert.SsdBcRefIdeal.sig) → Buf (Elt Ideal) ℓ) (g' : Dev Cert.SsdBcRefIdeal.nD → PrngReg), Pre_SsdBcIdeal m →
    (∀ c : Dev Cert.SsdBcIdeal.nD,
      m' ((c.tc : Thread Cert.SsdBcRefIdeal.nD Cert.SsdBcRefIdeal.τ).loc Cert.SsdBcRefIdeal.main_arg0) = m ((c.tc : Thread Cert.SsdBcIdeal.nD Cert.SsdBcIdeal.τ).loc Cert.SsdBcIdeal.main_arg0)
      ∧ m' ((c.tc : Thread Cert.SsdBcRefIdeal.nD Cert.SsdBcRefIdeal.τ).loc Cert.SsdBcRefIdeal.main_arg1) = m ((c.tc : Thread Cert.SsdBcIdeal.nD Cert.SsdBcIdeal.τ).loc Cert.SsdBcIdeal.main_arg1)
      ∧ m' ((c.tc : Thread Cert.SsdBcRefIdeal.nD Cert.SsdBcRefIdeal.τ).loc Cert.SsdBcRefIdeal.main_arg2) = m ((c.tc : Thread Cert.SsdBcIdeal.nD Cert.SsdBcIdeal.τ).loc Cert.SsdBcIdeal.main_arg2)
      ∧ m' ((c.tc : Thread Cert.SsdBcRefIdeal.nD Cert.SsdBcRefIdeal.τ).loc Cert.SsdBcRefIdeal.main_arg3) = m ((c.tc : Thread Cert.SsdBcIdeal.nD Cert.SsdBcIdeal.τ).loc Cert.SsdBcIdeal.main_arg3)) →
    ∃ (v0 : (c : Dev Cert.SsdBcIdeal.nD) → Buf (Elt Ideal) ((c.tc : Thread Cert.SsdBcIdeal.nD Cert.SsdBcIdeal.τ).loc Cert.SsdBcIdeal.main_v1)) (v1 : (c : Dev Cert.SsdBcIdeal.nD) → Buf (Elt Ideal) ((c.tc : Thread Cert.SsdBcIdeal.nD Cert.SsdBcIdeal.τ).loc Cert.SsdBcIdeal.main_v2)) (v2 : (c : Dev Cert.SsdBcIdeal.nD) → Buf (Elt Ideal) ((c.tc : Thread Cert.SsdBcIdeal.nD Cert.SsdBcIdeal.τ).loc Cert.SsdBcIdeal.main_v3)),
      θ_run (Cert.SsdBcIdeal.defs (F := Ideal)) (onTc (τ := Cert.SsdBcIdeal.τ) (Cert.SsdBcIdeal.main (F := Ideal))) ⟨m, fun _ => 0, g⟩ (fun r => ∀ c : Dev Cert.SsdBcIdeal.nD,
          r.2.mem ((c.tc : Thread Cert.SsdBcIdeal.nD Cert.SsdBcIdeal.τ).loc Cert.SsdBcIdeal.main_v1) = v0 c
          ∧ r.2.mem ((c.tc : Thread Cert.SsdBcIdeal.nD Cert.SsdBcIdeal.τ).loc Cert.SsdBcIdeal.main_v2) = v1 c
          ∧ r.2.mem ((c.tc : Thread Cert.SsdBcIdeal.nD Cert.SsdBcIdeal.τ).loc Cert.SsdBcIdeal.main_v3) = v2 c
          ∧ r.2.mem ((c.tc : Thread Cert.SsdBcIdeal.nD Cert.SsdBcIdeal.τ).loc Cert.SsdBcIdeal.main_arg0) = m ((c.tc : Thread Cert.SsdBcIdeal.nD Cert.SsdBcIdeal.τ).loc Cert.SsdBcIdeal.main_arg0)
          ∧ r.2.mem ((c.tc : Thread Cert.SsdBcIdeal.nD Cert.SsdBcIdeal.τ).loc Cert.SsdBcIdeal.main_arg1) = m ((c.tc : Thread Cert.SsdBcIdeal.nD Cert.SsdBcIdeal.τ).loc Cert.SsdBcIdeal.main_arg1)
          ∧ r.2.mem ((c.tc : Thread Cert.SsdBcIdeal.nD Cert.SsdBcIdeal.τ).loc Cert.SsdBcIdeal.main_arg2) = m ((c.tc : Thread Cert.SsdBcIdeal.nD Cert.SsdBcIdeal.τ).loc Cert.SsdBcIdeal.main_arg2)
          ∧ r.2.mem ((c.tc : Thread Cert.SsdBcIdeal.nD Cert.SsdBcIdeal.τ).loc Cert.SsdBcIdeal.main_arg3) = m ((c.tc : Thread Cert.SsdBcIdeal.nD Cert.SsdBcIdeal.τ).loc Cert.SsdBcIdeal.main_arg3))
      ∧ θ_run (Cert.SsdBcRefIdeal.defs (F := Ideal)) (onTc (τ := Cert.SsdBcRefIdeal.τ) (Cert.SsdBcRefIdeal.main (F := Ideal))) ⟨m', fun _ => 0, g'⟩ (fun r => ∀ c : Dev Cert.SsdBcRefIdeal.nD,
          r.2.mem ((c.tc : Thread Cert.SsdBcRefIdeal.nD Cert.SsdBcRefIdeal.τ).loc Cert.SsdBcRefIdeal.main_v1) = v0 c
          ∧ r.2.mem ((c.tc : Thread Cert.SsdBcRefIdeal.nD Cert.SsdBcRefIdeal.τ).loc Cert.SsdBcRefIdeal.main_v6) = v1 c
          ∧ r.2.mem ((c.tc : Thread Cert.SsdBcRefIdeal.nD Cert.SsdBcRefIdeal.τ).loc Cert.SsdBcRefIdeal.main_v7) = v2 c
          ∧ r.2.mem ((c.tc : Thread Cert.SsdBcRefIdeal.nD Cert.SsdBcRefIdeal.τ).loc Cert.SsdBcRefIdeal.main_arg0) = m' ((c.tc : Thread Cert.SsdBcRefIdeal.nD Cert.SsdBcRefIdeal.τ).loc Cert.SsdBcRefIdeal.main_arg0)
          ∧ r.2.mem ((c.tc : Thread Cert.SsdBcRefIdeal.nD Cert.SsdBcRefIdeal.τ).loc Cert.SsdBcRefIdeal.main_arg1) = m' ((c.tc : Thread Cert.SsdBcRefIdeal.nD Cert.SsdBcRefIdeal.τ).loc Cert.SsdBcRefIdeal.main_arg1)
          ∧ r.2.mem ((c.tc : Thread Cert.SsdBcRefIdeal.nD Cert.SsdBcRefIdeal.τ).loc Cert.SsdBcRefIdeal.main_arg2) = m' ((c.tc : Thread Cert.SsdBcRefIdeal.nD Cert.SsdBcRefIdeal.τ).loc Cert.SsdBcRefIdeal.main_arg2)
          ∧ r.2.mem ((c.tc : Thread Cert.SsdBcRefIdeal.nD Cert.SsdBcRefIdeal.τ).loc Cert.SsdBcRefIdeal.main_arg3) = m' ((c.tc : Thread Cert.SsdBcRefIdeal.nD Cert.SsdBcRefIdeal.τ).loc Cert.SsdBcRefIdeal.main_arg3))

def preserves_PleProj_PleProjIdeal : Prop :=
  True

def algebraic_PleProjIdeal_PleProjRefIdeal [hPleProjIdeal : Cert.PleProjIdeal.Facts] [hPleProjRefIdeal : Cert.PleProjRefIdeal.Facts] : Prop :=
  ∀ (m : (ℓ : Loc Cert.PleProjIdeal.nD Cert.PleProjIdeal.τ Cert.PleProjIdeal.sig) → Buf (Elt Ideal) ℓ) (g : Dev Cert.PleProjIdeal.nD → PrngReg)
    (m' : (ℓ : Loc Cert.PleProjRefIdeal.nD Cert.PleProjRefIdeal.τ Cert.PleProjRefIdeal.sig) → Buf (Elt Ideal) ℓ) (g' : Dev Cert.PleProjRefIdeal.nD → PrngReg), Pre_PleProjIdeal m →
    (∀ c : Dev Cert.PleProjIdeal.nD,
      m' ((c.tc : Thread Cert.PleProjRefIdeal.nD Cert.PleProjRefIdeal.τ).loc Cert.PleProjRefIdeal.main_arg0) = m ((c.tc : Thread Cert.PleProjIdeal.nD Cert.PleProjIdeal.τ).loc Cert.PleProjIdeal.main_arg0)
      ∧ m' ((c.tc : Thread Cert.PleProjRefIdeal.nD Cert.PleProjRefIdeal.τ).loc Cert.PleProjRefIdeal.main_arg1) = m ((c.tc : Thread Cert.PleProjIdeal.nD Cert.PleProjIdeal.τ).loc Cert.PleProjIdeal.main_arg1)
      ∧ m' ((c.tc : Thread Cert.PleProjRefIdeal.nD Cert.PleProjRefIdeal.τ).loc Cert.PleProjRefIdeal.main_arg2) = m ((c.tc : Thread Cert.PleProjIdeal.nD Cert.PleProjIdeal.τ).loc Cert.PleProjIdeal.main_arg2)) →
    ∃ (v0 : (c : Dev Cert.PleProjIdeal.nD) → Buf (Elt Ideal) ((c.tc : Thread Cert.PleProjIdeal.nD Cert.PleProjIdeal.τ).loc Cert.PleProjIdeal.main_v3)) (v1 : (c : Dev Cert.PleProjIdeal.nD) → Buf (Elt Ideal) ((c.tc : Thread Cert.PleProjIdeal.nD Cert.PleProjIdeal.τ).loc Cert.PleProjIdeal.main_v4)),
      θ_run (Cert.PleProjIdeal.defs (F := Ideal)) (onTc (τ := Cert.PleProjIdeal.τ) (Cert.PleProjIdeal.main (F := Ideal))) ⟨m, fun _ => 0, g⟩ (fun r => ∀ c : Dev Cert.PleProjIdeal.nD,
          r.2.mem ((c.tc : Thread Cert.PleProjIdeal.nD Cert.PleProjIdeal.τ).loc Cert.PleProjIdeal.main_v3) = v0 c
          ∧ r.2.mem ((c.tc : Thread Cert.PleProjIdeal.nD Cert.PleProjIdeal.τ).loc Cert.PleProjIdeal.main_v4) = v1 c
          ∧ r.2.mem ((c.tc : Thread Cert.PleProjIdeal.nD Cert.PleProjIdeal.τ).loc Cert.PleProjIdeal.main_arg0) = m ((c.tc : Thread Cert.PleProjIdeal.nD Cert.PleProjIdeal.τ).loc Cert.PleProjIdeal.main_arg0)
          ∧ r.2.mem ((c.tc : Thread Cert.PleProjIdeal.nD Cert.PleProjIdeal.τ).loc Cert.PleProjIdeal.main_arg1) = m ((c.tc : Thread Cert.PleProjIdeal.nD Cert.PleProjIdeal.τ).loc Cert.PleProjIdeal.main_arg1)
          ∧ r.2.mem ((c.tc : Thread Cert.PleProjIdeal.nD Cert.PleProjIdeal.τ).loc Cert.PleProjIdeal.main_arg2) = m ((c.tc : Thread Cert.PleProjIdeal.nD Cert.PleProjIdeal.τ).loc Cert.PleProjIdeal.main_arg2))
      ∧ θ_run (Cert.PleProjRefIdeal.defs (F := Ideal)) (onTc (τ := Cert.PleProjRefIdeal.τ) (Cert.PleProjRefIdeal.main (F := Ideal))) ⟨m', fun _ => 0, g'⟩ (fun r => ∀ c : Dev Cert.PleProjRefIdeal.nD,
          r.2.mem ((c.tc : Thread Cert.PleProjRefIdeal.nD Cert.PleProjRefIdeal.τ).loc Cert.PleProjRefIdeal.main_v0) = v0 c
          ∧ r.2.mem ((c.tc : Thread Cert.PleProjRefIdeal.nD Cert.PleProjRefIdeal.τ).loc Cert.PleProjRefIdeal.main_v6) = v1 c
          ∧ r.2.mem ((c.tc : Thread Cert.PleProjRefIdeal.nD Cert.PleProjRefIdeal.τ).loc Cert.PleProjRefIdeal.main_arg0) = m' ((c.tc : Thread Cert.PleProjRefIdeal.nD Cert.PleProjRefIdeal.τ).loc Cert.PleProjRefIdeal.main_arg0)
          ∧ r.2.mem ((c.tc : Thread Cert.PleProjRefIdeal.nD Cert.PleProjRefIdeal.τ).loc Cert.PleProjRefIdeal.main_arg1) = m' ((c.tc : Thread Cert.PleProjRefIdeal.nD Cert.PleProjRefIdeal.τ).loc Cert.PleProjRefIdeal.main_arg1)
          ∧ r.2.mem ((c.tc : Thread Cert.PleProjRefIdeal.nD Cert.PleProjRefIdeal.τ).loc Cert.PleProjRefIdeal.main_arg2) = m' ((c.tc : Thread Cert.PleProjRefIdeal.nD Cert.PleProjRefIdeal.τ).loc Cert.PleProjRefIdeal.main_arg2))

def preserves_PleBack_PleBackIdeal : Prop :=
  True

def algebraic_PleBackIdeal_PleBackRefIdeal [hPleBackIdeal : Cert.PleBackIdeal.Facts] [hPleBackRefIdeal : Cert.PleBackRefIdeal.Facts] : Prop :=
  ∀ (m : (ℓ : Loc Cert.PleBackIdeal.nD Cert.PleBackIdeal.τ Cert.PleBackIdeal.sig) → Buf (Elt Ideal) ℓ) (g : Dev Cert.PleBackIdeal.nD → PrngReg)
    (m' : (ℓ : Loc Cert.PleBackRefIdeal.nD Cert.PleBackRefIdeal.τ Cert.PleBackRefIdeal.sig) → Buf (Elt Ideal) ℓ) (g' : Dev Cert.PleBackRefIdeal.nD → PrngReg), Pre_PleBackIdeal m →
    (∀ c : Dev Cert.PleBackIdeal.nD,
      m' ((c.tc : Thread Cert.PleBackRefIdeal.nD Cert.PleBackRefIdeal.τ).loc Cert.PleBackRefIdeal.main_arg0) = m ((c.tc : Thread Cert.PleBackIdeal.nD Cert.PleBackIdeal.τ).loc Cert.PleBackIdeal.main_arg0)
      ∧ m' ((c.tc : Thread Cert.PleBackRefIdeal.nD Cert.PleBackRefIdeal.τ).loc Cert.PleBackRefIdeal.main_arg1) = m ((c.tc : Thread Cert.PleBackIdeal.nD Cert.PleBackIdeal.τ).loc Cert.PleBackIdeal.main_arg1)
      ∧ m' ((c.tc : Thread Cert.PleBackRefIdeal.nD Cert.PleBackRefIdeal.τ).loc Cert.PleBackRefIdeal.main_arg2) = m ((c.tc : Thread Cert.PleBackIdeal.nD Cert.PleBackIdeal.τ).loc Cert.PleBackIdeal.main_arg2)) →
    ∃ (v0 : (c : Dev Cert.PleBackIdeal.nD) → Buf (Elt Ideal) ((c.tc : Thread Cert.PleBackIdeal.nD Cert.PleBackIdeal.τ).loc Cert.PleBackIdeal.main_v1_0)) (v1 : (c : Dev Cert.PleBackIdeal.nD) → Buf (Elt Ideal) ((c.tc : Thread Cert.PleBackIdeal.nD Cert.PleBackIdeal.τ).loc Cert.PleBackIdeal.main_v1_1)),
      θ_run (Cert.PleBackIdeal.defs (F := Ideal)) (onTc (τ := Cert.PleBackIdeal.τ) (Cert.PleBackIdeal.main (F := Ideal))) ⟨m, fun _ => 0, g⟩ (fun r => ∀ c : Dev Cert.PleBackIdeal.nD,
          r.2.mem ((c.tc : Thread Cert.PleBackIdeal.nD Cert.PleBackIdeal.τ).loc Cert.PleBackIdeal.main_v1_0) = v0 c
          ∧ r.2.mem ((c.tc : Thread Cert.PleBackIdeal.nD Cert.PleBackIdeal.τ).loc Cert.PleBackIdeal.main_v1_1) = v1 c
          ∧ r.2.mem ((c.tc : Thread Cert.PleBackIdeal.nD Cert.PleBackIdeal.τ).loc Cert.PleBackIdeal.main_arg0) = m ((c.tc : Thread Cert.PleBackIdeal.nD Cert.PleBackIdeal.τ).loc Cert.PleBackIdeal.main_arg0)
          ∧ r.2.mem ((c.tc : Thread Cert.PleBackIdeal.nD Cert.PleBackIdeal.τ).loc Cert.PleBackIdeal.main_arg1) = m ((c.tc : Thread Cert.PleBackIdeal.nD Cert.PleBackIdeal.τ).loc Cert.PleBackIdeal.main_arg1)
          ∧ r.2.mem ((c.tc : Thread Cert.PleBackIdeal.nD Cert.PleBackIdeal.τ).loc Cert.PleBackIdeal.main_arg2) = m ((c.tc : Thread Cert.PleBackIdeal.nD Cert.PleBackIdeal.τ).loc Cert.PleBackIdeal.main_arg2))
      ∧ θ_run (Cert.PleBackRefIdeal.defs (F := Ideal)) (onTc (τ := Cert.PleBackRefIdeal.τ) (Cert.PleBackRefIdeal.main (F := Ideal))) ⟨m', fun _ => 0, g'⟩ (fun r => ∀ c : Dev Cert.PleBackRefIdeal.nD,
          r.2.mem ((c.tc : Thread Cert.PleBackRefIdeal.nD Cert.PleBackRefIdeal.τ).loc Cert.PleBackRefIdeal.main_v13) = v0 c
          ∧ r.2.mem ((c.tc : Thread Cert.PleBackRefIdeal.nD Cert.PleBackRefIdeal.τ).loc Cert.PleBackRefIdeal.main_v14) = v1 c
          ∧ r.2.mem ((c.tc : Thread Cert.PleBackRefIdeal.nD Cert.PleBackRefIdeal.τ).loc Cert.PleBackRefIdeal.main_arg0) = m' ((c.tc : Thread Cert.PleBackRefIdeal.nD Cert.PleBackRefIdeal.τ).loc Cert.PleBackRefIdeal.main_arg0)
          ∧ r.2.mem ((c.tc : Thread Cert.PleBackRefIdeal.nD Cert.PleBackRefIdeal.τ).loc Cert.PleBackRefIdeal.main_arg1) = m' ((c.tc : Thread Cert.PleBackRefIdeal.nD Cert.PleBackRefIdeal.τ).loc Cert.PleBackRefIdeal.main_arg1)
          ∧ r.2.mem ((c.tc : Thread Cert.PleBackRefIdeal.nD Cert.PleBackRefIdeal.τ).loc Cert.PleBackRefIdeal.main_arg2) = m' ((c.tc : Thread Cert.PleBackRefIdeal.nD Cert.PleBackRefIdeal.τ).loc Cert.PleBackRefIdeal.main_arg2))

def preserves_SbGateBack_SbGateBackIdeal : Prop :=
  True

def algebraic_SbGateBackIdeal_SbGateBackRefIdeal_pre_finite_gate [hSbGateBackIdeal : Cert.SbGateBackIdeal.Facts] [hSbGateBackRefIdeal : Cert.SbGateBackRefIdeal.Facts] [hPre_finite_gate : Cert.Pre_finite_gate.Facts] : Prop :=
  ∀ (m : (ℓ : Loc Cert.SbGateBackIdeal.nD Cert.SbGateBackIdeal.τ Cert.SbGateBackIdeal.sig) → Buf (Elt Ideal) ℓ) (g : Dev Cert.SbGateBackIdeal.nD → PrngReg)
    (m' : (ℓ : Loc Cert.SbGateBackRefIdeal.nD Cert.SbGateBackRefIdeal.τ Cert.SbGateBackRefIdeal.sig) → Buf (Elt Ideal) ℓ) (g' : Dev Cert.SbGateBackRefIdeal.nD → PrngReg), Pre_SbGateBackIdeal_finite_gate m →
    (∀ c : Dev Cert.SbGateBackIdeal.nD,
      m' ((c.tc : Thread Cert.SbGateBackRefIdeal.nD Cert.SbGateBackRefIdeal.τ).loc Cert.SbGateBackRefIdeal.main_arg0) = m ((c.tc : Thread Cert.SbGateBackIdeal.nD Cert.SbGateBackIdeal.τ).loc Cert.SbGateBackIdeal.main_arg0)
      ∧ m' ((c.tc : Thread Cert.SbGateBackRefIdeal.nD Cert.SbGateBackRefIdeal.τ).loc Cert.SbGateBackRefIdeal.main_arg1) = m ((c.tc : Thread Cert.SbGateBackIdeal.nD Cert.SbGateBackIdeal.τ).loc Cert.SbGateBackIdeal.main_arg1)
      ∧ m' ((c.tc : Thread Cert.SbGateBackRefIdeal.nD Cert.SbGateBackRefIdeal.τ).loc Cert.SbGateBackRefIdeal.main_arg2) = m ((c.tc : Thread Cert.SbGateBackIdeal.nD Cert.SbGateBackIdeal.τ).loc Cert.SbGateBackIdeal.main_arg2)) →
    ∃ (v0 : (c : Dev Cert.SbGateBackIdeal.nD) → Buf (Elt Ideal) ((c.tc : Thread Cert.SbGateBackIdeal.nD Cert.SbGateBackIdeal.τ).loc Cert.SbGateBackIdeal.main_v0_0)) (v1 : (c : Dev Cert.SbGateBackIdeal.nD) → Buf (Elt Ideal) ((c.tc : Thread Cert.SbGateBackIdeal.nD Cert.SbGateBackIdeal.τ).loc Cert.SbGateBackIdeal.main_v0_1)),
      θ_run (Cert.SbGateBackIdeal.defs (F := Ideal)) (onTc (τ := Cert.SbGateBackIdeal.τ) (Cert.SbGateBackIdeal.main (F := Ideal))) ⟨m, fun _ => 0, g⟩ (fun r => ∀ c : Dev Cert.SbGateBackIdeal.nD,
          r.2.mem ((c.tc : Thread Cert.SbGateBackIdeal.nD Cert.SbGateBackIdeal.τ).loc Cert.SbGateBackIdeal.main_v0_0) = v0 c
          ∧ r.2.mem ((c.tc : Thread Cert.SbGateBackIdeal.nD Cert.SbGateBackIdeal.τ).loc Cert.SbGateBackIdeal.main_v0_1) = v1 c
          ∧ r.2.mem ((c.tc : Thread Cert.SbGateBackIdeal.nD Cert.SbGateBackIdeal.τ).loc Cert.SbGateBackIdeal.main_arg0) = m ((c.tc : Thread Cert.SbGateBackIdeal.nD Cert.SbGateBackIdeal.τ).loc Cert.SbGateBackIdeal.main_arg0)
          ∧ r.2.mem ((c.tc : Thread Cert.SbGateBackIdeal.nD Cert.SbGateBackIdeal.τ).loc Cert.SbGateBackIdeal.main_arg1) = m ((c.tc : Thread Cert.SbGateBackIdeal.nD Cert.SbGateBackIdeal.τ).loc Cert.SbGateBackIdeal.main_arg1)
          ∧ r.2.mem ((c.tc : Thread Cert.SbGateBackIdeal.nD Cert.SbGateBackIdeal.τ).loc Cert.SbGateBackIdeal.main_arg2) = m ((c.tc : Thread Cert.SbGateBackIdeal.nD Cert.SbGateBackIdeal.τ).loc Cert.SbGateBackIdeal.main_arg2))
      ∧ θ_run (Cert.SbGateBackRefIdeal.defs (F := Ideal)) (onTc (τ := Cert.SbGateBackRefIdeal.τ) (Cert.SbGateBackRefIdeal.main (F := Ideal))) ⟨m', fun _ => 0, g'⟩ (fun r => ∀ c : Dev Cert.SbGateBackRefIdeal.nD,
          r.2.mem ((c.tc : Thread Cert.SbGateBackRefIdeal.nD Cert.SbGateBackRefIdeal.τ).loc Cert.SbGateBackRefIdeal.main_v7) = v0 c
          ∧ r.2.mem ((c.tc : Thread Cert.SbGateBackRefIdeal.nD Cert.SbGateBackRefIdeal.τ).loc Cert.SbGateBackRefIdeal.main_v9) = v1 c
          ∧ r.2.mem ((c.tc : Thread Cert.SbGateBackRefIdeal.nD Cert.SbGateBackRefIdeal.τ).loc Cert.SbGateBackRefIdeal.main_arg0) = m' ((c.tc : Thread Cert.SbGateBackRefIdeal.nD Cert.SbGateBackRefIdeal.τ).loc Cert.SbGateBackRefIdeal.main_arg0)
          ∧ r.2.mem ((c.tc : Thread Cert.SbGateBackRefIdeal.nD Cert.SbGateBackRefIdeal.τ).loc Cert.SbGateBackRefIdeal.main_arg1) = m' ((c.tc : Thread Cert.SbGateBackRefIdeal.nD Cert.SbGateBackRefIdeal.τ).loc Cert.SbGateBackRefIdeal.main_arg1)
          ∧ r.2.mem ((c.tc : Thread Cert.SbGateBackRefIdeal.nD Cert.SbGateBackRefIdeal.τ).loc Cert.SbGateBackRefIdeal.main_arg2) = m' ((c.tc : Thread Cert.SbGateBackRefIdeal.nD Cert.SbGateBackRefIdeal.τ).loc Cert.SbGateBackRefIdeal.main_arg2))

def preserves_SbFwd_SbFwdIdeal : Prop :=
  True

def algebraic_SbFwdIdeal_SbFwdRefIdeal_pre_finite_logits [hSbFwdIdeal : Cert.SbFwdIdeal.Facts] [hSbFwdRefIdeal : Cert.SbFwdRefIdeal.Facts] [hPre_finite_logits : Cert.Pre_finite_logits.Facts] : Prop :=
  ∀ (m : (ℓ : Loc Cert.SbFwdIdeal.nD Cert.SbFwdIdeal.τ Cert.SbFwdIdeal.sig) → Buf (Elt Ideal) ℓ) (g : Dev Cert.SbFwdIdeal.nD → PrngReg)
    (m' : (ℓ : Loc Cert.SbFwdRefIdeal.nD Cert.SbFwdRefIdeal.τ Cert.SbFwdRefIdeal.sig) → Buf (Elt Ideal) ℓ) (g' : Dev Cert.SbFwdRefIdeal.nD → PrngReg), Pre_SbFwdIdeal_finite_logits m →
    (∀ c : Dev Cert.SbFwdIdeal.nD,
      m' ((c.tc : Thread Cert.SbFwdRefIdeal.nD Cert.SbFwdRefIdeal.τ).loc Cert.SbFwdRefIdeal.main_arg0) = m ((c.tc : Thread Cert.SbFwdIdeal.nD Cert.SbFwdIdeal.τ).loc Cert.SbFwdIdeal.main_arg0)
      ∧ m' ((c.tc : Thread Cert.SbFwdRefIdeal.nD Cert.SbFwdRefIdeal.τ).loc Cert.SbFwdRefIdeal.main_arg1) = m ((c.tc : Thread Cert.SbFwdIdeal.nD Cert.SbFwdIdeal.τ).loc Cert.SbFwdIdeal.main_arg1)
      ∧ m' ((c.tc : Thread Cert.SbFwdRefIdeal.nD Cert.SbFwdRefIdeal.τ).loc Cert.SbFwdRefIdeal.main_arg2) = m ((c.tc : Thread Cert.SbFwdIdeal.nD Cert.SbFwdIdeal.τ).loc Cert.SbFwdIdeal.main_arg2)) →
    ∃ (v0 : (c : Dev Cert.SbFwdIdeal.nD) → Buf (Elt Ideal) ((c.tc : Thread Cert.SbFwdIdeal.nD Cert.SbFwdIdeal.τ).loc Cert.SbFwdIdeal.main_v0_0)) (v1 : (c : Dev Cert.SbFwdIdeal.nD) → Buf (Elt Ideal) ((c.tc : Thread Cert.SbFwdIdeal.nD Cert.SbFwdIdeal.τ).loc Cert.SbFwdIdeal.main_v0_1)) (v2 : (c : Dev Cert.SbFwdIdeal.nD) → Buf (Elt Ideal) ((c.tc : Thread Cert.SbFwdIdeal.nD Cert.SbFwdIdeal.τ).loc Cert.SbFwdIdeal.main_v0_2)),
      θ_run (Cert.SbFwdIdeal.defs (F := Ideal)) (onTc (τ := Cert.SbFwdIdeal.τ) (Cert.SbFwdIdeal.main (F := Ideal))) ⟨m, fun _ => 0, g⟩ (fun r => ∀ c : Dev Cert.SbFwdIdeal.nD,
          r.2.mem ((c.tc : Thread Cert.SbFwdIdeal.nD Cert.SbFwdIdeal.τ).loc Cert.SbFwdIdeal.main_v0_0) = v0 c
          ∧ r.2.mem ((c.tc : Thread Cert.SbFwdIdeal.nD Cert.SbFwdIdeal.τ).loc Cert.SbFwdIdeal.main_v0_1) = v1 c
          ∧ r.2.mem ((c.tc : Thread Cert.SbFwdIdeal.nD Cert.SbFwdIdeal.τ).loc Cert.SbFwdIdeal.main_v0_2) = v2 c
          ∧ r.2.mem ((c.tc : Thread Cert.SbFwdIdeal.nD Cert.SbFwdIdeal.τ).loc Cert.SbFwdIdeal.main_arg0) = m ((c.tc : Thread Cert.SbFwdIdeal.nD Cert.SbFwdIdeal.τ).loc Cert.SbFwdIdeal.main_arg0)
          ∧ r.2.mem ((c.tc : Thread Cert.SbFwdIdeal.nD Cert.SbFwdIdeal.τ).loc Cert.SbFwdIdeal.main_arg1) = m ((c.tc : Thread Cert.SbFwdIdeal.nD Cert.SbFwdIdeal.τ).loc Cert.SbFwdIdeal.main_arg1)
          ∧ r.2.mem ((c.tc : Thread Cert.SbFwdIdeal.nD Cert.SbFwdIdeal.τ).loc Cert.SbFwdIdeal.main_arg2) = m ((c.tc : Thread Cert.SbFwdIdeal.nD Cert.SbFwdIdeal.τ).loc Cert.SbFwdIdeal.main_arg2))
      ∧ θ_run (Cert.SbFwdRefIdeal.defs (F := Ideal)) (onTc (τ := Cert.SbFwdRefIdeal.τ) (Cert.SbFwdRefIdeal.main (F := Ideal))) ⟨m', fun _ => 0, g'⟩ (fun r => ∀ c : Dev Cert.SbFwdRefIdeal.nD,
          r.2.mem ((c.tc : Thread Cert.SbFwdRefIdeal.nD Cert.SbFwdRefIdeal.τ).loc Cert.SbFwdRefIdeal.main_v33) = v0 c
          ∧ r.2.mem ((c.tc : Thread Cert.SbFwdRefIdeal.nD Cert.SbFwdRefIdeal.τ).loc Cert.SbFwdRefIdeal.main_v55) = v1 c
          ∧ r.2.mem ((c.tc : Thread Cert.SbFwdRefIdeal.nD Cert.SbFwdRefIdeal.τ).loc Cert.SbFwdRefIdeal.main_v58) = v2 c
          ∧ r.2.mem ((c.tc : Thread Cert.SbFwdRefIdeal.nD Cert.SbFwdRefIdeal.τ).loc Cert.SbFwdRefIdeal.main_arg0) = m' ((c.tc : Thread Cert.SbFwdRefIdeal.nD Cert.SbFwdRefIdeal.τ).loc Cert.SbFwdRefIdeal.main_arg0)
          ∧ r.2.mem ((c.tc : Thread Cert.SbFwdRefIdeal.nD Cert.SbFwdRefIdeal.τ).loc Cert.SbFwdRefIdeal.main_arg1) = m' ((c.tc : Thread Cert.SbFwdRefIdeal.nD Cert.SbFwdRefIdeal.τ).loc Cert.SbFwdRefIdeal.main_arg1)
          ∧ r.2.mem ((c.tc : Thread Cert.SbFwdRefIdeal.nD Cert.SbFwdRefIdeal.τ).loc Cert.SbFwdRefIdeal.main_arg2) = m' ((c.tc : Thread Cert.SbFwdRefIdeal.nD Cert.SbFwdRefIdeal.τ).loc Cert.SbFwdRefIdeal.main_arg2))

def preserves_SsdDt_SsdDtIdeal : Prop :=
  True

def algebraic_SsdDtIdeal_SsdDtRefIdeal [hSsdDtIdeal : Cert.SsdDtIdeal.Facts] [hSsdDtRefIdeal : Cert.SsdDtRefIdeal.Facts] : Prop :=
  ∀ (m : (ℓ : Loc Cert.SsdDtIdeal.nD Cert.SsdDtIdeal.τ Cert.SsdDtIdeal.sig) → Buf (Elt Ideal) ℓ) (g : Dev Cert.SsdDtIdeal.nD → PrngReg)
    (m' : (ℓ : Loc Cert.SsdDtRefIdeal.nD Cert.SsdDtRefIdeal.τ Cert.SsdDtRefIdeal.sig) → Buf (Elt Ideal) ℓ) (g' : Dev Cert.SsdDtRefIdeal.nD → PrngReg), Pre_SsdDtIdeal m →
    (∀ c : Dev Cert.SsdDtIdeal.nD,
      m' ((c.tc : Thread Cert.SsdDtRefIdeal.nD Cert.SsdDtRefIdeal.τ).loc Cert.SsdDtRefIdeal.main_arg0) = m ((c.tc : Thread Cert.SsdDtIdeal.nD Cert.SsdDtIdeal.τ).loc Cert.SsdDtIdeal.main_arg0)
      ∧ m' ((c.tc : Thread Cert.SsdDtRefIdeal.nD Cert.SsdDtRefIdeal.τ).loc Cert.SsdDtRefIdeal.main_arg1) = m ((c.tc : Thread Cert.SsdDtIdeal.nD Cert.SsdDtIdeal.τ).loc Cert.SsdDtIdeal.main_arg1)
      ∧ m' ((c.tc : Thread Cert.SsdDtRefIdeal.nD Cert.SsdDtRefIdeal.τ).loc Cert.SsdDtRefIdeal.main_arg2) = m ((c.tc : Thread Cert.SsdDtIdeal.nD Cert.SsdDtIdeal.τ).loc Cert.SsdDtIdeal.main_arg2)
      ∧ m' ((c.tc : Thread Cert.SsdDtRefIdeal.nD Cert.SsdDtRefIdeal.τ).loc Cert.SsdDtRefIdeal.main_arg3) = m ((c.tc : Thread Cert.SsdDtIdeal.nD Cert.SsdDtIdeal.τ).loc Cert.SsdDtIdeal.main_arg3)) →
    ∃ (v0 : (c : Dev Cert.SsdDtIdeal.nD) → Buf (Elt Ideal) ((c.tc : Thread Cert.SsdDtIdeal.nD Cert.SsdDtIdeal.τ).loc Cert.SsdDtIdeal.main_v1)) (v1 : (c : Dev Cert.SsdDtIdeal.nD) → Buf (Elt Ideal) ((c.tc : Thread Cert.SsdDtIdeal.nD Cert.SsdDtIdeal.τ).loc Cert.SsdDtIdeal.main_v2)) (v2 : (c : Dev Cert.SsdDtIdeal.nD) → Buf (Elt Ideal) ((c.tc : Thread Cert.SsdDtIdeal.nD Cert.SsdDtIdeal.τ).loc Cert.SsdDtIdeal.main_v3)),
      θ_run (Cert.SsdDtIdeal.defs (F := Ideal)) (onTc (τ := Cert.SsdDtIdeal.τ) (Cert.SsdDtIdeal.main (F := Ideal))) ⟨m, fun _ => 0, g⟩ (fun r => ∀ c : Dev Cert.SsdDtIdeal.nD,
          r.2.mem ((c.tc : Thread Cert.SsdDtIdeal.nD Cert.SsdDtIdeal.τ).loc Cert.SsdDtIdeal.main_v1) = v0 c
          ∧ r.2.mem ((c.tc : Thread Cert.SsdDtIdeal.nD Cert.SsdDtIdeal.τ).loc Cert.SsdDtIdeal.main_v2) = v1 c
          ∧ r.2.mem ((c.tc : Thread Cert.SsdDtIdeal.nD Cert.SsdDtIdeal.τ).loc Cert.SsdDtIdeal.main_v3) = v2 c
          ∧ r.2.mem ((c.tc : Thread Cert.SsdDtIdeal.nD Cert.SsdDtIdeal.τ).loc Cert.SsdDtIdeal.main_arg0) = m ((c.tc : Thread Cert.SsdDtIdeal.nD Cert.SsdDtIdeal.τ).loc Cert.SsdDtIdeal.main_arg0)
          ∧ r.2.mem ((c.tc : Thread Cert.SsdDtIdeal.nD Cert.SsdDtIdeal.τ).loc Cert.SsdDtIdeal.main_arg1) = m ((c.tc : Thread Cert.SsdDtIdeal.nD Cert.SsdDtIdeal.τ).loc Cert.SsdDtIdeal.main_arg1)
          ∧ r.2.mem ((c.tc : Thread Cert.SsdDtIdeal.nD Cert.SsdDtIdeal.τ).loc Cert.SsdDtIdeal.main_arg2) = m ((c.tc : Thread Cert.SsdDtIdeal.nD Cert.SsdDtIdeal.τ).loc Cert.SsdDtIdeal.main_arg2)
          ∧ r.2.mem ((c.tc : Thread Cert.SsdDtIdeal.nD Cert.SsdDtIdeal.τ).loc Cert.SsdDtIdeal.main_arg3) = m ((c.tc : Thread Cert.SsdDtIdeal.nD Cert.SsdDtIdeal.τ).loc Cert.SsdDtIdeal.main_arg3))
      ∧ θ_run (Cert.SsdDtRefIdeal.defs (F := Ideal)) (onTc (τ := Cert.SsdDtRefIdeal.τ) (Cert.SsdDtRefIdeal.main (F := Ideal))) ⟨m', fun _ => 0, g'⟩ (fun r => ∀ c : Dev Cert.SsdDtRefIdeal.nD,
          r.2.mem ((c.tc : Thread Cert.SsdDtRefIdeal.nD Cert.SsdDtRefIdeal.τ).loc Cert.SsdDtRefIdeal.main_v1) = v0 c
          ∧ r.2.mem ((c.tc : Thread Cert.SsdDtRefIdeal.nD Cert.SsdDtRefIdeal.τ).loc Cert.SsdDtRefIdeal.main_v5) = v1 c
          ∧ r.2.mem ((c.tc : Thread Cert.SsdDtRefIdeal.nD Cert.SsdDtRefIdeal.τ).loc Cert.SsdDtRefIdeal.main_v6) = v2 c
          ∧ r.2.mem ((c.tc : Thread Cert.SsdDtRefIdeal.nD Cert.SsdDtRefIdeal.τ).loc Cert.SsdDtRefIdeal.main_arg0) = m' ((c.tc : Thread Cert.SsdDtRefIdeal.nD Cert.SsdDtRefIdeal.τ).loc Cert.SsdDtRefIdeal.main_arg0)
          ∧ r.2.mem ((c.tc : Thread Cert.SsdDtRefIdeal.nD Cert.SsdDtRefIdeal.τ).loc Cert.SsdDtRefIdeal.main_arg1) = m' ((c.tc : Thread Cert.SsdDtRefIdeal.nD Cert.SsdDtRefIdeal.τ).loc Cert.SsdDtRefIdeal.main_arg1)
          ∧ r.2.mem ((c.tc : Thread Cert.SsdDtRefIdeal.nD Cert.SsdDtRefIdeal.τ).loc Cert.SsdDtRefIdeal.main_arg2) = m' ((c.tc : Thread Cert.SsdDtRefIdeal.nD Cert.SsdDtRefIdeal.τ).loc Cert.SsdDtRefIdeal.main_arg2)
          ∧ r.2.mem ((c.tc : Thread Cert.SsdDtRefIdeal.nD Cert.SsdDtRefIdeal.τ).loc Cert.SsdDtRefIdeal.main_arg3) = m' ((c.tc : Thread Cert.SsdDtRefIdeal.nD Cert.SsdDtRefIdeal.τ).loc Cert.SsdDtRefIdeal.main_arg3))

def preserves_PleFwd_PleFwdIdeal : Prop :=
  True

def algebraic_PleFwdIdeal_PleFwdRefIdeal [hPleFwdIdeal : Cert.PleFwdIdeal.Facts] [hPleFwdRefIdeal : Cert.PleFwdRefIdeal.Facts] : Prop :=
  ∀ (m : (ℓ : Loc Cert.PleFwdIdeal.nD Cert.PleFwdIdeal.τ Cert.PleFwdIdeal.sig) → Buf (Elt Ideal) ℓ) (g : Dev Cert.PleFwdIdeal.nD → PrngReg)
    (m' : (ℓ : Loc Cert.PleFwdRefIdeal.nD Cert.PleFwdRefIdeal.τ Cert.PleFwdRefIdeal.sig) → Buf (Elt Ideal) ℓ) (g' : Dev Cert.PleFwdRefIdeal.nD → PrngReg), Pre_PleFwdIdeal m →
    (∀ c : Dev Cert.PleFwdIdeal.nD,
      m' ((c.tc : Thread Cert.PleFwdRefIdeal.nD Cert.PleFwdRefIdeal.τ).loc Cert.PleFwdRefIdeal.main_arg0) = m ((c.tc : Thread Cert.PleFwdIdeal.nD Cert.PleFwdIdeal.τ).loc Cert.PleFwdIdeal.main_arg0)
      ∧ m' ((c.tc : Thread Cert.PleFwdRefIdeal.nD Cert.PleFwdRefIdeal.τ).loc Cert.PleFwdRefIdeal.main_arg1) = m ((c.tc : Thread Cert.PleFwdIdeal.nD Cert.PleFwdIdeal.τ).loc Cert.PleFwdIdeal.main_arg1)
      ∧ m' ((c.tc : Thread Cert.PleFwdRefIdeal.nD Cert.PleFwdRefIdeal.τ).loc Cert.PleFwdRefIdeal.main_arg2) = m ((c.tc : Thread Cert.PleFwdIdeal.nD Cert.PleFwdIdeal.τ).loc Cert.PleFwdIdeal.main_arg2)) →
    ∃ (v0 : (c : Dev Cert.PleFwdIdeal.nD) → Buf (Elt Ideal) ((c.tc : Thread Cert.PleFwdIdeal.nD Cert.PleFwdIdeal.τ).loc Cert.PleFwdIdeal.main_v0)),
      θ_run (Cert.PleFwdIdeal.defs (F := Ideal)) (onTc (τ := Cert.PleFwdIdeal.τ) (Cert.PleFwdIdeal.main (F := Ideal))) ⟨m, fun _ => 0, g⟩ (fun r => ∀ c : Dev Cert.PleFwdIdeal.nD,
          r.2.mem ((c.tc : Thread Cert.PleFwdIdeal.nD Cert.PleFwdIdeal.τ).loc Cert.PleFwdIdeal.main_v0) = v0 c
          ∧ r.2.mem ((c.tc : Thread Cert.PleFwdIdeal.nD Cert.PleFwdIdeal.τ).loc Cert.PleFwdIdeal.main_arg0) = m ((c.tc : Thread Cert.PleFwdIdeal.nD Cert.PleFwdIdeal.τ).loc Cert.PleFwdIdeal.main_arg0)
          ∧ r.2.mem ((c.tc : Thread Cert.PleFwdIdeal.nD Cert.PleFwdIdeal.τ).loc Cert.PleFwdIdeal.main_arg1) = m ((c.tc : Thread Cert.PleFwdIdeal.nD Cert.PleFwdIdeal.τ).loc Cert.PleFwdIdeal.main_arg1)
          ∧ r.2.mem ((c.tc : Thread Cert.PleFwdIdeal.nD Cert.PleFwdIdeal.τ).loc Cert.PleFwdIdeal.main_arg2) = m ((c.tc : Thread Cert.PleFwdIdeal.nD Cert.PleFwdIdeal.τ).loc Cert.PleFwdIdeal.main_arg2))
      ∧ θ_run (Cert.PleFwdRefIdeal.defs (F := Ideal)) (onTc (τ := Cert.PleFwdRefIdeal.τ) (Cert.PleFwdRefIdeal.main (F := Ideal))) ⟨m', fun _ => 0, g'⟩ (fun r => ∀ c : Dev Cert.PleFwdRefIdeal.nD,
          r.2.mem ((c.tc : Thread Cert.PleFwdRefIdeal.nD Cert.PleFwdRefIdeal.τ).loc Cert.PleFwdRefIdeal.main_v7) = v0 c
          ∧ r.2.mem ((c.tc : Thread Cert.PleFwdRefIdeal.nD Cert.PleFwdRefIdeal.τ).loc Cert.PleFwdRefIdeal.main_arg0) = m' ((c.tc : Thread Cert.PleFwdRefIdeal.nD Cert.PleFwdRefIdeal.τ).loc Cert.PleFwdRefIdeal.main_arg0)
          ∧ r.2.mem ((c.tc : Thread Cert.PleFwdRefIdeal.nD Cert.PleFwdRefIdeal.τ).loc Cert.PleFwdRefIdeal.main_arg1) = m' ((c.tc : Thread Cert.PleFwdRefIdeal.nD Cert.PleFwdRefIdeal.τ).loc Cert.PleFwdRefIdeal.main_arg1)
          ∧ r.2.mem ((c.tc : Thread Cert.PleFwdRefIdeal.nD Cert.PleFwdRefIdeal.τ).loc Cert.PleFwdRefIdeal.main_arg2) = m' ((c.tc : Thread Cert.PleFwdRefIdeal.nD Cert.PleFwdRefIdeal.τ).loc Cert.PleFwdRefIdeal.main_arg2))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v13) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_DtFwd_DtFwdIdeal : Prop :=
  True

def algebraic_DtFwdIdeal_DtFwdRefIdeal [hDtFwdIdeal : Cert.DtFwdIdeal.Facts] [hDtFwdRefIdeal : Cert.DtFwdRefIdeal.Facts] : Prop :=
  ∀ (m : (ℓ : Loc Cert.DtFwdIdeal.nD Cert.DtFwdIdeal.τ Cert.DtFwdIdeal.sig) → Buf (Elt Ideal) ℓ) (g : Dev Cert.DtFwdIdeal.nD → PrngReg)
    (m' : (ℓ : Loc Cert.DtFwdRefIdeal.nD Cert.DtFwdRefIdeal.τ Cert.DtFwdRefIdeal.sig) → Buf (Elt Ideal) ℓ) (g' : Dev Cert.DtFwdRefIdeal.nD → PrngReg), Pre_DtFwdIdeal m →
    (∀ c : Dev Cert.DtFwdIdeal.nD,
      m' ((c.tc : Thread Cert.DtFwdRefIdeal.nD Cert.DtFwdRefIdeal.τ).loc Cert.DtFwdRefIdeal.main_arg0) = m ((c.tc : Thread Cert.DtFwdIdeal.nD Cert.DtFwdIdeal.τ).loc Cert.DtFwdIdeal.main_arg0)
      ∧ m' ((c.tc : Thread Cert.DtFwdRefIdeal.nD Cert.DtFwdRefIdeal.τ).loc Cert.DtFwdRefIdeal.main_arg1) = m ((c.tc : Thread Cert.DtFwdIdeal.nD Cert.DtFwdIdeal.τ).loc Cert.DtFwdIdeal.main_arg1)
      ∧ m' ((c.tc : Thread Cert.DtFwdRefIdeal.nD Cert.DtFwdRefIdeal.τ).loc Cert.DtFwdRefIdeal.main_arg2) = m ((c.tc : Thread Cert.DtFwdIdeal.nD Cert.DtFwdIdeal.τ).loc Cert.DtFwdIdeal.main_arg2)) →
    ∃ (v0 : (c : Dev Cert.DtFwdIdeal.nD) → Buf (Elt Ideal) ((c.tc : Thread Cert.DtFwdIdeal.nD Cert.DtFwdIdeal.τ).loc Cert.DtFwdIdeal.main_v2_0)) (v1 : (c : Dev Cert.DtFwdIdeal.nD) → Buf (Elt Ideal) ((c.tc : Thread Cert.DtFwdIdeal.nD Cert.DtFwdIdeal.τ).loc Cert.DtFwdIdeal.main_v2_1)),
      θ_run (Cert.DtFwdIdeal.defs (F := Ideal)) (onTc (τ := Cert.DtFwdIdeal.τ) (Cert.DtFwdIdeal.main (F := Ideal))) ⟨m, fun _ => 0, g⟩ (fun r => ∀ c : Dev Cert.DtFwdIdeal.nD,
          r.2.mem ((c.tc : Thread Cert.DtFwdIdeal.nD Cert.DtFwdIdeal.τ).loc Cert.DtFwdIdeal.main_v2_0) = v0 c
          ∧ r.2.mem ((c.tc : Thread Cert.DtFwdIdeal.nD Cert.DtFwdIdeal.τ).loc Cert.DtFwdIdeal.main_v2_1) = v1 c
          ∧ r.2.mem ((c.tc : Thread Cert.DtFwdIdeal.nD Cert.DtFwdIdeal.τ).loc Cert.DtFwdIdeal.main_arg0) = m ((c.tc : Thread Cert.DtFwdIdeal.nD Cert.DtFwdIdeal.τ).loc Cert.DtFwdIdeal.main_arg0)
          ∧ r.2.mem ((c.tc : Thread Cert.DtFwdIdeal.nD Cert.DtFwdIdeal.τ).loc Cert.DtFwdIdeal.main_arg1) = m ((c.tc : Thread Cert.DtFwdIdeal.nD Cert.DtFwdIdeal.τ).loc Cert.DtFwdIdeal.main_arg1)
          ∧ r.2.mem ((c.tc : Thread Cert.DtFwdIdeal.nD Cert.DtFwdIdeal.τ).loc Cert.DtFwdIdeal.main_arg2) = m ((c.tc : Thread Cert.DtFwdIdeal.nD Cert.DtFwdIdeal.τ).loc Cert.DtFwdIdeal.main_arg2))
      ∧ θ_run (Cert.DtFwdRefIdeal.defs (F := Ideal)) (onTc (τ := Cert.DtFwdRefIdeal.τ) (Cert.DtFwdRefIdeal.main (F := Ideal))) ⟨m', fun _ => 0, g'⟩ (fun r => ∀ c : Dev Cert.DtFwdRefIdeal.nD,
          r.2.mem ((c.tc : Thread Cert.DtFwdRefIdeal.nD Cert.DtFwdRefIdeal.τ).loc Cert.DtFwdRefIdeal.main_v3) = v0 c
          ∧ r.2.mem ((c.tc : Thread Cert.DtFwdRefIdeal.nD Cert.DtFwdRefIdeal.τ).loc Cert.DtFwdRefIdeal.main_v6) = v1 c
          ∧ r.2.mem ((c.tc : Thread Cert.DtFwdRefIdeal.nD Cert.DtFwdRefIdeal.τ).loc Cert.DtFwdRefIdeal.main_arg0) = m' ((c.tc : Thread Cert.DtFwdRefIdeal.nD Cert.DtFwdRefIdeal.τ).loc Cert.DtFwdRefIdeal.main_arg0)
          ∧ r.2.mem ((c.tc : Thread Cert.DtFwdRefIdeal.nD Cert.DtFwdRefIdeal.τ).loc Cert.DtFwdRefIdeal.main_arg1) = m' ((c.tc : Thread Cert.DtFwdRefIdeal.nD Cert.DtFwdRefIdeal.τ).loc Cert.DtFwdRefIdeal.main_arg1)
          ∧ r.2.mem ((c.tc : Thread Cert.DtFwdRefIdeal.nD Cert.DtFwdRefIdeal.τ).loc Cert.DtFwdRefIdeal.main_arg2) = m' ((c.tc : Thread Cert.DtFwdRefIdeal.nD Cert.DtFwdRefIdeal.τ).loc Cert.DtFwdRefIdeal.main_arg2))

def preserves_NormBack_NormBackIdeal : Prop :=
  True

def algebraic_NormBackIdeal_NormBackRefIdeal [hNormBackIdeal : Cert.NormBackIdeal.Facts] [hNormBackRefIdeal : Cert.NormBackRefIdeal.Facts] : Prop :=
  ∀ (m : (ℓ : Loc Cert.NormBackIdeal.nD Cert.NormBackIdeal.τ Cert.NormBackIdeal.sig) → Buf (Elt Ideal) ℓ) (g : Dev Cert.NormBackIdeal.nD → PrngReg)
    (m' : (ℓ : Loc Cert.NormBackRefIdeal.nD Cert.NormBackRefIdeal.τ Cert.NormBackRefIdeal.sig) → Buf (Elt Ideal) ℓ) (g' : Dev Cert.NormBackRefIdeal.nD → PrngReg), Pre_NormBackIdeal m →
    (∀ c : Dev Cert.NormBackIdeal.nD,
      m' ((c.tc : Thread Cert.NormBackRefIdeal.nD Cert.NormBackRefIdeal.τ).loc Cert.NormBackRefIdeal.main_arg0) = m ((c.tc : Thread Cert.NormBackIdeal.nD Cert.NormBackIdeal.τ).loc Cert.NormBackIdeal.main_arg0)
      ∧ m' ((c.tc : Thread Cert.NormBackRefIdeal.nD Cert.NormBackRefIdeal.τ).loc Cert.NormBackRefIdeal.main_arg1) = m ((c.tc : Thread Cert.NormBackIdeal.nD Cert.NormBackIdeal.τ).loc Cert.NormBackIdeal.main_arg1)
      ∧ m' ((c.tc : Thread Cert.NormBackRefIdeal.nD Cert.NormBackRefIdeal.τ).loc Cert.NormBackRefIdeal.main_arg2) = m ((c.tc : Thread Cert.NormBackIdeal.nD Cert.NormBackIdeal.τ).loc Cert.NormBackIdeal.main_arg2)
      ∧ m' ((c.tc : Thread Cert.NormBackRefIdeal.nD Cert.NormBackRefIdeal.τ).loc Cert.NormBackRefIdeal.main_arg3) = m ((c.tc : Thread Cert.NormBackIdeal.nD Cert.NormBackIdeal.τ).loc Cert.NormBackIdeal.main_arg3)) →
    ∃ (v0 : (c : Dev Cert.NormBackIdeal.nD) → Buf (Elt Ideal) ((c.tc : Thread Cert.NormBackIdeal.nD Cert.NormBackIdeal.τ).loc Cert.NormBackIdeal.main_v1_0)) (v1 : (c : Dev Cert.NormBackIdeal.nD) → Buf (Elt Ideal) ((c.tc : Thread Cert.NormBackIdeal.nD Cert.NormBackIdeal.τ).loc Cert.NormBackIdeal.main_v1_1)),
      θ_run (Cert.NormBackIdeal.defs (F := Ideal)) (onTc (τ := Cert.NormBackIdeal.τ) (Cert.NormBackIdeal.main (F := Ideal))) ⟨m, fun _ => 0, g⟩ (fun r => ∀ c : Dev Cert.NormBackIdeal.nD,
          r.2.mem ((c.tc : Thread Cert.NormBackIdeal.nD Cert.NormBackIdeal.τ).loc Cert.NormBackIdeal.main_v1_0) = v0 c
          ∧ r.2.mem ((c.tc : Thread Cert.NormBackIdeal.nD Cert.NormBackIdeal.τ).loc Cert.NormBackIdeal.main_v1_1) = v1 c
          ∧ r.2.mem ((c.tc : Thread Cert.NormBackIdeal.nD Cert.NormBackIdeal.τ).loc Cert.NormBackIdeal.main_arg0) = m ((c.tc : Thread Cert.NormBackIdeal.nD Cert.NormBackIdeal.τ).loc Cert.NormBackIdeal.main_arg0)
          ∧ r.2.mem ((c.tc : Thread Cert.NormBackIdeal.nD Cert.NormBackIdeal.τ).loc Cert.NormBackIdeal.main_arg1) = m ((c.tc : Thread Cert.NormBackIdeal.nD Cert.NormBackIdeal.τ).loc Cert.NormBackIdeal.main_arg1)
          ∧ r.2.mem ((c.tc : Thread Cert.NormBackIdeal.nD Cert.NormBackIdeal.τ).loc Cert.NormBackIdeal.main_arg2) = m ((c.tc : Thread Cert.NormBackIdeal.nD Cert.NormBackIdeal.τ).loc Cert.NormBackIdeal.main_arg2)
          ∧ r.2.mem ((c.tc : Thread Cert.NormBackIdeal.nD Cert.NormBackIdeal.τ).loc Cert.NormBackIdeal.main_arg3) = m ((c.tc : Thread Cert.NormBackIdeal.nD Cert.NormBackIdeal.τ).loc Cert.NormBackIdeal.main_arg3))
      ∧ θ_run (Cert.NormBackRefIdeal.defs (F := Ideal)) (onTc (τ := Cert.NormBackRefIdeal.τ) (Cert.NormBackRefIdeal.main (F := Ideal))) ⟨m', fun _ => 0, g'⟩ (fun r => ∀ c : Dev Cert.NormBackRefIdeal.nD,
          r.2.mem ((c.tc : Thread Cert.NormBackRefIdeal.nD Cert.NormBackRefIdeal.τ).loc Cert.NormBackRefIdeal.main_v36) = v0 c
          ∧ r.2.mem ((c.tc : Thread Cert.NormBackRefIdeal.nD Cert.NormBackRefIdeal.τ).loc Cert.NormBackRefIdeal.main_v37) = v1 c
          ∧ r.2.mem ((c.tc : Thread Cert.NormBackRefIdeal.nD Cert.NormBackRefIdeal.τ).loc Cert.NormBackRefIdeal.main_arg0) = m' ((c.tc : Thread Cert.NormBackRefIdeal.nD Cert.NormBackRefIdeal.τ).loc Cert.NormBackRefIdeal.main_arg0)
          ∧ r.2.mem ((c.tc : Thread Cert.NormBackRefIdeal.nD Cert.NormBackRefIdeal.τ).loc Cert.NormBackRefIdeal.main_arg1) = m' ((c.tc : Thread Cert.NormBackRefIdeal.nD Cert.NormBackRefIdeal.τ).loc Cert.NormBackRefIdeal.main_arg1)
          ∧ r.2.mem ((c.tc : Thread Cert.NormBackRefIdeal.nD Cert.NormBackRefIdeal.τ).loc Cert.NormBackRefIdeal.main_arg2) = m' ((c.tc : Thread Cert.NormBackRefIdeal.nD Cert.NormBackRefIdeal.τ).loc Cert.NormBackRefIdeal.main_arg2)
          ∧ r.2.mem ((c.tc : Thread Cert.NormBackRefIdeal.nD Cert.NormBackRefIdeal.τ).loc Cert.NormBackRefIdeal.main_arg3) = m' ((c.tc : Thread Cert.NormBackRefIdeal.nD Cert.NormBackRefIdeal.τ).loc Cert.NormBackRefIdeal.main_arg3))

def preserves_DtBack_DtBackIdeal : Prop :=
  True

def algebraic_DtBackIdeal_DtBackRefIdeal [hDtBackIdeal : Cert.DtBackIdeal.Facts] [hDtBackRefIdeal : Cert.DtBackRefIdeal.Facts] : Prop :=
  ∀ (m : (ℓ : Loc Cert.DtBackIdeal.nD Cert.DtBackIdeal.τ Cert.DtBackIdeal.sig) → Buf (Elt Ideal) ℓ) (g : Dev Cert.DtBackIdeal.nD → PrngReg)
    (m' : (ℓ : Loc Cert.DtBackRefIdeal.nD Cert.DtBackRefIdeal.τ Cert.DtBackRefIdeal.sig) → Buf (Elt Ideal) ℓ) (g' : Dev Cert.DtBackRefIdeal.nD → PrngReg), Pre_DtBackIdeal m →
    (∀ c : Dev Cert.DtBackIdeal.nD,
      m' ((c.tc : Thread Cert.DtBackRefIdeal.nD Cert.DtBackRefIdeal.τ).loc Cert.DtBackRefIdeal.main_arg0) = m ((c.tc : Thread Cert.DtBackIdeal.nD Cert.DtBackIdeal.τ).loc Cert.DtBackIdeal.main_arg0)
      ∧ m' ((c.tc : Thread Cert.DtBackRefIdeal.nD Cert.DtBackRefIdeal.τ).loc Cert.DtBackRefIdeal.main_arg1) = m ((c.tc : Thread Cert.DtBackIdeal.nD Cert.DtBackIdeal.τ).loc Cert.DtBackIdeal.main_arg1)
      ∧ m' ((c.tc : Thread Cert.DtBackRefIdeal.nD Cert.DtBackRefIdeal.τ).loc Cert.DtBackRefIdeal.main_arg2) = m ((c.tc : Thread Cert.DtBackIdeal.nD Cert.DtBackIdeal.τ).loc Cert.DtBackIdeal.main_arg2)
      ∧ m' ((c.tc : Thread Cert.DtBackRefIdeal.nD Cert.DtBackRefIdeal.τ).loc Cert.DtBackRefIdeal.main_arg3) = m ((c.tc : Thread Cert.DtBackIdeal.nD Cert.DtBackIdeal.τ).loc Cert.DtBackIdeal.main_arg3)
      ∧ m' ((c.tc : Thread Cert.DtBackRefIdeal.nD Cert.DtBackRefIdeal.τ).loc Cert.DtBackRefIdeal.main_arg4) = m ((c.tc : Thread Cert.DtBackIdeal.nD Cert.DtBackIdeal.τ).loc Cert.DtBackIdeal.main_arg4)) →
    ∃ (v0 : (c : Dev Cert.DtBackIdeal.nD) → Buf (Elt Ideal) ((c.tc : Thread Cert.DtBackIdeal.nD Cert.DtBackIdeal.τ).loc Cert.DtBackIdeal.main_v6_0)) (v1 : (c : Dev Cert.DtBackIdeal.nD) → Buf (Elt Ideal) ((c.tc : Thread Cert.DtBackIdeal.nD Cert.DtBackIdeal.τ).loc Cert.DtBackIdeal.main_v6_1)) (v2 : (c : Dev Cert.DtBackIdeal.nD) → Buf (Elt Ideal) ((c.tc : Thread Cert.DtBackIdeal.nD Cert.DtBackIdeal.τ).loc Cert.DtBackIdeal.main_v6_2)),
      θ_run (Cert.DtBackIdeal.defs (F := Ideal)) (onTc (τ := Cert.DtBackIdeal.τ) (Cert.DtBackIdeal.main (F := Ideal))) ⟨m, fun _ => 0, g⟩ (fun r => ∀ c : Dev Cert.DtBackIdeal.nD,
          r.2.mem ((c.tc : Thread Cert.DtBackIdeal.nD Cert.DtBackIdeal.τ).loc Cert.DtBackIdeal.main_v6_0) = v0 c
          ∧ r.2.mem ((c.tc : Thread Cert.DtBackIdeal.nD Cert.DtBackIdeal.τ).loc Cert.DtBackIdeal.main_v6_1) = v1 c
          ∧ r.2.mem ((c.tc : Thread Cert.DtBackIdeal.nD Cert.DtBackIdeal.τ).loc Cert.DtBackIdeal.main_v6_2) = v2 c
          ∧ r.2.mem ((c.tc : Thread Cert.DtBackIdeal.nD Cert.DtBackIdeal.τ).loc Cert.DtBackIdeal.main_arg0) = m ((c.tc : Thread Cert.DtBackIdeal.nD Cert.DtBackIdeal.τ).loc Cert.DtBackIdeal.main_arg0)
          ∧ r.2.mem ((c.tc : Thread Cert.DtBackIdeal.nD Cert.DtBackIdeal.τ).loc Cert.DtBackIdeal.main_arg1) = m ((c.tc : Thread Cert.DtBackIdeal.nD Cert.DtBackIdeal.τ).loc Cert.DtBackIdeal.main_arg1)
          ∧ r.2.mem ((c.tc : Thread Cert.DtBackIdeal.nD Cert.DtBackIdeal.τ).loc Cert.DtBackIdeal.main_arg2) = m ((c.tc : Thread Cert.DtBackIdeal.nD Cert.DtBackIdeal.τ).loc Cert.DtBackIdeal.main_arg2)
          ∧ r.2.mem ((c.tc : Thread Cert.DtBackIdeal.nD Cert.DtBackIdeal.τ).loc Cert.DtBackIdeal.main_arg3) = m ((c.tc : Thread Cert.DtBackIdeal.nD Cert.DtBackIdeal.τ).loc Cert.DtBackIdeal.main_arg3)
          ∧ r.2.mem ((c.tc : Thread Cert.DtBackIdeal.nD Cert.DtBackIdeal.τ).loc Cert.DtBackIdeal.main_arg4) = m ((c.tc : Thread Cert.DtBackIdeal.nD Cert.DtBackIdeal.τ).loc Cert.DtBackIdeal.main_arg4))
      ∧ θ_run (Cert.DtBackRefIdeal.defs (F := Ideal)) (onTc (τ := Cert.DtBackRefIdeal.τ) (Cert.DtBackRefIdeal.main (F := Ideal))) ⟨m', fun _ => 0, g'⟩ (fun r => ∀ c : Dev Cert.DtBackRefIdeal.nD,
          r.2.mem ((c.tc : Thread Cert.DtBackRefIdeal.nD Cert.DtBackRefIdeal.τ).loc Cert.DtBackRefIdeal.main_v18) = v0 c
          ∧ r.2.mem ((c.tc : Thread Cert.DtBackRefIdeal.nD Cert.DtBackRefIdeal.τ).loc Cert.DtBackRefIdeal.main_v22) = v1 c
          ∧ r.2.mem ((c.tc : Thread Cert.DtBackRefIdeal.nD Cert.DtBackRefIdeal.τ).loc Cert.DtBackRefIdeal.main_v23) = v2 c
          ∧ r.2.mem ((c.tc : Thread Cert.DtBackRefIdeal.nD Cert.DtBackRefIdeal.τ).loc Cert.DtBackRefIdeal.main_arg0) = m' ((c.tc : Thread Cert.DtBackRefIdeal.nD Cert.DtBackRefIdeal.τ).loc Cert.DtBackRefIdeal.main_arg0)
          ∧ r.2.mem ((c.tc : Thread Cert.DtBackRefIdeal.nD Cert.DtBackRefIdeal.τ).loc Cert.DtBackRefIdeal.main_arg1) = m' ((c.tc : Thread Cert.DtBackRefIdeal.nD Cert.DtBackRefIdeal.τ).loc Cert.DtBackRefIdeal.main_arg1)
          ∧ r.2.mem ((c.tc : Thread Cert.DtBackRefIdeal.nD Cert.DtBackRefIdeal.τ).loc Cert.DtBackRefIdeal.main_arg2) = m' ((c.tc : Thread Cert.DtBackRefIdeal.nD Cert.DtBackRefIdeal.τ).loc Cert.DtBackRefIdeal.main_arg2)
          ∧ r.2.mem ((c.tc : Thread Cert.DtBackRefIdeal.nD Cert.DtBackRefIdeal.τ).loc Cert.DtBackRefIdeal.main_arg3) = m' ((c.tc : Thread Cert.DtBackRefIdeal.nD Cert.DtBackRefIdeal.τ).loc Cert.DtBackRefIdeal.main_arg3)
          ∧ r.2.mem ((c.tc : Thread Cert.DtBackRefIdeal.nD Cert.DtBackRefIdeal.τ).loc Cert.DtBackRefIdeal.main_arg4) = m' ((c.tc : Thread Cert.DtBackRefIdeal.nD Cert.DtBackRefIdeal.τ).loc Cert.DtBackRefIdeal.main_arg4))

def Claim : Prop :=
  ∃ (hKernel : Cert.Kernel.Facts) (hKernelIdeal : Cert.KernelIdeal.Facts) (hReferenceIdeal : Cert.ReferenceIdeal.Facts) (hSbIn : Cert.SbIn.Facts) (hSbInIdeal : Cert.SbInIdeal.Facts) (hSbInRefIdeal : Cert.SbInRefIdeal.Facts) (hSbInBack : Cert.SbInBack.Facts) (hSbInBackIdeal : Cert.SbInBackIdeal.Facts) (hSbInBackRefIdeal : Cert.SbInBackRefIdeal.Facts) (hPleGate : Cert.PleGate.Facts) (hPleGateIdeal : Cert.PleGateIdeal.Facts) (hPleGateRefIdeal : Cert.PleGateRefIdeal.Facts) (hSbOut : Cert.SbOut.Facts) (hSbOutIdeal : Cert.SbOutIdeal.Facts) (hSbOutRefIdeal : Cert.SbOutRefIdeal.Facts) (hSsdOut : Cert.SsdOut.Facts) (hSsdOutIdeal : Cert.SsdOutIdeal.Facts) (hSsdOutRefIdeal : Cert.SsdOutRefIdeal.Facts) (hSsdIn : Cert.SsdIn.Facts) (hSsdInIdeal : Cert.SsdInIdeal.Facts) (hSsdInRefIdeal : Cert.SsdInRefIdeal.Facts) (hSsdBc : Cert.SsdBc.Facts) (hSsdBcIdeal : Cert.SsdBcIdeal.Facts) (hSsdBcRefIdeal : Cert.SsdBcRefIdeal.Facts) (hPleProj : Cert.PleProj.Facts) (hPleProjIdeal : Cert.PleProjIdeal.Facts) (hPleProjRefIdeal : Cert.PleProjRefIdeal.Facts) (hPleBack : Cert.PleBack.Facts) (hPleBackIdeal : Cert.PleBackIdeal.Facts) (hPleBackRefIdeal : Cert.PleBackRefIdeal.Facts) (hSbGateBack : Cert.SbGateBack.Facts) (hSbGateBackIdeal : Cert.SbGateBackIdeal.Facts) (hSbGateBackRefIdeal : Cert.SbGateBackRefIdeal.Facts) (hSbFwd : Cert.SbFwd.Facts) (hSbFwdIdeal : Cert.SbFwdIdeal.Facts) (hSbFwdRefIdeal : Cert.SbFwdRefIdeal.Facts) (hSsdDt : Cert.SsdDt.Facts) (hSsdDtIdeal : Cert.SsdDtIdeal.Facts) (hSsdDtRefIdeal : Cert.SsdDtRefIdeal.Facts) (hPleFwd : Cert.PleFwd.Facts) (hPleFwdIdeal : Cert.PleFwdIdeal.Facts) (hPleFwdRefIdeal : Cert.PleFwdRefIdeal.Facts) (hNorm : Cert.Norm.Facts) (hNormIdeal : Cert.NormIdeal.Facts) (hNormRefIdeal : Cert.NormRefIdeal.Facts) (hDtFwd : Cert.DtFwd.Facts) (hDtFwdIdeal : Cert.DtFwdIdeal.Facts) (hDtFwdRefIdeal : Cert.DtFwdRefIdeal.Facts) (hNormBack : Cert.NormBack.Facts) (hNormBackIdeal : Cert.NormBackIdeal.Facts) (hNormBackRefIdeal : Cert.NormBackRefIdeal.Facts) (hDtBack : Cert.DtBack.Facts) (hDtBackIdeal : Cert.DtBackIdeal.Facts) (hDtBackRefIdeal : Cert.DtBackRefIdeal.Facts) (hPre_finite : Cert.Pre_finite.Facts) (hPre_finite_gate : Cert.Pre_finite_gate.Facts) (hPre_finite_logits : Cert.Pre_finite_logits.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_SbIn (hSbIn := hSbIn)
    ∧ quiescent_SbInIdeal (hSbInIdeal := hSbInIdeal)
    ∧ quiescent_SbInRefIdeal (hSbInRefIdeal := hSbInRefIdeal)
    ∧ quiescent_SbInBack (hSbInBack := hSbInBack)
    ∧ quiescent_SbInBackIdeal (hSbInBackIdeal := hSbInBackIdeal)
    ∧ quiescent_SbInBackRefIdeal (hSbInBackRefIdeal := hSbInBackRefIdeal)
    ∧ quiescent_PleGate (hPleGate := hPleGate)
    ∧ quiescent_PleGateIdeal (hPleGateIdeal := hPleGateIdeal)
    ∧ quiescent_PleGateRefIdeal (hPleGateRefIdeal := hPleGateRefIdeal)
    ∧ quiescent_SbOut (hSbOut := hSbOut)
    ∧ quiescent_SbOutIdeal (hSbOutIdeal := hSbOutIdeal)
    ∧ quiescent_SbOutRefIdeal (hSbOutRefIdeal := hSbOutRefIdeal)
    ∧ quiescent_SsdOut (hSsdOut := hSsdOut)
    ∧ quiescent_SsdOutIdeal (hSsdOutIdeal := hSsdOutIdeal)
    ∧ quiescent_SsdOutRefIdeal (hSsdOutRefIdeal := hSsdOutRefIdeal)
    ∧ quiescent_SsdIn (hSsdIn := hSsdIn)
    ∧ quiescent_SsdInIdeal (hSsdInIdeal := hSsdInIdeal)
    ∧ quiescent_SsdInRefIdeal (hSsdInRefIdeal := hSsdInRefIdeal)
    ∧ quiescent_SsdBc (hSsdBc := hSsdBc)
    ∧ quiescent_SsdBcIdeal (hSsdBcIdeal := hSsdBcIdeal)
    ∧ quiescent_SsdBcRefIdeal (hSsdBcRefIdeal := hSsdBcRefIdeal)
    ∧ quiescent_PleProj (hPleProj := hPleProj)
    ∧ quiescent_PleProjIdeal (hPleProjIdeal := hPleProjIdeal)
    ∧ quiescent_PleProjRefIdeal (hPleProjRefIdeal := hPleProjRefIdeal)
    ∧ quiescent_PleBack (hPleBack := hPleBack)
    ∧ quiescent_PleBackIdeal (hPleBackIdeal := hPleBackIdeal)
    ∧ quiescent_PleBackRefIdeal (hPleBackRefIdeal := hPleBackRefIdeal)
    ∧ quiescent_SbGateBack (hSbGateBack := hSbGateBack)
    ∧ quiescent_SbGateBackIdeal (hSbGateBackIdeal := hSbGateBackIdeal)
    ∧ quiescent_SbGateBackIdeal_pre_finite_gate (hSbGateBackIdeal := hSbGateBackIdeal) (hPre_finite_gate := hPre_finite_gate)
    ∧ quiescent_SbGateBackRefIdeal (hSbGateBackRefIdeal := hSbGateBackRefIdeal)
    ∧ quiescent_SbGateBackRefIdeal_pre_finite_gate (hSbGateBackRefIdeal := hSbGateBackRefIdeal) (hPre_finite_gate := hPre_finite_gate)
    ∧ quiescent_SbFwd (hSbFwd := hSbFwd)
    ∧ quiescent_SbFwdIdeal (hSbFwdIdeal := hSbFwdIdeal)
    ∧ quiescent_SbFwdIdeal_pre_finite_logits (hSbFwdIdeal := hSbFwdIdeal) (hPre_finite_logits := hPre_finite_logits)
    ∧ quiescent_SbFwdRefIdeal (hSbFwdRefIdeal := hSbFwdRefIdeal)
    ∧ quiescent_SbFwdRefIdeal_pre_finite_logits (hSbFwdRefIdeal := hSbFwdRefIdeal) (hPre_finite_logits := hPre_finite_logits)
    ∧ quiescent_SsdDt (hSsdDt := hSsdDt)
    ∧ quiescent_SsdDtIdeal (hSsdDtIdeal := hSsdDtIdeal)
    ∧ quiescent_SsdDtRefIdeal (hSsdDtRefIdeal := hSsdDtRefIdeal)
    ∧ quiescent_PleFwd (hPleFwd := hPleFwd)
    ∧ quiescent_PleFwdIdeal (hPleFwdIdeal := hPleFwdIdeal)
    ∧ quiescent_PleFwdRefIdeal (hPleFwdRefIdeal := hPleFwdRefIdeal)
    ∧ quiescent_Norm (hNorm := hNorm)
    ∧ quiescent_NormIdeal (hNormIdeal := hNormIdeal)
    ∧ quiescent_NormRefIdeal (hNormRefIdeal := hNormRefIdeal)
    ∧ quiescent_DtFwd (hDtFwd := hDtFwd)
    ∧ quiescent_DtFwdIdeal (hDtFwdIdeal := hDtFwdIdeal)
    ∧ quiescent_DtFwdRefIdeal (hDtFwdRefIdeal := hDtFwdRefIdeal)
    ∧ quiescent_NormBack (hNormBack := hNormBack)
    ∧ quiescent_NormBackIdeal (hNormBackIdeal := hNormBackIdeal)
    ∧ quiescent_NormBackRefIdeal (hNormBackRefIdeal := hNormBackRefIdeal)
    ∧ quiescent_DtBack (hDtBack := hDtBack)
    ∧ quiescent_DtBackIdeal (hDtBackIdeal := hDtBackIdeal)
    ∧ quiescent_DtBackRefIdeal (hDtBackRefIdeal := hDtBackRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_SbIn_SbInIdeal
    ∧ algebraic_SbInIdeal_SbInRefIdeal (hSbInIdeal := hSbInIdeal) (hSbInRefIdeal := hSbInRefIdeal)
    ∧ preserves_SbInBack_SbInBackIdeal
    ∧ algebraic_SbInBackIdeal_SbInBackRefIdeal (hSbInBackIdeal := hSbInBackIdeal) (hSbInBackRefIdeal := hSbInBackRefIdeal)
    ∧ preserves_PleGate_PleGateIdeal
    ∧ algebraic_PleGateIdeal_PleGateRefIdeal (hPleGateIdeal := hPleGateIdeal) (hPleGateRefIdeal := hPleGateRefIdeal)
    ∧ preserves_SbOut_SbOutIdeal
    ∧ algebraic_SbOutIdeal_SbOutRefIdeal (hSbOutIdeal := hSbOutIdeal) (hSbOutRefIdeal := hSbOutRefIdeal)
    ∧ preserves_SsdOut_SsdOutIdeal
    ∧ algebraic_SsdOutIdeal_SsdOutRefIdeal (hSsdOutIdeal := hSsdOutIdeal) (hSsdOutRefIdeal := hSsdOutRefIdeal)
    ∧ preserves_SsdIn_SsdInIdeal
    ∧ algebraic_SsdInIdeal_SsdInRefIdeal (hSsdInIdeal := hSsdInIdeal) (hSsdInRefIdeal := hSsdInRefIdeal)
    ∧ preserves_SsdBc_SsdBcIdeal
    ∧ algebraic_SsdBcIdeal_SsdBcRefIdeal (hSsdBcIdeal := hSsdBcIdeal) (hSsdBcRefIdeal := hSsdBcRefIdeal)
    ∧ preserves_PleProj_PleProjIdeal
    ∧ algebraic_PleProjIdeal_PleProjRefIdeal (hPleProjIdeal := hPleProjIdeal) (hPleProjRefIdeal := hPleProjRefIdeal)
    ∧ preserves_PleBack_PleBackIdeal
    ∧ algebraic_PleBackIdeal_PleBackRefIdeal (hPleBackIdeal := hPleBackIdeal) (hPleBackRefIdeal := hPleBackRefIdeal)
    ∧ preserves_SbGateBack_SbGateBackIdeal
    ∧ algebraic_SbGateBackIdeal_SbGateBackRefIdeal_pre_finite_gate (hSbGateBackIdeal := hSbGateBackIdeal) (hSbGateBackRefIdeal := hSbGateBackRefIdeal) (hPre_finite_gate := hPre_finite_gate)
    ∧ preserves_SbFwd_SbFwdIdeal
    ∧ algebraic_SbFwdIdeal_SbFwdRefIdeal_pre_finite_logits (hSbFwdIdeal := hSbFwdIdeal) (hSbFwdRefIdeal := hSbFwdRefIdeal) (hPre_finite_logits := hPre_finite_logits)
    ∧ preserves_SsdDt_SsdDtIdeal
    ∧ algebraic_SsdDtIdeal_SsdDtRefIdeal (hSsdDtIdeal := hSsdDtIdeal) (hSsdDtRefIdeal := hSsdDtRefIdeal)
    ∧ preserves_PleFwd_PleFwdIdeal
    ∧ algebraic_PleFwdIdeal_PleFwdRefIdeal (hPleFwdIdeal := hPleFwdIdeal) (hPleFwdRefIdeal := hPleFwdRefIdeal)
    ∧ preserves_Norm_NormIdeal
    ∧ algebraic_NormIdeal_NormRefIdeal (hNormIdeal := hNormIdeal) (hNormRefIdeal := hNormRefIdeal)
    ∧ preserves_DtFwd_DtFwdIdeal
    ∧ algebraic_DtFwdIdeal_DtFwdRefIdeal (hDtFwdIdeal := hDtFwdIdeal) (hDtFwdRefIdeal := hDtFwdRefIdeal)
    ∧ preserves_NormBack_NormBackIdeal
    ∧ algebraic_NormBackIdeal_NormBackRefIdeal (hNormBackIdeal := hNormBackIdeal) (hNormBackRefIdeal := hNormBackRefIdeal)
    ∧ preserves_DtBack_DtBackIdeal
    ∧ algebraic_DtBackIdeal_DtBackRefIdeal (hDtBackIdeal := hDtBackIdeal) (hDtBackRefIdeal := hDtBackRefIdeal)
-- ==== Pre_finite.lean ====
abbrev S2048x2048 : Shape := ⟨2, ![2048, 2048]⟩
abbrev S2048x8192 : Shape := ⟨2, ![2048, 8192]⟩
abbrev S_ : Shape := ⟨0, ![]⟩

class Facts : Prop where
  bitsLt_bf16_f32 : FTy.bits .bf16 < FTy.bits .f32
  bcast_S_S2048x2048 : S_.BroadcastsInDim S2048x2048 (![] : Fin 0 → Fin S2048x2048.rank)
  slices_S2048x8192_S2048x2048_0_4096 : S2048x8192.Slices ![0, 4096] S2048x2048

variable [Facts]

def fn {F : FTy → Type} [FloatOps F] (main_arg0 : FVec F S2048x2048 .bf16) (main_arg1 : FVec F S2048x2048 .bf16) (main_arg2 : FVec F S2048x8192 .f32) (main_arg3 : FVec F S2048x2048 .f32) : IVec S2048x2048 1 :=
  let main_v0 : FVec F S2048x2048 .f32 := (extf .f32 · bitsLt_bf16_f32) main_arg0
  let main_v1 : FVec F S2048x2048 .f32 := Host.absf main_v0
  let main_cst : FVec F S_ .f32 := constant S_ .f32 0x7F800000#32
  let main_v2 : FVec F S2048x2048 .f32 := broadcastInDim S2048x2048 ![] bcast_S_S2048x2048 main_cst
  let main_v3 : IVec S2048x2048 1 := cmpf .olt main_v1 main_v2
  let main_v4 : FVec F S2048x2048 .f32 := (extf .f32 · bitsLt_bf16_f32) main_arg1
  let main_v5 : FVec F S2048x2048 .f32 := Host.absf main_v4
  let main_cst_0 : FVec F S_ .f32 := constant S_ .f32 0x7F800000#32
  let main_v6 : FVec F S2048x2048 .f32 := broadcastInDim S2048x2048 ![] bcast_S_S2048x2048 main_cst_0
  let main_v7 : IVec S2048x2048 1 := cmpf .olt main_v5 main_v6
  let main_v8 : IVec S2048x2048 1 := andi main_v3 main_v7
  let main_v9 : FVec F S2048x2048 .f32 := (extractStridedSlice S2048x2048 ![0, 4096] · slices_S2048x8192_S2048x2048_0_4096) main_arg2
  let main_v10 : FVec F S2048x2048 .f32 := Host.absf main_v9
  let main_cst_1 : FVec F S_ .f32 := constant S_ .f32 0x7F800000#32
  let main_v11 : FVec F S2048x2048 .f32 := broadcastInDim S2048x2048 ![] bcast_S_S2048x2048 main_cst_1
  let main_v12 : IVec S2048x2048 1 := cmpf .olt main_v10 main_v11
  let main_v13 : IVec S2048x2048 1 := andi main_v8 main_v12
  let main_v14 : FVec F S2048x2048 .f32 := Host.absf main_arg3
  let main_cst_2 : FVec F S_ .f32 := constant S_ .f32 0x7F800000#32
  let main_v15 : FVec F S2048x2048 .f32 := broadcastInDim S2048x2048 ![] bcast_S_S2048x2048 main_cst_2
  let main_v16 : IVec S2048x2048 1 := cmpf .olt main_v14 main_v15
  let main_v17 : IVec S2048x2048 1 := andi main_v13 main_v16
  main_v17
-- ==== Pre_finite_gate.lean ====
abbrev S2048x2048 : Shape := ⟨2, ![2048, 2048]⟩
abbrev S2048x8192 : Shape := ⟨2, ![2048, 8192]⟩
abbrev S_ : Shape := ⟨0, ![]⟩

class Facts : Prop where
  bcast_S_S2048x2048 : S_.BroadcastsInDim S2048x2048 (![] : Fin 0 → Fin S2048x2048.rank)

variable [Facts]

def fn {F : FTy → Type} [FloatOps F] (main_arg0 : FVec F S2048x2048 .f32) (main_arg1 : FVec F S2048x2048 .f32) (main_arg2 : FVec F S2048x8192 .f32) : IVec S2048x2048 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_v3 : FVec F S2048x2048 .f32 := Host.absf main_arg1
  let main_cst_0 : FVec F S_ .f32 := constant S_ .f32 0x7F800000#32
  let main_v4 : FVec F S2048x2048 .f32 := broadcastInDim S2048x2048 ![] bcast_S_S2048x2048 main_cst_0
  let main_v5 : IVec S2048x2048 1 := cmpf .olt main_v3 main_v4
  let main_v6 : IVec S2048x2048 1 := andi main_v2 main_v5
  main_v6
-- ==== Pre_finite_logits.lean ====
abbrev S2048x2048 : Shape := ⟨2, ![2048, 2048]⟩
abbrev S2048x8192 : Shape := ⟨2, ![2048, 8192]⟩
abbrev S_ : Shape := ⟨0, ![]⟩

class Facts : Prop where
  bitsLt_bf16_f32 : FTy.bits .bf16 < FTy.bits .f32
  bcast_S_S2048x2048 : S_.BroadcastsInDim S2048x2048 (![] : Fin 0 → Fin S2048x2048.rank)

variable [Facts]

def fn {F : FTy → Type} [FloatOps F] (main_arg0 : FVec F S2048x2048 .bf16) (main_arg1 : FVec F S2048x2048 .bf16) (main_arg2 : FVec F S2048x8192 .f32) : IVec S2048x2048 1 :=
  let main_v0 : FVec F S2048x2048 .f32 := (extf .f32 · bitsLt_bf16_f32) main_arg0
  let main_v1 : FVec F S2048x2048 .f32 := Host.absf main_v0
  let main_cst : FVec F S_ .f32 := constant S_ .f32 0x7F800000#32
  let main_v2 : FVec F S2048x2048 .f32 := broadcastInDim S2048x2048 ![] bcast_S_S2048x2048 main_cst
  let main_v3 : IVec S2048x2048 1 := cmpf .olt main_v1 main_v2
  let main_v4 : FVec F S2048x2048 .f32 := (extf .f32 · bitsLt_bf16_f32) main_arg1
  let main_v5 : FVec F S2048x2048 .f32 := Host.absf main_v4
  let main_cst_0 : FVec F S_ .f32 := constant S_ .f32 0x7F800000#32
  let main_v6 : FVec F S2048x2048 .f32 := broadcastInDim S2048x2048 ![] bcast_S_S2048x2048 main_cst_0
  let main_v7 : IVec S2048x2048 1 := cmpf .olt main_v5 main_v6
  let main_v8 : IVec S2048x2048 1 := andi main_v3 main_v7
  main_v8
-- ==== Kernel.lean ====
abbrev S2048x2048 : Shape := ⟨2, ![2048, 2048]⟩
abbrev S2048x8192 : Shape := ⟨2, ![2048, 8192]⟩
abbrev S2048x16x128 : Shape := ⟨3, ![2048, 16, 128]⟩
abbrev S16x2048x128 : Shape := ⟨3, ![16, 2048, 128]⟩
abbrev S16x2048x2048 : Shape := ⟨3, ![16, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S16x2048 : Shape := ⟨2, ![16, 2048]⟩
abbrev S2048x16 : Shape := ⟨2, ![2048, 16]⟩
abbrev S2048x16x1 : Shape := ⟨3, ![2048, 16, 1]⟩
abbrev S2048x128 : Shape := ⟨2, ![2048, 128]⟩
abbrev S256x256 : Shape := ⟨2, ![256, 256]⟩
abbrev S256x128 : Shape := ⟨2, ![256, 128]⟩
abbrev S2048x256 : Shape := ⟨2, ![2048, 256]⟩
abbrev S6144x256 : Shape := ⟨2, ![6144, 256]⟩
abbrev S1792x128 : Shape := ⟨2, ![1792, 128]⟩
abbrev S1792x1 : Shape := ⟨2, ![1792, 1]⟩
abbrev S1792x256 : Shape := ⟨2, ![1792, 256]⟩
abbrev S5376x256 : Shape := ⟨2, ![5376, 256]⟩
abbrev S1792 : Shape := ⟨1, ![1792]⟩
abbrev S256x1 : Shape := ⟨2, ![256, 1]⟩
abbrev S1536x128 : Shape := ⟨2, ![1536, 128]⟩
abbrev S1536x1 : Shape := ⟨2, ![1536, 1]⟩
abbrev S1536x256 : Shape := ⟨2, ![1536, 256]⟩
abbrev S4608x256 : Shape := ⟨2, ![4608, 256]⟩
abbrev S1536 : Shape := ⟨1, ![1536]⟩
abbrev S512x128 : Shape := ⟨2, ![512, 128]⟩
abbrev S512x1 : Shape := ⟨2, ![512, 1]⟩
abbrev S1280x128 : Shape := ⟨2, ![1280, 128]⟩
abbrev S1280x1 : Shape := ⟨2, ![1280, 1]⟩
abbrev S1280x256 : Shape := ⟨2, ![1280, 256]⟩
abbrev S3840x256 : Shape := ⟨2, ![3840, 256]⟩
abbrev S1280 : Shape := ⟨1, ![1280]⟩
abbrev S768x128 : Shape := ⟨2, ![768, 128]⟩
abbrev S768x1 : Shape := ⟨2, ![768, 1]⟩
abbrev S1024x128 : Shape := ⟨2, ![1024, 128]⟩
abbrev S1024x1 : Shape := ⟨2, ![1024, 1]⟩
abbrev S1024x256 : Shape := ⟨2, ![1024, 256]⟩
abbrev S3072x256 : Shape := ⟨2, ![3072, 256]⟩
abbrev S1024 : Shape := ⟨1, ![1024]⟩
abbrev S768x256 : Shape := ⟨2, ![768, 256]⟩
abbrev S2304x256 : Shape := ⟨2, ![2304, 256]⟩
abbrev S768 : Shape := ⟨1, ![768]⟩
abbrev S512x256 : Shape := ⟨2, ![512, 256]⟩
abbrev S512 : Shape := ⟨1, ![512]⟩

abbrev nBuf : Space → Nat
  | .hbm => 52
  | .vmem => 16
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x8192, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x16x128, .f32⟩
  | .hbm, ⟨7, _⟩ => ⟨S16x2048x128, .f32⟩
  | .hbm, ⟨8, _⟩ => ⟨S2048x16x128, .f32⟩
  | .hbm, ⟨9, _⟩ => ⟨S16x2048x128, .f32⟩
  | .hbm, ⟨10, _⟩ => ⟨S16x2048x2048, .f32⟩
  | .hbm, ⟨11, _⟩ => ⟨S_, .f32⟩
  | .hbm, ⟨12, _⟩ => ⟨S16x2048x2048, .f32⟩
  | .hbm, ⟨13, _⟩ => ⟨S16x2048x2048, .f32⟩
  | .hbm, ⟨14, _⟩ => ⟨S2048, .i32⟩
  | .hbm, ⟨15, _⟩ => ⟨S1x2048, .i32⟩
  | .hbm, ⟨16, _⟩ => ⟨S2048, .i32⟩
  | .hbm, ⟨17, _⟩ => ⟨S2048x1, .i32⟩
  | .hbm, ⟨18, _⟩ => ⟨S2048x2048, .i32⟩
  | .hbm, ⟨19, _⟩ => ⟨S2048x2048, .i32⟩
  | .hbm, ⟨20, _⟩ => ⟨S2048x2048, .i1⟩
  | .hbm, ⟨21, _⟩ => ⟨S16x2048x2048, .f32⟩
  | .hbm, ⟨22, _⟩ => ⟨S16x2048x2048, .f32⟩
  | .hbm, ⟨23, _⟩ => ⟨S_, .f32⟩
  | .hbm, ⟨24, _⟩ => ⟨S16x2048x2048, .f32⟩
  | .hbm, ⟨25, _⟩ => ⟨S16x2048x2048, .f32⟩
  | .hbm, ⟨26, _⟩ => ⟨S16x2048x2048, .f32⟩
  | .hbm, ⟨27, _⟩ => ⟨S16x2048x2048, .f32⟩
  | .hbm, ⟨28, _⟩ => ⟨S16x2048x2048, .i1⟩
  | .hbm, ⟨29, _⟩ => ⟨S16x2048x2048, .f32⟩
  | .hbm, ⟨30, _⟩ => ⟨S16x2048x2048, .f32⟩
  | .hbm, ⟨31, _⟩ => ⟨S16x2048x2048, .f32⟩
  | .hbm, ⟨32, _⟩ => ⟨S16x2048x2048, .f32⟩
  | .hbm, ⟨33, _⟩ => ⟨S16x2048x2048, .f32⟩
  | .hbm, ⟨34, _⟩ => ⟨S16x2048x2048, .f32⟩
  | .hbm, ⟨35, _⟩ => ⟨S16x2048x2048, .f32⟩
  | .hbm, ⟨36, _⟩ => ⟨S16x2048x2048, .f32⟩
  | .hbm, ⟨37, _⟩ => ⟨S16x2048x2048, .f32⟩
  | .hbm, ⟨38, _⟩ => ⟨S_, .f32⟩
  | .hbm, ⟨39, _⟩ => ⟨S_, .f32⟩
  | .hbm, ⟨40, _⟩ => ⟨S16x2048x2048, .i1⟩
  | .hbm, ⟨41, _⟩ => ⟨S16x2048x2048, .f32⟩
  | .hbm, ⟨42, _⟩ => ⟨S16x2048x2048, .f32⟩
  | .hbm, ⟨43, _⟩ => ⟨S_, .f32⟩
  | .hbm, ⟨44, _⟩ => ⟨S16x2048, .f32⟩
  | .hbm, ⟨45, _⟩ => ⟨S2048x16, .f32⟩
  | .hbm, ⟨46, _⟩ => ⟨S2048x16x1, .f32⟩
  | .hbm, ⟨47, _⟩ => ⟨S2048x16x128, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S2048x2048, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1 : Ref sig .tc := ⟨.hbm, 36, rfl⟩
abbrev main_v17 : Ref sig .tc := ⟨.hbm, 37, rfl⟩
abbrev main_cst_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v18 : Ref sig .tc := ⟨.hbm, 42, rfl⟩
abbrev main_cst_1 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24_0 : Ref sig .tc := ⟨.hbm, 49, rfl⟩
abbrev main_v24_1 : Ref sig .tc := ⟨.hbm, 50, rfl⟩
abbrev main_v24_2 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def k0_mult1 : BitVec 32 :=
  let c0_i32 : BitVec 32 := 0#32
  let c2048_i32 : BitVec 32 := 2048#32
  let v14 : BitVec 32 := Scalar.muli c0_i32 c2048_i32
  v14
def k0_off1 : Fin 2 → Nat :=
  let c0_i32 : BitVec 32 := 0#32
  let c2048_i32 : BitVec 32 := 2048#32
  let v14 : BitVec 32 := Scalar.muli c0_i32 c2048_i32
  let v15 : BitVec 32 := v14
  let v16 : Index := Scalar.indexCast v15
  let c0_4 : Index := 0#32
  ![v16.toNat, 0]
def k0_off2 : Fin 2 → Nat :=
  let c0_i32 : BitVec 32 := 0#32
  let c2048_i32 : BitVec 32 := 2048#32
  let v14 : BitVec 32 := Scalar.muli c0_i32 c2048_i32
  let v15 : BitVec 32 := v14
  let v21 : Index := Scalar.indexCast v15
  let c0_6 : Index := 0#32
  ![v21.toNat, 0]
@[reducible] def k0_t1_loop : Scf.Loop 32 :=
  let c0_i32_9 : BitVec 32 := 0#32
  let c0_i32 : BitVec 32 := 0#32
  let v26 : BitVec 32 := Scalar.subi c0_i32 c0_i32_9
  let c1_i32 : BitVec 32 := 1#32
  let v28 : BitVec 32 := Scalar.divsi v26 c1_i32
  let v29 : BitVec 32 := Scalar.muli v28 c1_i32
  let v30 : BitVec 32 := Scalar.addi c0_i32_9 v29
  let c1_i32_10 : BitVec 32 := 1#32
  ⟨c0_i32_9, v30, c1_i32_10⟩
def k0_mult2 (k0_t1 : Fin k0_t1_loop.trips) : BitVec 32 :=
  let c0_i32_9 : BitVec 32 := 0#32
  let c1_i32_10 : BitVec 32 := 1#32
  let arg9 : BitVec 32 := Scf.iv c0_i32_9 c1_i32_10 k0_t1
  let c8_i32_212 : BitVec 32 := 8#32
  let v901 : BitVec 32 := Scalar.muli arg9 c8_i32_212
  let c0_i32_213 : BitVec 32 := 0#32
  let v902 : BitVec 32 := Scalar.addi v901 c0_i32_213
  let c256_i32_214 : BitVec 32 := 256#32
  let v903 : BitVec 32 := Scalar.muli v902 c256_i32_214
  v903
def k0_off3 (k0_t1 : Fin k0_t1_loop.trips) (c0_i32_213 : BitVec 32) : Fin 2 → Nat :=
  let c0_i32_9 : BitVec 32 := 0#32
  let c1_i32_10 : BitVec 32 := 1#32
  let arg9 : BitVec 32 := Scf.iv c0_i32_9 c1_i32_10 k0_t1
  let c8_i32_212 : BitVec 32 := 8#32
  let v901 : BitVec 32 := Scalar.muli arg9 c8_i32_212
  let v902 : BitVec 32 := Scalar.addi v901 c0_i32_213
  let c256_i32_214 : BitVec 32 := 256#32
  let v903 : BitVec 32 := Scalar.muli v902 c256_i32_214
  let v904 : BitVec 32 := v903
  let v905 : Index := Scalar.indexCast v904
  let c0_215 : Index := 0#32
  ![v905.toNat, 0]
def k0_mult3 (k0_t1 : Fin k0_t1_loop.trips) : BitVec 32 :=
  let c0_i32_9 : BitVec 32 := 0#32
  let c1_i32_10 : BitVec 32 := 1#32
  let arg9 : BitVec 32 := Scf.iv c0_i32_9 c1_i32_10 k0_t1
  let c8_i32_235 : BitVec 32 := 8#32
  let v991 : BitVec 32 := Scalar.muli arg9 c8_i32_235
  let c1_i32_236 : BitVec 32 := 1#32
  let v992 : BitVec 32 := Scalar.addi v991 c1_i32_236
  let c256_i32_237 : BitVec 32 := 256#32
  let v993 : BitVec 32 := Scalar.muli v992 c256_i32_237
  v993
def k0_mult4 (k0_t1 : Fin k0_t1_loop.trips) : BitVec 32 :=
  let c0_i32_9 : BitVec 32 := 0#32
  let c1_i32_10 : BitVec 32 := 1#32
  let arg9 : BitVec 32 := Scf.iv c0_i32_9 c1_i32_10 k0_t1
  let c8_i32_258 : BitVec 32 := 8#32
  let v1081 : BitVec 32 := Scalar.muli arg9 c8_i32_258
  let c2_i32_259 : BitVec 32 := 2#32
  let v1082 : BitVec 32 := Scalar.addi v1081 c2_i32_259
  let c256_i32_260 : BitVec 32 := 256#32
  let v1083 : BitVec 32 := Scalar.muli v1082 c256_i32_260
  v1083
def k0_mult5 (k0_t1 : Fin k0_t1_loop.trips) : BitVec 32 :=
  let c0_i32_9 : BitVec 32 := 0#32
  let c1_i32_10 : BitVec 32 := 1#32
  let arg9 : BitVec 32 := Scf.iv c0_i32_9 c1_i32_10 k0_t1
  let c8_i32_281 : BitVec 32 := 8#32
  let v1171 : BitVec 32 := Scalar.muli arg9 c8_i32_281
  let c3_i32_282 : BitVec 32 := 3#32
  let v1172 : BitVec 32 := Scalar.addi v1171 c3_i32_282
  let c256_i32_283 : BitVec 32 := 256#32
  let v1173 : BitVec 32 := Scalar.muli v1172 c256_i32_283
  v1173
def k0_mult6 (k0_t1 : Fin k0_t1_loop.trips) : BitVec 32 :=
  let c0_i32_9 : BitVec 32 := 0#32
  let c1_i32_10 : BitVec 32 := 1#32
  let arg9 : BitVec 32 := Scf.iv c0_i32_9 c1_i32_10 k0_t1
  let c8_i32_304 : BitVec 32 := 8#32
  let v1261 : BitVec 32 := Scalar.muli arg9 c8_i32_304
  let c4_i32_305 : BitVec 32 := 4#32
  let v1262 : BitVec 32 := Scalar.addi v1261 c4_i32_305
  let c256_i32_306 : BitVec 32 := 256#32
  let v1263 : BitVec 32 := Scalar.muli v1262 c256_i32_306
  v1263
def k0_mult7 (k0_t1 : Fin k0_t1_loop.trips) : BitVec 32 :=
  let c0_i32_9 : BitVec 32 := 0#32
  let c1_i32_10 : BitVec 32 := 1#32
  let arg9 : BitVec 32 := Scf.iv c0_i32_9 c1_i32_10 k0_t1
  let c8_i32_327 : BitVec 32 := 8#32
  let v1351 : BitVec 32 := Scalar.muli arg9 c8_i32_327
  let c5_i32_328 : BitVec 32 := 5#32
  let v1352 : BitVec 32 := Scalar.addi v1351 c5_i32_328
  let c256_i32_329 : BitVec 32 := 256#32
  let v1353 : BitVec 32 := Scalar.muli v1352 c256_i32_329
  v1353
def k0_mult8 (k0_t1 : Fin k0_t1_loop.trips) : BitVec 32 :=
  let c0_i32_9 : BitVec 32 := 0#32
  let c1_i32_10 : BitVec 32 := 1#32
  let arg9 : BitVec 32 := Scf.iv c0_i32_9 c1_i32_10 k0_t1
  let c8_i32_350 : BitVec 32 := 8#32
  let v1441 : BitVec 32 := Scalar.muli arg9 c8_i32_350
  let c6_i32_351 : BitVec 32 := 6#32
  let v1442 : BitVec 32 := Scalar.addi v1441 c6_i32_351
  let c256_i32_352 : BitVec 32 := 256#32
  let v1443 : BitVec 32 := Scalar.muli v1442 c256_i32_352
  v1443
def k0_mult9 (k0_t1 : Fin k0_t1_loop.trips) : BitVec 32 :=
  let c0_i32_9 : BitVec 32 := 0#32
  let c1_i32_10 : BitVec 32 := 1#32
  let arg9 : BitVec 32 := Scf.iv c0_i32_9 c1_i32_10 k0_t1
  let c8_i32_373 : BitVec 32 := 8#32
  let v1531 : BitVec 32 := Scalar.muli arg9 c8_i32_373
  let c7_i32_374 : BitVec 32 := 7#32
  let v1532 : BitVec 32 := Scalar.addi v1531 c7_i32_374
  let c256_i32_375 : BitVec 32 := 256#32
  let v1533 : BitVec 32 := Scalar.muli v1532 c256_i32_375
  v1533
@[reducible] def k0_t2_loop : Scf.Loop 32 :=
  let c0_i32_9 : BitVec 32 := 0#32
  let c0_i32 : BitVec 32 := 0#32
  let v26 : BitVec 32 := Scalar.subi c0_i32 c0_i32_9
  let c1_i32 : BitVec 32 := 1#32
  let v28 : BitVec 32 := Scalar.divsi v26 c1_i32
  let v29 : BitVec 32 := Scalar.muli v28 c1_i32
  let v30 : BitVec 32 := Scalar.addi c0_i32_9 v29
  let v27 : BitVec 32 := Scalar.addi c0_i32_9 v26
  let c1_i32_11 : BitVec 32 := 1#32
  ⟨v30, v27, c1_i32_11⟩
def k0_mult10 (k0_t2 : Fin k0_t2_loop.trips) : BitVec 32 :=
  let c0_i32_9 : BitVec 32 := 0#32
  let c0_i32 : BitVec 32 := 0#32
  let v26 : BitVec 32 := Scalar.subi c0_i32 c0_i32_9
  let c1_i32 : BitVec 32 := 1#32
  let v28 : BitVec 32 := Scalar.divsi v26 c1_i32
  let v29 : BitVec 32 := Scalar.muli v28 c1_i32
  let v30 : BitVec 32 := Scalar.addi c0_i32_9 v29
  let c1_i32_11 : BitVec 32 := 1#32
  let arg9 : BitVec 32 := Scf.iv v30 c1_i32_11 k0_t2
  let c8_i32_212 : BitVec 32 := 8#32
  let v901 : BitVec 32 := Scalar.muli arg9 c8_i32_212
  let c0_i32_213 : BitVec 32 := 0#32
  let v902 : BitVec 32 := Scalar.addi v901 c0_i32_213
  let c256_i32_214 : BitVec 32 := 256#32
  let v903 : BitVec 32 := Scalar.muli v902 c256_i32_214
  v903
def k0_off4 (k0_t2 : Fin k0_t2_loop.trips) (c0_i32_213 : BitVec 32) : Fin 2 → Nat :=
  let c0_i32_9 : BitVec 32 := 0#32
  let c0_i32 : BitVec 32 := 0#32
  let v26 : BitVec 32 := Scalar.subi c0_i32 c0_i32_9
  let c1_i32 : BitVec 32 := 1#32
  let v28 : BitVec 32 := Scalar.divsi v26 c1_i32
  let v29 : BitVec 32 := Scalar.muli v28 c1_i32
  let v30 : BitVec 32 := Scalar.addi c0_i32_9 v29
  let c1_i32_11 : BitVec 32 := 1#32
  let arg9 : BitVec 32 := Scf.iv v30 c1_i32_11 k0_t2
  let c8_i32_212 : BitVec 32 := 8#32
  let v901 : BitVec 32 := Scalar.muli arg9 c8_i32_212
  let v902 : BitVec 32 := Scalar.addi v901 c0_i32_213
  let c256_i32_214 : BitVec 32 := 256#32
  let v903 : BitVec 32 := Scalar.muli v902 c256_i32_214
  let v904 : BitVec 32 := v903
  let v905 : Index := Scalar.indexCast v904
  let c0_215 : Index := 0#32
  ![v905.toNat, 0]
def k0_mult11 (k0_t2 : Fin k0_t2_loop.trips) : BitVec 32 :=
  let c0_i32_9 : BitVec 32 := 0#32
  let c0_i32 : BitVec 32 := 0#32
  let v26 : BitVec 32 := Scalar.subi c0_i32 c0_i32_9
  let c1_i32 : BitVec 32 := 1#32
  let v28 : BitVec 32 := Scalar.divsi v26 c1_i32
  let v29 : BitVec 32 := Scalar.muli v28 c1_i32
  let v30 : BitVec 32 := Scalar.addi c0_i32_9 v29
  let c1_i32_11 : BitVec 32 := 1#32
  let arg9 : BitVec 32 := Scf.iv v30 c1_i32_11 k0_t2
  let c8_i32_235 : BitVec 32 := 8#32
  let v991 : BitVec 32 := Scalar.muli arg9 c8_i32_235
  let c1_i32_236 : BitVec 32 := 1#32
  let v992 : BitVec 32 := Scalar.addi v991 c1_i32_236
  let c256_i32_237 : BitVec 32 := 256#32
  let v993 : BitVec 32 := Scalar.muli v992 c256_i32_237
  v993
def k0_mult12 (k0_t2 : Fin k0_t2_loop.trips) : BitVec 32 :=
  let c0_i32_9 : BitVec 32 := 0#32
  let c0_i32 : BitVec 32 := 0#32
  let v26 : BitVec 32 := Scalar.subi c0_i32 c0_i32_9
  let c1_i32 : BitVec 32 := 1#32
  let v28 : BitVec 32 := Scalar.divsi v26 c1_i32
  let v29 : BitVec 32 := Scalar.muli v28 c1_i32
  let v30 : BitVec 32 := Scalar.addi c0_i32_9 v29
  let c1_i32_11 : BitVec 32 := 1#32
  let arg9 : BitVec 32 := Scf.iv v30 c1_i32_11 k0_t2
  let c8_i32_258 : BitVec 32 := 8#32
  let v1081 : BitVec 32 := Scalar.muli arg9 c8_i32_258
  let c2_i32_259 : BitVec 32 := 2#32
  let v1082 : BitVec 32 := Scalar.addi v1081 c2_i32_259
  let c256_i32_260 : BitVec 32 := 256#32
  let v1083 : BitVec 32 := Scalar.muli v1082 c256_i32_260
  v1083
def k0_mult13 (k0_t2 : Fin k0_t2_loop.trips) : BitVec 32 :=
  let c0_i32_9 : BitVec 32 := 0#32
  let c0_i32 : BitVec 32 := 0#32
  let v26 : BitVec 32 := Scalar.subi c0_i32 c0_i32_9
  let c1_i32 : BitVec 32 := 1#32
  let v28 : BitVec 32 := Scalar.divsi v26 c1_i32
  let v29 : BitVec 32 := Scalar.muli v28 c1_i32
  let v30 : BitVec 32 := Scalar.addi c0_i32_9 v29
  let c1_i32_11 : BitVec 32 := 1#32
  let arg9 : BitVec 32 := Scf.iv v30 c1_i32_11 k0_t2
  let c8_i32_281 : BitVec 32 := 8#32
  let v1171 : BitVec 32 := Scalar.muli arg9 c8_i32_281
  let c3_i32_282 : BitVec 32 := 3#32
  let v1172 : BitVec 32 := Scalar.addi v1171 c3_i32_282
  let c256_i32_283 : BitVec 32 := 256#32
  let v1173 : BitVec 32 := Scalar.muli v1172 c256_i32_283
  v1173
def k0_mult14 (k0_t2 : Fin k0_t2_loop.trips) : BitVec 32 :=
  let c0_i32_9 : BitVec 32 := 0#32
  let c0_i32 : BitVec 32 := 0#32
  let v26 : BitVec 32 := Scalar.subi c0_i32 c0_i32_9
  let c1_i32 : BitVec 32 := 1#32
  let v28 : BitVec 32 := Scalar.divsi v26 c1_i32
  let v29 : BitVec 32 := Scalar.muli v28 c1_i32
  let v30 : BitVec 32 := Scalar.addi c0_i32_9 v29
  let c1_i32_11 : BitVec 32 := 1#32
  let arg9 : BitVec 32 := Scf.iv v30 c1_i32_11 k0_t2
  let c8_i32_304 : BitVec 32 := 8#32
  let v1261 : BitVec 32 := Scalar.muli arg9 c8_i32_304
  let c4_i32_305 : BitVec 32 := 4#32
  let v1262 : BitVec 32 := Scalar.addi v1261 c4_i32_305
  let c256_i32_306 : BitVec 32 := 256#32
  let v1263 : BitVec 32 := Scalar.muli v1262 c256_i32_306
  v1263
def k0_mult15 (k0_t2 : Fin k0_t2_loop.trips) : BitVec 32 :=
  let c0_i32_9 : BitVec 32 := 0#32
  let c0_i32 : BitVec 32 := 0#32
  let v26 : BitVec 32 := Scalar.subi c0_i32 c0_i32_9
  let c1_i32 : BitVec 32 := 1#32
  let v28 : BitVec 32 := Scalar.divsi v26 c1_i32
  let v29 : BitVec 32 := Scalar.muli v28 c1_i32
  let v30 : BitVec 32 := Scalar.addi c0_i32_9 v29
  let c1_i32_11 : BitVec 32 := 1#32
  let arg9 : BitVec 32 := Scf.iv v30 c1_i32_11 k0_t2
  let c8_i32_327 : BitVec 32 := 8#32
  let v1351 : BitVec 32 := Scalar.muli arg9 c8_i32_327
  let c5_i32_328 : BitVec 32 := 5#32
  let v1352 : BitVec 32 := Scalar.addi v1351 c5_i32_328
  let c256_i32_329 : BitVec 32 := 256#32
  let v1353 : BitVec 32 := Scalar.muli v1352 c256_i32_329
  v1353
def k0_mult16 (k0_t2 : Fin k0_t2_loop.trips) : BitVec 32 :=
  let c0_i32_9 : BitVec 32 := 0#32
  let c0_i32 : BitVec 32 := 0#32
  let v26 : BitVec 32 := Scalar.subi c0_i32 c0_i32_9
  let c1_i32 : BitVec 32 := 1#32
  let v28 : BitVec 32 := Scalar.divsi v26 c1_i32
  let v29 : BitVec 32 := Scalar.muli v28 c1_i32
  let v30 : BitVec 32 := Scalar.addi c0_i32_9 v29
  let c1_i32_11 : BitVec 32 := 1#32
  let arg9 : BitVec 32 := Scf.iv v30 c1_i32_11 k0_t2
  let c8_i32_350 : BitVec 32 := 8#32
  let v1441 : BitVec 32 := Scalar.muli arg9 c8_i32_350
  let c6_i32_351 : BitVec 32 := 6#32
  let v1442 : BitVec 32 := Scalar.addi v1441 c6_i32_351
  let c256_i32_352 : BitVec 32 := 256#32
  let v1443 : BitVec 32 := Scalar.muli v1442 c256_i32_352
  v1443
def k0_mult17 (k0_t2 : Fin k0_t2_loop.trips) : BitVec 32 :=
  let c0_i32_9 : BitVec 32 := 0#32
  let c0_i32 : BitVec 32 := 0#32
  let v26 : BitVec 32 := Scalar.subi c0_i32 c0_i32_9
  let c1_i32 : BitVec 32 := 1#32
  let v28 : BitVec 32 := Scalar.divsi v26 c1_i32
  let v29 : BitVec 32 := Scalar.muli v28 c1_i32
  let v30 : BitVec 32 := Scalar.addi c0_i32_9 v29
  let c1_i32_11 : BitVec 32 := 1#32
  let arg9 : BitVec 32 := Scf.iv v30 c1_i32_11 k0_t2
  let c8_i32_373 : BitVec 32 := 8#32
  let v1531 : BitVec 32 := Scalar.muli arg9 c8_i32_373
  let c7_i32_374 : BitVec 32 := 7#32
  let v1532 : BitVec 32 := Scalar.addi v1531 c7_i32_374
  let c256_i32_375 : BitVec 32 := 256#32
  let v1533 : BitVec 32 := Scalar.muli v1532 c256_i32_375
  v1533
def k0_mult18 : BitVec 32 :=
  let c0_i32 : BitVec 32 := 0#32
  let c8_i32 : BitVec 32 := 8#32
  let v33 : BitVec 32 := Scalar.muli c0_i32 c8_i32
  let c0_i32_12 : BitVec 32 := 0#32
  let v34 : BitVec 32 := Scalar.addi v33 c0_i32_12
  let c256_i32 : BitVec 32 := 256#32
  let v38 : BitVec 32 := Scalar.muli v34 c256_i32
  v38
def k0_off5 (c0_i32_12 : BitVec 32) : Fin 2 → Nat :=
  let c0_i32 : BitVec 32 := 0#32
  let c8_i32 : BitVec 32 := 8#32
  let v33 : BitVec 32 := Scalar.muli c0_i32 c8_i32
  let v34 : BitVec 32 := Scalar.addi v33 c0_i32_12
  let c256_i32 : BitVec 32 := 256#32
  let v38 : BitVec 32 := Scalar.muli v34 c256_i32
  let v39 : BitVec 32 := v38
  let v40 : Index := Scalar.indexCast v39
  let c0_13 : Index := 0#32
  ![v40.toNat, 0]
def k0_mult19 : BitVec 32 :=
  let c0_i32 : BitVec 32 := 0#32
  let c8_i32_36 : BitVec 32 := 8#32
  let v132 : BitVec 32 := Scalar.muli c0_i32 c8_i32_36
  let c1_i32_37 : BitVec 32 := 1#32
  let v133 : BitVec 32 := Scalar.addi v132 c1_i32_37
  let c256_i32_38 : BitVec 32 := 256#32
  let v140 : BitVec 32 := Scalar.muli v133 c256_i32_38
  v140
def k0_mult20 : BitVec 32 :=
  let c0_i32 : BitVec 32 := 0#32
  let c8_i32_62 : BitVec 32 := 8#32
  let v243 : BitVec 32 := Scalar.muli c0_i32 c8_i32_62
  let c2_i32 : BitVec 32 := 2#32
  let v244 : BitVec 32 := Scalar.addi v243 c2_i32
  let c256_i32_63 : BitVec 32 := 256#32
  let v251 : BitVec 32 := Scalar.muli v244 c256_i32_63
  v251
def k0_mult21 : BitVec 32 :=
  let c0_i32 : BitVec 32 := 0#32
  let c8_i32_87 : BitVec 32 := 8#32
  let v354 : BitVec 32 := Scalar.muli c0_i32 c8_i32_87
  let c3_i32 : BitVec 32 := 3#32
  let v355 : BitVec 32 := Scalar.addi v354 c3_i32
  let c256_i32_88 : BitVec 32 := 256#32
  let v362 : BitVec 32 := Scalar.muli v355 c256_i32_88
  v362
def k0_mult22 : BitVec 32 :=
  let c0_i32 : BitVec 32 := 0#32
  let c8_i32_112 : BitVec 32 := 8#32
  let v465 : BitVec 32 := Scalar.muli c0_i32 c8_i32_112
  let c4_i32 : BitVec 32 := 4#32
  let v466 : BitVec 32 := Scalar.addi v465 c4_i32
  let c256_i32_113 : BitVec 32 := 256#32
  let v473 : BitVec 32 := Scalar.muli v466 c256_i32_113
  v473
def k0_mult23 : BitVec 32 :=
  let c0_i32 : BitVec 32 := 0#32
  let c8_i32_137 : BitVec 32 := 8#32
  let v576 : BitVec 32 := Scalar.muli c0_i32 c8_i32_137
  let c5_i32 : BitVec 32 := 5#32
  let v577 : BitVec 32 := Scalar.addi v576 c5_i32
  let c256_i32_138 : BitVec 32 := 256#32
  let v584 : BitVec 32 := Scalar.muli v577 c256_i32_138
  v584
def k0_mult24 : BitVec 32 :=
  let c0_i32 : BitVec 32 := 0#32
  let c8_i32_162 : BitVec 32 := 8#32
  let v687 : BitVec 32 := Scalar.muli c0_i32 c8_i32_162
  let c6_i32 : BitVec 32 := 6#32
  let v688 : BitVec 32 := Scalar.addi v687 c6_i32
  let c256_i32_163 : BitVec 32 := 256#32
  let v695 : BitVec 32 := Scalar.muli v688 c256_i32_163
  v695
def k0_mult25 : BitVec 32 :=
  let c0_i32 : BitVec 32 := 0#32
  let c8_i32_187 : BitVec 32 := 8#32
  let v798 : BitVec 32 := Scalar.muli c0_i32 c8_i32_187
  let c7_i32 : BitVec 32 := 7#32
  let v799 : BitVec 32 := Scalar.addi v798 c7_i32
  let c256_i32_188 : BitVec 32 := 256#32
  let v806 : BitVec 32 := Scalar.muli v799 c256_i32_188
  v806
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S2048x2048 : Shape := ⟨2, ![2048, 2048]⟩
abbrev S2048x8192 : Shape := ⟨2, ![2048, 8192]⟩
abbrev S2048x16x128 : Shape := ⟨3, ![2048, 16, 128]⟩
abbrev S16x2048x128 : Shape := ⟨3, ![16, 2048, 128]⟩
abbrev S16x2048x2048 : Shape := ⟨3, ![16, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S16x128x2048 : Shape := ⟨3, ![16, 128, 2048]⟩

abbrev nBuf : Space → Nat
  | .hbm => 180
  | .vmem => 0
  | .smem => 0
  | _ => 0

abbrev hbmTy0_0 (i : Nat) : BufTy := match i % 128 with
  | 0 => ⟨S2048x2048, .bf16⟩
  | 1 => ⟨S2048x2048, .bf16⟩
  | 2 => ⟨S2048x8192, .f32⟩
  | 3 => ⟨S2048x2048, .f32⟩
  | 4 => ⟨S2048x2048, .f32⟩
  | 5 => ⟨S2048x2048, .f32⟩
  | 6 => ⟨S2048x2048, .f32⟩
  | 7 => ⟨S2048x16x128, .f32⟩
  | 8 => ⟨S16x2048x128, .f32⟩
  | 9 => ⟨S2048x16x128, .f32⟩
  | 10 => ⟨S16x2048x128, .f32⟩
  | 11 => ⟨S2048x16x128, .f32⟩
  | 12 => ⟨S16x2048x128, .f32⟩
  | 13 => ⟨S16x2048x2048, .f32⟩
  | 14 => ⟨S_, .f32⟩
  | 15 => ⟨S16x2048x2048, .f32⟩
  | 16 => ⟨S16x2048x2048, .f32⟩
  | 17 => ⟨S2048, .i32⟩
  | 18 => ⟨S1x2048, .i32⟩
  | 19 => ⟨S2048, .i32⟩
  | 20 => ⟨S2048x1, .i32⟩
  | 21 => ⟨S2048x2048, .i32⟩
  | 22 => ⟨S2048x2048, .i32⟩
  | 23 => ⟨S2048x2048, .i1⟩
  | 24 => ⟨S16x2048x2048, .f32⟩
  | 25 => ⟨S_, .f32⟩
  | 26 => ⟨S16x2048x2048, .f32⟩
  | 27 => ⟨S16x2048x2048, .f32⟩
  | 28 => ⟨S16x2048x2048, .f32⟩
  | 29 => ⟨S16x2048x2048, .f32⟩
  | 30 => ⟨S16x2048x2048, .i1⟩
  | 31 => ⟨S16x2048x2048, .f32⟩
  | 32 => ⟨S16x2048x2048, .f32⟩
  | 33 => ⟨S16x2048x2048, .f32⟩
  | 34 => ⟨S16x2048x2048, .f32⟩
  | 35 => ⟨S16x2048x2048, .f32⟩
  | 36 => ⟨S16x2048x2048, .f32⟩
  | 37 => ⟨S16x2048x2048, .f32⟩
  | 38 => ⟨S16x2048x2048, .f32⟩
  | 39 => ⟨S_, .f32⟩
  | 40 => ⟨S16x2048x2048, .f32⟩
  | 41 => ⟨S16x2048x2048, .i1⟩
  | 42 => ⟨S_, .f32⟩
  | 43 => ⟨S16x2048x2048, .f32⟩
  | 44 => ⟨S16x2048x2048, .f32⟩
  | 45 => ⟨S_, .f32⟩
  | 46 => ⟨S16x2048x2048, .f32⟩
  | 47 => ⟨S16x2048x2048, .i1⟩
  | 48 => ⟨S_, .f32⟩
  | 49 => ⟨S16x2048x2048, .f32⟩
  | 50 => ⟨S16x2048x2048, .f32⟩
  | 51 => ⟨S16x2048x2048, .f32⟩
  | 52 => ⟨S16x2048x2048, .f32⟩
  | 53 => ⟨S_, .f32⟩
  | 54 => ⟨S_, .f32⟩
  | 55 => ⟨S_, .i1⟩
  | 56 => ⟨S_, .f32⟩
  | 57 => ⟨S_, .f32⟩
  | 58 => ⟨S_, .f32⟩
  | 59 => ⟨S_, .f32⟩
  | 60 => ⟨S16x2048x2048, .f32⟩
  | 61 => ⟨S16x2048x2048, .i1⟩
  | 62 => ⟨S_, .f32⟩
  | 63 => ⟨S16x2048x2048, .f32⟩
  | 64 => ⟨S16x2048x2048, .f32⟩
  | 65 => ⟨S16x2048x2048, .f32⟩
  | 66 => ⟨S16x2048x2048, .f32⟩
  | 67 => ⟨S16x2048x2048, .f32⟩
  | 68 => ⟨S_, .f32⟩
  | 69 => ⟨S16x2048x2048, .f32⟩
  | 70 => ⟨S16x2048x2048, .f32⟩
  | 71 => ⟨S16x2048x2048, .f32⟩
  | 72 => ⟨S16x2048x2048, .f32⟩
  | 73 => ⟨S16x2048x2048, .f32⟩
  | 74 => ⟨S_, .f32⟩
  | 75 => ⟨S16x2048x2048, .f32⟩
  | 76 => ⟨S16x2048x2048, .f32⟩
  | 77 => ⟨S16x2048x2048, .f32⟩
  | 78 => ⟨S16x2048x2048, .f32⟩
  | 79 => ⟨S16x2048x2048, .i1⟩
  | 80 => ⟨S16x2048x2048, .f32⟩
  | 81 => ⟨S16x2048x2048, .f32⟩
  | 82 => ⟨S16x2048x2048, .f32⟩
  | 83 => ⟨S16x2048x2048, .f32⟩
  | 84 => ⟨S16x2048x2048, .f32⟩
  | 85 => ⟨S16x2048x2048, .f32⟩
  | 86 => ⟨S16x2048x2048, .f32⟩
  | 87 => ⟨S16x2048x2048, .f32⟩
  | 88 => ⟨S_, .f32⟩
  | 89 => ⟨S16x2048x2048, .f32⟩
  | 90 => ⟨S16x2048x2048, .i1⟩
  | 91 => ⟨S_, .f32⟩
  | 92 => ⟨S16x2048x2048, .f32⟩
  | 93 => ⟨S16x2048x2048, .f32⟩
  | 94 => ⟨S_, .f32⟩
  | 95 => ⟨S16x2048x2048, .f32⟩
  | 96 => ⟨S16x2048x2048, .i1⟩
  | 97 => ⟨S_, .f32⟩
  | 98 => ⟨S16x2048x2048, .f32⟩
  | 99 => ⟨S16x2048x2048, .f32⟩
  | 100 => ⟨S16x2048x2048, .f32⟩
  | 101 => ⟨S16x2048x2048, .f32⟩
  | 102 => ⟨S_, .f32⟩
  | 103 => ⟨S_, .f32⟩
  | 104 => ⟨S_, .i1⟩
  | 105 => ⟨S_, .f32⟩
  | 106 => ⟨S_, .f32⟩
  | 107 => ⟨S_, .f32⟩
  | 108 => ⟨S_, .f32⟩
  | 109 => ⟨S16x2048x2048, .f32⟩
  | 110 => ⟨S16x2048x2048, .i1⟩
  | 111 => ⟨S_, .f32⟩
  | 112 => ⟨S16x2048x2048, .f32⟩
  | 113 => ⟨S16x2048x2048, .f32⟩
  | 114 => ⟨S16x2048x2048, .f32⟩
  | 115 => ⟨S16x2048x2048, .f32⟩
  | 116 => ⟨S16x2048x2048, .f32⟩
  | 117 => ⟨S_, .f32⟩
  | 118 => ⟨S16x2048x2048, .f32⟩
  | 119 => ⟨S16x2048x2048, .f32⟩
  | 120 => ⟨S16x2048x2048, .f32⟩
  | 121 => ⟨S_, .f32⟩
  | 122 => ⟨S_, .f32⟩
  | 123 => ⟨S16x2048x2048, .i1⟩
  | 124 => ⟨S16x2048x2048, .f32⟩
  | 125 => ⟨S16x2048x2048, .f32⟩
  | 126 => ⟨S_, .f32⟩
  | 127 => ⟨S16x2048x2048, .f32⟩
  | _ => ⟨S2048x2048, .bf16⟩

abbrev hbmTy0_1 (i : Nat) : BufTy := match i % 128 with
  | 0 => ⟨S_, .f32⟩
  | 1 => ⟨S_, .f32⟩
  | 2 => ⟨S16x2048x2048, .f32⟩
  | 3 => ⟨S16x2048x2048, .f32⟩
  | 4 => ⟨S16x2048x2048, .f32⟩
  | 5 => ⟨S16x2048x2048, .f32⟩
  | 6 => ⟨S_, .f32⟩
  | 7 => ⟨S_, .f32⟩
  | 8 => ⟨S16x2048x2048, .i1⟩
  | 9 => ⟨S16x2048x2048, .f32⟩
  | 10 => ⟨S16x2048x2048, .f32⟩
  | 11 => ⟨S_, .f32⟩
  | 12 => ⟨S16x2048x2048, .f32⟩
  | 13 => ⟨S16x2048x128, .f32⟩
  | 14 => ⟨S2048x16x128, .f32⟩
  | 15 => ⟨S2048x2048, .f32⟩
  | 16 => ⟨S2048x16x128, .f32⟩
  | 17 => ⟨S16x2048x128, .f32⟩
  | 18 => ⟨S16x128x2048, .f32⟩
  | 19 => ⟨S16x2048x128, .f32⟩
  | 20 => ⟨S16x2048x2048, .f32⟩
  | 21 => ⟨S_, .f32⟩
  | 22 => ⟨S16x2048x2048, .f32⟩
  | 23 => ⟨S16x2048x2048, .f32⟩
  | 24 => ⟨S16x2048x2048, .f32⟩
  | 25 => ⟨S16x2048x2048, .f32⟩
  | 26 => ⟨S_, .f32⟩
  | 27 => ⟨S_, .f32⟩
  | 28 => ⟨S16x2048x2048, .f32⟩
  | 29 => ⟨S16x2048x2048, .f32⟩
  | 30 => ⟨S_, .f32⟩
  | 31 => ⟨S16x2048x2048, .f32⟩
  | 32 => ⟨S16x2048x2048, .f32⟩
  | 33 => ⟨S16x2048x2048, .f32⟩
  | 34 => ⟨S16x2048x2048, .f32⟩
  | 35 => ⟨S16x2048x2048, .f32⟩
  | 36 => ⟨S16x2048x2048, .f32⟩
  | 37 => ⟨S16x2048x2048, .f32⟩
  | 38 => ⟨S16x2048x2048, .f32⟩
  | 39 => ⟨S16x2048x2048, .f32⟩
  | 40 => ⟨S16x2048x2048, .f32⟩
  | 41 => ⟨S_, .f32⟩
  | 42 => ⟨S16x2048x2048, .f32⟩
  | 43 => ⟨S16x2048x2048, .f32⟩
  | 44 => ⟨S16x2048x128, .f32⟩
  | 45 => ⟨S16x2048x128, .f32⟩
  | 46 => ⟨S2048x16x128, .f32⟩
  | 47 => ⟨S2048x2048, .f32⟩
  | 48 => ⟨S2048x16x128, .f32⟩
  | 49 => ⟨S2048x2048, .f32⟩
  | 50 => ⟨S2048x16x128, .f32⟩
  | 51 => ⟨S2048x2048, .f32⟩
  | _ => ⟨S2048x2048, .bf16⟩

abbrev hbmTy (i : Nat) : BufTy := match i / 128 with
  | 0 => hbmTy0_0 i
  | 1 => hbmTy0_1 i
  | _ => ⟨S2048x2048, .bf16⟩

abbrev bufTy : (tb : Table) → Fin (tcTables nBuf tb) → BufTy
  | .hbm, ⟨i, _⟩ => hbmTy i
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_call0_v0 : Ref sig .tc := ⟨.hbm, 24, rfl⟩
abbrev main_call0_call0_cst : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_v9 : Ref sig .tc := ⟨.hbm, 35, rfl⟩
abbrev main_call0_call0_v10 : Ref sig .tc := ⟨.hbm, 36, rfl⟩
abbrev main_call0_call0_v11 : Ref sig .tc := ⟨.hbm, 37, rfl⟩
abbrev main_call0_v1_0 : Ref sig .tc := ⟨.hbm, 38, rfl⟩
abbrev main_call0_call0_cst_0 : Ref sig .tc := ⟨.hbm, 39, rfl⟩
abbrev main_call0_call0_v13 : Ref sig .tc := ⟨.hbm, 40, rfl⟩
abbrev main_call0_call0_v14 : Ref sig .tc := ⟨.hbm, 41, rfl⟩
abbrev main_call0_call0_cst_1 : Ref sig .tc := ⟨.hbm, 42, rfl⟩
abbrev main_call0_call0_v15 : Ref sig .tc := ⟨.hbm, 43, rfl⟩
abbrev main_call0_call0_v16 : Ref sig .tc := ⟨.hbm, 44, rfl⟩
abbrev main_call0_call0_cst_2 : Ref sig .tc := ⟨.hbm, 45, rfl⟩
abbrev main_call0_call0_v17 : Ref sig .tc := ⟨.hbm, 46, rfl⟩
abbrev main_call0_call0_v18 : Ref sig .tc := ⟨.hbm, 47, rfl⟩
abbrev main_call0_call0_cst_3 : Ref sig .tc := ⟨.hbm, 48, rfl⟩
abbrev main_call0_call0_v19 : Ref sig .tc := ⟨.hbm, 49, rfl⟩
abbrev main_call0_call0_v20 : Ref sig .tc := ⟨.hbm, 50, rfl⟩
abbrev main_call0_call0_v21 : Ref sig .tc := ⟨.hbm, 51, rfl⟩
abbrev main_v19_1 : Ref sig .tc := ⟨.hbm, 52, rfl⟩
abbrev main_call0_call0_cst_4 : Ref sig .tc := ⟨.hbm, 53, rfl⟩
abbrev main_call0_call0_cst_5 : Ref sig .tc := ⟨.hbm, 54, rfl⟩
abbrev main_call0_call0_v23 : Ref sig .tc := ⟨.hbm, 55, rfl⟩
abbrev main_call0_call0_cst_6 : Ref sig .tc := ⟨.hbm, 56, rfl⟩
abbrev main_call0_call0_cst_7 : Ref sig .tc := ⟨.hbm, 57, rfl⟩
abbrev main_call0_call0_v24 : Ref sig .tc := ⟨.hbm, 58, rfl⟩
abbrev main_call0_call0_cst_8 : Ref sig .tc := ⟨.hbm, 59, rfl⟩
abbrev main_call0_call0_v25 : Ref sig .tc := ⟨.hbm, 60, rfl⟩
abbrev main_call0_call0_v26 : Ref sig .tc := ⟨.hbm, 61, rfl⟩
abbrev main_call0_call0_cst_9 : Ref sig .tc := ⟨.hbm, 62, rfl⟩
abbrev main_call0_call0_v27 : Ref sig .tc := ⟨.hbm, 63, rfl⟩
abbrev main_call0_call0_v28 : Ref sig .tc := ⟨.hbm, 64, rfl⟩
abbrev main_call0_call0_v29 : Ref sig .tc := ⟨.hbm, 65, rfl⟩
abbrev main_call0_call0_v30 : Ref sig .tc := ⟨.hbm, 66, rfl⟩
abbrev main_call0_call0_v31 : Ref sig .tc := ⟨.hbm, 67, rfl⟩
abbrev main_call0_call0_cst_10 : Ref sig .tc := ⟨.hbm, 68, rfl⟩
abbrev main_call0_call0_v32 : Ref sig .tc := ⟨.hbm, 69, rfl⟩
abbrev main_v19_2 : Ref sig .tc := ⟨.hbm, 70, rfl⟩
abbrev main_v19_0 : Ref sig .tc := ⟨.hbm, 71, rfl⟩
abbrev main_v20 : Ref sig .tc := ⟨.hbm, 72, rfl⟩
abbrev main_call1_v0 : Ref sig .tc := ⟨.hbm, 73, rfl⟩
abbrev main_call1_call0_cst : Ref sig .tc := ⟨.hbm, 74, rfl⟩
abbrev main_call1_call0_v0 : Ref sig .tc := ⟨.hbm, 75, rfl⟩
abbrev main_call1_call0_v1 : Ref sig .tc := ⟨.hbm, 76, rfl⟩
abbrev main_call1_call0_v2 : Ref sig .tc := ⟨.hbm, 77, rfl⟩
abbrev main_call1_call0_v3 : Ref sig .tc := ⟨.hbm, 78, rfl⟩
abbrev main_call1_call0_v4 : Ref sig .tc := ⟨.hbm, 79, rfl⟩
abbrev main_call1_call0_v5 : Ref sig .tc := ⟨.hbm, 80, rfl⟩
abbrev main_call1_call0_v6 : Ref sig .tc := ⟨.hbm, 81, rfl⟩
abbrev main_call1_call0_v7 : Ref sig .tc := ⟨.hbm, 82, rfl⟩
abbrev main_call1_call0_v8 : Ref sig .tc := ⟨.hbm, 83, rfl⟩
abbrev main_call1_call0_v9 : Ref sig .tc := ⟨.hbm, 84, rfl⟩
abbrev main_call1_call0_v10 : Ref sig .tc := ⟨.hbm, 85, rfl⟩
abbrev main_call1_call0_v11 : Ref sig .tc := ⟨.hbm, 86, rfl⟩
abbrev main_call1_v1_0 : Ref sig .tc := ⟨.hbm, 87, rfl⟩
abbrev main_call1_call0_cst_0 : Ref sig .tc := ⟨.hbm, 88, rfl⟩
abbrev main_call1_call0_v13 : Ref sig .tc := ⟨.hbm, 89, rfl⟩
abbrev main_call1_call0_v14 : Ref sig .tc := ⟨.hbm, 90, rfl⟩
abbrev main_call1_call0_cst_1 : Ref sig .tc := ⟨.hbm, 91, rfl⟩
abbrev main_call1_call0_v15 : Ref sig .tc := ⟨.hbm, 92, rfl⟩
abbrev main_call1_call0_v16 : Ref sig .tc := ⟨.hbm, 93, rfl⟩
abbrev main_call1_call0_cst_2 : Ref sig .tc := ⟨.hbm, 94, rfl⟩
abbrev main_call1_call0_v17 : Ref sig .tc := ⟨.hbm, 95, rfl⟩
abbrev main_call1_call0_v18 : Ref sig .tc := ⟨.hbm, 96, rfl⟩
abbrev main_call1_call0_cst_3 : Ref sig .tc := ⟨.hbm, 97, rfl⟩
abbrev main_call1_call0_v19 : Ref sig .tc := ⟨.hbm, 98, rfl⟩
abbrev main_call1_call0_v20 : Ref sig .tc := ⟨.hbm, 99, rfl⟩
abbrev main_call1_call0_v21 : Ref sig .tc := ⟨.hbm, 100, rfl⟩
abbrev main_v21_1 : Ref sig .tc := ⟨.hbm, 101, rfl⟩
abbrev main_call1_call0_cst_4 : Ref sig .tc := ⟨.hbm, 102, rfl⟩
abbrev main_call1_call0_cst_5 : Ref sig .tc := ⟨.hbm, 103, rfl⟩
abbrev main_call1_call0_v23 : Ref sig .tc := ⟨.hbm, 104, rfl⟩
abbrev main_call1_call0_cst_6 : Ref sig .tc := ⟨.hbm, 105, rfl⟩
abbrev main_call1_call0_cst_7 : Ref sig .tc := ⟨.hbm, 106, rfl⟩
abbrev main_call1_call0_v24 : Ref sig .tc := ⟨.hbm, 107, rfl⟩
abbrev main_call1_call0_cst_8 : Ref sig .tc := ⟨.hbm, 108, rfl⟩
abbrev main_call1_call0_v25 : Ref sig .tc := ⟨.hbm, 109, rfl⟩
abbrev main_call1_call0_v26 : Ref sig .tc := ⟨.hbm, 110, rfl⟩
abbrev main_call1_call0_cst_9 : Ref sig .tc := ⟨.hbm, 111, rfl⟩
abbrev main_call1_call0_v27 : Ref sig .tc := ⟨.hbm, 112, rfl⟩
abbrev main_call1_call0_v28 : Ref sig .tc := ⟨.hbm, 113, rfl⟩
abbrev main_call1_call0_v29 : Ref sig .tc := ⟨.hbm, 114, rfl⟩
abbrev main_call1_call0_v30 : Ref sig .tc := ⟨.hbm, 115, rfl⟩
abbrev main_call1_call0_v31 : Ref sig .tc := ⟨.hbm, 116, rfl⟩
abbrev main_call1_call0_cst_10 : Ref sig .tc := ⟨.hbm, 117, rfl⟩
abbrev main_call1_call0_v32 : Ref sig .tc := ⟨.hbm, 118, rfl⟩
abbrev main_v21_2 : Ref sig .tc := ⟨.hbm, 119, rfl⟩
abbrev main_v21_0 : Ref sig .tc := ⟨.hbm, 120, rfl⟩
abbrev main_cst_0 : Ref sig .tc := ⟨.hbm, 121, rfl⟩
abbrev main_call2_v0 : Ref sig .tc := ⟨.hbm, 122, rfl⟩
abbrev main_v22_1 : Ref sig .tc := ⟨.hbm, 123, rfl⟩
abbrev main_call2_v2 : Ref sig .tc := ⟨.hbm, 124, rfl⟩
abbrev main_v22_0 : Ref sig .tc := ⟨.hbm, 125, rfl⟩
abbrev main_call2_cst : Ref sig .tc := ⟨.hbm, 126, rfl⟩
abbrev main_v22_2 : Ref sig .tc := ⟨.hbm, 127, rfl⟩
abbrev main_call3_cst : Ref sig .tc := ⟨.hbm, 128, rfl⟩
abbrev main_call3_v0 : Ref sig .tc := ⟨.hbm, 129, rfl⟩
abbrev main_v23 : Ref sig .tc := ⟨.hbm, 130, rfl⟩
abbrev main_v24 : Ref sig .tc := ⟨.hbm, 131, rfl⟩
abbrev main_v25 : Ref sig .tc := ⟨.hbm, 132, rfl⟩
abbrev main_v26 : Ref sig .tc := ⟨.hbm, 133, rfl⟩
abbrev main_cst_1 : Ref sig .tc := ⟨.hbm, 134, rfl⟩
abbrev main_call4_v0 : Ref sig .tc := ⟨.hbm, 135, rfl⟩
abbrev main_v27_1 : Ref sig .tc := ⟨.hbm, 136, rfl⟩
abbrev main_call4_v2 : Ref sig .tc := ⟨.hbm, 137, rfl⟩
abbrev main_v27_0 : Ref sig .tc := ⟨.hbm, 138, rfl⟩
abbrev main_call4_cst : Ref sig .tc := ⟨.hbm, 139, rfl⟩
abbrev main_v27_2 : Ref sig .tc := ⟨.hbm, 140, rfl⟩
abbrev main_v28 : Ref sig .tc := ⟨.hbm, 141, rfl⟩
abbrev main_v29 : Ref sig .tc := ⟨.hbm, 142, rfl⟩
abbrev main_v30 : Ref sig .tc := ⟨.hbm, 143, rfl⟩
abbrev main_v31 : Ref sig .tc := ⟨.hbm, 144, rfl⟩
abbrev main_v32 : Ref sig .tc := ⟨.hbm, 145, rfl⟩
abbrev main_v33 : Ref sig .tc := ⟨.hbm, 146, rfl⟩
abbrev main_v34 : Ref sig .tc := ⟨.hbm, 147, rfl⟩
abbrev main_v35 : Ref sig .tc := ⟨.hbm, 148, rfl⟩
abbrev main_call5_cst : Ref sig .tc := ⟨.hbm, 149, rfl⟩
abbrev main_call5_v0 : Ref sig .tc := ⟨.hbm, 150, rfl⟩
abbrev main_v36 : Ref sig .tc := ⟨.hbm, 151, rfl⟩
abbrev main_v37 : Ref sig .tc := ⟨.hbm, 152, rfl⟩
abbrev main_v38 : Ref sig .tc := ⟨.hbm, 153, rfl⟩
abbrev main_call6_cst : Ref sig .tc := ⟨.hbm, 154, rfl⟩
abbrev main_call6_v0 : Ref sig .tc := ⟨.hbm, 155, rfl⟩
abbrev main_v39 : Ref sig .tc := ⟨.hbm, 156, rfl⟩
abbrev main_v40 : Ref sig .tc := ⟨.hbm, 157, rfl⟩
abbrev main_call7_cst : Ref sig .tc := ⟨.hbm, 158, rfl⟩
abbrev main_call7_v0 : Ref sig .tc := ⟨.hbm, 159, rfl⟩
abbrev main_v41 : Ref sig .tc := ⟨.hbm, 160, rfl⟩
abbrev main_call8_v0 : Ref sig .tc := ⟨.hbm, 161, rfl⟩
abbrev main_call8_v1 : Ref sig .tc := ⟨.hbm, 162, rfl⟩
abbrev main_v42 : Ref sig .tc := ⟨.hbm, 163, rfl⟩
abbrev main_v43 : Ref sig .tc := ⟨.hbm, 164, rfl⟩
abbrev main_call9_v0 : Ref sig .tc := ⟨.hbm, 165, rfl⟩
abbrev main_call9_v1 : Ref sig .tc := ⟨.hbm, 166, rfl⟩
abbrev main_v44 : Ref sig .tc := ⟨.hbm, 167, rfl⟩
abbrev main_v45 : Ref sig .tc := ⟨.hbm, 168, rfl⟩
abbrev main_cst_2 : Ref sig .tc := ⟨.hbm, 169, rfl⟩
abbrev main_v46 : Ref sig .tc := ⟨.hbm, 170, rfl⟩
abbrev main_v47 : Ref sig .tc := ⟨.hbm, 171, rfl⟩
abbrev main_v48 : Ref sig .tc := ⟨.hbm, 172, rfl⟩
abbrev main_v49 : Ref sig .tc := ⟨.hbm, 173, rfl⟩
abbrev main_v50 : Ref sig .tc := ⟨.hbm, 174, rfl⟩
abbrev main_v51 : Ref sig .tc := ⟨.hbm, 175, rfl⟩
abbrev main_v52 : Ref sig .tc := ⟨.hbm, 176, rfl⟩
abbrev main_v53 : Ref sig .tc := ⟨.hbm, 177, rfl⟩
abbrev main_v54 : Ref sig .tc := ⟨.hbm, 178, rfl⟩
abbrev main_v55 : Ref sig .tc := ⟨.hbm, 179, rfl⟩

abbrev nD : Nat := 1
abbrev τ : Topo := Topo.v7x

variable {F : FTy → Type} [FloatOps F]
-- ==== SbIn.lean ====
abbrev S2048x2048 : Shape := ⟨2, ![2048, 2048]⟩
abbrev S2048x8192 : Shape := ⟨2, ![2048, 8192]⟩
abbrev S2048x8x1024 : Shape := ⟨3, ![2048, 8, 1024]⟩
abbrev S8x2048x1024 : Shape := ⟨3, ![8, 2048, 1024]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩
abbrev S2048x1024 : Shape := ⟨2, ![2048, 1024]⟩
abbrev S1x1024x512 : Shape := ⟨3, ![1, 1024, 512]⟩

abbrev nBuf : Space → Nat
  | .hbm => 8
  | .vmem => 12
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .f32⟩
  | .hbm, ⟨2, _⟩ => ⟨S2048x8192, .bf16⟩
  | .hbm, ⟨3, _⟩ => ⟨S2048x8192, .bf16⟩
  | .hbm, ⟨4, _⟩ => ⟨S2048x8x1024, .bf16⟩
  | .hbm, ⟨5, _⟩ => ⟨S8x2048x1024, .bf16⟩
  | .hbm, ⟨6, _⟩ => ⟨S2048x8192, .f32⟩
  | .hbm, ⟨7, _⟩ => ⟨S8x2048x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1024x512, .f32⟩
  | .local _ .vmem, ⟨5, _⟩ => ⟨S1024x512, .f32⟩
  | .local _ .vmem, ⟨6, _⟩ => ⟨S2048x1024, .bf16⟩
  | .local _ .vmem, ⟨7, _⟩ => ⟨S2048x1024, .bf16⟩
  | .local _ .vmem, ⟨8, _⟩ => ⟨S2048x512, .bf16⟩
  | .local _ .vmem, ⟨9, _⟩ => ⟨S2048x512, .bf16⟩
  | .local _ .vmem, ⟨10, _⟩ => ⟨S1x1024x512, .bf16⟩
  | .local _ .vmem, ⟨11, _⟩ => ⟨S1x1024x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![2, 16, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]
-- ==== SbInRefIdeal.lean ====
abbrev S2048x2048 : Shape := ⟨2, ![2048, 2048]⟩
abbrev S2048x8192 : Shape := ⟨2, ![2048, 8192]⟩
abbrev S8192x2048 : Shape := ⟨2, ![8192, 2048]⟩
abbrev S2048x8x1024 : Shape := ⟨3, ![2048, 8, 1024]⟩
abbrev S8x2048x1024 : Shape := ⟨3, ![8, 2048, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .f32⟩
  | .hbm, ⟨2, _⟩ => ⟨S2048x8192, .bf16⟩
  | .hbm, ⟨3, _⟩ => ⟨S2048x2048, .f32⟩
  | .hbm, ⟨4, _⟩ => ⟨S2048x8192, .f32⟩
  | .hbm, ⟨5, _⟩ => ⟨S2048x8192, .f32⟩
  | .hbm, ⟨6, _⟩ => ⟨S8192x2048, .f32⟩
  | .hbm, ⟨7, _⟩ => ⟨S2048x8192, .f32⟩
  | .hbm, ⟨8, _⟩ => ⟨S2048x8x1024, .f32⟩
  | .hbm, ⟨9, _⟩ => ⟨S8x2048x1024, .f32⟩
  | .hbm, ⟨10, _⟩ => ⟨S8x2048x1024, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== SbInBack.lean ====
abbrev S2048x8192 : Shape := ⟨2, ![2048, 8192]⟩
abbrev S2048x8x1024 : Shape := ⟨3, ![2048, 8, 1024]⟩
abbrev S8x2048x1024 : Shape := ⟨3, ![8, 2048, 1024]⟩
abbrev S2048x2048 : Shape := ⟨2, ![2048, 2048]⟩
abbrev S1024x4096 : Shape := ⟨2, ![1024, 4096]⟩
abbrev S4x512x1024 : Shape := ⟨3, ![4, 512, 1024]⟩
abbrev S1024x512 : Shape := ⟨2, ![1024, 512]⟩
abbrev S1024x1024 : Shape := ⟨2, ![1024, 1024]⟩
abbrev S1x512x1024 : Shape := ⟨3, ![1, 512, 1024]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2048x8192, .f32⟩
  | .hbm, ⟨1, _⟩ => ⟨S2048x8192, .bf16⟩
  | .hbm, ⟨2, _⟩ => ⟨S2048x8192, .bf16⟩
  | .hbm, ⟨3, _⟩ => ⟨S2048x8x1024, .bf16⟩
  | .hbm, ⟨4, _⟩ => ⟨S8x2048x1024, .bf16⟩
  | .hbm, ⟨5, _⟩ => ⟨S2048x2048, .f32⟩
  | .local _ .vmem, ⟨0, _⟩ => ⟨S1024x4096, .bf16⟩
  | .local _ .vmem, ⟨1, _⟩ => ⟨S1024x4096, .bf16⟩
  | .local _ .vmem, ⟨2, _⟩ => ⟨S4x512x1024, .bf16⟩
  | .local _ .vmem, ⟨3, _⟩ => ⟨S4x512x1024, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond3 (i : grid0.Coords) : BitVec 1 :=
  let arg2 : BitVec 32 := BitVec.ofNat 32 (i 2).val
  let c1_i32 : BitVec 32 := 1#32
  let v25 : BitVec 1 := Scalar.cmpi .eq arg2 c1_i32
  let v26 : BitVec 32 := Scalar.extui v25
  let c0_i32_19 : BitVec 32 := 0#32
  let v27 : BitVec 1 := Scalar.cmpi .ne v26 c0_i32_19
  v27

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SbInBackRefIdeal.lean ====
abbrev S2048x8192 : Shape := ⟨2, ![2048, 8192]⟩
abbrev S_ : Shape := ⟨0, ![]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S2048x8192, .bf16⟩
  | .hbm, ⟨2, _⟩ => ⟨S_, .f32⟩
  | .hbm, ⟨3, _⟩ => ⟨S2048x2048, .f32⟩
  | .hbm, ⟨4, _⟩ => ⟨S2048x8192, .f32⟩
  | .hbm, ⟨5, _⟩ => ⟨S2048x8192, .f32⟩
  | .hbm, ⟨6, _⟩ => ⟨S2048x2048, .f32⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== PleGate.lean ====
abbrev S2048x2048 : Shape := ⟨2, ![2048, 2048]⟩
abbrev S1024x2048 : Shape := ⟨2, ![1024, 2048]⟩
abbrev S2048x512 : Shape := ⟨2, ![2048, 512]⟩
abbrev S1024x512 : Shape := ⟨2, ![1024, 512]⟩
abbrev S2048x1024 : Shape := ⟨2, ![2048, 1024]⟩
abbrev S512x2048 : Shape := ⟨2, ![512, 2048]⟩

abbrev nBuf : Space → Nat
  | .hbm => 7
  | .vmem => 18
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .hbm, ⟨2, _⟩ => ⟨S2048x2048, .bf16⟩
  | .hbm, ⟨3, _⟩ => ⟨S2048x2048, .bf16⟩
  | .hbm, ⟨4, _⟩ => ⟨S2048x2048, .f32⟩
  | .hbm, ⟨5, _⟩ => ⟨S2048x2048, .bf16⟩
  | .hbm, ⟨6, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S2048x1024, .bf16⟩
  | .local _ .vmem, ⟨7, _⟩ => ⟨S2048x1024, .bf16⟩
  | .local _ .vmem, ⟨8, _⟩ => ⟨S2048x512, .bf16⟩
  | .local _ .vmem, ⟨9, _⟩ => ⟨S2048x512, .bf16⟩
  | .local _ .vmem, ⟨10, _⟩ => ⟨S1024x512, .bf16⟩
  | .local _ .vmem, ⟨11, _⟩ => ⟨S1024x512, .bf16⟩
  | .local _ .vmem, ⟨12, _⟩ => ⟨S1024x2048, .bf16⟩
  | .local _ .vmem, ⟨13, _⟩ => ⟨S1024x2048, .bf16⟩
  | .local _ .vmem, ⟨14, _⟩ => ⟨S512x2048, .bf16⟩
  | .local _ .vmem, ⟨15, _⟩ => ⟨S512x2048, .bf16⟩
  | .local _ .vmem, ⟨16, _⟩ => ⟨S1024x512, .f32⟩
  | .local _ .vmem, ⟨17, _⟩ => ⟨S1024x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![2, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![2, 4, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S512x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]
-- ==== PleGateRefIdeal.lean ====
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .hbm, ⟨2, _⟩ => ⟨S2048x2048, .bf16⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== SbOut.lean ====
abbrev S2048x2048 : Shape := ⟨2, ![2048, 2048]⟩
abbrev S1024x2048 : Shape := ⟨2, ![1024, 2048]⟩
abbrev S2048x512 : Shape := ⟨2, ![2048, 512]⟩
abbrev S1024x512 : Shape := ⟨2, ![1024, 512]⟩
abbrev S2048x1024 : Shape := ⟨2, ![2048, 1024]⟩
abbrev S512x2048 : Shape := ⟨2, ![512, 2048]⟩

abbrev nBuf : Space → Nat
  | .hbm => 8
  | .vmem => 20
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .bf16⟩
  | .hbm, ⟨5, _⟩ => ⟨S2048x2048, .f32⟩
  | .hbm, ⟨6, _⟩ => ⟨S2048x2048, .bf16⟩
  | .hbm, ⟨7, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S2048x1024, .bf16⟩
  | .local _ .vmem, ⟨9, _⟩ => ⟨S2048x1024, .bf16⟩
  | .local _ .vmem, ⟨10, _⟩ => ⟨S2048x512, .f32⟩
  | .local _ .vmem, ⟨11, _⟩ => ⟨S2048x512, .f32⟩
  | .local _ .vmem, ⟨12, _⟩ => ⟨S1024x512, .bf16⟩
  | .local _ .vmem, ⟨13, _⟩ => ⟨S1024x512, .bf16⟩
  | .local _ .vmem, ⟨14, _⟩ => ⟨S1024x2048, .f32⟩
  | .local _ .vmem, ⟨15, _⟩ => ⟨S1024x2048, .f32⟩
  | .local _ .vmem, ⟨16, _⟩ => ⟨S512x2048, .bf16⟩
  | .local _ .vmem, ⟨17, _⟩ => ⟨S512x2048, .bf16⟩
  | .local _ .vmem, ⟨18, _⟩ => ⟨S1024x512, .f32⟩
  | .local _ .vmem, ⟨19, _⟩ => ⟨S1024x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![2, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![2, 4, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S512x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]
-- ==== SbOutRefIdeal.lean ====
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== SsdOut.lean ====
abbrev S2048x4096 : Shape := ⟨2, ![2048, 4096]⟩
abbrev S4096x2048 : Shape := ⟨2, ![4096, 2048]⟩
abbrev S2048x2048 : Shape := ⟨2, ![2048, 2048]⟩
abbrev S1024x4096 : Shape := ⟨2, ![1024, 4096]⟩
abbrev S4096x512 : Shape := ⟨2, ![4096, 512]⟩
abbrev S1024x512 : Shape := ⟨2, ![1024, 512]⟩
abbrev S2048x1024 : Shape := ⟨2, ![2048, 1024]⟩
abbrev S2048x512 : Shape := ⟨2, ![2048, 512]⟩
abbrev S1024x2048 : Shape := ⟨2, ![1024, 2048]⟩
abbrev S512x2048 : Shape := ⟨2, ![512, 2048]⟩

abbrev nBuf : Space → Nat
  | .hbm => 8
  | .vmem => 20
  | .smem => 0
  | _ => 0

abbrev bufTy : (tb : Table) → Fin (tcTables nBuf tb) → BufTy
  | .hbm, ⟨0, _⟩ => ⟨S2048x4096, .bf16⟩
  | .hbm, ⟨1, _⟩ => ⟨S4096x2048, .f32⟩
  | .hbm, ⟨2, _⟩ => ⟨S2048x2048, .f32⟩
  | .hbm, ⟨3, _⟩ => ⟨S2048x2048, .f32⟩
  | .hbm, ⟨4, _⟩ => ⟨S4096x2048, .bf16⟩
  | .hbm, ⟨5, _⟩ => ⟨S2048x2048, .f32⟩
  | .hbm, ⟨6, _⟩ => ⟨S4096x2048, .bf16⟩
  | .hbm, ⟨7, _⟩ => ⟨S2048x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S2048x1024, .bf16⟩
  | .local _ .vmem, ⟨9, _⟩ => ⟨S2048x1024, .bf16⟩
  | .local _ .vmem, ⟨10, _⟩ => ⟨S2048x512, .f32⟩
  | .local _ .vmem, ⟨11, _⟩ => ⟨S2048x512, .f32⟩
  | .local _ .vmem, ⟨12, _⟩ => ⟨S1024x512, .bf16⟩
  | .local _ .vmem, ⟨13, _⟩ => ⟨S1024x512, .bf16⟩
  | .local _ .vmem, ⟨14, _⟩ => ⟨S1024x2048, .f32⟩
  | .local _ .vmem, ⟨15, _⟩ => ⟨S1024x2048, .f32⟩
  | .local _ .vmem, ⟨16, _⟩ => ⟨S512x2048, .bf16⟩
  | .local _ .vmem, ⟨17, _⟩ => ⟨S512x2048, .bf16⟩
  | .local _ .vmem, ⟨18, _⟩ => ⟨S1024x512, .f32⟩
  | .local _ .vmem, ⟨19, _⟩ => ⟨S1024x512, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![4, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![2, 8, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S512x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]
-- ==== SsdOutRefIdeal.lean ====
abbrev S2048x4096 : Shape := ⟨2, ![2048, 4096]⟩
abbrev S4096x2048 : Shape := ⟨2, ![4096, 2048]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S4096x2048, .f32⟩
  | .hbm, ⟨2, _⟩ => ⟨S2048x2048, .f32⟩
  | .hbm, ⟨3, _⟩ => ⟨S2048x2048, .f32⟩
  | .hbm, ⟨4, _⟩ => ⟨S2048x4096, .f32⟩
  | .hbm, ⟨5, _⟩ => ⟨S2048x2048, .f32⟩
  | .hbm, ⟨6, _⟩ => ⟨S2048x2048, .f32⟩
  | .hbm, ⟨7, _⟩ => ⟨S2048x4096, .f32⟩
  | .hbm, ⟨8, _⟩ => ⟨S4096x2048, .f32⟩
  | .hbm, ⟨9, _⟩ => ⟨S2048x4096, .f32⟩
  | .hbm, ⟨10, _⟩ => ⟨S4096x2048, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== SsdIn.lean ====
abbrev S2048x2048 : Shape := ⟨2, ![2048, 2048]⟩
abbrev S2048x4096 : Shape := ⟨2, ![2048, 4096]⟩
abbrev S1024x2048 : Shape := ⟨2, ![1024, 2048]⟩
abbrev S2048x512 : Shape := ⟨2, ![2048, 512]⟩
abbrev S1024x512 : Shape := ⟨2, ![1024, 512]⟩
abbrev S2048x1024 : Shape := ⟨2, ![2048, 1024]⟩
abbrev S1024x4096 : Shape := ⟨2, ![1024, 4096]⟩
abbrev S512x4096 : Shape := ⟨2, ![512, 4096]⟩

abbrev nBuf : Space → Nat
  | .hbm => 9
  | .vmem => 26
  | .smem => 0
  | _ => 0

abbrev bufTy : (tb : Table) → Fin (tcTables nBuf tb) → BufTy
  | .hbm, ⟨0, _⟩ => ⟨S2048x2048, .bf16⟩
  | .hbm, ⟨1, _⟩ => ⟨S2048x4096, .f32⟩
  | .hbm, ⟨2, _⟩ => ⟨S2048x4096, .bf16⟩
  | .hbm, ⟨3, _⟩ => ⟨S2048x2048, .f32⟩
  | .hbm, ⟨4, _⟩ => ⟨S2048x4096, .bf16⟩
  | .hbm, ⟨5, _⟩ => ⟨S2048x4096, .f32⟩
  | .hbm, ⟨6, _⟩ => ⟨S2048x4096, .bf16⟩
  | .hbm, ⟨7, _⟩ => ⟨S2048x2048, .f32⟩
  | .hbm, ⟨8, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S2048x1024, .bf16⟩
  | .local _ .vmem, ⟨7, _⟩ => ⟨S2048x1024, .bf16⟩
  | .local _ .vmem, ⟨8, _⟩ => ⟨S2048x512, .bf16⟩
  | .local _ .vmem, ⟨9, _⟩ => ⟨S2048x512, .bf16⟩
  | .local _ .vmem, ⟨10, _⟩ => ⟨S1024x512, .bf16⟩
  | .local _ .vmem, ⟨11, _⟩ => ⟨S1024x512, .bf16⟩
  | .local _ .vmem, ⟨12, _⟩ => ⟨S1024x4096, .bf16⟩
  | .local _ .vmem, ⟨13, _⟩ => ⟨S1024x4096, .bf16⟩
  | .local _ .vmem, ⟨14, _⟩ => ⟨S512x4096, .bf16⟩
  | .local _ .vmem, ⟨15, _⟩ => ⟨S512x4096, .bf16⟩
  | .local _ .vmem, ⟨16, _⟩ => ⟨S1024x512, .f32⟩
  | .local _ .vmem, ⟨17, _⟩ => ⟨S1024x512, .f32⟩
  | .local _ .vmem, ⟨18, _⟩ => ⟨S1024x4096, .bf16⟩
  | .local _ .vmem, ⟨19, _⟩ => ⟨S1024x4096, .bf16⟩
  | .local _ .vmem, ⟨20, _⟩ => ⟨S512x4096, .bf16⟩
  | .local _ .vmem, ⟨21, _⟩ => ⟨S512x4096, .bf16⟩
  | .local _ .vmem, ⟨22, _⟩ => ⟨S1024x512, .f32⟩
  | .local _ .vmem, ⟨23, _⟩ => ⟨S1024x512, .f32⟩
  | .local _ .vmem, ⟨24, _⟩ => ⟨S1024x512, .f32⟩
  | .local _ .vmem, ⟨25, _⟩ => ⟨S1024x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![2, 8, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![2, 4, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S512x4096 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![2, 4, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S512x4096 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 2 → Memref sig .tc .vmem S1024x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]
-- ==== SsdInRefIdeal.lean ====
abbrev S2048x2048 : Shape := ⟨2, ![2048, 2048]⟩
abbrev S2048x4096 : Shape := ⟨2, ![2048, 4096]⟩
abbrev S4096x2048 : Shape := ⟨2, ![4096, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x4096, .f32⟩
  | .hbm, ⟨2, _⟩ => ⟨S2048x4096, .bf16⟩
  | .hbm, ⟨3, _⟩ => ⟨S2048x2048, .f32⟩
  | .hbm, ⟨4, _⟩ => ⟨S2048x2048, .f32⟩
  | .hbm, ⟨5, _⟩ => ⟨S2048x4096, .f32⟩
  | .hbm, ⟨6, _⟩ => ⟨S2048x4096, .f32⟩
  | .hbm, ⟨7, _⟩ => ⟨S4096x2048, .f32⟩
  | .hbm, ⟨8, _⟩ => ⟨S2048x4096, .f32⟩
  | .hbm, ⟨9, _⟩ => ⟨S2048x2048, .f32⟩
  | .hbm, ⟨10, _⟩ => ⟨S2048x4096, .bf16⟩
  | .hbm, ⟨11, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== SsdBc.lean ====
abbrev S2048x2048 : Shape := ⟨2, ![2048, 2048]⟩
abbrev S2048x1024 : Shape := ⟨2, ![2048, 1024]⟩
abbrev S1024x2048 : Shape := ⟨2, ![1024, 2048]⟩
abbrev S2048x512 : Shape := ⟨2, ![2048, 512]⟩
abbrev S1024x512 : Shape := ⟨2, ![1024, 512]⟩
abbrev S1024x1024 : Shape := ⟨2, ![1024, 1024]⟩
abbrev S512x1024 : Shape := ⟨2, ![512, 1024]⟩

abbrev nBuf : Space → Nat
  | .hbm => 8
  | .vmem => 20
  | .smem => 0
  | _ => 0

abbrev bufTy : (tb : Table) → Fin (tcTables nBuf tb) → BufTy
  | .hbm, ⟨0, _⟩ => ⟨S2048x2048, .bf16⟩
  | .hbm, ⟨1, _⟩ => ⟨S2048x1024, .f32⟩
  | .hbm, ⟨2, _⟩ => ⟨S2048x1024, .bf16⟩
  | .hbm, ⟨3, _⟩ => ⟨S2048x2048, .f32⟩
  | .hbm, ⟨4, _⟩ => ⟨S2048x1024, .bf16⟩
  | .hbm, ⟨5, _⟩ => ⟨S2048x1024, .f32⟩
  | .hbm, ⟨6, _⟩ => ⟨S2048x1024, .bf16⟩
  | .hbm, ⟨7, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S2048x1024, .bf16⟩
  | .local _ .vmem, ⟨7, _⟩ => ⟨S2048x1024, .bf16⟩
  | .local _ .vmem, ⟨8, _⟩ => ⟨S2048x512, .bf16⟩
  | .local _ .vmem, ⟨9, _⟩ => ⟨S2048x512, .bf16⟩
  | .local _ .vmem, ⟨10, _⟩ => ⟨S1024x512, .bf16⟩
  | .local _ .vmem, ⟨11, _⟩ => ⟨S1024x512, .bf16⟩
  | .local _ .vmem, ⟨12, _⟩ => ⟨S1024x1024, .bf16⟩
  | .local _ .vmem, ⟨13, _⟩ => ⟨S1024x1024, .bf16⟩
  | .local _ .vmem, ⟨14, _⟩ => ⟨S512x1024, .bf16⟩
  | .local _ .vmem, ⟨15, _⟩ => ⟨S512x1024, .bf16⟩
  | .local _ .vmem, ⟨16, _⟩ => ⟨S1024x512, .f32⟩
  | .local _ .vmem, ⟨17, _⟩ => ⟨S1024x512, .f32⟩
  | .local _ .vmem, ⟨18, _⟩ => ⟨S1024x512, .f32⟩
  | .local _ .vmem, ⟨19, _⟩ => ⟨S1024x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![2, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![2, 4, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S512x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S1024x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]
-- ==== SsdBcRefIdeal.lean ====
abbrev S2048x2048 : Shape := ⟨2, ![2048, 2048]⟩
abbrev S2048x1024 : Shape := ⟨2, ![2048, 1024]⟩
abbrev S1024x2048 : Shape := ⟨2, ![1024, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x1024, .f32⟩
  | .hbm, ⟨2, _⟩ => ⟨S2048x1024, .bf16⟩
  | .hbm, ⟨3, _⟩ => ⟨S2048x2048, .f32⟩
  | .hbm, ⟨4, _⟩ => ⟨S2048x2048, .f32⟩
  | .hbm, ⟨5, _⟩ => ⟨S2048x1024, .f32⟩
  | .hbm, ⟨6, _⟩ => ⟨S2048x1024, .f32⟩
  | .hbm, ⟨7, _⟩ => ⟨S1024x2048, .f32⟩
  | .hbm, ⟨8, _⟩ => ⟨S2048x1024, .f32⟩
  | .hbm, ⟨9, _⟩ => ⟨S2048x2048, .f32⟩
  | .hbm, ⟨10, _⟩ => ⟨S2048x1024, .bf16⟩
  | .hbm, ⟨11, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== PleProj.lean ====
abbrev S2048x256 : Shape := ⟨2, ![2048, 256]⟩
abbrev S256x2048 : Shape := ⟨2, ![256, 2048]⟩
abbrev S2048x2048 : Shape := ⟨2, ![2048, 2048]⟩
abbrev S256x8x256 : Shape := ⟨3, ![256, 8, 256]⟩
abbrev S8x256x256 : Shape := ⟨3, ![8, 256, 256]⟩
abbrev S1024x256 : Shape := ⟨2, ![1024, 256]⟩
abbrev S1x256x256 : Shape := ⟨3, ![1, 256, 256]⟩
abbrev S256x256 : Shape := ⟨2, ![256, 256]⟩

abbrev nBuf : Space → Nat
  | .hbm => 8
  | .vmem => 11
  | .smem => 0
  | _ => 0

abbrev bufTy : (tb : Table) → Fin (tcTables nBuf tb) → BufTy
  | .hbm, ⟨0, _⟩ => ⟨S2048x256, .f32⟩
  | .hbm, ⟨1, _⟩ => ⟨S256x2048, .f32⟩
  | .hbm, ⟨2, _⟩ => ⟨S2048x2048, .bf16⟩
  | .hbm, ⟨3, _⟩ => ⟨S256x2048, .bf16⟩
  | .hbm, ⟨4, _⟩ => ⟨S256x8x256, .bf16⟩
  | .hbm, ⟨5, _⟩ => ⟨S8x256x256, .bf16⟩
  | .hbm, ⟨6, _⟩ => ⟨S2048x2048, .f32⟩
  | .hbm, ⟨7, _⟩ => ⟨S8x256x256, .bf16⟩
  | .local _ .vmem, ⟨0, _⟩ => ⟨S1024x256, .f32⟩
  | .local _ .vmem, ⟨1, _⟩ => ⟨S1024x256, .f32⟩
  | .local _ .vmem, ⟨2, _⟩ => ⟨S1x256x256, .bf16⟩
  | .local _ .vmem, ⟨3, _⟩ => ⟨S1x256x256, .bf16⟩
  | .local _ .vmem, ⟨4, _⟩ => ⟨S1024x256, .f32⟩
  | .local _ .vmem, ⟨5, _⟩ => ⟨S1024x256, .f32⟩
  | .local _ .vmem, ⟨6, _⟩ => ⟨S2048x256, .f32⟩
  | .local _ .vmem, ⟨7, _⟩ => ⟨S2048x256, .bf16⟩
  | .local _ .vmem, ⟨8, _⟩ => ⟨S2048x256, .bf16⟩
  | .local _ .vmem, ⟨9, _⟩ => ⟨S1x256x256, .bf16⟩
  | .local _ .vmem, ⟨10, _⟩ => ⟨S1x256x256, .bf16⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![1, 8, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage1_0 : Fin 1 → Memref sig .tc .vmem S2048x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false, true]

abbrev stage1_1 : Fin 2 → Memref sig .tc .vmem S2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x256x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]
-- ==== PleProjRefIdeal.lean ====
abbrev S2048x256 : Shape := ⟨2, ![2048, 256]⟩
abbrev S256x2048 : Shape := ⟨2, ![256, 2048]⟩
abbrev S2048x2048 : Shape := ⟨2, ![2048, 2048]⟩
abbrev S256x8x256 : Shape := ⟨3, ![256, 8, 256]⟩
abbrev S8x256x256 : Shape := ⟨3, ![8, 256, 256]⟩

abbrev nBuf : Space → Nat
  | .hbm => 10
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S256x2048, .f32⟩
  | .hbm, ⟨2, _⟩ => ⟨S2048x2048, .bf16⟩
  | .hbm, ⟨3, _⟩ => ⟨S2048x2048, .f32⟩
  | .hbm, ⟨4, _⟩ => ⟨S2048x2048, .f32⟩
  | .hbm, ⟨5, _⟩ => ⟨S2048x256, .f32⟩
  | .hbm, ⟨6, _⟩ => ⟨S256x2048, .f32⟩
  | .hbm, ⟨7, _⟩ => ⟨S256x8x256, .f32⟩
  | .hbm, ⟨8, _⟩ => ⟨S8x256x256, .f32⟩
  | .hbm, ⟨9, _⟩ => ⟨S8x256x256, .bf16⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== PleBack.lean ====
abbrev S2048x2048 : Shape := ⟨2, ![2048, 2048]⟩
abbrev S_ : Shape := ⟨0, ![]⟩
abbrev S8x128 : Shape := ⟨2, ![8, 128]⟩
abbrev S512x2048 : Shape := ⟨2, ![512, 2048]⟩

abbrev nBuf : Space → Nat
  | .hbm => 7
  | .vmem => 11
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S8x128, .f32⟩
  | .hbm, ⟨5, _⟩ => ⟨S2048x2048, .bf16⟩
  | .hbm, ⟨6, _⟩ => ⟨S2048x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S8x128, .f32⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | .local _ .vmem, ⟨10, _⟩ => ⟨S512x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== PleBackRefIdeal.lean ====
abbrev S2048x2048 : Shape := ⟨2, ![2048, 2048]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S_, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .bf16⟩
  | .hbm, ⟨20, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== SbGateBack.lean ====
abbrev S2048x2048 : Shape := ⟨2, ![2048, 2048]⟩
abbrev S2048x8192 : Shape := ⟨2, ![2048, 8192]⟩
abbrev S512x2048 : Shape := ⟨2, ![512, 2048]⟩

abbrev nBuf : Space → Nat
  | .hbm => 5
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x8192, .f32⟩
  | .hbm, ⟨3, _⟩ => ⟨S2048x2048, .f32⟩
  | .hbm, ⟨4, _⟩ => ⟨S2048x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== SbGateBackRefIdeal.lean ====
abbrev S2048x2048 : Shape := ⟨2, ![2048, 2048]⟩
abbrev S2048x8192 : Shape := ⟨2, ![2048, 8192]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x8192, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S_, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v4_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v4_1 : Ref sig .tc := ⟨.hbm, 18, rfl⟩
abbrev main_v4_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v8 : Ref sig .tc := ⟨.hbm, 26, rfl⟩
abbrev main_v9 : Ref sig .tc := ⟨.hbm, 27, rfl⟩

abbrev nD : Nat := 1
abbrev τ : Topo := Topo.v7x

variable {F : FTy → Type} [FloatOps F]
-- ==== SbFwd.lean ====
abbrev S2048x2048 : Shape := ⟨2, ![2048, 2048]⟩
abbrev S2048x8192 : Shape := ⟨2, ![2048, 8192]⟩
abbrev S2048x128 : Shape := ⟨2, ![2048, 128]⟩
abbrev S256x256 : Shape := ⟨2, ![256, 256]⟩
abbrev S2048x1 : Shape := ⟨2, ![2048, 1]⟩
abbrev S256x128 : Shape := ⟨2, ![256, 128]⟩
abbrev S256x1 : Shape := ⟨2, ![256, 1]⟩
abbrev S768x256 : Shape := ⟨2, ![768, 256]⟩
abbrev S256 : Shape := ⟨1, ![256]⟩
abbrev S1792x128 : Shape := ⟨2, ![1792, 128]⟩
abbrev S1792x1 : Shape := ⟨2, ![1792, 1]⟩
abbrev S512x128 : Shape := ⟨2, ![512, 128]⟩
abbrev S512x1 : Shape := ⟨2, ![512, 1]⟩
abbrev S512x256 : Shape := ⟨2, ![512, 256]⟩
abbrev S1536x256 : Shape := ⟨2, ![1536, 256]⟩
abbrev S512 : Shape := ⟨1, ![512]⟩
abbrev S1536x128 : Shape := ⟨2, ![1536, 128]⟩
abbrev S1536x1 : Shape := ⟨2, ![1536, 1]⟩
abbrev S768x128 : Shape := ⟨2, ![768, 128]⟩
abbrev S768x1 : Shape := ⟨2, ![768, 1]⟩
abbrev S2304x256 : Shape := ⟨2, ![2304, 256]⟩
abbrev S768 : Shape := ⟨1, ![768]⟩
abbrev S1280x128 : Shape := ⟨2, ![1280, 128]⟩
abbrev S1280x1 : Shape := ⟨2, ![1280, 1]⟩
abbrev S1024x128 : Shape := ⟨2, ![1024, 128]⟩
abbrev S1024x1 : Shape := ⟨2, ![1024, 1]⟩
abbrev S1024x256 : Shape := ⟨2, ![1024, 256]⟩
abbrev S3072x256 : Shape := ⟨2, ![3072, 256]⟩
abbrev S1024 : Shape := ⟨1, ![1024]⟩
abbrev S1280x256 : Shape := ⟨2, ![1280, 256]⟩
abbrev S3840x256 : Shape := ⟨2, ![3840, 256]⟩
abbrev S1280 : Shape := ⟨1, ![1280]⟩
abbrev S4608x256 : Shape := ⟨2, ![4608, 256]⟩
abbrev S1536 : Shape := ⟨1, ![1536]⟩
abbrev S1792x256 : Shape := ⟨2, ![1792, 256]⟩
abbrev S5376x256 : Shape := ⟨2, ![5376, 256]⟩
abbrev S1792 : Shape := ⟨1, ![1792]⟩
abbrev S2048x256 : Shape := ⟨2, ![2048, 256]⟩
abbrev S6144x256 : Shape := ⟨2, ![6144, 256]⟩
abbrev S2048 : Shape := ⟨1, ![2048]⟩

abbrev nBuf : Space → Nat
  | .hbm => 6
  | .vmem => 14
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x8192, .f32⟩
  | .hbm, ⟨3, _⟩ => ⟨S2048x2048, .f32⟩
  | .hbm, ⟨4, _⟩ => ⟨S2048x2048, .f32⟩
  | .hbm, ⟨5, _⟩ => ⟨S2048x2048, .bf16⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .bf16⟩
  | .local _ .vmem, ⟨13, _⟩ => ⟨S2048x128, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 1], ![false, false]⟩

def k0_mult1 (i : grid0.Coords) : BitVec 32 :=
  let arg1 : BitVec 32 := BitVec.ofNat 32 (i 1).val
  let c8_i32 : BitVec 32 := 8#32
  let v10 : BitVec 32 := Scalar.muli arg1 c8_i32
  let c7_i32 : BitVec 32 := 7#32
  let v11 : BitVec 32 := Scalar.addi v10 c7_i32
  let c256_i32 : BitVec 32 := 256#32
  let v17 : BitVec 32 := Scalar.muli v11 c256_i32
  v17
def k0_off1 (i : grid0.Coords) (c7_i32 : BitVec 32) : Fin 2 → Nat :=
  let arg1 : BitVec 32 := BitVec.ofNat 32 (i 1).val
  let c8_i32 : BitVec 32 := 8#32
  let v10 : BitVec 32 := Scalar.muli arg1 c8_i32
  let v11 : BitVec 32 := Scalar.addi v10 c7_i32
  let c256_i32 : BitVec 32 := 256#32
  let v17 : BitVec 32 := Scalar.muli v11 c256_i32
  let v18 : BitVec 32 := v17
  let v19 : Index := Scalar.indexCast v18
  let c0_2 : Index := 0#32
  ![v19.toNat, 0]
def k0_mult2 (i : grid0.Coords) : BitVec 32 :=
  let arg1 : BitVec 32 := BitVec.ofNat 32 (i 1).val
  let c8_i32_14 : BitVec 32 := 8#32
  let v71 : BitVec 32 := Scalar.muli arg1 c8_i32_14
  let c6_i32 : BitVec 32 := 6#32
  let v72 : BitVec 32 := Scalar.addi v71 c6_i32
  let c256_i32_15 : BitVec 32 := 256#32
  let v78 : BitVec 32 := Scalar.muli v72 c256_i32_15
  v78
def k0_mult3 (i : grid0.Coords) : BitVec 32 :=
  let arg1 : BitVec 32 := BitVec.ofNat 32 (i 1).val
  let c8_i32_28 : BitVec 32 := 8#32
  let v132 : BitVec 32 := Scalar.muli arg1 c8_i32_28
  let c5_i32 : BitVec 32 := 5#32
  let v133 : BitVec 32 := Scalar.addi v132 c5_i32
  let c256_i32_29 : BitVec 32 := 256#32
  let v139 : BitVec 32 := Scalar.muli v133 c256_i32_29
  v139
def k0_mult4 (i : grid0.Coords) : BitVec 32 :=
  let arg1 : BitVec 32 := BitVec.ofNat 32 (i 1).val
  let c8_i32_42 : BitVec 32 := 8#32
  let v193 : BitVec 32 := Scalar.muli arg1 c8_i32_42
  let c4_i32 : BitVec 32 := 4#32
  let v194 : BitVec 32 := Scalar.addi v193 c4_i32
  let c256_i32_43 : BitVec 32 := 256#32
  let v200 : BitVec 32 := Scalar.muli v194 c256_i32_43
  v200
def k0_mult5 (i : grid0.Coords) : BitVec 32 :=
  let arg1 : BitVec 32 := BitVec.ofNat 32 (i 1).val
  let c8_i32_56 : BitVec 32 := 8#32
  let v254 : BitVec 32 := Scalar.muli arg1 c8_i32_56
  let c3_i32 : BitVec 32 := 3#32
  let v255 : BitVec 32 := Scalar.addi v254 c3_i32
  let c256_i32_57 : BitVec 32 := 256#32
  let v261 : BitVec 32 := Scalar.muli v255 c256_i32_57
  v261
def k0_mult6 (i : grid0.Coords) : BitVec 32 :=
  let arg1 : BitVec 32 := BitVec.ofNat 32 (i 1).val
  let c8_i32_70 : BitVec 32 := 8#32
  let v315 : BitVec 32 := Scalar.muli arg1 c8_i32_70
  let c2_i32 : BitVec 32 := 2#32
  let v316 : BitVec 32 := Scalar.addi v315 c2_i32
  let c256_i32_71 : BitVec 32 := 256#32
  let v322 : BitVec 32 := Scalar.muli v316 c256_i32_71
  v322
def k0_mult7 (i : grid0.Coords) : BitVec 32 :=
  let arg1 : BitVec 32 := BitVec.ofNat 32 (i 1).val
  let c8_i32_84 : BitVec 32 := 8#32
  let v376 : BitVec 32 := Scalar.muli arg1 c8_i32_84
  let c1_i32 : BitVec 32 := 1#32
  let v377 : BitVec 32 := Scalar.addi v376 c1_i32
  let c256_i32_85 : BitVec 32 := 256#32
  let v383 : BitVec 32 := Scalar.muli v377 c256_i32_85
  v383
def k0_mult8 (i : grid0.Coords) : BitVec 32 :=
  let arg1 : BitVec 32 := BitVec.ofNat 32 (i 1).val
  let c8_i32_98 : BitVec 32 := 8#32
  let v436 : BitVec 32 := Scalar.muli arg1 c8_i32_98
  let c0_i32 : BitVec 32 := 0#32
  let v437 : BitVec 32 := Scalar.addi v436 c0_i32
  let c256_i32_99 : BitVec 32 := 256#32
  let v441 : BitVec 32 := Scalar.muli v437 c256_i32_99
  v441
@[reducible] def k0_t1_loop (i : grid0.Coords) : Scf.Loop 32 :=
  let c0_i32_112 : BitVec 32 := 0#32
  let arg1 : BitVec 32 := BitVec.ofNat 32 (i 1).val
  let v490 : BitVec 32 := Scalar.subi arg1 c0_i32_112
  let c1_i32_113 : BitVec 32 := 1#32
  let v492 : BitVec 32 := Scalar.divsi v490 c1_i32_113
  let v493 : BitVec 32 := Scalar.muli v492 c1_i32_113
  let v494 : BitVec 32 := Scalar.addi c0_i32_112 v493
  let c1_i32_114 : BitVec 32 := 1#32
  ⟨c0_i32_112, v494, c1_i32_114⟩
def k0_mult9 (i : grid0.Coords) (k0_t1 : Fin (k0_t1_loop i).trips) : BitVec 32 :=
  let arg1 : BitVec 32 := BitVec.ofNat 32 (i 1).val
  let c1_i32_127 : BitVec 32 := 1#32
  let v513 : BitVec 32 := Scalar.subi arg1 c1_i32_127
  let c0_i32_112 : BitVec 32 := 0#32
  let c1_i32_114 : BitVec 32 := 1#32
  let arg9 : BitVec 32 := Scf.iv c0_i32_112 c1_i32_114 k0_t1
  let v514 : BitVec 32 := Scalar.subi v513 arg9
  let c8_i32_128 : BitVec 32 := 8#32
  let v515 : BitVec 32 := Scalar.muli v514 c8_i32_128
  let c7_i32_129 : BitVec 32 := 7#32
  let v516 : BitVec 32 := Scalar.addi v515 c7_i32_129
  let c256_i32_130 : BitVec 32 := 256#32
  let v517 : BitVec 32 := Scalar.muli v516 c256_i32_130
  v517
def k0_off2 (i : grid0.Coords) (k0_t1 : Fin (k0_t1_loop i).trips) (c7_i32_129 : BitVec 32) : Fin 2 → Nat :=
  let arg1 : BitVec 32 := BitVec.ofNat 32 (i 1).val
  let c1_i32_127 : BitVec 32 := 1#32
  let v513 : BitVec 32 := Scalar.subi arg1 c1_i32_127
  let c0_i32_112 : BitVec 32 := 0#32
  let c1_i32_114 : BitVec 32 := 1#32
  let arg9 : BitVec 32 := Scf.iv c0_i32_112 c1_i32_114 k0_t1
  let v514 : BitVec 32 := Scalar.subi v513 arg9
  let c8_i32_128 : BitVec 32 := 8#32
  let v515 : BitVec 32 := Scalar.muli v514 c8_i32_128
  let v516 : BitVec 32 := Scalar.addi v515 c7_i32_129
  let c256_i32_130 : BitVec 32 := 256#32
  let v517 : BitVec 32 := Scalar.muli v516 c256_i32_130
  let v518 : BitVec 32 := v517
  let v519 : Index := Scalar.indexCast v518
  let c0_131 : Index := 0#32
  ![v519.toNat, 0]
def k0_mult10 (i : grid0.Coords) (k0_t1 : Fin (k0_t1_loop i).trips) : BitVec 32 :=
  let arg1 : BitVec 32 := BitVec.ofNat 32 (i 1).val
  let c1_i32_141 : BitVec 32 := 1#32
  let v562 : BitVec 32 := Scalar.subi arg1 c1_i32_141
  let c0_i32_112 : BitVec 32 := 0#32
  let c1_i32_114 : BitVec 32 := 1#32
  let arg9 : BitVec 32 := Scf.iv c0_i32_112 c1_i32_114 k0_t1
  let v563 : BitVec 32 := Scalar.subi v562 arg9
  let c8_i32_142 : BitVec 32 := 8#32
  let v564 : BitVec 32 := Scalar.muli v563 c8_i32_142
  let c6_i32_143 : BitVec 32 := 6#32
  let v565 : BitVec 32 := Scalar.addi v564 c6_i32_143
  let c256_i32_144 : BitVec 32 := 256#32
  let v566 : BitVec 32 := Scalar.muli v565 c256_i32_144
  v566
def k0_mult11 (i : grid0.Coords) (k0_t1 : Fin (k0_t1_loop i).trips) : BitVec 32 :=
  let arg1 : BitVec 32 := BitVec.ofNat 32 (i 1).val
  let c1_i32_155 : BitVec 32 := 1#32
  let v611 : BitVec 32 := Scalar.subi arg1 c1_i32_155
  let c0_i32_112 : BitVec 32 := 0#32
  let c1_i32_114 : BitVec 32 := 1#32
  let arg9 : BitVec 32 := Scf.iv c0_i32_112 c1_i32_114 k0_t1
  let v612 : BitVec 32 := Scalar.subi v611 arg9
  let c8_i32_156 : BitVec 32 := 8#32
  let v613 : BitVec 32 := Scalar.muli v612 c8_i32_156
  let c5_i32_157 : BitVec 32 := 5#32
  let v614 : BitVec 32 := Scalar.addi v613 c5_i32_157
  let c256_i32_158 : BitVec 32 := 256#32
  let v615 : BitVec 32 := Scalar.muli v614 c256_i32_158
  v615
def k0_mult12 (i : grid0.Coords) (k0_t1 : Fin (k0_t1_loop i).trips) : BitVec 32 :=
  let arg1 : BitVec 32 := BitVec.ofNat 32 (i 1).val
  let c1_i32_169 : BitVec 32 := 1#32
  let v660 : BitVec 32 := Scalar.subi arg1 c1_i32_169
  let c0_i32_112 : BitVec 32 := 0#32
  let c1_i32_114 : BitVec 32 := 1#32
  let arg9 : BitVec 32 := Scf.iv c0_i32_112 c1_i32_114 k0_t1
  let v661 : BitVec 32 := Scalar.subi v660 arg9
  let c8_i32_170 : BitVec 32 := 8#32
  let v662 : BitVec 32 := Scalar.muli v661 c8_i32_170
  let c4_i32_171 : BitVec 32 := 4#32
  let v663 : BitVec 32 := Scalar.addi v662 c4_i32_171
  let c256_i32_172 : BitVec 32 := 256#32
  let v664 : BitVec 32 := Scalar.muli v663 c256_i32_172
  v664
def k0_mult13 (i : grid0.Coords) (k0_t1 : Fin (k0_t1_loop i).trips) : BitVec 32 :=
  let arg1 : BitVec 32 := BitVec.ofNat 32 (i 1).val
  let c1_i32_183 : BitVec 32 := 1#32
  let v709 : BitVec 32 := Scalar.subi arg1 c1_i32_183
  let c0_i32_112 : BitVec 32 := 0#32
  let c1_i32_114 : BitVec 32 := 1#32
  let arg9 : BitVec 32 := Scf.iv c0_i32_112 c1_i32_114 k0_t1
  let v710 : BitVec 32 := Scalar.subi v709 arg9
  let c8_i32_184 : BitVec 32 := 8#32
  let v711 : BitVec 32 := Scalar.muli v710 c8_i32_184
  let c3_i32_185 : BitVec 32 := 3#32
  let v712 : BitVec 32 := Scalar.addi v711 c3_i32_185
  let c256_i32_186 : BitVec 32 := 256#32
  let v713 : BitVec 32 := Scalar.muli v712 c256_i32_186
  v713
def k0_mult14 (i : grid0.Coords) (k0_t1 : Fin (k0_t1_loop i).trips) : BitVec 32 :=
  let arg1 : BitVec 32 := BitVec.ofNat 32 (i 1).val
  let c1_i32_197 : BitVec 32 := 1#32
  let v758 : BitVec 32 := Scalar.subi arg1 c1_i32_197
  let c0_i32_112 : BitVec 32 := 0#32
  let c1_i32_114 : BitVec 32 := 1#32
  let arg9 : BitVec 32 := Scf.iv c0_i32_112 c1_i32_114 k0_t1
  let v759 : BitVec 32 := Scalar.subi v758 arg9
  let c8_i32_198 : BitVec 32 := 8#32
  let v760 : BitVec 32 := Scalar.muli v759 c8_i32_198
  let c2_i32_199 : BitVec 32 := 2#32
  let v761 : BitVec 32 := Scalar.addi v760 c2_i32_199
  let c256_i32_200 : BitVec 32 := 256#32
  let v762 : BitVec 32 := Scalar.muli v761 c256_i32_200
  v762
def k0_mult15 (i : grid0.Coords) (k0_t1 : Fin (k0_t1_loop i).trips) : BitVec 32 :=
  let arg1 : BitVec 32 := BitVec.ofNat 32 (i 1).val
  let c1_i32_211 : BitVec 32 := 1#32
  let v807 : BitVec 32 := Scalar.subi arg1 c1_i32_211
  let c0_i32_112 : BitVec 32 := 0#32
  let c1_i32_114 : BitVec 32 := 1#32
  let arg9 : BitVec 32 := Scf.iv c0_i32_112 c1_i32_114 k0_t1
  let v808 : BitVec 32 := Scalar.subi v807 arg9
  let c8_i32_212 : BitVec 32 := 8#32
  let v809 : BitVec 32 := Scalar.muli v808 c8_i32_212
  let c1_i32_213 : BitVec 32 := 1#32
  let v810 : BitVec 32 := Scalar.addi v809 c1_i32_213
  let c256_i32_214 : BitVec 32 := 256#32
  let v811 : BitVec 32 := Scalar.muli v810 c256_i32_214
  v811
def k0_mult16 (i : grid0.Coords) (k0_t1 : Fin (k0_t1_loop i).trips) : BitVec 32 :=
  let arg1 : BitVec 32 := BitVec.ofNat 32 (i 1).val
  let c1_i32_225 : BitVec 32 := 1#32
  let v856 : BitVec 32 := Scalar.subi arg1 c1_i32_225
  let c0_i32_112 : BitVec 32 := 0#32
  let c1_i32_114 : BitVec 32 := 1#32
  let arg9 : BitVec 32 := Scf.iv c0_i32_112 c1_i32_114 k0_t1
  let v857 : BitVec 32 := Scalar.subi v856 arg9
  let c8_i32_226 : BitVec 32 := 8#32
  let v858 : BitVec 32 := Scalar.muli v857 c8_i32_226
  let c0_i32_227 : BitVec 32 := 0#32
  let v859 : BitVec 32 := Scalar.addi v858 c0_i32_227
  let c256_i32_228 : BitVec 32 := 256#32
  let v860 : BitVec 32 := Scalar.muli v859 c256_i32_228
  v860
@[reducible] def k0_t2_loop (i : grid0.Coords) : Scf.Loop 32 :=
  let c0_i32_112 : BitVec 32 := 0#32
  let arg1 : BitVec 32 := BitVec.ofNat 32 (i 1).val
  let v490 : BitVec 32 := Scalar.subi arg1 c0_i32_112
  let c1_i32_113 : BitVec 32 := 1#32
  let v492 : BitVec 32 := Scalar.divsi v490 c1_i32_113
  let v493 : BitVec 32 := Scalar.muli v492 c1_i32_113
  let v494 : BitVec 32 := Scalar.addi c0_i32_112 v493
  let v491 : BitVec 32 := Scalar.addi c0_i32_112 v490
  let c1_i32_115 : BitVec 32 := 1#32
  ⟨v494, v491, c1_i32_115⟩
def k0_mult17 (i : grid0.Coords) (k0_t2 : Fin (k0_t2_loop i).trips) : BitVec 32 :=
  let arg1 : BitVec 32 := BitVec.ofNat 32 (i 1).val
  let c1_i32_127 : BitVec 32 := 1#32
  let v513 : BitVec 32 := Scalar.subi arg1 c1_i32_127
  let c0_i32_112 : BitVec 32 := 0#32
  let v490 : BitVec 32 := Scalar.subi arg1 c0_i32_112
  let c1_i32_113 : BitVec 32 := 1#32
  let v492 : BitVec 32 := Scalar.divsi v490 c1_i32_113
  let v493 : BitVec 32 := Scalar.muli v492 c1_i32_113
  let v494 : BitVec 32 := Scalar.addi c0_i32_112 v493
  let c1_i32_115 : BitVec 32 := 1#32
  let arg9 : BitVec 32 := Scf.iv v494 c1_i32_115 k0_t2
  let v514 : BitVec 32 := Scalar.subi v513 arg9
  let c8_i32_128 : BitVec 32 := 8#32
  let v515 : BitVec 32 := Scalar.muli v514 c8_i32_128
  let c7_i32_129 : BitVec 32 := 7#32
  let v516 : BitVec 32 := Scalar.addi v515 c7_i32_129
  let c256_i32_130 : BitVec 32 := 256#32
  let v517 : BitVec 32 := Scalar.muli v516 c256_i32_130
  v517
def k0_off3 (i : grid0.Coords) (k0_t2 : Fin (k0_t2_loop i).trips) (c7_i32_129 : BitVec 32) : Fin 2 → Nat :=
  let arg1 : BitVec 32 := BitVec.ofNat 32 (i 1).val
  let c1_i32_127 : BitVec 32 := 1#32
  let v513 : BitVec 32 := Scalar.subi arg1 c1_i32_127
  let c0_i32_112 : BitVec 32 := 0#32
  let v490 : BitVec 32 := Scalar.subi arg1 c0_i32_112
  let c1_i32_113 : BitVec 32 := 1#32
  let v492 : BitVec 32 := Scalar.divsi v490 c1_i32_113
  let v493 : BitVec 32 := Scalar.muli v492 c1_i32_113
  let v494 : BitVec 32 := Scalar.addi c0_i32_112 v493
  let c1_i32_115 : BitVec 32 := 1#32
  let arg9 : BitVec 32 := Scf.iv v494 c1_i32_115 k0_t2
  let v514 : BitVec 32 := Scalar.subi v513 arg9
  let c8_i32_128 : BitVec 32 := 8#32
  let v515 : BitVec 32 := Scalar.muli v514 c8_i32_128
  let v516 : BitVec 32 := Scalar.addi v515 c7_i32_129
  let c256_i32_130 : BitVec 32 := 256#32
  let v517 : BitVec 32 := Scalar.muli v516 c256_i32_130
  let v518 : BitVec 32 := v517
  let v519 : Index := Scalar.indexCast v518
  let c0_131 : Index := 0#32
  ![v519.toNat, 0]
def k0_mult18 (i : grid0.Coords) (k0_t2 : Fin (k0_t2_loop i).trips) : BitVec 32 :=
  let arg1 : BitVec 32 := BitVec.ofNat 32 (i 1).val
  let c1_i32_141 : BitVec 32 := 1#32
  let v562 : BitVec 32 := Scalar.subi arg1 c1_i32_141
  let c0_i32_112 : BitVec 32 := 0#32
  let v490 : BitVec 32 := Scalar.subi arg1 c0_i32_112
  let c1_i32_113 : BitVec 32 := 1#32
  let v492 : BitVec 32 := Scalar.divsi v490 c1_i32_113
  let v493 : BitVec 32 := Scalar.muli v492 c1_i32_113
  let v494 : BitVec 32 := Scalar.addi c0_i32_112 v493
  let c1_i32_115 : BitVec 32 := 1#32
  let arg9 : BitVec 32 := Scf.iv v494 c1_i32_115 k0_t2
  let v563 : BitVec 32 := Scalar.subi v562 arg9
  let c8_i32_142 : BitVec 32 := 8#32
  let v564 : BitVec 32 := Scalar.muli v563 c8_i32_142
  let c6_i32_143 : BitVec 32 := 6#32
  let v565 : BitVec 32 := Scalar.addi v564 c6_i32_143
  let c256_i32_144 : BitVec 32 := 256#32
  let v566 : BitVec 32 := Scalar.muli v565 c256_i32_144
  v566
def k0_mult19 (i : grid0.Coords) (k0_t2 : Fin (k0_t2_loop i).trips) : BitVec 32 :=
  let arg1 : BitVec 32 := BitVec.ofNat 32 (i 1).val
  let c1_i32_155 : BitVec 32 := 1#32
  let v611 : BitVec 32 := Scalar.subi arg1 c1_i32_155
  let c0_i32_112 : BitVec 32 := 0#32
  let v490 : BitVec 32 := Scalar.subi arg1 c0_i32_112
  let c1_i32_113 : BitVec 32 := 1#32
  let v492 : BitVec 32 := Scalar.divsi v490 c1_i32_113
  let v493 : BitVec 32 := Scalar.muli v492 c1_i32_113
  let v494 : BitVec 32 := Scalar.addi c0_i32_112 v493
  let c1_i32_115 : BitVec 32 := 1#32
  let arg9 : BitVec 32 := Scf.iv v494 c1_i32_115 k0_t2
  let v612 : BitVec 32 := Scalar.subi v611 arg9
  let c8_i32_156 : BitVec 32 := 8#32
  let v613 : BitVec 32 := Scalar.muli v612 c8_i32_156
  let c5_i32_157 : BitVec 32 := 5#32
  let v614 : BitVec 32 := Scalar.addi v613 c5_i32_157
  let c256_i32_158 : BitVec 32 := 256#32
  let v615 : BitVec 32 := Scalar.muli v614 c256_i32_158
  v615
def k0_mult20 (i : grid0.Coords) (k0_t2 : Fin (k0_t2_loop i).trips) : BitVec 32 :=
  let arg1 : BitVec 32 := BitVec.ofNat 32 (i 1).val
  let c1_i32_169 : BitVec 32 := 1#32
  let v660 : BitVec 32 := Scalar.subi arg1 c1_i32_169
  let c0_i32_112 : BitVec 32 := 0#32
  let v490 : BitVec 32 := Scalar.subi arg1 c0_i32_112
  let c1_i32_113 : BitVec 32 := 1#32
  let v492 : BitVec 32 := Scalar.divsi v490 c1_i32_113
  let v493 : BitVec 32 := Scalar.muli v492 c1_i32_113
  let v494 : BitVec 32 := Scalar.addi c0_i32_112 v493
  let c1_i32_115 : BitVec 32 := 1#32
  let arg9 : BitVec 32 := Scf.iv v494 c1_i32_115 k0_t2
  let v661 : BitVec 32 := Scalar.subi v660 arg9
  let c8_i32_170 : BitVec 32 := 8#32
  let v662 : BitVec 32 := Scalar.muli v661 c8_i32_170
  let c4_i32_171 : BitVec 32 := 4#32
  let v663 : BitVec 32 := Scalar.addi v662 c4_i32_171
  let c256_i32_172 : BitVec 32 := 256#32
  let v664 : BitVec 32 := Scalar.muli v663 c256_i32_172
  v664
def k0_mult21 (i : grid0.Coords) (k0_t2 : Fin (k0_t2_loop i).trips) : BitVec 32 :=
  let arg1 : BitVec 32 := BitVec.ofNat 32 (i 1).val
  let c1_i32_183 : BitVec 32 := 1#32
  let v709 : BitVec 32 := Scalar.subi arg1 c1_i32_183
  let c0_i32_112 : BitVec 32 := 0#32
  let v490 : BitVec 32 := Scalar.subi arg1 c0_i32_112
  let c1_i32_113 : BitVec 32 := 1#32
  let v492 : BitVec 32 := Scalar.divsi v490 c1_i32_113
  let v493 : BitVec 32 := Scalar.muli v492 c1_i32_113
  let v494 : BitVec 32 := Scalar.addi c0_i32_112 v493
  let c1_i32_115 : BitVec 32 := 1#32
  let arg9 : BitVec 32 := Scf.iv v494 c1_i32_115 k0_t2
  let v710 : BitVec 32 := Scalar.subi v709 arg9
  let c8_i32_184 : BitVec 32 := 8#32
  let v711 : BitVec 32 := Scalar.muli v710 c8_i32_184
  let c3_i32_185 : BitVec 32 := 3#32
  let v712 : BitVec 32 := Scalar.addi v711 c3_i32_185
  let c256_i32_186 : BitVec 32 := 256#32
  let v713 : BitVec 32 := Scalar.muli v712 c256_i32_186
  v713
def k0_mult22 (i : grid0.Coords) (k0_t2 : Fin (k0_t2_loop i).trips) : BitVec 32 :=
  let arg1 : BitVec 32 := BitVec.ofNat 32 (i 1).val
  let c1_i32_197 : BitVec 32 := 1#32
  let v758 : BitVec 32 := Scalar.subi arg1 c1_i32_197
  let c0_i32_112 : BitVec 32 := 0#32
  let v490 : BitVec 32 := Scalar.subi arg1 c0_i32_112
  let c1_i32_113 : BitVec 32 := 1#32
  let v492 : BitVec 32 := Scalar.divsi v490 c1_i32_113
  let v493 : BitVec 32 := Scalar.muli v492 c1_i32_113
  let v494 : BitVec 32 := Scalar.addi c0_i32_112 v493
  let c1_i32_115 : BitVec 32 := 1#32
  let arg9 : BitVec 32 := Scf.iv v494 c1_i32_115 k0_t2
  let v759 : BitVec 32 := Scalar.subi v758 arg9
  let c8_i32_198 : BitVec 32 := 8#32
  let v760 : BitVec 32 := Scalar.muli v759 c8_i32_198
  let c2_i32_199 : BitVec 32 := 2#32
  let v761 : BitVec 32 := Scalar.addi v760 c2_i32_199
  let c256_i32_200 : BitVec 32 := 256#32
  let v762 : BitVec 32 := Scalar.muli v761 c256_i32_200
  v762
def k0_mult23 (i : grid0.Coords) (k0_t2 : Fin (k0_t2_loop i).trips) : BitVec 32 :=
  let arg1 : BitVec 32 := BitVec.ofNat 32 (i 1).val
  let c1_i32_211 : BitVec 32 := 1#32
  let v807 : BitVec 32 := Scalar.subi arg1 c1_i32_211
  let c0_i32_112 : BitVec 32 := 0#32
  let v490 : BitVec 32 := Scalar.subi arg1 c0_i32_112
  let c1_i32_113 : BitVec 32 := 1#32
  let v492 : BitVec 32 := Scalar.divsi v490 c1_i32_113
  let v493 : BitVec 32 := Scalar.muli v492 c1_i32_113
  let v494 : BitVec 32 := Scalar.addi c0_i32_112 v493
  let c1_i32_115 : BitVec 32 := 1#32
  let arg9 : BitVec 32 := Scf.iv v494 c1_i32_115 k0_t2
  let v808 : BitVec 32 := Scalar.subi v807 arg9
  let c8_i32_212 : BitVec 32 := 8#32
  let v809 : BitVec 32 := Scalar.muli v808 c8_i32_212
  let c1_i32_213 : BitVec 32 := 1#32
  let v810 : BitVec 32 := Scalar.addi v809 c1_i32_213
  let c256_i32_214 : BitVec 32 := 256#32
  let v811 : BitVec 32 := Scalar.muli v810 c256_i32_214
  v811
def k0_mult24 (i : grid0.Coords) (k0_t2 : Fin (k0_t2_loop i).trips) : BitVec 32 :=
  let arg1 : BitVec 32 := BitVec.ofNat 32 (i 1).val
  let c1_i32_225 : BitVec 32 := 1#32
  let v856 : BitVec 32 := Scalar.subi arg1 c1_i32_225
  let c0_i32_112 : BitVec 32 := 0#32
  let v490 : BitVec 32 := Scalar.subi arg1 c0_i32_112
  let c1_i32_113 : BitVec 32 := 1#32
  let v492 : BitVec 32 := Scalar.divsi v490 c1_i32_113
  let v493 : BitVec 32 := Scalar.muli v492 c1_i32_113
  let v494 : BitVec 32 := Scalar.addi c0_i32_112 v493
  let c1_i32_115 : BitVec 32 := 1#32
  let arg9 : BitVec 32 := Scf.iv v494 c1_i32_115 k0_t2
  let v857 : BitVec 32 := Scalar.subi v856 arg9
  let c8_i32_226 : BitVec 32 := 8#32
  let v858 : BitVec 32 := Scalar.muli v857 c8_i32_226
  let c0_i32_227 : BitVec 32 := 0#32
  let v859 : BitVec 32 := Scalar.addi v858 c0_i32_227
  let c256_i32_228 : BitVec 32 := 256#32
  let v860 : BitVec 32 := Scalar.muli v859 c256_i32_228
  v860
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== SbFwdRefIdeal.lean ====
abbrev S2048x2048 : Shape := ⟨2, ![2048, 2048]⟩
abbrev S2048x8192 : Shape := ⟨2, ![2048, 8192]⟩
abbrev S2048x16x128 : Shape := ⟨3, ![2048, 16, 128]⟩
abbrev S16x2048x128 : Shape := ⟨3, ![16, 2048, 128]⟩
abbrev S16x2048x2048 : Shape := ⟨3, ![16, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S16x2048 : Shape := ⟨2, ![16, 2048]⟩
abbrev S2048x16 : Shape := ⟨2, ![2048, 16]⟩
abbrev S2048x16x1 : Shape := ⟨3, ![2048, 16, 1]⟩

abbrev nBuf : Space → Nat
  | .hbm => 132
  | .vmem => 0
  | .smem => 0
  | _ => 0

abbrev hbmTy0_0 (i : Nat) : BufTy := match i % 128 with
  | 0 => ⟨S2048x2048, .bf16⟩
  | 1 => ⟨S2048x2048, .bf16⟩
  | 2 => ⟨S2048x8192, .f32⟩
  | 3 => ⟨S2048x2048, .f32⟩
  | 4 => ⟨S2048x2048, .f32⟩
  | 5 => ⟨S2048x2048, .f32⟩
  | 6 => ⟨S2048x2048, .f32⟩
  | 7 => ⟨S2048x2048, .f32⟩
  | 8 => ⟨S2048x2048, .f32⟩
  | 9 => ⟨S2048x16x128, .f32⟩
  | 10 => ⟨S16x2048x128, .f32⟩
  | 11 => ⟨S2048x16x128, .f32⟩
  | 12 => ⟨S16x2048x128, .f32⟩
  | 13 => ⟨S2048x16x128, .f32⟩
  | 14 => ⟨S16x2048x128, .f32⟩
  | 15 => ⟨S16x2048x2048, .f32⟩
  | 16 => ⟨S_, .f32⟩
  | 17 => ⟨S16x2048x2048, .f32⟩
  | 18 => ⟨S16x2048x2048, .f32⟩
  | 19 => ⟨S2048, .i32⟩
  | 20 => ⟨S1x2048, .i32⟩
  | 21 => ⟨S2048, .i32⟩
  | 22 => ⟨S2048x1, .i32⟩
  | 23 => ⟨S2048x2048, .i32⟩
  | 24 => ⟨S2048x2048, .i32⟩
  | 25 => ⟨S2048x2048, .i1⟩
  | 26 => ⟨S16x2048x2048, .f32⟩
  | 27 => ⟨S_, .f32⟩
  | 28 => ⟨S16x2048x2048, .f32⟩
  | 29 => ⟨S16x2048x2048, .f32⟩
  | 30 => ⟨S16x2048x2048, .f32⟩
  | 31 => ⟨S16x2048x2048, .f32⟩
  | 32 => ⟨S16x2048x2048, .i1⟩
  | 33 => ⟨S16x2048x2048, .f32⟩
  | 34 => ⟨S16x2048x2048, .f32⟩
  | 35 => ⟨S16x2048x2048, .f32⟩
  | 36 => ⟨S16x2048x2048, .f32⟩
  | 37 => ⟨S16x2048x2048, .f32⟩
  | 38 => ⟨S16x2048x2048, .f32⟩
  | 39 => ⟨S16x2048x2048, .f32⟩
  | 40 => ⟨S16x2048x2048, .f32⟩
  | 41 => ⟨S16x2048x2048, .f32⟩
  | 42 => ⟨S16x2048x2048, .f32⟩
  | 43 => ⟨S16x2048x2048, .f32⟩
  | 44 => ⟨S_, .f32⟩
  | 45 => ⟨S16x2048x2048, .f32⟩
  | 46 => ⟨S16x2048x2048, .f32⟩
  | 47 => ⟨S16x2048x2048, .f32⟩
  | 48 => ⟨S16x2048x2048, .f32⟩
  | 49 => ⟨S16x2048x2048, .i1⟩
  | 50 => ⟨S16x2048x2048, .f32⟩
  | 51 => ⟨S16x2048x2048, .f32⟩
  | 52 => ⟨S16x2048x2048, .f32⟩
  | 53 => ⟨S16x2048x2048, .f32⟩
  | 54 => ⟨S16x2048x2048, .f32⟩
  | 55 => ⟨S16x2048x2048, .f32⟩
  | 56 => ⟨S16x2048x2048, .f32⟩
  | 57 => ⟨S16x2048x2048, .f32⟩
  | 58 => ⟨S16x2048x2048, .f32⟩
  | 59 => ⟨S_, .f32⟩
  | 60 => ⟨S_, .f32⟩
  | 61 => ⟨S16x2048x2048, .i1⟩
  | 62 => ⟨S16x2048x2048, .f32⟩
  | 63 => ⟨S16x2048x2048, .f32⟩
  | 64 => ⟨S_, .f32⟩
  | 65 => ⟨S_, .f32⟩
  | 66 => ⟨S16x2048x2048, .f32⟩
  | 67 => ⟨S16x2048x2048, .f32⟩
  | 68 => ⟨S16x2048x2048, .f32⟩
  | 69 => ⟨S16x2048x2048, .f32⟩
  | 70 => ⟨S_, .f32⟩
  | 71 => ⟨S_, .f32⟩
  | 72 => ⟨S16x2048x2048, .i1⟩
  | 73 => ⟨S16x2048x2048, .f32⟩
  | 74 => ⟨S16x2048x2048, .f32⟩
  | 75 => ⟨S16x2048x128, .f32⟩
  | 76 => ⟨S2048x16x128, .f32⟩
  | 77 => ⟨S2048x2048, .f32⟩
  | 78 => ⟨S2048x16x128, .f32⟩
  | 79 => ⟨S16x2048x128, .f32⟩
  | 80 => ⟨S2048x16x128, .f32⟩
  | 81 => ⟨S16x2048x128, .f32⟩
  | 82 => ⟨S16x2048x2048, .f32⟩
  | 83 => ⟨S_, .f32⟩
  | 84 => ⟨S16x2048x2048, .f32⟩
  | 85 => ⟨S16x2048x2048, .f32⟩
  | 86 => ⟨S2048, .i32⟩
  | 87 => ⟨S1x2048, .i32⟩
  | 88 => ⟨S2048, .i32⟩
  | 89 => ⟨S2048x1, .i32⟩
  | 90 => ⟨S2048x2048, .i32⟩
  | 91 => ⟨S2048x2048, .i32⟩
  | 92 => ⟨S2048x2048, .i1⟩
  | 93 => ⟨S16x2048x2048, .f32⟩
  | 94 => ⟨S16x2048x2048, .f32⟩
  | 95 => ⟨S_, .f32⟩
  | 96 => ⟨S16x2048x2048, .f32⟩
  | 97 => ⟨S16x2048x2048, .f32⟩
  | 98 => ⟨S16x2048x2048, .f32⟩
  | 99 => ⟨S16x2048x2048, .f32⟩
  | 100 => ⟨S16x2048x2048, .i1⟩
  | 101 => ⟨S16x2048x2048, .f32⟩
  | 102 => ⟨S16x2048x2048, .f32⟩
  | 103 => ⟨S16x2048x2048, .f32⟩
  | 104 => ⟨S16x2048x2048, .f32⟩
  | 105 => ⟨S16x2048x2048, .f32⟩
  | 106 => ⟨S16x2048x2048, .f32⟩
  | 107 => ⟨S16x2048x2048, .f32⟩
  | 108 => ⟨S16x2048x2048, .f32⟩
  | 109 => ⟨S16x2048x2048, .f32⟩
  | 110 => ⟨S_, .f32⟩
  | 111 => ⟨S_, .f32⟩
  | 112 => ⟨S16x2048x2048, .i1⟩
  | 113 => ⟨S16x2048x2048, .f32⟩
  | 114 => ⟨S16x2048x2048, .f32⟩
  | 115 => ⟨S_, .f32⟩
  | 116 => ⟨S16x2048, .f32⟩
  | 117 => ⟨S2048x16, .f32⟩
  | 118 => ⟨S2048x16x1, .f32⟩
  | 119 => ⟨S2048x16x128, .f32⟩
  | 120 => ⟨S2048x2048, .f32⟩
  | 121 => ⟨S2048x2048, .f32⟩
  | 122 => ⟨S2048x2048, .f32⟩
  | 123 => ⟨S_, .f32⟩
  | 124 => ⟨S2048x2048, .f32⟩
  | 125 => ⟨S2048x2048, .f32⟩
  | 126 => ⟨S_, .f32⟩
  | 127 => ⟨S2048x2048, .f32⟩
  | _ => ⟨S2048x2048, .bf16⟩

abbrev hbmTy0_1 (i : Nat) : BufTy := match i % 128 with
  | 0 => ⟨S2048x2048, .f32⟩
  | 1 => ⟨S2048x2048, .f32⟩
  | 2 => ⟨S2048x2048, .f32⟩
  | 3 => ⟨S2048x2048, .bf16⟩
  | _ => ⟨S2048x2048, .bf16⟩

abbrev hbmTy (i : Nat) : BufTy := match i / 128 with
  | 0 => hbmTy0_0 i
  | 1 => hbmTy0_1 i
  | _ => ⟨S2048x2048, .bf16⟩

abbrev bufTy : (tb : Table) → Fin (tcTables nBuf tb) → BufTy
  | .hbm, ⟨i, _⟩ => hbmTy i
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_call0_v0 : Ref sig .tc := ⟨.hbm, 26, rfl⟩
abbrev main_call0_call0_cst : Ref sig .tc := ⟨.hbm, 27, rfl⟩
abbrev main_call0_call0_v0 : Ref sig .tc := ⟨.hbm, 28, rfl⟩
abbrev main_call0_call0_v1 : Ref sig .tc := ⟨.hbm, 29, rfl⟩
abbrev main_call0_call0_v2 : Ref sig .tc := ⟨.hbm, 30, rfl⟩
abbrev main_call0_call0_v3 : Ref sig .tc := ⟨.hbm, 31, rfl⟩
abbrev main_call0_call0_v4 : Ref sig .tc := ⟨.hbm, 32, rfl⟩
abbrev main_call0_call0_v5 : Ref sig .tc := ⟨.hbm, 33, rfl⟩
abbrev main_call0_call0_v6 : Ref sig .tc := ⟨.hbm, 34, rfl⟩
abbrev main_call0_call0_v7 : Ref sig .tc := ⟨.hbm, 35, rfl⟩
abbrev main_call0_call0_v8 : Ref sig .tc := ⟨.hbm, 36, rfl⟩
abbrev main_call0_call0_v9 : Ref sig .tc := ⟨.hbm, 37, rfl⟩
abbrev main_call0_call0_v10 : Ref sig .tc := ⟨.hbm, 38, rfl⟩
abbrev main_call0_call0_v11 : Ref sig .tc := ⟨.hbm, 39, rfl⟩
abbrev main_call0_v1 : Ref sig .tc := ⟨.hbm, 40, rfl⟩
abbrev main_v22 : Ref sig .tc := ⟨.hbm, 41, rfl⟩
abbrev main_v23 : Ref sig .tc := ⟨.hbm, 42, rfl⟩
abbrev main_call1_v0 : Ref sig .tc := ⟨.hbm, 43, rfl⟩
abbrev main_call1_call0_cst : Ref sig .tc := ⟨.hbm, 44, rfl⟩
abbrev main_call1_call0_v0 : Ref sig .tc := ⟨.hbm, 45, rfl⟩
abbrev main_call1_call0_v1 : Ref sig .tc := ⟨.hbm, 46, rfl⟩
abbrev main_call1_call0_v2 : Ref sig .tc := ⟨.hbm, 47, rfl⟩
abbrev main_call1_call0_v3 : Ref sig .tc := ⟨.hbm, 48, rfl⟩
abbrev main_call1_call0_v4 : Ref sig .tc := ⟨.hbm, 49, rfl⟩
abbrev main_call1_call0_v5 : Ref sig .tc := ⟨.hbm, 50, rfl⟩
abbrev main_call1_call0_v6 : Ref sig .tc := ⟨.hbm, 51, rfl⟩
abbrev main_call1_call0_v7 : Ref sig .tc := ⟨.hbm, 52, rfl⟩
abbrev main_call1_call0_v8 : Ref sig .tc := ⟨.hbm, 53, rfl⟩
abbrev main_call1_call0_v9 : Ref sig .tc := ⟨.hbm, 54, rfl⟩
abbrev main_call1_call0_v10 : Ref sig .tc := ⟨.hbm, 55, rfl⟩
abbrev main_call1_call0_v11 : Ref sig .tc := ⟨.hbm, 56, rfl⟩
abbrev main_call1_v1 : Ref sig .tc := ⟨.hbm, 57, rfl⟩
abbrev main_v24 : Ref sig .tc := ⟨.hbm, 58, rfl⟩
abbrev main_cst_0 : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_v25 : Ref sig .tc := ⟨.hbm, 63, rfl⟩
abbrev main_call3_cst : Ref sig .tc := ⟨.hbm, 64, rfl⟩
abbrev main_call3_v0 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_cst_1 : Ref sig .tc := ⟨.hbm, 70, rfl⟩
abbrev main_call4_v0 : Ref sig .tc := ⟨.hbm, 71, rfl⟩
abbrev main_call4_v1 : Ref sig .tc := ⟨.hbm, 72, rfl⟩
abbrev main_call4_v2 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_cst_2 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_call5_v0 : Ref sig .tc := ⟨.hbm, 94, rfl⟩
abbrev main_call5_call0_cst : Ref sig .tc := ⟨.hbm, 95, rfl⟩
abbrev main_call5_call0_v0 : Ref sig .tc := ⟨.hbm, 96, rfl⟩
abbrev main_call5_call0_v1 : Ref sig .tc := ⟨.hbm, 97, rfl⟩
abbrev main_call5_call0_v2 : Ref sig .tc := ⟨.hbm, 98, rfl⟩
abbrev main_call5_call0_v3 : Ref sig .tc := ⟨.hbm, 99, rfl⟩
abbrev main_call5_call0_v4 : Ref sig .tc := ⟨.hbm, 100, rfl⟩
abbrev main_call5_call0_v5 : Ref sig .tc := ⟨.hbm, 101, rfl⟩
abbrev main_call5_call0_v6 : Ref sig .tc := ⟨.hbm, 102, rfl⟩
abbrev main_call5_call0_v7 : Ref sig .tc := ⟨.hbm, 103, rfl⟩
abbrev main_call5_call0_v8 : Ref sig .tc := ⟨.hbm, 104, rfl⟩
abbrev main_call5_call0_v9 : Ref sig .tc := ⟨.hbm, 105, rfl⟩
abbrev main_call5_call0_v10 : Ref sig .tc := ⟨.hbm, 106, rfl⟩
abbrev main_call5_call0_v11 : Ref sig .tc := ⟨.hbm, 107, rfl⟩
abbrev main_call5_v1 : Ref sig .tc := ⟨.hbm, 108, rfl⟩
abbrev main_v49 : Ref sig .tc := ⟨.hbm, 109, rfl⟩
abbrev main_cst_3 : Ref sig .tc := ⟨.hbm, 110, rfl⟩
abbrev main_call6_v0 : Ref sig .tc := ⟨.hbm, 111, rfl⟩
abbrev main_call6_v1 : Ref sig .tc := ⟨.hbm, 112, rfl⟩
abbrev main_call6_v2 : Ref sig .tc := ⟨.hbm, 113, rfl⟩
abbrev main_v50 : Ref sig .tc := ⟨.hbm, 114, rfl⟩
abbrev main_cst_4 : Ref sig .tc := ⟨.hbm, 115, rfl⟩
abbrev main_v51 : Ref sig .tc := ⟨.hbm, 116, rfl⟩
abbrev main_v52 : Ref sig .tc := ⟨.hbm, 117, rfl⟩
abbrev main_v53 : Ref sig .tc := ⟨.hbm, 118, rfl⟩
abbrev main_v54 : Ref sig .tc := ⟨.hbm, 119, rfl⟩
abbrev main_v55 : Ref sig .tc := ⟨.hbm, 120, rfl⟩
abbrev main_call7_v0 : Ref sig .tc := ⟨.hbm, 121, rfl⟩
abbrev main_call7_v1 : Ref sig .tc := ⟨.hbm, 122, rfl⟩
abbrev main_call7_cst : Ref sig .tc := ⟨.hbm, 123, rfl⟩
abbrev main_call7_v2 : Ref sig .tc := ⟨.hbm, 124, rfl⟩
abbrev main_call7_v3 : Ref sig .tc := ⟨.hbm, 125, rfl⟩
abbrev main_call7_cst_0 : Ref sig .tc := ⟨.hbm, 126, rfl⟩
abbrev main_call7_v4 : Ref sig .tc := ⟨.hbm, 127, rfl⟩
abbrev main_call7_v5 : Ref sig .tc := ⟨.hbm, 128, rfl⟩
abbrev main_v56 : Ref sig .tc := ⟨.hbm, 129, rfl⟩
abbrev main_v57 : Ref sig .tc := ⟨.hbm, 130, rfl⟩
abbrev main_v58 : Ref sig .tc := ⟨.hbm, 131, rfl⟩

abbrev nD : Nat := 1
abbrev τ : Topo := Topo.v7x

variable {F : FTy → Type} [FloatOps F]
-- ==== SsdDt.lean ====
abbrev S2048x2048 : Shape := ⟨2, ![2048, 2048]⟩
abbrev S2048x64 : Shape := ⟨2, ![2048, 64]⟩
abbrev S1024x2048 : Shape := ⟨2, ![1024, 2048]⟩
abbrev S1024x64 : Shape := ⟨2, ![1024, 64]⟩
abbrev S2048x1024 : Shape := ⟨2, ![2048, 1024]⟩
abbrev S512x64 : Shape := ⟨2, ![512, 64]⟩
abbrev S1024x512 : Shape := ⟨2, ![1024, 512]⟩

abbrev nBuf : Space → Nat
  | .hbm => 8
  | .vmem => 18
  | .smem => 0
  | _ => 0

abbrev bufTy : (tb : Table) → Fin (tcTables nBuf tb) → BufTy
  | .hbm, ⟨0, _⟩ => ⟨S2048x2048, .bf16⟩
  | .hbm, ⟨1, _⟩ => ⟨S2048x64, .f32⟩
  | .hbm, ⟨2, _⟩ => ⟨S2048x64, .f32⟩
  | .hbm, ⟨3, _⟩ => ⟨S2048x2048, .f32⟩
  | .hbm, ⟨4, _⟩ => ⟨S2048x64, .bf16⟩
  | .hbm, ⟨5, _⟩ => ⟨S2048x64, .f32⟩
  | .hbm, ⟨6, _⟩ => ⟨S2048x64, .bf16⟩
  | .hbm, ⟨7, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x64, .bf16⟩
  | .local _ .vmem, ⟨3, _⟩ => ⟨S1024x64, .f32⟩
  | .local _ .vmem, ⟨4, _⟩ => ⟨S1024x64, .f32⟩
  | .local _ .vmem, ⟨5, _⟩ => ⟨S2048x1024, .bf16⟩
  | .local _ .vmem, ⟨6, _⟩ => ⟨S2048x1024, .bf16⟩
  | .local _ .vmem, ⟨7, _⟩ => ⟨S2048x64, .f32⟩
  | .local _ .vmem, ⟨8, _⟩ => ⟨S1024x64, .bf16⟩
  | .local _ .vmem, ⟨9, _⟩ => ⟨S1024x64, .bf16⟩
  | .local _ .vmem, ⟨10, _⟩ => ⟨S1024x64, .f32⟩
  | .local _ .vmem, ⟨11, _⟩ => ⟨S1024x64, .f32⟩
  | .local _ .vmem, ⟨12, _⟩ => ⟨S512x64, .bf16⟩
  | .local _ .vmem, ⟨13, _⟩ => ⟨S512x64, .bf16⟩
  | .local _ .vmem, ⟨14, _⟩ => ⟨S1024x512, .f32⟩
  | .local _ .vmem, ⟨15, _⟩ => ⟨S1024x512, .f32⟩
  | .local _ .vmem, ⟨16, _⟩ => ⟨S1024x512, .f32⟩
  | .local _ .vmem, ⟨17, _⟩ => ⟨S1024x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![2, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S2048x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S1024x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![2, 4, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S512x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S1024x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]
-- ==== SsdDtRefIdeal.lean ====
abbrev S2048x2048 : Shape := ⟨2, ![2048, 2048]⟩
abbrev S2048x64 : Shape := ⟨2, ![2048, 64]⟩
abbrev S64x2048 : Shape := ⟨2, ![64, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x64, .f32⟩
  | .hbm, ⟨2, _⟩ => ⟨S2048x64, .f32⟩
  | .hbm, ⟨3, _⟩ => ⟨S2048x2048, .f32⟩
  | .hbm, ⟨4, _⟩ => ⟨S2048x2048, .f32⟩
  | .hbm, ⟨5, _⟩ => ⟨S2048x64, .f32⟩
  | .hbm, ⟨6, _⟩ => ⟨S64x2048, .f32⟩
  | .hbm, ⟨7, _⟩ => ⟨S2048x64, .f32⟩
  | .hbm, ⟨8, _⟩ => ⟨S2048x2048, .f32⟩
  | .hbm, ⟨9, _⟩ => ⟨S2048x64, .bf16⟩
  | .hbm, ⟨10, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== PleFwd.lean ====
abbrev S2048x2048 : Shape := ⟨2, ![2048, 2048]⟩
abbrev S512x2048 : Shape := ⟨2, ![512, 2048]⟩

abbrev nBuf : Space → Nat
  | .hbm => 4
  | .vmem => 8
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== PleFwdRefIdeal.lean ====
abbrev S2048x2048 : Shape := ⟨2, ![2048, 2048]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Norm.lean ====
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S1x2048, .f32⟩
  | .hbm, ⟨3, _⟩ => ⟨S2048x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x2048, .f32⟩
  | .hbm, ⟨14, _⟩ => ⟨S2048x2048, .f32⟩
  | .hbm, ⟨15, _⟩ => ⟨S1x2048, .f32⟩
  | .hbm, ⟨16, _⟩ => ⟨S2048x2048, .f32⟩
  | .hbm, ⟨17, _⟩ => ⟨S2048x2048, .f32⟩
  | .hbm, ⟨18, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== DtFwd.lean ====
abbrev S2048x64 : Shape := ⟨2, ![2048, 64]⟩
abbrev S64 : Shape := ⟨1, ![64]⟩
abbrev S1x64 : Shape := ⟨2, ![1, 64]⟩

abbrev nBuf : Space → Nat
  | .hbm => 7
  | .vmem => 5
  | .smem => 0
  | _ => 0

abbrev bufTy : (tb : Table) → Fin (tcTables nBuf tb) → BufTy
  | .hbm, ⟨0, _⟩ => ⟨S2048x64, .f32⟩
  | .hbm, ⟨1, _⟩ => ⟨S64, .f32⟩
  | .hbm, ⟨2, _⟩ => ⟨S64, .f32⟩
  | .hbm, ⟨3, _⟩ => ⟨S1x64, .f32⟩
  | .hbm, ⟨4, _⟩ => ⟨S1x64, .f32⟩
  | .hbm, ⟨5, _⟩ => ⟨S2048x64, .f32⟩
  | .hbm, ⟨6, _⟩ => ⟨S1x64, .f32⟩
  | .local _ .vmem, ⟨0, _⟩ => ⟨S2048x64, .f32⟩
  | .local _ .vmem, ⟨1, _⟩ => ⟨S1x64, .f32⟩
  | .local _ .vmem, ⟨2, _⟩ => ⟨S1x64, .f32⟩
  | .local _ .vmem, ⟨3, _⟩ => ⟨S2048x64, .f32⟩
  | .local _ .vmem, ⟨4, _⟩ => ⟨S1x64, .f32⟩
  | _, _ => ⟨S2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S2048x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== DtFwdRefIdeal.lean ====
abbrev S2048x64 : Shape := ⟨2, ![2048, 64]⟩
abbrev S64 : Shape := ⟨1, ![64]⟩
abbrev S1x64 : Shape := ⟨2, ![1, 64]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S2048x64, .f32⟩
  | .hbm, ⟨1, _⟩ => ⟨S64, .f32⟩
  | .hbm, ⟨2, _⟩ => ⟨S64, .f32⟩
  | .hbm, ⟨3, _⟩ => ⟨S1x64, .f32⟩
  | .hbm, ⟨4, _⟩ => ⟨S2048x64, .f32⟩
  | .hbm, ⟨5, _⟩ => ⟨S2048x64, .f32⟩
  | .hbm, ⟨6, _⟩ => ⟨S_, .f32⟩
  | .hbm, ⟨7, _⟩ => ⟨S2048x64, .f32⟩
  | .hbm, ⟨8, _⟩ => ⟨S2048x64, .f32⟩
  | .hbm, ⟨9, _⟩ => ⟨S2048x64, .f32⟩
  | .hbm, ⟨10, _⟩ => ⟨S2048x64, .f32⟩
  | .hbm, ⟨11, _⟩ => ⟨S2048x64, .i1⟩
  | .hbm, ⟨12, _⟩ => ⟨S2048x64, .f32⟩
  | .hbm, ⟨13, _⟩ => ⟨S2048x64, .f32⟩
  | .hbm, ⟨14, _⟩ => ⟨S2048x64, .f32⟩
  | .hbm, ⟨15, _⟩ => ⟨S2048x64, .f32⟩
  | .hbm, ⟨16, _⟩ => ⟨S2048x64, .f32⟩
  | .hbm, ⟨17, _⟩ => ⟨S2048x64, .f32⟩
  | .hbm, ⟨18, _⟩ => ⟨S2048x64, .f32⟩
  | .hbm, ⟨19, _⟩ => ⟨S2048x64, .f32⟩
  | .hbm, ⟨20, _⟩ => ⟨S64, .f32⟩
  | .hbm, ⟨21, _⟩ => ⟨S1x64, .f32⟩
  | .hbm, ⟨22, _⟩ => ⟨S1x64, .f32⟩
  | _, _ => ⟨S2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩

abbrev nD : Nat := 1
abbrev τ : Topo := Topo.v7x

variable {F : FTy → Type} [FloatOps F]
-- ==== NormBack.lean ====
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S2048x2048, .f32⟩
  | .hbm, ⟨4, _⟩ => ⟨S1x2048, .f32⟩
  | .hbm, ⟨5, _⟩ => ⟨S2048x2048, .f32⟩
  | .hbm, ⟨6, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormBackRefIdeal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 51
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S1x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048, .f32⟩
  | .hbm, ⟨32, _⟩ => ⟨S2048x2048, .f32⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S2048x2048, .f32⟩
  | .hbm, ⟨37, _⟩ => ⟨S2048x2048, .f32⟩
  | .hbm, ⟨38, _⟩ => ⟨S2048x1, .f32⟩
  | .hbm, ⟨39, _⟩ => ⟨S_, .f32⟩
  | .hbm, ⟨40, _⟩ => ⟨S2048x1, .f32⟩
  | .hbm, ⟨41, _⟩ => ⟨S2048x1, .f32⟩
  | .hbm, ⟨42, _⟩ => ⟨S_, .f32⟩
  | .hbm, ⟨43, _⟩ => ⟨S2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== DtBack.lean ====
abbrev S2048x64 : Shape := ⟨2, ![2048, 64]⟩
abbrev S64 : Shape := ⟨1, ![64]⟩
abbrev S1x64 : Shape := ⟨2, ![1, 64]⟩
abbrev S_ : Shape := ⟨0, ![]⟩

abbrev nBuf : Space → Nat
  | .hbm => 27
  | .vmem => 9
  | .smem => 0
  | _ => 0

abbrev bufTy : (tb : Table) → Fin (tcTables nBuf tb) → BufTy
  | .hbm, ⟨0, _⟩ => ⟨S2048x64, .f32⟩
  | .hbm, ⟨1, _⟩ => ⟨S64, .f32⟩
  | .hbm, ⟨2, _⟩ => ⟨S64, .f32⟩
  | .hbm, ⟨3, _⟩ => ⟨S2048x64, .f32⟩
  | .hbm, ⟨4, _⟩ => ⟨S2048x64, .f32⟩
  | .hbm, ⟨5, _⟩ => ⟨S1x64, .f32⟩
  | .hbm, ⟨6, _⟩ => ⟨S2048x64, .f32⟩
  | .hbm, ⟨7, _⟩ => ⟨S2048x64, .f32⟩
  | .hbm, ⟨8, _⟩ => ⟨S_, .f32⟩
  | .hbm, ⟨9, _⟩ => ⟨S2048x64, .f32⟩
  | .hbm, ⟨10, _⟩ => ⟨S2048x64, .f32⟩
  | .hbm, ⟨11, _⟩ => ⟨S2048x64, .f32⟩
  | .hbm, ⟨12, _⟩ => ⟨S2048x64, .f32⟩
  | .hbm, ⟨13, _⟩ => ⟨S2048x64, .i1⟩
  | .hbm, ⟨14, _⟩ => ⟨S2048x64, .f32⟩
  | .hbm, ⟨15, _⟩ => ⟨S2048x64, .f32⟩
  | .hbm, ⟨16, _⟩ => ⟨S2048x64, .f32⟩
  | .hbm, ⟨17, _⟩ => ⟨S2048x64, .f32⟩
  | .hbm, ⟨18, _⟩ => ⟨S2048x64, .f32⟩
  | .hbm, ⟨19, _⟩ => ⟨S2048x64, .f32⟩
  | .hbm, ⟨20, _⟩ => ⟨S2048x64, .f32⟩
  | .hbm, ⟨21, _⟩ => ⟨S2048x64, .f32⟩
  | .hbm, ⟨22, _⟩ => ⟨S1x64, .f32⟩
  | .hbm, ⟨23, _⟩ => ⟨S1x64, .f32⟩
  | .hbm, ⟨24, _⟩ => ⟨S2048x64, .f32⟩
  | .hbm, ⟨25, _⟩ => ⟨S1x64, .f32⟩
  | .hbm, ⟨26, _⟩ => ⟨S1x64, .f32⟩
  | .local _ .vmem, ⟨0, _⟩ => ⟨S2048x64, .f32⟩
  | .local _ .vmem, ⟨1, _⟩ => ⟨S1x64, .f32⟩
  | .local _ .vmem, ⟨2, _⟩ => ⟨S1x64, .f32⟩
  | .local _ .vmem, ⟨3, _⟩ => ⟨S2048x64, .f32⟩
  | .local _ .vmem, ⟨4, _⟩ => ⟨S2048x64, .f32⟩
  | .local _ .vmem, ⟨5, _⟩ => ⟨S2048x64, .f32⟩
  | .local _ .vmem, ⟨6, _⟩ => ⟨S2048x64, .f32⟩
  | .local _ .vmem, ⟨7, _⟩ => ⟨S1x64, .f32⟩
  | .local _ .vmem, ⟨8, _⟩ => ⟨S1x64, .f32⟩
  | _, _ => ⟨S2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_cst : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6_0 : Ref sig .tc := ⟨.hbm, 24, rfl⟩
abbrev main_v6_1 : Ref sig .tc := ⟨.hbm, 25, rfl⟩
abbrev main_v6_2 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S2048x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== DtBackRefIdeal.lean ====
abbrev S2048x64 : Shape := ⟨2, ![2048, 64]⟩
abbrev S64 : Shape := ⟨1, ![64]⟩
abbrev S1x64 : Shape := ⟨2, ![1, 64]⟩
abbrev S_ : Shape := ⟨0, ![]⟩

abbrev nBuf : Space → Nat
  | .hbm => 80
  | .vmem => 0
  | .smem => 0
  | _ => 0

abbrev bufTy : (tb : Table) → Fin (tcTables nBuf tb) → BufTy
  | .hbm, ⟨0, _⟩ => ⟨S2048x64, .f32⟩
  | .hbm, ⟨1, _⟩ => ⟨S64, .f32⟩
  | .hbm, ⟨2, _⟩ => ⟨S64, .f32⟩
  | .hbm, ⟨3, _⟩ => ⟨S2048x64, .f32⟩
  | .hbm, ⟨4, _⟩ => ⟨S2048x64, .f32⟩
  | .hbm, ⟨5, _⟩ => ⟨S1x64, .f32⟩
  | .hbm, ⟨6, _⟩ => ⟨S2048x64, .f32⟩
  | .hbm, ⟨7, _⟩ => ⟨S2048x64, .f32⟩
  | .hbm, ⟨8, _⟩ => ⟨S_, .f32⟩
  | .hbm, ⟨9, _⟩ => ⟨S2048x64, .f32⟩
  | .hbm, ⟨10, _⟩ => ⟨S2048x64, .f32⟩
  | .hbm, ⟨11, _⟩ => ⟨S2048x64, .f32⟩
  | .hbm, ⟨12, _⟩ => ⟨S2048x64, .f32⟩
  | .hbm, ⟨13, _⟩ => ⟨S2048x64, .i1⟩
  | .hbm, ⟨14, _⟩ => ⟨S2048x64, .f32⟩
  | .hbm, ⟨15, _⟩ => ⟨S2048x64, .f32⟩
  | .hbm, ⟨16, _⟩ => ⟨S2048x64, .f32⟩
  | .hbm, ⟨17, _⟩ => ⟨S2048x64, .f32⟩
  | .hbm, ⟨18, _⟩ => ⟨S2048x64, .f32⟩
  | .hbm, ⟨19, _⟩ => ⟨S2048x64, .f32⟩
  | .hbm, ⟨20, _⟩ => ⟨S2048x64, .f32⟩
  | .hbm, ⟨21, _⟩ => ⟨S2048x64, .f32⟩
  | .hbm, ⟨22, _⟩ => ⟨S_, .f32⟩
  | .hbm, ⟨23, _⟩ => ⟨S2048x64, .f32⟩
  | .hbm, ⟨24, _⟩ => ⟨S2048x64, .i1⟩
  | .hbm, ⟨25, _⟩ => ⟨S_, .f32⟩
  | .hbm, ⟨26, _⟩ => ⟨S2048x64, .f32⟩
  | .hbm, ⟨27, _⟩ => ⟨S2048x64, .f32⟩
  | .hbm, ⟨28, _⟩ => ⟨S_, .f32⟩
  | .hbm, ⟨29, _⟩ => ⟨S2048x64, .f32⟩
  | .hbm, ⟨30, _⟩ => ⟨S2048x64, .i1⟩
  | .hbm, ⟨31, _⟩ => ⟨S_, .f32⟩
  | .hbm, ⟨32, _⟩ => ⟨S2048x64, .f32⟩
  | .hbm, ⟨33, _⟩ => ⟨S2048x64, .f32⟩
  | .hbm, ⟨34, _⟩ => ⟨S2048x64, .f32⟩
  | .hbm, ⟨35, _⟩ => ⟨S2048x64, .f32⟩
  | .hbm, ⟨36, _⟩ => ⟨S_, .f32⟩
  | .hbm, ⟨37, _⟩ => ⟨S_, .f32⟩
  | .hbm, ⟨38, _⟩ => ⟨S_, .i1⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S2048x64, .f32⟩
  | .hbm, ⟨44, _⟩ => ⟨S2048x64, .i1⟩
  | .hbm, ⟨45, _⟩ => ⟨S_, .f32⟩
  | .hbm, ⟨46, _⟩ => ⟨S2048x64, .f32⟩
  | .hbm, ⟨47, _⟩ => ⟨S2048x64, .f32⟩
  | .hbm, ⟨48, _⟩ => ⟨S2048x64, .f32⟩
  | .hbm, ⟨49, _⟩ => ⟨S2048x64, .f32⟩
  | .hbm, ⟨50, _⟩ => ⟨S2048x64, .f32⟩
  | .hbm, ⟨51, _⟩ => ⟨S_, .f32⟩
  | .hbm, ⟨52, _⟩ => ⟨S2048x64, .f32⟩
  | .hbm, ⟨53, _⟩ => ⟨S2048x64, .f32⟩
  | .hbm, ⟨54, _⟩ => ⟨S64, .f32⟩
  | .hbm, ⟨55, _⟩ => ⟨S64, .f32⟩
  | .hbm, ⟨56, _⟩ => ⟨S1x64, .f32⟩
  | .hbm, ⟨57, _⟩ => ⟨S2048x64, .f32⟩
  | .hbm, ⟨58, _⟩ => ⟨S2048x64, .f32⟩
  | .hbm, ⟨59, _⟩ => ⟨S2048x64, .f32⟩
  | .hbm, ⟨60, _⟩ => ⟨S_, .f32⟩
  | .hbm, ⟨61, _⟩ => ⟨S64, .f32⟩
  | .hbm, ⟨62, _⟩ => ⟨S1x64, .f32⟩
  | .hbm, ⟨63, _⟩ => ⟨S2048x64, .f32⟩
  | .hbm, ⟨64, _⟩ => ⟨S2048x64, .f32⟩
  | .hbm, ⟨65, _⟩ => ⟨S2048x64, .f32⟩
  | .hbm, ⟨66, _⟩ => ⟨S_, .f32⟩
  | .hbm, ⟨67, _⟩ => ⟨S64, .f32⟩
  | .hbm, ⟨68, _⟩ => ⟨S64, .f32⟩
  | .hbm, ⟨69, _⟩ => ⟨S64, .f32⟩
  | .hbm, ⟨70, _⟩ => ⟨S2048x64, .f32⟩
  | .hbm, ⟨71, _⟩ => ⟨S2048x64, .f32⟩
  | .hbm, ⟨72, _⟩ => ⟨S2048x64, .f32⟩
  | .hbm, ⟨73, _⟩ => ⟨S_, .f32⟩
  | .hbm, ⟨74, _⟩ => ⟨S64, .f32⟩
  | .hbm, ⟨75, _⟩ => ⟨S1x64, .f32⟩
  | .hbm, ⟨76, _⟩ => ⟨S_, .f32⟩
  | .hbm, ⟨77, _⟩ => ⟨S64, .f32⟩
  | .hbm, ⟨78, _⟩ => ⟨S1x64, .f32⟩
  | .hbm, ⟨79, _⟩ => ⟨S1x64, .f32⟩
  | _, _ => ⟨S2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_cst : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_v3_0 : Ref sig .tc := ⟨.hbm, 21, rfl⟩
abbrev main_call0_cst_0 : Ref sig .tc := ⟨.hbm, 22, rfl⟩
abbrev main_call0_v13 : Ref sig .tc := ⟨.hbm, 23, rfl⟩
abbrev main_call0_v14 : Ref sig .tc := ⟨.hbm, 24, rfl⟩
abbrev main_call0_cst_1 : Ref sig .tc := ⟨.hbm, 25, rfl⟩
abbrev main_call0_v15 : Ref sig .tc := ⟨.hbm, 26, rfl⟩
abbrev main_call0_v16 : Ref sig .tc := ⟨.hbm, 27, rfl⟩
abbrev main_call0_cst_2 : Ref sig .tc := ⟨.hbm, 28, rfl⟩
abbrev main_call0_v17 : Ref sig .tc := ⟨.hbm, 29, rfl⟩
abbrev main_call0_v18 : Ref sig .tc := ⟨.hbm, 30, rfl⟩
abbrev main_call0_cst_3 : Ref sig .tc := ⟨.hbm, 31, rfl⟩
abbrev main_call0_v19 : Ref sig .tc := ⟨.hbm, 32, rfl⟩
abbrev main_call0_v20 : Ref sig .tc := ⟨.hbm, 33, rfl⟩
abbrev main_call0_v21 : Ref sig .tc := ⟨.hbm, 34, rfl⟩
abbrev main_v3_1 : Ref sig .tc := ⟨.hbm, 35, rfl⟩
abbrev main_call0_cst_4 : Ref sig .tc := ⟨.hbm, 36, rfl⟩
abbrev main_call0_cst_5 : Ref sig .tc := ⟨.hbm, 37, rfl⟩
abbrev main_call0_v23 : Ref sig .tc := ⟨.hbm, 38, rfl⟩
abbrev main_call0_cst_6 : Ref sig .tc := ⟨.hbm, 39, rfl⟩
abbrev main_call0_cst_7 : Ref sig .tc := ⟨.hbm, 40, rfl⟩
abbrev main_call0_v24 : Ref sig .tc := ⟨.hbm, 41, rfl⟩
abbrev main_call0_cst_8 : Ref sig .tc := ⟨.hbm, 42, rfl⟩
abbrev main_call0_v25 : Ref sig .tc := ⟨.hbm, 43, rfl⟩
abbrev main_call0_v26 : Ref sig .tc := ⟨.hbm, 44, rfl⟩
abbrev main_call0_cst_9 : Ref sig .tc := ⟨.hbm, 45, rfl⟩
abbrev main_call0_v27 : Ref sig .tc := ⟨.hbm, 46, rfl⟩
abbrev main_call0_v28 : Ref sig .tc := ⟨.hbm, 47, rfl⟩
abbrev main_call0_v29 : Ref sig .tc := ⟨.hbm, 48, rfl⟩
abbrev main_call0_v30 : Ref sig .tc := ⟨.hbm, 49, rfl⟩
abbrev main_call0_v31 : Ref sig .tc := ⟨.hbm, 50, rfl⟩
abbrev main_call0_cst_10 : Ref sig .tc := ⟨.hbm, 51, rfl⟩
abbrev main_call0_v32 : Ref sig .tc := ⟨.hbm, 52, rfl⟩
abbrev main_v3_2 : Ref sig .tc := ⟨.hbm, 53, rfl⟩
abbrev main_v4 : Ref sig .tc := ⟨.hbm, 54, rfl⟩
abbrev main_v5 : Ref sig .tc := ⟨.hbm, 55, rfl⟩
abbrev main_v6 : Ref sig .tc := ⟨.hbm, 56, rfl⟩
abbrev main_v7 : Ref sig .tc := ⟨.hbm, 57, rfl⟩
abbrev main_v8 : Ref sig .tc := ⟨.hbm, 58, rfl⟩
abbrev main_v9 : Ref sig .tc := ⟨.hbm, 59, rfl⟩
abbrev main_cst : Ref sig .tc := ⟨.hbm, 60, rfl⟩
abbrev main_v10 : Ref sig .tc := ⟨.hbm, 61, rfl⟩
abbrev main_v11 : Ref sig .tc := ⟨.hbm, 62, rfl⟩
abbrev main_v12 : Ref sig .tc := ⟨.hbm, 63, rfl⟩
abbrev main_v13 : Ref sig .tc := ⟨.hbm, 64, rfl⟩
abbrev main_v14 : Ref sig .tc := ⟨.hbm, 65, rfl⟩
abbrev main_cst_0 : Ref sig .tc := ⟨.hbm, 66, rfl⟩
abbrev main_v15 : Ref sig .tc := ⟨.hbm, 67, rfl⟩
abbrev main_v16 : Ref sig .tc := ⟨.hbm, 68, rfl⟩
abbrev main_v17 : Ref sig .tc := ⟨.hbm, 69, rfl⟩
abbrev main_call1_v0 : Ref sig .tc := ⟨.hbm, 70, rfl⟩
abbrev main_call1_v1 : Ref sig .tc := ⟨.hbm, 71, rfl⟩
abbrev main_v18 : Ref sig .tc := ⟨.hbm, 72, rfl⟩
abbrev main_cst_1 : Ref sig .tc := ⟨.hbm, 73, rfl⟩
abbrev main_v19 : Ref sig .tc := ⟨.hbm, 74, rfl⟩
abbrev main_v20 : Ref sig .tc := ⟨.hbm, 75, rfl⟩
abbrev main_cst_2 : Ref sig .tc := ⟨.hbm, 76, rfl⟩
abbrev main_v21 : Ref sig .tc := ⟨.hbm, 77, rfl⟩
abbrev main_v22 : Ref sig .tc := ⟨.hbm, 78, rfl⟩
abbrev main_v23 : Ref sig .tc := ⟨.hbm, 79, rfl⟩

abbrev nD : Nat := 1
abbrev τ : Topo := Topo.v7x

variable {F : FTy → Type} [FloatOps F]
-- ==== Proof.Tile.lean ====
/- One tile of the backward pass as a function of its operands, and the chain of the eight tiles of a head.
   A tile takes the 256 keys from row `o` on, against the `R = 2048 - o` query rows that can see one of them, so the
   same text serves all eight at their own `R`. Nothing here is particular to a float interpretation. -/
module

public import proofs.«01_k».proof.Proof.Gen.KernelIdeal
public import proofs.«01_k».proof.Proof.Gen.KernelIdeal.Skeleton
public import Idealize.ShloMosaic.Lib.Pipeline.ReadBack

@[expose] public section

set_option maxRecDepth 16384

noncomputable section

namespace Cert.Proof.Attn

open Cert.KernelIdeal Cert.KernelIdeal.Gen
open Idealize.ShloMosaic

variable {F : FTy → Type} [FloatOps F]

/-- The matrix shape of `r` rows and `c` columns. -/
abbrev M (r c : ℕ) : Shape := ⟨2, ![r, c]⟩

/-- What a tile of `R` query rows asks of its shapes; `N = 3 R` rows go through the prefix-sum product at once. -/
structure Wf (R N : ℕ) : Prop where
  nt : DotDims.WF (M R 128) (M 256 128) (M R 256) [1] [1] [0] [0] [] []
  tri : DotDims.WF (M N 256) (M 256 256) (M N 256) [1] [0] [0] [1] [] []
  tn : DotDims.WF (M R 256) (M R 128) (M 256 128) [0] [0] [1] [1] [] []
  nn : DotDims.WF (M R 256) (M 256 128) (M R 128) [1] [0] [0] [1] [] []
  io1 : (M R 256).Iotas .tc 32 [1]
  io0 : (M R 256).Iotas .tc 32 [0]
  cat3 : Shape.Concatenates [M R 256, M R 256, M R 256] (M N 256) 0
  s0 : (M N 256).Slices ![0, 0] (M R 256)
  s1 : (M N 256).Slices ![R, 0] (M R 256)
  s2 : (M N 256).Slices ![R + R, 0] (M R 256)
  bc : (M R 1).Broadcasts (M R 256)
  red : (M R 256).Reduces [1] ⟨1, ![R]⟩
  sc : (⟨1, ![R]⟩ : Shape).ShapeCasts (M R 1)

/-- What a tile whose rows begin at `o` asks beside that: cutting its rows out of a head's and putting them back. -/
structure WfAt (o R N : ℕ) : Prop extends Wf R N where
  c128 : (M 2048 128).Slices ![o, 0] (M R 128)
  c1 : (M 2048 1).Slices ![o, 0] (M R 1)
  h128 : (M 2048 128).Slices ![0, 0] (M o 128)
  h1 : (M 2048 1).Slices ![0, 0] (M o 1)
  p128 : Shape.Concatenates [M o 128, M R 128] (M 2048 128) 0
  p1 : Shape.Concatenates [M o 1, M R 1] (M 2048 1) 0

section Core

variable {R N : ℕ} (W : Wf R N)

def ntD : DotDims (M R 128) (M 256 128) (M R 256) where
  lhsContracting := [1]
  rhsContracting := [1]
  lhsNonContracting := [0]
  rhsNonContracting := [0]
  lhsBatch := []
  rhsBatch := []
  wf := W.nt

def triD : DotDims (M N 256) (M 256 256) (M N 256) where
  lhsContracting := [1]
  rhsContracting := [0]
  lhsNonContracting := [0]
  rhsNonContracting := [1]
  lhsBatch := []
  rhsBatch := []
  wf := W.tri

def tnD : DotDims (M R 256) (M R 128) (M 256 128) where
  lhsContracting := [0]
  rhsContracting := [0]
  lhsNonContracting := [1]
  rhsNonContracting := [1]
  lhsBatch := []
  rhsBatch := []
  wf := W.tn

def nnD : DotDims (M R 256) (M 256 128) (M R 128) where
  lhsContracting := [1]
  rhsContracting := [0]
  lhsNonContracting := [0]
  rhsNonContracting := [1]
  lhsBatch := []
  rhsBatch := []
  wf := W.nn

/-- Which keys of the tile a row sees: those strictly before it. -/
def mskT : IVec (M R 256) 1 := cmpi .slt (iota .tc (M R 256) 32 [1] W.io1) (iota .tc (M R 256) 32 [0] W.io0)

/-- A constant at every position. -/
def splat (s : Shape) (b : BitVec 32) : FVec F s .f32 := broadcast s (Scalar.ofBits .f32 b)

/-- The scaled logits. -/
def zT (q : FVec F (M R 128) .bf16) (k : FVec F (M 256 128) .bf16) : FVec F (M R 256) .f32 :=
  mulf (matmul (ntD W) none q k (constant (M R 256) .f32 0x00000000#32)) (splat _ 0x3DB504F3#32)

/-- `log σ` of them. -/
def lbT (q : FVec F (M R 128) .bf16) (k : FVec F (M 256 128) .bf16) : FVec F (M R 256) .f32 :=
  subf (minimumf (zT W q k) (splat _ 0x00000000#32))
    (log (addf (splat _ 0x3F800000#32) (exp (subf (splat _ 0x00000000#32) (absf (zT W q k))))))

/-- `log (1 - σ)` of them, where seen. -/
def l1T (q : FVec F (M R 128) .bf16) (k : FVec F (M 256 128) .bf16) : FVec F (M R 256) .f32 :=
  select (mskT W) (subf (lbT W q k) (zT W q k)) (splat _ 0x00000000#32)

/-- The product with a 0/1 matrix, the left operand cut into three bf16 pieces that are summed again. -/
def triT (x : FVec F (M R 256) .f32) (u : FVec F (M 256 256) .bf16) : FVec F (M R 256) .f32 :=
  have hi := truncf .bf16 x bitsLt_bf16_f32
  have r1 := subf x (extf .f32 hi bitsLt_bf16_f32)
  have mid := truncf .bf16 r1 bitsLt_bf16_f32
  have r2 := subf r1 (extf .f32 mid bitsLt_bf16_f32)
  have lo := truncf .bf16 r2 bitsLt_bf16_f32
  have p : FVec F (M N 256) .f32 := matmul (triD W) none
    (concatenate (M N 256) 0 [⟨M R 256, hi⟩, ⟨M R 256, mid⟩, ⟨M R 256, lo⟩] W.cat3) u (constant (M N 256) .f32 0x00000000#32)
  addf (addf (extractStridedSlice (M R 256) ![0, 0] p W.s0) (extractStridedSlice (M R 256) ![R, 0] p W.s1))
    (extractStridedSlice (M R 256) ![R + R, 0] p W.s2)

/-- The attention weights: the log-sum after the position is the row's total, less what went before. -/
def attT (q : FVec F (M R 128) .bf16) (tot rl : FVec F (M R 1) .f32) (k : FVec F (M 256 128) .bf16) : FVec F (M R 256) .f32 :=
  select (mskT W)
    (exp (addf (lbT W q k) (subf (broadcastTo (M R 256) (subf tot rl) W.bc) (triT W (l1T W q k) k0_pay204))))
    (splat _ 0x00000000#32)

/-- The weights times the gradient that reaches them. -/
def gT (q do' : FVec F (M R 128) .bf16) (tot rl : FVec F (M R 1) .f32) (k : FVec F (M 256 128) .bf16) (v : FVec F (M 256 128) .f32) :
    FVec F (M R 256) .f32 :=
  mulf (attT W q tot rl k) (matmul (ntD W) none do' (truncf .bf16 v bitsLt_bf16_f32) (constant (M R 256) .f32 0x00000000#32))

/-- The gradient of the logits before the scale, scaled. -/
def dzT (q do' : FVec F (M R 128) .bf16) (tot rl rg : FVec F (M R 1) .f32) (k : FVec F (M 256 128) .bf16)
    (v : FVec F (M 256 128) .f32) : FVec F (M R 256) .bf16 :=
  have g := gT W q do' tot rl k v
  truncf .bf16 (select (mskT W)
    (mulf (subf g (mulf (addf g (addf (triT W g k0_pay205) (broadcastTo (M R 256) rg W.bc))) (exp (lbT W q k)))) (splat _ 0x3DB504F3#32))
    (splat _ 0x00000000#32)) bitsLt_bf16_f32

/-- A row's sum, added to a running one. -/
def rowT (x : FVec F (M R 256) .f32) (r : FVec F (M R 1) .f32) : FVec F (M R 1) .f32 :=
  addf r (shapeCast (M R 1) (multiReduction .add [1] ⟨1, ![R]⟩ x 0x00000000#32 W.red (.inl rfl) rfl) W.sc)

/-- A tile's part of the query gradient, added to what is there. -/
def dqT (q do' : FVec F (M R 128) .bf16) (tot rl rg : FVec F (M R 1) .f32) (k : FVec F (M 256 128) .bf16)
    (v : FVec F (M 256 128) .f32) (a : FVec F (M R 128) .f32) : FVec F (M R 128) .f32 :=
  addf a (matmul (nnD W) none (dzT W q do' tot rl rg k v) k (constant (M R 128) .f32 0x00000000#32))

/-- A tile's key gradient, added to what is there. -/
def dkT (q do' : FVec F (M R 128) .bf16) (tot rl rg : FVec F (M R 1) .f32) (k : FVec F (M 256 128) .bf16)
    (v a : FVec F (M 256 128) .f32) : FVec F (M 256 128) .f32 :=
  addf (shapeCast (M 256 128) a shapeCasts_S256x128_S256x128)
    (matmul (tnD W) none (dzT W q do' tot rl rg k v) q (constant (M 256 128) .f32 0x00000000#32))

/-- A tile's value gradient, added to what is there. -/
def dvT (q do' : FVec F (M R 128) .bf16) (tot rl : FVec F (M R 1) .f32) (k : FVec F (M 256 128) .bf16)
    (a : FVec F (M 256 128) .f32) : FVec F (M 256 128) .f32 :=
  addf (shapeCast (M 256 128) a shapeCasts_S256x128_S256x128)
    (matmul (tnD W) none (truncf .bf16 (attT W q tot rl k) bitsLt_bf16_f32) do' (constant (M 256 128) .f32 0x00000000#32))

end Core

/-- What the tiles of a head hand on: the query gradient so far, and per row the running sums of the log terms and of the
    weights' gradients. -/
structure St (F : FTy → Type) where
  dq : FVec F (M 2048 128) .f32
  rl : FVec F (M 2048 1) .f32
  rg : FVec F (M 2048 1) .f32

/-- What a head's tiles read. -/
structure Hd (F : FTy → Type) where
  q : FVec F (M 2048 128) .bf16
  do' : FVec F (M 2048 128) .bf16
  tot : FVec F (M 2048 1) .f32

section At

variable {o R N : ℕ} (W : WfAt o R N)

/-- The rows from `o` on. -/
def cut {φ : FTy} (x : FVec F (M 2048 128) φ) : FVec F (M R 128) φ := extractStridedSlice (M R 128) ![o, 0] x W.c128
def cut1 (x : FVec F (M 2048 1) .f32) : FVec F (M R 1) .f32 := extractStridedSlice (M R 1) ![o, 0] x W.c1
/-- The rows from `o` on replaced. -/
def put (x : FVec F (M 2048 128) .f32) (y : FVec F (M R 128) .f32) : FVec F (M 2048 128) .f32 :=
  concatenate (M 2048 128) 0 [⟨M o 128, extractStridedSlice (M o 128) ![0, 0] x W.h128⟩, ⟨M R 128, y⟩] W.p128
def put1 (x : FVec F (M 2048 1) .f32) (y : FVec F (M R 1) .f32) : FVec F (M 2048 1) .f32 :=
  concatenate (M 2048 1) 0 [⟨M o 1, extractStridedSlice (M o 1) ![0, 0] x W.h1⟩, ⟨M R 1, y⟩] W.p1

/-- A tile after the first. -/
def stepT (h : Hd F) (s : St F) (k : FVec F (M 256 128) .bf16) (v : FVec F (M 256 128) .f32) : St F where
  dq := put W s.dq (dqT W.toWf (cut W h.q) (cut W h.do') (cut1 W h.tot) (cut1 W s.rl) (cut1 W s.rg) k v (cut W s.dq))
  rl := put1 W s.rl (rowT W.toWf (l1T W.toWf (cut W h.q) k) (cut1 W s.rl))
  rg := put1 W s.rg (rowT W.toWf (gT W.toWf (cut W h.q) (cut W h.do') (cut1 W h.tot) (cut1 W s.rl) k v) (cut1 W s.rg))

def dkAt (h : Hd F) (s : St F) (k : FVec F (M 256 128) .bf16) (v a : FVec F (M 256 128) .f32) : FVec F (M 256 128) .f32 :=
  dkT W.toWf (cut W h.q) (cut W h.do') (cut1 W h.tot) (cut1 W s.rl) (cut1 W s.rg) k v a
def dvAt (h : Hd F) (s : St F) (k : FVec F (M 256 128) .bf16) (a : FVec F (M 256 128) .f32) : FVec F (M 256 128) .f32 :=
  dvT W.toWf (cut W h.q) (cut W h.do') (cut1 W h.tot) (cut1 W s.rl) k a

end At

/-- The first tile: all the rows. -/
def stepT0 (W : Wf 2048 6144) (h : Hd F) (s : St F) (k : FVec F (M 256 128) .bf16) (v : FVec F (M 256 128) .f32) : St F where
  dq := dqT W h.q h.do' h.tot s.rl s.rg k v s.dq
  rl := rowT W (l1T W h.q k) s.rl
  rg := rowT W (gT W h.q h.do' h.tot s.rl k v) s.rg

theorem wf0 : Wf 2048 6144 where
  nt := dot_S2048x128_S256x128_S2048x256_1_1_0_0_n_n_wf
  tri := dot_S6144x256_S256x256_S6144x256_1_0_0_1_n_n_wf
  tn := dot_S2048x256_S2048x128_S256x128_0_0_1_1_n_n_wf
  nn := dot_S2048x256_S256x128_S2048x128_1_0_0_1_n_n_wf
  io1 := iota_S2048x256_d1_w32
  io0 := iota_S2048x256_d0_w32
  cat3 := concatenates_S2048x256_S2048x256_S2048x256_S6144x256_d0
  s0 := slices_S6144x256_o0_0_S2048x256
  s1 := slices_S6144x256_o2048_0_S2048x256
  s2 := slices_S6144x256_o4096_0_S2048x256
  bc := broadcasts_S2048x1_S2048x256
  red := reduces_S2048x256_S2048
  sc := shapeCasts_S2048_S2048x1

theorem wf1 : WfAt 256 1792 5376 where
  nt := dot_S1792x128_S256x128_S1792x256_1_1_0_0_n_n_wf
  tri := dot_S5376x256_S256x256_S5376x256_1_0_0_1_n_n_wf
  tn := dot_S1792x256_S1792x128_S256x128_0_0_1_1_n_n_wf
  nn := dot_S1792x256_S256x128_S1792x128_1_0_0_1_n_n_wf
  io1 := iota_S1792x256_d1_w32
  io0 := iota_S1792x256_d0_w32
  cat3 := concatenates_S1792x256_S1792x256_S1792x256_S5376x256_d0
  s0 := slices_S5376x256_o0_0_S1792x256
  s1 := slices_S5376x256_o1792_0_S1792x256
  s2 := slices_S5376x256_o3584_0_S1792x256
  bc := broadcasts_S1792x1_S1792x256
  red := reduces_S1792x256_S1792
  sc := shapeCasts_S1792_S1792x1
  c128 := slices_S2048x128_o256_0_S1792x128
  c1 := slices_S2048x1_o256_0_S1792x1
  h128 := slices_S2048x128_o0_0_S256x128
  h1 := slices_S2048x1_o0_0_S256x1
  p128 := concatenates_S256x128_S1792x128_S2048x128_d0
  p1 := concatenates_S256x1_S1792x1_S2048x1_d0

theorem wf2 : WfAt 512 1536 4608 where
  nt := dot_S1536x128_S256x128_S1536x256_1_1_0_0_n_n_wf
  tri := dot_S4608x256_S256x256_S4608x256_1_0_0_1_n_n_wf
  tn := dot_S1536x256_S1536x128_S256x128_0_0_1_1_n_n_wf
  nn := dot_S1536x256_S256x128_S1536x128_1_0_0_1_n_n_wf
  io1 := iota_S1536x256_d1_w32
  io0 := iota_S1536x256_d0_w32
  cat3 := concatenates_S1536x256_S1536x256_S1536x256_S4608x256_d0
  s0 := slices_S4608x256_o0_0_S1536x256
  s1 := slices_S4608x256_o1536_0_S1536x256
  s2 := slices_S4608x256_o3072_0_S1536x256
  bc := broadcasts_S1536x1_S1536x256
  red := reduces_S1536x256_S1536
  sc := shapeCasts_S1536_S1536x1
  c128 := slices_S2048x128_o512_0_S1536x128
  c1 := slices_S2048x1_o512_0_S1536x1
  h128 := slices_S2048x128_o0_0_S512x128
  h1 := slices_S2048x1_o0_0_S512x1
  p128 := concatenates_S512x128_S1536x128_S2048x128_d0
  p1 := concatenates_S512x1_S1536x1_S2048x1_d0

theorem wf3 : WfAt 768 1280 3840 where
  nt := dot_S1280x128_S256x128_S1280x256_1_1_0_0_n_n_wf
  tri := dot_S3840x256_S256x256_S3840x256_1_0_0_1_n_n_wf
  tn := dot_S1280x256_S1280x128_S256x128_0_0_1_1_n_n_wf
  nn := dot_S1280x256_S256x128_S1280x128_1_0_0_1_n_n_wf
  io1 := iota_S1280x256_d1_w32
  io0 := iota_S1280x256_d0_w32
  cat3 := concatenates_S1280x256_S1280x256_S1280x256_S3840x256_d0
  s0 := slices_S3840x256_o0_0_S1280x256
  s1 := slices_S3840x256_o1280_0_S1280x256
  s2 := slices_S3840x256_o2560_0_S1280x256
  bc := broadcasts_S1280x1_S1280x256
  red := reduces_S1280x256_S1280
  sc := shapeCasts_S1280_S1280x1
  c128 := slices_S2048x128_o768_0_S1280x128
  c1 := slices_S2048x1_o768_0_S1280x1
  h128 := slices_S2048x128_o0_0_S768x128
  h1 := slices_S2048x1_o0_0_S768x1
  p128 := concatenates_S768x128_S1280x128_S2048x128_d0
  p1 := concatenates_S768x1_S1280x1_S2048x1_d0

theorem wf4 : WfAt 1024 1024 3072 where
  nt := dot_S1024x128_S256x128_S1024x256_1_1_0_0_n_n_wf
  tri := dot_S3072x256_S256x256_S3072x256_1_0_0_1_n_n_wf
  tn := dot_S1024x256_S1024x128_S256x128_0_0_1_1_n_n_wf
  nn := dot_S1024x256_S256x128_S1024x128_1_0_0_1_n_n_wf
  io1 := iota_S1024x256_d1_w32
  io0 := iota_S1024x256_d0_w32
  cat3 := concatenates_S1024x256_S1024x256_S1024x256_S3072x256_d0
  s0 := slices_S3072x256_o0_0_S1024x256
  s1 := slices_S3072x256_o1024_0_S1024x256
  s2 := slices_S3072x256_o2048_0_S1024x256
  bc := broadcasts_S1024x1_S1024x256
  red := reduces_S1024x256_S1024
  sc := shapeCasts_S1024_S1024x1
  c128 := slices_S2048x128_o1024_0_S1024x128
  c1 := slices_S2048x1_o1024_0_S1024x1
  h128 := slices_S2048x128_o0_0_S1024x128
  h1 := slices_S2048x1_o0_0_S1024x1
  p128 := concatenates_S1024x128_S1024x128_S2048x128_d0
  p1 := concatenates_S1024x1_S1024x1_S2048x1_d0

theorem wf5 : WfAt 1280 768 2304 where
  nt := dot_S768x128_S256x128_S768x256_1_1_0_0_n_n_wf
  tri := dot_S2304x256_S256x256_S2304x256_1_0_0_1_n_n_wf
  tn := dot_S768x256_S768x128_S256x128_0_0_1_1_n_n_wf
  nn := dot_S768x256_S256x128_S768x128_1_0_0_1_n_n_wf
  io1 := iota_S768x256_d1_w32
  io0 := iota_S768x256_d0_w32
  cat3 := concatenates_S768x256_S768x256_S768x256_S2304x256_d0
  s0 := slices_S2304x256_o0_0_S768x256
  s1 := slices_S2304x256_o768_0_S768x256
  s2 := slices_S2304x256_o1536_0_S768x256
  bc := broadcasts_S768x1_S768x256
  red := reduces_S768x256_S768
  sc := shapeCasts_S768_S768x1
  c128 := slices_S2048x128_o1280_0_S768x128
  c1 := slices_S2048x1_o1280_0_S768x1
  h128 := slices_S2048x128_o0_0_S1280x128
  h1 := slices_S2048x1_o0_0_S1280x1
  p128 := concatenates_S1280x128_S768x128_S2048x128_d0
  p1 := concatenates_S1280x1_S768x1_S2048x1_d0

theorem wf6 : WfAt 1536 512 1536 where
  nt := dot_S512x128_S256x128_S512x256_1_1_0_0_n_n_wf
  tri := dot_S1536x256_S256x256_S1536x256_1_0_0_1_n_n_wf
  tn := dot_S512x256_S512x128_S256x128_0_0_1_1_n_n_wf
  nn := dot_S512x256_S256x128_S512x128_1_0_0_1_n_n_wf
  io1 := iota_S512x256_d1_w32
  io0 := iota_S512x256_d0_w32
  cat3 := concatenates_S512x256_S512x256_S512x256_S1536x256_d0
  s0 := slices_S1536x256_o0_0_S512x256
  s1 := slices_S1536x256_o512_0_S512x256
  s2 := slices_S1536x256_o1024_0_S512x256
  bc := broadcasts_S512x1_S512x256
  red := reduces_S512x256_S512
  sc := shapeCasts_S512_S512x1
  c128 := slices_S2048x128_o1536_0_S512x128
  c1 := slices_S2048x1_o1536_0_S512x1
  h128 := slices_S2048x128_o0_0_S1536x128
  h1 := slices_S2048x1_o0_0_S1536x1
  p128 := concatenates_S1536x128_S512x128_S2048x128_d0
  p1 := concatenates_S1536x1_S512x1_S2048x1_d0

theorem wf7 : WfAt 1792 256 768 where
  nt := dot_S256x128_S256x128_S256x256_1_1_0_0_n_n_wf
  tri := dot_S768x256_S256x256_S768x256_1_0_0_1_n_n_wf
  tn := dot_S256x256_S256x128_S256x128_0_0_1_1_n_n_wf
  nn := dot_S256x256_S256x128_S256x128_1_0_0_1_n_n_wf
  io1 := iota_S256x256_d1_w32
  io0 := iota_S256x256_d0_w32
  cat3 := concatenates_S256x256_S256x256_S256x256_S768x256_d0
  s0 := slices_S768x256_o0_0_S256x256
  s1 := slices_S768x256_o256_0_S256x256
  s2 := slices_S768x256_o512_0_S256x256
  bc := broadcasts_S256x1_S256x256
  red := by decide
  sc := by decide
  c128 := slices_S2048x128_o1792_0_S256x128
  c1 := slices_S2048x1_o1792_0_S256x1
  h128 := slices_S2048x128_o0_0_S1792x128
  h1 := by decide
  p128 := concatenates_S1792x128_S256x128_S2048x128_d0
  p1 := by decide

/-- The rows a tile's keys are at. -/
theorem rowsIn (d : Fin 8) : ∀ a, (![256 * d.val, 0] : Fin 2 → ℕ) a + S256x128.size a ≤ S2048x128.size a := by
  intro a
  fin_cases a
  · show 256 * d.val + 256 ≤ 2048
    omega
  · show 0 + 128 ≤ 128
    omega

abbrev rt (d : Fin 8) : Rect S2048x128 := Rect.unit ![256 * d.val, 0] S256x128.size (rowsIn d)

/-- A tile's rows of a head's array. -/
def blk {e : EltTy} (x : S2048x128.Idx → Elt F e) (d : Fin 8) : S256x128.Idx → Elt F e := fun j => x ((rt d).idx j)

/-- A head's operands as its tiles read them, from the blocks of the query, total and output-gradient arrays. -/
def hd (x0 : S2048x128.Idx → Elt F .bf16) (x3 x4 : S2048x128.Idx → Elt F .f32) : Hd F where
  q := fun j => x0 ((Rect.unit (s := S2048x128) k0_off1 S2048x128.size k0_off1_inb).idx j)
  do' := k0_pay206 (fun j => x4 ((Rect.unit (s := S2048x128) k0_off1 S2048x128.size k0_off1_inb).idx j))
  tot := k0_pay207 (fun j => x3 ((Rect.unit (s := S2048x128) k0_off2 S2048x1.size k0_off2_inb).idx j))

/-- The chain's beginning. -/
def s0 : St F := ⟨k0_pay209, k0_pay208, k0_pay208⟩

section Chain

variable (h : Hd F) (x1 : S2048x128.Idx → Elt F .bf16) (x2 : S2048x128.Idx → Elt F .f32)

def s1 : St F := stepT0 wf0 h s0 (blk x1 0) (blk x2 0)
def s2 : St F := stepT wf1 h (s1 h x1 x2) (blk x1 1) (blk x2 1)
def s3 : St F := stepT wf2 h (s2 h x1 x2) (blk x1 2) (blk x2 2)
def s4 : St F := stepT wf3 h (s3 h x1 x2) (blk x1 3) (blk x2 3)
def s5 : St F := stepT wf4 h (s4 h x1 x2) (blk x1 4) (blk x2 4)
def s6 : St F := stepT wf5 h (s5 h x1 x2) (blk x1 5) (blk x2 5)
def s7 : St F := stepT wf6 h (s6 h x1 x2) (blk x1 6) (blk x2 6)
def s8 : St F := stepT wf7 h (s7 h x1 x2) (blk x1 7) (blk x2 7)

/-- The zeros the key and value gradients start from. -/
def zb (d : Fin 8) : S256x128.Idx → Elt F .f32 := blk k0_pay202 d

def dkB : Fin 8 → S256x128.Idx → Elt F .f32
  | 0 => dkT wf0 h.q h.do' h.tot s0.rl s0.rg (blk x1 0) (blk x2 0) (zb 0)
  | 1 => dkAt wf1 h (s1 h x1 x2) (blk x1 1) (blk x2 1) (zb 1)
  | 2 => dkAt wf2 h (s2 h x1 x2) (blk x1 2) (blk x2 2) (zb 2)
  | 3 => dkAt wf3 h (s3 h x1 x2) (blk x1 3) (blk x2 3) (zb 3)
  | 4 => dkAt wf4 h (s4 h x1 x2) (blk x1 4) (blk x2 4) (zb 4)
  | 5 => dkAt wf5 h (s5 h x1 x2) (blk x1 5) (blk x2 5) (zb 5)
  | 6 => dkAt wf6 h (s6 h x1 x2) (blk x1 6) (blk x2 6) (zb 6)
  | 7 => dkAt wf7 h (s7 h x1 x2) (blk x1 7) (blk x2 7) (zb 7)

def dvB : Fin 8 → S256x128.Idx → Elt F .f32
  | 0 => dvT wf0 h.q h.do' h.tot s0.rl (blk x1 0) (zb 0)
  | 1 => dvAt wf1 h (s1 h x1 x2) (blk x1 1) (zb 1)
  | 2 => dvAt wf2 h (s2 h x1 x2) (blk x1 2) (zb 2)
  | 3 => dvAt wf3 h (s3 h x1 x2) (blk x1 3) (zb 3)
  | 4 => dvAt wf4 h (s4 h x1 x2) (blk x1 4) (zb 4)
  | 5 => dvAt wf5 h (s5 h x1 x2) (blk x1 5) (zb 5)
  | 6 => dvAt wf6 h (s6 h x1 x2) (blk x1 6) (zb 6)
  | 7 => dvAt wf7 h (s7 h x1 x2) (blk x1 7) (zb 7)

/-- A gradient output's stores, the last first: the eight tiles' blocks over a fill with zeros. -/
def stores (z : S2048x128.Idx → Elt F .f32) (B : Fin 8 → S256x128.Idx → Elt F .f32) : ℕ → List (View.Piece (Elt F) S2048x128 .f32)
  | 0 => [⟨Rect.unit ![0, 0] S2048x128.size inb_S2048x128_S2048x128_0_0, z⟩]
  | n + 1 => if hn : n < 8 then ⟨rt ⟨n, hn⟩, B ⟨n, hn⟩⟩ :: stores z B n else []

/-- Before a tile's block is stored, its rows hold the fill. -/
theorem readCov_stores {sig : RefSig} {κ : Kind} {sp : Space} (v : View sig κ sp S2048x128 .f32) (z : S2048x128.Idx → Elt F .f32)
    (B : Fin 8 → S256x128.Idx → Elt F .f32) (d : Fin 8) :
    ∀ n, n ≤ d.val → v.readCov (stores z B n) (rt d).toLoadRect = blk z d
  | 0, _ => View.readCov_fill v _ z [] (rt d) fun a => by fin_cases a <;> rfl
  | n + 1, hn => by
    have hn8 : n < 8 := by omega
    rw [stores, dif_pos hn8, View.readCov_cons_of_disjoint, readCov_stores v z B d n (by omega)]
    rw [Finset.disjoint_left]
    intro y hy hy'
    have h1 := (Rect.mem_set_unit (inb := rowsIn ⟨n, hn8⟩).mp hy) 0
    have h2 := (Rect.mem_set_unit (inb := rowsIn d).mp hy') 0
    change 256 * n ≤ (y 0).val ∧ (y 0).val < 256 * n + 256 at h1
    change 256 * d.val ≤ (y 0).val ∧ (y 0).val < 256 * d.val + 256 at h2
    omega

/-- One more block stored, over what is known of the earlier stores. -/
theorem stores_succ (z : S2048x128.Idx → Elt F .f32) (B : Fin 8 → S256x128.Idx → Elt F .f32) (d : Fin 8)
    (w : S256x128.Idx → Elt F .f32) (L : List (View.Piece (Elt F) S2048x128 .f32)) (hw : w = B d) (hL : L = stores z B d.val) :
    (⟨rt d, w⟩ :: L : List (View.Piece (Elt F) S2048x128 .f32)) = stores z B (d.val + 1) := by
  rw [stores, dif_pos d.isLt, hw, hL]

end Chain

end Cert.Proof.Attn
-- ==== Proof.Body.lean ====
module

public import proofs.«01_k».proof.Defs
public import proofs.«01_k».proof.Proof.Gen.KernelIdeal.Frame
public import proofs.«01_k».proof.Proof.Tile

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

section Out

variable (x0 x1 : S2048x128.Idx → Elt F .bf16) (x2 x3 x4 : S2048x128.Idx → Elt F .f32)

/-- What the body leaves in its three outputs' windows: the gradients of a head's queries, keys and values. -/
def out5 : S2048x128.Idx → Elt F .f32 := (s8 (hd x0 x3 x4) x1 x2).dq
def out6 : S2048x128.Idx → Elt F .f32 := View.canon (stores k0_pay202 (dkB (hd x0 x3 x4) x1 x2) 8)
def out7 : S2048x128.Idx → Elt F .f32 := View.canon (stores k0_pay203 (dvB (hd x0 x3 x4) x1 x2) 8)

end Out

theorem t1_trips : k0_t1_loop.trips = 0 := by decide +kernel
theorem t2_trips : k0_t2_loop.trips = 0 := by decide +kernel

set_option maxHeartbeats 4000000 in
theorem sound_kernel (c : Dev nD) (E : Set ℕ) (i : grid0.Coords)
    (arg1 : Memref sig .tc .vmem S2048x128 .bf16) (harg1 : arg1.IsWhole) (arg2 : Memref sig .tc .vmem S2048x128 .bf16) (harg2 : arg2.IsWhole)
    (arg3 : Memref sig .tc .vmem S2048x128 .f32) (harg3 : arg3.IsWhole) (arg4 : Memref sig .tc .vmem S2048x128 .f32) (harg4 : arg4.IsWhole)
    (arg5 : Memref sig .tc .vmem S2048x128 .f32) (harg5 : arg5.IsWhole) (arg6 : Memref sig .tc .vmem S2048x128 .f32) (harg6 : arg6.IsWhole)
    (arg7 : Memref sig .tc .vmem S2048x128 .f32) (harg7 : arg7.IsWhole) (arg8 : Memref sig .tc .vmem S2048x128 .f32) (harg8 : arg8.IsWhole)
    (x0 : S2048x128.Idx → Elt F .bf16) (x1 : S2048x128.Idx → Elt F .bf16) (x2 : S2048x128.Idx → Elt F .f32)
    (x3 : S2048x128.Idx → Elt F .f32) (x4 : S2048x128.Idx → Elt F .f32) (K : PUnit → sProp 𝕄) :
    iprop(owns (c : Thread nD τ) arg1 fullShare x0 ∗ owns (c : Thread nD τ) arg2 fullShare x1 ∗ owns (c : Thread nD τ) arg3 fullShare x2 ∗
      owns (c : Thread nD τ) arg4 fullShare x3 ∗ owns (c : Thread nD τ) arg5 fullShare x4 ∗
      (∃ d, owns (c : Thread nD τ) arg6 fullShare d) ∗ (∃ d, owns (c : Thread nD τ) arg7 fullShare d) ∗ (∃ d, owns (c : Thread nD τ) arg8 fullShare d) ∗
      (iprop(owns (c : Thread nD τ) arg1 fullShare x0 ∗ owns (c : Thread nD τ) arg2 fullShare x1 ∗ owns (c : Thread nD τ) arg3 fullShare x2 ∗
        owns (c : Thread nD τ) arg4 fullShare x3 ∗ owns (c : Thread nD τ) arg5 fullShare x4 ∗
        owns (c : Thread nD τ) arg6 fullShare (out5 x0 x1 x2 x3 x4) ∗ owns (c : Thread nD τ) arg7 fullShare (out6 x0 x1 x2 x3 x4) ∗
        owns (c : Thread nD τ) arg8 fullShare (out7 x0 x1 x2 x3 x4)) -∗ K ⟨⟩)) ⊢
    wp frame (wpE (defs₀ (F := F)) Variants.none c none) E (cc0_b1_attn i arg1 harg1 arg2 harg2 arg3 harg3 arg4 harg4 arg5 harg5 arg6 harg6 arg7 harg7 arg8 harg8) K := by
  have h1 := t1_trips
  have h2 := t2_trips
  simp only [cc0_b1_attn_eq_skeleton]
  unfold cc0_b1_attn_skel
  simp only [k0_part31_eq_skeleton, k0_part32_eq_skeleton, k0_part33_eq_skeleton, k0_part34_eq_skeleton, k0_part35_eq_skeleton,
    k0_part36_eq_skeleton, k0_part37_eq_skeleton, k0_part38_eq_skeleton, k0_part39_eq_skeleton, k0_part40_eq_skeleton,
    k0_part41_eq_skeleton, k0_part42_eq_skeleton, k0_part43_eq_skeleton, k0_part44_eq_skeleton, k0_part45_eq_skeleton,
    k0_part46_eq_skeleton, k0_part47_eq_skeleton, k0_part48_eq_skeleton, k0_part49_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  have e1 : (⟨sound_kernel.sl.r_10 c arg1 arg2 arg3 arg4 arg5 f0 f1 f2 f3 f4, sound_kernel.sl.r_11 c arg1 arg2 f0 f1, sound_kernel.sl.r_12 c arg1 arg2 arg3 arg4 arg5 f0 f1 f2 f3 f4⟩ : St F) = s1 (hd (arg1.view.read (Elt F) f0) (arg4.view.read (Elt F) f3) (arg5.view.read (Elt F) f4)) (arg2.view.read (Elt F) f1) (arg3.view.read (Elt F) f2) := by
    rfl
  have e2 : (⟨sound_kernel.sl.r_28 c arg1 arg2 arg3 arg4 arg5 f0 f1 f2 f3 f4, sound_kernel.sl.r_29 c arg1 arg2 f0 f1, sound_kernel.sl.r_30 c arg1 arg2 arg3 arg4 arg5 f0 f1 f2 f3 f4⟩ : St F) = s2 (hd (arg1.view.read (Elt F) f0) (arg4.view.read (Elt F) f3) (arg5.view.read (Elt F) f4)) (arg2.view.read (Elt F) f1) (arg3.view.read (Elt F) f2) := by
    unfold s2
    rw [← e1]
    rfl
  have e3 : (⟨sound_kernel.sl.r_44 c arg1 arg2 arg3 arg4 arg5 f0 f1 f2 f3 f4, sound_kernel.sl.r_45 c arg1 arg2 f0 f1, sound_kernel.sl.r_46 c arg1 arg2 arg3 arg4 arg5 f0 f1 f2 f3 f4⟩ : St F) = s3 (hd (arg1.view.read (Elt F) f0) (arg4.view.read (Elt F) f3) (arg5.view.read (Elt F) f4)) (arg2.view.read (Elt F) f1) (arg3.view.read (Elt F) f2) := by
    unfold s3
    rw [← e2]
    rfl
  have e4 : (⟨sound_kernel.sl.r_60 c arg1 arg2 arg3 arg4 arg5 f0 f1 f2 f3 f4, sound_kernel.sl.r_61 c arg1 arg2 f0 f1, sound_kernel.sl.r_62 c arg1 arg2 arg3 arg4 arg5 f0 f1 f2 f3 f4⟩ : St F) = s4 (hd (arg1.view.read (Elt F) f0) (arg4.view.read (Elt F) f3) (arg5.view.read (Elt F) f4)) (arg2.view.read (Elt F) f1) (arg3.view.read (Elt F) f2) := by
    unfold s4
    rw [← e3]
    rfl
  have e5 : (⟨sound_kernel.sl.r_75 c arg1 arg2 arg3 arg4 arg5 f0 f1 f2 f3 f4, sound_kernel.sl.r_76 c arg1 arg2 f0 f1, sound_kernel.sl.r_77 c arg1 arg2 arg3 arg4 arg5 f0 f1 f2 f3 f4⟩ : St F) = s5 (hd (arg1.view.read (Elt F) f0) (arg4.view.read (Elt F) f3) (arg5.view.read (Elt F) f4)) (arg2.view.read (Elt F) f1) (arg3.view.read (Elt F) f2) := by
    unfold s5
    rw [← e4]
    rfl
  have e6 : (⟨sound_kernel.sl.r_91 c arg1 arg2 arg3 arg4 arg5 f0 f1 f2 f3 f4, sound_kernel.sl.r_92 c arg1 arg2 f0 f1, sound_kernel.sl.r_93 c arg1 arg2 arg3 arg4 arg5 f0 f1 f2 f3 f4⟩ : St F) = s6 (hd (arg1.view.read (Elt F) f0) (arg4.view.read (Elt F) f3) (arg5.view.read (Elt F) f4)) (arg2.view.read (Elt F) f1) (arg3.view.read (Elt F) f2) := by
    unfold s6
    rw [← e5]
    rfl
  have e7 : sound_kernel.sl.r_108 c arg1 arg2 arg3 arg4 arg5 f0 f1 f2 f3 f4 = (s7 (hd (arg1.view.read (Elt F) f0) (arg4.view.read (Elt F) f3) (arg5.view.read (Elt F) f4)) (arg2.view.read (Elt F) f1) (arg3.view.read (Elt F) f2)).dq := by
    unfold s7
    rw [← e6]
    rfl
  have e7g : sound_kernel.sl.r_109 c arg1 arg2 arg3 arg4 arg5 f0 f1 f2 f3 f4 = (s7 (hd (arg1.view.read (Elt F) f0) (arg4.view.read (Elt F) f3) (arg5.view.read (Elt F) f4)) (arg2.view.read (Elt F) f1) (arg3.view.read (Elt F) f2)).rg := by
    unfold s7
    rw [← e6]
    rfl
  have e7l : sound_kernel.sl.r_111 c arg1 arg2 f0 f1 = cut1 wf7 (s7 (hd (arg1.view.read (Elt F) f0) (arg4.view.read (Elt F) f3) (arg5.view.read (Elt F) f4)) (arg2.view.read (Elt F) f1) (arg3.view.read (Elt F) f2)).rl := by
    unfold s7
    rw [← e6]
    rfl
  have e8 : k0_pay1 (sound_kernel.sl.r_119 c arg1 arg2 arg3 arg4 arg5 f0 f1 f2 f3 f4) (sound_kernel.sl.r_120 c arg1 arg2 arg3 arg4 arg5 f0 f1 f2 f3 f4) = (s8 (hd (arg1.view.read (Elt F) f0) (arg4.view.read (Elt F) f3) (arg5.view.read (Elt F) f4)) (arg2.view.read (Elt F) f1) (arg3.view.read (Elt F) f2)).dq := by
    unfold s8 stepT
    rw [← e7, ← e7l, ← e7g]
    rfl
  have l6_0 : (sound_kernel.sl.H6_1 (F := F)) = stores k0_pay202 (dkB (hd (arg1.view.read (Elt F) f0) (arg4.view.read (Elt F) f3) (arg5.view.read (Elt F) f4)) (arg2.view.read (Elt F) f1) (arg3.view.read (Elt F) f2)) 0 := rfl
  have z6_0 : sound_kernel.sl.v110 (F := F) c arg7 = blk k0_pay202 0 := by
    show arg7.view.readCov (sound_kernel.sl.H6_1 (F := F)) (rt 0).toLoadRect = _
    rw [l6_0]
    exact readCov_stores _ _ _ 0 0 le_rfl
  have l6_1 : sound_kernel.sl.H6_2 c arg1 arg2 arg3 arg4 arg5 arg7 f0 f1 f2 f3 f4 = stores k0_pay202 (dkB (hd (arg1.view.read (Elt F) f0) (arg4.view.read (Elt F) f3) (arg5.view.read (Elt F) f4)) (arg2.view.read (Elt F) f1) (arg3.view.read (Elt F) f2)) 1 := by
    refine stores_succ k0_pay202 (dkB (hd (arg1.view.read (Elt F) f0) (arg4.view.read (Elt F) f3) (arg5.view.read (Elt F) f4)) (arg2.view.read (Elt F) f1) (arg3.view.read (Elt F) f2)) 0 _ _ (Eq.trans (b := dkT wf0 (hd (arg1.view.read (Elt F) f0) (arg4.view.read (Elt F) f3) (arg5.view.read (Elt F) f4)).q (hd (arg1.view.read (Elt F) f0) (arg4.view.read (Elt F) f3) (arg5.view.read (Elt F) f4)).do' (hd (arg1.view.read (Elt F) f0) (arg4.view.read (Elt F) f3) (arg5.view.read (Elt F) f4)).tot s0.rl s0.rg (blk (arg2.view.read (Elt F) f1) 0) (blk (arg3.view.read (Elt F) f2) 0) (sound_kernel.sl.v110 c arg7)) ?_ (congrArg (dkT wf0 (hd (arg1.view.read (Elt F) f0) (arg4.view.read (Elt F) f3) (arg5.view.read (Elt F) f4)).q (hd (arg1.view.read (Elt F) f0) (arg4.view.read (Elt F) f3) (arg5.view.read (Elt F) f4)).do' (hd (arg1.view.read (Elt F) f0) (arg4.view.read (Elt F) f3) (arg5.view.read (Elt F) f4)).tot s0.rl s0.rg (blk (arg2.view.read (Elt F) f1) 0) (blk (arg3.view.read (Elt F) f2) 0)) z6_0)) l6_0
    rfl
  have z6_1 : sound_kernel.sl.v215 (F := F) c arg1 arg2 arg3 arg4 arg5 arg7 f0 f1 f2 f3 f4 = blk k0_pay202 1 := by
    show arg7.view.readCov (sound_kernel.sl.H6_2 c arg1 arg2 arg3 arg4 arg5 arg7 f0 f1 f2 f3 f4) (rt 1).toLoadRect = _
    rw [l6_1]
    exact readCov_stores _ _ _ 1 1 le_rfl
  have l6_2 : sound_kernel.sl.H6_3 c arg1 arg2 arg3 arg4 arg5 arg7 f0 f1 f2 f3 f4 = stores k0_pay202 (dkB (hd (arg1.view.read (Elt F) f0) (arg4.view.read (Elt F) f3) (arg5.view.read (Elt F) f4)) (arg2.view.read (Elt F) f1) (arg3.view.read (Elt F) f2)) 2 := by
    refine stores_succ k0_pay202 (dkB (hd (arg1.view.read (Elt F) f0) (arg4.view.read (Elt F) f3) (arg5.view.read (Elt F) f4)) (arg2.view.read (Elt F) f1) (arg3.view.read (Elt F) f2)) 1 _ _ (Eq.trans (b := dkAt wf1 (hd (arg1.view.read (Elt F) f0) (arg4.view.read (Elt F) f3) (arg5.view.read (Elt F) f4)) (s1 (hd (arg1.view.read (Elt F) f0) (arg4.view.read (Elt F) f3) (arg5.view.read (Elt F) f4)) (arg2.view.read (Elt F) f1) (arg3.view.read (Elt F) f2)) (blk (arg2.view.read (Elt F) f1) 1) (blk (arg3.view.read (Elt F) f2) 1) (sound_kernel.sl.v215 c arg1 arg2 arg3 arg4 arg5 arg7 f0 f1 f2 f3 f4)) ?_ (congrArg (dkAt wf1 (hd (arg1.view.read (Elt F) f0) (arg4.view.read (Elt F) f3) (arg5.view.read (Elt F) f4)) (s1 (hd (arg1.view.read (Elt F) f0) (arg4.view.read (Elt F) f3) (arg5.view.read (Elt F) f4)) (arg2.view.read (Elt F) f1) (arg3.view.read (Elt F) f2)) (blk (arg2.view.read (Elt F) f1) 1) (blk (arg3.view.read (Elt F) f2) 1)) z6_1)) l6_1
    rw [← e1]
    rfl
  have z6_2 : sound_kernel.sl.v326 (F := F) c arg1 arg2 arg3 arg4 arg5 arg7 f0 f1 f2 f3 f4 = blk k0_pay202 2 := by
    show arg7.view.readCov (sound_kernel.sl.H6_3 c arg1 arg2 arg3 arg4 arg5 arg7 f0 f1 f2 f3 f4) (rt 2).toLoadRect = _
    rw [l6_2]
    exact readCov_stores _ _ _ 2 2 le_rfl
  have l6_3 : sound_kernel.sl.H6_4 c arg1 arg2 arg3 arg4 arg5 arg7 f0 f1 f2 f3 f4 = stores k0_pay202 (dkB (hd (arg1.view.read (Elt F) f0) (arg4.view.read (Elt F) f3) (arg5.view.read (Elt F) f4)) (arg2.view.read (Elt F) f1) (arg3.view.read (Elt F) f2)) 3 := by
    refine stores_succ k0_pay202 (dkB (hd (arg1.view.read (Elt F) f0) (arg4.view.read (Elt F) f3) (arg5.view.read (Elt F) f4)) (arg2.view.read (Elt F) f1) (arg3.view.read (Elt F) f2)) 2 _ _ (Eq.trans (b := dkAt wf2 (hd (arg1.view.read (Elt F) f0) (arg4.view.read (Elt F) f3) (arg5.view.read (Elt F) f4)) (s2 (hd (arg1.view.read (Elt F) f0) (arg4.view.read (Elt F) f3) (arg5.view.read (Elt F) f4)) (arg2.view.read (Elt F) f1) (arg3.view.read (Elt F) f2)) (blk (arg2.view.read (Elt F) f1) 2) (blk (arg3.view.read (Elt F) f2) 2) (sound_kernel.sl.v326 c arg1 arg2 arg3 arg4 arg5 arg7 f0 f1 f2 f3 f4)) ?_ (congrArg (dkAt wf2 (hd (arg1.view.read (Elt F) f0) (arg4.view.read (Elt F) f3) (arg5.view.read (Elt F) f4)) (s2 (hd (arg1.view.read (Elt F) f0) (arg4.view.read (Elt F) f3) (arg5.view.read (Elt F) f4)) (arg2.view.read (Elt F) f1) (arg3.view.read (Elt F) f2)) (blk (arg2.view.read (Elt F) f1) 2) (blk (arg3.view.read (Elt F) f2) 2)) z6_2)) l6_2
    rw [← e2]
    rfl
  have z6_3 : sound_kernel.sl.v437 (F := F) c arg1 arg2 arg3 arg4 arg5 arg7 f0 f1 f2 f3 f4 = blk k0_pay202 3 := by
    show arg7.view.readCov (sound_kernel.sl.H6_4 c arg1 arg2 arg3 arg4 arg5 arg7 f0 f1 f2 f3 f4) (rt 3).toLoadRect = _
    rw [l6_3]
    exact readCov_stores _ _ _ 3 3 le_rfl
  have l6_4 : sound_kernel.sl.H6_5 c arg1 arg2 arg3 arg4 arg5 arg7 f0 f1 f2 f3 f4 = stores k0_pay202 (dkB (hd (arg1.view.read (Elt F) f0) (arg4.view.read (Elt F) f3) (arg5.view.read (Elt F) f4)) (arg2.view.read (Elt F) f1) (arg3.view.read (Elt F) f2)) 4 := by
    refine stores_succ k0_pay202 (dkB (hd (arg1.view.read (Elt F) f0) (arg4.view.read (Elt F) f3) (arg5.view.read (Elt F) f4)) (arg2.view.read (Elt F) f1) (arg3.view.read (Elt F) f2)) 3 _ _ (Eq.trans (b := dkAt wf3 (hd (arg1.view.read (Elt F) f0) (arg4.view.read (Elt F) f3) (arg5.view.read (Elt F) f4)) (s3 (hd (arg1.view.read (Elt F) f0) (arg4.view.read (Elt F) f3) (arg5.view.read (Elt F) f4)) (arg2.view.read (Elt F) f1) (arg3.view.read (Elt F) f2)) (blk (arg2.view.read (Elt F) f1) 3) (blk (arg3.view.read (Elt F) f2) 3) (sound_kernel.sl.v437 c arg1 arg2 arg3 arg4 arg5 arg7 f0 f1 f2 f3 f4)) ?_ (congrArg (dkAt wf3 (hd (arg1.view.read (Elt F) f0) (arg4.view.read (Elt F) f3) (arg5.view.read (Elt F) f4)) (s3 (hd (arg1.view.read (Elt F) f0) (arg4.view.read (Elt F) f3) (arg5.view.read (Elt F) f4)) (arg2.view.read (Elt F) f1) (arg3.view.read (Elt F) f2)) (blk (arg2.view.read (Elt F) f1) 3) (blk (arg3.view.read (Elt F) f2) 3)) z6_3)) l6_3
    rw [← e3]
    rfl
  have z6_4 : sound_kernel.sl.v548 (F := F) c arg1 arg2 arg3 arg4 arg5 arg7 f0 f1 f2 f3 f4 = blk k0_pay202 4 := by
    show arg7.view.readCov (sound_kernel.sl.H6_5 c arg1 arg2 arg3 arg4 arg5 arg7 f0 f1 f2 f3 f4) (rt 4).toLoadRect = _
    rw [l6_4]
    exact readCov_stores _ _ _ 4 4 le_rfl
  have l6_5 : sound_kernel.sl.H6_6 c arg1 arg2 arg3 arg4 arg5 arg7 f0 f1 f2 f3 f4 = stores k0_pay202 (dkB (hd (arg1.view.read (Elt F) f0) (arg4.view.read (Elt F) f3) (arg5.view.read (Elt F) f4)) (arg2.view.read (Elt F) f1) (arg3.view.read (Elt F) f2)) 5 := by
    refine stores_succ k0_pay202 (dkB (hd (arg1.view.read (Elt F) f0) (arg4.view.read (Elt F) f3) (arg5.view.read (Elt F) f4)) (arg2.view.read (Elt F) f1) (arg3.view.read (Elt F) f2)) 4 _ _ (Eq.trans (b := dkAt wf4 (hd (arg1.view.read (Elt F) f0) (arg4.view.read (Elt F) f3) (arg5.view.read (Elt F) f4)) (s4 (hd (arg1.view.read (Elt F) f0) (arg4.view.read (Elt F) f3) (arg5.view.read (Elt F) f4)) (arg2.view.read (Elt F) f1) (arg3.view.read (Elt F) f2)) (blk (arg2.view.read (Elt F) f1) 4) (blk (arg3.view.read (Elt F) f2) 4) (sound_kernel.sl.v548 c arg1 arg2 arg3 arg4 arg5 arg7 f0 f1 f2 f3 f4)) ?_ (congrArg (dkAt wf4 (hd (arg1.view.read (Elt F) f0) (arg4.view.read (Elt F) f3) (arg5.view.read (Elt F) f4)) (s4 (hd (arg1.view.read (Elt F) f0) (arg4.view.read (Elt F) f3) (arg5.view.read (Elt F) f4)) (arg2.view.read (Elt F) f1) (arg3.view.read (Elt F) f2)) (blk (arg2.view.read (Elt F) f1) 4) (blk (arg3.view.read (Elt F) f2) 4)) z6_4)) l6_4
    rw [← e4]
    rfl
  have z6_5 : sound_kernel.sl.v659 (F := F) c arg1 arg2 arg3 arg4 arg5 arg7 f0 f1 f2 f3 f4 = blk k0_pay202 5 := by
    show arg7.view.readCov (sound_kernel.sl.H6_6 c arg1 arg2 arg3 arg4 arg5 arg7 f0 f1 f2 f3 f4) (rt 5).toLoadRect = _
    rw [l6_5]
    exact readCov_stores _ _ _ 5 5 le_rfl
  have l6_6 : sound_kernel.sl.H6_7 c arg1 arg2 arg3 arg4 arg5 arg7 f0 f1 f2 f3 f4 = stores k0_pay202 (dkB (hd (arg1.view.read (Elt F) f0) (arg4.view.read (Elt F) f3) (arg5.view.read (Elt F) f4)) (arg2.view.read (Elt F) f1) (arg3.view.read (Elt F) f2)) 6 := by
    refine stores_succ k0_pay202 (dkB (hd (arg1.view.read (Elt F) f0) (arg4.view.read (Elt F) f3) (arg5.view.read (Elt F) f4)) (arg2.view.read (Elt F) f1) (arg3.view.read (Elt F) f2)) 5 _ _ (Eq.trans (b := dkAt wf5 (hd (arg1.view.read (Elt F) f0) (arg4.view.read (Elt F) f3) (arg5.view.read (Elt F) f4)) (s5 (hd (arg1.view.read (Elt F) f0) (arg4.view.read (Elt F) f3) (arg5.view.read (Elt F) f4)) (arg2.view.read (Elt F) f1) (arg3.view.read (Elt F) f2)) (blk (arg2.view.read (Elt F) f1) 5) (blk (arg3.view.read (Elt F) f2) 5) (sound_kernel.sl.v659 c arg1 arg2 arg3 arg4 arg5 arg7 f0 f1 f2 f3 f4)) ?_ (congrArg (dkAt wf5 (hd (arg1.view.read (Elt F) f0) (arg4.view.read (Elt F) f3) (arg5.view.read (Elt F) f4)) (s5 (hd (arg1.view.read (Elt F) f0) (arg4.view.read (Elt F) f3) (arg5.view.read (Elt F) f4)) (arg2.view.read (Elt F) f1) (arg3.view.read (Elt F) f2)) (blk (arg2.view.read (Elt F) f1) 5) (blk (arg3.view.read (Elt F) f2) 5)) z6_5)) l6_5
    rw [← e5]
    rfl
  have z6_6 : sound_kernel.sl.v770 (F := F) c arg1 arg2 arg3 arg4 arg5 arg7 f0 f1 f2 f3 f4 = blk k0_pay202 6 := by
    show arg7.view.readCov (sound_kernel.sl.H6_7 c arg1 arg2 arg3 arg4 arg5 arg7 f0 f1 f2 f3 f4) (rt 6).toLoadRect = _
    rw [l6_6]
    exact readCov_stores _ _ _ 6 6 le_rfl
  have l6_7 : sound_kernel.sl.H6_8 c arg1 arg2 arg3 arg4 arg5 arg7 f0 f1 f2 f3 f4 = stores k0_pay202 (dkB (hd (arg1.view.read (Elt F) f0) (arg4.view.read (Elt F) f3) (arg5.view.read (Elt F) f4)) (arg2.view.read (Elt F) f1) (arg3.view.read (Elt F) f2)) 7 := by
    refine stores_succ k0_pay202 (dkB (hd (arg1.view.read (Elt F) f0) (arg4.view.read (Elt F) f3) (arg5.view.read (Elt F) f4)) (arg2.view.read (Elt F) f1) (arg3.view.read (Elt F) f2)) 6 _ _ (Eq.trans (b := dkAt wf6 (hd (arg1.view.read (Elt F) f0) (arg4.view.read (Elt F) f3) (arg5.view.read (Elt F) f4)) (s6 (hd (arg1.view.read (Elt F) f0) (arg4.view.read (Elt F) f3) (arg5.view.read (Elt F) f4)) (arg2.view.read (Elt F) f1) (arg3.view.read (Elt F) f2)) (blk (arg2.view.read (Elt F) f1) 6) (blk (arg3.view.read (Elt F) f2) 6) (sound_kernel.sl.v770 c arg1 arg2 arg3 arg4 arg5 arg7 f0 f1 f2 f3 f4)) ?_ (congrArg (dkAt wf6 (hd (arg1.view.read (Elt F) f0) (arg4.view.read (Elt F) f3) (arg5.view.read (Elt F) f4)) (s6 (hd (arg1.view.read (Elt F) f0) (arg4.view.read (Elt F) f3) (arg5.view.read (Elt F) f4)) (arg2.view.read (Elt F) f1) (arg3.view.read (Elt F) f2)) (blk (arg2.view.read (Elt F) f1) 6) (blk (arg3.view.read (Elt F) f2) 6)) z6_6)) l6_6
    rw [← e6]
    rfl
  have z6_7 : sound_kernel.sl.v881 (F := F) c arg1 arg2 arg3 arg4 arg5 arg7 f0 f1 f2 f3 f4 = blk k0_pay202 7 := by
    show arg7.view.readCov (sound_kernel.sl.H6_8 c arg1 arg2 arg3 arg4 arg5 arg7 f0 f1 f2 f3 f4) (rt 7).toLoadRect = _
    rw [l6_7]
    exact readCov_stores _ _ _ 7 7 le_rfl
  have l7_0 : (sound_kernel.sl.H7_1 (F := F)) = stores k0_pay203 (dvB (hd (arg1.view.read (Elt F) f0) (arg4.view.read (Elt F) f3) (arg5.view.read (Elt F) f4)) (arg2.view.read (Elt F) f1) (arg3.view.read (Elt F) f2)) 0 := rfl
  have z7_0 : sound_kernel.sl.v117 (F := F) c arg8 = blk k0_pay203 0 := by
    show arg8.view.readCov (sound_kernel.sl.H7_1 (F := F)) (rt 0).toLoadRect = _
    rw [l7_0]
    exact readCov_stores _ _ _ 0 0 le_rfl
  have l7_1 : sound_kernel.sl.H7_2 c arg1 arg2 arg4 arg5 arg8 f0 f1 f3 f4 = stores k0_pay203 (dvB (hd (arg1.view.read (Elt F) f0) (arg4.view.read (Elt F) f3) (arg5.view.read (Elt F) f4)) (arg2.view.read (Elt F) f1) (arg3.view.read (Elt F) f2)) 1 := by
    refine stores_succ k0_pay203 (dvB (hd (arg1.view.read (Elt F) f0) (arg4.view.read (Elt F) f3) (arg5.view.read (Elt F) f4)) (arg2.view.read (Elt F) f1) (arg3.view.read (Elt F) f2)) 0 _ _ (Eq.trans (b := dvT wf0 (hd (arg1.view.read (Elt F) f0) (arg4.view.read (Elt F) f3) (arg5.view.read (Elt F) f4)).q (hd (arg1.view.read (Elt F) f0) (arg4.view.read (Elt F) f3) (arg5.view.read (Elt F) f4)).do' (hd (arg1.view.read (Elt F) f0) (arg4.view.read (Elt F) f3) (arg5.view.read (Elt F) f4)).tot s0.rl (blk (arg2.view.read (Elt F) f1) 0)  (sound_kernel.sl.v117 c arg8)) ?_ (congrArg (dvT wf0 (hd (arg1.view.read (Elt F) f0) (arg4.view.read (Elt F) f3) (arg5.view.read (Elt F) f4)).q (hd (arg1.view.read (Elt F) f0) (arg4.view.read (Elt F) f3) (arg5.view.read (Elt F) f4)).do' (hd (arg1.view.read (Elt F) f0) (arg4.view.read (Elt F) f3) (arg5.view.read (Elt F) f4)).tot s0.rl (blk (arg2.view.read (Elt F) f1) 0) ) z7_0)) l7_0
    rfl
  have z7_1 : sound_kernel.sl.v222 (F := F) c arg1 arg2 arg4 arg5 arg8 f0 f1 f3 f4 = blk k0_pay203 1 := by
    show arg8.view.readCov (sound_kernel.sl.H7_2 c arg1 arg2 arg4 arg5 arg8 f0 f1 f3 f4) (rt 1).toLoadRect = _
    rw [l7_1]
    exact readCov_stores _ _ _ 1 1 le_rfl
  have l7_2 : sound_kernel.sl.H7_3 c arg1 arg2 arg4 arg5 arg8 f0 f1 f3 f4 = stores k0_pay203 (dvB (hd (arg1.view.read (Elt F) f0) (arg4.view.read (Elt F) f3) (arg5.view.read (Elt F) f4)) (arg2.view.read (Elt F) f1) (arg3.view.read (Elt F) f2)) 2 := by
    refine stores_succ k0_pay203 (dvB (hd (arg1.view.read (Elt F) f0) (arg4.view.read (Elt F) f3) (arg5.view.read (Elt F) f4)) (arg2.view.read (Elt F) f1) (arg3.view.read (Elt F) f2)) 1 _ _ (Eq.trans (b := dvAt wf1 (hd (arg1.view.read (Elt F) f0) (arg4.view.read (Elt F) f3) (arg5.view.read (Elt F) f4)) (s1 (hd (arg1.view.read (Elt F) f0) (arg4.view.read (Elt F) f3) (arg5.view.read (Elt F) f4)) (arg2.view.read (Elt F) f1) (arg3.view.read (Elt F) f2)) (blk (arg2.view.read (Elt F) f1) 1)  (sound_kernel.sl.v222 c arg1 arg2 arg4 arg5 arg8 f0 f1 f3 f4)) ?_ (congrArg (dvAt wf1 (hd (arg1.view.read (Elt F) f0) (arg4.view.read (Elt F) f3) (arg5.view.read (Elt F) f4)) (s1 (hd (arg1.view.read (Elt F) f0) (arg4.view.read (Elt F) f3) (arg5.view.read (Elt F) f4)) (arg2.view.read (Elt F) f1) (arg3.view.read (Elt F) f2)) (blk (arg2.view.read (Elt F) f1) 1) ) z7_1)) l7_1
    rw [← e1]
    rfl
  have z7_2 : sound_kernel.sl.v333 (F := F) c arg1 arg2 arg4 arg5 arg8 f0 f1 f3 f4 = blk k0_pay203 2 := by
    show arg8.view.readCov (sound_kernel.sl.H7_3 c arg1 arg2 arg4 arg5 arg8 f0 f1 f3 f4) (rt 2).toLoadRect = _
    rw [l7_2]
    exact readCov_stores _ _ _ 2 2 le_rfl
  have l7_3 : sound_kernel.sl.H7_4 c arg1 arg2 arg4 arg5 arg8 f0 f1 f3 f4 = stores k0_pay203 (dvB (hd (arg1.view.read (Elt F) f0) (arg4.view.read (Elt F) f3) (arg5.view.read (Elt F) f4)) (arg2.view.read (Elt F) f1) (arg3.view.read (Elt F) f2)) 3 := by
    refine stores_succ k0_pay203 (dvB (hd (arg1.view.read (Elt F) f0) (arg4.view.read (Elt F) f3) (arg5.view.read (Elt F) f4)) (arg2.view.read (Elt F) f1) (arg3.view.read (Elt F) f2)) 2 _ _ (Eq.trans (b := dvAt wf2 (hd (arg1.view.read (Elt F) f0) (arg4.view.read (Elt F) f3) (arg5.view.read (Elt F) f4)) (s2 (hd (arg1.view.read (Elt F) f0) (arg4.view.read (Elt F) f3) (arg5.view.read (Elt F) f4)) (arg2.view.read (Elt F) f1) (arg3.view.read (Elt F) f2)) (blk (arg2.view.read (Elt F) f1) 2)  (sound_kernel.sl.v333 c arg1 arg2 arg4 arg5 arg8 f0 f1 f3 f4)) ?_ (congrArg (dvAt wf2 (hd (arg1.view.read (Elt F) f0) (arg4.view.read (Elt F) f3) (arg5.view.read (Elt F) f4)) (s2 (hd (arg1.view.read (Elt F) f0) (arg4.view.read (Elt F) f3) (arg5.view.read (Elt F) f4)) (arg2.view.read (Elt F) f1) (arg3.view.read (Elt F) f2)) (blk (arg2.view.read (Elt F) f1) 2) ) z7_2)) l7_2
    rw [← e2]
    rfl
  have z7_3 : sound_kernel.sl.v444 (F := F) c arg1 arg2 arg4 arg5 arg8 f0 f1 f3 f4 = blk k0_pay203 3 := by
    show arg8.view.readCov (sound_kernel.sl.H7_4 c arg1 arg2 arg4 arg5 arg8 f0 f1 f3 f4) (rt 3).toLoadRect = _
    rw [l7_3]
    exact readCov_stores _ _ _ 3 3 le_rfl
  have l7_4 : sound_kernel.sl.H7_5 c arg1 arg2 arg4 arg5 arg8 f0 f1 f3 f4 = stores k0_pay203 (dvB (hd (arg1.view.read (Elt F) f0) (arg4.view.read (Elt F) f3) (arg5.view.read (Elt F) f4)) (arg2.view.read (Elt F) f1) (arg3.view.read (Elt F) f2)) 4 := by
    refine stores_succ k0_pay203 (dvB (hd (arg1.view.read (Elt F) f0) (arg4.view.read (Elt F) f3) (arg5.view.read (Elt F) f4)) (arg2.view.read (Elt F) f1) (arg3.view.read (Elt F) f2)) 3 _ _ (Eq.trans (b := dvAt wf3 (hd (arg1.view.read (Elt F) f0) (arg4.view.read (Elt F) f3) (arg5.view.read (Elt F) f4)) (s3 (hd (arg1.view.read (Elt F) f0) (arg4.view.read (Elt F) f3) (arg5.view.read (Elt F) f4)) (arg2.view.read (Elt F) f1) (arg3.view.read (Elt F) f2)) (blk (arg2.view.read (Elt F) f1) 3)  (sound_kernel.sl.v444 c arg1 arg2 arg4 arg5 arg8 f0 f1 f3 f4)) ?_ (congrArg (dvAt wf3 (hd (arg1.view.read (Elt F) f0) (arg4.view.read (Elt F) f3) (arg5.view.read (Elt F) f4)) (s3 (hd (arg1.view.read (Elt F) f0) (arg4.view.read (Elt F) f3) (arg5.view.read (Elt F) f4)) (arg2.view.read (Elt F) f1) (arg3.view.read (Elt F) f2)) (blk (arg2.view.read (Elt F) f1) 3) ) z7_3)) l7_3
    rw [← e3]
    rfl
  have z7_4 : sound_kernel.sl.v555 (F := F) c arg1 arg2 arg4 arg5 arg8 f0 f1 f3 f4 = blk k0_pay203 4 := by
    show arg8.view.readCov (sound_kernel.sl.H7_5 c arg1 arg2 arg4 arg5 arg8 f0 f1 f3 f4) (rt 4).toLoadRect = _
    rw [l7_4]
    exact readCov_stores _ _ _ 4 4 le_rfl
  have l7_5 : sound_kernel.sl.H7_6 c arg1 arg2 arg4 arg5 arg8 f0 f1 f3 f4 = stores k0_pay203 (dvB (hd (arg1.view.read (Elt F) f0) (arg4.view.read (Elt F) f3) (arg5.view.read (Elt F) f4)) (arg2.view.read (Elt F) f1) (arg3.view.read (Elt F) f2)) 5 := by
    refine stores_succ k0_pay203 (dvB (hd (arg1.view.read (Elt F) f0) (arg4.view.read (Elt F) f3) (arg5.view.read (Elt F) f4)) (arg2.view.read (Elt F) f1) (arg3.view.read (Elt F) f2)) 4 _ _ (Eq.trans (b := dvAt wf4 (hd (arg1.view.read (Elt F) f0) (arg4.view.read (Elt F) f3) (arg5.view.read (Elt F) f4)) (s4 (hd (arg1.view.read (Elt F) f0) (arg4.view.read (Elt F) f3) (arg5.view.read (Elt F) f4)) (arg2.view.read (Elt F) f1) (arg3.view.read (Elt F) f2)) (blk (arg2.view.read (Elt F) f1) 4)  (sound_kernel.sl.v555 c arg1 arg2 arg4 arg5 arg8 f0 f1 f3 f4)) ?_ (congrArg (dvAt wf4 (hd (arg1.view.read (Elt F) f0) (arg4.view.read (Elt F) f3) (arg5.view.read (Elt F) f4)) (s4 (hd (arg1.view.read (Elt F) f0) (arg4.view.read (Elt F) f3) (arg5.view.read (Elt F) f4)) (arg2.view.read (Elt F) f1) (arg3.view.read (Elt F) f2)) (blk (arg2.view.read (Elt F) f1) 4) ) z7_4)) l7_4
    rw [← e4]
    rfl
  have z7_5 : sound_kernel.sl.v666 (F := F) c arg1 arg2 arg4 arg5 arg8 f0 f1 f3 f4 = blk k0_pay203 5 := by
    show arg8.view.readCov (sound_kernel.sl.H7_6 c arg1 arg2 arg4 arg5 arg8 f0 f1 f3 f4) (rt 5).toLoadRect = _
    rw [l7_5]
    exact readCov_stores _ _ _ 5 5 le_rfl
  have l7_6 : sound_kernel.sl.H7_7 c arg1 arg2 arg4 arg5 arg8 f0 f1 f3 f4 = stores k0_pay203 (dvB (hd (arg1.view.read (Elt F) f0) (arg4.view.read (Elt F) f3) (arg5.view.read (Elt F) f4)) (arg2.view.read (Elt F) f1) (arg3.view.read (Elt F) f2)) 6 := by
    refine stores_succ k0_pay203 (dvB (hd (arg1.view.read (Elt F) f0) (arg4.view.read (Elt F) f3) (arg5.view.read (Elt F) f4)) (arg2.view.read (Elt F) f1) (arg3.view.read (Elt F) f2)) 5 _ _ (Eq.trans (b := dvAt wf5 (hd (arg1.view.read (Elt F) f0) (arg4.view.read (Elt F) f3) (arg5.view.read (Elt F) f4)) (s5 (hd (arg1.view.read (Elt F) f0) (arg4.view.read (Elt F) f3) (arg5.view.read (Elt F) f4)) (arg2.view.read (Elt F) f1) (arg3.view.read (Elt F) f2)) (blk (arg2.view.read (Elt F) f1) 5)  (sound_kernel.sl.v666 c arg1 arg2 arg4 arg5 arg8 f0 f1 f3 f4)) ?_ (congrArg (dvAt wf5 (hd (arg1.view.read (Elt F) f0) (arg4.view.read (Elt F) f3) (arg5.view.read (Elt F) f4)) (s5 (hd (arg1.view.read (Elt F) f0) (arg4.view.read (Elt F) f3) (arg5.view.read (Elt F) f4)) (arg2.view.read (Elt F) f1) (arg3.view.read (Elt F) f2)) (blk (arg2.view.read (Elt F) f1) 5) ) z7_5)) l7_5
    rw [← e5]
    rfl
  have z7_6 : sound_kernel.sl.v777 (F := F) c arg1 arg2 arg4 arg5 arg8 f0 f1 f3 f4 = blk k0_pay203 6 := by
    show arg8.view.readCov (sound_kernel.sl.H7_7 c arg1 arg2 arg4 arg5 arg8 f0 f1 f3 f4) (rt 6).toLoadRect = _
    rw [l7_6]
    exact readCov_stores _ _ _ 6 6 le_rfl
  have l7_7 : sound_kernel.sl.H7_8 c arg1 arg2 arg4 arg5 arg8 f0 f1 f3 f4 = stores k0_pay203 (dvB (hd (arg1.view.read (Elt F) f0) (arg4.view.read (Elt F) f3) (arg5.view.read (Elt F) f4)) (arg2.view.read (Elt F) f1) (arg3.view.read (Elt F) f2)) 7 := by
    refine stores_succ k0_pay203 (dvB (hd (arg1.view.read (Elt F) f0) (arg4.view.read (Elt F) f3) (arg5.view.read (Elt F) f4)) (arg2.view.read (Elt F) f1) (arg3.view.read (Elt F) f2)) 6 _ _ (Eq.trans (b := dvAt wf6 (hd (arg1.view.read (Elt F) f0) (arg4.view.read (Elt F) f3) (arg5.view.read (Elt F) f4)) (s6 (hd (arg1.view.read (Elt F) f0) (arg4.view.read (Elt F) f3) (arg5.view.read (Elt F) f4)) (arg2.view.read (Elt F) f1) (arg3.view.read (Elt F) f2)) (blk (arg2.view.read (Elt F) f1) 6)  (sound_kernel.sl.v777 c arg1 arg2 arg4 arg5 arg8 f0 f1 f3 f4)) ?_ (congrArg (dvAt wf6 (hd (arg1.view.read (Elt F) f0) (arg4.view.read (Elt F) f3) (arg5.view.read (Elt F) f4)) (s6 (hd (arg1.view.read (Elt F) f0) (arg4.view.read (Elt F) f3) (arg5.view.read (Elt F) f4)) (arg2.view.read (Elt F) f1) (arg3.view.read (Elt F) f2)) (blk (arg2.view.read (Elt F) f1) 6) ) z7_6)) l7_6
    rw [← e6]
    rfl
  have z7_7 : sound_kernel.sl.v888 (F := F) c arg1 arg2 arg4 arg5 arg8 f0 f1 f3 f4 = blk k0_pay203 7 := by
    show arg8.view.readCov (sound_kernel.sl.H7_8 c arg1 arg2 arg4 arg5 arg8 f0 f1 f3 f4) (rt 7).toLoadRect = _
    rw [l7_7]
    exact readCov_stores _ _ _ 7 7 le_rfl
  have z6 : True := trivial
  iapply Hk
  isplitl [H0]
  · iexists f0
    isplitr
    · ipureintro; rfl
    iexact H0
  isplitl [H1]
  · iexists f1
    isplitr
    · ipureintro; rfl
    iexact H1
  isplitl [H2]
  · iexists f2
    isplitr
    · ipureintro; rfl
    iexact H2
  isplitl [H3]
  · iexists f3
    isplitr
    · ipureintro; rfl
    iexact H3
  isplitl [H4]
  · iexists f4
    isplitr
    · ipureintro; rfl
    iexact H4
  isplitl [H5]
  · iexists _
    isplitr
    swap
    · iexact H5
    ipureintro
    refine (View.read_writes_eq_canon _ _ _ fun y => ⟨_, List.mem_singleton_self _, ?_⟩).trans ((View.canon_cons_unit_lit _ _ _ ?_).trans e8)
    · exact (Rect.mem_set_unit (inb := k0_off1_inb)).mpr fun a => by
        fin_cases a
        · exact ⟨Nat.zero_le _, lt_of_lt_of_eq (y 0).isLt (Nat.zero_add 2048).symm⟩
        · exact ⟨Nat.zero_le _, lt_of_lt_of_eq (y 1).isLt (Nat.zero_add 128).symm⟩
    · intro a
      fin_cases a <;> rfl
  isplitl [H6]
  · iexists _
    isplitr
    swap
    · iexact H6
    ipureintro
    refine (congrArg (fun L => arg7.view.read (Elt F) (arg7.view.writes (Elt F) arg7.view.junk L)) (stores_succ k0_pay202 (dkB (hd (arg1.view.read (Elt F) f0) (arg4.view.read (Elt F) f3) (arg5.view.read (Elt F) f4)) (arg2.view.read (Elt F) f1) (arg3.view.read (Elt F) f2)) 7 _ _ (Eq.trans (b := dkAt wf7 (hd (arg1.view.read (Elt F) f0) (arg4.view.read (Elt F) f3) (arg5.view.read (Elt F) f4)) (s7 (hd (arg1.view.read (Elt F) f0) (arg4.view.read (Elt F) f3) (arg5.view.read (Elt F) f4)) (arg2.view.read (Elt F) f1) (arg3.view.read (Elt F) f2)) (blk (arg2.view.read (Elt F) f1) 7) (blk (arg3.view.read (Elt F) f2) 7) (sound_kernel.sl.v881 c arg1 arg2 arg3 arg4 arg5 arg7 f0 f1 f2 f3 f4)) ?_ (congrArg (dkAt wf7 (hd (arg1.view.read (Elt F) f0) (arg4.view.read (Elt F) f3) (arg5.view.read (Elt F) f4)) (s7 (hd (arg1.view.read (Elt F) f0) (arg4.view.read (Elt F) f3) (arg5.view.read (Elt F) f4)) (arg2.view.read (Elt F) f1) (arg3.view.read (Elt F) f2)) (blk (arg2.view.read (Elt F) f1) 7) (blk (arg3.view.read (Elt F) f2) 7)) z6_7)) l6_7)).trans
      (View.read_writes_junk_eq_canon _ _)
    unfold dkAt
    rw [← e7l, ← e7g]
    rfl
  iexists _
  isplitr
  swap
  · iexact H7
  ipureintro
  refine (congrArg (fun L => arg8.view.read (Elt F) (arg8.view.writes (Elt F) arg8.view.junk L)) (stores_succ k0_pay203 (dvB (hd (arg1.view.read (Elt F) f0) (arg4.view.read (Elt F) f3) (arg5.view.read (Elt F) f4)) (arg2.view.read (Elt F) f1) (arg3.view.read (Elt F) f2)) 7 _ _ (Eq.trans (b := dvAt wf7 (hd (arg1.view.read (Elt F) f0) (arg4.view.read (Elt F) f3) (arg5.view.read (Elt F) f4)) (s7 (hd (arg1.view.read (Elt F) f0) (arg4.view.read (Elt F) f3) (arg5.view.read (Elt F) f4)) (arg2.view.read (Elt F) f1) (arg3.view.read (Elt F) f2)) (blk (arg2.view.read (Elt F) f1) 7)  (sound_kernel.sl.v888 c arg1 arg2 arg4 arg5 arg8 f0 f1 f3 f4)) ?_ (congrArg (dvAt wf7 (hd (arg1.view.read (Elt F) f0) (arg4.view.read (Elt F) f3) (arg5.view.read (Elt F) f4)) (s7 (hd (arg1.view.read (Elt F) f0) (arg4.view.read (Elt F) f3) (arg5.view.read (Elt F) f4)) (arg2.view.read (Elt F) f1) (arg3.view.read (Elt F) f2)) (blk (arg2.view.read (Elt F) f1) 7) ) z7_7)) l7_7)).trans
    (View.read_writes_junk_eq_canon _ _)
  unfold dvAt
  rw [← e7l]
  rfl

end Cert.Proof.Attn
-- ==== Proof.Run.lean ====
module

public import proofs.«01_k».proof.Proof.Body
public import Idealize.ShloMosaic.Lib.Claim

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What each window's buffer holds after the body at a head: the five operands' blocks as they were, the three gradients. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 (iblk m c 0 t) (iblk m c 1 t) (iblk m c 2 t) (iblk m c 3 t) (iblk m c 4 t)
    | ⟨6, _⟩ => out6 (iblk m c 0 t) (iblk m c 1 t) (iblk m c 2 t) (iblk m c 3 t) (iblk m c 4 t)
    | ⟨7, _⟩ => out7 (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t =
    out5 (iblk m c 0 t) (iblk m c 1 t) (iblk m c 2 t) (iblk m c 3 t) (iblk m c 4 t) := by dsimp only [dats]
theorem after6 (c : Dev nD) (t : Fin cfg0.N) : (dats m 0 c).after 6 t =
    out6 (iblk m c 0 t) (iblk m c 1 t) (iblk m c 2 t) (iblk m c 3 t) (iblk m c 4 t) := by dsimp only [dats]
theorem after7 (c : Dev nD) (t : Fin cfg0.N) : (dats m 0 c).after 7 t =
    out7 (iblk m c 0 t) (iblk m c 1 t) (iblk m c 2 t) (iblk m c 3 t) (iblk m c 4 t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- What the body is entered with at a head, and what it must leave. -/
def bodyPre (c : Dev nD) (t : Fin cfg0.N) : sProp 𝕄 :=
  iprop((dats m 0 c).Φ t.castSucc ∗ (dats m 0 c).owesAt () t.castSucc ∗
    (∃ d, owns (c : Thread nD τ) (st0_0 t) fullShare ((dats m 0 c).before 0 t d)) ∗ (∃ d, owns (c : Thread nD τ) (st0_1 t) fullShare ((dats m 0 c).before 1 t d)) ∗
    (∃ d, owns (c : Thread nD τ) (st0_2 t) fullShare ((dats m 0 c).before 2 t d)) ∗ (∃ d, owns (c : Thread nD τ) (st0_3 t) fullShare ((dats m 0 c).before 3 t d)) ∗
    (∃ d, owns (c : Thread nD τ) (st0_4 t) fullShare ((dats m 0 c).before 4 t d)) ∗ (∃ d, owns (c : Thread nD τ) (st0_5 t) fullShare ((dats m 0 c).before 5 t d)) ∗
    (∃ d, owns (c : Thread nD τ) (st0_6 t) fullShare ((dats m 0 c).before 6 t d)) ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ ∗
    owns (c : Thread nD τ) (st0_0 t) fullShare ((dats m 0 c).after 0 t) ∗ owns (c : Thread nD τ) (st0_1 t) fullShare ((dats m 0 c).after 1 t) ∗
    owns (c : Thread nD τ) (st0_2 t) fullShare ((dats m 0 c).after 2 t) ∗ owns (c : Thread nD τ) (st0_3 t) fullShare ((dats m 0 c).after 3 t) ∗
    owns (c : Thread nD τ) (st0_4 t) fullShare ((dats m 0 c).after 4 t) ∗ owns (c : Thread nD τ) (st0_5 t) fullShare ((dats m 0 c).after 5 t) ∗
    owns (c : Thread nD τ) (st0_6 t) fullShare ((dats m 0 c).after 6 t) ∗ owns (c : Thread nD τ) (st0_7 t) fullShare ((dats m 0 c).after 7 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) _)
  isplitl [H0]
  · iexact H0
  isplitl [H1]
  · iexact H1
  isplitl [H2]
  · iexact H2
  isplitl [H3]
  · iexact H3
  isplitl [H4]
  · iexact H4
  isplitl [H5]
  · iexists _; iexact H5
  isplitl [H6]
  · iexists _; iexact H6
  isplitl [H7]
  · iexists _; iexact H7
  iintro ⟨H0, H1, H2, H3, H4, H5, H6, H7⟩
  isplitl [HΦ]
  · iexact HΦ
  isplitl [Ho]
  · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  iexact H7

theorem defs₀_row (t : Fin cfg0.N) : defs₀ (F := F) .tc cfg0.body (cfg0.bodyArgs t (cfg0.slots t)) = bodyAt0 t := by
  unfold defs₀
  rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The whole run: every array of the call ends at what the heads' blocks make of it, and every counter at zero. -/
theorem run_main_quiescent : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The arguments end as they began, and every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.Proof.Attn
-- ==== Proof.Product.lean ====
/- Products of matrices of extended reals: what a tile of a product call computes, and what the host's products and
   reshapes hold. A matrix is indexed by natural numbers, so that a block of it is the same matrix at shifted indices. -/
module

public import Idealize.ShloMosaic.Lib.ValueIdx
public import Idealize.ShloMosaic.Lib.MatmulPlain
public import Idealize.ShloMosaic.Lib.Pointwise
public import Idealize.ShloMosaic.Lib.Pipeline.Value
public import Idealize.ShloMosaic.Lib.Pointwise.Reshape
public import Idealize.ShloMosaic.Lib.Pointwise.Index
public import Idealize.ShloMosaic.Lib.Pipeline.ValueKit.Basic

@[expose] public section

set_option maxRecDepth 16384

noncomputable section

namespace Cert.Proof.Prod

open Idealize.ShloMosaic hiding ix1 ix2 ix3
open Idealize.ShloMosaic.ValueIdx

abbrev M (r c : ℕ) : Shape := ⟨2, ![r, c]⟩
abbrev M3 (g r c : ℕ) : Shape := ⟨3, ![g, r, c]⟩

/-- The array holding a matrix, and the one holding several. -/
def ar {r c : ℕ} {φ : FTy} (X : ℕ → ℕ → EReal) : FVec Ideal (M r c) φ := fun i => X (i 0).val (i 1).val
def ar3 {g r c : ℕ} {φ : FTy} (X : ℕ → ℕ → ℕ → EReal) : FVec Ideal (M3 g r c) φ := fun i => X (i 0).val (i 1).val (i 2).val

/-- The matrix that an array holds, zero outside it. -/
def mat {r c : ℕ} {φ : FTy} (A : FVec Ideal (M r c) φ) : ℕ → ℕ → EReal :=
  fun a b => if h : a < r ∧ b < c then A (ix2 ⟨a, h.1⟩ ⟨b, h.2⟩) else 0

theorem ar_mat {r c : ℕ} {φ : FTy} (A : FVec Ideal (M r c) φ) : A = ar (mat A) := by
  funext i
  show _ = mat A (i 0).val (i 1).val
  unfold mat
  rw [dif_pos ⟨(i 0).isLt, (i 1).isLt⟩]
  exact congrArg A (ValueIdx.eq_ix2 i)

theorem ar_congr {r c : ℕ} {φ : FTy} {X Y : ℕ → ℕ → EReal} (h : ∀ a < r, ∀ b < c, X a b = Y a b) : (ar X : FVec Ideal (M r c) φ) = ar Y :=
  funext fun i => h _ (i 0).isLt _ (i 1).isLt

/-- The transpose, the product over `K` terms, and the sum. -/
abbrev T (X : ℕ → ℕ → EReal) : ℕ → ℕ → EReal := fun a b => X b a
def mm (K : ℕ) (A B : ℕ → ℕ → EReal) : ℕ → ℕ → EReal := fun a b => ∑ k : Fin K, A a k.val * B k.val b
/-- The columns in groups of `n`. -/
abbrev cols (n : ℕ) (X : ℕ → ℕ → EReal) : ℕ → ℕ → ℕ → EReal := fun g a b => X a (g * n + b)

theorem mm_comm (K : ℕ) (A B : ℕ → ℕ → EReal) : T (mm K A B) = mm K (T B) (T A) :=
  funext fun _ => funext fun _ => Finset.sum_congr rfl fun _ _ => mul_comm _ _

/-- A product's entry is another's where the row and the column are. -/
theorem mm_congr {K : ℕ} {A B A' B' : ℕ → ℕ → EReal} {a b a' b' : ℕ} (hA : ∀ k < K, A a k = A' a' k) (hB : ∀ k < K, B k b = B' k b') :
    mm K A B a b = mm K A' B' a' b' :=
  Finset.sum_congr rfl fun k _ => congrArg₂ (· * ·) (hA k.val k.isLt) (hB k.val k.isLt)

/-- A product over `K + L` terms is the first `K` and the last `L`. -/
theorem mm_add (K L : ℕ) (A B : ℕ → ℕ → EReal) (a b : ℕ) :
    mm (K + L) A B a b = mm K A B a b + mm L (fun a k => A a (K + k)) (fun k b => B (K + k) b) a b := Fin.sum_univ_add _

/-- The block of `r` rows and `c` columns at block index `p`. -/
abbrev blk (p : Fin 2 → ℕ) (r c : ℕ) (X : ℕ → ℕ → EReal) : ℕ → ℕ → EReal := fun a b => X (p 0 * r + 1 * a) (p 1 * c + 1 * b)

/-- A block of rows times a block of columns is a block of the product. -/
theorem mm_blk (K p q r c : ℕ) (A B : ℕ → ℕ → EReal) (a b : ℕ) :
    mm K (blk ![p, 0] r K A) (blk ![0, q] K c B) a b = mm K A B (p * r + 1 * a) (q * c + 1 * b) :=
  mm_congr (fun k _ => congrArg (A _) (by show 0 * K + 1 * k = k; omega)) (fun k _ => congrArg (B · _) (by show 0 * K + 1 * k = k; omega))

section Tile

variable {m k n : ℕ} {φ₁ φ₂ : FTy} (A B : ℕ → ℕ → EReal)

theorem zero_apply (s : Shape) (i : s.Idx) : constant (F := Ideal) s .f32 0x00000000#32 i = 0 := Ideal.ofBits_zero_f32

theorem tile_nn (w : DotDims.WF (M m k) (M k n) (M m n) [1] [0] [0] [1] [] []) :
    matmul (⟨[1], [0], [0], [1], [], [], w⟩ : DotDims (M m k) (M k n) (M m n)) none (ar A : FVec Ideal (M m k) φ₁) (ar B : FVec Ideal (M k n) φ₂)
      (constant (M m n) .f32 0x00000000#32) = ar (mm k A B) := by
  funext i
  obtain ⟨a, b, rfl⟩ : ∃ a b, i = ix2 a b := ⟨_, _, ValueIdx.eq_ix2 i⟩
  refine (Ideal.matmul_plain_apply none (ar A : FVec Ideal (M m k) φ₁) (ar B : FVec Ideal (M k n) φ₂) _ a b).trans ?_
  rw [zero_apply, zero_add]
  rfl

theorem tile_nt (w : DotDims.WF (M m k) (M n k) (M m n) [1] [1] [0] [0] [] []) :
    matmul (⟨[1], [1], [0], [0], [], [], w⟩ : DotDims (M m k) (M n k) (M m n)) none (ar A : FVec Ideal (M m k) φ₁) (ar B : FVec Ideal (M n k) φ₂)
      (constant (M m n) .f32 0x00000000#32) = ar (mm k A (T B)) := by
  funext i
  obtain ⟨a, b, rfl⟩ : ∃ a b, i = ix2 a b := ⟨_, _, ValueIdx.eq_ix2 i⟩
  refine (Ideal.matmul_transposedRhs_apply none (ar A : FVec Ideal (M m k) φ₁) (ar B : FVec Ideal (M n k) φ₂) _ a b).trans ?_
  rw [zero_apply, zero_add]
  rfl

theorem tile_tn (w : DotDims.WF (M k m) (M k n) (M m n) [0] [0] [1] [1] [] []) :
    matmul (⟨[0], [0], [1], [1], [], [], w⟩ : DotDims (M k m) (M k n) (M m n)) none (ar A : FVec Ideal (M k m) φ₁) (ar B : FVec Ideal (M k n) φ₂)
      (constant (M m n) .f32 0x00000000#32) = ar (mm k (T A) B) := by
  funext i
  obtain ⟨a, b, rfl⟩ : ∃ a b, i = ix2 a b := ⟨_, _, ValueIdx.eq_ix2 i⟩
  show Ideal.matmul (⟨[0], [0], [1], [1], [], [], w⟩ : DotDims (M k m) (M k n) (M m n)) _ _ _ _ = _
  rw [Ideal.matmul_apply₁_of (⟨[0], [0], [1], [1], [], [], w⟩ : DotDims (M k m) (M k n) (M m n)) (a := 0) (K := k) rfl rfl _ _ _ _
    (fun k => ix2 k a) (fun k => ix2 k b)
    (fun k => by funext d; apply Fin.ext; match d with | ⟨0, _⟩ => rfl | ⟨1, _⟩ => rfl)
    (fun k => by funext d; apply Fin.ext; match d with | ⟨0, _⟩ => rfl | ⟨1, _⟩ => rfl)]
  rw [zero_apply, zero_add]
  rfl

/-- The host's product is the tile's from zero. -/
theorem host_of_tile {sl sr so : Shape} (d : DotDims sl sr so) (x : FVec Ideal sl φ₁) (y : FVec Ideal sr φ₂) (z : FVec Ideal so .f32)
    (h : matmul d none x y (constant so .f32 0x00000000#32) = z) : Host.dotGeneral d none x y = z := by
  refine Eq.trans ?_ h
  funext i
  exact (Ideal.dotGeneral_apply d none .single x y i).trans (Ideal.matmul_constant_zero_apply d none x y i).symm

end Tile

section Layout

variable {r c : ℕ} {φ : FTy} (X : ℕ → ℕ → EReal)

theorem ar_add (Y : ℕ → ℕ → EReal) : addf (ar X : FVec Ideal (M r c) φ) (ar Y) = ar fun a b => X a b + Y a b := rfl

theorem add_ar (Y : ℕ → ℕ → EReal) : addf (ar Y : FVec Ideal (M r c) φ) (ar X) = ar fun a b => X a b + Y a b :=
  (ar_add Y X).trans (congrArg ar (funext fun a => funext fun b => add_comm _ _))

theorem ar_transpose (h : (M r c).Transposes [1, 0] (M c r)) : transpose (M c r) [1, 0] (ar X : FVec Ideal (M r c) φ) h = ar (T X) := by
  funext i
  refine (transpose_apply _ _ _ _ (ix2 (i 1) (i 0)) ?_).trans rfl
  intro n
  match n with
  | ⟨0, _⟩ => rfl
  | ⟨1, _⟩ => rfl

/-- One matrix is an array of one matrix. -/
theorem ar3_one (Y : ℕ → ℕ → ℕ → EReal) (h : (M3 1 r c).ShapeCasts (M r c)) : shapeCast (M r c) (ar3 Y : FVec Ideal (M3 1 r c) φ) h = ar (Y 0) := by
  funext i
  refine (shapeCast_apply _ _ i (ix3 0 (i 0) (i 1) : (M3 1 r c).Idx) ?_).trans rfl
  rw [rowMajor_val2 _ _ rfl, rowMajor_val3 _ _ _ rfl rfl]
  show 0 * (r * c) + (i 0).val * c + (i 1).val = (i 0).val * c + (i 1).val
  rw [zero_mul, zero_add]

theorem one_ar3 (h : (M r c).ShapeCasts (M3 1 r c)) : shapeCast (M3 1 r c) (ar X : FVec Ideal (M r c) φ) h = ar3 fun _ => X := by
  funext i
  refine (shapeCast_apply _ _ i (ix2 (i 1) (i 2) : (M r c).Idx) ?_).trans rfl
  rw [rowMajor_val2 _ _ rfl, rowMajor_val3 _ _ _ rfl rfl]
  have h0 : (i 0).val = 0 := by have : (i 0).val < 1 := (i 0).isLt; omega
  show (i 1).val * c + (i 2).val = (i 0).val * (r * c) + (i 1).val * c + (i 2).val
  rw [h0, zero_mul, zero_add]

/-- The columns in groups, a group of columns a matrix. -/
theorem ar_cols {g n : ℕ} (h : (M r c).ShapeCasts (M3 r g n)) (h' : (M3 r g n).Transposes [1, 0, 2] (M3 g r n)) (hc : c = g * n) :
    transpose (M3 g r n) [1, 0, 2] (shapeCast (M3 r g n) (ar X : FVec Ideal (M r c) φ) h) h' = ar3 (cols n X) := by
  subst hc
  funext i
  have l0 : (i 0).val < g := (i 0).isLt
  have l2 : (i 2).val < n := (i 2).isLt
  have lt : (i 0).val * n + (i 2).val < g * n := by
    have : ((i 0).val + 1) * n ≤ g * n := Nat.mul_le_mul_right n l0
    rw [Nat.add_mul, one_mul] at this
    omega
  refine (transpose_apply _ _ _ _ (ix3 (i 1) (i 0) (i 2) : (M3 r g n).Idx) ?_).trans ?_
  · intro d
    match d with
    | ⟨0, _⟩ => rfl
    | ⟨1, _⟩ => rfl
    | ⟨2, _⟩ => rfl
  refine (shapeCast_apply _ _ _ (ix2 (i 1) ⟨(i 0).val * n + (i 2).val, lt⟩ : (M r (g * n)).Idx) ?_).trans rfl
  rw [rowMajor_val2 _ _ rfl, rowMajor_val3 _ _ _ rfl rfl]
  show (i 1).val * (g * n) + ((i 0).val * n + (i 2).val) = (i 1).val * (g * n) + (i 0).val * n + (i 2).val
  ring

end Layout

section Host

variable {m k n : ℕ} {φ₁ φ₂ : FTy} (A B : ℕ → ℕ → EReal)

theorem host_nn (w : DotDims.WF (M m k) (M k n) (M m n) [1] [0] [0] [1] [] []) :
    Host.dotGeneral (⟨[1], [0], [0], [1], [], [], w⟩ : DotDims (M m k) (M k n) (M m n)) none (ar A : FVec Ideal (M m k) φ₁) (ar B : FVec Ideal (M k n) φ₂)
      = (ar (mm k A B) : FVec Ideal (M m n) .f32) := host_of_tile _ _ _ _ (tile_nn A B w)

theorem host_nt (w : DotDims.WF (M m k) (M n k) (M m n) [1] [1] [0] [0] [] []) :
    Host.dotGeneral (⟨[1], [1], [0], [0], [], [], w⟩ : DotDims (M m k) (M n k) (M m n)) none (ar A : FVec Ideal (M m k) φ₁) (ar B : FVec Ideal (M n k) φ₂)
      = (ar (mm k A (T B)) : FVec Ideal (M m n) .f32) := host_of_tile _ _ _ _ (tile_nt A B w)

/-- The reference multiplies the other way round and turns the product. -/
theorem host_tn (w : DotDims.WF (M k m) (M k n) (M m n) [0] [0] [1] [1] [] []) (h : (M m n).Transposes [1, 0] (M n m)) :
    transpose (M n m) [1, 0] (Host.dotGeneral (⟨[0], [0], [1], [1], [], [], w⟩ : DotDims (M k m) (M k n) (M m n)) none (ar A : FVec Ideal (M k m) φ₁) (ar B : FVec Ideal (M k n) φ₂) : FVec Ideal (M m n) .f32) h
      = (ar (mm k (T B) A) : FVec Ideal (M n m) .f32) := by
  rw [host_of_tile _ _ _ _ (tile_tn A B w), ar_transpose, mm_comm]

end Host

theorem exists_ar {r c : ℕ} {φ : FTy} (A : FVec Ideal (M r c) φ) : ∃ X, A = ar X := ⟨mat A, ar_mat A⟩

/-- An index lies in the block that its coordinates' quotients name. -/
theorem mem_block {sig : RefSig} {G : Pipeline.Grid} (w : Pipeline.Window sig G) (t : Fin G.N) (i : w.shape.Idx)
    (h : ∀ a, w.index t a = (i a).val / w.size a) (hs : ∀ a, 0 < w.size a) (hx : ∀ a, w.xsize (G.coords t) a = w.size a)
    (hk : w.kind = .blocked) : i ∈ (w.rect t).set := by
  rw [Pipeline.Window.mem_rect_iff w t i hk]
  intro a
  rw [h a, hx a]
  exact ⟨Nat.div_mul_le_self _ _, Nat.lt_div_mul_add (hs a)⟩

end Cert.Proof.Prod

end
-- ==== Proof.RealTile.lean ====
/- A tile's functions at the extended reals, where its operands hold real numbers: each is then the real function
   written below, whatever the number of rows. Matrices of reals are indexed by natural numbers. -/
module

public import proofs.«01_k».proof.Proof.Tile
public import proofs.«01_k».proof.Proof.Product
public import Idealize.ShloMosaic.Lib.ValueIdx
public import Idealize.ShloMosaic.Lib.MatmulPlain
public import Idealize.ShloMosaic.Lib.Pointwise
public import Idealize.ShloMosaic.Lib.Pipeline.Value
public import Idealize.ShloMosaic.Lib.WordCmp

@[expose] public section

set_option maxRecDepth 16384

noncomputable section

namespace Cert.Proof.Attn

open Cert.KernelIdeal Cert.KernelIdeal.Gen
open Idealize.ShloMosaic hiding ix1 ix2
open Idealize.ShloMosaic.ValueIdx
open Finset (range)
open Cert.Proof.Prod (ar ar_congr)

/-- A matrix of reals as an array of extended reals. -/
def re {r c : ℕ} {φ : FTy} (X : ℕ → ℕ → ℝ) : FVec Ideal (M r c) φ := fun i => ((X (i 0).val (i 1).val : ℝ) : EReal)

theorem re_ix2 {r c : ℕ} {φ : FTy} (X : ℕ → ℕ → ℝ) (a : Fin r) (b : Fin c) : (re X : FVec Ideal (M r c) φ) (ix2 a b) = (X a.val b.val : EReal) := rfl

theorem re_congr {r c : ℕ} {φ : FTy} {X Y : ℕ → ℕ → ℝ} (h : ∀ a < r, ∀ b < c, X a b = Y a b) : (re X : FVec Ideal (M r c) φ) = re Y :=
  funext fun i => congrArg _ (h _ (idx2_lt0 i) _ (idx2_lt1 i))

theorem coe_sum_range (n : ℕ) (f : ℕ → ℝ) : ((∑ k ∈ range n, f k : ℝ) : EReal) = ∑ k : Fin n, ((f k.val : ℝ) : EReal) := by
  rw [Finset.sum_range]
  exact map_sum (⟨⟨Real.toEReal, rfl⟩, EReal.coe_add⟩ : ℝ →+ EReal) _ _

/-- The scale, as the real number its word denotes. -/
def σ0 : ℝ := (Ideal.ofBits .f32 0x3DB504F3#32).toReal

theorem σ0_coe : Ideal.ofBits .f32 0x3DB504F3#32 = ((σ0 : ℝ) : EReal) := by
  unfold σ0
  rw [EReal.coe_toReal] <;> simp [Ideal.ofBits, Ideal.ieee] <;> norm_cast

section Products

variable {R N : ℕ} (W : Wf R N)

theorem zero_apply (s : Shape) (i : s.Idx) : constant (F := Ideal) s .f32 0x00000000#32 i = 0 := Ideal.ofBits_zero_f32

theorem mm_nt {φ₁ φ₂ : FTy} (A B : ℕ → ℕ → ℝ) (x : FVec Ideal (M R 128) φ₁) (y : FVec Ideal (M 256 128) φ₂) (hx : x = re A) (hy : y = re B) :
    matmul (ntD W) none x y (constant (M R 256) .f32 0x00000000#32) = re fun t j => ∑ d ∈ range 128, A t d * B j d := by
  funext i
  obtain ⟨a, b, rfl⟩ : ∃ a b, i = ix2 a b := ⟨_, _, ValueIdx.eq_ix2 i⟩
  refine (Ideal.matmul_transposedRhs_apply none x y _ a b).trans ?_
  rw [zero_apply, zero_add, re_ix2, coe_sum_range, hx, hy]
  exact Finset.sum_congr rfl fun k _ => (EReal.coe_mul _ _).symm

theorem mm_nn_ar {φ₁ φ₂ : FTy} (A B : ℕ → ℕ → EReal) (x : FVec Ideal (M R 256) φ₁) (y : FVec Ideal (M 256 128) φ₂) (hx : x = ar A) (hy : y = ar B) :
    matmul (nnD W) none x y (constant (M R 128) .f32 0x00000000#32) = ar fun t d => ∑ j ∈ range 256, A t j * B j d := by
  funext i
  obtain ⟨a, b, rfl⟩ : ∃ a b, i = ix2 a b := ⟨_, _, ValueIdx.eq_ix2 i⟩
  refine (Ideal.matmul_plain_apply none x y _ a b).trans ?_
  rw [zero_apply, zero_add, hx, hy]
  exact (Finset.sum_range fun j => A a.val j * B j b.val).symm

theorem mm_nn {φ₁ φ₂ : FTy} (A B : ℕ → ℕ → ℝ) (x : FVec Ideal (M R 256) φ₁) (y : FVec Ideal (M 256 128) φ₂) (hx : x = re A) (hy : y = re B) :
    matmul (nnD W) none x y (constant (M R 128) .f32 0x00000000#32) = re fun t d => ∑ j ∈ range 256, A t j * B j d := by
  refine (mm_nn_ar W (fun t j => (A t j : EReal)) (fun j d => (B j d : EReal)) x y hx hy).trans (funext fun i => ?_)
  refine Eq.trans ?_ (coe_sum_range 256 fun j => A (i 0).val j * B j (i 1).val).symm
  refine (Finset.sum_range _).trans (Finset.sum_congr rfl fun k _ => (EReal.coe_mul _ _).symm)

theorem mm_tri {φ₁ φ₂ : FTy} (A B : ℕ → ℕ → ℝ) (x : FVec Ideal (M N 256) φ₁) (y : FVec Ideal (M 256 256) φ₂) (hx : x = re A) (hy : y = re B) :
    matmul (triD W) none x y (constant (M N 256) .f32 0x00000000#32) = re fun t j => ∑ d ∈ range 256, A t d * B d j := by
  funext i
  obtain ⟨a, b, rfl⟩ : ∃ a b, i = ix2 a b := ⟨_, _, ValueIdx.eq_ix2 i⟩
  refine (Ideal.matmul_plain_apply none x y _ a b).trans ?_
  rw [zero_apply, zero_add, re_ix2, coe_sum_range, hx, hy]
  exact Finset.sum_congr rfl fun k _ => (EReal.coe_mul _ _).symm

theorem mm_tn {φ₁ φ₂ : FTy} (A B : ℕ → ℕ → ℝ) (x : FVec Ideal (M R 256) φ₁) (y : FVec Ideal (M R 128) φ₂) (hx : x = re A) (hy : y = re B) :
    matmul (tnD W) none x y (constant (M 256 128) .f32 0x00000000#32) = re fun j d => ∑ t ∈ range R, A t j * B t d := by
  funext i
  obtain ⟨a, b, rfl⟩ : ∃ a b, i = ix2 a b := ⟨_, _, ValueIdx.eq_ix2 i⟩
  show Ideal.matmul (tnD W) x y _ _ = _
  rw [Ideal.matmul_apply₁_of (tnD W) (a := 0) (K := R) rfl rfl x y _ _ (fun k => ix2 k a) (fun k => ix2 k b)
    (fun k => by funext d; apply Fin.ext; match d with | ⟨0, _⟩ => rfl | ⟨1, _⟩ => rfl)
    (fun k => by funext d; apply Fin.ext; match d with | ⟨0, _⟩ => rfl | ⟨1, _⟩ => rfl)]
  rw [zero_apply, zero_add, re_ix2, coe_sum_range, hx, hy]
  exact Finset.sum_congr rfl fun k _ => (EReal.coe_mul _ _).symm

end Products

section Pointwise

variable {r c : ℕ} {φ : FTy}

theorem re_add (X Y : ℕ → ℕ → ℝ) : (addf (re X : FVec Ideal (M r c) φ) (re Y)) = re fun a b => X a b + Y a b :=
  funext fun _ => (EReal.coe_add _ _).symm
theorem re_sub (X Y : ℕ → ℕ → ℝ) : (subf (re X : FVec Ideal (M r c) φ) (re Y)) = re fun a b => X a b - Y a b :=
  funext fun _ => (EReal.coe_sub _ _).symm
theorem re_mul (X Y : ℕ → ℕ → ℝ) : (mulf (re X : FVec Ideal (M r c) φ) (re Y)) = re fun a b => X a b * Y a b :=
  funext fun _ => (EReal.coe_mul _ _).symm
theorem re_exp (X : ℕ → ℕ → ℝ) : (exp (re X : FVec Ideal (M r c) φ)) = re fun a b => Real.exp (X a b) :=
  funext fun _ => rfl
theorem re_abs (X : ℕ → ℕ → ℝ) : (absf (re X : FVec Ideal (M r c) φ)) = re fun a b => |X a b| :=
  funext fun i => by
    show max ((X _ _ : ℝ) : EReal) (-((X _ _ : ℝ) : EReal)) = ((|X _ _| : ℝ) : EReal)
    rw [abs_eq_max_neg, ← EReal.coe_neg]
    exact (EReal.coe_strictMono.monotone.map_max).symm
theorem re_min (X Y : ℕ → ℕ → ℝ) : (minimumf (re X : FVec Ideal (M r c) φ) (re Y)) = re fun a b => min (X a b) (Y a b) :=
  funext fun _ => by
    show min ((X _ _ : ℝ) : EReal) ((Y _ _ : ℝ) : EReal) = _
    exact (EReal.coe_strictMono.monotone.map_min).symm
theorem re_log (X : ℕ → ℕ → ℝ) (h : ∀ a b, 0 < X a b) : (log (re X : FVec Ideal (M r c) φ)) = re fun a b => Real.log (X a b) :=
  funext fun i => by
    show Ideal.log ((X _ _ : ℝ) : EReal) = _
    rw [Ideal.log_coe, if_neg (not_le.mpr (h _ _))]
    rfl
theorem re_trunc (X : ℕ → ℕ → ℝ) {ψ : FTy} (h : ψ.bits < φ.bits) : (truncf ψ (re X : FVec Ideal (M r c) φ) h) = re X := rfl
theorem re_ext (X : ℕ → ℕ → ℝ) {ψ : FTy} (h : φ.bits < ψ.bits) : (extf ψ (re X : FVec Ideal (M r c) φ) h) = re X := rfl

theorem splat_zero : (splat (M r c) 0x00000000#32 : FVec Ideal _ .f32) = re fun _ _ => 0 :=
  funext fun _ => Ideal.ofBits_zero_f32
theorem splat_one : (splat (M r c) 0x3F800000#32 : FVec Ideal _ .f32) = re fun _ _ => 1 :=
  funext fun _ => Ideal.ofBits_one_f32
theorem splat_scale : (splat (M r c) 0x3DB504F3#32 : FVec Ideal _ .f32) = re fun _ _ => σ0 :=
  funext fun _ => σ0_coe

end Pointwise

section Shapes

variable {R N : ℕ} (W : Wf R N)

theorem bc_re (X : ℕ → ℕ → ℝ) : broadcastTo (M R 256) (re X : FVec Ideal (M R 1) .f32) W.bc = re fun t _ => X t 0 := by
  funext i
  refine broadcastTo_apply _ W.bc i (ix2 (i 0) 0) fun a => ?_
  match a with
  | ⟨0, _⟩ =>
    show (i 0).val = if R = 1 then 0 else (i 0).val
    have := idx2_lt0 i
    split_ifs <;> omega
  | ⟨1, _⟩ => rfl

theorem row_re (X Y : ℕ → ℕ → ℝ) : rowT W (re X : FVec Ideal (M R 256) .f32) (re Y) = re fun t _ => Y t 0 + ∑ j ∈ range 256, X t j := by
  funext i
  obtain ⟨a, b, rfl⟩ : ∃ a b, i = ix2 a b := ⟨_, _, ValueIdx.eq_ix2 i⟩
  obtain rfl : b = 0 := Subsingleton.elim _ _
  unfold rowT
  rw [addf_apply, shapeCast_apply _ W.sc (ix2 a 0) (ix1 a) (by
    simp only [Shape.rowMajor_val_one, Shape.rowMajor_val_two]
    show a.val = a.val * 1 + 0
    omega)]
  refine Eq.trans ?_ ((EReal.coe_add _ _).trans (congrArg _ (coe_sum_range _ _))).symm
  exact congrArg ((re Y : FVec Ideal (M R 1) .f32) (ix2 a 0) + ·) (Ideal.reduceAdd_r2_a1 W.red (re X : FVec Ideal (M R 256) .f32) (ix1 a))

theorem msk_apply (hR : R ≤ 2048) (i : (M R 256).Idx) : mskT W i = BitVec.ofBool (decide ((i 1).val < (i 0).val)) := by
  have h0 := idx2_lt0 i
  have h1 := idx2_lt1 i
  unfold mskT
  show IntOp.cmpi .slt (iota .tc (M R 256) 32 [1] W.io1 i) (iota .tc (M R 256) 32 [0] W.io0 i) = _
  rw [iota_apply, iota_apply]
  simp only [List.foldl_cons, List.foldl_nil, zero_mul, zero_add]
  exact WordCmp.cmpi_slt_ofNat (w := 32) (by norm_num; omega) (by norm_num; omega)

theorem select_re (hR : R ≤ 2048) (X Y : ℕ → ℕ → ℝ) :
    select (mskT W) (re X : FVec Ideal (M R 256) .f32) (re Y) = re fun t j => if j < t then X t j else Y t j := by
  funext i
  rw [select_apply, msk_apply W hR]
  by_cases h : (i 1).val < (i 0).val
  · rw [decide_eq_true h]
    show re X i = ((if _ then _ else _ : ℝ) : EReal)
    rw [if_pos h]; rfl
  · rw [decide_eq_false h]
    show re Y i = ((if _ then _ else _ : ℝ) : EReal)
    rw [if_neg h]; rfl

theorem upto_re : (k0_pay204 : FVec Ideal (M 256 256) .bf16) = re fun i j => if i ≤ j then 1 else 0 := by
  funext i
  have h0 := idx2_lt0 i
  have h1 := idx2_lt1 i
  unfold k0_pay204
  show ((((IntOp.cmpi .sle (iota .tc S256x256 32 [0] _ i) (iota .tc S256x256 32 [1] _ i)).setWidth 32).toInt : ℝ) : EReal) = ((if _ then _ else _ : ℝ) : EReal)
  rw [iota_apply, iota_apply]
  simp only [List.foldl_cons, List.foldl_nil, zero_mul, zero_add]
  rw [WordCmp.cmpi_sle_ofNat (w := 32) (by norm_num; omega) (by norm_num; omega)]
  by_cases h : (i 0).val ≤ (i 1).val
  · rw [decide_eq_true h, if_pos h, show ((BitVec.ofBool true).setWidth 32).toInt = 1 from by decide]; norm_num
  · rw [decide_eq_false h, if_neg h]; norm_num

theorem before_re : (k0_pay205 : FVec Ideal (M 256 256) .bf16) = re fun i j => if i < j then 1 else 0 := by
  funext i
  have h0 := idx2_lt0 i
  have h1 := idx2_lt1 i
  unfold k0_pay205
  show ((((IntOp.cmpi .slt (iota .tc S256x256 32 [0] _ i) (iota .tc S256x256 32 [1] _ i)).setWidth 32).toInt : ℝ) : EReal) = ((if _ then _ else _ : ℝ) : EReal)
  rw [iota_apply, iota_apply]
  simp only [List.foldl_cons, List.foldl_nil, zero_mul, zero_add]
  rw [WordCmp.cmpi_slt_ofNat (w := 32) (by norm_num; omega) (by norm_num; omega)]
  by_cases h : (i 0).val < (i 1).val
  · rw [decide_eq_true h, if_pos h, show ((BitVec.ofBool true).setWidth 32).toInt = 1 from by decide]; norm_num
  · rw [decide_eq_false h, if_neg h]; norm_num

theorem cat3_re (X : ℕ → ℕ → ℝ) :
    concatenate (M N 256) 0 [⟨M R 256, (re X : FVec Ideal (M R 256) .bf16)⟩, ⟨M R 256, (re fun _ _ => 0 : FVec Ideal (M R 256) .bf16)⟩,
      ⟨M R 256, (re fun _ _ => 0 : FVec Ideal (M R 256) .bf16)⟩] W.cat3 = (re fun t j => if t < R then X t j else 0 : FVec Ideal (M N 256) .bf16) := by
  funext i
  have hN : N = R + (R + (R + 0)) := W.cat3.2.2.symm
  have hi := idx2_lt0 i
  by_cases h : (i 0).val < R
  · refine (concatenate_apply_piece (t := M N 256) 0 [⟨M R 256, (re X : FVec Ideal (M R 256) .bf16)⟩, ⟨M R 256, (re fun _ _ => 0 : FVec Ideal (M R 256) .bf16)⟩,
      ⟨M R 256, (re fun _ _ => 0 : FVec Ideal (M R 256) .bf16)⟩] W.cat3 i 0 (by simp) (M R 256) (re X) rfl rfl 0 rfl (ix2 ⟨(i 0).val, h⟩ (i 1))
      (fun b hb => ?_) (Nat.zero_add _)).trans ?_
    · match b with
      | ⟨0, _⟩ => exact absurd rfl hb
      | ⟨1, _⟩ => rfl
    · show _ = ((if _ then _ else _ : ℝ) : EReal)
      rw [if_pos h]; rfl
  · have key : concatenate (M N 256) 0 [⟨M R 256, (re X : FVec Ideal (M R 256) .bf16)⟩, ⟨M R 256, (re fun _ _ => 0 : FVec Ideal (M R 256) .bf16)⟩,
        ⟨M R 256, (re fun _ _ => 0 : FVec Ideal (M R 256) .bf16)⟩] W.cat3 i = ((0 : ℝ) : EReal) := by
      by_cases h2 : (i 0).val < R + R
      · refine (concatenate_apply_piece (t := M N 256) 0 [⟨M R 256, (re X : FVec Ideal (M R 256) .bf16)⟩, ⟨M R 256, (re fun _ _ => 0 : FVec Ideal (M R 256) .bf16)⟩,
      ⟨M R 256, (re fun _ _ => 0 : FVec Ideal (M R 256) .bf16)⟩] W.cat3 i 1 (by simp) (M R 256) (re fun _ _ => 0) rfl rfl R rfl
          (ix2 ⟨(i 0).val - R, by omega⟩ (i 1)) (fun b hb => ?_) (by show R + ((i 0).val - R) = _; omega)).trans rfl
        match b with
        | ⟨0, _⟩ => exact absurd rfl hb
        | ⟨1, _⟩ => rfl
      · refine (concatenate_apply_piece (t := M N 256) 0 [⟨M R 256, (re X : FVec Ideal (M R 256) .bf16)⟩, ⟨M R 256, (re fun _ _ => 0 : FVec Ideal (M R 256) .bf16)⟩,
      ⟨M R 256, (re fun _ _ => 0 : FVec Ideal (M R 256) .bf16)⟩] W.cat3 i 2 (by simp) (M R 256) (re fun _ _ => 0) rfl rfl (R + R) (by simp)
          (ix2 ⟨(i 0).val - (R + R), by omega⟩ (i 1)) (fun b hb => ?_) (by show R + R + ((i 0).val - (R + R)) = _; omega)).trans rfl
        match b with
        | ⟨0, _⟩ => exact absurd rfl hb
        | ⟨1, _⟩ => rfl
    rw [key]
    show _ = ((if _ then _ else _ : ℝ) : EReal)
    rw [if_neg h]

theorem slice_ar {φ : FTy} {r r' c : ℕ} (o : ℕ) (X : ℕ → ℕ → EReal) (h : (M r c).Slices ![o, 0] (M r' c)) :
    extractStridedSlice (M r' c) ![o, 0] (ar X : FVec Ideal (M r c) φ) h = ar fun t j => X (o + t) j := by
  funext i
  have h0 : o + (i 0).val < r := lt_of_lt_of_le (Nat.add_lt_add_left (i 0).isLt _) (h.2 0)
  refine (extractStridedSlice_apply _ _ h i (ix2 ⟨o + (i 0).val, h0⟩ (i 1)) fun a => ?_).trans rfl
  match a with
  | ⟨0, _⟩ => rfl
  | ⟨1, _⟩ => exact (Nat.zero_add _).symm

theorem slice_re {φ : FTy} {r r' c : ℕ} (o : ℕ) (X : ℕ → ℕ → ℝ) (h : (M r c).Slices ![o, 0] (M r' c)) :
    extractStridedSlice (M r' c) ![o, 0] (re X : FVec Ideal (M r c) φ) h = re fun t j => X (o + t) j :=
  slice_ar o (fun t j => (X t j : EReal)) h

theorem tri_re (X U : ℕ → ℕ → ℝ) (u : FVec Ideal (M 256 256) .bf16) (hu : u = re U) :
    triT W (re X) u = re fun t j => ∑ i ∈ range 256, X t i * U i j := by
  unfold triT
  have e : subf (re X : FVec Ideal (M R 256) .f32) (re X) = re fun _ _ => 0 := by
    rw [re_sub]
    simp only [sub_self]
  have e0 : subf (re fun _ _ => 0 : FVec Ideal (M R 256) .f32) (re fun _ _ => 0) = re fun _ _ => 0 := by
    rw [re_sub]
    simp only [sub_self]
  simp only [re_trunc, re_ext]
  rw [e]
  simp only [re_trunc, re_ext]
  rw [e0]
  simp only [re_trunc]
  rw [cat3_re W, mm_tri W _ U _ u rfl hu, slice_re, slice_re, slice_re, re_add, re_add]
  refine re_congr fun a ha b _ => ?_
  rw [Finset.sum_congr rfl fun d _ => by rw [if_pos (by omega : 0 + a < R)], Nat.zero_add]
  simp only [show ¬ (R + a < R) by omega, show ¬ (R + R + a < R) by omega, if_false, zero_mul, Finset.sum_const_zero, add_zero]

end Shapes

/-! The tile's functions over the reals. `q`, `d` hold the tile's query rows and output-gradient rows, `k`, `v` its keys and
    values; row `t` sees key `j` when `j < t`. -/

section Fns

variable (q d k v tot rl rg : ℕ → ℕ → ℝ)

def zR (t j : ℕ) : ℝ := (∑ e ∈ range 128, q t e * k j e) * σ0
def lbR (z : ℝ) : ℝ := min z 0 - Real.log (1 + Real.exp (0 - |z|))
def l1R (t j : ℕ) : ℝ := if j < t then lbR (zR q k t j) - zR q k t j else 0
def attR (t j : ℕ) : ℝ :=
  if j < t then Real.exp (lbR (zR q k t j) + ((tot t 0 - rl t 0) - ∑ i ∈ range 256, l1R q k t i * if i ≤ j then 1 else 0)) else 0
def gR (t j : ℕ) : ℝ := attR q k tot rl t j * ∑ e ∈ range 128, d t e * v j e
def dzR (t j : ℕ) : ℝ :=
  if j < t then (gR q d k v tot rl t j - (gR q d k v tot rl t j +
    ((∑ i ∈ range 256, gR q d k v tot rl t i * if i < j then 1 else 0) + rg t 0)) * Real.exp (lbR (zR q k t j))) * σ0 else 0

variable {R N : ℕ} (W : Wf R N) (hR : R ≤ 2048)
include hR

theorem zT_re : zT W (re q : FVec Ideal _ _) (re k) = re (zR q k) := by
  unfold zT
  rw [mm_nt W q k _ _ rfl rfl, splat_scale, re_mul]
  rfl

theorem lbT_re : lbT W (re q : FVec Ideal _ _) (re k) = re fun t j => lbR (zR q k t j) := by
  unfold lbT
  rw [zT_re q k W hR, splat_zero, splat_one, re_min, re_abs, re_sub, re_exp, re_add, re_log _ fun _ _ => by positivity, re_sub]
  rfl

theorem l1T_re : l1T W (re q : FVec Ideal _ _) (re k) = re (l1R q k) := by
  unfold l1T
  rw [lbT_re q k W hR, zT_re q k W hR, re_sub, splat_zero, select_re W hR]
  rfl

theorem attT_re : attT W (re q : FVec Ideal _ _) (re tot) (re rl) (re k) = re (attR q k tot rl) := by
  unfold attT
  rw [lbT_re q k W hR, l1T_re q k W hR, tri_re W _ _ _ upto_re, re_sub, bc_re W, re_sub, re_add, re_exp, splat_zero, select_re W hR]
  rfl

theorem gT_re : gT W (re q : FVec Ideal _ _) (re d) (re tot) (re rl) (re k) (re v) = re (gR q d k v tot rl) := by
  unfold gT
  rw [attT_re q k tot rl W hR, re_trunc, mm_nt W d v _ _ rfl rfl, re_mul]
  rfl

theorem dzT_re : dzT W (re q : FVec Ideal _ _) (re d) (re tot) (re rl) (re rg) (re k) (re v) = re (dzR q d k v tot rl rg) := by
  unfold dzT
  simp only
  rw [gT_re q d k v tot rl W hR, lbT_re q k W hR, tri_re W _ _ _ before_re, bc_re W, re_add, re_add, re_exp, re_mul, re_sub, splat_scale, re_mul,
    splat_zero, select_re W hR]
  rfl

theorem dqT_re (a : ℕ → ℕ → ℝ) : dqT W (re q : FVec Ideal _ _) (re d) (re tot) (re rl) (re rg) (re k) (re v) (re a) =
    re fun t e => a t e + ∑ j ∈ range 256, dzR q d k v tot rl rg t j * k j e := by
  unfold dqT
  rw [dzT_re q d k v tot rl rg W hR, mm_nn W _ k _ _ rfl rfl, re_add]

theorem sc_self {r c : ℕ} {φ : FTy} (x : FVec Ideal (M r c) φ) (h : (M r c).ShapeCasts (M r c)) : shapeCast (M r c) x h = x :=
  funext fun i => shapeCast_apply x h i i rfl

theorem dkT_re (a : ℕ → ℕ → ℝ) : dkT W (re q : FVec Ideal _ _) (re d) (re tot) (re rl) (re rg) (re k) (re v) (re a) =
    re fun j e => a j e + ∑ t ∈ range R, dzR q d k v tot rl rg t j * q t e := by
  unfold dkT
  rw [dzT_re q d k v tot rl rg W hR, mm_tn W _ q _ _ rfl rfl]
  erw [sc_self hR]
  rw [re_add]

theorem dvT_re (a : ℕ → ℕ → ℝ) : dvT W (re q : FVec Ideal _ _) (re d) (re tot) (re rl) (re k) (re a) =
    re fun j e => a j e + ∑ t ∈ range R, attR q k tot rl t j * d t e := by
  unfold dvT
  rw [attT_re q k tot rl W hR, re_trunc, mm_tn W _ d _ _ rfl rfl]
  erw [sc_self hR]
  rw [re_add]

end Fns

end Cert.Proof.Attn
-- ==== Proof.RealHead.lean ====
/- The eight tiles of a head over the reals: what they hand on and leave behind, row by row of the whole head. -/
module

public import proofs.«01_k».proof.Proof.RealTile
public import Idealize.ShloMosaic.Lib.Pipeline.FrameBody

@[expose] public section

set_option maxRecDepth 16384

noncomputable section

namespace Cert.Proof.Attn

open Cert.KernelIdeal Cert.KernelIdeal.Gen
open Idealize.ShloMosaic hiding ix1 ix2
open Idealize.ShloMosaic.ValueIdx
open Finset (range)
open Cert.Proof.Prod (ar ar_congr)

section Head

variable (q k v d : ℕ → ℕ → ℝ)

/-- A row's whole log-sum, an attention weight, its product with the gradient reaching it, the sum of those before it, and the
    scaled logit's gradient. -/
def totG (t : ℕ) : ℝ := ∑ s ∈ range 2048, l1R q k t s
def attG (t s : ℕ) : ℝ := if s < t then Real.exp (lbR (zR q k t s) + (totG q k t - ∑ u ∈ range (s + 1), l1R q k t u)) else 0
def gG (t s : ℕ) : ℝ := attG q k t s * ∑ e ∈ range 128, d t e * v s e
def dzG (t s : ℕ) : ℝ :=
  if s < t then (gG q k v d t s - (gG q k v d t s + ∑ u ∈ range s, gG q k v d t u) * Real.exp (lbR (zR q k t s))) * σ0 else 0

/-- The three gradients. -/
def dqG (t e : ℕ) : ℝ := ∑ s ∈ range 2048, dzG q k v d t s * k s e
def dkG (s e : ℕ) : ℝ := ∑ t ∈ range 2048, dzG q k v d t s * q t e
def dvG (s e : ℕ) : ℝ := ∑ t ∈ range 2048, attG q k t s * d t e

theorem l1R_zero {t s : ℕ} (h : t ≤ s) : l1R q k t s = 0 := if_neg (not_lt.mpr h)
theorem attG_zero {t s : ℕ} (h : t ≤ s) : attG q k t s = 0 := if_neg (not_lt.mpr h)
theorem gG_zero {t s : ℕ} (h : t ≤ s) : gG q k v d t s = 0 := by rw [gG, attG_zero q k h, zero_mul]
theorem dzG_zero {t s : ℕ} (h : t ≤ s) : dzG q k v d t s = 0 := if_neg (not_lt.mpr h)

/-- A matrix's rows from `o` on. -/
def sh {α : Type} (o : ℕ) (x : ℕ → ℕ → α) : ℕ → ℕ → α := fun t e => x (o + t) e

variable (o : ℕ)

theorem l1R_sh (t j : ℕ) : l1R (sh o q) (sh o k) t j = l1R q k (o + t) (o + j) := by
  unfold l1R
  simp only [add_lt_add_iff_left]
  rfl

theorem sum_le {n j : ℕ} (hj : j < n) (f : ℕ → ℝ) : (∑ i ∈ range n, f i * if i ≤ j then 1 else 0) = ∑ i ∈ range (j + 1), f i := by
  simp only [mul_ite, mul_one, mul_zero]
  rw [← Finset.sum_filter]
  refine Finset.sum_congr ?_ fun _ _ => rfl
  ext a
  simp only [Finset.mem_filter, Finset.mem_range]
  omega

theorem sum_lt {n j : ℕ} (hj : j < n) (f : ℕ → ℝ) : (∑ i ∈ range n, f i * if i < j then 1 else 0) = ∑ i ∈ range j, f i := by
  simp only [mul_ite, mul_one, mul_zero]
  rw [← Finset.sum_filter]
  refine Finset.sum_congr ?_ fun _ _ => rfl
  ext a
  simp only [Finset.mem_filter, Finset.mem_range]
  omega

/-- What has gone before the tile that begins at `o`. -/
def rlG : ℕ → ℕ → ℝ := fun t _ => ∑ u ∈ range o, l1R q k t u
def rgG : ℕ → ℕ → ℝ := fun t _ => ∑ u ∈ range o, gG q k v d t u
def dqP : ℕ → ℕ → ℝ := fun t e => ∑ s ∈ range o, dzG q k v d t s * k s e
def totM : ℕ → ℕ → ℝ := fun t _ => totG q k t

theorem att_sh (t : ℕ) {j : ℕ} (hj : j < 256) :
    attR (sh o q) (sh o k) (sh o (totM q k)) (sh o (rlG q k o)) t j = attG q k (o + t) (o + j) := by
  unfold attR attG
  simp only [add_lt_add_iff_left, l1R_sh, sum_le hj]
  split_ifs with h
  · congr 2
    show totG q k (o + t) - (∑ u ∈ range o, l1R q k (o + t) u) - _ = _
    rw [show o + j + 1 = o + (j + 1) by omega, Finset.sum_range_add (fun u => l1R q k (o + t) u) o (j + 1)]
    ring
  · rfl

theorem g_sh (t : ℕ) {j : ℕ} (hj : j < 256) :
    gR (sh o q) (sh o d) (sh o k) (sh o v) (sh o (totM q k)) (sh o (rlG q k o)) t j = gG q k v d (o + t) (o + j) := by
  unfold gR gG
  rw [att_sh q k o t hj]
  rfl

theorem dz_sh (t : ℕ) {j : ℕ} (hj : j < 256) :
    dzR (sh o q) (sh o d) (sh o k) (sh o v) (sh o (totM q k)) (sh o (rlG q k o)) (sh o (rgG q k v d o)) t j = dzG q k v d (o + t) (o + j) := by
  unfold dzR dzG
  simp only [add_lt_add_iff_left, g_sh q k v d o t hj]
  rw [sum_lt hj, Finset.sum_congr rfl fun i hi => g_sh q k v d o t ((Finset.mem_range.mp hi).trans hj),
    Finset.sum_range_add (fun u => gG q k v d (o + t) u) o j]
  split_ifs with h
  · show (_ - (_ + (_ + ∑ u ∈ range o, gG q k v d (o + t) u)) * _) * _ = _
    rw [add_comm (∑ x ∈ range j, gG q k v d (o + t) (o + x))]
    rfl
  · rfl

/-- The state the tile that begins at `o` is entered with. -/
structure Inv (s : St Ideal) : Prop where
  dq : s.dq = re (dqP q k v d o)
  rl : s.rl = re (rlG q k o)
  rg : s.rg = re (rgG q k v d o)

/-- A head's operands hold `q`, `d` and the row totals. -/
structure HdIs (h : Hd Ideal) : Prop where
  hq : h.q = re q
  hd : h.do' = re d
  ht : h.tot = re (totM q k)

theorem put_pair {o R c : ℕ} {φ : FTy} (X Y : ℕ → ℕ → EReal) (h0 : (M 2048 c).Slices ![0, 0] (M o c))
    (hc : Shape.Concatenates [M o c, M R c] (M 2048 c) 0) (h : ∀ t e, t < o → X t e = Y t e) :
    concatenate (M 2048 c) 0 [⟨M o c, extractStridedSlice (M o c) ![0, 0] (ar X : FVec Ideal (M 2048 c) φ) h0⟩,
      ⟨M R c, (ar (sh o Y) : FVec Ideal (M R c) φ)⟩] hc = (ar Y : FVec Ideal (M 2048 c) φ) := by
  rw [slice_ar]
  funext i
  have hi := idx2_lt0 i
  have hN : 2048 = o + (R + 0) := hc.2.2.symm
  by_cases ho : (i 0).val < o
  · refine (concatenate_pair_apply_left (t := M 2048 c) 0 _ _ hc i rfl (ix2 ⟨(i 0).val, ho⟩ (i 1)) fun b => ?_).trans ?_
    · match b with
      | ⟨0, _⟩ => rfl
      | ⟨1, _⟩ => rfl
    · show X (0 + (i 0).val) (i 1).val = Y (i 0).val (i 1).val
      rw [Nat.zero_add, h _ _ ho]
  · refine (concatenate_apply_piece (t := M 2048 c) 0 [⟨M o c, (ar fun t e => X (0 + t) e : FVec Ideal (M o c) φ)⟩, ⟨M R c, (ar (sh o Y) : FVec Ideal (M R c) φ)⟩]
      hc i 1 (by simp) (M R c) (ar (sh o Y)) rfl rfl o rfl
      (ix2 ⟨(i 0).val - o, by omega⟩ (i 1)) (fun b hb => ?_) (by show o + ((i 0).val - o) = _; omega)).trans ?_
    · match b with
      | ⟨0, _⟩ => exact absurd rfl hb
      | ⟨1, _⟩ => rfl
    · show Y (o + ((i 0).val - o)) (i 1).val = Y (i 0).val (i 1).val
      rw [show o + ((i 0).val - o) = (i 0).val by omega]

section Step

variable {R N : ℕ} (W : WfAt o R N)

theorem cut_re {φ : FTy} (X : ℕ → ℕ → ℝ) : cut W (re X : FVec Ideal (M 2048 128) φ) = re (sh o X) := slice_re o X _
theorem cut1_re (X : ℕ → ℕ → ℝ) : cut1 W (re X : FVec Ideal (M 2048 1) .f32) = re (sh o X) := slice_re o X _

theorem put_ar {A : FVec Ideal (M R 128) .f32} {X Y : ℕ → ℕ → EReal} (hA : A = ar (sh o Y)) (h : ∀ t e, t < o → X t e = Y t e) :
    put W (ar X) A = ar Y := by
  rw [hA]
  exact put_pair X Y W.h128 W.p128 h

theorem put_re {A : FVec Ideal (M R 128) .f32} {X Y : ℕ → ℕ → ℝ} (hA : A = re (sh o Y)) (h : ∀ t e, t < o → X t e = Y t e) :
    put W (re X) A = re Y :=
  put_ar o W (X := fun t e => (X t e : EReal)) (Y := fun t e => (Y t e : EReal)) hA fun t e ht => congrArg _ (h t e ht)

theorem put1_re {A : FVec Ideal (M R 1) .f32} {X Y : ℕ → ℕ → ℝ} (hA : A = re (sh o Y)) (h : ∀ t e, t < o → X t e = Y t e) :
    put1 W (re X) A = re Y := by
  rw [hA]
  exact put_pair (fun t e => (X t e : EReal)) (fun t e => (Y t e : EReal)) W.h1 W.p1 fun t e ht => congrArg _ (h t e ht)

variable (hoR : o + R = 2048) {h : Hd Ideal} {s : St Ideal} (hh : HdIs q k d h) (hs : Inv q k v d o s)
include hoR hh hs

theorem step_inv : Inv q k v d (o + 256) (stepT W h s (re (sh o k)) (re (sh o v))) := by
  have hR : R ≤ 2048 := by omega
  unfold stepT
  rw [hh.hq, hh.hd, hh.ht, hs.dq, hs.rl, hs.rg]
  simp only [cut_re o W, cut1_re o W]
  refine ⟨?_, ?_, ?_⟩
  · refine put_re o W ((dqT_re _ _ _ _ _ _ _ W.toWf hR _).trans (re_congr fun t _ e _ => ?_)) fun t e ht => ?_
    · show dqP q k v d o (o + t) e + _ = dqP q k v d (o + 256) (o + t) e
      unfold dqP
      rw [Finset.sum_range_add]
      congr 1
      exact Finset.sum_congr rfl fun j hj => by rw [dz_sh q k v d o t (Finset.mem_range.mp hj)]; rfl
    · unfold dqP
      rw [Finset.sum_range_add, Finset.sum_eq_zero (s := range 256), add_zero]
      intro x _
      rw [dzG_zero q k v d (by omega), zero_mul]
  · rw [l1T_re _ _ W.toWf hR]
    refine put1_re o W ((row_re W.toWf _ _).trans (re_congr fun t _ e _ => ?_)) fun t e ht => ?_
    · show rlG q k o (o + t) 0 + _ = rlG q k (o + 256) (o + t) e
      unfold rlG
      rw [Finset.sum_range_add]
      congr 1
      exact Finset.sum_congr rfl fun j hj => l1R_sh q k o t j
    · unfold rlG
      rw [Finset.sum_range_add, Finset.sum_eq_zero (s := range 256), add_zero]
      intro x _
      exact l1R_zero q k (by omega)
  · rw [gT_re _ _ _ _ _ _ W.toWf hR]
    refine put1_re o W ((row_re W.toWf _ _).trans (re_congr fun t _ e _ => ?_)) fun t e ht => ?_
    · show rgG q k v d o (o + t) 0 + _ = rgG q k v d (o + 256) (o + t) e
      unfold rgG
      rw [Finset.sum_range_add]
      congr 1
      exact Finset.sum_congr rfl fun j hj => g_sh q k v d o t (Finset.mem_range.mp hj)
    · unfold rgG
      rw [Finset.sum_range_add, Finset.sum_eq_zero (s := range 256), add_zero]
      intro x _
      exact gG_zero q k v d (by omega)

theorem dkAt_re (z : ℕ → ℕ → ℝ) (hz : ∀ a b, z a b = 0) : dkAt W h s (re (sh o k)) (re (sh o v)) (re z) = re (sh o (dkG q k v d)) := by
  unfold dkAt
  rw [hh.hq, hh.hd, hh.ht, hs.rl, hs.rg]
  simp only [cut_re o W, cut1_re o W]
  rw [dkT_re _ _ _ _ _ _ _ W.toWf (by omega)]
  refine re_congr fun j hj e _ => ?_
  show _ = ∑ t ∈ range 2048, dzG q k v d t (o + j) * q t e
  rw [← hoR, Finset.sum_range_add, hz, zero_add, Finset.sum_eq_zero (s := range o), zero_add]
  · exact Finset.sum_congr rfl fun t _ => by rw [dz_sh q k v d o t hj]; rfl
  · intro t ht
    have := Finset.mem_range.mp ht
    rw [dzG_zero q k v d (by omega), zero_mul]

theorem dvAt_re (z : ℕ → ℕ → ℝ) (hz : ∀ a b, z a b = 0) : dvAt W h s (re (sh o k)) (re z) = re (sh o (dvG q k d)) := by
  unfold dvAt
  rw [hh.hq, hh.hd, hh.ht, hs.rl]
  simp only [cut_re o W, cut1_re o W]
  rw [dvT_re _ _ _ _ _ W.toWf (by omega)]
  refine re_congr fun j hj e _ => ?_
  show _ = ∑ t ∈ range 2048, attG q k t (o + j) * d t e
  rw [← hoR, Finset.sum_range_add, hz, zero_add, Finset.sum_eq_zero (s := range o), zero_add]
  · exact Finset.sum_congr rfl fun t _ => by rw [att_sh q k o t hj]; rfl
  · intro t ht
    have := Finset.mem_range.mp ht
    rw [attG_zero q k (by omega), zero_mul]

end Step

/-! The first tile takes every row. -/

theorem sh_zero {α : Type} (x : ℕ → ℕ → α) : sh 0 x = x := funext₂ fun t e => by rw [sh, Nat.zero_add]

theorem inv0 : Inv q k v d 0 (s0 : St Ideal) :=
  ⟨(splat_zero (r := 2048) (c := 128)), (splat_zero (r := 2048) (c := 1)), (splat_zero (r := 2048) (c := 1))⟩

section First

variable {h : Hd Ideal} (hh : HdIs q k d h)
include hh

theorem step0_inv : Inv q k v d 256 (stepT0 wf0 h s0 (re k) (re v)) := by
  have hs := inv0 q k v d
  have A := fun t j hj => att_sh q k 0 t (j := j) hj
  have G := fun t j hj => g_sh q k v d 0 t (j := j) hj
  have D := fun t j hj => dz_sh q k v d 0 t (j := j) hj
  simp only [sh_zero, Nat.zero_add] at A G D
  unfold stepT0
  rw [hh.hq, hh.hd, hh.ht, hs.dq, hs.rl, hs.rg]
  refine ⟨?_, ?_, ?_⟩
  · refine (dqT_re _ _ _ _ _ _ _ wf0 le_rfl _).trans (re_congr fun t _ e _ => ?_)
    show 0 + _ = _
    rw [zero_add]
    exact Finset.sum_congr rfl fun j hj => by rw [D t j (Finset.mem_range.mp hj)]
  · refine (congrArg (rowT wf0 · _) (l1T_re _ _ wf0 le_rfl)).trans ((row_re wf0 _ _).trans (re_congr fun t _ e _ => ?_))
    exact zero_add _
  · refine (congrArg (rowT wf0 · _) (gT_re _ _ _ _ _ _ wf0 le_rfl)).trans ((row_re wf0 _ _).trans (re_congr fun t _ e _ => ?_))
    show 0 + _ = _
    rw [zero_add]
    exact Finset.sum_congr rfl fun j hj => G t j (Finset.mem_range.mp hj)

theorem dk0_re (z : ℕ → ℕ → ℝ) (hz : ∀ a b, z a b = 0) :
    dkT wf0 h.q h.do' h.tot s0.rl s0.rg (re k) (re v) (re z) = re (dkG q k v d) := by
  have hs := inv0 q k v d
  have D := fun t j hj => dz_sh q k v d 0 t (j := j) hj
  simp only [sh_zero, Nat.zero_add] at D
  rw [hh.hq, hh.hd, hh.ht, hs.rl, hs.rg]
  refine (dkT_re _ _ _ _ _ _ _ wf0 le_rfl _).trans (re_congr fun j hj e _ => ?_)
  rw [hz, zero_add]
  exact Finset.sum_congr rfl fun t _ => by rw [D t j hj]

theorem dv0_re (z : ℕ → ℕ → ℝ) (hz : ∀ a b, z a b = 0) :
    dvT wf0 h.q h.do' h.tot s0.rl (re k) (re z) = re (dvG q k d) := by
  have hs := inv0 q k (fun _ _ => 0) d
  have D := fun t j hj => att_sh q k 0 t (j := j) hj
  simp only [sh_zero, Nat.zero_add] at D
  rw [hh.hq, hh.hd, hh.ht, hs.rl]
  refine (dvT_re _ _ _ _ _ wf0 le_rfl _).trans (re_congr fun j hj e _ => ?_)
  rw [hz, zero_add]
  exact Finset.sum_congr rfl fun t _ => by rw [D t j hj]

/-! ## The chain -/

omit hh in
/-- A tile's rows of the keys and of the values. -/
theorem blk_reK (n : Fin 8) : blk (F := Ideal) (e := .bf16) (re k : FVec Ideal (M 2048 128) .bf16) n = (re (sh (256 * n.val) k) : FVec Ideal (M 256 128) .bf16) := by
  funext j
  show ((k (256 * n.val + 1 * (j 0).val) (0 + 1 * (j 1).val) : ℝ) : EReal) = ((k (256 * n.val + (j 0).val) (j 1).val : ℝ) : EReal)
  rw [one_mul, one_mul, Nat.zero_add]

omit hh in
theorem blk_reV (n : Fin 8) : blk (F := Ideal) (e := .f32) (re v : FVec Ideal (M 2048 128) .f32) n = (re (sh (256 * n.val) v) : FVec Ideal (M 256 128) .f32) := by
  funext j
  show ((v (256 * n.val + 1 * (j 0).val) (0 + 1 * (j 1).val) : ℝ) : EReal) = ((v (256 * n.val + (j 0).val) (j 1).val : ℝ) : EReal)
  rw [one_mul, one_mul, Nat.zero_add]

omit hh in
theorem zb_re (n : Fin 8) : (zb n : S256x128.Idx → Elt Ideal .f32) = (re fun _ _ => 0 : FVec Ideal (M 256 128) .f32) := by
  show blk (F := Ideal) (e := .f32) (splat (F := Ideal) (M 2048 128) 0x00000000#32) n = _
  rw [splat_zero]
  exact (blk_reV (fun _ _ => 0) n).trans rfl

/-- The keys and the values of a head, whole. -/
abbrev K' : FVec Ideal (M 2048 128) .bf16 := re k
abbrev V' : FVec Ideal (M 2048 128) .f32 := re v

theorem inv1 : Inv q k v d 256 (s1 h (K' k) (V' v)) := by
  unfold s1
  rw [blk_reK, blk_reV]
  simp only [Fin.val_zero, mul_zero, sh_zero]
  exact step0_inv q k v d hh

theorem inv2 : Inv q k v d 512 (s2 h (K' k) (V' v)) := by
  unfold s2
  rw [blk_reK, blk_reV]
  exact step_inv q k v d 256 wf1 rfl hh (inv1 q k v d hh)
theorem inv3 : Inv q k v d 768 (s3 h (K' k) (V' v)) := by
  unfold s3
  rw [blk_reK, blk_reV]
  exact step_inv q k v d 512 wf2 rfl hh (inv2 q k v d hh)
theorem inv4 : Inv q k v d 1024 (s4 h (K' k) (V' v)) := by
  unfold s4
  rw [blk_reK, blk_reV]
  exact step_inv q k v d 768 wf3 rfl hh (inv3 q k v d hh)
theorem inv5 : Inv q k v d 1280 (s5 h (K' k) (V' v)) := by
  unfold s5
  rw [blk_reK, blk_reV]
  exact step_inv q k v d 1024 wf4 rfl hh (inv4 q k v d hh)
theorem inv6 : Inv q k v d 1536 (s6 h (K' k) (V' v)) := by
  unfold s6
  rw [blk_reK, blk_reV]
  exact step_inv q k v d 1280 wf5 rfl hh (inv5 q k v d hh)
theorem inv7 : Inv q k v d 1792 (s7 h (K' k) (V' v)) := by
  unfold s7
  rw [blk_reK, blk_reV]
  exact step_inv q k v d 1536 wf6 rfl hh (inv6 q k v d hh)
theorem inv8 : Inv q k v d 2048 (s8 h (K' k) (V' v)) := by
  unfold s8
  rw [blk_reK, blk_reV]
  exact step_inv q k v d 1792 wf7 rfl hh (inv7 q k v d hh)

theorem dkB_re : ∀ n : Fin 8, dkB h (K' k) (V' v) n = (re (sh (256 * n.val) (dkG q k v d)) : FVec Ideal (M 256 128) .f32)
  | 0 => by
    rw [dkB, blk_reK, blk_reV, zb_re]
    simp only [Fin.val_zero, mul_zero, sh_zero]
    exact dk0_re q k v d hh _ fun _ _ => rfl
  | 1 => by
    rw [dkB, blk_reK, blk_reV, zb_re]
    exact dkAt_re q k v d 256 wf1 rfl hh (inv1 q k v d hh) _ fun _ _ => rfl
  | 2 => by
    rw [dkB, blk_reK, blk_reV, zb_re]
    exact dkAt_re q k v d 512 wf2 rfl hh (inv2 q k v d hh) _ fun _ _ => rfl
  | 3 => by
    rw [dkB, blk_reK, blk_reV, zb_re]
    exact dkAt_re q k v d 768 wf3 rfl hh (inv3 q k v d hh) _ fun _ _ => rfl
  | 4 => by
    rw [dkB, blk_reK, blk_reV, zb_re]
    exact dkAt_re q k v d 1024 wf4 rfl hh (inv4 q k v d hh) _ fun _ _ => rfl
  | 5 => by
    rw [dkB, blk_reK, blk_reV, zb_re]
    exact dkAt_re q k v d 1280 wf5 rfl hh (inv5 q k v d hh) _ fun _ _ => rfl
  | 6 => by
    rw [dkB, blk_reK, blk_reV, zb_re]
    exact dkAt_re q k v d 1536 wf6 rfl hh (inv6 q k v d hh) _ fun _ _ => rfl
  | 7 => by
    rw [dkB, blk_reK, blk_reV, zb_re]
    exact dkAt_re q k v d 1792 wf7 rfl hh (inv7 q k v d hh) _ fun _ _ => rfl

theorem dvB_re : ∀ n : Fin 8, dvB h (K' k) (V' v) n = (re (sh (256 * n.val) (dvG q k d)) : FVec Ideal (M 256 128) .f32)
  | 0 => by
    rw [dvB, blk_reK, zb_re]
    simp only [Fin.val_zero, mul_zero, sh_zero]
    exact dv0_re q k d hh _ fun _ _ => rfl
  | 1 => by
    rw [dvB, blk_reK, zb_re]
    exact dvAt_re q k v d 256 wf1 rfl hh (inv1 q k v d hh) _ fun _ _ => rfl
  | 2 => by
    rw [dvB, blk_reK, zb_re]
    exact dvAt_re q k v d 512 wf2 rfl hh (inv2 q k v d hh) _ fun _ _ => rfl
  | 3 => by
    rw [dvB, blk_reK, zb_re]
    exact dvAt_re q k v d 768 wf3 rfl hh (inv3 q k v d hh) _ fun _ _ => rfl
  | 4 => by
    rw [dvB, blk_reK, zb_re]
    exact dvAt_re q k v d 1024 wf4 rfl hh (inv4 q k v d hh) _ fun _ _ => rfl
  | 5 => by
    rw [dvB, blk_reK, zb_re]
    exact dvAt_re q k v d 1280 wf5 rfl hh (inv5 q k v d hh) _ fun _ _ => rfl
  | 6 => by
    rw [dvB, blk_reK, zb_re]
    exact dvAt_re q k v d 1536 wf6 rfl hh (inv6 q k v d hh) _ fun _ _ => rfl
  | 7 => by
    rw [dvB, blk_reK, zb_re]
    exact dvAt_re q k v d 1792 wf7 rfl hh (inv7 q k v d hh) _ fun _ _ => rfl

end First

end Head

/-- What the stores of a gradient output leave, when each block is the block of one matrix. -/
theorem canon_stores (z : S2048x128.Idx → Elt Ideal .f32) (B : Fin 8 → S256x128.Idx → Elt Ideal .f32) (Y : ℕ → ℕ → ℝ)
    (hB : ∀ n, B n = (re (sh (256 * n.val) Y) : FVec Ideal (M 256 128) .f32)) (y : S2048x128.Idx) :
    ∀ n, n ≤ 8 → (y 0).val < 256 * n → View.canon (stores z B n) y = ((Y (y 0).val (y 1).val : ℝ) : EReal)
  | 0, _, h => absurd h (by omega)
  | n + 1, hn, h => by
    have hn8 : n < 8 := by omega
    rw [stores, dif_pos hn8]
    by_cases hy : (y 0).val < 256 * n
    · rw [View.canon_cons_of_not_mem]
      · exact canon_stores z B Y hB y n (by omega) hy
      · intro hm
        have h1 := (Rect.mem_set_unit (inb := rowsIn ⟨n, hn8⟩).mp hm) 0
        change 256 * n ≤ (y 0).val ∧ _ at h1
        omega
    · have h1 := idx2_lt1 y
      have e : y = (rt ⟨n, hn8⟩).emb (ix2 ⟨(y 0).val - 256 * n, by omega⟩ ⟨(y 1).val, h1⟩) := by
        funext a
        apply Fin.ext
        match a with
        | ⟨0, _⟩ => show (y 0).val = 256 * n + 1 * ((y 0).val - 256 * n); omega
        | ⟨1, _⟩ => show (y 1).val = 0 + 1 * (y 1).val; omega
      have := View.canon_cons_emb (Val := Elt Ideal) (rt ⟨n, hn8⟩) (B ⟨n, hn8⟩) (stores z B n) (ix2 ⟨(y 0).val - 256 * n, by omega⟩ ⟨(y 1).val, h1⟩)
      rw [← e] at this
      rw [this, hB]
      show ((Y (256 * n + ((y 0).val - 256 * n)) (y 1).val : ℝ) : EReal) = _
      rw [show 256 * n + ((y 0).val - 256 * n) = (y 0).val by omega]

end Cert.Proof.Attn
-- ==== Proof.RealArr.lean ====
/- The host's arrays over the reals: a head axis before the rows, and what each whole-array operation leaves. -/
module

public import proofs.«01_k».proof.Proof.RealHead
public import Idealize.ShloMosaic.Lib.Pointwise.Reshape

@[expose] public section

set_option maxRecDepth 16384

noncomputable section

namespace Cert.Proof.Attn

open Idealize.ShloMosaic hiding ix1 ix2 ix3
open Idealize.ShloMosaic.ValueIdx
open Finset (range)
open Cert.Proof.Prod (ar ar3)

/-- An array of `a` matrices, and the one holding the reals `X`. -/
abbrev M3 (a b c : ℕ) : Shape := ⟨3, ![a, b, c]⟩

def re3 {a b c : ℕ} {φ : FTy} (X : ℕ → ℕ → ℕ → ℝ) : FVec Ideal (M3 a b c) φ :=
  fun i => ((X (i 0).val (i 1).val (i 2).val : ℝ) : EReal)

theorem re3_congr {a b c : ℕ} {φ : FTy} {X Y : ℕ → ℕ → ℕ → ℝ} (h : ∀ h < a, ∀ t < b, ∀ s < c, X h t s = Y h t s) :
    (re3 X : FVec Ideal (M3 a b c) φ) = re3 Y :=
  funext fun i => congrArg _ (h _ (i 0).isLt _ (i 1).isLt _ (i 2).isLt)

variable {a b c : ℕ} {φ : FTy}

theorem re3_add (X Y : ℕ → ℕ → ℕ → ℝ) : addf (re3 X : FVec Ideal (M3 a b c) φ) (re3 Y) = re3 fun h t s => X h t s + Y h t s :=
  funext fun _ => (EReal.coe_add _ _).symm
theorem re3_sub (X Y : ℕ → ℕ → ℕ → ℝ) : subf (re3 X : FVec Ideal (M3 a b c) φ) (re3 Y) = re3 fun h t s => X h t s - Y h t s :=
  funext fun _ => (EReal.coe_sub _ _).symm
theorem re3_mul (X Y : ℕ → ℕ → ℕ → ℝ) : mulf (re3 X : FVec Ideal (M3 a b c) φ) (re3 Y) = re3 fun h t s => X h t s * Y h t s :=
  funext fun _ => (EReal.coe_mul _ _).symm
theorem re3_max (X Y : ℕ → ℕ → ℕ → ℝ) : maximumf (re3 X : FVec Ideal (M3 a b c) φ) (re3 Y) = re3 fun h t s => max (X h t s) (Y h t s) :=
  funext fun _ => (EReal.coe_strictMono.monotone.map_max).symm
theorem re3_neg (X : ℕ → ℕ → ℕ → ℝ) : Host.negf (re3 X : FVec Ideal (M3 a b c) φ) = re3 fun h t s => -X h t s :=
  funext fun _ => (EReal.coe_neg _).symm
theorem re3_exp (X : ℕ → ℕ → ℕ → ℝ) : Host.exp (re3 X : FVec Ideal (M3 a b c) φ) = re3 fun h t s => Real.exp (X h t s) :=
  funext fun _ => Ideal.exp_coe _
theorem re3_abs (X : ℕ → ℕ → ℕ → ℝ) : Host.absf (re3 X : FVec Ideal (M3 a b c) φ) = re3 fun h t s => |X h t s| := by
  funext i
  show max (((X _ _ _ : ℝ)) : EReal) (-((X _ _ _ : ℝ) : EReal)) = _
  rw [← EReal.coe_neg, ← EReal.coe_strictMono.monotone.map_max]
  rfl
theorem re3_log1p (X : ℕ → ℕ → ℕ → ℝ) (h0 : ∀ h t s, 0 < 1 + X h t s) :
    Host.log1p (re3 X : FVec Ideal (M3 a b c) φ) = re3 fun h t s => Real.log (1 + X h t s) := by
  funext i
  show Ideal.log (1 + ((X _ _ _ : ℝ) : EReal)) = _
  rw [← EReal.coe_one, ← EReal.coe_add, Ideal.log_coe, if_neg (not_le.mpr (h0 _ _ _))]
  rfl

/-- A comparison with itself for being unordered is false of every real; so is one with the infinity. -/
theorem re3_une (X : ℕ → ℕ → ℕ → ℝ) : cmpf .une (re3 X : FVec Ideal (M3 a b c) φ) (re3 X) = fun _ => 0#1 :=
  funext fun _ => by
    show Ideal.cmp .une _ _ = _
    simp [Ideal.cmp]

/-- A scalar filling an array. -/
theorem bc0 {α : Type} {s t : Shape} (dims : Fin s.rank → Fin t.rank) (h : s.BroadcastsInDim t dims) (x : α) :
    broadcastInDim t dims h (fun _ => x) = fun _ => x := rfl

theorem re3_zero : (fun _ => FloatOps.ofBits (F := Ideal) .f32 0x00000000#32 : FVec Ideal (M3 a b c) .f32) = re3 fun _ _ _ => 0 :=
  funext fun _ => Ideal.ofBits_zero_f32

/-- The sum of a matrix's entries along a row, its columns taken in a product. -/
theorem re3_dot_nt {A B C K : ℕ} {φ₁ φ₂ : FTy} (w : DotDims.WF (M3 A B K) (M3 A C K) (M3 A B C) [2] [2] [1] [1] [0] [0]) (X Y : ℕ → ℕ → ℕ → ℝ) :
    Host.dotGeneral (⟨[2], [2], [1], [1], [0], [0], w⟩ : DotDims (M3 A B K) (M3 A C K) (M3 A B C)) none
      (re3 X : FVec Ideal (M3 A B K) φ₁) (re3 Y : FVec Ideal (M3 A C K) φ₂) = re3 fun h t s => ∑ e ∈ range K, X h t e * Y h s e := by
  funext i
  let D : DotDims (M3 A B K) (M3 A C K) (M3 A B C) := ⟨[2], [2], [1], [1], [0], [0], w⟩
  refine (Ideal.dotGeneral_apply D none .single _ _ i).trans ?_
  rw [← Equiv.sum_comp (contrEquiv1 D K rfl rfl).symm]
  refine (Finset.sum_congr rfl fun k _ => ?_).trans (coe_sum_range K fun e => X (i 0).val (i 1).val e * Y (i 0).val (i 2).val e).symm
  have hk := contrEquiv1_symm_val D K rfl rfl k
  rw [EReal.coe_mul]
  refine congrArg₂ (· * ·) ?_ ?_
  · show ((X (D.lhsIdx i _ 0).val (D.lhsIdx i _ 1).val (D.lhsIdx i _ 2).val : ℝ) : EReal) = _
    rw [show (D.lhsIdx i ((contrEquiv1 D K rfl rfl).symm k) 2).val = k.val from hk]
    rfl
  · show ((Y (D.rhsIdx i _ 0).val (D.rhsIdx i _ 1).val (D.rhsIdx i _ 2).val : ℝ) : EReal) = _
    rw [show (D.rhsIdx i ((contrEquiv1 D K rfl rfl).symm k) 2).val = k.val from hk]
    rfl

theorem ar3_dot_nn {A B C K : ℕ} {φ₁ φ₂ : FTy} (w : DotDims.WF (M3 A B K) (M3 A K C) (M3 A B C) [2] [1] [1] [2] [0] [0]) (X Y : ℕ → ℕ → ℕ → EReal) :
    Host.dotGeneral (⟨[2], [1], [1], [2], [0], [0], w⟩ : DotDims (M3 A B K) (M3 A K C) (M3 A B C)) none
      (ar3 X : FVec Ideal (M3 A B K) φ₁) (ar3 Y : FVec Ideal (M3 A K C) φ₂) = ar3 fun h t e => ∑ s ∈ range K, X h t s * Y h s e := by
  funext i
  let D : DotDims (M3 A B K) (M3 A K C) (M3 A B C) := ⟨[2], [1], [1], [2], [0], [0], w⟩
  refine (Ideal.dotGeneral_apply D none .single _ _ i).trans ?_
  rw [← Equiv.sum_comp (contrEquiv1 D K rfl rfl).symm]
  refine (Finset.sum_congr rfl fun k _ => ?_).trans (Finset.sum_range fun s => X (i 0).val (i 1).val s * Y (i 0).val s (i 2).val).symm
  have hk := contrEquiv1_symm_val D K rfl rfl k
  refine congrArg₂ (· * ·) ?_ ?_
  · show X (D.lhsIdx i _ 0).val (D.lhsIdx i _ 1).val (D.lhsIdx i _ 2).val = _
    rw [show (D.lhsIdx i ((contrEquiv1 D K rfl rfl).symm k) 2).val = k.val from hk]
    rfl
  · show Y (D.rhsIdx i _ 0).val (D.rhsIdx i _ 1).val (D.rhsIdx i _ 2).val = _
    rw [show (D.rhsIdx i ((contrEquiv1 D K rfl rfl).symm k) 1).val = k.val from hk]
    rfl

theorem re3_dot_nn {A B C K : ℕ} {φ₁ φ₂ : FTy} (w : DotDims.WF (M3 A B K) (M3 A K C) (M3 A B C) [2] [1] [1] [2] [0] [0]) (X Y : ℕ → ℕ → ℕ → ℝ) :
    Host.dotGeneral (⟨[2], [1], [1], [2], [0], [0], w⟩ : DotDims (M3 A B K) (M3 A K C) (M3 A B C)) none
      (re3 X : FVec Ideal (M3 A B K) φ₁) (re3 Y : FVec Ideal (M3 A K C) φ₂) = re3 fun h t e => ∑ s ∈ range K, X h t s * Y h s e := by
  refine (ar3_dot_nn w (fun h t s => (X h t s : EReal)) fun h s e => (Y h s e : EReal)).trans (funext fun i => ?_)
  refine Eq.trans ?_ (coe_sum_range K fun s => X (i 0).val (i 1).val s * Y (i 0).val s (i 2).val).symm
  exact (Finset.sum_range _).trans (Finset.sum_congr rfl fun k _ => (EReal.coe_mul _ _).symm)

theorem re3_dot_tn {A B C K : ℕ} {φ₁ φ₂ : FTy} (w : DotDims.WF (M3 A K B) (M3 A K C) (M3 A B C) [1] [1] [2] [2] [0] [0]) (X Y : ℕ → ℕ → ℕ → ℝ) :
    Host.dotGeneral (⟨[1], [1], [2], [2], [0], [0], w⟩ : DotDims (M3 A K B) (M3 A K C) (M3 A B C)) none
      (re3 X : FVec Ideal (M3 A K B) φ₁) (re3 Y : FVec Ideal (M3 A K C) φ₂) = re3 fun h s e => ∑ t ∈ range K, X h t s * Y h t e := by
  funext i
  let D : DotDims (M3 A K B) (M3 A K C) (M3 A B C) := ⟨[1], [1], [2], [2], [0], [0], w⟩
  refine (Ideal.dotGeneral_apply D none .single _ _ i).trans ?_
  rw [← Equiv.sum_comp (contrEquiv1 D K rfl rfl).symm]
  refine (Finset.sum_congr rfl fun k _ => ?_).trans (coe_sum_range K fun t => X (i 0).val t (i 1).val * Y (i 0).val t (i 2).val).symm
  have hk := contrEquiv1_symm_val D K rfl rfl k
  rw [EReal.coe_mul]
  refine congrArg₂ (· * ·) ?_ ?_
  · show ((X (D.lhsIdx i _ 0).val (D.lhsIdx i _ 1).val (D.lhsIdx i _ 2).val : ℝ) : EReal) = _
    rw [show (D.lhsIdx i ((contrEquiv1 D K rfl rfl).symm k) 1).val = k.val from hk]
    rfl
  · show ((Y (D.rhsIdx i _ 0).val (D.rhsIdx i _ 1).val (D.rhsIdx i _ 2).val : ℝ) : EReal) = _
    rw [show (D.rhsIdx i ((contrEquiv1 D K rfl rfl).symm k) 1).val = k.val from hk]
    rfl

/-- The heads of a matrix, and a matrix from its heads. -/
def heads {α : Type} (X : ℕ → ℕ → α) : ℕ → ℕ → ℕ → α := fun h t e => X t (128 * h + e)
def unheads {α : Type} (X : ℕ → ℕ → ℕ → α) : ℕ → ℕ → α := fun t n => X (n / 128) t (n % 128)

theorem ar_heads (X : ℕ → ℕ → EReal) (h1 : (M 2048 2048).ShapeCasts (M3 2048 16 128)) (h2 : (M3 2048 16 128).Transposes [1, 0, 2] (M3 16 2048 128)) :
    transpose (M3 16 2048 128) [1, 0, 2] (shapeCast (M3 2048 16 128) (ar X : FVec Ideal (M 2048 2048) φ) h1) h2 = (ar3 (heads X) : FVec Ideal (M3 16 2048 128) φ) := by
  funext i
  have hi0 : (i 0).val < 16 := (i 0).isLt
  have hi2 : (i 2).val < 128 := (i 2).isLt
  refine (transpose_apply _ _ h2 i (ix3 (i 1) (i 0) (i 2)) ?_).trans ?_
  · intro n
    match n with
    | ⟨0, _⟩ => rfl
    | ⟨1, _⟩ => rfl
    | ⟨2, _⟩ => rfl
  refine (shapeCast_apply _ h1 _ (ix2 (i 1) ⟨128 * (i 0).val + (i 2).val, by omega⟩) ?_).trans ?_
  · rw [rowMajor_val2 _ 2048 rfl, rowMajor_val3 _ 2048 128 rfl rfl]
    have e (x y z : ℕ) : x * 2048 + (128 * y + z) = x * 2048 + y * 128 + z := by omega
    exact e (i 1).val (i 0).val (i 2).val
  · rfl

theorem re_heads (X : ℕ → ℕ → ℝ) (h1 : (M 2048 2048).ShapeCasts (M3 2048 16 128)) (h2 : (M3 2048 16 128).Transposes [1, 0, 2] (M3 16 2048 128)) :
    transpose (M3 16 2048 128) [1, 0, 2] (shapeCast (M3 2048 16 128) (re X : FVec Ideal (M 2048 2048) φ) h1) h2 = (re3 (heads X) : FVec Ideal (M3 16 2048 128) φ) :=
  ar_heads (fun t e => (X t e : EReal)) h1 h2

theorem ar_unheads (X : ℕ → ℕ → ℕ → EReal) (h1 : (M3 16 2048 128).Transposes [1, 0, 2] (M3 2048 16 128)) (h2 : (M3 2048 16 128).ShapeCasts (M 2048 2048)) :
    shapeCast (M 2048 2048) (transpose (M3 2048 16 128) [1, 0, 2] (ar3 X : FVec Ideal (M3 16 2048 128) φ) h1) h2 = (ar (unheads X) : FVec Ideal (M 2048 2048) φ) := by
  funext i
  have hi1 : (i 1).val < 2048 := (i 1).isLt
  refine (shapeCast_apply _ h2 i (ix3 (i 0) ⟨(i 1).val / 128, by omega⟩ ⟨(i 1).val % 128, by omega⟩) ?_).trans ?_
  · rw [rowMajor_val2 _ 2048 rfl, rowMajor_val3 _ 2048 128 rfl rfl]
    have e (x y : ℕ) : x * 2048 + y / 128 * 128 + y % 128 = x * 2048 + y := by omega
    exact e (i 0).val (i 1).val
  · refine (transpose_apply _ _ h1 _ (ix3 ⟨(i 1).val / 128, by omega⟩ (i 0) ⟨(i 1).val % 128, by omega⟩) ?_).trans ?_
    · intro n
      match n with
      | ⟨0, _⟩ => rfl
      | ⟨1, _⟩ => rfl
      | ⟨2, _⟩ => rfl
    · rfl

theorem re_unheads (X : ℕ → ℕ → ℕ → ℝ) (h1 : (M3 16 2048 128).Transposes [1, 0, 2] (M3 2048 16 128)) (h2 : (M3 2048 16 128).ShapeCasts (M 2048 2048)) :
    shapeCast (M 2048 2048) (transpose (M3 2048 16 128) [1, 0, 2] (re3 X : FVec Ideal (M3 16 2048 128) φ) h1) h2 = (re (unheads X) : FVec Ideal (M 2048 2048) φ) :=
  ar_unheads (fun h t e => (X h t e : EReal)) h1 h2

/-- The last two axes exchanged. -/
theorem re3_swap (X : ℕ → ℕ → ℕ → ℝ) (h : (M3 a b c).Transposes [0, 2, 1] (M3 a c b)) :
    transpose (M3 a c b) [0, 2, 1] (re3 X : FVec Ideal (M3 a b c) φ) h = re3 fun h t s => X h s t := by
  funext i
  refine (transpose_apply _ _ h i (ix3 (i 0) (i 2) (i 1)) ?_).trans rfl
  intro n
  match n with
  | ⟨0, _⟩ => rfl
  | ⟨1, _⟩ => rfl
  | ⟨2, _⟩ => rfl

/-- Columns of a matrix. -/
theorem ar_cols {r n m o : ℕ} (X : ℕ → ℕ → EReal) (h : (M r n).Slices ![0, o] (M r m)) :
    extractStridedSlice (M r m) ![0, o] (ar X : FVec Ideal (M r n) φ) h = ar fun t e => X t (o + e) :=
  funext fun i => congrArg (fun a => X a (o + (i 1).val)) (Nat.zero_add _)

end Cert.Proof.Attn
-- ==== Proof.RealHost.lean ====
/- Running sums, the log-sigmoid and the causal mask as the host computes them, over the reals. -/
module

public import proofs.«01_k».proof.Proof.RealArr
public import Idealize.ShloMosaic.Lib.Pointwise.Index

@[expose] public section

set_option maxRecDepth 16384

noncomputable section

namespace Cert.Proof.Attn

open Idealize.ShloMosaic hiding ix1 ix2 ix3
open Idealize.ShloMosaic.ValueIdx
open Finset (range)

/-! ## Running sums -/

theorem foldl_add {α : Type} (g : α → EReal) (l : List α) : ∀ v : EReal, l.foldl (fun r k => r + g k) v = v + (l.map g).sum := by
  induction l with
  | nil => exact fun v => (add_zero v).symm
  | cons x l ih => exact fun v => (ih _).trans (by rw [List.map_cons, List.sum_cons, add_assoc])

/-- A window's element: the operand's, or `v` past its edge. -/
def winAt {s t : Shape} (window strides lo hi : Fin s.rank → ℕ) (h : s.ReduceWindows window strides lo hi t) (x : s.Idx → EReal) (v : EReal)
    (j : t.Idx) (w : (⟨s.rank, window⟩ : Shape).Idx) : EReal :=
  let p : Fin s.rank → Nat := fun a => (j (a.cast h.1.symm)).val * strides a + (w a).val
  if hin : ∀ a, lo a ≤ p a ∧ p a - lo a < s.size a then x (fun a => ⟨p a - lo a, (hin a).2⟩) else v

theorem window_sum {s t : Shape} (window strides lo hi : Fin s.rank → ℕ) (h : s.ReduceWindows window strides lo hi t) (x : s.Idx → EReal) (v : EReal) (j : t.Idx) :
    Ideal.hostReduceWindowAdd window strides lo hi h x v j = v + ∑ w, winAt window strides lo hi h x v j w := by
  unfold Ideal.hostReduceWindowAdd Host.reduceWindow
  refine Eq.trans ?_ ((foldl_add (fun k => winAt window strides lo hi h x v j ((⟨s.rank, window⟩ : Shape).rowMajor.symm k))
    (List.finRange (⟨s.rank, window⟩ : Shape).numel) v).trans (congrArg (v + ·) ?_))
  · refine congrArg (fun g => List.foldl g v (List.finRange (⟨s.rank, window⟩ : Shape).numel)) (funext fun r => funext fun k => congrArg (r + ·) ?_)
    unfold winAt
    dsimp only
    congr
  rw [← Fin.sum_univ_def]
  exact Equiv.sum_comp (⟨s.rank, window⟩ : Shape).rowMajor.symm (winAt window strides lo hi h x v j)

theorem window_apply {a b n : ℕ} {s : Shape} (lo hi : Fin 3 → ℕ) (x : FVec Ideal (M3 a b n) .f32) (v : EReal)
    (h : (M3 a b n).ReduceWindows ![1, 1, n] ![1, 1, 1] lo hi s) (j : s.Idx) :
    Ideal.hostReduceWindowAdd (s := M3 a b n) ![1, 1, n] ![1, 1, 1] lo hi h x v j =
      v + ∑ w : Fin n, winAt (s := M3 a b n) ![1, 1, n] ![1, 1, 1] lo hi h x v j (ix3 0 0 w : (M3 1 1 n).Idx) := by
  refine (window_sum _ _ _ _ h x v j).trans (congrArg (v + ·) ?_)
  refine (sum_idx3 (n0 := 1) (n1 := 1) (n2 := n) (winAt (s := M3 a b n) ![1, 1, n] ![1, 1, 1] lo hi h x v j)).trans ?_
  rw [Fin.sum_univ_one, Fin.sum_univ_one]
  rfl

theorem sum_from (f : ℕ → ℝ) {s n : ℕ} (hs : s ≤ n) : (∑ w ∈ range n, if s + w < n then f (s + w) else 0) = (∑ u ∈ range n, f u) - ∑ u ∈ range s, f u := by
  obtain ⟨r, rfl⟩ := Nat.exists_eq_add_of_le hs
  rw [Finset.sum_range_add f s r, add_sub_cancel_left, add_comm s r, Finset.sum_range_add, Finset.sum_eq_zero (s := range s), add_zero]
  · exact Finset.sum_congr rfl fun w hw => if_pos (by have := Finset.mem_range.mp hw; omega)
  · exact fun w _ => if_neg (by omega)

theorem sum_upto (f : ℕ → ℝ) {s n : ℕ} (hs : s < n + 1) :
    (∑ w ∈ range (n + 1), if n ≤ s + w then f (s + w - n) else 0) = ∑ u ∈ range (s + 1), f u := by
  obtain ⟨r, rfl⟩ := Nat.exists_eq_add_of_le (Nat.lt_succ_iff.mp hs)
  rw [show s + r + 1 = r + (s + 1) by omega, Finset.sum_range_add, Finset.sum_eq_zero (s := range r), zero_add]
  · refine Finset.sum_congr rfl fun w hw => ?_
    rw [if_pos (by omega), show s + (r + w) - (s + r) = w by omega]
  · exact fun w hw => if_neg (by have := Finset.mem_range.mp hw; omega)

/-- The sum from a column on. -/
theorem re3_from {a b n : ℕ} (X : ℕ → ℕ → ℕ → ℝ) (m : ℕ) (h : (M3 a b n).ReduceWindows ![1, 1, n] ![1, 1, 1] ![0, 0, 0] ![0, 0, m] (M3 a b n)) :
    Ideal.hostReduceWindowAdd (s := M3 a b n) ![1, 1, n] ![1, 1, 1] ![0, 0, 0] ![0, 0, m] h (re3 X : FVec Ideal (M3 a b n) .f32) 0 =
      (re3 fun h t s => (∑ u ∈ range n, X h t u) - ∑ u ∈ range s, X h t u : FVec Ideal (M3 a b n) .f32) := by
  funext j
  have h0 : (j 0).val < a := (j 0).isLt
  have h1 : (j 1).val < b := (j 1).isLt
  have h2 : (j 2).val < n := (j 2).isLt
  rw [window_apply, zero_add]
  show _ = (((∑ u ∈ range n, X (j 0).val (j 1).val u) - ∑ u ∈ range (j 2).val, X (j 0).val (j 1).val u : ℝ) : EReal)
  rw [← sum_from _ h2.le, coe_sum_range]
  refine Finset.sum_congr rfl fun w _ => ?_
  by_cases hw : (j 2).val + w.val < n
  · rw [if_pos hw]
    refine (dif_pos ?_).trans ?_
    · intro a'
      match a' with
      | ⟨0, _⟩ => exact ⟨Nat.zero_le _, by show (j 0).val * 1 + 0 - 0 < a; omega⟩
      | ⟨1, _⟩ => exact ⟨Nat.zero_le _, by show (j 1).val * 1 + 0 - 0 < b; omega⟩
      | ⟨2, _⟩ => exact ⟨Nat.zero_le _, by show (j 2).val * 1 + w.val - 0 < n; omega⟩
    · show ((X ((j 0).val * 1 + 0 - 0) ((j 1).val * 1 + 0 - 0) ((j 2).val * 1 + w.val - 0) : ℝ) : EReal) = _
      simp only [mul_one, add_zero, Nat.sub_zero]
  · rw [if_neg hw]
    refine (dif_neg ?_).trans EReal.coe_zero.symm
    intro hin
    have := (hin 2).2
    change (j 2).val * 1 + w.val - 0 < n at this
    omega

/-- The sum up to a column. -/
theorem re3_upto {a b n : ℕ} (X : ℕ → ℕ → ℕ → ℝ) (h : (M3 a b (n + 1)).ReduceWindows ![1, 1, n + 1] ![1, 1, 1] ![0, 0, n] ![0, 0, 0] (M3 a b (n + 1))) :
    Ideal.hostReduceWindowAdd (s := M3 a b (n + 1)) ![1, 1, n + 1] ![1, 1, 1] ![0, 0, n] ![0, 0, 0] h (re3 X : FVec Ideal (M3 a b (n + 1)) .f32) 0 =
      (re3 fun h t s => ∑ u ∈ range (s + 1), X h t u : FVec Ideal (M3 a b (n + 1)) .f32) := by
  funext j
  have h0 : (j 0).val < a := (j 0).isLt
  have h1 : (j 1).val < b := (j 1).isLt
  have h2 : (j 2).val < n + 1 := (j 2).isLt
  rw [window_apply, zero_add]
  show _ = ((∑ u ∈ range ((j 2).val + 1), X (j 0).val (j 1).val u : ℝ) : EReal)
  rw [← sum_upto _ h2, coe_sum_range]
  refine Finset.sum_congr rfl fun w _ => ?_
  by_cases hw : n ≤ (j 2).val + w.val
  · rw [if_pos hw]
    refine (dif_pos ?_).trans ?_
    · intro a'
      match a' with
      | ⟨0, _⟩ => exact ⟨Nat.zero_le _, by show (j 0).val * 1 + 0 - 0 < a; omega⟩
      | ⟨1, _⟩ => exact ⟨Nat.zero_le _, by show (j 1).val * 1 + 0 - 0 < b; omega⟩
      | ⟨2, _⟩ => exact ⟨by show n ≤ (j 2).val * 1 + w.val; omega, by show (j 2).val * 1 + w.val - n < n + 1; omega⟩
    · show ((X ((j 0).val * 1 + 0 - 0) ((j 1).val * 1 + 0 - 0) ((j 2).val * 1 + w.val - n) : ℝ) : EReal) = _
      simp only [mul_one, add_zero, Nat.sub_zero]
  · rw [if_neg hw]
    refine (dif_neg ?_).trans EReal.coe_zero.symm
    intro hin
    have := (hin 2).1
    change n ≤ (j 2).val * 1 + w.val at this
    omega

/-! ## The mask -/

/-- Where a column is before its row. -/
def mk3 {a b c : ℕ} : (M3 a b c).Idx → BitVec 1 := fun i => BitVec.ofBool (decide ((i 2).val < (i 1).val))

theorem mk3_select {a b c : ℕ} (X Y : ℕ → ℕ → ℕ → ℝ) :
    select mk3 (re3 X : FVec Ideal (M3 a b c) .f32) (re3 Y) = re3 fun h t s => if s < t then X h t s else Y h t s := by
  funext i
  rw [select_apply]
  unfold mk3
  by_cases h : (i 2).val < (i 1).val
  · rw [decide_eq_true h]
    show re3 X i = ((if _ then _ else _ : ℝ) : EReal)
    rw [if_pos h]; rfl
  · rw [decide_eq_false h]
    show re3 Y i = ((if _ then _ else _ : ℝ) : EReal)
    rw [if_neg h]; rfl

/-- The mask made of the positions along the columns and along the rows. -/
theorem mk3_of (v1 : (⟨1, ![2048]⟩ : Shape).BroadcastsInDim (M 1 2048) ![1]) (v2 : (⟨1, ![2048]⟩ : Shape).BroadcastsInDim (M 2048 1) ![0])
    (v3 : (M 1 2048).BroadcastsInDim (M 2048 2048) ![0, 1]) (v4 : (M 2048 1).BroadcastsInDim (M 2048 2048) ![0, 1])
    (v5 : (M 2048 2048).BroadcastsInDim (M3 16 2048 2048) ![1, 2]) :
    broadcastInDim (M3 16 2048 2048) ![1, 2] v5 (cmpi .slt
      (broadcastInDim (M 2048 2048) ![0, 1] v3 (broadcastInDim (M 1 2048) ![1] v1 (iotaInDim (⟨1, ![2048]⟩ : Shape) 32 0)))
      (broadcastInDim (M 2048 2048) ![0, 1] v4 (broadcastInDim (M 2048 1) ![0] v2 (iotaInDim (⟨1, ![2048]⟩ : Shape) 32 0)))) = mk3 := by
  funext i
  have h1 : (i 1).val < 2048 := (i 1).isLt
  have h2 : (i 2).val < 2048 := (i 2).isLt
  refine Eq.trans ?_ (WordCmp.cmpi_slt_ofNat (w := 32) (a := (i 2).val) (b := (i 1).val) (by norm_num; omega) (by norm_num; omega))
  refine (broadcastInDim_apply _ v5 _ i (ix2 (i 1) (i 2)) ?_).trans (congrArg₂ (IntOp.cmpi .slt) ?_ ?_)
  · intro n
    match n with
    | ⟨0, _⟩ => rfl
    | ⟨1, _⟩ => rfl
  · refine (broadcastInDim_apply _ v3 _ _ (ix2 0 (i 2)) ?_).trans ((broadcastInDim_apply _ v1 _ _ (ix1 (i 2)) ?_).trans rfl)
    · intro n
      match n with
      | ⟨0, _⟩ => rfl
      | ⟨1, _⟩ => rfl
    · intro n
      match n with
      | ⟨0, _⟩ => rfl
  · refine (broadcastInDim_apply _ v4 _ _ (ix2 (i 1) 0) ?_).trans ((broadcastInDim_apply _ v2 _ _ (ix1 (i 1)) ?_).trans rfl)
    · intro n
      match n with
      | ⟨0, _⟩ => rfl
      | ⟨1, _⟩ => rfl
    · intro n
      match n with
      | ⟨0, _⟩ => rfl

/-! ## The log-sigmoid -/

/-- `log (1 + exp x)`, kept from overflowing. -/
def spR (x : ℝ) : ℝ := max x 0 + Real.log (1 + Real.exp (-|x|))

variable {a b c : ℕ}

theorem softplus_re (X : ℕ → ℕ → ℕ → ℝ) (z : FVec Ideal (M3 a b c) .f32) (hz : z = re3 fun _ _ _ => 0) :
    select (cmpf .une (subf (re3 X) z) (subf (re3 X) z)) (addf (re3 X) z)
      (addf (maximumf (re3 X) z) (Host.log1p (Host.exp (Host.negf (Host.absf (subf (re3 X) z)))))) = (re3 fun h t s => spR (X h t s) : FVec Ideal (M3 a b c) .f32) := by
  subst hz
  rw [re3_sub, re3_une, re3_abs, re3_neg, re3_exp, re3_log1p _ fun _ _ _ => by positivity, re3_max, re3_add, re3_add]
  refine Eq.trans (b := (re3 fun h t s => max (X h t s) 0 + Real.log (1 + Real.exp (-|X h t s - 0|)) : FVec Ideal (M3 a b c) .f32)) (funext fun i => by rw [select_apply]; rfl) ?_
  refine re3_congr fun h _ t _ s _ => ?_
  show max (X h t s) 0 + Real.log (1 + Real.exp (-|X h t s - 0|)) = spR (X h t s)
  rw [sub_zero]
  rfl

theorem ofBits_inf : FloatOps.ofBits (F := Ideal) .f32 0x7F800000#32 = (⊤ : EReal) := by
  show Ideal.ofBits .f32 0x7F800000#32 = ⊤
  simp [Ideal.ofBits, Ideal.ieee]

/-- No real is the infinity. -/
theorem noInf (X : ℕ → ℕ → ℕ → ℝ) (y z : FVec Ideal (M3 a b c) .f32) (hz : z = fun _ => FloatOps.ofBits (F := Ideal) .f32 0x7F800000#32) :
    select (cmpf .oeq (re3 X) z) y (re3 X) = re3 X := by
  subst hz
  funext i
  rw [select_apply]
  have : cmpf .oeq (re3 X : FVec Ideal (M3 a b c) .f32) (fun _ => FloatOps.ofBits (F := Ideal) .f32 0x7F800000#32) i = 0#1 := by
    show Ideal.cmp .oeq ((re3 X : FVec Ideal (M3 a b c) .f32) i) (FloatOps.ofBits (F := Ideal) .f32 0x7F800000#32) = 0#1
    rw [ofBits_inf]
    show BitVec.ofBool (decide (((X _ _ _ : ℝ) : EReal) = ⊤)) = 0#1
    rw [decide_eq_false (EReal.coe_ne_top _)]
    rfl
  rw [this]
  rfl

theorem spR_neg (z : ℝ) : -spR (-z) = lbR z := by
  unfold spR lbR
  rw [abs_neg, zero_sub, ← neg_zero, max_neg_neg, neg_zero]
  ring

theorem spR_pos (z : ℝ) : -spR z = lbR z - z := by
  unfold spR lbR
  rw [zero_sub]
  have := min_add_max z 0
  linarith

/-- What the two log-sigmoids' residuals sum to. -/
theorem exp_lb (z : ℝ) : Real.exp (-z - spR (-z)) = 1 - Real.exp (lbR z) := by
  have h0 : (0 : ℝ) < 1 + Real.exp z := by positivity
  have hp : lbR z = z - Real.log (1 + Real.exp z) := by
    unfold lbR
    rw [zero_sub]
    rcases le_total 0 z with h | h
    · rw [min_eq_right h, abs_of_nonneg h]
      have : (1 : ℝ) + Real.exp z = Real.exp z * (1 + Real.exp (-z)) := by rw [mul_add, ← Real.exp_add]; simp [add_comm]
      rw [this, Real.log_mul (Real.exp_pos z).ne' (by positivity), Real.log_exp]
      ring
    · rw [min_eq_left h, abs_of_nonpos h, neg_neg]
  have e : -z - spR (-z) = lbR z - z := by rw [sub_eq_add_neg, spR_neg]; ring
  rw [e, hp, show z - Real.log (1 + Real.exp z) - z = -Real.log (1 + Real.exp z) by ring, Real.exp_sub, Real.exp_neg, Real.exp_log h0]
  field_simp
  ring

end Cert.Proof.Attn
-- ==== Proof.RealRef.lean ====
/- The reference's arrays, over the reals: each head's gradients are the sums along its rows. -/
module

public import proofs.«01_k».proof.Proof.Gen.ReferenceIdeal.Read
public import proofs.«01_k».proof.Proof.RealHead
public import proofs.«01_k».proof.Proof.RealHost

@[expose] public section

set_option maxRecDepth 16384

noncomputable section

namespace Cert.Proof.Attn

open Idealize.ShloMosaic hiding ix1 ix2 ix3
open Idealize.ShloMosaic.ValueIdx
open Cert.ReferenceIdeal.Read
open Finset (range)

variable (Q K D : ℕ → ℕ → ℝ)

abbrev aQ : FVec Ideal (M 2048 2048) .bf16 := re Q
abbrev aD : FVec Ideal (M 2048 2048) .f32 := re D

/-- The values' columns of the projection hold `V`. -/
def IsV (A : FVec Ideal (M 2048 8192) .f32) (V : ℕ → ℕ → ℝ) : Prop :=
  extractStridedSlice (M 2048 2048) ![0, 4096] A Cert.ReferenceIdeal.Gen.slices_S2048x8192_S2048x2048_0_4096 = (re V : FVec Ideal (M 2048 2048) .f32)

/-- The logits, head by head. -/
def zH (h t s : ℕ) : ℝ := zR (heads Q h) (heads K h) t s

abbrev W3 := FVec Ideal (M3 16 2048 2048) .f32

theorem ref_v4 : val_main_v4 (F := Ideal) (aQ Q) = (re3 (heads Q) : FVec Ideal (M3 16 2048 128) .f32) := re_heads Q _ _
theorem ref_v6 : val_main_v6 (F := Ideal) (aQ K) = (re3 (heads K) : FVec Ideal (M3 16 2048 128) .f32) := re_heads K _ _
theorem ref_v8 {A : FVec Ideal (M 2048 8192) .f32} {V : ℕ → ℕ → ℝ} (hA : IsV A V) :
    val_main_v8 (F := Ideal) A = (re3 (heads V) : FVec Ideal (M3 16 2048 128) .f32) := by
  unfold val_main_v8 val_main_v7 val_main_v2
  refine (congrArg (fun x => transpose (M3 16 2048 128) [1, 0, 2] (shapeCast (M3 2048 16 128) x _) _) hA).trans ?_
  exact re_heads _ _ _
theorem ref_v32 : val_main_v32 (F := Ideal) (aD D) = (re3 (heads D) : FVec Ideal (M3 16 2048 128) .f32) := re_heads D _ _

theorem ref_v11 : val_main_v11 (F := Ideal) (aQ Q) (aQ K) = (re3 (zH Q K) : W3) := by
  unfold val_main_v11 val_main_v9
  rw [ref_v4, ref_v6]
  refine (congrArg₂ mulf (re3_dot_nt _ _ _) (show val_main_v10 (F := Ideal) = (re3 fun _ _ _ => σ0 : W3) from funext fun _ => σ0_coe)).trans ?_
  exact re3_mul _ _

theorem ref_call0_v0 : val_main_call0_v0 (F := Ideal) (aQ Q) (aQ K) = (re3 fun h t s => -zH Q K h t s : W3) := by
  unfold val_main_call0_v0
  rw [ref_v11]
  exact re3_neg _

theorem ref_call1_v0 : val_main_call1_v0 (F := Ideal) (aQ Q) (aQ K) = (re3 (zH Q K) : W3) := by
  unfold val_main_call1_v0 val_main_v20
  rw [ref_v11]
  refine (congrArg Host.negf (re3_neg _)).trans ((re3_neg _).trans (re3_congr fun _ _ _ _ _ _ => neg_neg _))

theorem ref_sp0 : val_main_call0_v1_0 (F := Ideal) (aQ Q) (aQ K) = (re3 fun h t s => spR (-zH Q K h t s) : W3) := by
  unfold val_main_call0_v1_0 val_main_call0_call0_v4 val_main_call0_call0_v6 val_main_call0_call0_v11 val_main_call0_call0_v10
    val_main_call0_call0_v9 val_main_call0_call0_v8 val_main_call0_call0_v7 val_main_call0_call0_v3 val_main_call0_call0_v1
  rw [ref_call0_v0]
  exact softplus_re _ _ re3_zero

theorem ref_sp1 : val_main_call1_v1_0 (F := Ideal) (aQ Q) (aQ K) = (re3 fun h t s => spR (zH Q K h t s) : W3) := by
  unfold val_main_call1_v1_0 val_main_call1_call0_v4 val_main_call1_call0_v6 val_main_call1_call0_v11 val_main_call1_call0_v10
    val_main_call1_call0_v9 val_main_call1_call0_v8 val_main_call1_call0_v7 val_main_call1_call0_v3 val_main_call1_call0_v1
  rw [ref_call1_v0]
  exact softplus_re _ _ re3_zero

theorem ref_v19_0 : val_main_v19_0 (F := Ideal) (aQ Q) (aQ K) = (re3 fun h t s => lbR (zH Q K h t s) : W3) := by
  unfold val_main_v19_0
  rw [ref_sp0]
  exact (re3_neg _).trans (re3_congr fun _ _ _ _ _ _ => spR_neg _)

theorem ref_v19_1 : val_main_v19_1 (F := Ideal) (aQ Q) (aQ K) = (re3 fun h t s => 1 - Real.exp (lbR (zH Q K h t s)) : W3) := by
  unfold val_main_v19_1 val_main_call0_call0_v21 val_main_call0_call0_v16 val_main_call0_call0_v14 val_main_call0_call0_v20 val_main_call0_call0_v18
  rw [ref_call0_v0, ref_sp0]
  refine (congrArg Host.exp ((congrArg₂ subf (noInf _ _ _ rfl) (noInf _ _ _ rfl)).trans (re3_sub _ _))).trans ((re3_exp _).trans ?_)
  exact re3_congr fun _ _ _ _ _ _ => exp_lb _

theorem ref_v21_0 : val_main_v21_0 (F := Ideal) (aQ Q) (aQ K) = (re3 fun h t s => lbR (zH Q K h t s) - zH Q K h t s : W3) := by
  unfold val_main_v21_0
  rw [ref_sp1]
  exact (re3_neg _).trans (re3_congr fun _ _ _ _ _ _ => spR_pos _)

theorem ref_v21_1 : val_main_v21_1 (F := Ideal) (aQ Q) (aQ K) = (re3 fun h t s => Real.exp (lbR (zH Q K h t s)) : W3) := by
  unfold val_main_v21_1 val_main_call1_call0_v21 val_main_call1_call0_v16 val_main_call1_call0_v14 val_main_call1_call0_v20 val_main_call1_call0_v18
  rw [ref_call1_v0, ref_sp1]
  refine (congrArg Host.exp ((congrArg₂ subf (noInf _ _ _ rfl) (noInf _ _ _ rfl)).trans (re3_sub _ _))).trans ((re3_exp _).trans ?_)
  refine re3_congr fun h _ t _ s _ => congrArg Real.exp ?_
  have := spR_pos (zH Q K h t s)
  linarith

theorem ref_mask : val_main_v22_1 (F := Ideal) = (mk3 : (M3 16 2048 2048).Idx → BitVec 1) := mk3_of _ _ _ _ _
theorem ref_mask' : val_main_v27_1 (F := Ideal) = (mk3 : (M3 16 2048 2048).Idx → BitVec 1) := mk3_of _ _ _ _ _

theorem masked (X : ℕ → ℕ → ℕ → ℝ) (z : W3) (hz : z = re3 fun _ _ _ => 0) :
    select mk3 (re3 X : W3) z = re3 fun h t s => if s < t then X h t s else 0 := by
  rw [hz]; exact mk3_select _ _

theorem ref_v22_0 : val_main_v22_0 (F := Ideal) (aQ Q) (aQ K) = (re3 fun h t s => l1R (heads Q h) (heads K h) t s : W3) := by
  unfold val_main_v22_0
  rw [ref_mask, ref_v21_0]
  exact masked _ _ re3_zero

theorem zero0 : FloatOps.ofBits (F := Ideal) .f32 0x00000000#32 = (0 : EReal) := Ideal.ofBits_zero_f32

/-- A windowed sum that starts at zero. -/
theorem winAdd {s t u : Shape} (window strides lo hi : Fin s.rank → ℕ) (x : FVec Ideal s .f32) (z : FVec Ideal u .f32)
    (h : s.ReduceWindows window strides lo hi t) (hu : 0 < u.numel) (hz : z = fun _ => FloatOps.ofBits (F := Ideal) .f32 0x00000000#32) :
    Host.reduceWindowAdd window strides lo hi x z h hu = Ideal.hostReduceWindowAdd window strides lo hi h x 0 := by
  subst hz
  show Ideal.hostReduceWindowAdd window strides lo hi h x (FloatOps.ofBits (F := Ideal) .f32 0x00000000#32) = _
  rw [zero0]

theorem ref_v23 : val_main_v23 (F := Ideal) (aQ Q) (aQ K) =
    (re3 fun h t s => totG (heads Q h) (heads K h) t - ∑ u ∈ range s, l1R (heads Q h) (heads K h) t u : W3) := by
  unfold val_main_v23
  rw [ref_v22_0]
  refine Eq.trans ?_ (re3_from (a := 16) (b := 2048) (n := 2048) (fun h t s => l1R (heads Q h) (heads K h) t s) 2047
    Cert.ReferenceIdeal.Gen.reduceWindows_S16x2048x2048_S16x2048x2048_w1s1p0_0_w1s1p0_0_w2048s1p0_2047)
  exact winAdd _ _ _ _ _ _ _ _ rfl

theorem ref_v26 : val_main_v26 (F := Ideal) (aQ Q) (aQ K) =
    (re3 fun h t s => Real.exp (lbR (zH Q K h t s) + (totG (heads Q h) (heads K h) t - ∑ u ∈ range (s + 1), l1R (heads Q h) (heads K h) t u)) : W3) := by
  unfold val_main_v26 val_main_v25 val_main_v24
  rw [ref_v19_0, ref_v23, ref_v22_0]
  refine (congrArg Host.exp ((congrArg (addf _) (re3_sub _ _)).trans (re3_add _ _))).trans ((re3_exp _).trans ?_)
  refine re3_congr fun h _ t _ s _ => congrArg Real.exp (congrArg (lbR (zH Q K h t s) + ·) ?_)
  rw [Finset.sum_range_succ, sub_sub]

theorem ref_v27_0 : val_main_v27_0 (F := Ideal) (aQ Q) (aQ K) = (re3 fun h => attG (heads Q h) (heads K h) : W3) := by
  unfold val_main_v27_0
  rw [ref_mask', ref_v26]
  exact masked _ _ re3_zero

theorem ref_dv : val_main_v51 (F := Ideal) (aQ Q) (aQ K) (aD D) =
    (re (unheads fun h => dvG (heads Q h) (heads K h) (heads D h)) : FVec Ideal (M 2048 2048) .f32) := by
  have h34 : val_main_v34 (F := Ideal) (aQ Q) (aQ K) (aD D) = (re3 fun h => dvG (heads Q h) (heads K h) (heads D h) : FVec Ideal (M3 16 2048 128) .f32) := by
    unfold val_main_v34 val_main_v33
    rw [ref_v32, ref_v27_0]
    refine (congrArg (transpose (M3 16 2048 128) [0, 2, 1] · _) (re3_dot_tn _ _ _)).trans ((re3_swap _ _).trans ?_)
    exact re3_congr fun h _ s _ e _ => Finset.sum_congr rfl fun t _ => mul_comm _ _
  unfold val_main_v51 val_main_v50
  rw [h34]
  exact re_unheads _ _ _

section Grad

variable {A : FVec Ideal (M 2048 8192) .f32} {V : ℕ → ℕ → ℝ} (hA : IsV A V)
include hA

theorem ref_v37 : val_main_v37 (F := Ideal) (aQ Q) (aQ K) A (aD D) =
    (re3 fun h => gG (heads Q h) (heads K h) (heads V h) (heads D h) : W3) := by
  unfold val_main_v37 val_main_v36 val_main_v35
  rw [ref_mask', ref_v26, ref_v32, ref_v8 hA]
  refine (congrArg (mulf · _) ((congrArg (select mk3 · _) (re3_dot_nt _ _ _)).trans (masked _ _ re3_zero))).trans ((re3_mul _ _).trans ?_)
  refine re3_congr fun h _ t _ s _ => ?_
  unfold gG attG
  split_ifs
  · exact mul_comm _ _
  · rw [zero_mul, zero_mul]

theorem ref_v41 : val_main_v41 (F := Ideal) (aQ Q) (aQ K) A (aD D) =
    (re3 fun h t s => if s < t then ∑ u ∈ range s, gG (heads Q h) (heads K h) (heads V h) (heads D h) t u else 0 : W3) := by
  have h39 : val_main_v39 (F := Ideal) (aQ Q) (aQ K) A (aD D) =
      (re3 fun h t s => ∑ u ∈ range (s + 1), gG (heads Q h) (heads K h) (heads V h) (heads D h) t u : W3) := by
    unfold val_main_v39
    rw [ref_v37 Q K D hA]
    refine Eq.trans ?_ (re3_upto (a := 16) (b := 2048) (n := 2047) (fun h t s => gG (heads Q h) (heads K h) (heads V h) (heads D h) t s)
      Cert.ReferenceIdeal.Gen.reduceWindows_S16x2048x2048_S16x2048x2048_w1s1p0_0_w1s1p0_0_w2048s1p2047_0)
    exact winAdd _ _ _ _ _ _ _ _ rfl
  unfold val_main_v41 val_main_v40 val_main_v38
  rw [ref_mask, h39, ref_v37 Q K D hA]
  refine (congrArg (select mk3 · _) ((congrArg (addf · _) (re3_neg _)).trans (re3_add _ _))).trans ((masked _ _ re3_zero).trans ?_)
  refine re3_congr fun h _ t _ s _ => ?_
  rw [Finset.sum_range_succ, neg_add_eq_sub, add_sub_cancel_right]

theorem ref_v47 : val_main_v47 (F := Ideal) (aQ Q) (aQ K) A (aD D) =
    (re3 fun h => dzG (heads Q h) (heads K h) (heads V h) (heads D h) : W3) := by
  unfold val_main_v47 val_main_v45 val_main_v43 val_main_v42 val_main_call8_v1 val_main_call8_v0 val_main_v44 val_main_call9_v1 val_main_call9_v0
  rw [ref_v41 Q K D hA, ref_v37 Q K D hA, ref_v21_1, ref_v19_1, show val_main_v46 (F := Ideal) = (re3 fun _ _ _ => σ0 : W3) from funext fun _ => σ0_coe]
  simp only [re3_neg, re3_mul, re3_add]
  refine re3_congr fun h _ t _ s _ => ?_
  unfold dzG
  split_ifs with hs
  · show _ = (_ - (_ + _) * Real.exp (lbR (zH Q K h t s))) * σ0
    ring
  · rw [gG_zero _ _ _ _ (not_lt.mp hs)]
    ring

theorem ref_dk : val_main_v53 (F := Ideal) (aQ Q) (aQ K) A (aD D) =
    (re (unheads fun h => dkG (heads Q h) (heads K h) (heads V h) (heads D h)) : FVec Ideal (M 2048 2048) .f32) := by
  unfold val_main_v53 val_main_v52 val_main_v48
  rw [ref_v47 Q K D hA, ref_v4]
  exact (congrArg (fun x => shapeCast (M 2048 2048) (transpose (M3 2048 16 128) [1, 0, 2] x _) _) (re3_dot_tn _ _ _)).trans (re_unheads _ _ _)

theorem ref_dq : val_main_v55 (F := Ideal) (aQ Q) (aQ K) A (aD D) =
    (re (unheads fun h => dqG (heads Q h) (heads K h) (heads V h) (heads D h)) : FVec Ideal (M 2048 2048) .f32) := by
  unfold val_main_v55 val_main_v54 val_main_v49
  rw [ref_v47 Q K D hA, ref_v6]
  exact (congrArg (fun x => shapeCast (M 2048 2048) (transpose (M3 2048 16 128) [1, 0, 2] x _) _) (re3_dot_nn _ _ _)).trans (re_unheads _ _ _)

end Grad

end Cert.Proof.Attn
-- ==== Proof.RealOut.lean ====
/- The arrays of the attention's backward call after its heads, over the reals. -/
module

public import proofs.«01_k».proof.Proof.Run
public import proofs.«01_k».proof.Proof.RealRef
public import Idealize.ShloMosaic.Lib.Pointwise.Reduce

@[expose] public section

set_option maxRecDepth 16384

noncomputable section

namespace Cert.Proof.Attn

open Cert.KernelIdeal Cert.KernelIdeal.Gen
open Idealize.ShloMosaic hiding ix1 ix2 ix3
open Idealize.ShloMosaic.TcCoe Idealize.SL.Sem
open Idealize.ShloMosaic.ValueIdx
open Idealize.ShloMosaic.Pipeline (Dat Cfg Window)
open Finset (range)

/-- The masked log-sigmoids' sums along each row, each written along its head's columns. -/
theorem tot_re (Q K : ℕ → ℕ → ℝ) : shapeCast S2048x2048
    (broadcastInDim S2048x16x128 ![0, 1, 2] bcast_S2048x16x1_S2048x16x128_0_1_2
      (broadcastInDim S2048x16x1 ![0, 1] bcast_S2048x16_S2048x16x1_0_1
        (transpose S2048x16 [1, 0]
          (Host.reduceAdd (Cert.ReferenceIdeal.Read.val_main_v22_0 (F := Ideal) (aQ Q) (aQ K))
            (constant (F := Ideal) S_ .f32 0x00000000#32) reducesTo_S16x2048x2048_S16x2048_d2 h_S_)
          transposes_S16x2048_S2048x16_1_0))) shapeCasts_S2048x16x128_S2048x2048
    = (re (unheads fun h t _ => totG (heads Q h) (heads K h) t) : FVec Ideal (M 2048 2048) .f32) := by
  rw [ref_v22_0]
  funext i
  have hi0 : (i 0).val < 2048 := (i 0).isLt
  have hi1 : (i 1).val < 2048 := (i 1).isLt
  have d : (i 1).val / 128 < 16 := by omega
  refine (shapeCast_apply _ _ i (ix3 (i 0) ⟨(i 1).val / 128, d⟩ ⟨(i 1).val % 128, by omega⟩) ?_).trans ?_
  · rw [rowMajor_val2 _ _ rfl, rowMajor_val3 _ _ _ rfl rfl]
    have e (x y : ℕ) : x * 2048 + y / 128 * 128 + y % 128 = x * 2048 + y := by omega
    exact e _ _
  refine (broadcastInDim_apply _ _ _ _ (ix3 (i 0) ⟨(i 1).val / 128, d⟩ 0) ?_).trans ?_
  · intro n
    match n with
    | ⟨0, _⟩ => rfl
    | ⟨1, _⟩ => rfl
    | ⟨2, _⟩ => rfl
  refine (broadcastInDim_apply _ _ _ _ (ix2 (i 0) ⟨(i 1).val / 128, d⟩) ?_).trans ?_
  · intro n
    match n with
    | ⟨0, _⟩ => rfl
    | ⟨1, _⟩ => rfl
  refine (transpose_apply _ _ _ _ (ix2 ⟨(i 1).val / 128, d⟩ (i 0)) ?_).trans ?_
  · intro n
    match n with
    | ⟨0, _⟩ => rfl
    | ⟨1, _⟩ => rfl
  refine (hostReduceAdd_apply _ _ _ _ _).trans ((Ideal.hostReduceAdd_r3_a2 (n0 := 16) (n1 := 2048) (n2 := 2048) _ _ _ _).trans ?_)
  show FloatOps.ofBits (F := Ideal) .f32 0x00000000#32 + ∑ k : Fin 2048, ((l1R (heads Q ((i 1).val / 128)) (heads K ((i 1).val / 128)) (i 0).val k.val : ℝ) : EReal) = _
  rw [zero0, zero_add]
  exact (coe_sum_range _ _).symm

section Rows

variable (m : (ℓ : Loc nD τ sig) → Buf (Elt Ideal) ℓ) (c : Dev nD)

open Idealize.ShloMosaic.StableHlo in
set_option maxHeartbeats 4000000 in
/-- The row totals' array is the masked log-sigmoids' sums, each written along its head's columns. -/
theorem V_tot : V m c main_v23 = shapeCast S2048x2048
    (broadcastInDim S2048x16x128 ![0, 1, 2] bcast_S2048x16x1_S2048x16x128_0_1_2
      (broadcastInDim S2048x16x1 ![0, 1] bcast_S2048x16_S2048x16x1_0_1
        (transpose S2048x16 [1, 0]
          (Host.reduceAdd (Cert.ReferenceIdeal.Read.val_main_v22_0 (F := Ideal) (m ((c : Thread nD τ).loc main_arg0)) (m ((c : Thread nD τ).loc main_arg1)))
            (constant (F := Ideal) S_ .f32 0x00000000#32) reducesTo_S16x2048x2048_S16x2048_d2 h_S_)
          transposes_S16x2048_S2048x16_1_0))) shapeCasts_S2048x16x128_S2048x2048 := by
  unfold V
  simp only [hostOps0, hostOps0_1, hostOps0_2, hostOps0_3, hostOps0_4, List.flatten_cons, List.flatten_nil, List.append_nil, List.cons_append, List.nil_append,
    TRef.binary, TRef.nullary, TRef.ternary, TRef.unary, TRef.toBuf, TRef.ofBuf, cast_eq]
  after_results_simp <;> rfl

variable {m c} {Q K W D : ℕ → ℕ → ℝ}

theorem V_tot_re (h0 : m ((c : Thread nD τ).loc main_arg0) = aQ Q) (h1 : m ((c : Thread nD τ).loc main_arg1) = aQ K) :
    V m c main_v23 = (re (unheads fun h t _ => totG (heads Q h) (heads K h) t) : FVec Ideal (M 2048 2048) .f32) := by
  rw [V_tot, h0, h1]
  exact tot_re Q K

/-! ## A head's operands -/

theorem at0 : ∀ t : Fin cfg0.N, win0_0.index t 0 = 0 ∧ win0_0.index t 1 = t.val := by decide +kernel
theorem at1 : ∀ t : Fin cfg0.N, win0_1.index t 0 = 0 ∧ win0_1.index t 1 = t.val := by decide +kernel
theorem at2 : ∀ t : Fin cfg0.N, win0_2.index t 0 = 0 ∧ win0_2.index t 1 = 32 + t.val := by decide +kernel
theorem at3 : ∀ t : Fin cfg0.N, win0_3.index t 0 = 0 ∧ win0_3.index t 1 = t.val := by decide +kernel
theorem at4 : ∀ t : Fin cfg0.N, win0_4.index t 0 = 0 ∧ win0_4.index t 1 = t.val := by decide +kernel

theorem iblk0 (h0 : m ((c : Thread nD τ).loc main_arg0) = aQ Q) (t : Fin cfg0.N) : iblk m c 0 t = (re (heads Q t.val) : FVec Ideal (M 2048 128) .bf16) := by
  unfold iblk
  rw [show V m c (Pipeline.arrRef spec0 0) = aQ Q from (V_main_arg0 m c).trans h0]
  funext y
  show ((Q (win0_0.index t 0 * 2048 + 1 * (y 0).val) (win0_0.index t 1 * 128 + 1 * (y 1).val) : ℝ) : EReal) = ((Q (y 0).val (128 * t.val + (y 1).val) : ℝ) : EReal)
  rw [(at0 t).1, (at0 t).2, zero_mul, zero_add, one_mul, one_mul, mul_comm t.val]
theorem iblk1 (h1 : m ((c : Thread nD τ).loc main_arg1) = aQ K) (t : Fin cfg0.N) : iblk m c 1 t = (re (heads K t.val) : FVec Ideal (M 2048 128) .bf16) := by
  unfold iblk
  rw [show V m c (Pipeline.arrRef spec0 1) = aQ K from (V_main_arg1 m c).trans h1]
  funext y
  show ((K (win0_1.index t 0 * 2048 + 1 * (y 0).val) (win0_1.index t 1 * 128 + 1 * (y 1).val) : ℝ) : EReal) = ((K (y 0).val (128 * t.val + (y 1).val) : ℝ) : EReal)
  rw [(at1 t).1, (at1 t).2, zero_mul, zero_add, one_mul, one_mul, mul_comm t.val]
theorem iblk2 (h2 : IsV (m ((c : Thread nD τ).loc main_arg2)) W) (t : Fin cfg0.N) : iblk m c 2 t = (re (heads W t.val) : FVec Ideal (M 2048 128) .f32) := by
  unfold iblk
  rw [show V m c (Pipeline.arrRef spec0 2) = m ((c : Thread nD τ).loc main_arg2) from V_main_arg2 m c]
  funext y
  have ht : t.val < 16 := t.isLt
  have hy : (y 1).val < 128 := (y 1).isLt
  refine Eq.trans (congrArg (m ((c : Thread nD τ).loc main_arg2)) (funext fun a => Fin.ext ?_)) (congrFun h2 (ix2 (y 0) ⟨128 * t.val + (y 1).val, by omega⟩))
  match a with
  | ⟨0, _⟩ =>
    show win0_2.index t 0 * 2048 + 1 * (y 0).val = 0 + (y 0).val
    rw [(at2 t).1]
    omega
  | ⟨1, _⟩ =>
    show win0_2.index t 1 * 128 + 1 * (y 1).val = 4096 + (128 * t.val + (y 1).val)
    rw [(at2 t).2]
    omega
theorem iblk4 (h3 : m ((c : Thread nD τ).loc main_arg3) = aD D) (t : Fin cfg0.N) : iblk m c 4 t = (re (heads D t.val) : FVec Ideal (M 2048 128) .f32) := by
  unfold iblk
  rw [show V m c (Pipeline.arrRef spec0 4) = aD D from (V_main_arg3 m c).trans h3]
  funext y
  show ((D (win0_4.index t 0 * 2048 + 1 * (y 0).val) (win0_4.index t 1 * 128 + 1 * (y 1).val) : ℝ) : EReal) = ((D (y 0).val (128 * t.val + (y 1).val) : ℝ) : EReal)
  rw [(at4 t).1, (at4 t).2, zero_mul, zero_add, one_mul, one_mul, mul_comm t.val]
theorem iblk3 (h0 : m ((c : Thread nD τ).loc main_arg0) = aQ Q) (h1 : m ((c : Thread nD τ).loc main_arg1) = aQ K) (t : Fin cfg0.N) :
    iblk m c 3 t = (re (totM (heads Q t.val) (heads K t.val)) : FVec Ideal (M 2048 128) .f32) := by
  unfold iblk
  rw [show V m c (Pipeline.arrRef spec0 3) = (re (unheads fun h t _ => totG (heads Q h) (heads K h) t) : FVec Ideal (M 2048 2048) .f32) from V_tot_re h0 h1]
  funext y
  have hy : (y 1).val < 128 := (y 1).isLt
  show ((totG (heads Q ((win0_3.index t 1 * 128 + 1 * (y 1).val) / 128)) (heads K ((win0_3.index t 1 * 128 + 1 * (y 1).val) / 128)) (win0_3.index t 0 * 2048 + 1 * (y 0).val) : ℝ) : EReal)
    = ((totG (heads Q t.val) (heads K t.val) (y 0).val : ℝ) : EReal)
  rw [(at3 t).1, (at3 t).2, zero_mul, zero_add, one_mul, one_mul, show (t.val * 128 + (y 1).val) / 128 = t.val by omega]

theorem hdIs (q k d : ℕ → ℕ → ℝ) : HdIs q k d (hd (re q : FVec Ideal (M 2048 128) .bf16) (re (totM q k) : FVec Ideal (M 2048 128) .f32) (re d : FVec Ideal (M 2048 128) .f32)) where
  hq := by
    funext y
    show ((q (0 + 1 * (y 0).val) (0 + 1 * (y 1).val) : ℝ) : EReal) = ((q (y 0).val (y 1).val : ℝ) : EReal)
    rw [zero_add, zero_add, one_mul, one_mul]
  hd := by
    funext y
    show ((d (0 + 1 * (y 0).val) (0 + 1 * (y 1).val) : ℝ) : EReal) = ((d (y 0).val (y 1).val : ℝ) : EReal)
    rw [zero_add, zero_add, one_mul, one_mul]
  ht := by
    unfold hd
    dsimp only
    unfold k0_pay207
    refine (shapeCast_self _ _).trans ?_
    funext y
    show ((totG q k (0 + 1 * (y 0).val) : ℝ) : EReal) = ((totG q k (y 0).val : ℝ) : EReal)
    rw [zero_add, one_mul]

/-! ## A head's gradients -/

variable (q k v d : ℕ → ℕ → ℝ)

theorem out5_re : out5 (F := Ideal) (re q : FVec Ideal (M 2048 128) .bf16) (K' k) (V' v) (re (totM q k) : FVec Ideal (M 2048 128) .f32) (re d : FVec Ideal (M 2048 128) .f32)
    = (re (dqG q k v d) : FVec Ideal (M 2048 128) .f32) := (inv8 q k v d (hdIs q k d)).dq

theorem out6_re : out6 (F := Ideal) (re q : FVec Ideal (M 2048 128) .bf16) (K' k) (V' v) (re (totM q k) : FVec Ideal (M 2048 128) .f32) (re d : FVec Ideal (M 2048 128) .f32)
    = (re (dkG q k v d) : FVec Ideal (M 2048 128) .f32) :=
  funext fun y => canon_stores _ _ (dkG q k v d) (dkB_re q k v d (hdIs q k d)) y 8 le_rfl (y 0).isLt

theorem out7_re : out7 (F := Ideal) (re q : FVec Ideal (M 2048 128) .bf16) (K' k) (V' v) (re (totM q k) : FVec Ideal (M 2048 128) .f32) (re d : FVec Ideal (M 2048 128) .f32)
    = (re (dvG q k d) : FVec Ideal (M 2048 128) .f32) :=
  funext fun y => canon_stores _ _ (dvG q k d) (dvB_re q k v d (hdIs q k d)) y 8 le_rfl (y 0).isLt

/-! ## The arrays -/

theorem at5 : ∀ t : Fin cfg0.N, win0_5.index t 0 = 0 ∧ win0_5.index t 1 = t.val := by decide +kernel
theorem at6 : ∀ t : Fin cfg0.N, win0_6.index t 0 = 0 ∧ win0_6.index t 1 = t.val := by decide +kernel
theorem at7 : ∀ t : Fin cfg0.N, win0_7.index t 0 = 0 ∧ win0_7.index t 1 = t.val := by decide +kernel

theorem unheads_at {α : Type} (G : ℕ → ℕ → ℕ → α) (t a b : ℕ) (hb : b < 128) : unheads G (0 * 2048 + 1 * a) (t * 128 + 1 * b) = G t a b := by
  unfold unheads
  rw [show (t * 128 + 1 * b) / 128 = t by omega, show (t * 128 + 1 * b) % 128 = b by omega, zero_mul, zero_add, one_mul]

/-- The head a column is in. -/
def headAt (i : S2048x2048.Idx) : Fin cfg0.N := ⟨(i 1).val / 128, by
  have : (i 1).val < 2048 := (i 1).isLt
  show (i 1).val / 128 < 16
  omega⟩

theorem cover5 (i : S2048x2048.Idx) : i ∈ ((cfg0.win 5).blk (headAt i)).view.set := by
  show i ∈ ((View.whole main_v24_0).slice (win0_5.rect (headAt i))).set
  rw [View.set_slice_whole, Rect.mem_set_unit]
  intro a
  match a with
  | ⟨0, _⟩ =>
    show win0_5.index (headAt i) 0 * 2048 ≤ (i 0).val ∧ (i 0).val < win0_5.index (headAt i) 0 * 2048 + 2048
    have : (i 0).val < 2048 := (i 0).isLt
    rw [(at5 _).1]
    omega
  | ⟨1, _⟩ =>
    show win0_5.index (headAt i) 1 * 128 ≤ (i 1).val ∧ (i 1).val < win0_5.index (headAt i) 1 * 128 + 128
    rw [(at5 _).2]
    show (i 1).val / 128 * 128 ≤ (i 1).val ∧ (i 1).val < (i 1).val / 128 * 128 + 128
    omega

theorem final5 (h0 : m ((c : Thread nD τ).loc main_arg0) = aQ Q) (h1 : m ((c : Thread nD τ).loc main_arg1) = aQ K)
    (h2 : IsV (m ((c : Thread nD τ).loc main_arg2)) W) (h3 : m ((c : Thread nD τ).loc main_arg3) = aD D) :
    (dats m 0 c).arrAt 5 cfg0.N = (re (unheads fun h => dqG (heads Q h) (heads K h) (heads W h) (heads D h)) : FVec Ideal (M 2048 2048) .f32) := by
  refine (dats m 0 c).arrAt_eq_of_cover 5 _ (fun t _ => ?_) fun i => ⟨headAt i, flush0_5 _, cover5 i⟩
  show (cfg0.win 5).cut (grid0.coords t) ((dats m 0 c).after 5 t) = _
  rw [after5, iblk0 h0, iblk1 h1, iblk2 h2, iblk3 h0 h1, iblk4 h3, out5_re]
  funext y
  have hy : (y 1).val < 128 := (y 1).isLt
  show _ = ((unheads (fun h => dqG (heads Q h) (heads K h) (heads W h) (heads D h)) (win0_5.index t 0 * 2048 + 1 * (y 0).val) (win0_5.index t 1 * 128 + 1 * (y 1).val) : ℝ) : EReal)
  rw [(at5 t).1, (at5 t).2, unheads_at _ _ _ _ hy]
  rfl

theorem cover6 (i : S2048x2048.Idx) : i ∈ ((cfg0.win 6).blk (headAt i)).view.set := by
  show i ∈ ((View.whole main_v24_1).slice (win0_6.rect (headAt i))).set
  rw [View.set_slice_whole, Rect.mem_set_unit]
  intro a
  match a with
  | ⟨0, _⟩ =>
    show win0_6.index (headAt i) 0 * 2048 ≤ (i 0).val ∧ (i 0).val < win0_6.index (headAt i) 0 * 2048 + 2048
    have : (i 0).val < 2048 := (i 0).isLt
    rw [(at6 _).1]
    omega
  | ⟨1, _⟩ =>
    show win0_6.index (headAt i) 1 * 128 ≤ (i 1).val ∧ (i 1).val < win0_6.index (headAt i) 1 * 128 + 128
    rw [(at6 _).2]
    show (i 1).val / 128 * 128 ≤ (i 1).val ∧ (i 1).val < (i 1).val / 128 * 128 + 128
    omega

theorem final6 (h0 : m ((c : Thread nD τ).loc main_arg0) = aQ Q) (h1 : m ((c : Thread nD τ).loc main_arg1) = aQ K)
    (h2 : IsV (m ((c : Thread nD τ).loc main_arg2)) W) (h3 : m ((c : Thread nD τ).loc main_arg3) = aD D) :
    (dats m 0 c).arrAt 6 cfg0.N = (re (unheads fun h => dkG (heads Q h) (heads K h) (heads W h) (heads D h)) : FVec Ideal (M 2048 2048) .f32) := by
  refine (dats m 0 c).arrAt_eq_of_cover 6 _ (fun t _ => ?_) fun i => ⟨headAt i, flush0_6 _, cover6 i⟩
  show (cfg0.win 6).cut (grid0.coords t) ((dats m 0 c).after 6 t) = _
  rw [after6, iblk0 h0, iblk1 h1, iblk2 h2, iblk3 h0 h1, iblk4 h3, out6_re]
  funext y
  have hy : (y 1).val < 128 := (y 1).isLt
  show _ = ((unheads (fun h => dkG (heads Q h) (heads K h) (heads W h) (heads D h)) (win0_6.index t 0 * 2048 + 1 * (y 0).val) (win0_6.index t 1 * 128 + 1 * (y 1).val) : ℝ) : EReal)
  rw [(at6 t).1, (at6 t).2, unheads_at _ _ _ _ hy]
  rfl

theorem cover7 (i : S2048x2048.Idx) : i ∈ ((cfg0.win 7).blk (headAt i)).view.set := by
  show i ∈ ((View.whole main_v24_2).slice (win0_7.rect (headAt i))).set
  rw [View.set_slice_whole, Rect.mem_set_unit]
  intro a
  match a with
  | ⟨0, _⟩ =>
    show win0_7.index (headAt i) 0 * 2048 ≤ (i 0).val ∧ (i 0).val < win0_7.index (headAt i) 0 * 2048 + 2048
    have : (i 0).val < 2048 := (i 0).isLt
    rw [(at7 _).1]
    omega
  | ⟨1, _⟩ =>
    show win0_7.index (headAt i) 1 * 128 ≤ (i 1).val ∧ (i 1).val < win0_7.index (headAt i) 1 * 128 + 128
    rw [(at7 _).2]
    show (i 1).val / 128 * 128 ≤ (i 1).val ∧ (i 1).val < (i 1).val / 128 * 128 + 128
    omega

theorem final7 (h0 : m ((c : Thread nD τ).loc main_arg0) = aQ Q) (h1 : m ((c : Thread nD τ).loc main_arg1) = aQ K)
    (h2 : IsV (m ((c : Thread nD τ).loc main_arg2)) W) (h3 : m ((c : Thread nD τ).loc main_arg3) = aD D) :
    (dats m 0 c).arrAt 7 cfg0.N = (re (unheads fun h => dvG (heads Q h) (heads K h) (heads D h)) : FVec Ideal (M 2048 2048) .f32) := by
  refine (dats m 0 c).arrAt_eq_of_cover 7 _ (fun t _ => ?_) fun i => ⟨headAt i, flush0_7 _, cover7 i⟩
  show (cfg0.win 7).cut (grid0.coords t) ((dats m 0 c).after 7 t) = _
  rw [after7, iblk0 h0, iblk1 h1, iblk2 h2, iblk3 h0 h1, iblk4 h3, out7_re]
  funext y
  have hy : (y 1).val < 128 := (y 1).isLt
  show _ = ((unheads (fun h => dvG (heads Q h) (heads K h) (heads D h)) (win0_7.index t 0 * 2048 + 1 * (y 0).val) (win0_7.index t 1 * 128 + 1 * (y 1).val) : ℝ) : EReal)
  rw [(at7 t).1, (at7 t).2, unheads_at _ _ _ _ hy]
  rfl

end Rows

end Cert.Proof.Attn
-- ==== Proof.Values.lean ====
/- What the two programs end with, for operands that are real. -/
module

public import proofs.«01_k».proof.Defs
public import proofs.«01_k».proof.Proof.Gen.ReferenceIdeal.Run
public import proofs.«01_k».proof.Proof.Gen.Pre_finite
public import proofs.«01_k».proof.Proof.RealOut
public import Idealize.ShloMosaic.Lib.Quiescent

@[expose] public section

set_option maxRecDepth 16384

noncomputable section

namespace Cert.Proof.Attn

open Idealize.ShloMosaic hiding ix1 ix2 ix3
open Idealize.ShloMosaic.TcCoe Idealize.SL.Sem
open Idealize.ShloMosaic.ValueIdx

/-! ## The operands are real -/

theorem real_of_lt (x : EReal) (h : Ideal.cmp .olt (max x (-x)) (FloatOps.ofBits (F := Ideal) .f32 0x7F800000#32) = 1#1) : ∃ r : ℝ, x = (r : EReal) := by
  rw [ofBits_inf] at h
  have h' : max x (-x) < ⊤ := by
    by_contra hn
    have : BitVec.ofBool (decide (max x (-x) < ⊤)) = 1#1 := h
    rw [decide_eq_false hn] at this
    exact absurd this (by decide)
  refine ⟨x.toReal, (EReal.coe_toReal (fun e => ?_) fun e => ?_).symm⟩
  · rw [e] at h'; exact absurd h' (by simp)
  · rw [e] at h'; exact absurd h' (by simp)

theorem and_one : ∀ x y : BitVec 1, IntOp.andi x y = 1#1 → x = 1#1 ∧ y = 1#1 := by decide

theorem exists_re {r c : ℕ} {φ : FTy} (A : FVec Ideal (M r c) φ) (h : ∀ i, ∃ x : ℝ, A i = (x : EReal)) : ∃ X : ℕ → ℕ → ℝ, A = re X := by
  choose f hf using h
  refine ⟨fun a b => if hab : a < r ∧ b < c then f (ix2 ⟨a, hab.1⟩ ⟨b, hab.2⟩) else 0, funext fun i => ?_⟩
  rw [hf]
  show _ = ((if hab : (i 0).val < r ∧ (i 1).val < c then f (ix2 ⟨(i 0).val, hab.1⟩ ⟨(i 1).val, hab.2⟩) else 0 : ℝ) : EReal)
  rw [dif_pos ⟨(i 0).isLt, (i 1).isLt⟩]
  refine congrArg (fun j => ((f j : ℝ) : EReal)) (funext fun a => ?_)
  match a with
  | ⟨0, _⟩ => rfl
  | ⟨1, _⟩ => rfl

theorem reals_of_pre (a0 a1 : FVec Ideal (M 2048 2048) .bf16) (a2 : FVec Ideal (M 2048 8192) .f32) (a3 : FVec Ideal (M 2048 2048) .f32)
    (h : Cert.Pre_finite.fn (F := Ideal) a0 a1 a2 a3 = fun _ => 1#1) :
    ∃ Q K W D : ℕ → ℕ → ℝ, a0 = aQ Q ∧ a1 = aQ K ∧ IsV a2 W ∧ a3 = aD D := by
  have at' (i : (M 2048 2048).Idx) := and_one _ _ (congrFun h i)
  have at'' (i : (M 2048 2048).Idx) := and_one _ _ (at' i).1
  have at''' (i : (M 2048 2048).Idx) := and_one _ _ (at'' i).1
  obtain ⟨Q, hQ⟩ := exists_re a0 fun i => real_of_lt _ (at''' i).1
  obtain ⟨K, hK⟩ := exists_re a1 fun i => real_of_lt _ (at''' i).2
  have hv : ∀ i, ∃ x : ℝ, extractStridedSlice (M 2048 2048) ![0, 4096] a2 Cert.ReferenceIdeal.Gen.slices_S2048x8192_S2048x2048_0_4096 i = (x : EReal) :=
    fun i => real_of_lt _ (at'' i).2
  obtain ⟨W, hW⟩ := exists_re (extractStridedSlice (M 2048 2048) ![0, 4096] a2 Cert.ReferenceIdeal.Gen.slices_S2048x8192_S2048x2048_0_4096) hv
  obtain ⟨D, hD⟩ := exists_re a3 fun i => real_of_lt _ (at' i).2
  exact ⟨Q, K, W, D, hQ, hK, hW, hD⟩

/-! ## The kernel's run -/

section Kernel

open Cert.KernelIdeal Cert.KernelIdeal.Gen

variable (m : (ℓ : Loc nD τ sig) → Buf (Elt Ideal) ℓ) (ρ : Dev nD → PrngReg) (Q K W D : Dev nD → ℕ → ℕ → ℝ)
  (h0 : ∀ c : Dev nD, m ((c : Thread nD τ).loc main_arg0) = aQ (Q c)) (h1 : ∀ c : Dev nD, m ((c : Thread nD τ).loc main_arg1) = aQ (K c))
  (h2 : ∀ c : Dev nD, IsV (m ((c : Thread nD τ).loc main_arg2)) (W c)) (h3 : ∀ c : Dev nD, m ((c : Thread nD τ).loc main_arg3) = aD (D c))

/-- The three gradients, every head's beside the last's. -/
def gq (c : Dev nD) : FVec Ideal (M 2048 2048) .f32 := re (unheads fun h => dqG (heads (Q c) h) (heads (K c) h) (heads (W c) h) (heads (D c) h))
def gk (c : Dev nD) : FVec Ideal (M 2048 2048) .f32 := re (unheads fun h => dkG (heads (Q c) h) (heads (K c) h) (heads (W c) h) (heads (D c) h))
def gv (c : Dev nD) : FVec Ideal (M 2048 2048) .f32 := re (unheads fun h => dvG (heads (Q c) h) (heads (K c) h) (heads (D c) h))

include h0 h1 h2 h3 in
theorem run_kernel : θ_run defs (onTc (τ := τ) (main (F := Ideal))) ⟨m, fun _ => 0, ρ⟩ (fun r => ∀ c : Dev nD,
      r.2.mem ((c.tc : Thread nD τ).loc main_v24_0) = gq Q K W D c
      ∧ r.2.mem ((c.tc : Thread nD τ).loc main_v24_1) = gk Q K W D c
      ∧ r.2.mem ((c.tc : Thread nD τ).loc main_v24_2) = gv Q K D c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 5).trans (final5 (h0 c) (h1 c) (h2 c) (h3 c)), ((h.1 c).1 6).trans (final6 (h0 c) (h1 c) (h2 c) (h3 c)),
      ((h.1 c).1 7).trans (final7 (h0 c) (h1 c) (h2 c) (h3 c)), h.2.1 c⟩)
    (θ_run_and (run_main m ρ) (frame_main m ρ))

end Kernel

/-! ## The reference's run -/

section Reference

open Cert.ReferenceIdeal Cert.ReferenceIdeal.Gen

theorem frame_ref (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h c).2.2.2, sem_eq_zero_of_no_sems (by decide) r.2⟩) (Cert.ReferenceIdeal.Value.run m ρ)

variable (m : (ℓ : Loc nD τ sig) → Buf (Elt Ideal) ℓ) (ρ : Dev nD → PrngReg) (Q K W D : Dev nD → ℕ → ℕ → ℝ)
  (h0 : ∀ c : Dev nD, m ((c : Thread nD τ).loc main_arg0) = aQ (Q c)) (h1 : ∀ c : Dev nD, m ((c : Thread nD τ).loc main_arg1) = aQ (K c))
  (h2 : ∀ c : Dev nD, IsV (m ((c : Thread nD τ).loc main_arg2)) (W c)) (h3 : ∀ c : Dev nD, m ((c : Thread nD τ).loc main_arg3) = aD (D c))

include h0 h1 h2 h3 in
theorem run_ref : θ_run defs (onTc (τ := τ) (main (F := Ideal))) ⟨m, fun _ => 0, ρ⟩ (fun r => ∀ c : Dev nD,
      r.2.mem ((c.tc : Thread nD τ).loc main_v55) = gq Q K W D c
      ∧ r.2.mem ((c.tc : Thread nD τ).loc main_v53) = gk Q K W D c
      ∧ r.2.mem ((c.tc : Thread nD τ).loc main_v51) = gv Q K D c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans ((Cert.ReferenceIdeal.Read.val_main_v55_eq m c).trans (by rw [h0, h1, h3]; exact ref_dq _ _ _ (h2 c))),
      (h c).2.1.trans ((Cert.ReferenceIdeal.Read.val_main_v53_eq m c).trans (by rw [h0, h1, h3]; exact ref_dk _ _ _ (h2 c))),
      (h c).2.2.1.trans ((Cert.ReferenceIdeal.Read.val_main_v51_eq m c).trans (by rw [h0, h1, h3]; exact ref_dv _ _ _)), (h c).2.2.2⟩)
    (Cert.ReferenceIdeal.Value.run m ρ)

end Reference

end Cert.Proof.Attn
-- ==== Proof.SbInValue.lean ====
/- The stick-breaking layers' input projection: the product of the forward pass and the weight's gradient. -/
module

public import proofs.«01_k».proof.Proof.Product
public import proofs.«01_k».proof.Proof.Gen.SbInIdeal.Frame

@[expose] public section

set_option maxRecDepth 16384

noncomputable section

namespace Cert.Proof.SbIn

open Cert.SbInIdeal Cert.SbInIdeal.Gen Cert.Proof.Prod
open Idealize.ShloMosaic hiding ix1 ix2 ix3
open Idealize.ShloMosaic.TcCoe Idealize.SL.Sem
open Idealize.ShloMosaic.ValueIdx

section Calls

variable {V : (c : Dev nD) → (b : Ref sig .tc) → Buf (Elt Ideal) ((c : Thread nD τ).loc b)} {c : Dev nD} {A B : ℕ → ℕ → EReal}

theorem tile0 (X : ℕ → ℕ → EReal) (Y : ℕ → ℕ → ℕ → EReal) : out0_2 (F := Ideal) (ar X : FVec Ideal (M 1024 2048) .bf16) (ar3 Y : FVec Ideal (M3 1 2048 512) .bf16)
    = (ar (mm 2048 X (Y 0)) : FVec Ideal (M 1024 512) .f32) := by
  unfold out0_2
  rw [View.canon_cons_unit_lit _ _ _ (by decide), View.ld_unit_lit _ _ (by decide), View.ld_unit_lit _ _ (by decide)]
  unfold k0_pay1
  dsimp only
  rw [show shapeCast S2048x512 (ar3 Y : FVec Ideal (M3 1 2048 512) .bf16) shapeCasts_S1x2048x512_S2048x512 = (ar (Y 0) : FVec Ideal (M 2048 512) .bf16) from ar3_one Y _]
  exact tile_nn X (Y 0) _

theorem at0 : ∀ t : Fin cfg0.N, win0_0.index t 0 = win0_2.index t 0 ∧ win0_0.index t 1 = 0
    ∧ win0_1.index t 0 = win0_2.index t 1 / 2 ∧ win0_1.index t 1 = 0 ∧ win0_1.index t 2 = win0_2.index t 1 % 2 := by decide +kernel
theorem onto0 : ∀ (p : Fin 2) (q : Fin 16), ∃ t : Fin cfg0.N, win0_2.index t = ![p.val, q.val] := by decide +kernel

theorem final0 (hA : V c main_arg0 = (ar A : FVec Ideal (M 2048 2048) .bf16)) (hB : V c main_v2 = (ar3 (cols 1024 B) : FVec Ideal (M3 8 2048 1024) .bf16)) :
    (dat0 V c).arrAt 2 cfg0.N = (ar (mm 2048 A B) : FVec Ideal (M 2048 8192) .f32) := by
  refine (dat0 V c).arrAt_eq_of_cover 2 _ (fun t _ => ?_) fun i => ?_
  · show (cfg0.win 2).cut (grid0.coords t) ((dat0 V c).after 2 t) = _
    rw [after0_2]
    unfold iblk0
    rw [show V c (Pipeline.arrRef spec0 0) = _ from hA, show V c (Pipeline.arrRef spec0 1) = _ from hB]
    obtain ⟨a0, a1, b0, b1, b2⟩ := at0 t
    refine (congrArg _ (tile0 (fun a k => A (win0_0.index t 0 * 1024 + 1 * a) (win0_0.index t 1 * 2048 + 1 * k))
      fun g k b => B (win0_1.index t 1 * 2048 + 1 * k) ((win0_1.index t 0 * 1 + 1 * g) * 1024 + (win0_1.index t 2 * 512 + 1 * b)))).trans ?_
    funext y
    have y1 : (y 1).val < 512 := (y 1).isLt
    show mm 2048 _ _ (y 0).val (y 1).val = mm 2048 A B (win0_2.index t 0 * 1024 + 1 * (y 0).val) (win0_2.index t 1 * 512 + 1 * (y 1).val)
    refine mm_congr (fun k _ => congrArg₂ A ?_ ?_) (fun k _ => congrArg₂ B ?_ ?_) <;> (try dsimp only) <;> omega
  · have h0 : (i 0).val < 2048 := (i 0).isLt
    have h1 : (i 1).val < 8192 := (i 1).isLt
    obtain ⟨t, ht⟩ := onto0 ⟨(i 0).val / 1024, by omega⟩ ⟨(i 1).val / 512, by omega⟩
    refine ⟨t, flush0_2 t, ?_⟩
    show i ∈ ((View.whole main_v3).slice (win0_2.rect t)).set
    rw [View.set_slice_whole]
    refine mem_block win0_2 t i (fun a => (congrFun ht a).trans ?_) (by decide) (fun a => rfl) rfl
    match a with
    | ⟨0, _⟩ => rfl
    | ⟨1, _⟩ => rfl

theorem tile1 (X Y : ℕ → ℕ → EReal) : out1_2 (F := Ideal) (ar X : FVec Ideal (M 2048 1024) .bf16) (ar Y : FVec Ideal (M 2048 512) .bf16)
    = (ar3 (fun _ => mm 2048 (T X) Y) : FVec Ideal (M3 1 1024 512) .bf16) := by
  unfold out1_2
  rw [View.canon_cons_unit_lit _ _ _ (by decide), View.ld_unit_lit _ _ (by decide), View.ld_unit_lit _ _ (by decide)]
  refine Eq.trans (congrArg (fun z => shapeCast S1x1024x512 (truncf (F := Ideal) .bf16 z bitsLt_bf16_f32) shapeCasts_S1024x512_S1x1024x512) (tile_tn X Y _)) ?_
  exact one_ar3 (φ := .bf16) (mm 2048 (T X) Y) _

theorem at1 : ∀ t : Fin cfg1.N, win1_0.index t 0 = 0 ∧ win1_0.index t 1 = win1_2.index t 1
    ∧ win1_1.index t 0 = 0 ∧ win1_1.index t 1 = win1_2.index t 0 * 2 + win1_2.index t 2 := by decide +kernel
theorem onto1 : ∀ (g : Fin 8) (p q : Fin 2), ∃ t : Fin cfg1.N, win1_2.index t = ![g.val, p.val, q.val] := by decide +kernel

theorem final1 (hA : V c main_arg0 = (ar A : FVec Ideal (M 2048 2048) .bf16)) (hB : V c main_arg2 = (ar B : FVec Ideal (M 2048 8192) .bf16)) :
    (dat1 V c).arrAt 2 cfg1.N = (ar3 (cols 1024 (mm 2048 (T A) B)) : FVec Ideal (M3 8 2048 1024) .bf16) := by
  refine (dat1 V c).arrAt_eq_of_cover 2 _ (fun t _ => ?_) fun i => ?_
  · show (cfg1.win 2).cut (grid1.coords t) ((dat1 V c).after 2 t) = _
    rw [after1_2]
    unfold iblk1
    rw [show V c (Pipeline.arrRef spec1 0) = _ from hA, show V c (Pipeline.arrRef spec1 1) = _ from hB]
    obtain ⟨a0, a1, b0, b1⟩ := at1 t
    refine (congrArg _ (tile1 (fun k a => A (win1_0.index t 0 * 2048 + 1 * k) (win1_0.index t 1 * 1024 + 1 * a))
      fun k b => B (win1_1.index t 0 * 2048 + 1 * k) (win1_1.index t 1 * 512 + 1 * b))).trans ?_
    funext y
    have y0 : (y 0).val < 1 := (y 0).isLt
    have e0 : (((cfg1.win 2).blk t).view.emb y 0).val = win1_2.index t 0 * 1 + 1 * (y 0).val := rfl
    have e1 : (((cfg1.win 2).blk t).view.emb y 1).val = win1_2.index t 1 * 1024 + 1 * (y 1).val := rfl
    have e2 : (((cfg1.win 2).blk t).view.emb y 2).val = win1_2.index t 2 * 512 + 1 * (y 2).val := rfl
    show _ = (ar3 (cols 1024 (mm 2048 (T A) B)) : FVec Ideal (M3 8 2048 1024) .bf16) (((cfg1.win 2).blk t).view.emb y)
    show _ = mm 2048 (T A) B _ _
    rw [e0, e1, e2]
    show mm 2048 (T fun k a => A (win1_0.index t 0 * 2048 + 1 * k) (win1_0.index t 1 * 1024 + 1 * a))
      (fun k b => B (win1_1.index t 0 * 2048 + 1 * k) (win1_1.index t 1 * 512 + 1 * b)) (y 1).val (y 2).val = _
    refine mm_congr (fun k _ => congrArg₂ A ?_ ?_) (fun k _ => congrArg₂ B ?_ ?_) <;> (try dsimp only) <;> omega
  · have h0 : (i 0).val < 8 := (i 0).isLt
    have h1 : (i 1).val < 2048 := (i 1).isLt
    have h2 : (i 2).val < 1024 := (i 2).isLt
    obtain ⟨t, ht⟩ := onto1 ⟨(i 0).val / 1, by omega⟩ ⟨(i 1).val / 1024, by omega⟩ ⟨(i 2).val / 512, by omega⟩
    refine ⟨t, flush1_2 t, ?_⟩
    show i ∈ ((View.whole main_v4).slice (win1_2.rect t)).set
    rw [View.set_slice_whole]
    refine mem_block win1_2 t i (fun a => (congrFun ht a).trans ?_) (by decide) (fun a => rfl) rfl
    match a with
    | ⟨0, _⟩ => rfl
    | ⟨1, _⟩ => rfl
    | ⟨2, _⟩ => rfl

end Calls

end Cert.Proof.SbIn

end
-- ==== Proof.Ends.lean ====
/- What a run in which no core owes anything starts from, and what its last state says of memory. -/
module

public import Idealize.ShloMosaic.Lib.Pipeline.RegionsLoop
public import Idealize.ShloMosaic.Lib.Pipeline.FrameSuffix
public import Idealize.ShloMosaic.Lib.Ring
public import Idealize.ShloMosaic.Lib.Tactic

@[expose] public section

noncomputable section

namespace Cert.Proof.Ends

open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] {nD : ℕ} {τ : Topo} {sig : RefSig}

local notation "𝕄" => MT nD τ sig Unit (Elt F) ℕ (UR sig nD τ) ℕ

/-- A core that holds its buffers lets every one of them be read. -/
theorem read (c : Dev nD) (W : Valuation τ sig (Elt F)) (X : sProp 𝕄) (s : Phys nD τ sig (Elt F)) :
    iprop((StableHlo.held (c : Thread nD τ) (Pipeline.ucRefs τ sig) W ∗ X) ∗ SI s)
      ⊢ |={Set.univ}=> (iprop(⌜∀ b ∈ Pipeline.ucRefs τ sig, s.mem.mem (c, b) = W b⌝ ∗ SI s) : sProp 𝕄) := by
  unfold StableHlo.held
  iintro ⟨⟨Hb, -⟩, HS⟩
  imodintro
  iapply (pointsTo_read_all (Pipeline.ucRefs τ sig) (fun b => (c, b)) W s)
  isplitl [Hb] <;> iassumption

/-- What the launch deals every core is its buffers at the launch's memory, its generator, and no debt. -/
theorem deal (m : (ℓ : Loc nD τ sig) → Buf (Elt F) ℓ) (ρ : Dev nD → PrngReg) (L : GSem nD τ sig → Finset Unit) (lv : GSem nD τ sig → Unit → ℕ) :
    iprop((bigSep Finset.univ fun c : Dev nD => iprop(unscopedBufs c (fun b => m ((c : Thread nD τ).loc b)) ∗ unscopedSems0 c
        ∗ owes (c : Thread nD τ) ((0 : Dev nD → CellTallies nD τ sig Unit) c) ∅ ∗ launchCred (0 : Dev nD → CellTallies nD τ sig Unit) c ∗ prngReg c (ρ c) ∗ BI.emp)) ∗ levAts L lv)
      ⊢ |={Set.univ}=> (bigSep Finset.univ fun c : Dev nD =>
        (iprop(StableHlo.held (c : Thread nD τ) (Pipeline.ucRefs τ sig) (fun b => m (c, b))
          ∗ (∃ r, prngReg c r) ∗ ∃ W, owes (c : Thread nD τ) (0 : CellTallies nD τ sig Unit) W) : sProp 𝕄)) := by
  refine Pipeline.initEach L lv fun c => ?_
  rw [show unscopedBufs c (fun b => m ((c : Thread nD τ).loc b)) = StableHlo.held (c : Thread nD τ) (Pipeline.ucRefs τ sig) (fun b => m (c, b))
    from Pipeline.unscopedBufs_held c (fun b => m (c, b))]
  iintro ⟨⟨Hb, -, Ho, -, Hg, -⟩, -⟩
  imodintro
  isplitl [Hb]
  · iexact Hb
  isplitl [Hg]
  · iexists _
    iexact Hg
  iexists ∅
  iexact Ho

/-- A host program of calls, run as its segments say, ends with every buffer as the last state says. -/
theorem regions {Λ₀ : Labels} {P : Type} [Fintype P] [DecidableEq P] (pcs : P → PCfg sig Λ₀ (Elt F)) (a : (p : P) → (pcs p).Adm)
    (pdats : (p : P) → (c : Dev nD) → Dat τ (Elt F) Unit ℕ (UR sig nD τ) ℕ (pin pcs a p) c)
    (inj : Function.Injective (cellOf (nD := nD) (τ := τ) (pin pcs a))) (defs₀ : Defs nD τ sig (Elt F) Λ₀) (𝒱₀ : Variants)
    (m : (ℓ : Loc nD τ sig) → Buf (Elt F) ℓ) (ρ : Dev nD → PrngReg)
    (main : Dev nD → Prog (TpuEff nD τ sig (Elt F) (Pipeline.Sig Λ₀ P fun p => (pcs p).Adm) .tc) PUnit)
    (segs : List (Seg pcs a pdats () defs₀ 𝒱₀ (fun _ => ∅) (fun _ _ => 0))) (hmain : ∀ c, main c = Seg.run segs) (hnd : (Seg.pipes segs).Nodup)
    (W : Dev nD → Valuation τ sig (Elt F))
    (hch : Seg.Chains
      (fun c => iprop(StableHlo.held (c : Thread nD τ) (Pipeline.ucRefs τ sig) (fun b => m (c, b)) ∗ (∃ r, prngReg c r) ∗ ∃ O, owes (c : Thread nD τ) (0 : CellTallies nD τ sig Unit) O)) segs
      fun c => iprop((StableHlo.held (c : Thread nD τ) (Pipeline.ucRefs τ sig) (W c) ∗ ∃ r, prngReg c r) ∗ ∃ O, owes (c : Thread nD τ) (0 : CellTallies nD τ sig Unit) O)) :
    θ_run (Pipeline.defs pcs defs₀) (onTc (τ := τ) main) ⟨m, fun _ => 0, ρ⟩ (fun r => ∀ c : Dev nD, ∀ b ∈ Pipeline.ucRefs τ sig, r.2.mem (c, b) = W c b) :=
  Pipeline.θ_run_regions_kit_sems pcs a pdats () inj emb₁ defs₀ 𝒱₀ (fun _ => ∅) (fun _ _ => 0) m ρ main segs
    (fun c Q => by rw [hmain c]) hnd (O₀ := 0) (hL := fun _ _ => rfl) (G := fun _ => iprop(emp))
    (u₀ := initOf (Pipeline.cells (pin pcs a) inj) (Pipeline.launchToks (pin pcs a) inj))
    (hu₀ := by
      iintro H
      imodintro
      isplitl [H]
      · iapply (show (ownU (initOf (Pipeline.cells (pin pcs a) inj) (Pipeline.launchToks (pin pcs a) inj)) : sProp 𝕄)
            ⊢ BI.own (emb₁ (initOf (Pipeline.cells (pin pcs a) inj) (Pipeline.launchToks (pin pcs a) inj))) from .rfl)
        iexact H
      iapply (show (BI.emp : sProp 𝕄) ⊢ bigSep Finset.univ (fun _ : Dev nD => (BI.emp : sProp 𝕄)) from by rw [BI.bigSep_emp_const])
      iempintro)
    (hch := hch) (hinit := deal m ρ _ _)
    (QY := fun c s => ∀ b ∈ Pipeline.ucRefs τ sig, s.mem (c, b) = W c b)
    (hfin := fun c s => read c (W c) _ s)
    (hQ := fun _ h _ => h)

end Cert.Proof.Ends

end
-- ==== Proof.SbInRun.lean ====
/- The two programs of the stick-breaking layers' input projection end with the same arrays. -/
module

public import proofs.«01_k».proof.Defs
public import proofs.«01_k».proof.Proof.SbInValue
public import proofs.«01_k».proof.Proof.Gen.SbIn
public import proofs.«01_k».proof.Proof.Gen.SbInIdeal
public import proofs.«01_k».proof.Proof.Gen.SbInRefIdeal.Run
public import proofs.«01_k».proof.Proof.Ends
public import Idealize.ShloMosaic.Lib.Quiescent
public import Idealize.ShloMosaic.Lib.Claim

@[expose] public section

set_option maxRecDepth 16384

noncomputable section

namespace Cert.Proof.SbIn

open Idealize.ShloMosaic hiding ix1 ix2 ix3
open Idealize.ShloMosaic.TcCoe
open Idealize.SL Idealize.SL.RA Idealize.SL.BI
open scoped Idealize.SL.BI
open Idealize.SL.BI.BIBase Idealize.SL.BI.Laws Idealize.SL.Sem
open Idealize.ShloMosaic.ValueIdx
open Cert.Proof.Prod

/-- The reference leaves its arguments and every counter alone. -/
theorem frame_ref (m : (ℓ : Loc Cert.SbInRefIdeal.nD Cert.SbInRefIdeal.τ Cert.SbInRefIdeal.sig) → Buf (Elt Ideal) ℓ) (ρ : Dev Cert.SbInRefIdeal.nD → PrngReg) :
    θ_run (Cert.SbInRefIdeal.defs (F := Ideal)) (onTc (τ := Cert.SbInRefIdeal.τ) (Cert.SbInRefIdeal.main (F := Ideal))) ⟨m, fun _ => 0, ρ⟩ (fun r => (∀ c : Dev Cert.SbInRefIdeal.nD,
      r.2.mem ((c.tc : Thread Cert.SbInRefIdeal.nD Cert.SbInRefIdeal.τ).loc Cert.SbInRefIdeal.main_arg0) = m ((c.tc : Thread Cert.SbInRefIdeal.nD Cert.SbInRefIdeal.τ).loc Cert.SbInRefIdeal.main_arg0)
      ∧ r.2.mem ((c.tc : Thread Cert.SbInRefIdeal.nD Cert.SbInRefIdeal.τ).loc Cert.SbInRefIdeal.main_arg1) = m ((c.tc : Thread Cert.SbInRefIdeal.nD Cert.SbInRefIdeal.τ).loc Cert.SbInRefIdeal.main_arg1)
      ∧ r.2.mem ((c.tc : Thread Cert.SbInRefIdeal.nD Cert.SbInRefIdeal.τ).loc Cert.SbInRefIdeal.main_arg2) = m ((c.tc : Thread Cert.SbInRefIdeal.nD Cert.SbInRefIdeal.τ).loc Cert.SbInRefIdeal.main_arg2)) ∧ r.2.sem = fun _ => 0) :=
  (θ_run _ _ _).mono (fun r h => ⟨fun c => (h c).2.2, sem_eq_zero_of_no_sems (by decide) r.2⟩) (Cert.SbInRefIdeal.Value.run m ρ)

open Cert.SbInIdeal Cert.SbInIdeal.Gen

variable (m : (ℓ : Loc nD τ sig) → Buf (Elt Ideal) ℓ) (ρ : Dev nD → PrngReg)

set_option backward.isDefEq.respectTransparency.types false in
/-- Every buffer ends as the last call leaves it. -/
theorem ends : θ_run defs (onTc (τ := τ) (main (F := Ideal))) ⟨m, fun _ => 0, ρ⟩ (fun r => ∀ c : Dev nD, ∀ b ∈ Pipeline.ucRefs τ sig, r.2.mem (c, b) = W3 m ρ c b) :=
  Ends.regions pcfgs adm (pdats m ρ) cellOf_inj defs₀ 𝒱₀ m ρ main (segs m ρ) (main_run m ρ)
    (by simp only [segs, Pipeline.Seg.pipes_host, Pipeline.Seg.pipes_region, Pipeline.Seg.pipes_nil]; decide)
    (W3 m ρ) ⟨fun _ => .rfl, fun _ => .rfl, fun _ => .rfl, fun _ => .rfl⟩

variable {m} in
open Idealize.ShloMosaic.StableHlo in
/-- The host changes the weight's format and writes its column blocks one after the other. -/
theorem weight {B : ℕ → ℕ → EReal} {c : Dev nD} (h1 : m ((c : Thread nD τ).loc main_arg1) = (ar B : FVec Ideal (M 2048 8192) .f32)) :
    V1 m ρ c main_v2 = (ar3 (cols 1024 B) : FVec Ideal (M3 8 2048 1024) .bf16) := by
  have h : V1 m ρ c main_v2 = transpose S8x2048x1024 [1, 0, 2] (shapeCast S2048x8x1024 (truncf (F := Ideal) .bf16 (m ((c : Thread nD τ).loc main_arg1)) bitsLt_bf16_f32) shapeCasts_S2048x8192_S2048x8x1024)
      transposes_S2048x8x1024_S8x2048x1024_1_0_2 := by
    show StableHlo.after hostOps0 (W0 m ρ c) _ = _
    simp only [hostOps0, TRef.unary, TRef.toBuf, TRef.ofBuf, cast_eq]
    after_results_simp <;> rfl
  rw [h, h1]
  exact ar_cols (φ := .bf16) _ _ _ rfl

/-- The kernel's tiled products are the reference's, the weight's gradient in column blocks. -/
theorem algebraic : Cert.algebraic_SbInIdeal_SbInRefIdeal := by
  intro m ρ m' ρ' _ e
  choose A h0 using fun c : Dev nD => exists_ar (m ((c : Thread nD τ).loc main_arg0) : FVec Ideal (M 2048 2048) .bf16)
  choose B h1 using fun c : Dev nD => exists_ar (m ((c : Thread nD τ).loc main_arg1) : FVec Ideal (M 2048 8192) .f32)
  choose D h2 using fun c : Dev nD => exists_ar (m ((c : Thread nD τ).loc main_arg2) : FVec Ideal (M 2048 8192) .bf16)
  refine ⟨fun c => (ar (mm 2048 (A c) (B c)) : FVec Ideal (M 2048 8192) .f32),
    fun c => (ar3 (cols 1024 (mm 2048 (T (A c)) (D c))) : FVec Ideal (M3 8 2048 1024) .bf16),
    (θ_run _ _ _).mono (fun _ h c => ⟨?_, ?_, h.2.1 c⟩) (θ_run_and (ends m ρ) (frame m ρ)),
    (θ_run _ _ _).mono (fun _ h c => ⟨?_, ?_, (h c).2.2⟩) (Cert.SbInRefIdeal.Value.run m' ρ')⟩
  · exact (h.1 c _ (mem_uc main_v3 (by decide))).trans ((W3_of m ρ c main_v3 (by decide)).trans ((W2_arr m ρ c 2).trans (
      final0 ((W1_args m ρ c main_arg0 (by decide)).trans (h0 c)) (weight ρ (h1 c)))))
  · exact (h.1 c _ (mem_uc main_v4 (by decide))).trans ((W3_arr m ρ c 2).trans (
      final1 ((W2_args m ρ c main_arg0 (by decide)).trans (h0 c)) ((W2_args m ρ c main_arg2 (by decide)).trans (h2 c))))
  · rw [(h c).1, (e c).1, (e c).2.1, h0, h1]
    exact host_nn (φ₁ := .f32) (φ₂ := .f32) (A c) (B c) _
  · rw [(h c).2.1, (e c).1, (e c).2.2, h0, h2]
    refine (congrArg (fun z => transpose (M3 8 2048 1024) [1, 0, 2] (shapeCast (M3 2048 8 1024) z _) _) (host_tn (φ₁ := .f32) (φ₂ := .f32) (D c) (A c) _ _)).trans ?_
    exact ar_cols (φ := .f32) _ _ _ rfl

end Cert.Proof.SbIn

end
-- ==== Proof.SbInBackValue.lean ====
/- The stick-breaking layers' input projection, backward to its input: what the call leaves in its result. -/
module

public import proofs.«01_k».proof.Proof.Product
public import proofs.«01_k».proof.Proof.Gen.SbInBackIdeal.Value
public import Idealize.ShloMosaic.Lib.Pipeline.ValueKit.Acc

@[expose] public section

set_option maxRecDepth 16384

noncomputable section

namespace Cert.Proof.SbInBack

open Cert.SbInBackIdeal Cert.SbInBackIdeal.Gen Cert.Proof.Prod
open Idealize.ShloMosaic hiding ix1 ix2 ix3
open Idealize.ShloMosaic.TcCoe Idealize.SL.Sem
open Idealize.ShloMosaic.ValueIdx

variable (m : (ℓ : Loc nD τ sig) → Buf (Elt Ideal) ℓ) {c : Dev nD} {A B : ℕ → ℕ → EReal}

/-- A group of columns of a block of the first operand, and one of the second, which lies in column blocks. -/
abbrev ldA (x : Vec Ideal S1024x4096 .bf16) (p : ℕ) (h : ∀ a, (![0, p] : Fin 2 → ℕ) a + (![1024, 1024] : Fin 2 → ℕ) a ≤ S1024x4096.size a) : Vec Ideal S1024x1024 .bf16 :=
  View.ld x (Rect.unit ![0, p] ![1024, 1024] h)
abbrev ldB (y : Vec Ideal S4x512x1024 .bf16) (o : ℕ) (h : ∀ a, (![o, 0, 0] : Fin 3 → ℕ) a + (![1, 512, 1024] : Fin 3 → ℕ) a ≤ S4x512x1024.size a) : Vec Ideal S1x512x1024 .bf16 :=
  View.ld y (Rect.unit ![o, 0, 0] ![1, 512, 1024] h)

section Part

variable {X Y : ℕ → ℕ → EReal} {x : Vec Ideal S1024x4096 .bf16} {y : Vec Ideal S4x512x1024 .bf16}
  (hx : x = (ar X : FVec Ideal (M 1024 4096) .bf16)) (hy : y = (ar3 (cols 1024 Y) : FVec Ideal (M3 4 512 1024) .bf16))

include hx hy in
/-- A group of columns of the two blocks, multiplied. -/
theorem quarter (o p : ℕ) (hp : p = o * 1024) (hX hY) :
    matmul (φ₁ := .bf16) (φ₂ := .bf16) dot_S1024x1024_S512x1024_S1024x512_1_1_0_0_n_n none (ldA x p hX) (shapeCast S512x1024 (ldB y o hY) shapeCasts_S1x512x1024_S512x1024)
        (constant S1024x512 .f32 0x00000000#32)
      = (ar (mm 1024 (fun a k => X a (p + k)) (fun k b => Y b (p + k))) : FVec Ideal (M 1024 512) .f32) := by
  subst hp hx hy
  have e : shapeCast S512x1024 (ldB (ar3 (cols 1024 Y) : FVec Ideal (M3 4 512 1024) .bf16) o hY) shapeCasts_S1x512x1024_S512x1024
      = (ar (fun a k => Y (0 + 1 * a) ((o + 1 * 0) * 1024 + (0 + 1 * k))) : FVec Ideal (M 512 1024) .bf16) :=
    ar3_one (φ := .bf16) (r := 512) (c := 1024) (fun g a k => Y (0 + 1 * a) ((o + 1 * g) * 1024 + (0 + 1 * k))) shapeCasts_S1x512x1024_S512x1024
  rw [e, show ldA (ar X : FVec Ideal (M 1024 4096) .bf16) (o * 1024) hX = (ar (fun a k => X (0 + 1 * a) (o * 1024 + 1 * k)) : FVec Ideal (M 1024 1024) .bf16) from rfl]
  refine (tile_nt (φ₁ := .bf16) (φ₂ := .bf16) _ _ _).trans (ar_congr fun a _ b _ => mm_congr (fun k _ => ?_) fun k _ => ?_)
  · exact congrArg₂ X (by omega) (by omega)
  · exact congrArg₂ Y (by omega) (by omega)

include hx hy in
/-- What a point adds: the product over its 4096 columns, taken 1024 at a time. -/
theorem part :
    k0_pay1 (F := Ideal) (ldA x 0 inb_S1024x4096_S1024x1024_0_0) (ldB y 0 inb_S4x512x1024_S1x512x1024_0_0_0) (ldA x 1024 inb_S1024x4096_S1024x1024_0_1024) (ldB y 1 inb_S4x512x1024_S1x512x1024_1_0_0)
        (ldA x 2048 inb_S1024x4096_S1024x1024_0_2048) (ldB y 2 inb_S4x512x1024_S1x512x1024_2_0_0) (ldA x 3072 inb_S1024x4096_S1024x1024_0_3072) (ldB y 3 inb_S4x512x1024_S1x512x1024_3_0_0)
      = (ar (mm 4096 X (T Y)) : FVec Ideal (M 1024 512) .f32) := by
  unfold k0_pay1
  dsimp only
  rw [quarter hx hy 0 0 rfl, quarter hx hy 1 1024 rfl, quarter hx hy 2 2048 rfl, quarter hx hy 3 3072 rfl]
  refine Eq.trans (b := (ar (fun a b => mm 1024 (fun a k => X a (0 + k)) (fun k b => Y b (0 + k)) a b + mm 1024 (fun a k => X a (1024 + k)) (fun k b => Y b (1024 + k)) a b
    + mm 1024 (fun a k => X a (2048 + k)) (fun k b => Y b (2048 + k)) a b + mm 1024 (fun a k => X a (3072 + k)) (fun k b => Y b (3072 + k)) a b) : FVec Ideal (M 1024 512) .f32)) rfl
    (ar_congr fun a _ b _ => ?_)
  rw [show (4096 : ℕ) = 1024 + 1024 + 1024 + 1024 from rfl, mm_add, mm_add, mm_add]
  exact congrArg (· + _ + _ + _) (mm_congr (fun k _ => congrArg (X _) (zero_add k)) fun k _ => congrArg (Y _) (zero_add k))

end Part

variable (hA : V m c main_arg1 = (ar A : FVec Ideal (M 2048 8192) .bf16)) (hB : V m c main_v2 = (ar3 (cols 1024 B) : FVec Ideal (M3 8 2048 1024) .bf16))

theorem at0 : ∀ t : Fin cfg0.N, win0_0.index t = ![win0_2.index t 0, t.val % 2] ∧ win0_1.index t = ![t.val % 2, win0_2.index t 1, 0] := by decide +kernel
theorem same0 : ∀ t u : Fin cfg0.N, t.val % 2 = 1 → u.val = t.val - 1 → win0_2.index u = win0_2.index t := by decide +kernel

include hA in
theorem left (t : Fin cfg0.N) {h : ℕ} (e : t.val % 2 = h) : iblk m c 0 t = (ar (blk ![win0_2.index t 0, h] 1024 4096 A) : FVec Ideal (M 1024 4096) .bf16) := by
  rw [← e, ← (at0 t).1]
  exact congrArg ((win0_0.blk t).view.read _) hA

include hB in
theorem right (t : Fin cfg0.N) {h : ℕ} (e : t.val % 2 = h) : iblk m c 1 t = (ar3 (cols 1024 (blk ![win0_2.index t 1, h] 512 4096 B)) : FVec Ideal (M3 4 512 1024) .bf16) := by
  refine (congrArg ((win0_1.blk t).view.read _) hB).trans ?_
  funext i
  show B (win0_1.index t 1 * 512 + 1 * (i 1).val) ((win0_1.index t 0 * 4 + 1 * (i 0).val) * 1024 + (win0_1.index t 2 * 1024 + 1 * (i 2).val)) = _
  rw [(at0 t).2, e]
  exact congrArg (B _) (by show (h * 4 + 1 * (i 0).val) * 1024 + (0 * 1024 + 1 * (i 2).val) = h * 4096 + 1 * ((i 0).val * 1024 + (i 2).val); omega)

include hA hB in
/-- The first half of the sum, kept for the next point. -/
theorem even (t : Fin cfg0.N) (h : t.val % 2 = 0) :
    (outsAt0 m c t.val t.isLt).2 = (ar (mm 4096 (blk ![win0_2.index t 0, 0] 1024 4096 A) (T (blk ![win0_2.index t 1, 0] 512 4096 B))) : FVec Ideal (M 1024 512) .f32) := by
  rw [outsAt0_A m c t h (by omega) (by omega)]
  frame_out
  unfold k0_pay2
  dsimp only
  rw [shapeCast_self]
  exact part (left m hA t h) (right m hB t h)

include hA hB in
/-- The whole sum, written at the second. -/
theorem odd (t : Fin cfg0.N) (h : t.val % 2 = 1) :
    (outsAt0 m c t.val t.isLt).1 = (ar (fun a b => mm 8192 A (T B) (win0_2.index t 0 * 1024 + 1 * a) (win0_2.index t 1 * 512 + 1 * b)) : FVec Ideal (M 1024 512) .f32) := by
  have e := even m hA hB ⟨t.val - 1, by omega⟩ (by dsimp only; omega)
  rw [same0 t ⟨t.val - 1, by omega⟩ h rfl] at e
  rw [outsAt0_B m c t (by omega) h h]
  frame_out
  unfold k0_pay3
  dsimp only
  rw [shapeCast_self]
  refine (congrArg₂ addf (((Memref.isWhole_whole _).read_unread _).trans e) (part (left m hA t h) (right m hB t h))).trans ((ar_add _ _).trans (ar_congr fun a _ b _ => ?_))
  rw [show (8192 : ℕ) = 4096 + 4096 from rfl, mm_add]
  refine congrArg₂ (· + ·) (mm_congr (fun k _ => congrArg (A _) ?_) fun k _ => congrArg (B _) ?_) (mm_congr (fun k _ => congrArg (A _) ?_) fun k _ => congrArg (B _) ?_)
  · show 0 * 4096 + 1 * k = k; omega
  · show 0 * 4096 + 1 * k = k; omega
  · show 1 * 4096 + 1 * k = 4096 + k; omega
  · show 1 * 4096 + 1 * k = 4096 + k; omega

include hA hB in
theorem final : (dats m 0 c).arrAt 2 cfg0.N = (ar (mm 8192 A (T B)) : FVec Ideal (M 2048 2048) .f32) := by
  refine (dats m 0 c).arrAt_eq_of_cover 2 _ (fun t hf => ?_) fun i => (Value.covered_iff2 i).2 ⟨Nat.zero_le _, (i 0).isLt, Nat.zero_le _, (i 1).isLt⟩
  show (cfg0.win 2).cut (grid0.coords t) ((dats m 0 c).after 2 t) = _
  rw [after0_2, odd m hA hB t ((flush0_2 t).mp hf)]
  rfl

end Cert.Proof.SbInBack

end
-- ==== Proof.SbInBackRun.lean ====
/- The two programs of the stick-breaking layers' input projection, backward to its input, end with the same arrays. -/
module

public import proofs.«01_k».proof.Defs
public import proofs.«01_k».proof.Proof.SbInBackValue
public import proofs.«01_k».proof.Proof.Gen.SbInBack
public import proofs.«01_k».proof.Proof.Gen.SbInBackIdeal
public import proofs.«01_k».proof.Proof.Gen.SbInBackRefIdeal.Run
public import Idealize.ShloMosaic.Lib.Quiescent

@[expose] public section

set_option maxRecDepth 16384

noncomputable section

namespace Cert.Proof.SbInBack

open Idealize.ShloMosaic hiding ix1 ix2 ix3
open Idealize.ShloMosaic.TcCoe
open Idealize.SL Idealize.SL.RA Idealize.SL.BI
open scoped Idealize.SL.BI
open Idealize.SL.BI.BIBase Idealize.SL.BI.Laws Idealize.SL.Sem
open Idealize.ShloMosaic.ValueIdx
open Cert.Proof.Prod

/-- The reference leaves its arguments and every counter alone. -/
theorem frame_ref (m : (ℓ : Loc Cert.SbInBackRefIdeal.nD Cert.SbInBackRefIdeal.τ Cert.SbInBackRefIdeal.sig) → Buf (Elt Ideal) ℓ) (ρ : Dev Cert.SbInBackRefIdeal.nD → PrngReg) :
    θ_run (Cert.SbInBackRefIdeal.defs (F := Ideal)) (onTc (τ := Cert.SbInBackRefIdeal.τ) (Cert.SbInBackRefIdeal.main (F := Ideal))) ⟨m, fun _ => 0, ρ⟩ (fun r => (∀ c : Dev Cert.SbInBackRefIdeal.nD,
      r.2.mem ((c.tc : Thread Cert.SbInBackRefIdeal.nD Cert.SbInBackRefIdeal.τ).loc Cert.SbInBackRefIdeal.main_arg0) = m ((c.tc : Thread Cert.SbInBackRefIdeal.nD Cert.SbInBackRefIdeal.τ).loc Cert.SbInBackRefIdeal.main_arg0)
      ∧ r.2.mem ((c.tc : Thread Cert.SbInBackRefIdeal.nD Cert.SbInBackRefIdeal.τ).loc Cert.SbInBackRefIdeal.main_arg1) = m ((c.tc : Thread Cert.SbInBackRefIdeal.nD Cert.SbInBackRefIdeal.τ).loc Cert.SbInBackRefIdeal.main_arg1)) ∧ r.2.sem = fun _ => 0) :=
  (θ_run _ _ _).mono (fun r h => ⟨fun c => (h c).2, sem_eq_zero_of_no_sems (by decide) r.2⟩) (Cert.SbInBackRefIdeal.Value.run m ρ)

open Cert.SbInBackIdeal Cert.SbInBackIdeal.Gen

variable {m : (ℓ : Loc nD τ sig) → Buf (Elt Ideal) ℓ}

open Idealize.ShloMosaic.StableHlo in
/-- The host changes the weight's format and writes its column blocks one after the other. -/
theorem weight {B : ℕ → ℕ → EReal} {c : Dev nD} (h0 : m ((c : Thread nD τ).loc main_arg0) = (ar B : FVec Ideal (M 2048 8192) .f32)) :
    V m c main_v2 = (ar3 (cols 1024 B) : FVec Ideal (M3 8 2048 1024) .bf16) := by
  have h : V m c main_v2 = transpose S8x2048x1024 [1, 0, 2] (shapeCast S2048x8x1024 (truncf (F := Ideal) .bf16 (m ((c : Thread nD τ).loc main_arg0)) bitsLt_bf16_f32) shapeCasts_S2048x8192_S2048x8x1024)
      transposes_S2048x8x1024_S8x2048x1024_1_0_2 := by
    show StableHlo.after hostOps0 (fun b => m (c, b)) _ = _
    simp only [hostOps0, TRef.unary, TRef.toBuf, TRef.ofBuf, cast_eq]
    after_results_simp <;> rfl
  rw [h, h0]
  exact ar_cols (φ := .bf16) _ _ _ rfl

open Idealize.ShloMosaic.StableHlo in
theorem cotangent (c : Dev nD) : V m c main_arg1 = m ((c : Thread nD τ).loc main_arg1) := by
  show StableHlo.after hostOps0 (fun b => m (c, b)) _ = _
  simp only [hostOps0, TRef.unary, TRef.toBuf, TRef.ofBuf, cast_eq]
  after_results_simp <;> rfl

/-- The kernel's product, summed in two steps of four blocks, is the reference's. -/
theorem algebraic : Cert.algebraic_SbInBackIdeal_SbInBackRefIdeal := by
  intro m ρ m' ρ' _ e
  choose B h0 using fun c : Dev nD => exists_ar (m ((c : Thread nD τ).loc main_arg0) : FVec Ideal (M 2048 8192) .f32)
  choose A h1 using fun c : Dev nD => exists_ar (m ((c : Thread nD τ).loc main_arg1) : FVec Ideal (M 2048 8192) .bf16)
  refine ⟨fun c => (ar (mm 8192 (A c) (T (B c))) : FVec Ideal (M 2048 2048) .f32),
    (θ_run _ _ _).mono (fun _ h c => ⟨(h c).1.trans ?_, (h c).2⟩) (Value.run_blocks m ρ),
    (θ_run _ _ _).mono (fun _ h c => ⟨(h c).1.trans ?_, (h c).2⟩) (Cert.SbInBackRefIdeal.Value.run m' ρ')⟩
  · exact final m ((cotangent c).trans (h1 c)) (weight (h0 c))
  · rw [(e c).1, (e c).2, h0, h1]
    exact host_nt (φ₁ := .f32) (φ₂ := .f32) (A c) (B c) _

end Cert.Proof.SbInBack

end
-- ==== Proof.PleGateValue.lean ====
/- The gate's three products: what each call leaves in its result. -/
module

public import proofs.«01_k».proof.Proof.Product
public import proofs.«01_k».proof.Proof.Gen.PleGateIdeal.Frame
public import Idealize.ShloMosaic.Lib.Pipeline.ValueKit.Geometry

@[expose] public section

set_option maxRecDepth 16384

noncomputable section

namespace Cert.Proof.PleGate

open Cert.PleGateIdeal Cert.PleGateIdeal.Gen Cert.Proof.Prod
open Idealize.ShloMosaic hiding ix1 ix2 ix3
open Idealize.ShloMosaic.TcCoe Idealize.SL.Sem
open Idealize.ShloMosaic.ValueIdx

variable {V : (c : Dev nD) → (b : Ref sig .tc) → Buf (Elt Ideal) ((c : Thread nD τ).loc b)} {c : Dev nD} {A B D : ℕ → ℕ → EReal}

theorem tile0 (X Y : ℕ → ℕ → EReal) : out0_2 (F := Ideal) (ar X : FVec Ideal (M 1024 2048) .bf16) (ar Y : FVec Ideal (M 2048 512) .bf16)
    = (ar (mm 2048 X Y) : FVec Ideal (M 1024 512) .f32) := by
  unfold out0_2 k0_pay1
  rw [View.canon_cons_unit_lit _ _ _ (by decide), View.ld_unit_lit _ _ (by decide), View.ld_unit_lit _ _ (by decide)]
  dsimp only
  rw [shapeCast_self]
  exact tile_nn (φ₁ := .bf16) (φ₂ := .bf16) X Y _

theorem at0 : ∀ t : Fin cfg0.N, win0_0.index t = ![win0_2.index t 0, 0] ∧ win0_1.index t = ![0, win0_2.index t 1] := by decide +kernel

theorem final0 (hA : V c main_arg0 = (ar A : FVec Ideal (M 2048 2048) .bf16)) (hB : V c main_v0 = (ar B : FVec Ideal (M 2048 2048) .bf16)) :
    (dat0 V c).arrAt 2 cfg0.N = (ar (mm 2048 A B) : FVec Ideal (M 2048 2048) .f32) := by
  refine (dat0 V c).arrAt_eq_of_covers 2 _ (by decide +kernel) fun t _ y => ?_
  obtain ⟨a, b⟩ := at0 t
  refine (congrFun (((after0_2 V c t).trans (congrArg₂ out0_2 (congrArg ((win0_0.blk t).view.read _) hA) (congrArg ((win0_1.blk t).view.read _) hB))).trans
    (tile0 (blk (win0_0.index t) 1024 2048 A) (blk (win0_1.index t) 2048 512 B))) y).trans ?_
  rw [a, b]
  exact mm_blk 2048 (win0_2.index t 0) (win0_2.index t 1) 1024 512 A B (y 0).val (y 1).val

theorem tile1 (X Y : ℕ → ℕ → EReal) : out1_2 (F := Ideal) (ar X : FVec Ideal (M 2048 1024) .bf16) (ar Y : FVec Ideal (M 2048 512) .bf16)
    = (ar (mm 2048 (T X) Y) : FVec Ideal (M 1024 512) .bf16) := by
  unfold out1_2 k1_pay1
  rw [View.canon_cons_unit_lit _ _ _ (by decide), View.ld_unit_lit _ _ (by decide), View.ld_unit_lit _ _ (by decide)]
  exact tile_tn (φ₁ := .bf16) (φ₂ := .bf16) X Y _

theorem at1 : ∀ t : Fin cfg1.N, win1_0.index t = ![0, win1_2.index t 0] ∧ win1_1.index t = ![0, win1_2.index t 1] := by decide +kernel

theorem final1 (hA : V c main_arg0 = (ar A : FVec Ideal (M 2048 2048) .bf16)) (hB : V c main_arg2 = (ar B : FVec Ideal (M 2048 2048) .bf16)) :
    (dat1 V c).arrAt 2 cfg1.N = (ar (mm 2048 (T A) B) : FVec Ideal (M 2048 2048) .bf16) := by
  refine (dat1 V c).arrAt_eq_of_covers 2 _ (by decide +kernel) fun t _ y => ?_
  obtain ⟨a, b⟩ := at1 t
  refine (congrFun (((after1_2 V c t).trans (congrArg₂ out1_2 (congrArg ((win1_0.blk t).view.read _) hA) (congrArg ((win1_1.blk t).view.read _) hB))).trans
    (tile1 (blk (win1_0.index t) 2048 1024 A) (blk (win1_1.index t) 2048 512 B))) y).trans ?_
  rw [a, b]
  exact mm_blk 2048 (win1_2.index t 0) (win1_2.index t 1) 1024 512 (T A) B (y 0).val (y 1).val

theorem tile2 (X Y : ℕ → ℕ → EReal) : out2_2 (F := Ideal) (ar X : FVec Ideal (M 1024 2048) .bf16) (ar Y : FVec Ideal (M 512 2048) .bf16)
    = (ar (mm 2048 X (T Y)) : FVec Ideal (M 1024 512) .f32) := by
  unfold out2_2 k2_pay1
  rw [View.canon_cons_unit_lit _ _ _ (by decide), View.ld_unit_lit _ _ (by decide), View.ld_unit_lit _ _ (by decide)]
  dsimp only
  rw [shapeCast_self]
  exact tile_nt (φ₁ := .bf16) (φ₂ := .bf16) X Y _

theorem at2 : ∀ t : Fin cfg2.N, win2_0.index t = ![win2_2.index t 0, 0] ∧ win2_1.index t = ![win2_2.index t 1, 0] := by decide +kernel

theorem final2 (hA : V c main_arg2 = (ar A : FVec Ideal (M 2048 2048) .bf16)) (hB : V c main_v0 = (ar B : FVec Ideal (M 2048 2048) .bf16)) :
    (dat2 V c).arrAt 2 cfg2.N = (ar (mm 2048 A (T B)) : FVec Ideal (M 2048 2048) .f32) := by
  refine (dat2 V c).arrAt_eq_of_covers 2 _ (by decide +kernel) fun t _ y => ?_
  obtain ⟨a, b⟩ := at2 t
  refine (congrFun (((after2_2 V c t).trans (congrArg₂ out2_2 (congrArg ((win2_0.blk t).view.read _) hA) (congrArg ((win2_1.blk t).view.read _) hB))).trans
    (tile2 (blk (win2_0.index t) 1024 2048 A) (blk (win2_1.index t) 512 2048 B))) y).trans ?_
  rw [a, b]
  exact mm_blk 2048 (win2_2.index t 0) (win2_2.index t 1) 1024 512 A (T B) (y 0).val (y 1).val

end Cert.Proof.PleGate

end
-- ==== Proof.PleGateRun.lean ====
/- The two programs of the gate's products end with the same arrays. -/
module

public import proofs.«01_k».proof.Defs
public import proofs.«01_k».proof.Proof.PleGateValue
public import proofs.«01_k».proof.Proof.Gen.PleGate
public import proofs.«01_k».proof.Proof.Gen.PleGateIdeal
public import proofs.«01_k».proof.Proof.Gen.PleGateRefIdeal.Run
public import proofs.«01_k».proof.Proof.Ends
public import Idealize.ShloMosaic.Lib.Quiescent
public import Idealize.ShloMosaic.Lib.Claim

@[expose] public section

set_option maxRecDepth 16384

noncomputable section

namespace Cert.Proof.PleGate

open Idealize.ShloMosaic hiding ix1 ix2 ix3
open Idealize.ShloMosaic.TcCoe
open Idealize.SL Idealize.SL.RA Idealize.SL.BI
open scoped Idealize.SL.BI
open Idealize.SL.BI.BIBase Idealize.SL.BI.Laws Idealize.SL.Sem
open Idealize.ShloMosaic.ValueIdx
open Cert.Proof.Prod

/-- The reference leaves its arguments and every counter alone. -/
theorem frame_ref (m : (ℓ : Loc Cert.PleGateRefIdeal.nD Cert.PleGateRefIdeal.τ Cert.PleGateRefIdeal.sig) → Buf (Elt Ideal) ℓ) (ρ : Dev Cert.PleGateRefIdeal.nD → PrngReg) :
    θ_run (Cert.PleGateRefIdeal.defs (F := Ideal)) (onTc (τ := Cert.PleGateRefIdeal.τ) (Cert.PleGateRefIdeal.main (F := Ideal))) ⟨m, fun _ => 0, ρ⟩ (fun r => (∀ c : Dev Cert.PleGateRefIdeal.nD,
      r.2.mem ((c.tc : Thread Cert.PleGateRefIdeal.nD Cert.PleGateRefIdeal.τ).loc Cert.PleGateRefIdeal.main_arg0) = m ((c.tc : Thread Cert.PleGateRefIdeal.nD Cert.PleGateRefIdeal.τ).loc Cert.PleGateRefIdeal.main_arg0)
      ∧ r.2.mem ((c.tc : Thread Cert.PleGateRefIdeal.nD Cert.PleGateRefIdeal.τ).loc Cert.PleGateRefIdeal.main_arg1) = m ((c.tc : Thread Cert.PleGateRefIdeal.nD Cert.PleGateRefIdeal.τ).loc Cert.PleGateRefIdeal.main_arg1)
      ∧ r.2.mem ((c.tc : Thread Cert.PleGateRefIdeal.nD Cert.PleGateRefIdeal.τ).loc Cert.PleGateRefIdeal.main_arg2) = m ((c.tc : Thread Cert.PleGateRefIdeal.nD Cert.PleGateRefIdeal.τ).loc Cert.PleGateRefIdeal.main_arg2)) ∧ r.2.sem = fun _ => 0) :=
  (θ_run _ _ _).mono (fun r h => ⟨fun c => (h c).2.2.2, sem_eq_zero_of_no_sems (by decide) r.2⟩) (Cert.PleGateRefIdeal.Value.run m ρ)

open Cert.PleGateIdeal Cert.PleGateIdeal.Gen

variable (m : (ℓ : Loc nD τ sig) → Buf (Elt Ideal) ℓ) (ρ : Dev nD → PrngReg)

set_option backward.isDefEq.respectTransparency.types false in
/-- Every buffer ends as the last call leaves it. -/
theorem ends : θ_run defs (onTc (τ := τ) (main (F := Ideal))) ⟨m, fun _ => 0, ρ⟩ (fun r => ∀ c : Dev nD, ∀ b ∈ Pipeline.ucRefs τ sig, r.2.mem (c, b) = W4 m ρ c b) :=
  Ends.regions pcfgs adm (pdats m ρ) cellOf_inj defs₀ 𝒱₀ m ρ main (segs m ρ) (main_run m ρ)
    (by simp only [segs, Pipeline.Seg.pipes_host, Pipeline.Seg.pipes_region, Pipeline.Seg.pipes_nil]; decide)
    (W4 m ρ) ⟨fun _ => .rfl, fun _ => .rfl, fun _ => .rfl, fun _ => .rfl, fun _ => .rfl⟩

variable {m} in
open Idealize.ShloMosaic.StableHlo in
/-- The host changes the weight's format. -/
theorem weight {B : ℕ → ℕ → EReal} {c : Dev nD} (h1 : m ((c : Thread nD τ).loc main_arg1) = (ar B : FVec Ideal (M 2048 2048) .f32)) :
    V1 m ρ c main_v0 = (ar B : FVec Ideal (M 2048 2048) .bf16) := by
  have h : V1 m ρ c main_v0 = truncf (F := Ideal) .bf16 (m ((c : Thread nD τ).loc main_arg1)) bitsLt_bf16_f32 := by
    show StableHlo.after hostOps0 (W0 m ρ c) _ = _
    simp only [hostOps0, TRef.unary, TRef.toBuf, TRef.ofBuf, cast_eq]
    after_results_simp <;> rfl
  rw [h, h1]
  rfl

/-- The kernel's tiled products are the reference's. -/
theorem algebraic : Cert.algebraic_PleGateIdeal_PleGateRefIdeal := by
  intro m ρ m' ρ' _ e
  choose A h0 using fun c : Dev nD => exists_ar (m ((c : Thread nD τ).loc main_arg0) : FVec Ideal (M 2048 2048) .bf16)
  choose B h1 using fun c : Dev nD => exists_ar (m ((c : Thread nD τ).loc main_arg1) : FVec Ideal (M 2048 2048) .f32)
  choose D h2 using fun c : Dev nD => exists_ar (m ((c : Thread nD τ).loc main_arg2) : FVec Ideal (M 2048 2048) .bf16)
  refine ⟨fun c => (ar (mm 2048 (A c) (B c)) : FVec Ideal (M 2048 2048) .f32),
    fun c => (ar (mm 2048 (T (A c)) (D c)) : FVec Ideal (M 2048 2048) .bf16),
    fun c => (ar (mm 2048 (D c) (T (B c))) : FVec Ideal (M 2048 2048) .f32),
    (θ_run _ _ _).mono (fun _ h c => ⟨?_, ?_, ?_, h.2.1 c⟩) (θ_run_and (ends m ρ) (frame m ρ)),
    (θ_run _ _ _).mono (fun _ h c => ⟨?_, ?_, ?_, (h c).2.2.2⟩) (Cert.PleGateRefIdeal.Value.run m' ρ')⟩
  · exact (h.1 c _ (mem_uc main_v1 (by decide))).trans ((W4_of m ρ c main_v1 (by decide)).trans ((W3_of m ρ c main_v1 (by decide)).trans ((W2_arr m ρ c 2).trans (
      final0 ((W1_args m ρ c main_arg0 (by decide)).trans (h0 c)) (weight ρ (h1 c))))))
  · exact (h.1 c _ (mem_uc main_v2 (by decide))).trans ((W4_of m ρ c main_v2 (by decide)).trans ((W3_arr m ρ c 2).trans (
      final1 ((W2_args m ρ c main_arg0 (by decide)).trans (h0 c)) ((W2_args m ρ c main_arg2 (by decide)).trans (h2 c)))))
  · exact (h.1 c _ (mem_uc main_v3 (by decide))).trans ((W4_arr m ρ c 2).trans (
      final2 ((W3_args m ρ c main_arg2 (by decide)).trans (h2 c)) ((W3_of m ρ c main_v0 (by decide)).trans ((W2_of m ρ c main_v0 (by decide)).trans (weight ρ (h1 c))))))
  · rw [(h c).1, (e c).1, (e c).2.1, h0, h1]
    exact host_nn (φ₁ := .f32) (φ₂ := .f32) (A c) (B c) _
  · rw [(h c).2.1, (e c).1, (e c).2.2, h0, h2]
    exact host_tn (φ₁ := .f32) (φ₂ := .f32) (D c) (A c) _ _
  · rw [(h c).2.2.1, (e c).2.1, (e c).2.2, h1, h2]
    exact host_nt (φ₁ := .f32) (φ₂ := .f32) (D c) (B c) _

end Cert.Proof.PleGate

end
-- ==== Proof.SbOutValue.lean ====
/- The stick-breaking layers' output projection: what each of its three calls leaves in its result. -/
module

public import proofs.«01_k».proof.Proof.Product
public import proofs.«01_k».proof.Proof.Gen.SbOutIdeal.Frame
public import Idealize.ShloMosaic.Lib.Pipeline.ValueKit.Geometry

@[expose] public section

set_option maxRecDepth 16384

noncomputable section

namespace Cert.Proof.SbOut

open Cert.SbOutIdeal Cert.SbOutIdeal.Gen Cert.Proof.Prod
open Idealize.ShloMosaic hiding ix1 ix2 ix3
open Idealize.ShloMosaic.TcCoe Idealize.SL.Sem
open Idealize.ShloMosaic.ValueIdx

variable {V : (c : Dev nD) → (b : Ref sig .tc) → Buf (Elt Ideal) ((c : Thread nD τ).loc b)} {c : Dev nD} {A B D : ℕ → ℕ → EReal}

theorem tile0 (X Y Z : ℕ → ℕ → EReal) : out0_3 (F := Ideal) (ar X : FVec Ideal (M 1024 2048) .bf16) (ar Y : FVec Ideal (M 2048 512) .bf16) (ar Z : FVec Ideal (M 1024 512) .f32)
    = (ar (fun a b => mm 2048 X Y a b + Z a b) : FVec Ideal (M 1024 512) .f32) := by
  unfold out0_3 k0_pay1
  rw [View.canon_cons_unit_lit _ _ _ (by decide), View.ld_unit_lit _ _ (by decide), View.ld_unit_lit _ _ (by decide), View.ld_unit_lit _ _ (by decide)]
  dsimp only
  rw [shapeCast_self]
  exact (congrArg (addf · (ar Z)) (tile_nn (φ₁ := .bf16) (φ₂ := .bf16) X Y _)).trans (ar_add _ Z)

theorem at0 : ∀ t : Fin cfg0.N, win0_0.index t = ![win0_3.index t 0, 0] ∧ win0_1.index t = ![0, win0_3.index t 1] ∧ win0_2.index t = win0_3.index t := by decide +kernel

theorem final0 (hA : V c main_arg0 = (ar A : FVec Ideal (M 2048 2048) .bf16)) (hB : V c main_v0 = (ar B : FVec Ideal (M 2048 2048) .bf16)) (hD : V c main_arg2 = (ar D : FVec Ideal (M 2048 2048) .f32)) :
    (dat0 V c).arrAt 3 cfg0.N = (ar (fun a b => mm 2048 A B a b + D a b) : FVec Ideal (M 2048 2048) .f32) := by
  refine (dat0 V c).arrAt_eq_of_covers 3 _ (by decide +kernel) fun t _ y => ?_
  obtain ⟨a, b, d⟩ := at0 t
  refine (congrFun (((after0_3 V c t).trans (congr (congrArg₂ out0_3 (congrArg ((win0_0.blk t).view.read _) hA) (congrArg ((win0_1.blk t).view.read _) hB)) (congrArg ((win0_2.blk t).view.read _) hD))).trans
    (tile0 (blk (win0_0.index t) 1024 2048 A) (blk (win0_1.index t) 2048 512 B) (blk (win0_2.index t) 1024 512 D))) y).trans ?_
  rw [a, b, d]
  exact congrArg (· + D (win0_3.index t 0 * 1024 + 1 * (y 0).val) (win0_3.index t 1 * 512 + 1 * (y 1).val)) (mm_blk 2048 (win0_3.index t 0) (win0_3.index t 1) 1024 512 A B (y 0).val (y 1).val)

theorem tile1 (X Y : ℕ → ℕ → EReal) : out1_2 (F := Ideal) (ar X : FVec Ideal (M 2048 1024) .bf16) (ar Y : FVec Ideal (M 2048 512) .f32)
    = (ar (mm 2048 (T X) Y) : FVec Ideal (M 1024 512) .bf16) := by
  unfold out1_2 k1_pay1
  rw [View.canon_cons_unit_lit _ _ _ (by decide), View.ld_unit_lit _ _ (by decide), View.ld_unit_lit _ _ (by decide)]
  exact tile_tn (φ₁ := .bf16) (φ₂ := .bf16) X Y _

theorem at1 : ∀ t : Fin cfg1.N, win1_0.index t = ![0, win1_2.index t 0] ∧ win1_1.index t = ![0, win1_2.index t 1] := by decide +kernel

theorem final1 (hA : V c main_arg0 = (ar A : FVec Ideal (M 2048 2048) .bf16)) (hB : V c main_arg3 = (ar B : FVec Ideal (M 2048 2048) .f32)) :
    (dat1 V c).arrAt 2 cfg1.N = (ar (mm 2048 (T A) B) : FVec Ideal (M 2048 2048) .bf16) := by
  refine (dat1 V c).arrAt_eq_of_covers 2 _ (by decide +kernel) fun t _ y => ?_
  obtain ⟨a, b⟩ := at1 t
  refine (congrFun (((after1_2 V c t).trans (congrArg₂ out1_2 (congrArg ((win1_0.blk t).view.read _) hA) (congrArg ((win1_1.blk t).view.read _) hB))).trans
    (tile1 (blk (win1_0.index t) 2048 1024 A) (blk (win1_1.index t) 2048 512 B))) y).trans ?_
  rw [a, b]
  exact mm_blk 2048 (win1_2.index t 0) (win1_2.index t 1) 1024 512 (T A) B (y 0).val (y 1).val

theorem tile2 (X Y : ℕ → ℕ → EReal) : out2_2 (F := Ideal) (ar X : FVec Ideal (M 1024 2048) .f32) (ar Y : FVec Ideal (M 512 2048) .bf16)
    = (ar (mm 2048 X (T Y)) : FVec Ideal (M 1024 512) .f32) := by
  unfold out2_2 k2_pay1
  rw [View.canon_cons_unit_lit _ _ _ (by decide), View.ld_unit_lit _ _ (by decide), View.ld_unit_lit _ _ (by decide)]
  dsimp only
  rw [shapeCast_self]
  exact tile_nt (φ₁ := .bf16) (φ₂ := .bf16) X Y _

theorem at2 : ∀ t : Fin cfg2.N, win2_0.index t = ![win2_2.index t 0, 0] ∧ win2_1.index t = ![win2_2.index t 1, 0] := by decide +kernel

theorem final2 (hA : V c main_arg3 = (ar A : FVec Ideal (M 2048 2048) .f32)) (hB : V c main_v0 = (ar B : FVec Ideal (M 2048 2048) .bf16)) :
    (dat2 V c).arrAt 2 cfg2.N = (ar (mm 2048 A (T B)) : FVec Ideal (M 2048 2048) .f32) := by
  refine (dat2 V c).arrAt_eq_of_covers 2 _ (by decide +kernel) fun t _ y => ?_
  obtain ⟨a, b⟩ := at2 t
  refine (congrFun (((after2_2 V c t).trans (congrArg₂ out2_2 (congrArg ((win2_0.blk t).view.read _) hA) (congrArg ((win2_1.blk t).view.read _) hB))).trans
    (tile2 (blk (win2_0.index t) 1024 2048 A) (blk (win2_1.index t) 512 2048 B))) y).trans ?_
  rw [a, b]
  exact mm_blk 2048 (win2_2.index t 0) (win2_2.index t 1) 1024 512 A (T B) (y 0).val (y 1).val

end Cert.Proof.SbOut

end
-- ==== Proof.SbOutRun.lean ====
/- The two programs of the stick-breaking layers' output projection end with the same arrays. -/
module

public import proofs.«01_k».proof.Defs
public import proofs.«01_k».proof.Proof.SbOutValue
public import proofs.«01_k».proof.Proof.Gen.SbOut
public import proofs.«01_k».proof.Proof.Gen.SbOutIdeal
public import proofs.«01_k».proof.Proof.Gen.SbOutRefIdeal.Run
public import proofs.«01_k».proof.Proof.Ends
public import Idealize.ShloMosaic.Lib.Quiescent
public import Idealize.ShloMosaic.Lib.Claim

@[expose] public section

set_option maxRecDepth 16384

noncomputable section

namespace Cert.Proof.SbOut

open Idealize.ShloMosaic hiding ix1 ix2 ix3
open Idealize.ShloMosaic.TcCoe
open Idealize.SL Idealize.SL.RA Idealize.SL.BI
open scoped Idealize.SL.BI
open Idealize.SL.BI.BIBase Idealize.SL.BI.Laws Idealize.SL.Sem
open Idealize.ShloMosaic.ValueIdx
open Cert.Proof.Prod

/-- The reference leaves its arguments and every counter alone. -/
theorem frame_ref (m : (ℓ : Loc Cert.SbOutRefIdeal.nD Cert.SbOutRefIdeal.τ Cert.SbOutRefIdeal.sig) → Buf (Elt Ideal) ℓ) (ρ : Dev Cert.SbOutRefIdeal.nD → PrngReg) :
    θ_run (Cert.SbOutRefIdeal.defs (F := Ideal)) (onTc (τ := Cert.SbOutRefIdeal.τ) (Cert.SbOutRefIdeal.main (F := Ideal))) ⟨m, fun _ => 0, ρ⟩ (fun r => (∀ c : Dev Cert.SbOutRefIdeal.nD,
      r.2.mem ((c.tc : Thread Cert.SbOutRefIdeal.nD Cert.SbOutRefIdeal.τ).loc Cert.SbOutRefIdeal.main_arg0) = m ((c.tc : Thread Cert.SbOutRefIdeal.nD Cert.SbOutRefIdeal.τ).loc Cert.SbOutRefIdeal.main_arg0)
      ∧ r.2.mem ((c.tc : Thread Cert.SbOutRefIdeal.nD Cert.SbOutRefIdeal.τ).loc Cert.SbOutRefIdeal.main_arg1) = m ((c.tc : Thread Cert.SbOutRefIdeal.nD Cert.SbOutRefIdeal.τ).loc Cert.SbOutRefIdeal.main_arg1)
      ∧ r.2.mem ((c.tc : Thread Cert.SbOutRefIdeal.nD Cert.SbOutRefIdeal.τ).loc Cert.SbOutRefIdeal.main_arg2) = m ((c.tc : Thread Cert.SbOutRefIdeal.nD Cert.SbOutRefIdeal.τ).loc Cert.SbOutRefIdeal.main_arg2)
      ∧ r.2.mem ((c.tc : Thread Cert.SbOutRefIdeal.nD Cert.SbOutRefIdeal.τ).loc Cert.SbOutRefIdeal.main_arg3) = m ((c.tc : Thread Cert.SbOutRefIdeal.nD Cert.SbOutRefIdeal.τ).loc Cert.SbOutRefIdeal.main_arg3)) ∧ r.2.sem = fun _ => 0) :=
  (θ_run _ _ _).mono (fun r h => ⟨fun c => (h c).2.2.2, sem_eq_zero_of_no_sems (by decide) r.2⟩) (Cert.SbOutRefIdeal.Value.run m ρ)

open Cert.SbOutIdeal Cert.SbOutIdeal.Gen

variable (m : (ℓ : Loc nD τ sig) → Buf (Elt Ideal) ℓ) (ρ : Dev nD → PrngReg)

set_option backward.isDefEq.respectTransparency.types false in
/-- Every buffer ends as the last call leaves it. -/
theorem ends : θ_run defs (onTc (τ := τ) (main (F := Ideal))) ⟨m, fun _ => 0, ρ⟩ (fun r => ∀ c : Dev nD, ∀ b ∈ Pipeline.ucRefs τ sig, r.2.mem (c, b) = W4 m ρ c b) :=
  Ends.regions pcfgs adm (pdats m ρ) cellOf_inj defs₀ 𝒱₀ m ρ main (segs m ρ) (main_run m ρ)
    (by simp only [segs, Pipeline.Seg.pipes_host, Pipeline.Seg.pipes_region, Pipeline.Seg.pipes_nil]; decide)
    (W4 m ρ) ⟨fun _ => .rfl, fun _ => .rfl, fun _ => .rfl, fun _ => .rfl, fun _ => .rfl⟩

variable {m} in
open Idealize.ShloMosaic.StableHlo in
/-- The host changes the weight's format. -/
theorem weight {B : ℕ → ℕ → EReal} {c : Dev nD} (h1 : m ((c : Thread nD τ).loc main_arg1) = (ar B : FVec Ideal (M 2048 2048) .f32)) :
    V1 m ρ c main_v0 = (ar B : FVec Ideal (M 2048 2048) .bf16) := by
  have h : V1 m ρ c main_v0 = truncf (F := Ideal) .bf16 (m ((c : Thread nD τ).loc main_arg1)) bitsLt_bf16_f32 := by
    show StableHlo.after hostOps0 (W0 m ρ c) _ = _
    simp only [hostOps0, TRef.unary, TRef.toBuf, TRef.ofBuf, cast_eq]
    after_results_simp <;> rfl
  rw [h, h1]
  rfl

/-- The kernel's tiled products are the reference's. -/
theorem algebraic : Cert.algebraic_SbOutIdeal_SbOutRefIdeal := by
  intro m ρ m' ρ' _ e
  choose A h0 using fun c : Dev nD => exists_ar (m ((c : Thread nD τ).loc main_arg0) : FVec Ideal (M 2048 2048) .bf16)
  choose B h1 using fun c : Dev nD => exists_ar (m ((c : Thread nD τ).loc main_arg1) : FVec Ideal (M 2048 2048) .f32)
  choose D h2 using fun c : Dev nD => exists_ar (m ((c : Thread nD τ).loc main_arg2) : FVec Ideal (M 2048 2048) .f32)
  choose E h3 using fun c : Dev nD => exists_ar (m ((c : Thread nD τ).loc main_arg3) : FVec Ideal (M 2048 2048) .f32)
  refine ⟨fun c => (ar (fun a b => mm 2048 (A c) (B c) a b + D c a b) : FVec Ideal (M 2048 2048) .f32),
    fun c => (ar (mm 2048 (T (A c)) (E c)) : FVec Ideal (M 2048 2048) .bf16),
    fun c => (ar (mm 2048 (E c) (T (B c))) : FVec Ideal (M 2048 2048) .f32),
    (θ_run _ _ _).mono (fun _ h c => ⟨?_, ?_, ?_, h.2.1 c⟩) (θ_run_and (ends m ρ) (frame m ρ)),
    (θ_run _ _ _).mono (fun _ h c => ⟨?_, ?_, ?_, (h c).2.2.2⟩) (Cert.SbOutRefIdeal.Value.run m' ρ')⟩
  · exact (h.1 c _ (mem_uc main_v1 (by decide))).trans ((W4_of m ρ c main_v1 (by decide)).trans ((W3_of m ρ c main_v1 (by decide)).trans ((W2_arr m ρ c 3).trans (
      final0 ((W1_args m ρ c main_arg0 (by decide)).trans (h0 c)) (weight ρ (h1 c)) ((W1_args m ρ c main_arg2 (by decide)).trans (h2 c))))))
  · exact (h.1 c _ (mem_uc main_v2 (by decide))).trans ((W4_of m ρ c main_v2 (by decide)).trans ((W3_arr m ρ c 2).trans (
      final1 ((W2_args m ρ c main_arg0 (by decide)).trans (h0 c)) ((W2_args m ρ c main_arg3 (by decide)).trans (h3 c)))))
  · exact (h.1 c _ (mem_uc main_v3 (by decide))).trans ((W4_arr m ρ c 2).trans (
      final2 ((W3_args m ρ c main_arg3 (by decide)).trans (h3 c)) ((W3_of m ρ c main_v0 (by decide)).trans ((W2_of m ρ c main_v0 (by decide)).trans (weight ρ (h1 c))))))
  · rw [(h c).1, (e c).1, (e c).2.1, (e c).2.2.1, h0, h1, h2]
    exact (congrArg (addf (ar (D c) : FVec Ideal (M 2048 2048) .f32)) (host_nn (φ₁ := .f32) (φ₂ := .f32) (A c) (B c) _)).trans (add_ar _ _)
  · rw [(h c).2.1, (e c).1, (e c).2.2.2, h0, h3]
    exact host_tn (φ₁ := .f32) (φ₂ := .f32) (E c) (A c) _ _
  · rw [(h c).2.2.1, (e c).2.1, (e c).2.2.2, h1, h3]
    exact host_nt (φ₁ := .f32) (φ₂ := .f32) (E c) (B c) _

end Cert.Proof.SbOut

end
-- ==== Proof.SsdOutValue.lean ====
/- The state-space layers' output projection: what each of its three calls leaves in its result. -/
module

public import proofs.«01_k».proof.Proof.Product
public import proofs.«01_k».proof.Proof.Gen.SsdOutIdeal.Frame
public import Idealize.ShloMosaic.Lib.Pipeline.ValueKit.Geometry

@[expose] public section

set_option maxRecDepth 16384

noncomputable section

namespace Cert.Proof.SsdOut

open Cert.SsdOutIdeal Cert.SsdOutIdeal.Gen Cert.Proof.Prod
open Idealize.ShloMosaic hiding ix1 ix2 ix3
open Idealize.ShloMosaic.TcCoe Idealize.SL.Sem
open Idealize.ShloMosaic.ValueIdx

variable {V : (c : Dev nD) → (b : Ref sig .tc) → Buf (Elt Ideal) ((c : Thread nD τ).loc b)} {c : Dev nD} {A B D : ℕ → ℕ → EReal}

theorem tile0 (X Y Z : ℕ → ℕ → EReal) : out0_3 (F := Ideal) (ar X : FVec Ideal (M 1024 4096) .bf16) (ar Y : FVec Ideal (M 4096 512) .bf16) (ar Z : FVec Ideal (M 1024 512) .f32)
    = (ar (fun a b => mm 4096 X Y a b + Z a b) : FVec Ideal (M 1024 512) .f32) := by
  unfold out0_3 k0_pay1
  rw [View.canon_cons_unit_lit _ _ _ (by decide), View.ld_unit_lit _ _ (by decide), View.ld_unit_lit _ _ (by decide), View.ld_unit_lit _ _ (by decide)]
  dsimp only
  rw [shapeCast_self]
  exact (congrArg (addf · (ar Z)) (tile_nn (φ₁ := .bf16) (φ₂ := .bf16) X Y _)).trans (ar_add _ Z)

theorem at0 : ∀ t : Fin cfg0.N, win0_0.index t = ![win0_3.index t 0, 0] ∧ win0_1.index t = ![0, win0_3.index t 1] ∧ win0_2.index t = win0_3.index t := by decide +kernel

theorem final0 (hA : V c main_arg0 = (ar A : FVec Ideal (M 2048 4096) .bf16)) (hB : V c main_v0 = (ar B : FVec Ideal (M 4096 2048) .bf16)) (hD : V c main_arg2 = (ar D : FVec Ideal (M 2048 2048) .f32)) :
    (dat0 V c).arrAt 3 cfg0.N = (ar (fun a b => mm 4096 A B a b + D a b) : FVec Ideal (M 2048 2048) .f32) := by
  refine (dat0 V c).arrAt_eq_of_covers 3 _ (by decide +kernel) fun t _ y => ?_
  obtain ⟨a, b, d⟩ := at0 t
  refine (congrFun (((after0_3 V c t).trans (congr (congrArg₂ out0_3 (congrArg ((win0_0.blk t).view.read _) hA) (congrArg ((win0_1.blk t).view.read _) hB)) (congrArg ((win0_2.blk t).view.read _) hD))).trans
    (tile0 (blk (win0_0.index t) 1024 4096 A) (blk (win0_1.index t) 4096 512 B) (blk (win0_2.index t) 1024 512 D))) y).trans ?_
  rw [a, b, d]
  exact congrArg (· + D (win0_3.index t 0 * 1024 + 1 * (y 0).val) (win0_3.index t 1 * 512 + 1 * (y 1).val)) (mm_blk 4096 (win0_3.index t 0) (win0_3.index t 1) 1024 512 A B (y 0).val (y 1).val)

theorem tile1 (X Y : ℕ → ℕ → EReal) : out1_2 (F := Ideal) (ar X : FVec Ideal (M 2048 1024) .bf16) (ar Y : FVec Ideal (M 2048 512) .f32)
    = (ar (mm 2048 (T X) Y) : FVec Ideal (M 1024 512) .bf16) := by
  unfold out1_2 k1_pay1
  rw [View.canon_cons_unit_lit _ _ _ (by decide), View.ld_unit_lit _ _ (by decide), View.ld_unit_lit _ _ (by decide)]
  exact tile_tn (φ₁ := .bf16) (φ₂ := .bf16) X Y _

theorem at1 : ∀ t : Fin cfg1.N, win1_0.index t = ![0, win1_2.index t 0] ∧ win1_1.index t = ![0, win1_2.index t 1] := by decide +kernel

theorem final1 (hA : V c main_arg0 = (ar A : FVec Ideal (M 2048 4096) .bf16)) (hB : V c main_arg3 = (ar B : FVec Ideal (M 2048 2048) .f32)) :
    (dat1 V c).arrAt 2 cfg1.N = (ar (mm 2048 (T A) B) : FVec Ideal (M 4096 2048) .bf16) := by
  refine (dat1 V c).arrAt_eq_of_covers 2 _ (by decide +kernel) fun t _ y => ?_
  obtain ⟨a, b⟩ := at1 t
  refine (congrFun (((after1_2 V c t).trans (congrArg₂ out1_2 (congrArg ((win1_0.blk t).view.read _) hA) (congrArg ((win1_1.blk t).view.read _) hB))).trans
    (tile1 (blk (win1_0.index t) 2048 1024 A) (blk (win1_1.index t) 2048 512 B))) y).trans ?_
  rw [a, b]
  exact mm_blk 2048 (win1_2.index t 0) (win1_2.index t 1) 1024 512 (T A) B (y 0).val (y 1).val

theorem tile2 (X Y : ℕ → ℕ → EReal) : out2_2 (F := Ideal) (ar X : FVec Ideal (M 1024 2048) .f32) (ar Y : FVec Ideal (M 512 2048) .bf16)
    = (ar (mm 2048 X (T Y)) : FVec Ideal (M 1024 512) .f32) := by
  unfold out2_2 k2_pay1
  rw [View.canon_cons_unit_lit _ _ _ (by decide), View.ld_unit_lit _ _ (by decide), View.ld_unit_lit _ _ (by decide)]
  dsimp only
  rw [shapeCast_self]
  exact tile_nt (φ₁ := .bf16) (φ₂ := .bf16) X Y _

theorem at2 : ∀ t : Fin cfg2.N, win2_0.index t = ![win2_2.index t 0, 0] ∧ win2_1.index t = ![win2_2.index t 1, 0] := by decide +kernel

theorem final2 (hA : V c main_arg3 = (ar A : FVec Ideal (M 2048 2048) .f32)) (hB : V c main_v0 = (ar B : FVec Ideal (M 4096 2048) .bf16)) :
    (dat2 V c).arrAt 2 cfg2.N = (ar (mm 2048 A (T B)) : FVec Ideal (M 2048 4096) .f32) := by
  refine (dat2 V c).arrAt_eq_of_covers 2 _ (by decide +kernel) fun t _ y => ?_
  obtain ⟨a, b⟩ := at2 t
  refine (congrFun (((after2_2 V c t).trans (congrArg₂ out2_2 (congrArg ((win2_0.blk t).view.read _) hA) (congrArg ((win2_1.blk t).view.read _) hB))).trans
    (tile2 (blk (win2_0.index t) 1024 2048 A) (blk (win2_1.index t) 512 2048 B))) y).trans ?_
  rw [a, b]
  exact mm_blk 2048 (win2_2.index t 0) (win2_2.index t 1) 1024 512 A (T B) (y 0).val (y 1).val

end Cert.Proof.SsdOut

end
-- ==== Proof.SsdOutRun.lean ====
/- The two programs of the state-space layers' output projection end with the same arrays. -/
module

public import proofs.«01_k».proof.Defs
public import proofs.«01_k».proof.Proof.SsdOutValue
public import proofs.«01_k».proof.Proof.Gen.SsdOut
public import proofs.«01_k».proof.Proof.Gen.SsdOutIdeal
public import proofs.«01_k».proof.Proof.Gen.SsdOutRefIdeal.Run
public import proofs.«01_k».proof.Proof.Ends
public import Idealize.ShloMosaic.Lib.Quiescent
public import Idealize.ShloMosaic.Lib.Claim

@[expose] public section

set_option maxRecDepth 16384

noncomputable section

namespace Cert.Proof.SsdOut

open Idealize.ShloMosaic hiding ix1 ix2 ix3
open Idealize.ShloMosaic.TcCoe
open Idealize.SL Idealize.SL.RA Idealize.SL.BI
open scoped Idealize.SL.BI
open Idealize.SL.BI.BIBase Idealize.SL.BI.Laws Idealize.SL.Sem
open Idealize.ShloMosaic.ValueIdx
open Cert.Proof.Prod

/-- The reference leaves its arguments and every counter alone. -/
theorem frame_ref (m : (ℓ : Loc Cert.SsdOutRefIdeal.nD Cert.SsdOutRefIdeal.τ Cert.SsdOutRefIdeal.sig) → Buf (Elt Ideal) ℓ) (ρ : Dev Cert.SsdOutRefIdeal.nD → PrngReg) :
    θ_run (Cert.SsdOutRefIdeal.defs (F := Ideal)) (onTc (τ := Cert.SsdOutRefIdeal.τ) (Cert.SsdOutRefIdeal.main (F := Ideal))) ⟨m, fun _ => 0, ρ⟩ (fun r => (∀ c : Dev Cert.SsdOutRefIdeal.nD,
      r.2.mem ((c.tc : Thread Cert.SsdOutRefIdeal.nD Cert.SsdOutRefIdeal.τ).loc Cert.SsdOutRefIdeal.main_arg0) = m ((c.tc : Thread Cert.SsdOutRefIdeal.nD Cert.SsdOutRefIdeal.τ).loc Cert.SsdOutRefIdeal.main_arg0)
      ∧ r.2.mem ((c.tc : Thread Cert.SsdOutRefIdeal.nD Cert.SsdOutRefIdeal.τ).loc Cert.SsdOutRefIdeal.main_arg1) = m ((c.tc : Thread Cert.SsdOutRefIdeal.nD Cert.SsdOutRefIdeal.τ).loc Cert.SsdOutRefIdeal.main_arg1)
      ∧ r.2.mem ((c.tc : Thread Cert.SsdOutRefIdeal.nD Cert.SsdOutRefIdeal.τ).loc Cert.SsdOutRefIdeal.main_arg2) = m ((c.tc : Thread Cert.SsdOutRefIdeal.nD Cert.SsdOutRefIdeal.τ).loc Cert.SsdOutRefIdeal.main_arg2)
      ∧ r.2.mem ((c.tc : Thread Cert.SsdOutRefIdeal.nD Cert.SsdOutRefIdeal.τ).loc Cert.SsdOutRefIdeal.main_arg3) = m ((c.tc : Thread Cert.SsdOutRefIdeal.nD Cert.SsdOutRefIdeal.τ).loc Cert.SsdOutRefIdeal.main_arg3)) ∧ r.2.sem = fun _ => 0) :=
  (θ_run _ _ _).mono (fun r h => ⟨fun c => (h c).2.2.2, sem_eq_zero_of_no_sems (by decide) r.2⟩) (Cert.SsdOutRefIdeal.Value.run m ρ)

open Cert.SsdOutIdeal Cert.SsdOutIdeal.Gen

variable (m : (ℓ : Loc nD τ sig) → Buf (Elt Ideal) ℓ) (ρ : Dev nD → PrngReg)

set_option backward.isDefEq.respectTransparency.types false in
/-- Every buffer ends as the last call leaves it. -/
theorem ends : θ_run defs (onTc (τ := τ) (main (F := Ideal))) ⟨m, fun _ => 0, ρ⟩ (fun r => ∀ c : Dev nD, ∀ b ∈ Pipeline.ucRefs τ sig, r.2.mem (c, b) = W4 m ρ c b) :=
  Ends.regions pcfgs adm (pdats m ρ) cellOf_inj defs₀ 𝒱₀ m ρ main (segs m ρ) (main_run m ρ)
    (by simp only [segs, Pipeline.Seg.pipes_host, Pipeline.Seg.pipes_region, Pipeline.Seg.pipes_nil]; decide)
    (W4 m ρ) ⟨fun _ => .rfl, fun _ => .rfl, fun _ => .rfl, fun _ => .rfl, fun _ => .rfl⟩

variable {m} in
open Idealize.ShloMosaic.StableHlo in
/-- The host changes the weight's format. -/
theorem weight {B : ℕ → ℕ → EReal} {c : Dev nD} (h1 : m ((c : Thread nD τ).loc main_arg1) = (ar B : FVec Ideal (M 4096 2048) .f32)) :
    V1 m ρ c main_v0 = (ar B : FVec Ideal (M 4096 2048) .bf16) := by
  have h : V1 m ρ c main_v0 = truncf (F := Ideal) .bf16 (m ((c : Thread nD τ).loc main_arg1)) bitsLt_bf16_f32 := by
    show StableHlo.after hostOps0 (W0 m ρ c) _ = _
    simp only [hostOps0, TRef.unary, TRef.toBuf, TRef.ofBuf, cast_eq]
    after_results_simp <;> rfl
  rw [h, h1]
  rfl

/-- The kernel's tiled products are the reference's. -/
theorem algebraic : Cert.algebraic_SsdOutIdeal_SsdOutRefIdeal := by
  intro m ρ m' ρ' _ e
  choose A h0 using fun c : Dev nD => exists_ar (m ((c : Thread nD τ).loc main_arg0) : FVec Ideal (M 2048 4096) .bf16)
  choose B h1 using fun c : Dev nD => exists_ar (m ((c : Thread nD τ).loc main_arg1) : FVec Ideal (M 4096 2048) .f32)
  choose D h2 using fun c : Dev nD => exists_ar (m ((c : Thread nD τ).loc main_arg2) : FVec Ideal (M 2048 2048) .f32)
  choose E h3 using fun c : Dev nD => exists_ar (m ((c : Thread nD τ).loc main_arg3) : FVec Ideal (M 2048 2048) .f32)
  refine ⟨fun c => (ar (fun a b => mm 4096 (A c) (B c) a b + D c a b) : FVec Ideal (M 2048 2048) .f32),
    fun c => (ar (mm 2048 (T (A c)) (E c)) : FVec Ideal (M 4096 2048) .bf16),
    fun c => (ar (mm 2048 (E c) (T (B c))) : FVec Ideal (M 2048 4096) .f32),
    (θ_run _ _ _).mono (fun _ h c => ⟨?_, ?_, ?_, h.2.1 c⟩) (θ_run_and (ends m ρ) (frame m ρ)),
    (θ_run _ _ _).mono (fun _ h c => ⟨?_, ?_, ?_, (h c).2.2.2⟩) (Cert.SsdOutRefIdeal.Value.run m' ρ')⟩
  · exact (h.1 c _ (mem_uc main_v1 (by decide))).trans ((W4_of m ρ c main_v1 (by decide)).trans ((W3_of m ρ c main_v1 (by decide)).trans ((W2_arr m ρ c 3).trans (
      final0 ((W1_args m ρ c main_arg0 (by decide)).trans (h0 c)) (weight ρ (h1 c)) ((W1_args m ρ c main_arg2 (by decide)).trans (h2 c))))))
  · exact (h.1 c _ (mem_uc main_v2 (by decide))).trans ((W4_of m ρ c main_v2 (by decide)).trans ((W3_arr m ρ c 2).trans (
      final1 ((W2_args m ρ c main_arg0 (by decide)).trans (h0 c)) ((W2_args m ρ c main_arg3 (by decide)).trans (h3 c)))))
  · exact (h.1 c _ (mem_uc main_v3 (by decide))).trans ((W4_arr m ρ c 2).trans (
      final2 ((W3_args m ρ c main_arg3 (by decide)).trans (h3 c)) ((W3_of m ρ c main_v0 (by decide)).trans ((W2_of m ρ c main_v0 (by decide)).trans (weight ρ (h1 c))))))
  · rw [(h c).1, (e c).1, (e c).2.1, (e c).2.2.1, h0, h1, h2]
    exact (congrArg (addf (ar (D c) : FVec Ideal (M 2048 2048) .f32)) (host_nn (φ₁ := .f32) (φ₂ := .f32) (A c) (B c) _)).trans (add_ar _ _)
  · rw [(h c).2.1, (e c).1, (e c).2.2.2, h0, h3]
    exact host_tn (φ₁ := .f32) (φ₂ := .f32) (E c) (A c) _ _
  · rw [(h c).2.2.1, (e c).2.1, (e c).2.2.2, h1, h3]
    exact host_nt (φ₁ := .f32) (φ₂ := .f32) (E c) (B c) _

end Cert.Proof.SsdOut

end
-- ==== Proof.SsdInValue.lean ====
/- The state-space layers' gate and value projections: what each of their four calls leaves in its result. -/
module

public import proofs.«01_k».proof.Proof.Product
public import proofs.«01_k».proof.Proof.Gen.SsdInIdeal.Frame
public import Idealize.ShloMosaic.Lib.Pipeline.ValueKit.Geometry

@[expose] public section

set_option maxRecDepth 16384

noncomputable section

namespace Cert.Proof.SsdIn

open Cert.SsdInIdeal Cert.SsdInIdeal.Gen Cert.Proof.Prod
open Idealize.ShloMosaic hiding ix1 ix2 ix3
open Idealize.ShloMosaic.TcCoe Idealize.SL.Sem
open Idealize.ShloMosaic.ValueIdx

variable {V : (c : Dev nD) → (b : Ref sig .tc) → Buf (Elt Ideal) ((c : Thread nD τ).loc b)} {c : Dev nD} {A B D : ℕ → ℕ → EReal}

theorem tile0 (X Y : ℕ → ℕ → EReal) : out0_2 (F := Ideal) (ar X : FVec Ideal (M 1024 2048) .bf16) (ar Y : FVec Ideal (M 2048 512) .bf16)
    = (ar (mm 2048 X Y) : FVec Ideal (M 1024 512) .f32) := by
  unfold out0_2 k0_pay1
  rw [View.canon_cons_unit_lit _ _ _ (by decide), View.ld_unit_lit _ _ (by decide), View.ld_unit_lit _ _ (by decide)]
  dsimp only
  rw [shapeCast_self]
  exact tile_nn (φ₁ := .bf16) (φ₂ := .bf16) X Y _

theorem at0 : ∀ t : Fin cfg0.N, win0_0.index t = ![win0_2.index t 0, 0] ∧ win0_1.index t = ![0, win0_2.index t 1] := by decide +kernel

theorem final0 (hA : V c main_arg0 = (ar A : FVec Ideal (M 2048 2048) .bf16)) (hB : V c main_v0 = (ar B : FVec Ideal (M 2048 4096) .bf16)) :
    (dat0 V c).arrAt 2 cfg0.N = (ar (mm 2048 A B) : FVec Ideal (M 2048 4096) .f32) := by
  refine (dat0 V c).arrAt_eq_of_covers 2 _ (by decide +kernel) fun t _ y => ?_
  obtain ⟨a, b⟩ := at0 t
  refine (congrFun (((after0_2 V c t).trans (congrArg₂ out0_2 (congrArg ((win0_0.blk t).view.read _) hA) (congrArg ((win0_1.blk t).view.read _) hB))).trans
    (tile0 (blk (win0_0.index t) 1024 2048 A) (blk (win0_1.index t) 2048 512 B))) y).trans ?_
  rw [a, b]
  exact mm_blk 2048 (win0_2.index t 0) (win0_2.index t 1) 1024 512 A B (y 0).val (y 1).val

theorem tile1 (X Y : ℕ → ℕ → EReal) : out1_2 (F := Ideal) (ar X : FVec Ideal (M 2048 1024) .bf16) (ar Y : FVec Ideal (M 2048 512) .bf16)
    = (ar (mm 2048 (T X) Y) : FVec Ideal (M 1024 512) .bf16) := by
  unfold out1_2 k1_pay1
  rw [View.canon_cons_unit_lit _ _ _ (by decide), View.ld_unit_lit _ _ (by decide), View.ld_unit_lit _ _ (by decide)]
  exact tile_tn (φ₁ := .bf16) (φ₂ := .bf16) X Y _

theorem at1 : ∀ t : Fin cfg1.N, win1_0.index t = ![0, win1_2.index t 0] ∧ win1_1.index t = ![0, win1_2.index t 1] := by decide +kernel

theorem final1 (hA : V c main_arg0 = (ar A : FVec Ideal (M 2048 2048) .bf16)) (hB : V c main_arg2 = (ar B : FVec Ideal (M 2048 4096) .bf16)) :
    (dat1 V c).arrAt 2 cfg1.N = (ar (mm 2048 (T A) B) : FVec Ideal (M 2048 4096) .bf16) := by
  refine (dat1 V c).arrAt_eq_of_covers 2 _ (by decide +kernel) fun t _ y => ?_
  obtain ⟨a, b⟩ := at1 t
  refine (congrFun (((after1_2 V c t).trans (congrArg₂ out1_2 (congrArg ((win1_0.blk t).view.read _) hA) (congrArg ((win1_1.blk t).view.read _) hB))).trans
    (tile1 (blk (win1_0.index t) 2048 1024 A) (blk (win1_1.index t) 2048 512 B))) y).trans ?_
  rw [a, b]
  exact mm_blk 2048 (win1_2.index t 0) (win1_2.index t 1) 1024 512 (T A) B (y 0).val (y 1).val

theorem tile2 (X Y : ℕ → ℕ → EReal) : out2_2 (F := Ideal) (ar X : FVec Ideal (M 1024 4096) .bf16) (ar Y : FVec Ideal (M 512 4096) .bf16)
    = (ar (mm 4096 X (T Y)) : FVec Ideal (M 1024 512) .f32) := by
  unfold out2_2 k2_pay1
  rw [View.canon_cons_unit_lit _ _ _ (by decide), View.ld_unit_lit _ _ (by decide), View.ld_unit_lit _ _ (by decide)]
  dsimp only
  rw [shapeCast_self]
  exact tile_nt (φ₁ := .bf16) (φ₂ := .bf16) X Y _

theorem at2 : ∀ t : Fin cfg2.N, win2_0.index t = ![win2_2.index t 0, 0] ∧ win2_1.index t = ![win2_2.index t 1, 0] := by decide +kernel

theorem final2 (hA : V c main_arg2 = (ar A : FVec Ideal (M 2048 4096) .bf16)) (hB : V c main_v0 = (ar B : FVec Ideal (M 2048 4096) .bf16)) :
    (dat2 V c).arrAt 2 cfg2.N = (ar (mm 4096 A (T B)) : FVec Ideal (M 2048 2048) .f32) := by
  refine (dat2 V c).arrAt_eq_of_covers 2 _ (by decide +kernel) fun t _ y => ?_
  obtain ⟨a, b⟩ := at2 t
  refine (congrFun (((after2_2 V c t).trans (congrArg₂ out2_2 (congrArg ((win2_0.blk t).view.read _) hA) (congrArg ((win2_1.blk t).view.read _) hB))).trans
    (tile2 (blk (win2_0.index t) 1024 4096 A) (blk (win2_1.index t) 512 4096 B))) y).trans ?_
  rw [a, b]
  exact mm_blk 4096 (win2_2.index t 0) (win2_2.index t 1) 1024 512 A (T B) (y 0).val (y 1).val

theorem tile3 (X Y Z : ℕ → ℕ → EReal) : out3_3 (F := Ideal) (ar X : FVec Ideal (M 1024 4096) .bf16) (ar Y : FVec Ideal (M 512 4096) .bf16) (ar Z : FVec Ideal (M 1024 512) .f32)
    = (ar (fun a b => mm 4096 X (T Y) a b + Z a b) : FVec Ideal (M 1024 512) .f32) := by
  unfold out3_3 k3_pay1
  rw [View.canon_cons_unit_lit _ _ _ (by decide), View.ld_unit_lit _ _ (by decide), View.ld_unit_lit _ _ (by decide), View.ld_unit_lit _ _ (by decide)]
  dsimp only
  rw [shapeCast_self]
  exact (congrArg (addf · (ar Z)) (tile_nt (φ₁ := .bf16) (φ₂ := .bf16) X Y _)).trans (ar_add _ Z)

theorem at3 : ∀ t : Fin cfg3.N, win3_0.index t = ![win3_3.index t 0, 0] ∧ win3_1.index t = ![win3_3.index t 1, 0] ∧ win3_2.index t = win3_3.index t := by decide +kernel

theorem final3 (hA : V c main_arg2 = (ar A : FVec Ideal (M 2048 4096) .bf16)) (hB : V c main_v0 = (ar B : FVec Ideal (M 2048 4096) .bf16)) (hD : V c main_arg3 = (ar D : FVec Ideal (M 2048 2048) .f32)) :
    (dat3 V c).arrAt 3 cfg3.N = (ar (fun a b => mm 4096 A (T B) a b + D a b) : FVec Ideal (M 2048 2048) .f32) := by
  refine (dat3 V c).arrAt_eq_of_covers 3 _ (by decide +kernel) fun t _ y => ?_
  obtain ⟨a, b, d⟩ := at3 t
  refine (congrFun (((after3_3 V c t).trans (congr (congrArg₂ out3_3 (congrArg ((win3_0.blk t).view.read _) hA) (congrArg ((win3_1.blk t).view.read _) hB)) (congrArg ((win3_2.blk t).view.read _) hD))).trans
    (tile3 (blk (win3_0.index t) 1024 4096 A) (blk (win3_1.index t) 512 4096 B) (blk (win3_2.index t) 1024 512 D))) y).trans ?_
  rw [a, b, d]
  exact congrArg (· + D (win3_3.index t 0 * 1024 + 1 * (y 0).val) (win3_3.index t 1 * 512 + 1 * (y 1).val)) (mm_blk 4096 (win3_3.index t 0) (win3_3.index t 1) 1024 512 A (T B) (y 0).val (y 1).val)

end Cert.Proof.SsdIn

end
-- ==== Proof.SsdInRun.lean ====
/- The two programs of the state-space layers' gate and value projections end with the same arrays. -/
module

public import proofs.«01_k».proof.Defs
public import proofs.«01_k».proof.Proof.SsdInValue
public import proofs.«01_k».proof.Proof.Gen.SsdIn
public import proofs.«01_k».proof.Proof.Gen.SsdInIdeal
public import proofs.«01_k».proof.Proof.Gen.SsdInRefIdeal.Run
public import proofs.«01_k».proof.Proof.Ends
public import Idealize.ShloMosaic.Lib.Quiescent
public import Idealize.ShloMosaic.Lib.Claim

@[expose] public section

set_option maxRecDepth 16384

noncomputable section

namespace Cert.Proof.SsdIn

open Idealize.ShloMosaic hiding ix1 ix2 ix3
open Idealize.ShloMosaic.TcCoe
open Idealize.SL Idealize.SL.RA Idealize.SL.BI
open scoped Idealize.SL.BI
open Idealize.SL.BI.BIBase Idealize.SL.BI.Laws Idealize.SL.Sem
open Idealize.ShloMosaic.ValueIdx
open Cert.Proof.Prod

/-- The reference leaves its arguments and every counter alone. -/
theorem frame_ref (m : (ℓ : Loc Cert.SsdInRefIdeal.nD Cert.SsdInRefIdeal.τ Cert.SsdInRefIdeal.sig) → Buf (Elt Ideal) ℓ) (ρ : Dev Cert.SsdInRefIdeal.nD → PrngReg) :
    θ_run (Cert.SsdInRefIdeal.defs (F := Ideal)) (onTc (τ := Cert.SsdInRefIdeal.τ) (Cert.SsdInRefIdeal.main (F := Ideal))) ⟨m, fun _ => 0, ρ⟩ (fun r => (∀ c : Dev Cert.SsdInRefIdeal.nD,
      r.2.mem ((c.tc : Thread Cert.SsdInRefIdeal.nD Cert.SsdInRefIdeal.τ).loc Cert.SsdInRefIdeal.main_arg0) = m ((c.tc : Thread Cert.SsdInRefIdeal.nD Cert.SsdInRefIdeal.τ).loc Cert.SsdInRefIdeal.main_arg0)
      ∧ r.2.mem ((c.tc : Thread Cert.SsdInRefIdeal.nD Cert.SsdInRefIdeal.τ).loc Cert.SsdInRefIdeal.main_arg1) = m ((c.tc : Thread Cert.SsdInRefIdeal.nD Cert.SsdInRefIdeal.τ).loc Cert.SsdInRefIdeal.main_arg1)
      ∧ r.2.mem ((c.tc : Thread Cert.SsdInRefIdeal.nD Cert.SsdInRefIdeal.τ).loc Cert.SsdInRefIdeal.main_arg2) = m ((c.tc : Thread Cert.SsdInRefIdeal.nD Cert.SsdInRefIdeal.τ).loc Cert.SsdInRefIdeal.main_arg2)
      ∧ r.2.mem ((c.tc : Thread Cert.SsdInRefIdeal.nD Cert.SsdInRefIdeal.τ).loc Cert.SsdInRefIdeal.main_arg3) = m ((c.tc : Thread Cert.SsdInRefIdeal.nD Cert.SsdInRefIdeal.τ).loc Cert.SsdInRefIdeal.main_arg3)) ∧ r.2.sem = fun _ => 0) :=
  (θ_run _ _ _).mono (fun r h => ⟨fun c => (h c).2.2.2.2, sem_eq_zero_of_no_sems (by decide) r.2⟩) (Cert.SsdInRefIdeal.Value.run m ρ)

open Cert.SsdInIdeal Cert.SsdInIdeal.Gen

variable (m : (ℓ : Loc nD τ sig) → Buf (Elt Ideal) ℓ) (ρ : Dev nD → PrngReg)

set_option backward.isDefEq.respectTransparency.types false in
/-- Every buffer ends as the last call leaves it. -/
theorem ends : θ_run defs (onTc (τ := τ) (main (F := Ideal))) ⟨m, fun _ => 0, ρ⟩ (fun r => ∀ c : Dev nD, ∀ b ∈ Pipeline.ucRefs τ sig, r.2.mem (c, b) = W5 m ρ c b) :=
  Ends.regions pcfgs adm (pdats m ρ) cellOf_inj defs₀ 𝒱₀ m ρ main (segs m ρ) (main_run m ρ)
    (by simp only [segs, Pipeline.Seg.pipes_host, Pipeline.Seg.pipes_region, Pipeline.Seg.pipes_nil]; decide)
    (W5 m ρ) ⟨fun _ => .rfl, fun _ => .rfl, fun _ => .rfl, fun _ => .rfl, fun _ => .rfl, fun _ => .rfl⟩

variable {m} in
open Idealize.ShloMosaic.StableHlo in
/-- The host changes the weight's format. -/
theorem weight {B : ℕ → ℕ → EReal} {c : Dev nD} (h1 : m ((c : Thread nD τ).loc main_arg1) = (ar B : FVec Ideal (M 2048 4096) .f32)) :
    V1 m ρ c main_v0 = (ar B : FVec Ideal (M 2048 4096) .bf16) := by
  have h : V1 m ρ c main_v0 = truncf (F := Ideal) .bf16 (m ((c : Thread nD τ).loc main_arg1)) bitsLt_bf16_f32 := by
    show StableHlo.after hostOps0 (W0 m ρ c) _ = _
    simp only [hostOps0, TRef.unary, TRef.toBuf, TRef.ofBuf, cast_eq]
    after_results_simp <;> rfl
  rw [h, h1]
  rfl

/-- The kernel's tiled products are the reference's. -/
theorem algebraic : Cert.algebraic_SsdInIdeal_SsdInRefIdeal := by
  intro m ρ m' ρ' _ e
  choose A h0 using fun c : Dev nD => exists_ar (m ((c : Thread nD τ).loc main_arg0) : FVec Ideal (M 2048 2048) .bf16)
  choose B h1 using fun c : Dev nD => exists_ar (m ((c : Thread nD τ).loc main_arg1) : FVec Ideal (M 2048 4096) .f32)
  choose D h2 using fun c : Dev nD => exists_ar (m ((c : Thread nD τ).loc main_arg2) : FVec Ideal (M 2048 4096) .bf16)
  choose E h3 using fun c : Dev nD => exists_ar (m ((c : Thread nD τ).loc main_arg3) : FVec Ideal (M 2048 2048) .f32)
  refine ⟨fun c => (ar (mm 2048 (A c) (B c)) : FVec Ideal (M 2048 4096) .f32),
    fun c => (ar (mm 2048 (T (A c)) (D c)) : FVec Ideal (M 2048 4096) .bf16),
    fun c => (ar (mm 4096 (D c) (T (B c))) : FVec Ideal (M 2048 2048) .f32),
    fun c => (ar (fun a b => mm 4096 (D c) (T (B c)) a b + E c a b) : FVec Ideal (M 2048 2048) .f32),
    (θ_run _ _ _).mono (fun _ h c => ⟨?_, ?_, ?_, ?_, h.2.1 c⟩) (θ_run_and (ends m ρ) (frame m ρ)),
    (θ_run _ _ _).mono (fun _ h c => ⟨?_, ?_, ?_, ?_, (h c).2.2.2.2⟩) (Cert.SsdInRefIdeal.Value.run m' ρ')⟩
  · exact (h.1 c _ (mem_uc main_v1 (by decide))).trans ((W5_of m ρ c main_v1 (by decide)).trans ((W4_of m ρ c main_v1 (by decide)).trans ((W3_of m ρ c main_v1 (by decide)).trans ((W2_arr m ρ c 2).trans (
      final0 ((W1_args m ρ c main_arg0 (by decide)).trans (h0 c)) (weight ρ (h1 c)))))))
  · exact (h.1 c _ (mem_uc main_v2 (by decide))).trans ((W5_of m ρ c main_v2 (by decide)).trans ((W4_of m ρ c main_v2 (by decide)).trans ((W3_arr m ρ c 2).trans (
      final1 ((W2_args m ρ c main_arg0 (by decide)).trans (h0 c)) ((W2_args m ρ c main_arg2 (by decide)).trans (h2 c))))))
  · exact (h.1 c _ (mem_uc main_v3 (by decide))).trans ((W5_of m ρ c main_v3 (by decide)).trans ((W4_arr m ρ c 2).trans (
      final2 ((W3_args m ρ c main_arg2 (by decide)).trans (h2 c)) ((W3_of m ρ c main_v0 (by decide)).trans ((W2_of m ρ c main_v0 (by decide)).trans (weight ρ (h1 c)))))))
  · exact (h.1 c _ (mem_uc main_v4 (by decide))).trans ((W5_arr m ρ c 3).trans (
      final3 ((W4_args m ρ c main_arg2 (by decide)).trans (h2 c)) ((W4_of m ρ c main_v0 (by decide)).trans ((W3_of m ρ c main_v0 (by decide)).trans ((W2_of m ρ c main_v0 (by decide)).trans (weight ρ (h1 c))))) ((W4_args m ρ c main_arg3 (by decide)).trans (h3 c))))
  · rw [(h c).1, (e c).1, (e c).2.1, h0, h1]
    exact host_nn (φ₁ := .f32) (φ₂ := .f32) (A c) (B c) _
  · rw [(h c).2.1, (e c).1, (e c).2.2.1, h0, h2]
    exact host_tn (φ₁ := .f32) (φ₂ := .f32) (D c) (A c) _ _
  · rw [(h c).2.2.1, (e c).2.1, (e c).2.2.1, h1, h2]
    exact host_nt (φ₁ := .f32) (φ₂ := .f32) (D c) (B c) _
  · rw [(h c).2.2.2.1, (e c).2.1, (e c).2.2.1, (e c).2.2.2, h1, h2, h3]
    exact (congrArg (addf (ar (E c) : FVec Ideal (M 2048 2048) .f32)) (host_nt (φ₁ := .f32) (φ₂ := .f32) (D c) (B c) _)).trans (add_ar _ _)

end Cert.Proof.SsdIn

end
-- ==== Proof.SsdBcValue.lean ====
/- The state-space layers' key and query projections: what each of their three calls leaves in its result. -/
module

public import proofs.«01_k».proof.Proof.Product
public import proofs.«01_k».proof.Proof.Gen.SsdBcIdeal.Frame
public import Idealize.ShloMosaic.Lib.Pipeline.ValueKit.Geometry

@[expose] public section

set_option maxRecDepth 16384

noncomputable section

namespace Cert.Proof.SsdBc

open Cert.SsdBcIdeal Cert.SsdBcIdeal.Gen Cert.Proof.Prod
open Idealize.ShloMosaic hiding ix1 ix2 ix3
open Idealize.ShloMosaic.TcCoe Idealize.SL.Sem
open Idealize.ShloMosaic.ValueIdx

variable {V : (c : Dev nD) → (b : Ref sig .tc) → Buf (Elt Ideal) ((c : Thread nD τ).loc b)} {c : Dev nD} {A B D : ℕ → ℕ → EReal}

theorem tile0 (X Y : ℕ → ℕ → EReal) : out0_2 (F := Ideal) (ar X : FVec Ideal (M 1024 2048) .bf16) (ar Y : FVec Ideal (M 2048 512) .bf16)
    = (ar (mm 2048 X Y) : FVec Ideal (M 1024 512) .f32) := by
  unfold out0_2 k0_pay1
  rw [View.canon_cons_unit_lit _ _ _ (by decide), View.ld_unit_lit _ _ (by decide), View.ld_unit_lit _ _ (by decide)]
  dsimp only
  rw [shapeCast_self]
  exact tile_nn (φ₁ := .bf16) (φ₂ := .bf16) X Y _

theorem at0 : ∀ t : Fin cfg0.N, win0_0.index t = ![win0_2.index t 0, 0] ∧ win0_1.index t = ![0, win0_2.index t 1] := by decide +kernel

theorem final0 (hA : V c main_arg0 = (ar A : FVec Ideal (M 2048 2048) .bf16)) (hB : V c main_v0 = (ar B : FVec Ideal (M 2048 1024) .bf16)) :
    (dat0 V c).arrAt 2 cfg0.N = (ar (mm 2048 A B) : FVec Ideal (M 2048 1024) .f32) := by
  refine (dat0 V c).arrAt_eq_of_covers 2 _ (by decide +kernel) fun t _ y => ?_
  obtain ⟨a, b⟩ := at0 t
  refine (congrFun (((after0_2 V c t).trans (congrArg₂ out0_2 (congrArg ((win0_0.blk t).view.read _) hA) (congrArg ((win0_1.blk t).view.read _) hB))).trans
    (tile0 (blk (win0_0.index t) 1024 2048 A) (blk (win0_1.index t) 2048 512 B))) y).trans ?_
  rw [a, b]
  exact mm_blk 2048 (win0_2.index t 0) (win0_2.index t 1) 1024 512 A B (y 0).val (y 1).val

theorem tile1 (X Y : ℕ → ℕ → EReal) : out1_2 (F := Ideal) (ar X : FVec Ideal (M 2048 1024) .bf16) (ar Y : FVec Ideal (M 2048 512) .bf16)
    = (ar (mm 2048 (T X) Y) : FVec Ideal (M 1024 512) .bf16) := by
  unfold out1_2 k1_pay1
  rw [View.canon_cons_unit_lit _ _ _ (by decide), View.ld_unit_lit _ _ (by decide), View.ld_unit_lit _ _ (by decide)]
  exact tile_tn (φ₁ := .bf16) (φ₂ := .bf16) X Y _

theorem at1 : ∀ t : Fin cfg1.N, win1_0.index t = ![0, win1_2.index t 0] ∧ win1_1.index t = ![0, win1_2.index t 1] := by decide +kernel

theorem final1 (hA : V c main_arg0 = (ar A : FVec Ideal (M 2048 2048) .bf16)) (hB : V c main_arg2 = (ar B : FVec Ideal (M 2048 1024) .bf16)) :
    (dat1 V c).arrAt 2 cfg1.N = (ar (mm 2048 (T A) B) : FVec Ideal (M 2048 1024) .bf16) := by
  refine (dat1 V c).arrAt_eq_of_covers 2 _ (by decide +kernel) fun t _ y => ?_
  obtain ⟨a, b⟩ := at1 t
  refine (congrFun (((after1_2 V c t).trans (congrArg₂ out1_2 (congrArg ((win1_0.blk t).view.read _) hA) (congrArg ((win1_1.blk t).view.read _) hB))).trans
    (tile1 (blk (win1_0.index t) 2048 1024 A) (blk (win1_1.index t) 2048 512 B))) y).trans ?_
  rw [a, b]
  exact mm_blk 2048 (win1_2.index t 0) (win1_2.index t 1) 1024 512 (T A) B (y 0).val (y 1).val

theorem tile2 (X Y Z : ℕ → ℕ → EReal) : out2_3 (F := Ideal) (ar X : FVec Ideal (M 1024 1024) .bf16) (ar Y : FVec Ideal (M 512 1024) .bf16) (ar Z : FVec Ideal (M 1024 512) .f32)
    = (ar (fun a b => mm 1024 X (T Y) a b + Z a b) : FVec Ideal (M 1024 512) .f32) := by
  unfold out2_3 k2_pay1
  rw [View.canon_cons_unit_lit _ _ _ (by decide), View.ld_unit_lit _ _ (by decide), View.ld_unit_lit _ _ (by decide), View.ld_unit_lit _ _ (by decide)]
  dsimp only
  rw [shapeCast_self]
  exact (congrArg (addf · (ar Z)) (tile_nt (φ₁ := .bf16) (φ₂ := .bf16) X Y _)).trans (ar_add _ Z)

theorem at2 : ∀ t : Fin cfg2.N, win2_0.index t = ![win2_3.index t 0, 0] ∧ win2_1.index t = ![win2_3.index t 1, 0] ∧ win2_2.index t = win2_3.index t := by decide +kernel

theorem final2 (hA : V c main_arg2 = (ar A : FVec Ideal (M 2048 1024) .bf16)) (hB : V c main_v0 = (ar B : FVec Ideal (M 2048 1024) .bf16)) (hD : V c main_arg3 = (ar D : FVec Ideal (M 2048 2048) .f32)) :
    (dat2 V c).arrAt 3 cfg2.N = (ar (fun a b => mm 1024 A (T B) a b + D a b) : FVec Ideal (M 2048 2048) .f32) := by
  refine (dat2 V c).arrAt_eq_of_covers 3 _ (by decide +kernel) fun t _ y => ?_
  obtain ⟨a, b, d⟩ := at2 t
  refine (congrFun (((after2_3 V c t).trans (congr (congrArg₂ out2_3 (congrArg ((win2_0.blk t).view.read _) hA) (congrArg ((win2_1.blk t).view.read _) hB)) (congrArg ((win2_2.blk t).view.read _) hD))).trans
    (tile2 (blk (win2_0.index t) 1024 1024 A) (blk (win2_1.index t) 512 1024 B) (blk (win2_2.index t) 1024 512 D))) y).trans ?_
  rw [a, b, d]
  exact congrArg (· + D (win2_3.index t 0 * 1024 + 1 * (y 0).val) (win2_3.index t 1 * 512 + 1 * (y 1).val)) (mm_blk 1024 (win2_3.index t 0) (win2_3.index t 1) 1024 512 A (T B) (y 0).val (y 1).val)

end Cert.Proof.SsdBc

end
-- ==== Proof.SsdBcRun.lean ====
/- The two programs of the state-space layers' key and query projections end with the same arrays. -/
module

public import proofs.«01_k».proof.Defs
public import proofs.«01_k».proof.Proof.SsdBcValue
public import proofs.«01_k».proof.Proof.Gen.SsdBc
public import proofs.«01_k».proof.Proof.Gen.SsdBcIdeal
public import proofs.«01_k».proof.Proof.Gen.SsdBcRefIdeal.Run
public import proofs.«01_k».proof.Proof.Ends
public import Idealize.ShloMosaic.Lib.Quiescent
public import Idealize.ShloMosaic.Lib.Claim

@[expose] public section

set_option maxRecDepth 16384

noncomputable section

namespace Cert.Proof.SsdBc

open Idealize.ShloMosaic hiding ix1 ix2 ix3
open Idealize.ShloMosaic.TcCoe
open Idealize.SL Idealize.SL.RA Idealize.SL.BI
open scoped Idealize.SL.BI
open Idealize.SL.BI.BIBase Idealize.SL.BI.Laws Idealize.SL.Sem
open Idealize.ShloMosaic.ValueIdx
open Cert.Proof.Prod

/-- The reference leaves its arguments and every counter alone. -/
theorem frame_ref (m : (ℓ : Loc Cert.SsdBcRefIdeal.nD Cert.SsdBcRefIdeal.τ Cert.SsdBcRefIdeal.sig) → Buf (Elt Ideal) ℓ) (ρ : Dev Cert.SsdBcRefIdeal.nD → PrngReg) :
    θ_run (Cert.SsdBcRefIdeal.defs (F := Ideal)) (onTc (τ := Cert.SsdBcRefIdeal.τ) (Cert.SsdBcRefIdeal.main (F := Ideal))) ⟨m, fun _ => 0, ρ⟩ (fun r => (∀ c : Dev Cert.SsdBcRefIdeal.nD,
      r.2.mem ((c.tc : Thread Cert.SsdBcRefIdeal.nD Cert.SsdBcRefIdeal.τ).loc Cert.SsdBcRefIdeal.main_arg0) = m ((c.tc : Thread Cert.SsdBcRefIdeal.nD Cert.SsdBcRefIdeal.τ).loc Cert.SsdBcRefIdeal.main_arg0)
      ∧ r.2.mem ((c.tc : Thread Cert.SsdBcRefIdeal.nD Cert.SsdBcRefIdeal.τ).loc Cert.SsdBcRefIdeal.main_arg1) = m ((c.tc : Thread Cert.SsdBcRefIdeal.nD Cert.SsdBcRefIdeal.τ).loc Cert.SsdBcRefIdeal.main_arg1)
      ∧ r.2.mem ((c.tc : Thread Cert.SsdBcRefIdeal.nD Cert.SsdBcRefIdeal.τ).loc Cert.SsdBcRefIdeal.main_arg2) = m ((c.tc : Thread Cert.SsdBcRefIdeal.nD Cert.SsdBcRefIdeal.τ).loc Cert.SsdBcRefIdeal.main_arg2)
      ∧ r.2.mem ((c.tc : Thread Cert.SsdBcRefIdeal.nD Cert.SsdBcRefIdeal.τ).loc Cert.SsdBcRefIdeal.main_arg3) = m ((c.tc : Thread Cert.SsdBcRefIdeal.nD Cert.SsdBcRefIdeal.τ).loc Cert.SsdBcRefIdeal.main_arg3)) ∧ r.2.sem = fun _ => 0) :=
  (θ_run _ _ _).mono (fun r h => ⟨fun c => (h c).2.2.2, sem_eq_zero_of_no_sems (by decide) r.2⟩) (Cert.SsdBcRefIdeal.Value.run m ρ)

open Cert.SsdBcIdeal Cert.SsdBcIdeal.Gen

variable (m : (ℓ : Loc nD τ sig) → Buf (Elt Ideal) ℓ) (ρ : Dev nD → PrngReg)

set_option backward.isDefEq.respectTransparency.types false in
/-- Every buffer ends as the last call leaves it. -/
theorem ends : θ_run defs (onTc (τ := τ) (main (F := Ideal))) ⟨m, fun _ => 0, ρ⟩ (fun r => ∀ c : Dev nD, ∀ b ∈ Pipeline.ucRefs τ sig, r.2.mem (c, b) = W4 m ρ c b) :=
  Ends.regions pcfgs adm (pdats m ρ) cellOf_inj defs₀ 𝒱₀ m ρ main (segs m ρ) (main_run m ρ)
    (by simp only [segs, Pipeline.Seg.pipes_host, Pipeline.Seg.pipes_region, Pipeline.Seg.pipes_nil]; decide)
    (W4 m ρ) ⟨fun _ => .rfl, fun _ => .rfl, fun _ => .rfl, fun _ => .rfl, fun _ => .rfl⟩

variable {m} in
open Idealize.ShloMosaic.StableHlo in
/-- The host changes the weight's format. -/
theorem weight {B : ℕ → ℕ → EReal} {c : Dev nD} (h1 : m ((c : Thread nD τ).loc main_arg1) = (ar B : FVec Ideal (M 2048 1024) .f32)) :
    V1 m ρ c main_v0 = (ar B : FVec Ideal (M 2048 1024) .bf16) := by
  have h : V1 m ρ c main_v0 = truncf (F := Ideal) .bf16 (m ((c : Thread nD τ).loc main_arg1)) bitsLt_bf16_f32 := by
    show StableHlo.after hostOps0 (W0 m ρ c) _ = _
    simp only [hostOps0, TRef.unary, TRef.toBuf, TRef.ofBuf, cast_eq]
    after_results_simp <;> rfl
  rw [h, h1]
  rfl

/-- The kernel's tiled products are the reference's. -/
theorem algebraic : Cert.algebraic_SsdBcIdeal_SsdBcRefIdeal := by
  intro m ρ m' ρ' _ e
  choose A h0 using fun c : Dev nD => exists_ar (m ((c : Thread nD τ).loc main_arg0) : FVec Ideal (M 2048 2048) .bf16)
  choose B h1 using fun c : Dev nD => exists_ar (m ((c : Thread nD τ).loc main_arg1) : FVec Ideal (M 2048 1024) .f32)
  choose D h2 using fun c : Dev nD => exists_ar (m ((c : Thread nD τ).loc main_arg2) : FVec Ideal (M 2048 1024) .bf16)
  choose E h3 using fun c : Dev nD => exists_ar (m ((c : Thread nD τ).loc main_arg3) : FVec Ideal (M 2048 2048) .f32)
  refine ⟨fun c => (ar (mm 2048 (A c) (B c)) : FVec Ideal (M 2048 1024) .f32),
    fun c => (ar (mm 2048 (T (A c)) (D c)) : FVec Ideal (M 2048 1024) .bf16),
    fun c => (ar (fun a b => mm 1024 (D c) (T (B c)) a b + E c a b) : FVec Ideal (M 2048 2048) .f32),
    (θ_run _ _ _).mono (fun _ h c => ⟨?_, ?_, ?_, h.2.1 c⟩) (θ_run_and (ends m ρ) (frame m ρ)),
    (θ_run _ _ _).mono (fun _ h c => ⟨?_, ?_, ?_, (h c).2.2.2⟩) (Cert.SsdBcRefIdeal.Value.run m' ρ')⟩
  · exact (h.1 c _ (mem_uc main_v1 (by decide))).trans ((W4_of m ρ c main_v1 (by decide)).trans ((W3_of m ρ c main_v1 (by decide)).trans ((W2_arr m ρ c 2).trans (
      final0 ((W1_args m ρ c main_arg0 (by decide)).trans (h0 c)) (weight ρ (h1 c))))))
  · exact (h.1 c _ (mem_uc main_v2 (by decide))).trans ((W4_of m ρ c main_v2 (by decide)).trans ((W3_arr m ρ c 2).trans (
      final1 ((W2_args m ρ c main_arg0 (by decide)).trans (h0 c)) ((W2_args m ρ c main_arg2 (by decide)).trans (h2 c)))))
  · exact (h.1 c _ (mem_uc main_v3 (by decide))).trans ((W4_arr m ρ c 3).trans (
      final2 ((W3_args m ρ c main_arg2 (by decide)).trans (h2 c)) ((W3_of m ρ c main_v0 (by decide)).trans ((W2_of m ρ c main_v0 (by decide)).trans (weight ρ (h1 c)))) ((W3_args m ρ c main_arg3 (by decide)).trans (h3 c))))
  · rw [(h c).1, (e c).1, (e c).2.1, h0, h1]
    exact host_nn (φ₁ := .f32) (φ₂ := .f32) (A c) (B c) _
  · rw [(h c).2.1, (e c).1, (e c).2.2.1, h0, h2]
    exact host_tn (φ₁ := .f32) (φ₂ := .f32) (D c) (A c) _ _
  · rw [(h c).2.2.1, (e c).2.1, (e c).2.2.1, (e c).2.2.2, h1, h2, h3]
    exact (congrArg (addf (ar (E c) : FVec Ideal (M 2048 2048) .f32)) (host_nt (φ₁ := .f32) (φ₂ := .f32) (D c) (B c) _)).trans (add_ar _ _)

end Cert.Proof.SsdBc

end
-- ==== Proof.PleProjValue.lean ====
/- The per-layer embedding's projection: the product of the forward pass and the weight's gradient. -/
module

public import proofs.«01_k».proof.Proof.Product
public import proofs.«01_k».proof.Proof.Gen.PleProjIdeal.Frame
public import Idealize.ShloMosaic.Lib.Pipeline.ValueKit.Geometry

@[expose] public section

set_option maxRecDepth 16384

noncomputable section

namespace Cert.Proof.PleProj

open Cert.PleProjIdeal Cert.PleProjIdeal.Gen Cert.Proof.Prod
open Idealize.ShloMosaic hiding ix1 ix2 ix3
open Idealize.ShloMosaic.TcCoe Idealize.SL.Sem
open Idealize.ShloMosaic.ValueIdx

variable {V : (c : Dev nD) → (b : Ref sig .tc) → Buf (Elt Ideal) ((c : Thread nD τ).loc b)} {c : Dev nD} {A B : ℕ → ℕ → EReal}

theorem tile0 (X : ℕ → ℕ → EReal) (Y : ℕ → ℕ → ℕ → EReal) : out0_2 (F := Ideal) (ar X : FVec Ideal (M 1024 256) .f32) (ar3 Y : FVec Ideal (M3 1 256 256) .bf16)
    = (ar (mm 256 X (Y 0)) : FVec Ideal (M 1024 256) .f32) := by
  unfold out0_2
  rw [View.canon_cons_unit_lit _ _ _ (by decide), View.ld_unit_lit _ _ (by decide), View.ld_unit_lit _ _ (by decide)]
  unfold k0_pay1
  dsimp only
  rw [show shapeCast S256x256 (ar3 Y : FVec Ideal (M3 1 256 256) .bf16) shapeCasts_S1x256x256_S256x256 = (ar (Y 0) : FVec Ideal (M 256 256) .bf16) from ar3_one Y _]
  exact tile_nn (φ₁ := .bf16) (φ₂ := .bf16) X (Y 0) _

theorem at0 : ∀ t : Fin cfg0.N, win0_0.index t = ![win0_2.index t 0, 0] ∧ win0_1.index t = ![win0_2.index t 1, 0, 0] := by decide +kernel

theorem final0 (hA : V c main_arg0 = (ar A : FVec Ideal (M 2048 256) .f32)) (hB : V c main_v2 = (ar3 (cols 256 B) : FVec Ideal (M3 8 256 256) .bf16)) :
    (dat0 V c).arrAt 2 cfg0.N = (ar (mm 256 A B) : FVec Ideal (M 2048 2048) .f32) := by
  refine (dat0 V c).arrAt_eq_of_covers 2 _ (by decide +kernel) fun t _ y => ?_
  obtain ⟨a, b⟩ := at0 t
  refine (congrFun (((after0_2 V c t).trans (congrArg₂ out0_2 (congrArg ((win0_0.blk t).view.read _) hA) (congrArg ((win0_1.blk t).view.read _) hB))).trans
    (tile0 (blk (win0_0.index t) 1024 256 A) fun g k b => B (win0_1.index t 1 * 256 + 1 * k) ((win0_1.index t 0 * 1 + 1 * g) * 256 + (win0_1.index t 2 * 256 + 1 * b)))) y).trans ?_
  rw [a, b]
  show mm 256 _ _ (y 0).val (y 1).val = mm 256 A B (win0_2.index t 0 * 1024 + 1 * (y 0).val) (win0_2.index t 1 * 256 + 1 * (y 1).val)
  refine mm_congr (fun k _ => congrArg₂ A ?_ ?_) (fun k _ => congrArg₂ B ?_ ?_) <;> simp

theorem tile1 (X Y : ℕ → ℕ → EReal) : out1_2 (F := Ideal) (ar X : FVec Ideal (M 2048 256) .f32) (ar Y : FVec Ideal (M 2048 256) .bf16)
    = (ar3 (fun _ => mm 2048 (T X) Y) : FVec Ideal (M3 1 256 256) .bf16) := by
  unfold out1_2
  rw [View.canon_cons_unit_lit _ _ _ (by decide), View.ld_unit_lit _ _ (by decide), View.ld_unit_lit _ _ (by decide)]
  refine Eq.trans (congrArg (fun z => shapeCast S1x256x256 (truncf (F := Ideal) .bf16 z bitsLt_bf16_f32) shapeCasts_S256x256_S1x256x256) (tile_tn (φ₁ := .bf16) (φ₂ := .bf16) X Y _)) ?_
  exact one_ar3 (φ := .bf16) (mm 2048 (T X) Y) _

theorem at1 : ∀ t : Fin cfg1.N, win1_0.index t = ![0, win1_2.index t 1] ∧ win1_1.index t = ![0, win1_2.index t 0]
    ∧ win1_2.index t 2 = 0 := by decide +kernel

theorem final1 (hA : V c main_arg0 = (ar A : FVec Ideal (M 2048 256) .f32)) (hB : V c main_arg2 = (ar B : FVec Ideal (M 2048 2048) .bf16)) :
    (dat1 V c).arrAt 2 cfg1.N = (ar3 (cols 256 (mm 2048 (T A) B)) : FVec Ideal (M3 8 256 256) .bf16) := by
  refine (dat1 V c).arrAt_eq_of_covers 2 _ (by decide +kernel) fun t _ y => ?_
  obtain ⟨a, b, d⟩ := at1 t
  refine (congrFun (((after1_2 V c t).trans (congrArg₂ out1_2 (congrArg ((win1_0.blk t).view.read _) hA) (congrArg ((win1_1.blk t).view.read _) hB))).trans
    (tile1 (blk (win1_0.index t) 2048 256 A) (blk (win1_1.index t) 2048 256 B))) y).trans ?_
  rw [a, b]
  have y0 : (y 0).val < 1 := (y 0).isLt
  show mm 2048 _ _ (y 1).val (y 2).val = mm 2048 (T A) B (win1_2.index t 1 * 256 + 1 * (y 1).val)
    ((win1_2.index t 0 * 1 + 1 * (y 0).val) * 256 + (win1_2.index t 2 * 256 + 1 * (y 2).val))
  rw [d]
  refine mm_congr (fun k _ => congrArg₂ A ?_ ?_) (fun k _ => congrArg₂ B ?_ ?_) <;> simp <;> omega

end Cert.Proof.PleProj

end
-- ==== Proof.PleProjRun.lean ====
/- The two programs of the per-layer embedding's projection end with the same arrays. -/
module

public import proofs.«01_k».proof.Defs
public import proofs.«01_k».proof.Proof.PleProjValue
public import proofs.«01_k».proof.Proof.Gen.PleProj
public import proofs.«01_k».proof.Proof.Gen.PleProjIdeal
public import proofs.«01_k».proof.Proof.Gen.PleProjRefIdeal.Run
public import proofs.«01_k».proof.Proof.Ends
public import Idealize.ShloMosaic.Lib.Quiescent
public import Idealize.ShloMosaic.Lib.Claim

@[expose] public section

set_option maxRecDepth 16384

noncomputable section

namespace Cert.Proof.PleProj

open Idealize.ShloMosaic hiding ix1 ix2 ix3
open Idealize.ShloMosaic.TcCoe
open Idealize.SL Idealize.SL.RA Idealize.SL.BI
open scoped Idealize.SL.BI
open Idealize.SL.BI.BIBase Idealize.SL.BI.Laws Idealize.SL.Sem
open Idealize.ShloMosaic.ValueIdx
open Cert.Proof.Prod

/-- The reference leaves its arguments and every counter alone. -/
theorem frame_ref (m : (ℓ : Loc Cert.PleProjRefIdeal.nD Cert.PleProjRefIdeal.τ Cert.PleProjRefIdeal.sig) → Buf (Elt Ideal) ℓ) (ρ : Dev Cert.PleProjRefIdeal.nD → PrngReg) :
    θ_run (Cert.PleProjRefIdeal.defs (F := Ideal)) (onTc (τ := Cert.PleProjRefIdeal.τ) (Cert.PleProjRefIdeal.main (F := Ideal))) ⟨m, fun _ => 0, ρ⟩ (fun r => (∀ c : Dev Cert.PleProjRefIdeal.nD,
      r.2.mem ((c.tc : Thread Cert.PleProjRefIdeal.nD Cert.PleProjRefIdeal.τ).loc Cert.PleProjRefIdeal.main_arg0) = m ((c.tc : Thread Cert.PleProjRefIdeal.nD Cert.PleProjRefIdeal.τ).loc Cert.PleProjRefIdeal.main_arg0)
      ∧ r.2.mem ((c.tc : Thread Cert.PleProjRefIdeal.nD Cert.PleProjRefIdeal.τ).loc Cert.PleProjRefIdeal.main_arg1) = m ((c.tc : Thread Cert.PleProjRefIdeal.nD Cert.PleProjRefIdeal.τ).loc Cert.PleProjRefIdeal.main_arg1)
      ∧ r.2.mem ((c.tc : Thread Cert.PleProjRefIdeal.nD Cert.PleProjRefIdeal.τ).loc Cert.PleProjRefIdeal.main_arg2) = m ((c.tc : Thread Cert.PleProjRefIdeal.nD Cert.PleProjRefIdeal.τ).loc Cert.PleProjRefIdeal.main_arg2)) ∧ r.2.sem = fun _ => 0) :=
  (θ_run _ _ _).mono (fun r h => ⟨fun c => (h c).2.2, sem_eq_zero_of_no_sems (by decide) r.2⟩) (Cert.PleProjRefIdeal.Value.run m ρ)

open Cert.PleProjIdeal Cert.PleProjIdeal.Gen

variable (m : (ℓ : Loc nD τ sig) → Buf (Elt Ideal) ℓ) (ρ : Dev nD → PrngReg)

set_option backward.isDefEq.respectTransparency.types false in
/-- Every buffer ends as the last call leaves it. -/
theorem ends : θ_run defs (onTc (τ := τ) (main (F := Ideal))) ⟨m, fun _ => 0, ρ⟩ (fun r => ∀ c : Dev nD, ∀ b ∈ Pipeline.ucRefs τ sig, r.2.mem (c, b) = W3 m ρ c b) :=
  Ends.regions pcfgs adm (pdats m ρ) cellOf_inj defs₀ 𝒱₀ m ρ main (segs m ρ) (main_run m ρ)
    (by simp only [segs, Pipeline.Seg.pipes_host, Pipeline.Seg.pipes_region, Pipeline.Seg.pipes_nil]; decide)
    (W3 m ρ) ⟨fun _ => .rfl, fun _ => .rfl, fun _ => .rfl, fun _ => .rfl⟩

variable {m} in
open Idealize.ShloMosaic.StableHlo in
/-- The host changes the weight's format and writes its column blocks one after the other. -/
theorem weight {B : ℕ → ℕ → EReal} {c : Dev nD} (h1 : m ((c : Thread nD τ).loc main_arg1) = (ar B : FVec Ideal (M 256 2048) .f32)) :
    V1 m ρ c main_v2 = (ar3 (cols 256 B) : FVec Ideal (M3 8 256 256) .bf16) := by
  have h : V1 m ρ c main_v2 = transpose S8x256x256 [1, 0, 2] (shapeCast S256x8x256 (truncf (F := Ideal) .bf16 (m ((c : Thread nD τ).loc main_arg1)) bitsLt_bf16_f32) shapeCasts_S256x2048_S256x8x256)
      transposes_S256x8x256_S8x256x256_1_0_2 := by
    show StableHlo.after hostOps0 (W0 m ρ c) _ = _
    simp only [hostOps0, TRef.unary, TRef.toBuf, TRef.ofBuf, cast_eq]
    after_results_simp <;> rfl
  rw [h, h1]
  exact ar_cols (φ := .bf16) _ _ _ rfl

/-- The kernel's tiled products are the reference's, the weight's gradient in column blocks. -/
theorem algebraic : Cert.algebraic_PleProjIdeal_PleProjRefIdeal := by
  intro m ρ m' ρ' _ e
  choose A h0 using fun c : Dev nD => exists_ar (m ((c : Thread nD τ).loc main_arg0) : FVec Ideal (M 2048 256) .f32)
  choose B h1 using fun c : Dev nD => exists_ar (m ((c : Thread nD τ).loc main_arg1) : FVec Ideal (M 256 2048) .f32)
  choose D h2 using fun c : Dev nD => exists_ar (m ((c : Thread nD τ).loc main_arg2) : FVec Ideal (M 2048 2048) .bf16)
  refine ⟨fun c => (ar (mm 256 (A c) (B c)) : FVec Ideal (M 2048 2048) .f32),
    fun c => (ar3 (cols 256 (mm 2048 (T (A c)) (D c))) : FVec Ideal (M3 8 256 256) .bf16),
    (θ_run _ _ _).mono (fun _ h c => ⟨?_, ?_, h.2.1 c⟩) (θ_run_and (ends m ρ) (frame m ρ)),
    (θ_run _ _ _).mono (fun _ h c => ⟨?_, ?_, (h c).2.2⟩) (Cert.PleProjRefIdeal.Value.run m' ρ')⟩
  · exact (h.1 c _ (mem_uc main_v3 (by decide))).trans ((W3_of m ρ c main_v3 (by decide)).trans ((W2_arr m ρ c 2).trans (
      final0 ((W1_args m ρ c main_arg0 (by decide)).trans (h0 c)) (weight ρ (h1 c)))))
  · exact (h.1 c _ (mem_uc main_v4 (by decide))).trans ((W3_arr m ρ c 2).trans (
      final1 ((W2_args m ρ c main_arg0 (by decide)).trans (h0 c)) ((W2_args m ρ c main_arg2 (by decide)).trans (h2 c))))
  · rw [(h c).1, (e c).1, (e c).2.1, h0, h1]
    exact host_nn (φ₁ := .f32) (φ₂ := .f32) (A c) (B c) _
  · rw [(h c).2.1, (e c).1, (e c).2.2, h0, h2]
    refine (congrArg (fun z => transpose (M3 8 256 256) [1, 0, 2] (shapeCast (M3 256 8 256) z _) _) (host_tn (φ₁ := .f32) (φ₂ := .f32) (D c) (A c) _ _)).trans ?_
    exact ar_cols (φ := .f32) _ _ _ rfl

end Cert.Proof.PleProj

end
-- ==== Proof.Gates.lean ====
/- The gates' gradients: the two programs compute the same function, entry by entry. -/
module

public import proofs.«01_k».proof.Defs
public import proofs.«01_k».proof.Proof.Product
public import proofs.«01_k».proof.Proof.Values
public import proofs.«01_k».proof.Proof.Gen.PleBack
public import proofs.«01_k».proof.Proof.Gen.PleBackIdeal.Value
public import proofs.«01_k».proof.Proof.Gen.PleBackRefIdeal.Run
public import proofs.«01_k».proof.Proof.Gen.SbGateBack
public import proofs.«01_k».proof.Proof.Gen.SbGateBackIdeal.Value
public import proofs.«01_k».proof.Proof.Gen.SbGateBackRefIdeal.Run
public import proofs.«01_k».proof.Proof.Gen.Pre_finite_gate
public import Idealize.ShloMosaic.Lib.Quiescent
public import Idealize.ShloMosaic.Lib.Claim
public import Idealize.ShloMosaic.Lib.Pipeline.ValueKit.Geometry

@[expose] public section

set_option maxRecDepth 16384

noncomputable section

namespace Cert.Proof

open Idealize.ShloMosaic hiding ix1 ix2 ix3
open Idealize.ShloMosaic.TcCoe Idealize.SL.Sem
open Idealize.ShloMosaic.ValueIdx
open Cert.Proof.Prod

namespace Gate

/-- The logistic function. -/
abbrev sg (x : EReal) : EReal := Ideal.div 1 (1 + Ideal.exp (-x))

/-- For a real cotangent, the kernel's gradient of x · σ(x) is the one by the product rule, also where x is an infinity. -/
theorem silu_back (x : EReal) (c : ℝ) :
    (c : EReal) * (sg x * (1 + x * (1 - sg x))) = c * sg x + x * c * (sg x * (1 - sg x)) := by
  show (c : EReal) * (Ideal.logistic x * (1 + x * (1 - Ideal.logistic x))) = c * Ideal.logistic x + x * c * (Ideal.logistic x * (1 - Ideal.logistic x))
  induction x with
  | bot => simp
  | top =>
    have h : (1 : EReal) - 1 = 0 := by rw [← EReal.coe_one, ← EReal.coe_sub, sub_self, EReal.coe_zero]
    simp [h]
  | coe x =>
    rw [Ideal.logistic_coe]
    norm_cast
    ring

end Gate

namespace PleBack

open Gate

/-- The reference leaves its arguments and every counter alone. -/
theorem frame_ref : Cert.quiescent_PleBackRefIdeal := fun m ρ _ =>
  (θ_run _ _ _).mono (fun r h => ⟨fun c => (h c).2.2, sem_eq_zero_of_no_sems (by decide) r.2⟩) (Cert.PleBackRefIdeal.Value.run m ρ)

/-- The two gradients of the per-layer embedding's gated sum. -/
theorem algebraic : Cert.algebraic_PleBackIdeal_PleBackRefIdeal := by
  intro m ρ m' ρ' _ e
  refine ⟨_, _, Cert.PleBackIdeal.Value.run m ρ, (θ_run _ _ _).mono (fun _ h c => ⟨?_, ?_, (h c).2.2⟩) (Cert.PleBackRefIdeal.Value.run m' ρ')⟩
  · rw [(h c).1, (e c).1, (e c).2.1]
    funext i
    have (x d o z : EReal) (hz : z = 0) : d * Ideal.div o (o + Ideal.exp (-x)) = d * Ideal.div o (o + Ideal.exp (z - x)) := by
      rw [hz, zero_sub]
    exact this _ _ _ _ Ideal.ofBits_zero_f32
  · rw [(h c).2.1, (e c).1, (e c).2.1, (e c).2.2]
    funext i
    have (x d p o z : EReal) (hz : z = 0) : p * d * (Ideal.div o (o + Ideal.exp (-x)) * (o - Ideal.div o (o + Ideal.exp (-x))))
        = d * p * Ideal.div o (o + Ideal.exp (z - x)) * (o - Ideal.div o (o + Ideal.exp (z - x))) := by
      rw [hz, zero_sub, mul_comm p d, mul_assoc (d * p)]
    exact this _ _ _ _ _ Ideal.ofBits_zero_f32

end PleBack

namespace SbGateBack

open Cert.SbGateBackIdeal Cert.SbGateBackIdeal.Gen Gate

/-- The reference leaves its arguments and every counter alone. -/
theorem frame_ref : Cert.quiescent_SbGateBackRefIdeal := fun m ρ _ =>
  (θ_run _ _ _).mono (fun r h => ⟨fun c => (h c).2.2, sem_eq_zero_of_no_sems (by decide) r.2⟩) (Cert.SbGateBackRefIdeal.Value.run m ρ)

/-- The gated cotangent, and the gate's gradient as the kernel computes it. -/
abbrev gated (d x : EReal) : EReal := d * (x * sg x)
abbrev back (d o x : EReal) : EReal := d * o * (sg x * (1 + x * (1 - sg x)))

theorem tile3 (D O G : ℕ → ℕ → EReal) : out0_3 (F := Ideal) (ar D : FVec Ideal (M 512 2048) .f32) (ar O : FVec Ideal (M 512 2048) .f32) (ar G : FVec Ideal (M 512 2048) .f32)
    = (ar fun a b => gated (D a b) (G a b) : FVec Ideal (M 512 2048) .f32) := by
  unfold out0_3 k0_pay1
  rw [View.canon_cons_unit_lit _ _ _ (by decide), View.ld_unit_lit _ _ (by decide), View.ld_unit_lit _ _ (by decide)]
  funext i
  have (d x o z : EReal) (ho : o = 1) (hz : z = 0) : d * (x * Ideal.div o (o + Ideal.exp (z - x))) = gated d x := by
    rw [ho, hz, zero_sub]
  exact this _ _ _ _ Ideal.ofBits_one_f32 Ideal.ofBits_zero_f32

theorem tile4 (D O G : ℕ → ℕ → EReal) : out0_4 (F := Ideal) (ar D : FVec Ideal (M 512 2048) .f32) (ar O : FVec Ideal (M 512 2048) .f32) (ar G : FVec Ideal (M 512 2048) .f32)
    = (ar fun a b => back (D a b) (O a b) (G a b) : FVec Ideal (M 512 2048) .bf16) := by
  unfold out0_4 k0_pay2
  rw [View.canon_cons_unit_lit _ _ _ (by decide), View.ld_unit_lit _ _ (by decide), View.ld_unit_lit _ _ (by decide), View.ld_unit_lit _ _ (by decide)]
  funext i
  have (d u x o z : EReal) (ho : o = 1) (hz : z = 0) :
      d * u * (Ideal.div o (o + Ideal.exp (z - x)) * (o + x * (o - Ideal.div o (o + Ideal.exp (z - x))))) = back d u x := by
    rw [ho, hz, zero_sub]
  exact this _ _ _ _ _ Ideal.ofBits_one_f32 Ideal.ofBits_zero_f32

theorem at3 : ∀ t : Fin cfg0.N, win0_0.index t = win0_3.index t ∧ win0_1.index t = win0_3.index t
    ∧ win0_2.index t = ![win0_3.index t 0, 3] ∧ win0_4.index t = win0_3.index t ∧ win0_3.index t 1 = 0 := by decide +kernel

variable {m : (ℓ : Loc nD τ sig) → Buf (Elt Ideal) ℓ} {c : Dev nD} {D O P : ℕ → ℕ → EReal}

section
variable (h0 : m ((c : Thread nD τ).loc main_arg0) = (ar D : FVec Ideal (M 2048 2048) .f32)) (h1 : m ((c : Thread nD τ).loc main_arg1) = (ar O : FVec Ideal (M 2048 2048) .f32))
  (h2 : m ((c : Thread nD τ).loc main_arg2) = (ar P : FVec Ideal (M 2048 8192) .f32))
include h0 h1 h2

theorem final3 : (dats m 0 c).arrAt 3 cfg0.N = (ar fun a b => gated (D a b) (P a (6144 + b)) : FVec Ideal (M 2048 2048) .f32) := by
  refine (dats m 0 c).arrAt_eq_of_covers 3 _ (by decide +kernel) fun t _ y => ?_
  obtain ⟨a0, a1, a2, a4, b⟩ := at3 t
  have e0 : iblk m c 0 t = (ar (blk (win0_0.index t) 512 2048 D) : FVec Ideal (M 512 2048) .f32) := congrArg ((win0_0.blk t).view.read _) h0
  have e1 : iblk m c 1 t = (ar (blk (win0_1.index t) 512 2048 O) : FVec Ideal (M 512 2048) .f32) := congrArg ((win0_1.blk t).view.read _) h1
  have e2 : iblk m c 2 t = (ar (blk (win0_2.index t) 512 2048 P) : FVec Ideal (M 512 2048) .f32) := congrArg ((win0_2.blk t).view.read _) h2
  have e : (dats m 0 c).after 3 t = (ar fun a b => gated (blk (win0_0.index t) 512 2048 D a b) (blk (win0_2.index t) 512 2048 P a b) : FVec Ideal (M 512 2048) .f32) :=
    (after0_3 m c t).trans (by rw [e0, e1, e2]; exact tile3 _ _ _)
  refine (congrFun e y).trans ?_
  rw [a0, a2]
  show gated (D _ _) (P (win0_3.index t 0 * 512 + 1 * (y 0).val) (3 * 2048 + 1 * (y 1).val)) = gated (D (win0_3.index t 0 * 512 + 1 * (y 0).val) (win0_3.index t 1 * 2048 + 1 * (y 1).val)) (P _ (6144 + (win0_3.index t 1 * 2048 + 1 * (y 1).val)))
  rw [b]
  exact congrArg (fun j => gated (D (win0_3.index t 0 * 512 + 1 * (y 0).val) (0 * 2048 + 1 * (y 1).val)) (P (win0_3.index t 0 * 512 + 1 * (y 0).val) j)) (by omega)

theorem final4 : (dats m 0 c).arrAt 4 cfg0.N = (ar fun a b => back (D a b) (O a b) (P a (6144 + b)) : FVec Ideal (M 2048 2048) .bf16) := by
  refine (dats m 0 c).arrAt_eq_of_covers 4 _ (by decide +kernel) fun t _ y => ?_
  obtain ⟨a0, a1, a2, a4, b⟩ := at3 t
  have e0 : iblk m c 0 t = (ar (blk (win0_0.index t) 512 2048 D) : FVec Ideal (M 512 2048) .f32) := congrArg ((win0_0.blk t).view.read _) h0
  have e1 : iblk m c 1 t = (ar (blk (win0_1.index t) 512 2048 O) : FVec Ideal (M 512 2048) .f32) := congrArg ((win0_1.blk t).view.read _) h1
  have e2 : iblk m c 2 t = (ar (blk (win0_2.index t) 512 2048 P) : FVec Ideal (M 512 2048) .f32) := congrArg ((win0_2.blk t).view.read _) h2
  have e : (dats m 0 c).after 4 t = (ar fun a b => back (blk (win0_0.index t) 512 2048 D a b) (blk (win0_1.index t) 512 2048 O a b) (blk (win0_2.index t) 512 2048 P a b) : FVec Ideal (M 512 2048) .bf16) :=
    (after0_4 m c t).trans (by rw [e0, e1, e2]; exact tile4 _ _ _)
  refine (congrFun e y).trans ?_
  show _ = back (D (win0_4.index t 0 * 512 + 1 * (y 0).val) (win0_4.index t 1 * 2048 + 1 * (y 1).val)) (O _ _) (P _ (6144 + (win0_4.index t 1 * 2048 + 1 * (y 1).val)))
  rw [a0, a1, a2, a4]
  show back _ _ (P (win0_3.index t 0 * 512 + 1 * (y 0).val) (3 * 2048 + 1 * (y 1).val)) = _
  rw [b]
  exact congrArg₂ (fun k j => back (D (win0_3.index t 0 * 512 + 1 * (y 0).val) k) (O (win0_3.index t 0 * 512 + 1 * (y 0).val) k) (P (win0_3.index t 0 * 512 + 1 * (y 0).val) j)) (by simp [b]) (by omega)

end

/-- The projection's last columns, which hold the gate. -/
theorem slice (P : ℕ → ℕ → EReal) (h) : extractStridedSlice (M 2048 2048) ![0, 6144] (ar P : FVec Ideal (M 2048 8192) .f32) h
    = (ar fun a b => P a (6144 + b) : FVec Ideal (M 2048 2048) .f32) :=
  funext fun i => congrArg (fun a => P a (6144 + (i 1).val)) (Nat.zero_add _)

open Cert.Proof.Attn (real_of_lt and_one exists_re re) in
/-- The gate's two gradients, where its cotangent and the attention's output are real. -/
theorem algebraic : Cert.algebraic_SbGateBackIdeal_SbGateBackRefIdeal_pre_finite_gate := by
  intro m ρ m' ρ' hp e
  choose D h0 using fun c : Dev nD => exists_re (m ((c : Thread nD τ).loc main_arg0) : FVec Ideal (M 2048 2048) .f32) fun i => real_of_lt _ (and_one _ _ (congrFun (hp c) i)).1
  choose O h1 using fun c : Dev nD => exists_re (m ((c : Thread nD τ).loc main_arg1) : FVec Ideal (M 2048 2048) .f32) fun i => real_of_lt _ (and_one _ _ (congrFun (hp c) i)).2
  choose P h2 using fun c : Dev nD => exists_ar (m ((c : Thread nD τ).loc main_arg2) : FVec Ideal (M 2048 8192) .f32)
  refine ⟨fun c => (ar fun a b => gated (D c a b) (P c a (6144 + b)) : FVec Ideal (M 2048 2048) .f32),
    fun c => (ar fun a b => back (D c a b) (O c a b) (P c a (6144 + b)) : FVec Ideal (M 2048 2048) .bf16),
    (θ_run _ _ _).mono (fun _ h c => ⟨?_, ?_, (h c).2.2⟩) (Cert.SbGateBackIdeal.Value.run_blocks m ρ),
    (θ_run _ _ _).mono (fun _ h c => ⟨?_, ?_, (h c).2.2⟩) (Cert.SbGateBackRefIdeal.Value.run m' ρ')⟩
  · exact (h c).1.trans (final3 (D := fun a b => D c a b) (O := fun a b => O c a b) (h0 c) (h1 c) (h2 c))
  · exact (h c).2.1.trans (final4 (D := fun a b => D c a b) (O := fun a b => O c a b) (h0 c) (h1 c) (h2 c))
  · rw [(h c).1, (e c).1, (e c).2.2, h0, h2, slice]
    funext i
    have (d x o : EReal) (ho : o = 1) : d * (x * Ideal.div o (o + Ideal.exp (-x))) = gated d x := by
      rw [ho]
    exact this (D c (i 0).val (i 1).val) (P c (i 0).val (6144 + (i 1).val)) _ Ideal.ofBits_one_f32
  · rw [(h c).2.1, (e c).1, (e c).2.1, (e c).2.2, h0, h1, h2, slice]
    funext i
    have (d u : ℝ) (x o : EReal) (ho : o = 1) :
        (u : EReal) * d * Ideal.div o (o + Ideal.exp (-x)) + x * (u * d) * (Ideal.div o (o + Ideal.exp (-x)) * (o - Ideal.div o (o + Ideal.exp (-x)))) = back d u x := by
      rw [ho, mul_comm (u : EReal) d, ← EReal.coe_mul]
      exact (silu_back x (d * u)).symm
    exact this (D c (i 0).val (i 1).val) (O c (i 0).val (i 1).val) (P c (i 0).val (6144 + (i 1).val)) _ Ideal.ofBits_one_f32

end SbGateBack

end Cert.Proof

end
-- ==== Proof.Fwd.lean ====
/- The forward attention's tile as a function of its operands, and the chain of the eight tiles of a head, the last
   keys first: what the body leaves in its three outputs. A tile's shapes are those of the backward call. -/
module

public import proofs.«01_k».proof.Proof.Tile
public import proofs.«01_k».proof.Proof.Gen.SbFwdIdeal.Frame
public import Idealize.ShloMosaic.Lib.VecWindow

@[expose] public section

set_option maxRecDepth 16384

noncomputable section

namespace Cert.Proof.SbFwd

open Cert.SbFwdIdeal Cert.SbFwdIdeal.Gen
open Idealize.ShloMosaic Idealize.ShloMosaic.TcCoe
open Cert.Proof.Attn (M Wf WfAt mskT splat lbT l1T triT rowT nnD cut cut1 put put1 wf0 wf1 wf2 wf3 wf4 wf5 wf6 wf7 blk rowsIn)

variable {F : FTy → Type} [FloatOps F]

section Tile

variable {R N : ℕ} (W : Wf R N)

/-- The attention weights: to the log-sum over the later keys of the tile comes that over the tiles after it. -/
def attF (q : FVec F (M R 128) .bf16) (run : FVec F (M R 1) .f32) (k : FVec F (M 256 128) .bf16) : FVec F (M R 256) .f32 :=
  select (mskT W) (exp (addf (lbT W q k) (addf (triT W (l1T W q k) k0_pay120) (broadcastTo (M R 256) run W.bc))))
    (splat _ 0x00000000#32)

/-- A tile's part of the output, added to what is there. -/
def accF (q : FVec F (M R 128) .bf16) (run : FVec F (M R 1) .f32) (k : FVec F (M 256 128) .bf16) (v : FVec F (M 256 128) .f32)
    (a : FVec F (M R 128) .f32) : FVec F (M R 128) .f32 :=
  addf a (matmul (nnD W) none (truncf .bf16 (attF W q run k) bitsLt_bf16_f32) (truncf .bf16 v bitsLt_bf16_f32)
    (constant (M R 128) .f32 0x00000000#32))

end Tile

/-- What the tiles hand on: the output so far, and per row the running sum of the log terms. -/
structure St (F : FTy → Type) where
  acc : FVec F (M 2048 128) .f32
  run : FVec F (M 2048 1) .f32

/-- A tile that leaves the rows before its own alone. -/
def stepF {o R N : ℕ} (W : WfAt o R N) (q : FVec F (M 2048 128) .bf16) (s : St F) (k : FVec F (M 256 128) .bf16) (v : FVec F (M 256 128) .f32) : St F where
  acc := put W s.acc (accF W.toWf (cut W q) (cut1 W s.run) k v (cut W s.acc))
  run := put1 W s.run (rowT W.toWf (l1T W.toWf (cut W q) k) (cut1 W s.run))

/-- The tile of all the rows. -/
def stepF0 (W : Wf 2048 6144) (q : FVec F (M 2048 128) .bf16) (s : St F) (k : FVec F (M 256 128) .bf16) (v : FVec F (M 256 128) .f32) : St F where
  acc := accF W q s.run k v s.acc
  run := rowT W (l1T W q k) s.run

section Chain

variable (q : FVec F (M 2048 128) .bf16) (k : Fin 8 → FVec F (M 256 128) .bf16) (v : Fin 8 → FVec F (M 256 128) .f32)

def f8 : St F := ⟨k0_pay121, k0_pay122⟩
def f7 : St F := stepF wf7 q f8 (k 7) (v 7)
def f6 : St F := stepF wf6 q (f7 q k v) (k 6) (v 6)
def f5 : St F := stepF wf5 q (f6 q k v) (k 5) (v 5)
def f4 : St F := stepF wf4 q (f5 q k v) (k 4) (v 4)
def f3 : St F := stepF wf3 q (f4 q k v) (k 3) (v 3)
def f2 : St F := stepF wf2 q (f3 q k v) (k 2) (v 2)
def f1 : St F := stepF wf1 q (f2 q k v) (k 1) (v 1)
def f0 : St F := stepF0 wf0 q (f1 q k v) (k 0) (v 0)

end Chain

section Run

theorem trips1 : ∀ i : grid0.Coords, (k0_t1_loop i).trips = 0 := by decide +kernel
theorem trips2 : ∀ i : grid0.Coords, (k0_t2_loop i).trips = 0 := by decide +kernel

variable (c : Dev nD) (i : grid0.Coords) (arg2 : Memref sig .tc .vmem S2048x128 .bf16) (harg2 : arg2.IsWhole)
  (arg3 : Memref sig .tc .vmem S2048x128 .bf16) (harg3 : arg3.IsWhole) (arg4 : Memref sig .tc .vmem S2048x128 .f32) (harg4 : arg4.IsWhole)
  (arg5 : Memref sig .tc .vmem S2048x128 .f32) (harg5 : arg5.IsWhole) (arg6 : Memref sig .tc .vmem S2048x128 .f32) (harg6 : arg6.IsWhole)
  (arg7 : Memref sig .tc .vmem S2048x128 .f32) (harg7 : arg7.IsWhole) (arg8 : Memref sig .tc .vmem S2048x128 .bf16) (harg8 : arg8.IsWhole)
  (x0 x1 : Vec F S2048x128 .bf16) (x2 x3 : Vec F S2048x128 .f32)

/-- The block of rows that a tile loads. -/
def ld {e : EltTy} (arg : Memref sig .tc .vmem S2048x128 e) (f : arg.view.ty.Contents (Elt F)) (d : Fin 8) : S256x128.Idx → Elt F e :=
  View.readAt (Elt F) arg.view (Rect.unit (s := S2048x128) (k0_off1 i (BitVec.ofNat 32 d.val)) S256x128.size (k0_off1_inb i d)).toLoadRect f

theorem off_eq (d : Fin 8) : k0_off1 i (BitVec.ofNat 32 d.val) = ![256 * d.val, 0] := by
  refine (k0_off1_eq i d).trans ?_
  have : (i 1).val < 1 := (i 1).isLt
  rw [show 2048 * (i 1).val + 256 * d.val = 256 * d.val by omega]

theorem ld_eq {e : EltTy} (arg : Memref sig .tc .vmem S2048x128 e) (h : arg.IsWhole) (x : S2048x128.Idx → Elt F e) (d : Fin 8) :
    ld i arg (h.unread x) d = blk x d := by
  refine (View.readAt_unit arg.view _ _ (off_eq i d) (rowsIn d)).trans ?_
  rw [h.read_unread]
  rfl

abbrev kb : Fin 8 → FVec F (M 256 128) .bf16 := ld i arg3 (harg3.unread x1)
abbrev vb : Fin 8 → FVec F (M 256 128) .f32 := ld i arg4 (harg4.unread x2)

/-- What the body holds after a tile, as the chain's state. -/
theorem e7 : (⟨kernelRun0_A.sl.r_6 c i arg2 harg2 arg3 harg3 arg4 harg4 x0 x1 x2, kernelRun0_A.sl.r_7 c i arg2 harg2 arg3 harg3 x0 x1⟩ : St F) =
    f7 (kernelRun0_A.sl.r c arg2 harg2 x0) (kb i arg3 harg3 x1) (vb i arg4 harg4 x2) := rfl

theorem e6 : (⟨kernelRun0_A.sl.r_13 c i arg2 harg2 arg3 harg3 arg4 harg4 x0 x1 x2, kernelRun0_A.sl.r_14 c i arg2 harg2 arg3 harg3 x0 x1⟩ : St F) =
    f6 (kernelRun0_A.sl.r c arg2 harg2 x0) (kb i arg3 harg3 x1) (vb i arg4 harg4 x2) := by
  unfold f6
  rw [← e7 c i arg2 harg2 arg3 harg3 arg4 harg4 x0 x1 x2]
  rfl

theorem e5 : (⟨kernelRun0_A.sl.r_21 c i arg2 harg2 arg3 harg3 arg4 harg4 x0 x1 x2, kernelRun0_A.sl.r_22 c i arg2 harg2 arg3 harg3 x0 x1⟩ : St F) =
    f5 (kernelRun0_A.sl.r c arg2 harg2 x0) (kb i arg3 harg3 x1) (vb i arg4 harg4 x2) := by
  unfold f5
  rw [← e6 c i arg2 harg2 arg3 harg3 arg4 harg4 x0 x1 x2]
  rfl

theorem e4 : (⟨kernelRun0_A.sl.r_29 c i arg2 harg2 arg3 harg3 arg4 harg4 x0 x1 x2, kernelRun0_A.sl.r_30 c i arg2 harg2 arg3 harg3 x0 x1⟩ : St F) =
    f4 (kernelRun0_A.sl.r c arg2 harg2 x0) (kb i arg3 harg3 x1) (vb i arg4 harg4 x2) := by
  unfold f4
  rw [← e5 c i arg2 harg2 arg3 harg3 arg4 harg4 x0 x1 x2]
  rfl

theorem e3 : (⟨kernelRun0_A.sl.r_36 c i arg2 harg2 arg3 harg3 arg4 harg4 x0 x1 x2, kernelRun0_A.sl.r_37 c i arg2 harg2 arg3 harg3 x0 x1⟩ : St F) =
    f3 (kernelRun0_A.sl.r c arg2 harg2 x0) (kb i arg3 harg3 x1) (vb i arg4 harg4 x2) := by
  unfold f3
  rw [← e4 c i arg2 harg2 arg3 harg3 arg4 harg4 x0 x1 x2]
  rfl

theorem e2 : (⟨kernelRun0_A.sl.r_42 c i arg2 harg2 arg3 harg3 arg4 harg4 x0 x1 x2, kernelRun0_A.sl.r_43 c i arg2 harg2 arg3 harg3 x0 x1⟩ : St F) =
    f2 (kernelRun0_A.sl.r c arg2 harg2 x0) (kb i arg3 harg3 x1) (vb i arg4 harg4 x2) := by
  unfold f2
  rw [← e3 c i arg2 harg2 arg3 harg3 arg4 harg4 x0 x1 x2]
  rfl

theorem e1 : (⟨kernelRun0_A.sl.r_49 c i arg2 harg2 arg3 harg3 arg4 harg4 x0 x1 x2, kernelRun0_A.sl.r_50 c i arg2 harg2 arg3 harg3 x0 x1⟩ : St F) =
    f1 (kernelRun0_A.sl.r c arg2 harg2 x0) (kb i arg3 harg3 x1) (vb i arg4 harg4 x2) := by
  unfold f1
  rw [← e2 c i arg2 harg2 arg3 harg3 arg4 harg4 x0 x1 x2]
  rfl

theorem r_eq : kernelRun0_A.sl.r c arg2 harg2 x0 = x0 :=
  (View.readAt_full arg2.view _ _).trans (harg2.read_unread x0)

/-- The state after the eight tiles, from a head's arrays. -/
def fin (x0 x1 : S2048x128.Idx → Elt F .bf16) (x2 : S2048x128.Idx → Elt F .f32) : St F := f0 x0 (blk x1) (blk x2)

theorem e0 : (⟨k0_pay204 (kernelRun0_A.sl.r_49 c i arg2 harg2 arg3 harg3 arg4 harg4 x0 x1 x2) (kernelRun0_A.sl.r_50 c i arg2 harg2 arg3 harg3 x0 x1) k0_pay196
        (kernelRun0_A.sl.r_51 c i arg4 harg4 x2) (kernelRun0_A.sl.r_52 c i arg2 harg2 arg3 harg3 x0 x1) (kernelRun0_A.sl.r_54 c i arg2 harg2 arg3 harg3 x0 x1)
        (kernelRun0_A.sl.r_55 c i arg2 harg2 arg3 harg3 x0 x1),
      k0_pay205 (kernelRun0_A.sl.r_50 c i arg2 harg2 arg3 harg3 x0 x1) (kernelRun0_A.sl.r_53 c i arg2 harg2 arg3 harg3 x0 x1)⟩ : St F) = fin x0 x1 x2 := by
  refine Eq.trans (b := f0 (kernelRun0_A.sl.r c arg2 harg2 x0) (kb i arg3 harg3 x1) (vb i arg4 harg4 x2)) ?_ ?_
  · unfold f0
    rw [← e1 c i arg2 harg2 arg3 harg3 arg4 harg4 x0 x1 x2]
    rfl
  · rw [r_eq, show kb i arg3 harg3 x1 = blk x1 from funext (ld_eq i arg3 harg3 x1), show vb i arg4 harg4 x2 = blk x2 from funext (ld_eq i arg4 harg4 x2)]
    rfl

/-- The one store into an output, whole. -/
abbrev whole {e : EltTy} (x : S2048x128.Idx → Elt F e) : List (View.Piece (Elt F) S2048x128 e) :=
  [⟨Rect.unit ![0, 0] S2048x128.size inb_S2048x128_S2048x128_0_0, x⟩]

theorem read_whole {e : EltTy} (arg : View sig .tc .vmem S2048x128 e) (x : S2048x128.Idx → Elt F e) :
    arg.read (Elt F) (arg.writes (Elt F) arg.junk (whole x)) = x := by
  refine (View.read_writes_eq_canon _ _ _ fun y => ⟨_, List.mem_singleton_self _, ?_⟩).trans (View.canon_cons_unit_lit _ _ _ ?_)
  · exact (Rect.mem_set_unit (inb := inb_S2048x128_S2048x128_0_0)).mpr fun a => by
      fin_cases a
      · exact ⟨Nat.zero_le _, lt_of_lt_of_eq (y 0).isLt (Nat.zero_add 2048).symm⟩
      · exact ⟨Nat.zero_le _, lt_of_lt_of_eq (y 1).isLt (Nat.zero_add 128).symm⟩
  · intro a
    fin_cases a <;> rfl

theorem pieces : (kernelRun0_A c i arg2 harg2 arg3 harg3 arg4 harg4 arg5 harg5 arg6 harg6 arg7 harg7 arg8 harg8 x0 x1 x2 x3).1 = whole (fin x0 x1 x2).acc
    ∧ (kernelRun0_A c i arg2 harg2 arg3 harg3 arg4 harg4 arg5 harg5 arg6 harg6 arg7 harg7 arg8 harg8 x0 x1 x2 x3).2.1 = whole (k0_pay210 (fin x0 x1 x2).run)
    ∧ (kernelRun0_A c i arg2 harg2 arg3 harg3 arg4 harg4 arg5 harg5 arg6 harg6 arg7 harg7 arg8 harg8 x0 x1 x2 x3).2.2.1
      = whole (k0_pay1 (fin x0 x1 x2).acc x3 (k0_pay211 x3)) := by
  have h1 := trips1 i
  have h2 := trips2 i
  have h3 : View.readAt (Elt F) arg5.view (Rect.unit ![0, 0] S2048x128.size inb_S2048x128_S2048x128_0_0).toLoadRect (harg5.unread x3) = x3 :=
    (View.readAt_full arg5.view _ _).trans (harg5.read_unread x3)
  unfold Scf.Loop.trips at h1 h2
  rw [← e0 c i arg2 harg2 arg3 harg3 arg4 harg4 x0 x1 x2]
  unfold kernelRun0_A
  dsimp only
  refine ⟨?_, ?_, ?_⟩
  · rw [h1, h2]
    rfl
  · rw [h1, h2]
    rfl
  · unfold kernelRun0_A.sl.r_56
    rw [h1, h2]
    conv_rhs => rw [← h3]
    rfl

end Run

end Cert.Proof.SbFwd
-- ==== Proof.FwdReal.lean ====
/- The forward attention's eight tiles over real queries and keys and any values: after the tile at `o` the output holds the
   terms of the keys from `o` on, and the running sum the log terms of those keys. -/
module

public import proofs.«01_k».proof.Proof.Fwd
public import proofs.«01_k».proof.Proof.RealHead

@[expose] public section

set_option maxRecDepth 16384

noncomputable section

namespace Cert.Proof.SbFwd

open Cert.SbFwdIdeal Cert.SbFwdIdeal.Gen
open Idealize.ShloMosaic hiding ix1 ix2
open Idealize.ShloMosaic.ValueIdx
open Finset (range)
open Cert.Proof.Prod (ar ar_congr)
open Cert.Proof.Attn hiding St

theorem later_re : (k0_pay120 : FVec Ideal (M 256 256) .bf16) = re fun i j => if j < i then 1 else 0 := by
  funext i
  have h0 := idx2_lt0 i
  have h1 := idx2_lt1 i
  unfold k0_pay120
  show ((((IntOp.cmpi .slt (iota .tc S256x256 32 [1] _ i) (iota .tc S256x256 32 [0] _ i)).setWidth 32).toInt : ℝ) : EReal) = ((if _ then _ else _ : ℝ) : EReal)
  rw [iota_apply, iota_apply]
  simp only [List.foldl_cons, List.foldl_nil, zero_mul, zero_add]
  rw [WordCmp.cmpi_slt_ofNat (w := 32) (by norm_num; omega) (by norm_num; omega)]
  by_cases h : (i 1).val < (i 0).val
  · rw [decide_eq_true h, if_pos h, show ((BitVec.ofBool true).setWidth 32).toInt = 1 from by decide]; norm_num
  · rw [decide_eq_false h, if_neg h]; norm_num

theorem sum_gt {n j : ℕ} (hj : j < n) (f : ℕ → ℝ) :
    (∑ i ∈ range n, f i * if j < i then 1 else 0) = (∑ i ∈ range n, f i) - ∑ i ∈ range (j + 1), f i := by
  rw [← sum_le hj, ← Finset.sum_sub_distrib]
  refine Finset.sum_congr rfl fun i _ => ?_
  rcases Nat.lt_or_ge j i with h | h
  · rw [if_pos h, if_neg (not_le.mpr h)]; ring
  · rw [if_neg (not_lt.mpr h), if_pos h]; ring

section Fns

variable (q k run : ℕ → ℕ → ℝ) (V A : ℕ → ℕ → EReal)

def attFR (t j : ℕ) : ℝ :=
  if j < t then Real.exp (lbR (zR q k t j) + ((∑ i ∈ range 256, l1R q k t i * if j < i then 1 else 0) + run t 0)) else 0

variable {R N : ℕ} (W : Wf R N) (hR : R ≤ 2048)
include hR

theorem attF_re : attF W (re q : FVec Ideal _ _) (re run) (re k) = re (attFR q k run) := by
  unfold attF
  rw [lbT_re q k W hR, l1T_re q k W hR, tri_re W _ _ _ later_re, bc_re W, re_add, re_add, re_exp, splat_zero, select_re W hR]
  rfl

theorem accF_ar : accF W (re q : FVec Ideal _ _) (re run) (re k) (ar V) (ar A) =
    ar fun t e => A t e + ∑ j ∈ range 256, (attFR q k run t j : EReal) * V j e := by
  unfold accF
  rw [attF_re q k run W hR]
  exact congrArg (addf (ar A)) (mm_nn_ar W (fun t j => (attFR q k run t j : EReal)) V _ _ rfl rfl)

end Fns

variable (q k : ℕ → ℕ → ℝ) (V : ℕ → ℕ → EReal) (o : ℕ)

/-- The sums over the keys from `o` on. -/
def accG : ℕ → ℕ → EReal := fun t e => ∑ s ∈ Finset.Ico o 2048, (attG q k t s : EReal) * V s e
def runG : ℕ → ℕ → ℝ := fun t _ => totG q k t - ∑ u ∈ range o, l1R q k t u

structure Inv (s : St Ideal) : Prop where
  acc : s.acc = ar (accG q k V o)
  run : s.run = re (runG q k o)

theorem accG_split (ho : o + 256 ≤ 2048) (t e : ℕ) :
    accG q k V o t e = accG q k V (o + 256) t e + ∑ j ∈ range 256, (attG q k t (o + j) : EReal) * V (o + j) e := by
  unfold accG
  rw [← Finset.sum_Ico_consecutive _ (Nat.le_add_right o 256) ho, add_comm, Finset.sum_Ico_eq_sum_range _ o (o + 256), Nat.add_sub_cancel_left]

theorem runG_split (t e : ℕ) : runG q k o t e = runG q k (o + 256) t e + ∑ j ∈ range 256, l1R q k t (o + j) := by
  unfold runG
  rw [Finset.sum_range_add]
  ring

theorem attF_sh (t : ℕ) {j : ℕ} (hj : j < 256) : attFR (sh o q) (sh o k) (sh o (runG q k (o + 256))) t j = attG q k (o + t) (o + j) := by
  unfold attFR attG
  simp only [add_lt_add_iff_left, l1R_sh, sum_gt hj]
  split_ifs with h
  · congr 2
    show _ + (totG q k (o + t) - ∑ u ∈ range (o + 256), l1R q k (o + t) u) = _
    rw [show o + j + 1 = o + (j + 1) by omega, Finset.sum_range_add (fun u => l1R q k (o + t) u) o (j + 1),
      Finset.sum_range_add (fun u => l1R q k (o + t) u) o 256]
    ring
  · rfl

theorem step_inv {R N : ℕ} (W : WfAt o R N) (hoR : o + R = 2048) (ho : o + 256 ≤ 2048) {s : St Ideal} (hs : Inv q k V (o + 256) s) :
    Inv q k V o (stepF W (re q) s (re (sh o k)) (ar (sh o V))) := by
  have hR : R ≤ 2048 := by omega
  unfold stepF
  rw [hs.acc, hs.run]
  simp only [cut_re o W, cut1_re o W]
  refine ⟨?_, ?_⟩
  · rw [show cut W (ar (accG q k V (o + 256)) : FVec Ideal (M 2048 128) .f32) = ar (sh o (accG q k V (o + 256))) from slice_ar o _ _,
      accF_ar _ _ _ _ _ W.toWf hR]
    refine put_ar o W (ar_congr fun t _ e _ => ?_) fun t e ht => ?_
    · refine Eq.trans ?_ (accG_split q k V o ho (o + t) e).symm
      exact congrArg _ (Finset.sum_congr rfl fun j hj => by rw [attF_sh q k o t (Finset.mem_range.mp hj)]; rfl)
    · rw [accG_split q k V o ho t e, Finset.sum_eq_zero, add_zero]
      intro x _
      rw [attG_zero q k (by omega), EReal.coe_zero, zero_mul]
  · rw [l1T_re _ _ W.toWf hR]
    refine put1_re o W ((row_re W.toWf _ _).trans (re_congr fun t _ e _ => ?_)) fun t e ht => ?_
    · refine Eq.trans ?_ (runG_split q k o (o + t) e).symm
      exact congrArg _ (Finset.sum_congr rfl fun j hj => l1R_sh q k o t j)
    · rw [runG_split q k o t e, Finset.sum_eq_zero, add_zero]
      intro x _
      exact l1R_zero q k (by omega)

theorem step0_inv {s : St Ideal} (hs : Inv q k V 256 s) : Inv q k V 0 (stepF0 wf0 (re q) s (re k) (ar V)) := by
  have A := fun t j hj => attF_sh q k 0 t (j := j) hj
  have B := accG_split q k V 0 (by norm_num)
  have C := runG_split q k 0
  simp only [sh_zero, Nat.zero_add] at A B C
  unfold stepF0
  rw [hs.acc, hs.run]
  refine ⟨?_, ?_⟩
  · refine (accF_ar _ _ _ _ _ wf0 le_rfl).trans (ar_congr fun t _ e _ => ?_)
    refine Eq.trans ?_ (B t e).symm
    exact congrArg _ (Finset.sum_congr rfl fun j hj => by rw [A t j (Finset.mem_range.mp hj)])
  · refine (congrArg (rowT wf0 · _) (l1T_re _ _ wf0 le_rfl)).trans ((row_re wf0 _ _).trans (re_congr fun t _ e _ => ?_))
    exact (C t e).symm

theorem blk_ar (n : Fin 8) : blk (F := Ideal) (e := .f32) (ar V : FVec Ideal (M 2048 128) .f32) n = (ar (sh (256 * n.val) V) : FVec Ideal (M 256 128) .f32) := by
  funext j
  show V (256 * n.val + 1 * (j 0).val) (0 + 1 * (j 1).val) = V (256 * n.val + (j 0).val) (j 1).val
  rw [one_mul, one_mul, Nat.zero_add]

theorem inv8 : Inv q k V 2048 (f8 : St Ideal) := by
  refine ⟨(splat_zero (r := 2048) (c := 128)).trans (ar_congr (X := fun _ _ => ((0 : ℝ) : EReal)) fun t _ e _ => ?_),
    (splat_zero (r := 2048) (c := 1)).trans (re_congr fun t _ e _ => ?_)⟩
  · unfold accG
    rw [Finset.Ico_self, Finset.sum_empty]
    exact EReal.coe_zero
  · exact (sub_self _).symm

/-- A head's arrays: the keys' and the values' tiles. -/
abbrev kt : Fin 8 → FVec Ideal (M 256 128) .bf16 := blk (F := Ideal) (e := .bf16) (re k : FVec Ideal (M 2048 128) .bf16)
abbrev vt : Fin 8 → FVec Ideal (M 256 128) .f32 := blk (F := Ideal) (e := .f32) (ar V : FVec Ideal (M 2048 128) .f32)

theorem inv7 : Inv q k V 1792 (f7 (re q) (kt k) (vt V)) := by
  unfold f7
  rw [kt, vt, blk_reK, blk_ar]
  exact step_inv q k V 1792 wf7 rfl (by norm_num) (inv8 q k V)
theorem inv6 : Inv q k V 1536 (f6 (re q) (kt k) (vt V)) := by
  have h := inv7 q k V
  unfold f6
  rw [kt, vt, blk_reK k 6, blk_ar V 6]
  exact step_inv q k V 1536 wf6 rfl (by norm_num) h
theorem inv5 : Inv q k V 1280 (f5 (re q) (kt k) (vt V)) := by
  have h := inv6 q k V
  unfold f5
  rw [kt, vt, blk_reK k 5, blk_ar V 5]
  exact step_inv q k V 1280 wf5 rfl (by norm_num) h
theorem inv4 : Inv q k V 1024 (f4 (re q) (kt k) (vt V)) := by
  have h := inv5 q k V
  unfold f4
  rw [kt, vt, blk_reK k 4, blk_ar V 4]
  exact step_inv q k V 1024 wf4 rfl (by norm_num) h
theorem inv3 : Inv q k V 768 (f3 (re q) (kt k) (vt V)) := by
  have h := inv4 q k V
  unfold f3
  rw [kt, vt, blk_reK k 3, blk_ar V 3]
  exact step_inv q k V 768 wf3 rfl (by norm_num) h
theorem inv2 : Inv q k V 512 (f2 (re q) (kt k) (vt V)) := by
  have h := inv3 q k V
  unfold f2
  rw [kt, vt, blk_reK k 2, blk_ar V 2]
  exact step_inv q k V 512 wf2 rfl (by norm_num) h
theorem inv1 : Inv q k V 256 (f1 (re q) (kt k) (vt V)) := by
  have h := inv2 q k V
  unfold f1
  rw [kt, vt, blk_reK k 1, blk_ar V 1]
  exact step_inv q k V 256 wf1 rfl (by norm_num) h
theorem inv0 : Inv q k V 0 (f0 (re q) (kt k) (vt V)) := by
  have h := inv1 q k V
  unfold f0
  rw [kt, vt, blk_reK k 0, blk_ar V 0]
  simp only [Fin.val_zero, mul_zero, sh_zero]
  exact step0_inv q k V h

/-- A head's output. -/
def outG : ℕ → ℕ → EReal := fun t e => ∑ s ∈ range 2048, (attG q k t s : EReal) * V s e

theorem fin_acc : (fin (F := Ideal) (re q : FVec Ideal (M 2048 128) .bf16) (re k : FVec Ideal (M 2048 128) .bf16) (ar V : FVec Ideal (M 2048 128) .f32)).acc = ar (outG q k V) :=
  (inv0 q k V).acc.trans (ar_congr fun t _ e _ => by unfold accG outG; rw [Finset.range_eq_Ico])

theorem fin_run : (fin (F := Ideal) (re q : FVec Ideal (M 2048 128) .bf16) (re k : FVec Ideal (M 2048 128) .bf16) (ar V : FVec Ideal (M 2048 128) .f32)).run = re fun t _ => totG q k t :=
  (inv0 q k V).run.trans (re_congr fun t _ e _ => by unfold runG; rw [Finset.sum_range_zero, sub_zero])

end Cert.Proof.SbFwd
-- ==== Proof.FwdValues.lean ====
/- The forward attention's three arrays, as the kernel's run and the reference's leave them. -/
module

public import proofs.«01_k».proof.Defs
public import proofs.«01_k».proof.Proof.FwdReal
public import proofs.«01_k».proof.Proof.Gates
public import proofs.«01_k».proof.Proof.Gen.SbFwd
public import proofs.«01_k».proof.Proof.Gen.SbFwdRefIdeal.Run
public import proofs.«01_k».proof.Proof.Gen.SbFwdRefIdeal.Read
public import proofs.«01_k».proof.Proof.Gen.Pre_finite_logits

@[expose] public section

set_option maxRecDepth 16384

noncomputable section

namespace Cert.Proof.SbFwd

open Cert.SbFwdIdeal Cert.SbFwdIdeal.Gen
open Idealize.ShloMosaic hiding ix1 ix2 ix3
open Idealize.ShloMosaic.TcCoe Idealize.SL.Sem
open Idealize.ShloMosaic.ValueIdx
open Finset (range)
open Cert.Proof.Prod (ar ar3 ar_congr ar_mat mat)
open Cert.Proof.Attn (M M3 re re_congr re3 heads unheads unheads_at aQ totG attG ar3_dot_nn ar_heads ar_unheads ar_cols ref_v27_0 tot_re exists_re real_of_lt and_one)
open Cert.Proof.SbGateBack (gated)
open Cert.Proof.Gate (sg)

/-! ## What the body leaves -/

section After

variable (m : (ℓ : Loc nD τ sig) → Buf (Elt Ideal) ℓ) (c : Dev nD) (t : Fin cfg0.N)

/-- The state after a head's tiles. -/
abbrev end' : St Ideal := fin (F := Ideal) (iblk m c 0 t) (iblk m c 1 t) (iblk m c 2 t)

theorem after4 : (dats m 0 c).after 4 t = (end' m c t).acc := by
  refine (after0_4 m c t).trans ?_
  unfold outsAt0 out0_A_4
  dsimp only
  rw [(pieces _ _ _ _ _ _ _ _ _ _ _ _ _ _ _ _ _ _ _ _).1]
  exact read_whole _ _

theorem after5 : (dats m 0 c).after 5 t = k0_pay210 (end' m c t).run := by
  refine (after0_5 m c t).trans ?_
  unfold outsAt0 out0_A_5
  dsimp only
  rw [(pieces _ _ _ _ _ _ _ _ _ _ _ _ _ _ _ _ _ _ _ _).2.1]
  exact read_whole _ _

theorem after6 : (dats m 0 c).after 6 t = k0_pay1 (end' m c t).acc (iblk m c 3 t) (k0_pay211 (iblk m c 3 t)) := by
  refine (after0_6 m c t).trans ?_
  unfold outsAt0 out0_A_6
  dsimp only
  rw [(pieces _ _ _ _ _ _ _ _ _ _ _ _ _ _ _ _ _ _ _ _).2.2]
  exact read_whole _ _

end After

theorem tot_tile (X : ℕ → ℕ → ℝ) : k0_pay210 (F := Ideal) (re X : FVec Ideal (M 2048 1) .f32) = (re fun t _ => X t 0 : FVec Ideal (M 2048 128) .f32) := by
  unfold k0_pay210
  dsimp only
  rw [shapeCast_self]
  funext i
  refine (broadcastTo_apply _ broadcasts_S2048x1_S2048x128 i (ix2 (i 0) 0) fun a => ?_).trans rfl
  match a with
  | ⟨0, _⟩ => rfl
  | ⟨1, _⟩ => rfl

theorem gate_tile (X G : ℕ → ℕ → EReal) : k0_pay1 (F := Ideal) (ar X : FVec Ideal (M 2048 128) .f32) (ar G : FVec Ideal (M 2048 128) .f32) (k0_pay211 (ar G : FVec Ideal (M 2048 128) .f32))
    = (ar fun a b => gated (X a b) (G a b) : FVec Ideal (M 2048 128) .bf16) := by
  unfold k0_pay1 k0_pay211
  funext i
  have (d x o z : EReal) (ho : o = 1) (hz : z = 0) : d * (x * Ideal.div o (o + Ideal.exp (z - x))) = gated d x := by
    rw [ho, hz, zero_sub]
  exact this _ _ _ _ Ideal.ofBits_one_f32 Ideal.ofBits_zero_f32

/-! ## The kernel's arrays -/

/-- The columns from `o` on. -/
abbrev from' (o : ℕ) (P : ℕ → ℕ → EReal) : ℕ → ℕ → EReal := fun a b => P a (o + b)

/-- The output, the row totals and the gated output, the heads side by side. -/
def oA (Q K : ℕ → ℕ → ℝ) (P : ℕ → ℕ → EReal) : ℕ → ℕ → EReal := unheads fun h => outG (heads Q h) (heads K h) (heads (from' 4096 P) h)
def tA (Q K : ℕ → ℕ → ℝ) : ℕ → ℕ → ℝ := unheads fun h t _ => totG (heads Q h) (heads K h) t
def gA (Q K : ℕ → ℕ → ℝ) (P : ℕ → ℕ → EReal) : ℕ → ℕ → EReal := fun a b => gated (oA Q K P a b) (P a (6144 + b))

section Arrays

variable {m : (ℓ : Loc nD τ sig) → Buf (Elt Ideal) ℓ} {c : Dev nD} {Q K : ℕ → ℕ → ℝ} {P : ℕ → ℕ → EReal}

theorem at_in : ∀ t : Fin cfg0.N, win0_0.index t = ![0, t.val] ∧ win0_1.index t = ![0, t.val] ∧ win0_2.index t = ![0, 32 + t.val]
    ∧ win0_3.index t = ![0, 48 + t.val] := by decide +kernel
theorem at_out : ∀ t : Fin cfg0.N, win0_4.index t = ![0, t.val] ∧ win0_5.index t = ![0, t.val] ∧ win0_6.index t = ![0, t.val] := by decide +kernel

/-- A head's columns in an array, by the block index. -/
theorem cols_at {α : Type} (X : ℕ → ℕ → α) (p : Fin 2 → ℕ) (o t a b : ℕ) (hp : p = ![0, o + t]) :
    X (p 0 * 2048 + 1 * a) (p 1 * 128 + 1 * b) = heads (fun a b => X a (128 * o + b)) t a b := by
  subst hp
  show X (0 * 2048 + 1 * a) ((o + t) * 128 + 1 * b) = X a (128 * o + (128 * t + b))
  rw [show 0 * 2048 + 1 * a = a by omega, show (o + t) * 128 + 1 * b = 128 * o + (128 * t + b) by omega]

theorem cols0 {α : Type} (X : ℕ → ℕ → α) (p : Fin 2 → ℕ) (t a b : ℕ) (hp : p = ![0, t]) :
    X (p 0 * 2048 + 1 * a) (p 1 * 128 + 1 * b) = heads X t a b := by
  subst hp
  show X (0 * 2048 + 1 * a) (t * 128 + 1 * b) = X a (128 * t + b)
  rw [show 0 * 2048 + 1 * a = a by omega, show t * 128 + 1 * b = 128 * t + b by omega]

section
variable (h0 : m ((c : Thread nD τ).loc main_arg0) = aQ Q) (h1 : m ((c : Thread nD τ).loc main_arg1) = aQ K)
  (h2 : m ((c : Thread nD τ).loc main_arg2) = (ar P : FVec Ideal (M 2048 8192) .f32))

include h0 in
theorem iblk0 (t : Fin cfg0.N) : iblk m c 0 t = (re (heads Q t.val) : FVec Ideal (M 2048 128) .bf16) :=
  (congrArg ((win0_0.blk t).view.read _) h0).trans (funext fun y => congrArg Real.toEReal (cols0 Q _ _ (y 0).val (y 1).val (at_in t).1))

include h1 in
theorem iblk1 (t : Fin cfg0.N) : iblk m c 1 t = (re (heads K t.val) : FVec Ideal (M 2048 128) .bf16) :=
  (congrArg ((win0_1.blk t).view.read _) h1).trans (funext fun y => congrArg Real.toEReal (cols0 K _ _ (y 0).val (y 1).val (at_in t).2.1))

include h2 in
theorem iblk2 (t : Fin cfg0.N) : iblk m c 2 t = (ar (heads (from' 4096 P) t.val) : FVec Ideal (M 2048 128) .f32) :=
  (congrArg ((win0_2.blk t).view.read _) h2).trans (funext fun y => cols_at P _ 32 _ (y 0).val (y 1).val (at_in t).2.2.1)

include h2 in
theorem iblk3 (t : Fin cfg0.N) : iblk m c 3 t = (ar (heads (from' 6144 P) t.val) : FVec Ideal (M 2048 128) .f32) :=
  (congrArg ((win0_3.blk t).view.read _) h2).trans (funext fun y => cols_at P _ 48 _ (y 0).val (y 1).val (at_in t).2.2.2)

include h0 h1 h2

theorem final4 : (dats m 0 c).arrAt 4 cfg0.N = (ar (oA Q K P) : FVec Ideal (M 2048 2048) .f32) := by
  refine (dats m 0 c).arrAt_eq_of_covers 4 _ (by decide +kernel) fun t _ y => ?_
  have e : (dats m 0 c).after 4 t = (ar (outG (heads Q t.val) (heads K t.val) (heads (from' 4096 P) t.val)) : FVec Ideal (M 2048 128) .f32) :=
    (after4 m c t).trans (by rw [end', iblk0 h0, iblk1 h1, iblk2 h2]; exact fin_acc _ _ _)
  refine (congrFun e y).trans ?_
  show _ = oA Q K P (win0_4.index t 0 * 2048 + 1 * (y 0).val) (win0_4.index t 1 * 128 + 1 * (y 1).val)
  rw [(at_out t).1]
  exact (unheads_at (fun h => outG (heads Q h) (heads K h) (heads (from' 4096 P) h)) t.val (y 0).val (y 1).val (y 1).isLt).symm

theorem final5 : (dats m 0 c).arrAt 5 cfg0.N = (re (tA Q K) : FVec Ideal (M 2048 2048) .f32) := by
  refine (dats m 0 c).arrAt_eq_of_covers 5 _ (by decide +kernel) fun t _ y => ?_
  have e : (dats m 0 c).after 5 t = (re fun a _ => totG (heads Q t.val) (heads K t.val) a : FVec Ideal (M 2048 128) .f32) :=
    (after5 m c t).trans (by rw [end', iblk0 h0, iblk1 h1, iblk2 h2, fin_run]; exact tot_tile _)
  refine (congrFun e y).trans ?_
  show _ = ((tA Q K (win0_5.index t 0 * 2048 + 1 * (y 0).val) (win0_5.index t 1 * 128 + 1 * (y 1).val) : ℝ) : EReal)
  rw [(at_out t).2.1]
  exact congrArg _ (unheads_at (fun h t _ => totG (heads Q h) (heads K h) t) t.val (y 0).val (y 1).val (y 1).isLt).symm

theorem final6 : (dats m 0 c).arrAt 6 cfg0.N = (ar (gA Q K P) : FVec Ideal (M 2048 2048) .bf16) := by
  refine (dats m 0 c).arrAt_eq_of_covers 6 _ (by decide +kernel) fun t _ y => ?_
  have e : (dats m 0 c).after 6 t = (ar fun a b => gated (outG (heads Q t.val) (heads K t.val) (heads (from' 4096 P) t.val) a b)
      (heads (from' 6144 P) t.val a b) : FVec Ideal (M 2048 128) .bf16) :=
    (after6 m c t).trans (by rw [end', iblk0 h0, iblk1 h1, iblk2 h2, iblk3 h2, fin_acc]; exact gate_tile _ _)
  refine (congrFun e y).trans ?_
  show _ = gated (oA Q K P (win0_6.index t 0 * 2048 + 1 * (y 0).val) (win0_6.index t 1 * 128 + 1 * (y 1).val))
    (from' 6144 P (win0_6.index t 0 * 2048 + 1 * (y 0).val) (win0_6.index t 1 * 128 + 1 * (y 1).val))
  rw [cols0 (from' 6144 P) _ _ _ _ (at_out t).2.2, (at_out t).2.2]
  exact congrArg (gated · _) (unheads_at (fun h => outG (heads Q h) (heads K h) (heads (from' 4096 P) h)) t.val (y 0).val (y 1).val (y 1).isLt).symm

end

end Arrays

/-! ## The reference's arrays -/

section Reference

open Cert.SbFwdRefIdeal.Read

variable (Q K : ℕ → ℕ → ℝ) (P : ℕ → ℕ → EReal)

abbrev aP : FVec Ideal (M 2048 8192) .f32 := ar P

theorem ref_att : val_main_v30 (F := Ideal) (aQ Q) (aQ K) = (ar3 fun h t s => (attG (heads Q h) (heads K h) t s : EReal) : FVec Ideal (M3 16 2048 2048) .f32) :=
  Eq.trans (b := Cert.ReferenceIdeal.Read.val_main_v27_0 (F := Ideal) (aQ Q) (aQ K)) rfl (ref_v27_0 Q K)

theorem ref_v : val_main_v11 (F := Ideal) (aP P) = (ar3 (heads (from' 4096 P)) : FVec Ideal (M3 16 2048 128) .f32) := by
  unfold val_main_v11 val_main_v10 val_main_v4
  refine (congrArg (fun x => transpose (M3 16 2048 128) [1, 0, 2] (shapeCast (M3 2048 16 128) x _) _) (ar_cols P _)).trans ?_
  exact ar_heads _ _ _

theorem ref_o : val_main_v33 (F := Ideal) (aQ Q) (aQ K) (aP P) = (ar (oA Q K P) : FVec Ideal (M 2048 2048) .f32) := by
  unfold val_main_v33 val_main_v32 val_main_v31
  rw [ref_att, ref_v]
  exact (congrArg (fun x => shapeCast (M 2048 2048) (transpose (M3 2048 16 128) [1, 0, 2] x _) _) (ar3_dot_nn _ _ _)).trans (ar_unheads _ _ _)

theorem ref_t : val_main_v55 (F := Ideal) (aQ Q) (aQ K) = (re (tA Q K) : FVec Ideal (M 2048 2048) .f32) :=
  Eq.trans rfl (tot_re Q K)

theorem ref_g : val_main_v58 (F := Ideal) (aQ Q) (aQ K) (aP P) = (ar (gA Q K P) : FVec Ideal (M 2048 2048) .bf16) := by
  unfold val_main_v58 val_main_v57 val_main_v56 val_main_call7_v5 val_main_call7_v3 val_main_call7_v1 val_main_call7_v0
  rw [ref_o, show val_main_v5 (F := Ideal) (aP P) = (ar (from' 6144 P) : FVec Ideal (M 2048 2048) .f32) from ar_cols P _]
  funext i
  have (d x o : EReal) (ho : o = 1) : d * (x * Ideal.div o (o + Ideal.exp (-x))) = gated d x := by
    rw [ho]
  exact this _ _ _ Ideal.ofBits_one_f32

end Reference

/-! ## The two runs -/

/-- The reference leaves its arguments and every counter alone. -/
theorem frame_ref : Cert.quiescent_SbFwdRefIdeal := fun m ρ _ =>
  (θ_run _ _ _).mono (fun r h => ⟨fun c => (h c).2.2.2, sem_eq_zero_of_no_sems (by decide) r.2⟩) (Cert.SbFwdRefIdeal.Value.run m ρ)

/-- The forward attention's output, row totals and gated output, where the queries and the keys are real. -/
theorem algebraic : Cert.algebraic_SbFwdIdeal_SbFwdRefIdeal_pre_finite_logits := by
  intro m ρ m' ρ' hp e
  choose Q h0 using fun c : Dev nD => exists_re (m ((c : Thread nD τ).loc main_arg0) : FVec Ideal (M 2048 2048) .bf16) fun i => real_of_lt _ (and_one _ _ (congrFun (hp c) i)).1
  choose K h1 using fun c : Dev nD => exists_re (m ((c : Thread nD τ).loc main_arg1) : FVec Ideal (M 2048 2048) .bf16) fun i => real_of_lt _ (and_one _ _ (congrFun (hp c) i)).2
  have h2 := fun c : Dev nD => ar_mat (φ := .f32) (m ((c : Thread nD τ).loc main_arg2) : FVec Ideal (M 2048 8192) .f32)
  refine ⟨fun c => (ar (oA (Q c) (K c) (mat (m ((c : Thread nD τ).loc main_arg2) : FVec Ideal (M 2048 8192) .f32))) : FVec Ideal (M 2048 2048) .f32),
    fun c => (re (tA (Q c) (K c)) : FVec Ideal (M 2048 2048) .f32),
    fun c => (ar (gA (Q c) (K c) (mat (m ((c : Thread nD τ).loc main_arg2) : FVec Ideal (M 2048 8192) .f32))) : FVec Ideal (M 2048 2048) .bf16),
    (θ_run _ _ _).mono (fun _ h c => ⟨((h.1 c).1 4).trans (final4 (h0 c) (h1 c) (h2 c)), ((h.1 c).1 5).trans (final5 (h0 c) (h1 c) (h2 c)),
      ((h.1 c).1 6).trans (final6 (h0 c) (h1 c) (h2 c)), h.2.1 c⟩) (θ_run_and (run_main m ρ) (frame m ρ)),
    (θ_run _ _ _).mono (fun _ h c => ⟨?_, ?_, ?_, (h c).2.2.2⟩) (Cert.SbFwdRefIdeal.Value.run m' ρ')⟩
  · refine (h c).1.trans ((Cert.SbFwdRefIdeal.Read.val_main_v33_eq m' c).trans ?_)
    rw [(e c).1, (e c).2.1, (e c).2.2, h0, h1]
    exact (congrArg (Cert.SbFwdRefIdeal.Read.val_main_v33 (F := Ideal) (aQ (Q c)) (aQ (K c))) (h2 c)).trans (ref_o _ _ _)
  · refine (h c).2.1.trans ((Cert.SbFwdRefIdeal.Read.val_main_v55_eq m' c).trans ?_)
    rw [(e c).1, (e c).2.1, h0, h1]
    exact ref_t _ _
  · refine (h c).2.2.1.trans ((Cert.SbFwdRefIdeal.Read.val_main_v58_eq m' c).trans ?_)
    rw [(e c).1, (e c).2.1, (e c).2.2, h0, h1]
    exact (congrArg (Cert.SbFwdRefIdeal.Read.val_main_v58 (F := Ideal) (aQ (Q c)) (aQ (K c))) (h2 c)).trans (ref_g _ _ _)

end Cert.Proof.SbFwd
-- ==== Proof.SsdDtValue.lean ====
/- The state-space layers' projection to the step sizes: what each of its three calls leaves in its result. -/
module

public import proofs.«01_k».proof.Proof.Product
public import proofs.«01_k».proof.Proof.Gen.SsdDtIdeal.Frame
public import Idealize.ShloMosaic.Lib.Pipeline.ValueKit.Geometry

@[expose] public section

set_option maxRecDepth 16384

noncomputable section

namespace Cert.Proof.SsdDt

open Cert.SsdDtIdeal Cert.SsdDtIdeal.Gen Cert.Proof.Prod
open Idealize.ShloMosaic hiding ix1 ix2 ix3
open Idealize.ShloMosaic.TcCoe Idealize.SL.Sem
open Idealize.ShloMosaic.ValueIdx

variable {V : (c : Dev nD) → (b : Ref sig .tc) → Buf (Elt Ideal) ((c : Thread nD τ).loc b)} {c : Dev nD} {A B D : ℕ → ℕ → EReal}

theorem tile0 (X Y : ℕ → ℕ → EReal) : out0_2 (F := Ideal) (ar X : FVec Ideal (M 1024 2048) .bf16) (ar Y : FVec Ideal (M 2048 64) .bf16)
    = (ar (mm 2048 X Y) : FVec Ideal (M 1024 64) .f32) := by
  unfold out0_2 k0_pay1
  rw [View.canon_cons_unit_lit _ _ _ (by decide), View.ld_unit_lit _ _ (by decide), View.ld_unit_lit _ _ (by decide)]
  dsimp only
  rw [shapeCast_self]
  exact tile_nn (φ₁ := .bf16) (φ₂ := .bf16) X Y _

theorem at0 : ∀ t : Fin cfg0.N, win0_0.index t = ![win0_2.index t 0, 0] ∧ win0_1.index t = ![0, win0_2.index t 1] := by decide +kernel

theorem final0 (hA : V c main_arg0 = (ar A : FVec Ideal (M 2048 2048) .bf16)) (hB : V c main_v0 = (ar B : FVec Ideal (M 2048 64) .bf16)) :
    (dat0 V c).arrAt 2 cfg0.N = (ar (mm 2048 A B) : FVec Ideal (M 2048 64) .f32) := by
  refine (dat0 V c).arrAt_eq_of_covers 2 _ (by decide +kernel) fun t _ y => ?_
  obtain ⟨a, b⟩ := at0 t
  refine (congrFun (((after0_2 V c t).trans (congrArg₂ out0_2 (congrArg ((win0_0.blk t).view.read _) hA) (congrArg ((win0_1.blk t).view.read _) hB))).trans
    (tile0 (blk (win0_0.index t) 1024 2048 A) (blk (win0_1.index t) 2048 64 B))) y).trans ?_
  rw [a, b]
  exact mm_blk 2048 (win0_2.index t 0) (win0_2.index t 1) 1024 64 A B (y 0).val (y 1).val

theorem tile1 (X Y : ℕ → ℕ → EReal) : out1_2 (F := Ideal) (ar X : FVec Ideal (M 2048 1024) .bf16) (ar Y : FVec Ideal (M 2048 64) .f32)
    = (ar (mm 2048 (T X) Y) : FVec Ideal (M 1024 64) .bf16) := by
  unfold out1_2 k1_pay1
  rw [View.canon_cons_unit_lit _ _ _ (by decide), View.ld_unit_lit _ _ (by decide), View.ld_unit_lit _ _ (by decide)]
  exact tile_tn (φ₁ := .bf16) (φ₂ := .bf16) X Y _

theorem at1 : ∀ t : Fin cfg1.N, win1_0.index t = ![0, win1_2.index t 0] ∧ win1_1.index t = ![0, win1_2.index t 1] := by decide +kernel

theorem final1 (hA : V c main_arg0 = (ar A : FVec Ideal (M 2048 2048) .bf16)) (hB : V c main_arg2 = (ar B : FVec Ideal (M 2048 64) .f32)) :
    (dat1 V c).arrAt 2 cfg1.N = (ar (mm 2048 (T A) B) : FVec Ideal (M 2048 64) .bf16) := by
  refine (dat1 V c).arrAt_eq_of_covers 2 _ (by decide +kernel) fun t _ y => ?_
  obtain ⟨a, b⟩ := at1 t
  refine (congrFun (((after1_2 V c t).trans (congrArg₂ out1_2 (congrArg ((win1_0.blk t).view.read _) hA) (congrArg ((win1_1.blk t).view.read _) hB))).trans
    (tile1 (blk (win1_0.index t) 2048 1024 A) (blk (win1_1.index t) 2048 64 B))) y).trans ?_
  rw [a, b]
  exact mm_blk 2048 (win1_2.index t 0) (win1_2.index t 1) 1024 64 (T A) B (y 0).val (y 1).val

theorem tile2 (X Y Z : ℕ → ℕ → EReal) : out2_3 (F := Ideal) (ar X : FVec Ideal (M 1024 64) .f32) (ar Y : FVec Ideal (M 512 64) .bf16) (ar Z : FVec Ideal (M 1024 512) .f32)
    = (ar (fun a b => mm 64 X (T Y) a b + Z a b) : FVec Ideal (M 1024 512) .f32) := by
  unfold out2_3 k2_pay1
  rw [View.canon_cons_unit_lit _ _ _ (by decide), View.ld_unit_lit _ _ (by decide), View.ld_unit_lit _ _ (by decide), View.ld_unit_lit _ _ (by decide)]
  dsimp only
  rw [shapeCast_self]
  exact (congrArg (addf · (ar Z)) (tile_nt (φ₁ := .bf16) (φ₂ := .bf16) X Y _)).trans (ar_add _ Z)

theorem at2 : ∀ t : Fin cfg2.N, win2_0.index t = ![win2_3.index t 0, 0] ∧ win2_1.index t = ![win2_3.index t 1, 0] ∧ win2_2.index t = win2_3.index t := by decide +kernel

theorem final2 (hA : V c main_arg2 = (ar A : FVec Ideal (M 2048 64) .f32)) (hB : V c main_v0 = (ar B : FVec Ideal (M 2048 64) .bf16)) (hD : V c main_arg3 = (ar D : FVec Ideal (M 2048 2048) .f32)) :
    (dat2 V c).arrAt 3 cfg2.N = (ar (fun a b => mm 64 A (T B) a b + D a b) : FVec Ideal (M 2048 2048) .f32) := by
  refine (dat2 V c).arrAt_eq_of_covers 3 _ (by decide +kernel) fun t _ y => ?_
  obtain ⟨a, b, d⟩ := at2 t
  refine (congrFun (((after2_3 V c t).trans (congr (congrArg₂ out2_3 (congrArg ((win2_0.blk t).view.read _) hA) (congrArg ((win2_1.blk t).view.read _) hB)) (congrArg ((win2_2.blk t).view.read _) hD))).trans
    (tile2 (blk (win2_0.index t) 1024 64 A) (blk (win2_1.index t) 512 64 B) (blk (win2_2.index t) 1024 512 D))) y).trans ?_
  rw [a, b, d]
  exact congrArg (· + D (win2_3.index t 0 * 1024 + 1 * (y 0).val) (win2_3.index t 1 * 512 + 1 * (y 1).val)) (mm_blk 64 (win2_3.index t 0) (win2_3.index t 1) 1024 512 A (T B) (y 0).val (y 1).val)

end Cert.Proof.SsdDt

end
-- ==== Proof.SsdDtRun.lean ====
/- The two programs of the state-space layers' projection to the step sizes end with the same arrays. -/
module

public import proofs.«01_k».proof.Defs
public import proofs.«01_k».proof.Proof.SsdDtValue
public import proofs.«01_k».proof.Proof.Gen.SsdDt
public import proofs.«01_k».proof.Proof.Gen.SsdDtIdeal
public import proofs.«01_k».proof.Proof.Gen.SsdDtRefIdeal.Run
public import proofs.«01_k».proof.Proof.Ends
public import Idealize.ShloMosaic.Lib.Quiescent
public import Idealize.ShloMosaic.Lib.Claim

@[expose] public section

set_option maxRecDepth 16384

noncomputable section

namespace Cert.Proof.SsdDt

open Idealize.ShloMosaic hiding ix1 ix2 ix3
open Idealize.ShloMosaic.TcCoe
open Idealize.SL Idealize.SL.RA Idealize.SL.BI
open scoped Idealize.SL.BI
open Idealize.SL.BI.BIBase Idealize.SL.BI.Laws Idealize.SL.Sem
open Idealize.ShloMosaic.ValueIdx
open Cert.Proof.Prod

/-- The reference leaves its arguments and every counter alone. -/
theorem frame_ref (m : (ℓ : Loc Cert.SsdDtRefIdeal.nD Cert.SsdDtRefIdeal.τ Cert.SsdDtRefIdeal.sig) → Buf (Elt Ideal) ℓ) (ρ : Dev Cert.SsdDtRefIdeal.nD → PrngReg) :
    θ_run (Cert.SsdDtRefIdeal.defs (F := Ideal)) (onTc (τ := Cert.SsdDtRefIdeal.τ) (Cert.SsdDtRefIdeal.main (F := Ideal))) ⟨m, fun _ => 0, ρ⟩ (fun r => (∀ c : Dev Cert.SsdDtRefIdeal.nD,
      r.2.mem ((c.tc : Thread Cert.SsdDtRefIdeal.nD Cert.SsdDtRefIdeal.τ).loc Cert.SsdDtRefIdeal.main_arg0) = m ((c.tc : Thread Cert.SsdDtRefIdeal.nD Cert.SsdDtRefIdeal.τ).loc Cert.SsdDtRefIdeal.main_arg0)
      ∧ r.2.mem ((c.tc : Thread Cert.SsdDtRefIdeal.nD Cert.SsdDtRefIdeal.τ).loc Cert.SsdDtRefIdeal.main_arg1) = m ((c.tc : Thread Cert.SsdDtRefIdeal.nD Cert.SsdDtRefIdeal.τ).loc Cert.SsdDtRefIdeal.main_arg1)
      ∧ r.2.mem ((c.tc : Thread Cert.SsdDtRefIdeal.nD Cert.SsdDtRefIdeal.τ).loc Cert.SsdDtRefIdeal.main_arg2) = m ((c.tc : Thread Cert.SsdDtRefIdeal.nD Cert.SsdDtRefIdeal.τ).loc Cert.SsdDtRefIdeal.main_arg2)
      ∧ r.2.mem ((c.tc : Thread Cert.SsdDtRefIdeal.nD Cert.SsdDtRefIdeal.τ).loc Cert.SsdDtRefIdeal.main_arg3) = m ((c.tc : Thread Cert.SsdDtRefIdeal.nD Cert.SsdDtRefIdeal.τ).loc Cert.SsdDtRefIdeal.main_arg3)) ∧ r.2.sem = fun _ => 0) :=
  (θ_run _ _ _).mono (fun r h => ⟨fun c => (h c).2.2.2, sem_eq_zero_of_no_sems (by decide) r.2⟩) (Cert.SsdDtRefIdeal.Value.run m ρ)

open Cert.SsdDtIdeal Cert.SsdDtIdeal.Gen

variable (m : (ℓ : Loc nD τ sig) → Buf (Elt Ideal) ℓ) (ρ : Dev nD → PrngReg)

set_option backward.isDefEq.respectTransparency.types false in
/-- Every buffer ends as the last call leaves it. -/
theorem ends : θ_run defs (onTc (τ := τ) (main (F := Ideal))) ⟨m, fun _ => 0, ρ⟩ (fun r => ∀ c : Dev nD, ∀ b ∈ Pipeline.ucRefs τ sig, r.2.mem (c, b) = W4 m ρ c b) :=
  Ends.regions pcfgs adm (pdats m ρ) cellOf_inj defs₀ 𝒱₀ m ρ main (segs m ρ) (main_run m ρ)
    (by simp only [segs, Pipeline.Seg.pipes_host, Pipeline.Seg.pipes_region, Pipeline.Seg.pipes_nil]; decide)
    (W4 m ρ) ⟨fun _ => .rfl, fun _ => .rfl, fun _ => .rfl, fun _ => .rfl, fun _ => .rfl⟩

variable {m} in
open Idealize.ShloMosaic.StableHlo in
/-- The host changes the weight's format. -/
theorem weight {B : ℕ → ℕ → EReal} {c : Dev nD} (h1 : m ((c : Thread nD τ).loc main_arg1) = (ar B : FVec Ideal (M 2048 64) .f32)) :
    V1 m ρ c main_v0 = (ar B : FVec Ideal (M 2048 64) .bf16) := by
  have h : V1 m ρ c main_v0 = truncf (F := Ideal) .bf16 (m ((c : Thread nD τ).loc main_arg1)) bitsLt_bf16_f32 := by
    show StableHlo.after hostOps0 (W0 m ρ c) _ = _
    simp only [hostOps0, TRef.unary, TRef.toBuf, TRef.ofBuf, cast_eq]
    after_results_simp <;> rfl
  rw [h, h1]
  rfl

/-- The kernel's tiled products are the reference's. -/
theorem algebraic : Cert.algebraic_SsdDtIdeal_SsdDtRefIdeal := by
  intro m ρ m' ρ' _ e
  choose A h0 using fun c : Dev nD => exists_ar (m ((c : Thread nD τ).loc main_arg0) : FVec Ideal (M 2048 2048) .bf16)
  choose B h1 using fun c : Dev nD => exists_ar (m ((c : Thread nD τ).loc main_arg1) : FVec Ideal (M 2048 64) .f32)
  choose D h2 using fun c : Dev nD => exists_ar (m ((c : Thread nD τ).loc main_arg2) : FVec Ideal (M 2048 64) .f32)
  choose E h3 using fun c : Dev nD => exists_ar (m ((c : Thread nD τ).loc main_arg3) : FVec Ideal (M 2048 2048) .f32)
  refine ⟨fun c => (ar (mm 2048 (A c) (B c)) : FVec Ideal (M 2048 64) .f32),
    fun c => (ar (mm 2048 (T (A c)) (D c)) : FVec Ideal (M 2048 64) .bf16),
    fun c => (ar (fun a b => mm 64 (D c) (T (B c)) a b + E c a b) : FVec Ideal (M 2048 2048) .f32),
    (θ_run _ _ _).mono (fun _ h c => ⟨?_, ?_, ?_, h.2.1 c⟩) (θ_run_and (ends m ρ) (frame m ρ)),
    (θ_run _ _ _).mono (fun _ h c => ⟨?_, ?_, ?_, (h c).2.2.2⟩) (Cert.SsdDtRefIdeal.Value.run m' ρ')⟩
  · exact (h.1 c _ (mem_uc main_v1 (by decide))).trans ((W4_of m ρ c main_v1 (by decide)).trans ((W3_of m ρ c main_v1 (by decide)).trans ((W2_arr m ρ c 2).trans (
      final0 ((W1_args m ρ c main_arg0 (by decide)).trans (h0 c)) (weight ρ (h1 c))))))
  · exact (h.1 c _ (mem_uc main_v2 (by decide))).trans ((W4_of m ρ c main_v2 (by decide)).trans ((W3_arr m ρ c 2).trans (
      final1 ((W2_args m ρ c main_arg0 (by decide)).trans (h0 c)) ((W2_args m ρ c main_arg2 (by decide)).trans (h2 c)))))
  · exact (h.1 c _ (mem_uc main_v3 (by decide))).trans ((W4_arr m ρ c 3).trans (
      final2 ((W3_args m ρ c main_arg2 (by decide)).trans (h2 c)) ((W3_of m ρ c main_v0 (by decide)).trans ((W2_of m ρ c main_v0 (by decide)).trans (weight ρ (h1 c)))) ((W3_args m ρ c main_arg3 (by decide)).trans (h3 c))))
  · rw [(h c).1, (e c).1, (e c).2.1, h0, h1]
    exact host_nn (φ₁ := .f32) (φ₂ := .f32) (A c) (B c) _
  · rw [(h c).2.1, (e c).1, (e c).2.2.1, h0, h2]
    exact host_tn (φ₁ := .f32) (φ₂ := .f32) (D c) (A c) _ _
  · rw [(h c).2.2.1, (e c).2.1, (e c).2.2.1, (e c).2.2.2, h1, h2, h3]
    exact (congrArg (addf (ar (E c) : FVec Ideal (M 2048 2048) .f32)) (host_nt (φ₁ := .f32) (φ₂ := .f32) (D c) (B c) _)).trans (add_ar _ _)

end Cert.Proof.SsdDt

end
-- ==== Proof.Rows.lean ====
/- Arrays of extended reals along rows: a sum along each row, and a column or a row spread over a matrix, as a kernel and
   as the host spell them. -/
module

public import proofs.«01_k».proof.Proof.Product
public import Idealize.ShloMosaic.Lib.IdealHost
public import Idealize.ShloMosaic.Lib.ValueLayout
public import Idealize.ShloMosaic.Lib.Pointwise.Reduce

@[expose] public section

set_option maxRecDepth 16384

noncomputable section

namespace Cert.Proof.Rows

open Idealize.ShloMosaic hiding ix1 ix2 ix3
open Idealize.ShloMosaic.ValueIdx
open Cert.Proof.Prod

/-- The array holding a sequence. -/
def ar1 {n : ℕ} {φ : FTy} (x : ℕ → EReal) : FVec Ideal (⟨1, ![n]⟩ : Shape) φ := fun i => x (i 0).val

theorem exists_ar1 {n : ℕ} {φ : FTy} (a : FVec Ideal (⟨1, ![n]⟩ : Shape) φ) : ∃ x, a = ar1 x :=
  ⟨fun k => if h : k < n then a (ix1 ⟨k, h⟩) else 0, funext fun i => by
    show a i = if h : (i 0).val < n then a (ix1 ⟨(i 0).val, h⟩) else 0
    rw [dif_pos (show (i 0).val < n from (i 0).isLt)]
    exact congrArg a (ValueIdx.eq_ix1 i)⟩

/-- The sum along a row. -/
abbrev rowSum (n : ℕ) (X : ℕ → ℕ → EReal) : ℕ → EReal := fun a => ∑ k : Fin n, X a k.val

variable {r c : ℕ} (X : ℕ → ℕ → EReal) (x : ℕ → EReal)

theorem sum_row (h : (M r c).Reduces [1] ⟨1, ![r]⟩) (h₁ h₂) (sc : (⟨1, ![r]⟩ : Shape).ShapeCasts (M r 1)) :
    shapeCast (M r 1) (multiReduction .add [1] ⟨1, ![r]⟩ (ar X : FVec Ideal (M r c) .f32) 0x00000000#32 h h₁ h₂) sc
      = (ar fun a _ => rowSum c X a : FVec Ideal (M r 1) .f32) := by
  funext i
  obtain ⟨a, b, rfl⟩ : ∃ a b, i = ix2 a b := ⟨_, _, ValueIdx.eq_ix2 i⟩
  obtain rfl : b = 0 := Subsingleton.elim _ _
  rw [shapeCast_apply _ sc (ix2 a 0) (ix1 a) (by
    simp only [Shape.rowMajor_val_one, Shape.rowMajor_val_two]
    show a.val = a.val * 1 + 0
    omega)]
  exact Ideal.reduceAdd_r2_a1 h (ar X : FVec Ideal (M r c) .f32) (ix1 a)

theorem spread_col (h : (M r 1).Broadcasts (M r c)) : broadcastTo (M r c) (ar X : FVec Ideal (M r 1) .f32) h = (ar fun a _ => X a 0 : FVec Ideal (M r c) .f32) := by
  funext i
  refine broadcastTo_apply _ h i (ix2 (i 0) 0) fun a => ?_
  match a with
  | ⟨0, _⟩ =>
    show (i 0).val = if r = 1 then 0 else (i 0).val
    have := idx2_lt0 i
    split_ifs <;> omega
  | ⟨1, _⟩ => rfl

theorem spread_row (h : (M 1 c).Broadcasts (M r c)) : broadcastTo (M r c) (ar X : FVec Ideal (M 1 c) .f32) h = (ar fun _ b => X 0 b : FVec Ideal (M r c) .f32) := by
  funext i
  obtain ⟨a, b, rfl⟩ : ∃ a b, i = ix2 a b := ⟨_, _, ValueIdx.eq_ix2 i⟩
  exact broadcastTo_1b_ab_apply _ h a b

/-- A sequence as one row. -/
theorem one_row (h : (⟨1, ![c]⟩ : Shape).ShapeCasts (M 1 c)) : shapeCast (M 1 c) (ar1 x : FVec Ideal (⟨1, ![c]⟩ : Shape) .f32) h = (ar fun _ b => x b : FVec Ideal (M 1 c) .f32) := by
  funext i
  obtain ⟨a, b, rfl⟩ : ∃ a b, i = ix2 a b := ⟨_, _, ValueIdx.eq_ix2 i⟩
  exact shapeCast_a_1a_apply _ h a b

theorem host_sum_row (h : (M r c).ReducesTo [1] ⟨1, ![r]⟩) (hu) (hb : (⟨1, ![r]⟩ : Shape).BroadcastsInDim (M r 1) ![0]) :
    broadcastInDim (M r 1) ![0] hb (Host.reduceAdd (ar X : FVec Ideal (M r c) .f32) (constant (F := Ideal) (⟨0, ![]⟩ : Shape) .f32 0x00000000#32) h hu)
      = (ar fun a _ => rowSum c X a : FVec Ideal (M r 1) .f32) := by
  funext i
  refine (broadcastInDim_apply _ hb _ i (ix1 (i 0)) ?_).trans ?_
  · intro n
    match n with
    | ⟨0, _⟩ =>
      show (i 0).val = if r = 1 then 0 else (i 0).val
      have := idx2_lt0 i
      split_ifs <;> omega
  · refine (hostReduceAdd_apply _ _ h hu _).trans ((Ideal.hostReduceAdd_r2_a1 h _ _ _).trans ?_)
    rw [zero_apply, zero_add]
    rfl

theorem host_spread_col (h : (M r 1).BroadcastsInDim (M r c) ![0, 1]) : broadcastInDim (M r c) ![0, 1] h (ar X : FVec Ideal (M r 1) .f32) = (ar fun a _ => X a 0 : FVec Ideal (M r c) .f32) := by
  funext i
  refine broadcastInDim_apply _ h _ i (ix2 (i 0) 0) ?_
  intro n
  match n with
  | ⟨0, _⟩ =>
    show (i 0).val = if r = 1 then 0 else (i 0).val
    have := idx2_lt0 i
    split_ifs <;> omega
  | ⟨1, _⟩ => rfl

theorem host_spread_row (h : (M 1 c).BroadcastsInDim (M r c) ![0, 1]) (h' : (⟨1, ![c]⟩ : Shape).BroadcastsInDim (M 1 c) ![1]) :
    broadcastInDim (M r c) ![0, 1] h (broadcastInDim (M 1 c) ![1] h' (ar1 x : FVec Ideal (⟨1, ![c]⟩ : Shape) .f32)) = (ar fun _ b => x b : FVec Ideal (M r c) .f32) := by
  funext i
  have := idx2_lt1 i
  refine (broadcastInDim_apply _ h _ i (ix2 0 (i 1)) ?_).trans (broadcastInDim_apply _ h' _ _ (ix1 (i 1)) ?_)
  · intro n
    match n with
    | ⟨0, _⟩ => rfl
    | ⟨1, _⟩ =>
      show (i 1).val = if c = 1 then 0 else (i 1).val
      split_ifs <;> omega
  · intro n
    match n with
    | ⟨0, _⟩ =>
      show (i 1).val = if c = 1 then 0 else (i 1).val
      split_ifs <;> omega

/-! ## Sums over the rows, and sums left as sequences -/

/-- The sum down a column of the first `n` rows. -/
abbrev colSum (n : ℕ) (X : ℕ → ℕ → EReal) (b : ℕ) : EReal := ∑ k ∈ Finset.range n, X k b

theorem sum_col (h : (M r c).Reduces [0] ⟨1, ![c]⟩) (h₁ h₂) (sc : (⟨1, ![c]⟩ : Shape).ShapeCasts (M 1 c)) :
    shapeCast (M 1 c) (multiReduction .add [0] ⟨1, ![c]⟩ (ar X : FVec Ideal (M r c) .f32) 0x00000000#32 h h₁ h₂) sc
      = (ar fun _ b => colSum r X b : FVec Ideal (M 1 c) .f32) := by
  refine Eq.trans (congrArg (shapeCast (M 1 c) · sc) (funext fun i => ?_)) (one_row (colSum r X) sc)
  exact (Ideal.reduceAdd_r2_a0 h (ar X : FVec Ideal (M r c) .f32) i).trans (Finset.sum_range (fun k => X k (i 0).val)).symm

theorem host_sum_col (h : (M r c).ReducesTo [0] ⟨1, ![c]⟩) (hu) :
    Host.reduceAdd (ar X : FVec Ideal (M r c) .f32) (constant (F := Ideal) (⟨0, ![]⟩ : Shape) .f32 0x00000000#32) h hu = (ar1 (colSum r X) : FVec Ideal (⟨1, ![c]⟩ : Shape) .f32) := by
  funext i
  refine (hostReduceAdd_apply _ _ h hu _).trans ((Ideal.hostReduceAdd_r2_a0 h _ _ _).trans ?_)
  rw [zero_apply, zero_add]
  exact (Finset.sum_range (fun k => X k (i 0).val)).symm

theorem host_sum_seq (h : (M r c).ReducesTo [1] ⟨1, ![r]⟩) (hu) :
    Host.reduceAdd (ar X : FVec Ideal (M r c) .f32) (constant (F := Ideal) (⟨0, ![]⟩ : Shape) .f32 0x00000000#32) h hu = (ar1 (rowSum c X) : FVec Ideal (⟨1, ![r]⟩ : Shape) .f32) := by
  funext i
  refine (hostReduceAdd_apply _ _ h hu _).trans ((Ideal.hostReduceAdd_r2_a1 h _ _ _).trans ?_)
  rw [zero_apply, zero_add]
  rfl

/-- A sequence as one column. -/
theorem one_col (h : (⟨1, ![r]⟩ : Shape).ShapeCasts (M r 1)) : shapeCast (M r 1) (ar1 x : FVec Ideal (⟨1, ![r]⟩ : Shape) .f32) h = (ar fun a _ => x a : FVec Ideal (M r 1) .f32) := by
  funext i
  obtain ⟨a, b, rfl⟩ : ∃ a b, i = ix2 a b := ⟨_, _, ValueIdx.eq_ix2 i⟩
  obtain rfl : b = 0 := Subsingleton.elim _ _
  rw [shapeCast_apply _ h (ix2 a 0) (ix1 a) (by
    simp only [Shape.rowMajor_val_one, Shape.rowMajor_val_two]
    show a.val = a.val * 1 + 0
    omega)]
  rfl

theorem host_spread_seq (h : (⟨1, ![r]⟩ : Shape).BroadcastsInDim (M r c) ![0]) :
    broadcastInDim (M r c) ![0] h (ar1 x : FVec Ideal (⟨1, ![r]⟩ : Shape) .f32) = (ar fun a _ => x a : FVec Ideal (M r c) .f32) := by
  funext i
  refine (broadcastInDim_apply _ h _ i (ix1 (i 0)) ?_).trans rfl
  intro n
  match n with
  | ⟨0, _⟩ =>
    show (i 0).val = if r = 1 then 0 else (i 0).val
    have := idx2_lt0 i
    split_ifs <;> omega

end Cert.Proof.Rows

end
-- ==== Proof.Forward.lean ====
/- The forward calls: the gated sum of the per-layer embedding, the norm, and the step sizes of the state-space layers. -/
module

public import proofs.«01_k».proof.Defs
public import proofs.«01_k».proof.Proof.Product
public import proofs.«01_k».proof.Proof.Rows
public import proofs.«01_k».proof.Proof.Gen.PleFwd
public import proofs.«01_k».proof.Proof.Gen.PleFwdIdeal.Value
public import proofs.«01_k».proof.Proof.Gen.PleFwdRefIdeal.Run
public import proofs.«01_k».proof.Proof.Gen.Norm
public import proofs.«01_k».proof.Proof.Gen.NormIdeal.Value
public import proofs.«01_k».proof.Proof.Gen.NormRefIdeal.Run
public import proofs.«01_k».proof.Proof.Gen.DtFwd
public import proofs.«01_k».proof.Proof.Gen.DtFwdIdeal.Value
public import proofs.«01_k».proof.Proof.Gen.DtFwdRefIdeal.Run
public import Idealize.ShloMosaic.Lib.Quiescent
public import Idealize.ShloMosaic.Lib.Claim
public import Idealize.ShloMosaic.Lib.Pipeline.ValueKit.Geometry

@[expose] public section

set_option maxRecDepth 16384

noncomputable section

namespace Cert.Proof

open Idealize.ShloMosaic hiding ix1 ix2 ix3
open Idealize.ShloMosaic.TcCoe Idealize.SL.Sem
open Idealize.ShloMosaic.ValueIdx
open Cert.Proof.Prod Cert.Proof.Rows

namespace PleFwd

/-- The reference leaves its arguments and every counter alone. -/
theorem frame_ref : Cert.quiescent_PleFwdRefIdeal := fun m ρ _ =>
  (θ_run _ _ _).mono (fun r h => ⟨fun c => (h c).2, sem_eq_zero_of_no_sems (by decide) r.2⟩) (Cert.PleFwdRefIdeal.Value.run m ρ)

/-- The gated sum. -/
theorem algebraic : Cert.algebraic_PleFwdIdeal_PleFwdRefIdeal := by
  intro m ρ m' ρ' _ e
  refine ⟨_, Cert.PleFwdIdeal.Value.run m ρ, (θ_run _ _ _).mono (fun _ h c => ⟨?_, (h c).2⟩) (Cert.PleFwdRefIdeal.Value.run m' ρ')⟩
  rw [(h c).1, (e c).1, (e c).2.1, (e c).2.2]
  funext i
  have (x d a o z : EReal) (hz : z = 0) : a + d * Ideal.div o (o + Ideal.exp (-x)) = a + d * Ideal.div o (o + Ideal.exp (z - x)) := by
    rw [hz, zero_sub]
  exact this _ _ _ _ _ Ideal.ofBits_zero_f32

end PleFwd

namespace Norm

open Cert.NormIdeal Cert.NormIdeal.Gen

/-- The reference leaves its arguments and every counter alone. -/
theorem frame_ref : Cert.quiescent_NormRefIdeal := fun m ρ _ =>
  (θ_run _ _ _).mono (fun r h => ⟨fun c => (h c).2, sem_eq_zero_of_no_sems (by decide) r.2⟩) (Cert.NormRefIdeal.Value.run m ρ)

/-- The two constants, the length of a row and the norm's epsilon. -/
abbrev n₀ : EReal := Ideal.ofBits .f32 0x45000000#32
abbrev e₀ : EReal := Ideal.ofBits .f32 0x358637BD#32

/-- A row's mean square, the epsilon added, and one over its root. -/
abbrev ms (X : ℕ → ℕ → EReal) (a : ℕ) : EReal := Ideal.div (rowSum 2048 (fun a k => X a k * X a k) a) n₀ + e₀
abbrev inv (X : ℕ → ℕ → EReal) (a : ℕ) : EReal := Ideal.rsqrt (ms X a)

abbrev out (X : ℕ → ℕ → EReal) (w : ℕ → EReal) (a b : ℕ) : EReal := X a b * inv X a * w b

theorem tile2 (X : ℕ → ℕ → EReal) (W : ℕ → ℕ → EReal) : out0_2 (F := Ideal) (ar X : FVec Ideal (M 512 2048) .f32) (ar W : FVec Ideal (M 1 2048) .f32)
    = (ar (out X (W 0)) : FVec Ideal (M 512 2048) .bf16) := by
  unfold out0_2
  rw [View.ld_unit_lit _ _ (by decide), View.ld_unit_lit _ _ (by decide)]
  refine (funext fun y => Cert.NormIdeal.Value.canon2_eq _ _ y).trans ?_
  funext i
  have s (h h₁ h₂) (j : (⟨1, ![512]⟩ : Shape).Idx) : multiReduction .add [1] ⟨1, ![512]⟩ (mulf (ar X) (ar X) : FVec Ideal (M 512 2048) .f32) 0x00000000#32 h h₁ h₂ j
      = rowSum 2048 (fun a k => X a k * X a k) (j 0).val := Ideal.reduceAdd_r2_a1 h _ j
  have (x n e w s t : EReal) (hs : s = t) : x * Ideal.rsqrt (Ideal.div s n + e) * w = x * Ideal.rsqrt (Ideal.div t n + e) * w := by rw [hs]
  exact this _ _ _ _ _ _ (s _ _ _ _)

theorem at2 : ∀ t : Fin cfg0.N, win0_0.index t = win0_2.index t ∧ win0_1.index t = ![0, 0] ∧ win0_2.index t 1 = 0 := by decide +kernel

variable {m : (ℓ : Loc nD τ sig) → Buf (Elt Ideal) ℓ} {c : Dev nD} {X : ℕ → ℕ → EReal} {w : ℕ → EReal}

section
variable (h0 : m ((c : Thread nD τ).loc main_arg0) = (ar X : FVec Ideal (M 2048 2048) .f32)) (h1 : m ((c : Thread nD τ).loc main_arg1) = (ar1 w : FVec Ideal (⟨1, ![2048]⟩ : Shape) .f32))
include h0 h1

/-- The weights as the launch finds them: one row. -/
theorem weights : V m c main_v0 = (ar fun _ b => w b : FVec Ideal (M 1 2048) .f32) := by
  refine Eq.trans (b := shapeCast (M 1 2048) (m ((c : Thread nD τ).loc main_arg1)) shapeCasts_S2048_S1x2048) ?_ (by rw [h1]; exact one_row _ _)
  show StableHlo.after hostOps0 _ _ = _
  simp only [hostOps0, StableHlo.TRef.reshape, StableHlo.TRef.toBuf, StableHlo.TRef.ofBuf, cast_eq]
  after_results_simp <;> rfl

theorem final2 : (dats m 0 c).arrAt 2 cfg0.N = (ar (out X w) : FVec Ideal (M 2048 2048) .bf16) := by
  refine (dats m 0 c).arrAt_eq_of_covers 2 _ (by decide +kernel) fun t _ y => ?_
  obtain ⟨a0, a1, b⟩ := at2 t
  have e0 : iblk m c 0 t = (ar (blk (win0_0.index t) 512 2048 X) : FVec Ideal (M 512 2048) .f32) := congrArg ((win0_0.blk t).view.read _) ((V_main_arg0 m c).trans h0)
  have e1 : iblk m c 1 t = (ar (blk (win0_1.index t) 1 2048 fun _ b => w b) : FVec Ideal (M 1 2048) .f32) := congrArg ((win0_1.blk t).view.read _) (weights h0 h1)
  have e : (dats m 0 c).after 2 t = (ar (out (blk (win0_0.index t) 512 2048 X) (blk (win0_1.index t) 1 2048 (fun _ b => w b) 0)) : FVec Ideal (M 512 2048) .bf16) :=
    (after0_2 m c t).trans (by rw [e0, e1]; exact tile2 _ _)
  refine (congrFun e y).trans ?_
  rw [a0, a1]
  show X (win0_2.index t 0 * 512 + 1 * (y 0).val) (win0_2.index t 1 * 2048 + 1 * (y 1).val) * inv (blk (win0_2.index t) 512 2048 X) (y 0).val * w (0 * 2048 + 1 * (y 1).val)
    = X (win0_2.index t 0 * 512 + 1 * (y 0).val) (win0_2.index t 1 * 2048 + 1 * (y 1).val) * inv X (win0_2.index t 0 * 512 + 1 * (y 0).val) * w (win0_2.index t 1 * 2048 + 1 * (y 1).val)
  have hi : inv (blk (win0_2.index t) 512 2048 X) (y 0).val = inv X (win0_2.index t 0 * 512 + 1 * (y 0).val) := by
    simp only [inv, ms, rowSum, blk, b, zero_mul, one_mul, zero_add]
  rw [hi, b]

end

/-- The reference's mean square. -/
theorem host_ms (X : ℕ → ℕ → EReal) (h : (M 2048 2048).ReducesTo [1] ⟨1, ![2048]⟩) (h') (h2 : (⟨1, ![2048]⟩ : Shape).BroadcastsInDim (M 2048 1) ![0])
    (h3 h4 : (⟨0, ![]⟩ : Shape).BroadcastsInDim (M 2048 1) ![]) :
    addf (Host.divf (broadcastInDim (M 2048 1) ![0] h2 (Host.reduceAdd (mulf (ar X) (ar X) : FVec Ideal (M 2048 2048) .f32) (constant (F := Ideal) (⟨0, ![]⟩ : Shape) .f32 0x00000000#32) h h'))
      (broadcastInDim (M 2048 1) ![] h3 (constant (F := Ideal) (⟨0, ![]⟩ : Shape) .f32 0x45000000#32))) (broadcastInDim (M 2048 1) ![] h4 (constant (F := Ideal) (⟨0, ![]⟩ : Shape) .f32 0x358637BD#32))
      = (ar fun a _ => ms X a : FVec Ideal (M 2048 1) .f32) := by
  have s : (mulf (ar X) (ar X) : FVec Ideal (M 2048 2048) .f32) = ar fun a k => X a k * X a k := rfl
  rw [s, host_sum_row]
  rfl

theorem host_inv (X : ℕ → ℕ → EReal) : Host.rsqrt (ar fun a _ => ms X a : FVec Ideal (M 2048 1) .f32) = (ar fun a _ => inv X a : FVec Ideal (M 2048 1) .f32) := rfl

theorem reference (X : ℕ → ℕ → EReal) (w : ℕ → EReal) (x1 : FVec Ideal (M 2048 2048) .f32) (w1 : FVec Ideal (⟨1, ![2048]⟩ : Shape) .f32) (hx : x1 = ar X) (hw : w1 = ar1 w)
    (h : (M 2048 2048).ReducesTo [1] ⟨1, ![2048]⟩) (h') (h1 : (M 2048 1).BroadcastsInDim (M 2048 2048) ![0, 1]) (h2 : (⟨1, ![2048]⟩ : Shape).BroadcastsInDim (M 2048 1) ![0])
    (h3 h4 : (⟨0, ![]⟩ : Shape).BroadcastsInDim (M 2048 1) ![]) (h5 : (M 1 2048).BroadcastsInDim (M 2048 2048) ![0, 1]) (h6 : (⟨1, ![2048]⟩ : Shape).BroadcastsInDim (M 1 2048) ![1]) (h7) :
    (truncf .bf16 (mulf (mulf x1 (broadcastInDim (M 2048 2048) ![0, 1] h1 (Host.rsqrt (addf (Host.divf (broadcastInDim (M 2048 1) ![0] h2
      (Host.reduceAdd (mulf x1 x1) (constant (F := Ideal) (⟨0, ![]⟩ : Shape) .f32 0x00000000#32) h h')) (broadcastInDim (M 2048 1) ![] h3 (constant (F := Ideal) (⟨0, ![]⟩ : Shape) .f32 0x45000000#32)))
      (broadcastInDim (M 2048 1) ![] h4 (constant (F := Ideal) (⟨0, ![]⟩ : Shape) .f32 0x358637BD#32)))))) (broadcastInDim (M 2048 2048) ![0, 1] h5 (broadcastInDim (M 1 2048) ![1] h6 w1))) h7 : FVec Ideal (M 2048 2048) .bf16)
      = ar (out X w) := by
  subst hx hw
  rw [host_spread_row, host_ms, host_inv, host_spread_col]
  rfl

/-- The norm. -/
theorem algebraic : Cert.algebraic_NormIdeal_NormRefIdeal := by
  intro m ρ m' ρ' _ e
  refine ⟨_, Cert.NormIdeal.Value.run_blocks m ρ, (θ_run _ _ _).mono (fun _ h c => ⟨?_, (h c).2⟩) (Cert.NormRefIdeal.Value.run m' ρ')⟩
  obtain ⟨X, h0⟩ := exists_ar (m ((c : Thread nD τ).loc main_arg0) : FVec Ideal (M 2048 2048) .f32)
  obtain ⟨w, h1⟩ := exists_ar1 (m ((c : Thread nD τ).loc main_arg1) : FVec Ideal (⟨1, ![2048]⟩ : Shape) .f32)
  refine (h c).1.trans (Eq.trans ?_ (final2 h0 h1).symm)
  exact reference X w _ _ (((e c).1).trans h0) (((e c).2).trans h1) _ _ _ _ _ _ _ _ _

end Norm

namespace DtFwd

open Cert.DtFwdIdeal Cert.DtFwdIdeal.Gen

/-- The reference leaves its arguments and every counter alone. -/
theorem frame_ref : Cert.quiescent_DtFwdRefIdeal := fun m ρ _ =>
  (θ_run _ _ _).mono (fun r h => ⟨fun c => (h c).2.2, sem_eq_zero_of_no_sems (by decide) r.2⟩) (Cert.DtFwdRefIdeal.Value.run m ρ)

/-- `log (1 + exp x)`, kept from overflowing. -/
abbrev sp (x : EReal) : EReal := max x 0 + Ideal.log (1 + Ideal.exp (-max x (-x)))

theorem tile3 (X B A : ℕ → ℕ → EReal) : out0_3 (F := Ideal) (ar X : FVec Ideal (M 2048 64) .f32) (ar B : FVec Ideal (M 1 64) .f32) (ar A : FVec Ideal (M 1 64) .f32)
    = (ar fun a b => sp (X a b + B 0 b) : FVec Ideal (M 2048 64) .f32) := by
  unfold out0_3
  rw [View.ld_unit_lit _ _ (by decide), View.ld_unit_lit _ _ (by decide)]
  refine (funext fun y => Cert.DtFwdIdeal.Value.canon3_eq _ _ y).trans ?_
  funext i
  have (x o z : EReal) (ho : o = 1) (hz : z = 0) : max x z + Ideal.log (o + Ideal.exp (z - max x (-x))) = sp x := by
    rw [ho, hz, zero_sub]
  exact this _ _ _ Ideal.ofBits_one_f32 Ideal.ofBits_zero_f32

theorem tile4 (X B A : ℕ → ℕ → EReal) : out0_4 (F := Ideal) (ar X : FVec Ideal (M 2048 64) .f32) (ar B : FVec Ideal (M 1 64) .f32) (ar A : FVec Ideal (M 1 64) .f32)
    = (ar fun _ b => -Ideal.exp (A 0 b) : FVec Ideal (M 1 64) .f32) := by
  unfold out0_4
  rw [View.ld_unit_lit _ _ (by decide)]
  refine (funext fun y => Cert.DtFwdIdeal.Value.canon4_eq _ y).trans ?_
  funext i
  have (x z : EReal) (hz : z = 0) : z - Ideal.exp x = -Ideal.exp x := by rw [hz, zero_sub]
  exact this _ _ Ideal.ofBits_zero_f32

theorem at3 : ∀ t : Fin cfg0.N, win0_0.index t = ![0, 0] ∧ win0_1.index t = ![0, 0] ∧ win0_2.index t = ![0, 0] ∧ win0_3.index t = ![0, 0] ∧ win0_4.index t = ![0, 0] := by decide +kernel

variable {m : (ℓ : Loc nD τ sig) → Buf (Elt Ideal) ℓ} {c : Dev nD} {X : ℕ → ℕ → EReal} {b a : ℕ → EReal}

section
variable (h0 : m ((c : Thread nD τ).loc main_arg0) = (ar X : FVec Ideal (M 2048 64) .f32)) (h1 : m ((c : Thread nD τ).loc main_arg1) = (ar1 b : FVec Ideal (⟨1, ![64]⟩ : Shape) .f32))
  (h2 : m ((c : Thread nD τ).loc main_arg2) = (ar1 a : FVec Ideal (⟨1, ![64]⟩ : Shape) .f32))

include h1 in
/-- The bias as the launch finds it: one row. -/
theorem bias : V m c main_v0 = (ar fun _ k => b k : FVec Ideal (M 1 64) .f32) := by
  refine Eq.trans (b := shapeCast (M 1 64) (m ((c : Thread nD τ).loc main_arg1)) shapeCasts_S64_S1x64) ?_ (by rw [h1]; exact one_row _ _)
  show StableHlo.after hostOps0 _ _ = _
  simp only [hostOps0, StableHlo.TRef.reshape, StableHlo.TRef.toBuf, StableHlo.TRef.ofBuf, cast_eq]
  after_results_simp <;> rfl

include h2 in
/-- The logarithms of the decay rates as the launch finds them: one row. -/
theorem logs : V m c main_v1 = (ar fun _ k => a k : FVec Ideal (M 1 64) .f32) := by
  refine Eq.trans (b := shapeCast (M 1 64) (m ((c : Thread nD τ).loc main_arg2)) shapeCasts_S64_S1x64) ?_ (by rw [h2]; exact one_row _ _)
  show StableHlo.after hostOps0 _ _ = _
  simp only [hostOps0, StableHlo.TRef.reshape, StableHlo.TRef.toBuf, StableHlo.TRef.ofBuf, cast_eq]
  after_results_simp <;> rfl

include h0 h1 h2

theorem blocks (t : Fin cfg0.N) : iblk m c 0 t = (ar (blk ![0, 0] 2048 64 X) : FVec Ideal (M 2048 64) .f32)
    ∧ iblk m c 1 t = (ar (blk ![0, 0] 1 64 fun _ k => b k) : FVec Ideal (M 1 64) .f32) ∧ iblk m c 2 t = (ar (blk ![0, 0] 1 64 fun _ k => a k) : FVec Ideal (M 1 64) .f32) := by
  obtain ⟨a0, a1, a2, -, -⟩ := at3 t
  have e0 : iblk m c 0 t = (ar (blk (win0_0.index t) 2048 64 X) : FVec Ideal (M 2048 64) .f32) := congrArg ((win0_0.blk t).view.read _) ((V_main_arg0 m c).trans h0)
  have e1 : iblk m c 1 t = (ar (blk (win0_1.index t) 1 64 fun _ k => b k) : FVec Ideal (M 1 64) .f32) := congrArg ((win0_1.blk t).view.read _) (bias h1)
  have e2 : iblk m c 2 t = (ar (blk (win0_2.index t) 1 64 fun _ k => a k) : FVec Ideal (M 1 64) .f32) := congrArg ((win0_2.blk t).view.read _) (logs h2)
  rw [a0] at e0
  rw [a1] at e1
  rw [a2] at e2
  exact ⟨e0, e1, e2⟩

theorem final3 : (dats m 0 c).arrAt 3 cfg0.N = (ar fun r k => sp (X r k + b k) : FVec Ideal (M 2048 64) .f32) := by
  refine (dats m 0 c).arrAt_eq_of_covers 3 _ (by decide +kernel) fun t _ y => ?_
  obtain ⟨e0, e1, e2⟩ := blocks h0 h1 h2 t
  obtain ⟨-, -, -, a3, -⟩ := at3 t
  have e := (after0_3 m c t).trans ((by rw [e0, e1, e2] : _ = _).trans (tile3 _ _ _))
  refine (congrFun e y).trans ?_
  show _ = sp (X (win0_3.index t 0 * 2048 + 1 * (y 0).val) (win0_3.index t 1 * 64 + 1 * (y 1).val) + b (win0_3.index t 1 * 64 + 1 * (y 1).val))
  rw [a3]
  rfl

theorem final4 : (dats m 0 c).arrAt 4 cfg0.N = (ar fun _ k => -Ideal.exp (a k) : FVec Ideal (M 1 64) .f32) := by
  refine (dats m 0 c).arrAt_eq_of_covers 4 _ (by decide +kernel) fun t _ y => ?_
  obtain ⟨e0, e1, e2⟩ := blocks h0 h1 h2 t
  obtain ⟨-, -, -, -, a4⟩ := at3 t
  have e := (after0_4 m c t).trans ((by rw [e0, e1, e2] : _ = _).trans (tile4 _ _ _))
  refine (congrFun e y).trans ?_
  show _ = -Ideal.exp (a (win0_4.index t 1 * 64 + 1 * (y 1).val))
  rw [a4]
  rfl

end

/-- The reference's softplus at one number. -/
theorem softplus (x z : EReal) (hz : z = 0) (u v : BitVec 1) (hu : u = Ideal.cmp .une (x - z) (x - z)) :
    (if u = 1#1 then x + z else max x z + Ideal.log (1 + Ideal.exp (-max (x - z) (-(x - z))))) = sp x := by
  have : Ideal.cmp .une (x - z) (x - z) = 0#1 := by simp [Ideal.cmp]
  rw [hu, this, if_neg (by decide), hz, sub_zero]

/-- The step sizes and the decay rates. -/
theorem algebraic : Cert.algebraic_DtFwdIdeal_DtFwdRefIdeal := by
  intro m ρ m' ρ' _ e
  refine ⟨_, _, Cert.DtFwdIdeal.Value.run_blocks m ρ, (θ_run _ _ _).mono (fun _ h c => ⟨?_, ?_, (h c).2.2⟩) (Cert.DtFwdRefIdeal.Value.run m' ρ')⟩
  all_goals
    obtain ⟨X, h0⟩ := exists_ar (m ((c : Thread nD τ).loc main_arg0) : FVec Ideal (M 2048 64) .f32)
    obtain ⟨b, h1⟩ := exists_ar1 (m ((c : Thread nD τ).loc main_arg1) : FVec Ideal (⟨1, ![64]⟩ : Shape) .f32)
    obtain ⟨a, h2⟩ := exists_ar1 (m ((c : Thread nD τ).loc main_arg2) : FVec Ideal (⟨1, ![64]⟩ : Shape) .f32)
  · refine (h c).1.trans (Eq.trans ?_ (final3 h0 h1 h2).symm)
    rw [((e c).1).trans h0, ((e c).2.1).trans h1, host_spread_row b]
    funext i
    exact softplus _ _ Ideal.ofBits_zero_f32 _ 0 rfl
  · refine (h c).2.1.trans (Eq.trans ?_ (final4 h0 h1 h2).symm)
    rw [((e c).2.2).trans h2]
    refine Eq.trans (b := Host.negf (ar fun _ k => Ideal.exp (a k) : FVec Ideal (M 1 64) .f32)) ?_ rfl
    exact congrArg Host.negf (one_row (fun k => Ideal.exp (a k)) _)

end DtFwd

end Cert.Proof

end
-- ==== Proof.NormScalar.lean ====
/- The gradient of the norm along one row, by the product rule and as the kernel computes it. -/
module

public import Idealize.ShloMosaic.PureOps.Ideal
public import Idealize.ShloMosaic.Lib.IdealHost

@[expose] public section

noncomputable section

namespace Cert.Proof.NormBack

open Idealize.ShloMosaic

/-- Twice a number. -/
theorem twice (t : EReal) : t + t = ((2 : ℝ) : EReal) * t := by
  induction t with
  | bot => rw [EReal.coe_mul_bot_of_pos (by norm_num)]; rfl
  | top => rw [EReal.coe_mul_top_of_pos (by norm_num)]; rfl
  | coe t => norm_cast; ring

/-- A real factor that is not negative comes out of a sum. -/
theorem sum_mul {n : ℕ} (c : ℝ) (hc : 0 ≤ c) (f : Fin n → EReal) : ∑ k, (c : EReal) * f k = c * ∑ k, f k := by
  have (s : Finset (Fin n)) : ∑ k ∈ s, (c : EReal) * f k = c * ∑ k ∈ s, f k := by
    induction s using Finset.induction_on with
    | empty => simp
    | insert a s ha ih => rw [Finset.sum_insert ha, Finset.sum_insert ha, ih, EReal.left_distrib_of_nonneg_of_ne_top (EReal.coe_nonneg.mpr hc) (EReal.coe_ne_top c)]
  exact this _

theorem coe_sum {n : ℕ} (f : Fin n → ℝ) : ((∑ k, f k : ℝ) : EReal) = ∑ k, (f k : EReal) :=
  map_sum (⟨⟨Real.toEReal, EReal.coe_zero⟩, EReal.coe_add⟩ : ℝ →+ EReal) f Finset.univ

theorem length : Ideal.ofBits .f32 0x45000000#32 = ((2048 : ℝ) : EReal) := by
  simp [Ideal.ofBits, Ideal.ieee, -EReal.coe_mul]
  norm_num

theorem half : Ideal.ofBits .f32 0xBF000000#32 = ((-(1 / 2) : ℝ) : EReal) := by
  simp [Ideal.ofBits, Ideal.ieee, -EReal.coe_mul]
  norm_num

theorem epsilon : ∃ e : ℝ, 0 < e ∧ Ideal.ofBits .f32 0x358637BD#32 = (e : EReal) :=
  ⟨8796093 / 8796093022208, by norm_num, by
    simp [Ideal.ofBits, Ideal.ieee, -EReal.coe_mul]
    norm_num⟩

theorem sq_nonneg' (x : EReal) : 0 ≤ x * x := by
  induction x with
  | bot => simp
  | top => simp
  | coe x => exact_mod_cast mul_self_nonneg x

/-- A row holding an infinity has an infinite sum of squares. -/
theorem sum_top {n : ℕ} (x : Fin n → EReal) (k : Fin n) (hk : x k = ⊤ ∨ x k = ⊥) : ∑ k, x k * x k = ⊤ := by
  refine top_le_iff.mp (le_trans (le_of_eq ?_) (Finset.single_le_sum (fun i _ => sq_nonneg' (x i)) (Finset.mem_univ k)))
  rcases hk with h | h <;> rw [h] <;> simp

/-- The two forms of the gradient agree, whatever numbers the row and its cotangent hold. -/
theorem row {n : ℕ} (x g : Fin n → EReal) (b : Fin n) (v r q : EReal) (hv : v = Ideal.div (∑ k, x k * x k) (Ideal.ofBits .f32 0x45000000#32) + Ideal.ofBits .f32 0x358637BD#32)
    (hr : r = Ideal.rsqrt v) (hq : q = Ideal.div ((∑ k, x k * g k) * (Ideal.ofBits .f32 0xBF000000#32 * Ideal.div r v)) (Ideal.ofBits .f32 0x45000000#32)) :
    r * (g b - x b * r * Ideal.div (∑ k, g k * (x k * r)) (Ideal.ofBits .f32 0x45000000#32)) = g b * r + x b * q + q * x b := by
  obtain ⟨e, he, he'⟩ := epsilon
  rw [length, he', Ideal.div_coe (by norm_num)] at hv
  rw [length, half, Ideal.div_coe (by norm_num)] at hq
  rw [length, Ideal.div_coe (by norm_num)]
  by_cases h : ∃ k, x k = ⊤ ∨ x k = ⊥
  · obtain ⟨k, hk⟩ := h
    rw [sum_top x k hk, EReal.top_mul_coe_of_pos (by norm_num), EReal.top_add_coe] at hv
    have hr0 : r = 0 := by rw [hr, hv]; rfl
    have hd : Ideal.div r v = 0 := by rw [hr0, hv]; simp [Ideal.div]
    rw [hd, mul_zero, mul_zero, zero_mul] at hq
    rw [hq, hr0]
    simp
  · push Not at h
    obtain ⟨y, hy⟩ : ∃ y : Fin n → ℝ, x = fun k => (y k : EReal) :=
      ⟨fun k => (x k).toReal, funext fun k => (EReal.coe_toReal (h k).1 (h k).2).symm⟩
    subst hy
    have hs : ∑ k, ((y k : EReal) * (y k : EReal)) = ((∑ k, y k * y k : ℝ) : EReal) := by
      rw [coe_sum]
      exact Finset.sum_congr rfl fun k _ => (EReal.coe_mul _ _).symm
    have hpos : 0 < (∑ k, y k * y k) * (1 / 2048) + e := add_pos_of_nonneg_of_pos (mul_nonneg (Finset.sum_nonneg fun k _ => mul_self_nonneg _) (by norm_num)) he
    rw [hs] at hv
    set u : ℝ := (∑ k, y k * y k) * (1 / 2048) + e with hu
    have hv' : v = (u : EReal) := by rw [hv, hu]; norm_cast
    have hr' : r = (((Real.sqrt u)⁻¹ : ℝ) : EReal) := by
      rw [hr, hv', Ideal.rsqrt_coe, if_neg (not_lt.mpr hpos.le), if_neg hpos.ne']
    set p : ℝ := (Real.sqrt u)⁻¹ with hp
    have hp0 : 0 ≤ p := inv_nonneg.mpr (Real.sqrt_nonneg u)
    have hpp : p * p = 1 / u := by
      rw [hp, ← mul_inv, Real.mul_self_sqrt hpos.le, one_div]
    set S : EReal := ∑ k, (y k : EReal) * g k with hS
    have hm : ∑ k, g k * ((y k : EReal) * r) = (p : EReal) * S := by
      rw [hS, ← sum_mul p hp0, hr']
      exact Finset.sum_congr rfl fun k _ => by rw [mul_comm, mul_comm (y k : EReal), mul_assoc]
    rw [hm, hq, hv', Ideal.div_coe hpos.ne', hr', add_assoc]
    have h1 : (y b : EReal) * (S * (((-(1 / 2) : ℝ) : EReal) * ((p : EReal) * ((1 / u : ℝ) : EReal))) * ((1 / 2048 : ℝ) : EReal))
        = ((y b * (-(1 / 2) * (p * (1 / u))) * (1 / 2048) : ℝ) : EReal) * S := by
      push_cast
      ac_rfl
    have h2 : (y b : EReal) * (p : EReal) * ((p : EReal) * S * ((1 / 2048 : ℝ) : EReal)) = ((y b * p * p * (1 / 2048) : ℝ) : EReal) * S := by
      push_cast
      ac_rfl
    rw [mul_comm _ (y b : EReal), h1, twice, h2, sub_eq_add_neg, EReal.left_distrib_of_nonneg_of_ne_top (EReal.coe_nonneg.mpr hp0) (EReal.coe_ne_top p), mul_comm (p : EReal) (g b), ← EReal.neg_mul, ← mul_assoc, ← mul_assoc]
    congr 2
    rw [← EReal.coe_neg, ← EReal.coe_mul, ← EReal.coe_mul, ← hpp]
    congr 1
    ring

end Cert.Proof.NormBack

end
-- ==== Proof.NormBack.lean ====
/- The norm's gradients: what the call leaves in its two results, and the reference's. -/
module

public import proofs.«01_k».proof.Defs
public import proofs.«01_k».proof.Proof.Forward
public import proofs.«01_k».proof.Proof.NormScalar
public import proofs.«01_k».proof.Proof.Gen.NormBack
public import proofs.«01_k».proof.Proof.Gen.NormBackIdeal.Value
public import proofs.«01_k».proof.Proof.Gen.NormBackRefIdeal.Run
public import Idealize.ShloMosaic.Lib.Pipeline.ValueKit.Acc

@[expose] public section

set_option maxRecDepth 16384

noncomputable section

namespace Cert.Proof.NormBack

open Idealize.ShloMosaic hiding ix1 ix2 ix3
open Idealize.ShloMosaic.TcCoe Idealize.SL.Sem
open Idealize.ShloMosaic.ValueIdx
open Cert.Proof.Prod Cert.Proof.Rows
open Cert.Proof.Norm (n₀ e₀ ms inv host_ms host_inv)
open Cert.NormBackIdeal Cert.NormBackIdeal.Gen

/-- The reference leaves its arguments and every counter alone. -/
theorem frame_ref : Cert.quiescent_NormBackRefIdeal := fun m ρ _ =>
  (θ_run _ _ _).mono (fun r h => ⟨fun c => (h c).2.2, sem_eq_zero_of_no_sems (by decide) r.2⟩) (Cert.NormBackRefIdeal.Value.run m ρ)

/-- The normalized rows, the cotangent of them, and what a weight's gradient sums. -/
abbrev xh (X : ℕ → ℕ → EReal) (a b : ℕ) : EReal := X a b * inv X a
abbrev gw (D : ℕ → ℕ → EReal) (w : ℕ → EReal) (a b : ℕ) : EReal := D a b * w b
abbrev dw (X D : ℕ → ℕ → EReal) (a b : ℕ) : EReal := D a b * xh X a b

/-- The gradient of the rows as the kernel computes it, the residual's cotangent added. -/
abbrev dx (X D R : ℕ → ℕ → EReal) (w : ℕ → EReal) (a b : ℕ) : EReal :=
  R a b + inv X a * (gw D w a b - xh X a b * Ideal.div (rowSum 2048 (fun a k => gw D w a k * xh X a k) a) n₀)

section Tile

variable (X D R : ℕ → ℕ → EReal) (w v : ℕ → EReal)

theorem root : k0_pay3 (F := Ideal) (ar X : FVec Ideal (M 512 2048) .f32) = (ar fun a _ => inv X a : FVec Ideal (M 512 1) .f32) := by
  unfold k0_pay3
  dsimp only
  exact congrArg (fun z : FVec Ideal (M 512 1) .f32 => rsqrt (addf (divf z (broadcast (M 512 1) n₀)) (broadcast (M 512 1) e₀))) (sum_row (X := fun a k => X a k * X a k) _ _ _ _)

theorem normed : k0_pay4 (F := Ideal) (ar X : FVec Ideal (M 512 2048) .f32) = (ar (xh X) : FVec Ideal (M 512 2048) .f32) := by
  unfold k0_pay4
  dsimp only
  rw [root, spread_col]
  rfl

theorem added : k0_pay5 (F := Ideal) (ar X : FVec Ideal (M 512 2048) .f32) (ar D : FVec Ideal (M 512 2048) .f32) (ar fun _ b => v b : FVec Ideal (M 1 2048) .f32)
    = (ar fun _ b => v b + colSum 512 (dw X D) b : FVec Ideal (M 1 2048) .f32) := by
  unfold k0_pay5
  dsimp only
  rw [normed, shapeCast_self]
  exact congrArg (addf (ar fun _ b => v b : FVec Ideal (M 1 2048) .f32)) (sum_col (X := dw X D) _ _ _ _)

theorem rows : k0_pay1 (F := Ideal) (ar R : FVec Ideal (M 512 2048) .f32) (k0_pay6 (F := Ideal) (ar X : FVec Ideal (M 512 2048) .f32) (ar D : FVec Ideal (M 512 2048) .f32) (ar fun _ b => w b : FVec Ideal (M 1 2048) .f32))
    = (ar (dx X D R w) : FVec Ideal (M 512 2048) .f32) := by
  unfold k0_pay1 k0_pay6
  dsimp only
  rw [normed, root, shapeCast_self, spread_row, spread_col]
  exact congrArg (fun z : FVec Ideal (M 512 2048) .f32 => addf (ar R) (mulf (ar fun a _ => inv X a) (subf (ar (gw D w)) (mulf (ar (xh X)) z))))
    ((congrArg (fun z : FVec Ideal (M 512 1) .f32 => broadcastTo (M 512 2048) (divf z (broadcast (M 512 1) n₀)) broadcasts_S512x1_S512x2048) (sum_row (X := fun a k => gw D w a k * xh X a k) _ _ _ _)).trans
      (spread_col (X := fun a _ => Ideal.div (rowSum 2048 (fun a k => gw D w a k * xh X a k) a) n₀) _))

end Tile

theorem at4 : ∀ t : Fin cfg0.N, win0_0.index t = ![t.val, 0] ∧ win0_1.index t = ![0, 0] ∧ win0_2.index t = ![t.val, 0] ∧ win0_3.index t = ![t.val, 0]
    ∧ win0_4.index t = ![t.val, 0] ∧ win0_5.index t = ![0, 0] := by decide +kernel

variable {m : (ℓ : Loc nD τ sig) → Buf (Elt Ideal) ℓ} {c : Dev nD} {X D R : ℕ → ℕ → EReal} {w : ℕ → EReal}

section
variable (h0 : m ((c : Thread nD τ).loc main_arg0) = (ar X : FVec Ideal (M 2048 2048) .f32)) (h1 : m ((c : Thread nD τ).loc main_arg1) = (ar1 w : FVec Ideal (⟨1, ![2048]⟩ : Shape) .f32))
  (h2 : m ((c : Thread nD τ).loc main_arg2) = (ar D : FVec Ideal (M 2048 2048) .f32)) (h3 : m ((c : Thread nD τ).loc main_arg3) = (ar R : FVec Ideal (M 2048 2048) .f32))

include h1 in
/-- The weights as the launch finds them: one row. -/
theorem weights : V m c main_v0 = (ar fun _ b => w b : FVec Ideal (M 1 2048) .f32) := by
  refine Eq.trans (b := shapeCast (M 1 2048) (m ((c : Thread nD τ).loc main_arg1)) shapeCasts_S2048_S1x2048) ?_ (by rw [h1]; exact one_row _ _)
  show StableHlo.after hostOps0 _ _ = _
  simp only [hostOps0, StableHlo.TRef.reshape, StableHlo.TRef.toBuf, StableHlo.TRef.ofBuf, cast_eq]
  after_results_simp <;> rfl

/-- A block of 512 rows. -/
abbrev bk (t : ℕ) (X : ℕ → ℕ → EReal) : ℕ → ℕ → EReal := blk ![t, 0] 512 2048 X

theorem bk_inv (t : ℕ) (X : ℕ → ℕ → EReal) (a : ℕ) : inv (bk t X) a = inv X (t * 512 + 1 * a) := by
  show Ideal.rsqrt (Ideal.div (∑ k : Fin 2048, X (t * 512 + 1 * a) (0 * 2048 + 1 * k.val) * X (t * 512 + 1 * a) (0 * 2048 + 1 * k.val)) n₀ + e₀) = _
  simp only [zero_mul, one_mul, zero_add]

include h0 in
theorem blk0 (t : Fin cfg0.N) : iblk m c 0 t = (ar (bk t.val X) : FVec Ideal (M 512 2048) .f32) := by
  rw [bk, ← (at4 t).1]
  exact congrArg ((win0_0.blk t).view.read _) ((V_main_arg0 m c).trans h0)

include h1 in
theorem blk1 (t : Fin cfg0.N) : iblk m c 1 t = (ar fun _ b => w b : FVec Ideal (M 1 2048) .f32) := by
  refine (congrArg ((win0_1.blk t).view.read _) (weights h1)).trans ?_
  funext i
  show w (win0_1.index t 1 * 2048 + 1 * (i 1).val) = w (i 1).val
  rw [(at4 t).2.1]
  exact congrArg w (by show 0 * 2048 + 1 * (i 1).val = (i 1).val; omega)

include h2 in
theorem blk2 (t : Fin cfg0.N) : iblk m c 2 t = (ar (bk t.val D) : FVec Ideal (M 512 2048) .f32) := by
  rw [bk, ← (at4 t).2.2.1]
  exact congrArg ((win0_2.blk t).view.read _) ((V_main_arg2 m c).trans h2)

include h3 in
theorem blk3 (t : Fin cfg0.N) : iblk m c 3 t = (ar (bk t.val R) : FVec Ideal (M 512 2048) .f32) := by
  rw [bk, ← (at4 t).2.2.2.1]
  exact congrArg ((win0_3.blk t).view.read _) ((V_main_arg3 m c).trans h3)

include h0 h1 h2 h3

/-- The rows' gradient at a point. -/
theorem rowsAt (t : Fin cfg0.N) : (outsAt0 m c t.val t.isLt).1 = (ar (dx (bk t.val X) (bk t.val D) (bk t.val R) w) : FVec Ideal (M 512 2048) .f32) := by
  refine Eq.trans (b := k0_pay1 (F := Ideal) (iblk m c 3 t) (k0_pay6 (F := Ideal) (iblk m c 0 t) (iblk m c 2 t) (iblk m c 1 t))) ?_
    (by rw [blk0 h0 t, blk1 h1 t, blk2 h2 t, blk3 h3 t]; exact rows _ _ _ _)
  by_cases h : t.val % 4 = 0
  · rw [outsAt0_A m c t h]
    frame_out
  · rw [outsAt0_B m c t h]
    frame_out

omit h1 h3 in
/-- The rows' products of a block, summed. -/
theorem partSum (t : ℕ) (b : ℕ) : colSum 512 (dw (bk t X) (bk t D)) b = ∑ k ∈ Finset.range 512, dw X D (t * 512 + k) b := by
  refine Finset.sum_congr rfl fun k _ => ?_
  show D (t * 512 + 1 * k) (0 * 2048 + 1 * b) * (X (t * 512 + 1 * k) (0 * 2048 + 1 * b) * inv (bk t X) k) = _
  rw [bk_inv]
  simp only [zero_mul, one_mul, zero_add]

/-- The weights' gradient after a point: the sum over the rows so far. -/
theorem sumsAt (n : ℕ) (hn : n < cfg0.N) : (outsAt0 m c n hn).2 = (ar fun _ b => colSum ((n + 1) * 512) (dw X D) b : FVec Ideal (M 1 2048) .f32) := by
  induction n with
  | zero =>
    refine (congrArg Prod.snd (outsAt0_A m c ⟨0, hn⟩ rfl)).trans ?_
    frame_out
    refine Eq.trans (b := k0_pay5 (F := Ideal) (ar (bk 0 X) : FVec Ideal (M 512 2048) .f32) (ar (bk 0 D) : FVec Ideal (M 512 2048) .f32) (ar fun _ _ => 0 : FVec Ideal (M 1 2048) .f32)) ?_
      ((added _ _ fun _ => 0).trans (ar_congr fun a _ b _ => ?_))
    · rw [blk0 h0, blk2 h2]
      exact congrArg (k0_pay5 (F := Ideal) _ _) (funext fun _ => Ideal.ofBits_zero_f32)
    · rw [partSum h0 h2]
      simp only [zero_add, zero_mul, one_mul]
  | succ n ih =>
    refine (congrArg Prod.snd (outsAt0_B m c ⟨n + 1, hn⟩ (by have : n + 1 < 4 := hn; show ¬(n + 1) % 4 = 0; omega))).trans ?_
    frame_out
    have e := ih (by omega)
    refine Eq.trans (b := k0_pay5 (F := Ideal) (ar (bk (n + 1) X) : FVec Ideal (M 512 2048) .f32) (ar (bk (n + 1) D) : FVec Ideal (M 512 2048) .f32) (ar fun _ b => colSum ((n + 1) * 512) (dw X D) b : FVec Ideal (M 1 2048) .f32)) ?_
      ((added _ _ fun b => colSum ((n + 1) * 512) (dw X D) b).trans (ar_congr fun a _ b _ => ?_))
    · rw [blk0 h0, blk2 h2]
      exact congrArg (k0_pay5 (F := Ideal) _ _) e
    · rw [partSum h0 h2, add_mul (n + 1) 1 512, one_mul]
      exact (Finset.sum_range_add _ _ _).symm

/-- The first result after the run. -/
theorem final4 : (dats m 0 c).arrAt 4 cfg0.N = (ar (dx X D R w) : FVec Ideal (M 2048 2048) .f32) := by
  refine (dats m 0 c).arrAt_eq_of_covers 4 _ (by decide +kernel) fun t _ y => ?_
  have e := (after0_4 m c t).trans (rowsAt h0 h1 h2 h3 t)
  refine (congrFun e y).trans ?_
  have a0 : win0_4.index t = ![t.val, 0] := (at4 t).2.2.2.2.1
  show dx (bk t.val X) (bk t.val D) (bk t.val R) w (y 0).val (y 1).val = dx X D R w (win0_4.index t 0 * 512 + 1 * (y 0).val) (win0_4.index t 1 * 2048 + 1 * (y 1).val)
  rw [a0]
  show dx (bk t.val X) (bk t.val D) (bk t.val R) w (y 0).val (y 1).val = dx X D R w (t.val * 512 + 1 * (y 0).val) (0 * 2048 + 1 * (y 1).val)
  simp only [dx, xh, gw, bk_inv, rowSum]
  simp only [bk, blk, Matrix.cons_val_zero, Matrix.cons_val_one, zero_mul, one_mul, zero_add]

/-- The second. -/
theorem final5 : (dats m 0 c).arrAt 5 cfg0.N = (ar fun _ b => colSum 2048 (dw X D) b : FVec Ideal (M 1 2048) .f32) := by
  refine (dats m 0 c).arrAt_eq_of_covers 5 _ (by decide +kernel) fun t hf y => ?_
  have ht : t.val = 3 := by
    have h4 : t.val < 4 := t.isLt
    have := (flush0_5 t).mp hf
    omega
  have e := (after0_5 m c t).trans (sumsAt h0 h1 h2 h3 t.val t.isLt)
  refine (congrFun e y).trans ?_
  show colSum ((t.val + 1) * 512) (dw X D) (y 1).val = colSum 2048 (dw X D) (win0_5.index t 1 * 2048 + 1 * (y 1).val)
  rw [(at4 t).2.2.2.2.2, ht]
  exact congrArg (colSum 2048 (dw X D)) (by show (y 1).val = 0 * 2048 + 1 * (y 1).val; omega)

end

section Reference

variable (X D R : ℕ → ℕ → EReal) (w : ℕ → EReal)

/-- A row's share of the mean square's gradient, as the reference takes it. -/
abbrev q (a : ℕ) : EReal := Ideal.div (rowSum 2048 (fun a k => X a k * gw D w a k) a * (Ideal.ofBits .f32 0xBF000000#32 * Ideal.div (inv X a) (ms X a))) n₀

theorem host_q (h1 h2 : (⟨0, ![]⟩ : Shape).BroadcastsInDim (M 2048 1) ![]) :
    Host.divf (mulf (ar fun a _ => rowSum 2048 (fun a k => X a k * gw D w a k) a : FVec Ideal (M 2048 1) .f32)
      (mulf (broadcastInDim (M 2048 1) ![] h1 (constant (F := Ideal) (⟨0, ![]⟩ : Shape) .f32 0xBF000000#32))
        (Host.divf (ar fun a _ => inv X a : FVec Ideal (M 2048 1) .f32) (ar fun a _ => ms X a : FVec Ideal (M 2048 1) .f32))))
      (broadcastInDim (M 2048 1) ![] h2 (constant (F := Ideal) (⟨0, ![]⟩ : Shape) .f32 0x45000000#32)) = (ar fun a _ => q X D w a : FVec Ideal (M 2048 1) .f32) := rfl

theorem rowSum_one (f : ℕ → EReal) : rowSum 1 (fun a _ => f a) = f := by
  funext a
  simp [rowSum]

/-- The reference's gradient of the rows. -/
theorem same (a b : ℕ) (hb : b < 2048) : R a b + (gw D w a b * inv X a + X a b * q X D w a + q X D w a * X a b) = dx X D R w a b :=
  congrArg (R a b + ·) (row (fun k : Fin 2048 => X a k) (fun k : Fin 2048 => gw D w a k) ⟨b, hb⟩ (ms X a) (inv X a) (q X D w a) rfl rfl rfl).symm

end Reference

/-- The two programs leave the same gradients. -/
theorem algebraic : Cert.algebraic_NormBackIdeal_NormBackRefIdeal := by
  intro m ρ m' ρ' _ e
  refine ⟨_, _, Cert.NormBackIdeal.Value.run_blocks m ρ, (θ_run _ _ _).mono (fun _ h c => ⟨?_, ?_, (h c).2.2⟩) (Cert.NormBackRefIdeal.Value.run m' ρ')⟩
  all_goals
    obtain ⟨X, h0⟩ := exists_ar (m ((c : Thread nD τ).loc main_arg0) : FVec Ideal (M 2048 2048) .f32)
    obtain ⟨w, h1⟩ := exists_ar1 (m ((c : Thread nD τ).loc main_arg1) : FVec Ideal (⟨1, ![2048]⟩ : Shape) .f32)
    obtain ⟨D, h2⟩ := exists_ar (m ((c : Thread nD τ).loc main_arg2) : FVec Ideal (M 2048 2048) .f32)
    obtain ⟨R, h3⟩ := exists_ar (m ((c : Thread nD τ).loc main_arg3) : FVec Ideal (M 2048 2048) .f32)
  · refine (h c).1.trans (Eq.trans ?_ (final4 h0 h1 h2 h3).symm)
    rw [((e c).1).trans h0, ((e c).2.1).trans h1, ((e c).2.2.1).trans h2, ((e c).2.2.2).trans h3, host_spread_row w,
      show (mulf (ar D) (ar fun _ b => w b) : FVec Ideal (M 2048 2048) .f32) = ar (gw D w) from rfl, host_ms, host_inv, host_spread_col,
      show (mulf (ar X) (ar (gw D w)) : FVec Ideal (M 2048 2048) .f32) = ar (fun a k => X a k * gw D w a k) from rfl, host_sum_seq, one_col, host_q, host_sum_seq, rowSum_one, host_spread_seq]
    exact Eq.trans (b := (ar fun a b => R a b + (gw D w a b * inv X a + X a b * q X D w a + q X D w a * X a b) : FVec Ideal (M 2048 2048) .f32)) rfl
      (ar_congr fun a _ b hb => same X D R w a b hb)
  · refine (h c).2.1.trans (Eq.trans ?_ (final5 h0 h1 h2 h3).symm)
    rw [((e c).1).trans h0, ((e c).2.2.1).trans h2, host_ms, host_inv, host_spread_col,
      show (mulf (mulf (ar X) (ar fun a _ => inv X a)) (ar D) : FVec Ideal (M 2048 2048) .f32) = ar (fun a b => xh X a b * D a b) from rfl, host_sum_col, one_row, host_sum_col, one_row]
    refine ar_congr fun a _ b _ => ?_
    show ∑ k ∈ Finset.range 1, ∑ k ∈ Finset.range 2048, xh X k b * D k b = _
    rw [Finset.sum_range_one]
    exact Finset.sum_congr rfl fun k _ => mul_comm _ _

end Cert.Proof.NormBack

end
-- ==== Proof.DtScalar.lean ====
/- The gradient of the softplus at one extended real. -/
module

public import proofs.«01_k».proof.Proof.Forward

@[expose] public section

noncomputable section

namespace Cert.Proof.DtBack

open Idealize.ShloMosaic
open Cert.Proof.DtFwd (sp)

/-- The sigmoid as the kernel computes it. -/
abbrev sg (x : EReal) : EReal := Ideal.div 1 (1 + Ideal.exp (-x))

theorem log_one : Ideal.log 1 = 0 := by
  rw [← EReal.coe_one, Ideal.log_coe, if_neg (by norm_num), Real.log_one, EReal.coe_zero]

theorem exp_zero : Ideal.exp 0 = 1 := by
  rw [← EReal.coe_zero, Ideal.exp_coe, Real.exp_zero, EReal.coe_one]

theorem sp_coe (x : ℝ) : sp (x : EReal) = ((Real.log (1 + Real.exp x) : ℝ) : EReal) := by
  have hm : max (x : EReal) (-(x : EReal)) = ((|x| : ℝ) : EReal) := by
    rw [← EReal.coe_neg]
    exact (Monotone.map_max EReal.coe_strictMono.monotone).symm
  have hz : max (x : EReal) 0 = ((max x 0 : ℝ) : EReal) := by
    rw [← EReal.coe_zero]
    exact (Monotone.map_max EReal.coe_strictMono.monotone).symm
  have hp : 0 < 1 + Real.exp (-|x|) := by positivity
  rw [sp, hm, hz, ← EReal.coe_neg, Ideal.exp_coe, ← EReal.coe_one, ← EReal.coe_add, Ideal.log_coe, if_neg (not_le.mpr hp), ← EReal.coe_add]
  congr 1
  rcases le_total 0 x with h | h
  · rw [max_eq_left h, abs_of_nonneg h]
    conv_lhs => rw [← Real.log_exp x]
    rw [← Real.log_mul (Real.exp_pos x).ne' (by positivity), mul_add, mul_one, Real.log_exp, ← Real.exp_add, add_neg_cancel, Real.exp_zero, add_comm]
  · rw [max_eq_right h, abs_of_nonpos h, neg_neg, zero_add]

/-- The derivative of the softplus, an infinite argument and an infinite value replaced by 0, is the sigmoid. -/
theorem slope (x y : EReal) (hy : y = sp x) : Ideal.exp ((if x = ⊤ then 0 else x) - (if y = ⊤ then 0 else y)) = sg x := by
  subst hy
  induction x with
  | bot =>
    have h : sp ⊥ = 0 := by simp [sp, log_one]
    rw [h, if_neg bot_ne_top, if_neg EReal.zero_ne_top, sub_zero, Ideal.exp_bot, sg, EReal.neg_bot, Ideal.exp_top, EReal.add_top_of_ne_bot (show (1 : EReal) ≠ ⊥ from EReal.coe_ne_bot 1)]
    simp [Ideal.div]
  | top =>
    have h : sp ⊤ = ⊤ := by simp [sp, log_one]
    rw [h, if_pos rfl, sub_zero, sg, EReal.neg_top, Ideal.exp_bot, add_zero]
    rw [exp_zero, ← EReal.coe_one, Ideal.div_coe one_ne_zero]
    norm_num
  | coe x =>
    have hp : 0 < 1 + Real.exp x := by positivity
    have hn : 1 + Real.exp (-x) ≠ 0 := by positivity
    rw [sp_coe, if_neg (EReal.coe_ne_top _), if_neg (EReal.coe_ne_top _), ← EReal.coe_sub, Ideal.exp_coe, sg, ← EReal.coe_neg, Ideal.exp_coe, ← EReal.coe_one, ← EReal.coe_add, Ideal.div_coe hn, ← EReal.coe_mul]
    congr 1
    rw [Real.exp_sub, Real.exp_log hp, Real.exp_neg]
    have := Real.exp_pos x
    field_simp
    ring

end Cert.Proof.DtBack

end
-- ==== Proof.DtBack.lean ====
/- The step sizes' gradients: what the call leaves in its three results, and the reference's. -/
module

public import proofs.«01_k».proof.Defs
public import proofs.«01_k».proof.Proof.RealHost
public import proofs.«01_k».proof.Proof.DtScalar
public import proofs.«01_k».proof.Proof.Gen.DtBack
public import proofs.«01_k».proof.Proof.Gen.DtBackIdeal.Value
public import proofs.«01_k».proof.Proof.Gen.DtBackRefIdeal.Run
public import Idealize.ShloMosaic.Lib.Pipeline.ValueKit.Acc

@[expose] public section

set_option maxRecDepth 16384

noncomputable section

namespace Cert.Proof.DtBack

open Idealize.ShloMosaic hiding ix1 ix2 ix3
open Idealize.ShloMosaic.TcCoe Idealize.SL.Sem
open Idealize.ShloMosaic.ValueIdx
open Cert.Proof.Prod Cert.Proof.Rows
open Cert.Proof.DtFwd (sp softplus)
open Cert.DtBackIdeal Cert.DtBackIdeal.Gen

/-- The reference leaves its arguments and every counter alone. -/
theorem frame_ref : Cert.quiescent_DtBackRefIdeal := fun m ρ _ =>
  (θ_run _ _ _).mono (fun r h => ⟨fun c => (h c).2.2.2, sem_eq_zero_of_no_sems (by decide) r.2⟩) (Cert.DtBackRefIdeal.Value.run m ρ)

/-- The gradient of the projection, and the products that a decay rate's gradient sums. -/
abbrev dr (X D T : ℕ → ℕ → EReal) (b a : ℕ → EReal) (r k : ℕ) : EReal := (D r k + T r k * -Ideal.exp (a k)) * sg (X r k + b k)
abbrev ds (X T : ℕ → ℕ → EReal) (b : ℕ → EReal) (r k : ℕ) : EReal := T r k * sp (X r k + b k)

section Tile

variable (X D T S : ℕ → ℕ → EReal) (b a : ℕ → EReal)

theorem rate : k0_pay1 (F := Ideal) (ar fun _ k => a k : FVec Ideal (M 1 64) .f32) = (ar fun _ k => -Ideal.exp (a k) : FVec Ideal (M 1 64) .f32) := by
  unfold k0_pay1
  dsimp only
  rw [shapeCast_self]
  funext i
  have (x z : EReal) (hz : z = 0) : z - Ideal.exp x = -Ideal.exp x := by rw [hz, zero_sub]
  exact this _ _ Ideal.ofBits_zero_f32

theorem raw : k0_pay2 (F := Ideal) (ar fun _ k => a k : FVec Ideal (M 1 64) .f32) (ar T : FVec Ideal (M 2048 64) .f32) (ar D : FVec Ideal (M 2048 64) .f32) (ar X : FVec Ideal (M 2048 64) .f32)
    (ar fun _ k => b k : FVec Ideal (M 1 64) .f32) = (ar (dr X D T b a) : FVec Ideal (M 2048 64) .f32) := by
  unfold k0_pay2
  dsimp only
  rw [rate, shapeCast_self, spread_row, spread_row]
  funext i
  have (x d t e o z : EReal) (ho : o = 1) (hz : z = 0) : (d + e * t) * Ideal.div o (o + Ideal.exp (z - x)) = (d + t * e) * sg x := by
    rw [ho, hz, zero_sub, mul_comm e t]
  exact this _ _ _ _ _ _ Ideal.ofBits_one_f32 Ideal.ofBits_zero_f32

theorem bias : k0_pay3 (F := Ideal) (ar fun _ k => a k : FVec Ideal (M 1 64) .f32) (ar T : FVec Ideal (M 2048 64) .f32) (ar D : FVec Ideal (M 2048 64) .f32) (ar X : FVec Ideal (M 2048 64) .f32)
    (ar fun _ k => b k : FVec Ideal (M 1 64) .f32) = (ar fun _ k => colSum 2048 (dr X D T b a) k : FVec Ideal (M 1 64) .f32) := by
  unfold k0_pay3
  dsimp only
  rw [raw]
  exact sum_col (X := dr X D T b a) _ _ _ _

theorem logs : k0_pay4 (F := Ideal) (ar fun _ k => a k : FVec Ideal (M 1 64) .f32) (ar T : FVec Ideal (M 2048 64) .f32) (ar S : FVec Ideal (M 2048 64) .f32)
    = (ar fun _ k => colSum 2048 (fun r k => T r k * S r k) k * -Ideal.exp (a k) : FVec Ideal (M 1 64) .f32) := by
  unfold k0_pay4
  dsimp only
  rw [rate, shapeCast_self]
  exact congrArg (fun z : FVec Ideal (M 1 64) .f32 => mulf z (ar fun _ k => -Ideal.exp (a k))) (sum_col (X := fun r k => T r k * S r k) _ _ _ _)

end Tile

/-- The softplus on the host. -/
theorem host_sp (Z : ℕ → ℕ → EReal) (h : (⟨0, ![]⟩ : Shape).BroadcastsInDim (M 2048 64) ![]) (z : FVec Ideal (M 2048 64) .f32)
    (hz : z = broadcastInDim (M 2048 64) ![] h (constant (F := Ideal) (⟨0, ![]⟩ : Shape) .f32 0x00000000#32)) :
    select (cmpf .une (subf (ar Z : FVec Ideal (M 2048 64) .f32) z) (subf (ar Z : FVec Ideal (M 2048 64) .f32) z)) (addf (ar Z : FVec Ideal (M 2048 64) .f32) z)
      (addf (maximumf (ar Z : FVec Ideal (M 2048 64) .f32) z) (Host.log1p (Host.exp (Host.negf (Host.absf (subf (ar Z : FVec Ideal (M 2048 64) .f32) z))))))
      = (ar fun r k => sp (Z r k) : FVec Ideal (M 2048 64) .f32) := by
  subst hz
  funext i
  exact softplus _ _ Ideal.ofBits_zero_f32 _ 0 rfl

/-- A number kept unless it is the infinity. -/
theorem kept (x t z : EReal) (ht : t = ⊤) (hz : z = 0) : (if Ideal.cmp .oeq x t = 1#1 then z else x) = if x = ⊤ then 0 else x := by
  subst ht hz
  by_cases h : x = ⊤ <;> simp [Ideal.cmp, h]

/-- The derivative of the softplus on the host. -/
theorem host_sg (Z : ℕ → ℕ → EReal) (h : (⟨0, ![]⟩ : Shape).BroadcastsInDim (M 2048 64) ![]) (z t : FVec Ideal (M 2048 64) .f32)
    (hz : z = broadcastInDim (M 2048 64) ![] h (constant (F := Ideal) (⟨0, ![]⟩ : Shape) .f32 0x00000000#32))
    (ht : t = broadcastInDim (M 2048 64) ![] h (constant (F := Ideal) (⟨0, ![]⟩ : Shape) .f32 0x7F800000#32)) :
    Host.exp (subf (select (cmpf .oeq (ar Z : FVec Ideal (M 2048 64) .f32) t) z (ar Z : FVec Ideal (M 2048 64) .f32))
      (select (cmpf .oeq (ar fun r k => sp (Z r k) : FVec Ideal (M 2048 64) .f32) t) z (ar fun r k => sp (Z r k) : FVec Ideal (M 2048 64) .f32)))
      = (ar fun r k => sg (Z r k) : FVec Ideal (M 2048 64) .f32) := by
  subst hz ht
  funext i
  refine Eq.trans ?_ (slope (Z (i 0).val (i 1).val) _ rfl)
  refine congrArg Ideal.exp (congrArg₂ (fun x y : EReal => x - y) ?_ ?_)
  · exact kept _ _ _ Attn.ofBits_inf Ideal.ofBits_zero_f32
  · exact kept _ _ _ Attn.ofBits_inf Ideal.ofBits_zero_f32

theorem at8 : ∀ t : Fin cfg0.N, win0_0.index t = ![0, 0] ∧ win0_1.index t = ![0, 0] ∧ win0_2.index t = ![0, 0] ∧ win0_3.index t = ![0, 0] ∧ win0_4.index t = ![0, 0]
    ∧ win0_5.index t = ![0, 0] ∧ win0_6.index t = ![0, 0] ∧ win0_7.index t = ![0, 0] ∧ win0_8.index t = ![0, 0] := by decide +kernel

/-- The one block is the array. -/
theorem blk_whole {r c : ℕ} (X : ℕ → ℕ → EReal) (p : Fin 2 → ℕ) (hp : p = ![0, 0]) : (ar (blk p r c X) : FVec Ideal (M r c) .f32) = ar X := by
  subst hp
  refine ar_congr fun a _ b _ => ?_
  show X (0 * r + 1 * a) (0 * c + 1 * b) = X a b
  simp only [zero_mul, one_mul, zero_add]

variable {m : (ℓ : Loc nD τ sig) → Buf (Elt Ideal) ℓ} {c : Dev nD} {X D T : ℕ → ℕ → EReal} {b a : ℕ → EReal}

section
variable (h0 : m ((c : Thread nD τ).loc main_arg0) = (ar X : FVec Ideal (M 2048 64) .f32)) (h1 : m ((c : Thread nD τ).loc main_arg1) = (ar1 b : FVec Ideal (⟨1, ![64]⟩ : Shape) .f32))
  (h2 : m ((c : Thread nD τ).loc main_arg2) = (ar1 a : FVec Ideal (⟨1, ![64]⟩ : Shape) .f32))
  (h3 : m ((c : Thread nD τ).loc main_arg3) = (ar D : FVec Ideal (M 2048 64) .f32)) (h4 : m ((c : Thread nD τ).loc main_arg4) = (ar T : FVec Ideal (M 2048 64) .f32))

include h1 in
/-- The bias as the launch finds it: one row. -/
theorem biasAt : V m c main_v4 = (ar fun _ k => b k : FVec Ideal (M 1 64) .f32) := by
  refine Eq.trans (b := shapeCast (M 1 64) (m ((c : Thread nD τ).loc main_arg1)) shapeCasts_S64_S1x64) ?_ (by rw [h1]; exact one_row _ _)
  show StableHlo.after (List.flatten [hostOps0, hostOps0_1, hostOps0_2]) _ _ = _
  simp only [hostOps0, hostOps0_1, hostOps0_2, List.flatten_cons, List.flatten_nil, List.append_nil, List.cons_append, List.nil_append, StableHlo.TRef.nullary, StableHlo.TRef.unary,
    StableHlo.TRef.binary, StableHlo.TRef.ternary, StableHlo.TRef.reshape, StableHlo.TRef.toBuf, StableHlo.TRef.ofBuf, cast_eq]
  after_results_simp <;> rfl

include h2 in
/-- The logarithms of the decay rates as the launch finds them: one row. -/
theorem logsAt : V m c main_v5 = (ar fun _ k => a k : FVec Ideal (M 1 64) .f32) := by
  refine Eq.trans (b := shapeCast (M 1 64) (m ((c : Thread nD τ).loc main_arg2)) shapeCasts_S64_S1x64) ?_ (by rw [h2]; exact one_row _ _)
  show StableHlo.after (List.flatten [hostOps0, hostOps0_1, hostOps0_2]) _ _ = _
  simp only [hostOps0, hostOps0_1, hostOps0_2, List.flatten_cons, List.flatten_nil, List.append_nil, List.cons_append, List.nil_append, StableHlo.TRef.nullary, StableHlo.TRef.unary,
    StableHlo.TRef.binary, StableHlo.TRef.ternary, StableHlo.TRef.reshape, StableHlo.TRef.toBuf, StableHlo.TRef.ofBuf, cast_eq]
  after_results_simp <;> rfl

include h0 h1 in
/-- The step sizes as the launch finds them. -/
theorem stepsAt : V m c main_v3 = (ar fun r k => sp (X r k + b k) : FVec Ideal (M 2048 64) .f32) := by
  let x : FVec Ideal (M 2048 64) .f32 := m ((c : Thread nD τ).loc main_arg0)
  let v : FVec Ideal (⟨1, ![64]⟩ : Shape) .f32 := m ((c : Thread nD τ).loc main_arg1)
  let Z : FVec Ideal (M 2048 64) .f32 := addf x (broadcastInDim S2048x64 ![0, 1] bcast_S1x64_S2048x64_0_1 (broadcastInDim S1x64 ![1] bcast_S64_S1x64_1 v))
  let z : FVec Ideal (M 2048 64) .f32 := broadcastInDim S2048x64 ![] bcast_S_S2048x64 (constant (F := Ideal) S_ .f32 0x00000000#32)
  have hx : x = ar X := h0
  have hv : v = ar1 b := h1
  have hZ : Z = ar fun r k => X r k + b k := by
    show addf x (broadcastInDim S2048x64 ![0, 1] bcast_S1x64_S2048x64_0_1 (broadcastInDim S1x64 ![1] bcast_S64_S1x64_1 v)) = _
    rw [hx, hv, host_spread_row b]
    rfl
  refine Eq.trans (b := select (cmpf .une (subf Z z) (subf Z z)) (addf Z z) (addf (maximumf Z z) (Host.log1p (Host.exp (Host.negf (Host.absf (subf Z z))))))) ?_
    (by rw [hZ]; exact host_sp _ bcast_S_S2048x64 z rfl)
  show StableHlo.after (List.flatten [hostOps0, hostOps0_1, hostOps0_2]) _ _ = _
  simp only [hostOps0, hostOps0_1, hostOps0_2, List.flatten_cons, List.flatten_nil, List.append_nil, List.cons_append, List.nil_append, StableHlo.TRef.nullary, StableHlo.TRef.unary,
    StableHlo.TRef.binary, StableHlo.TRef.ternary, StableHlo.TRef.reshape, StableHlo.TRef.toBuf, StableHlo.TRef.ofBuf, cast_eq]
  after_results_simp <;> rfl

include h0 in
theorem blk0 (t : Fin cfg0.N) : iblk m c 0 t = (ar X : FVec Ideal (M 2048 64) .f32) :=
  (congrArg ((win0_0.blk t).view.read _) ((V_main_arg0 m c).trans h0)).trans (blk_whole X (win0_0.index t) (at8 t).1)
include h1 in
theorem blk1 (t : Fin cfg0.N) : iblk m c 1 t = (ar fun _ k => b k : FVec Ideal (M 1 64) .f32) :=
  (congrArg ((win0_1.blk t).view.read _) (biasAt h1)).trans (blk_whole (fun _ k => b k) (win0_1.index t) (at8 t).2.1)
include h2 in
theorem blk2 (t : Fin cfg0.N) : iblk m c 2 t = (ar fun _ k => a k : FVec Ideal (M 1 64) .f32) :=
  (congrArg ((win0_2.blk t).view.read _) (logsAt h2)).trans (blk_whole (fun _ k => a k) (win0_2.index t) (at8 t).2.2.1)
include h0 h1 in
theorem blk3 (t : Fin cfg0.N) : iblk m c 3 t = (ar fun r k => sp (X r k + b k) : FVec Ideal (M 2048 64) .f32) :=
  (congrArg ((win0_3.blk t).view.read _) (stepsAt h0 h1)).trans (blk_whole (fun r k => sp (X r k + b k)) (win0_3.index t) (at8 t).2.2.2.1)
include h3 in
theorem blk4 (t : Fin cfg0.N) : iblk m c 4 t = (ar D : FVec Ideal (M 2048 64) .f32) :=
  (congrArg ((win0_4.blk t).view.read _) ((V_main_arg3 m c).trans h3)).trans (blk_whole D (win0_4.index t) (at8 t).2.2.2.2.1)
include h4 in
theorem blk5 (t : Fin cfg0.N) : iblk m c 5 t = (ar T : FVec Ideal (M 2048 64) .f32) :=
  (congrArg ((win0_5.blk t).view.read _) ((V_main_arg4 m c).trans h4)).trans (blk_whole T (win0_5.index t) (at8 t).2.2.2.2.2.1)

include h0 h1 h2 h3 h4

/-- The three results after the run. -/
theorem final6 : (dats m 0 c).arrAt 6 cfg0.N = (ar (dr X D T b a) : FVec Ideal (M 2048 64) .f32) := by
  refine (dats m 0 c).arrAt_eq_of_covers 6 _ (by decide +kernel) fun t _ y => ?_
  have e : (dats m 0 c).after 6 t = (ar (dr X D T b a) : FVec Ideal (M 2048 64) .f32) := by
    rw [after0_6, blk0 h0 t, blk1 h1 t, blk2 h2 t, blk3 h0 h1 t, blk4 h3 t, blk5 h4 t]
    frame_out
    exact raw X D T b a
  exact (congrFun (e.trans (blk_whole (dr X D T b a) (win0_6.index t) (at8 t).2.2.2.2.2.2.1).symm) y)

theorem final7 : (dats m 0 c).arrAt 7 cfg0.N = (ar fun _ k => colSum 2048 (dr X D T b a) k : FVec Ideal (M 1 64) .f32) := by
  refine (dats m 0 c).arrAt_eq_of_covers 7 _ (by decide +kernel) fun t _ y => ?_
  have e : (dats m 0 c).after 7 t = (ar fun _ k => colSum 2048 (dr X D T b a) k : FVec Ideal (M 1 64) .f32) := by
    rw [after0_7, blk0 h0 t, blk1 h1 t, blk2 h2 t, blk3 h0 h1 t, blk4 h3 t, blk5 h4 t]
    frame_out
    exact bias X D T b a
  exact (congrFun (e.trans (blk_whole (fun _ k => colSum 2048 (dr X D T b a) k) (win0_7.index t) (at8 t).2.2.2.2.2.2.2.1).symm) y)

theorem final8 : (dats m 0 c).arrAt 8 cfg0.N = (ar fun _ k => colSum 2048 (ds X T b) k * -Ideal.exp (a k) : FVec Ideal (M 1 64) .f32) := by
  refine (dats m 0 c).arrAt_eq_of_covers 8 _ (by decide +kernel) fun t _ y => ?_
  have e : (dats m 0 c).after 8 t = (ar fun _ k => colSum 2048 (ds X T b) k * -Ideal.exp (a k) : FVec Ideal (M 1 64) .f32) := by
    rw [after0_8, blk0 h0 t, blk1 h1 t, blk2 h2 t, blk3 h0 h1 t, blk4 h3 t, blk5 h4 t]
    frame_out
    exact logs T (fun r k => sp (X r k + b k)) a
  exact (congrFun (e.trans (blk_whole (fun _ k => colSum 2048 (ds X T b) k * -Ideal.exp (a k)) (win0_8.index t) (at8 t).2.2.2.2.2.2.2.2).symm) y)

end

/-- The reference's sum of the cotangents that reach the step sizes. -/
theorem host_cotangent (D T : ℕ → ℕ → EReal) (a : ℕ → EReal) :
    addf (ar D) (mulf (ar T) (ar fun _ k => -Ideal.exp (a k)) : FVec Ideal (M 2048 64) .f32) = (ar fun r k => D r k + T r k * -Ideal.exp (a k) : FVec Ideal (M 2048 64) .f32) := rfl

/-- The sum over the one row of a row. -/
theorem one_sum {n c : ℕ} (X : ℕ → ℕ → EReal) : (ar fun _ k => colSum 1 (fun _ k => colSum n X k) k : FVec Ideal (M 1 c) .f32) = ar fun _ k => colSum n X k :=
  ar_congr fun _ _ k _ => Finset.sum_range_one _

theorem same_shape (Y : ℕ → ℕ → EReal) (h : (M 2048 64).ShapeCasts (M 2048 64)) : shapeCast (M 2048 64) (ar Y : FVec Ideal (M 2048 64) .f32) h = ar Y := shapeCast_self _ _

/-- The two programs leave the same gradients. -/
theorem algebraic : Cert.algebraic_DtBackIdeal_DtBackRefIdeal := by
  intro m ρ m' ρ' _ e
  refine ⟨_, _, _, Cert.DtBackIdeal.Value.run_blocks m ρ, (θ_run _ _ _).mono (fun _ h c => ⟨?_, ?_, ?_, (h c).2.2.2⟩) (Cert.DtBackRefIdeal.Value.run m' ρ')⟩
  all_goals
    obtain ⟨X, h0⟩ := exists_ar (m ((c : Thread nD τ).loc main_arg0) : FVec Ideal (M 2048 64) .f32)
    obtain ⟨b, h1⟩ := exists_ar1 (m ((c : Thread nD τ).loc main_arg1) : FVec Ideal (⟨1, ![64]⟩ : Shape) .f32)
    obtain ⟨a, h2⟩ := exists_ar1 (m ((c : Thread nD τ).loc main_arg2) : FVec Ideal (⟨1, ![64]⟩ : Shape) .f32)
    obtain ⟨D, h3⟩ := exists_ar (m ((c : Thread nD τ).loc main_arg3) : FVec Ideal (M 2048 64) .f32)
    obtain ⟨T, h4⟩ := exists_ar (m ((c : Thread nD τ).loc main_arg4) : FVec Ideal (M 2048 64) .f32)
    have hz : addf (ar X) (ar fun _ k => b k) = (ar fun r k => X r k + b k : FVec Ideal (M 2048 64) .f32) := rfl
    have ha : Host.negf (Host.exp (ar1 a)) = (ar1 fun k => -Ideal.exp (a k) : FVec Ideal (⟨1, ![64]⟩ : Shape) .f32) := rfl
    have hd : mulf (ar fun r k => D r k + T r k * -Ideal.exp (a k)) (ar fun r k => sg (X r k + b k)) = (ar (dr X D T b a) : FVec Ideal (M 2048 64) .f32) := rfl
  · refine (h c).1.trans (Eq.trans ?_ (final6 h0 h1 h2 h3 h4).symm)
    unfold Cert.DtBackRefIdeal.Value.res_main_v18
    rw [((e c).1).trans h0, ((e c).2.1).trans h1, ((e c).2.2.1).trans h2, ((e c).2.2.2.1).trans h3, ((e c).2.2.2.2).trans h4, host_spread_row b, hz, ha, host_spread_row, host_cotangent]
    refine Eq.trans (congrArg₂ mulf (same_shape _ _) ?_) hd
    rw [host_sp _ _ _ rfl, host_sg _ _ _ _ rfl rfl]
  · refine (h c).2.1.trans (Eq.trans ?_ (final7 h0 h1 h2 h3 h4).symm)
    unfold Cert.DtBackRefIdeal.Value.res_main_v22
    rw [((e c).1).trans h0, ((e c).2.1).trans h1, ((e c).2.2.1).trans h2, ((e c).2.2.2.1).trans h3, ((e c).2.2.2.2).trans h4, host_spread_row b, hz, ha, host_spread_row, host_cotangent,
      same_shape, host_sp _ _ _ rfl, host_sg _ _ _ _ rfl rfl, hd, host_sum_col, one_row, host_sum_col]
    exact (one_row _ _).trans (one_sum _)
  · refine (h c).2.2.1.trans (Eq.trans ?_ (final8 h0 h1 h2 h3 h4).symm)
    rw [((e c).1).trans h0, ((e c).2.1).trans h1, ((e c).2.2.1).trans h2, ((e c).2.2.2.2).trans h4, host_spread_row b, hz, host_sp _ _ _ rfl,
      show (mulf (ar fun r k => sp (X r k + b k)) (ar T) : FVec Ideal (M 2048 64) .f32) = ar (fun r k => sp (X r k + b k) * T r k) from rfl, host_sum_col, one_row, host_sum_col]
    refine Eq.trans (one_row (fun k => -(colSum 1 (fun _ k => colSum 2048 (fun r k => sp (X r k + b k) * T r k) k) k) * Ideal.exp (a k)) _) (ar_congr fun _ _ k _ => ?_)
    rw [show colSum 1 (fun _ k => colSum 2048 (fun r k => sp (X r k + b k) * T r k) k) k = colSum 2048 (ds X T b) k from
      (Finset.sum_range_one _).trans (Finset.sum_congr rfl fun r _ => mul_comm _ _), EReal.neg_mul, mul_comm (colSum 2048 (ds X T b) k) (-Ideal.exp (a k)), EReal.neg_mul, mul_comm]

end Cert.Proof.DtBack

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.SbIn
public import proofs.«01_k».proof.Proof.Gen.SbInIdeal
public import proofs.«01_k».proof.Proof.Gen.SbInIdeal.Frame
public import proofs.«01_k».proof.Proof.Gen.SbInRefIdeal
public import proofs.«01_k».proof.Proof.Gen.SbInRefIdeal.Run
public import proofs.«01_k».proof.Proof.Gen.SbInRefIdeal.Read
public import proofs.«01_k».proof.Proof.Gen.SbInBack
public import proofs.«01_k».proof.Proof.Gen.SbInBackIdeal
public import proofs.«01_k».proof.Proof.Gen.SbInBackIdeal.Value
public import proofs.«01_k».proof.Proof.Gen.SbInBackRefIdeal
public import proofs.«01_k».proof.Proof.Gen.SbInBackRefIdeal.Run
public import proofs.«01_k».proof.Proof.Gen.SbInBackRefIdeal.Read
public import proofs.«01_k».proof.Proof.Gen.PleGate
public import proofs.«01_k».proof.Proof.Gen.PleGateIdeal
public import proofs.«01_k».proof.Proof.Gen.PleGateIdeal.Frame
public import proofs.«01_k».proof.Proof.Gen.PleGateRefIdeal
public import proofs.«01_k».proof.Proof.Gen.PleGateRefIdeal.Run
public import proofs.«01_k».proof.Proof.Gen.PleGateRefIdeal.Read
public import proofs.«01_k».proof.Proof.Gen.SbOut
public import proofs.«01_k».proof.Proof.Gen.SbOutIdeal
public import proofs.«01_k».proof.Proof.Gen.SbOutIdeal.Frame
public import proofs.«01_k».proof.Proof.Gen.SbOutRefIdeal
public import proofs.«01_k».proof.Proof.Gen.SbOutRefIdeal.Run
public import proofs.«01_k».proof.Proof.Gen.SbOutRefIdeal.Read
public import proofs.«01_k».proof.Proof.Gen.SsdOut
public import proofs.«01_k».proof.Proof.Gen.SsdOutIdeal
public import proofs.«01_k».proof.Proof.Gen.SsdOutIdeal.Frame
public import proofs.«01_k».proof.Proof.Gen.SsdOutRefIdeal
public import proofs.«01_k».proof.Proof.Gen.SsdOutRefIdeal.Run
public import proofs.«01_k».proof.Proof.Gen.SsdOutRefIdeal.Read
public import proofs.«01_k».proof.Proof.Gen.SsdIn
public import proofs.«01_k».proof.Proof.Gen.SsdInIdeal
public import proofs.«01_k».proof.Proof.Gen.SsdInIdeal.Frame
public import proofs.«01_k».proof.Proof.Gen.SsdInRefIdeal
public import proofs.«01_k».proof.Proof.Gen.SsdInRefIdeal.Run
public import proofs.«01_k».proof.Proof.Gen.SsdInRefIdeal.Read
public import proofs.«01_k».proof.Proof.Gen.SsdBc
public import proofs.«01_k».proof.Proof.Gen.SsdBcIdeal
public import proofs.«01_k».proof.Proof.Gen.SsdBcIdeal.Frame
public import proofs.«01_k».proof.Proof.Gen.SsdBcRefIdeal
public import proofs.«01_k».proof.Proof.Gen.SsdBcRefIdeal.Run
public import proofs.«01_k».proof.Proof.Gen.SsdBcRefIdeal.Read
public import proofs.«01_k».proof.Proof.Gen.PleProj
public import proofs.«01_k».proof.Proof.Gen.PleProjIdeal
public import proofs.«01_k».proof.Proof.Gen.PleProjIdeal.Frame
public import proofs.«01_k».proof.Proof.Gen.PleProjRefIdeal
public import proofs.«01_k».proof.Proof.Gen.PleProjRefIdeal.Run
public import proofs.«01_k».proof.Proof.Gen.PleProjRefIdeal.Read
public import proofs.«01_k».proof.Proof.Gen.PleBack
public import proofs.«01_k».proof.Proof.Gen.PleBackIdeal
public import proofs.«01_k».proof.Proof.Gen.PleBackIdeal.Value
public import proofs.«01_k».proof.Proof.Gen.PleBackRefIdeal
public import proofs.«01_k».proof.Proof.Gen.PleBackRefIdeal.Run
public import proofs.«01_k».proof.Proof.Gen.PleBackRefIdeal.Read
public import proofs.«01_k».proof.Proof.Gen.SbGateBack
public import proofs.«01_k».proof.Proof.Gen.SbGateBackIdeal
public import proofs.«01_k».proof.Proof.Gen.SbGateBackIdeal.Value
public import proofs.«01_k».proof.Proof.Gen.SbGateBackRefIdeal
public import proofs.«01_k».proof.Proof.Gen.SbGateBackRefIdeal.Run
public import proofs.«01_k».proof.Proof.Gen.SbGateBackRefIdeal.Read
public import proofs.«01_k».proof.Proof.Gen.Pre_finite_gate
public import proofs.«01_k».proof.Proof.Gen.SsdDt
public import proofs.«01_k».proof.Proof.Gen.SsdDtIdeal
public import proofs.«01_k».proof.Proof.Gen.SsdDtIdeal.Frame
public import proofs.«01_k».proof.Proof.Gen.SsdDtRefIdeal
public import proofs.«01_k».proof.Proof.Gen.SsdDtRefIdeal.Run
public import proofs.«01_k».proof.Proof.Gen.PleFwd
public import proofs.«01_k».proof.Proof.Gen.PleFwdIdeal
public import proofs.«01_k».proof.Proof.Gen.PleFwdIdeal.Frame
public import proofs.«01_k».proof.Proof.Gen.PleFwdIdeal.Value
public import proofs.«01_k».proof.Proof.Gen.PleFwdRefIdeal
public import proofs.«01_k».proof.Proof.Gen.PleFwdRefIdeal.Run
public import proofs.«01_k».proof.Proof.Gen.Norm
public import proofs.«01_k».proof.Proof.Gen.NormIdeal
public import proofs.«01_k».proof.Proof.Gen.NormIdeal.Frame
public import proofs.«01_k».proof.Proof.Gen.NormIdeal.Value
public import proofs.«01_k».proof.Proof.Gen.NormRefIdeal
public import proofs.«01_k».proof.Proof.Gen.NormRefIdeal.Run
public import proofs.«01_k».proof.Proof.Gen.DtFwd
public import proofs.«01_k».proof.Proof.Gen.DtFwdIdeal
public import proofs.«01_k».proof.Proof.Gen.DtFwdIdeal.Frame
public import proofs.«01_k».proof.Proof.Gen.DtFwdIdeal.Value
public import proofs.«01_k».proof.Proof.Gen.DtFwdRefIdeal
public import proofs.«01_k».proof.Proof.Gen.DtFwdRefIdeal.Run
public import proofs.«01_k».proof.Proof.Gen.NormBack
public import proofs.«01_k».proof.Proof.Gen.NormBackIdeal
public import proofs.«01_k».proof.Proof.Gen.NormBackIdeal.Frame
public import proofs.«01_k».proof.Proof.Gen.NormBackIdeal.Value
public import proofs.«01_k».proof.Proof.Gen.NormBackRefIdeal
public import proofs.«01_k».proof.Proof.Gen.NormBackRefIdeal.Run
public import proofs.«01_k».proof.Proof.Gen.DtBack
public import proofs.«01_k».proof.Proof.Gen.DtBackIdeal
public import proofs.«01_k».proof.Proof.Gen.DtBackIdeal.Frame
public import proofs.«01_k».proof.Proof.Gen.DtBackIdeal.Value
public import proofs.«01_k».proof.Proof.Gen.DtBackRefIdeal
public import proofs.«01_k».proof.Proof.Gen.DtBackRefIdeal.Run
public import proofs.«01_k».proof.Proof.Gen.SbFwd
public import proofs.«01_k».proof.Proof.Gen.SbFwdIdeal
public import proofs.«01_k».proof.Proof.Gen.SbFwdIdeal.Frame
public import proofs.«01_k».proof.Proof.Gen.SbFwdRefIdeal
public import proofs.«01_k».proof.Proof.Gen.SbFwdRefIdeal.Run
public import proofs.«01_k».proof.Proof.Gen.SbFwdRefIdeal.Read
public import proofs.«01_k».proof.Proof.Gen.Pre_finite_logits
public import proofs.«01_k».proof.Proof.Values
public import proofs.«01_k».proof.Proof.SbInRun
public import proofs.«01_k».proof.Proof.SbInBackRun
public import proofs.«01_k».proof.Proof.PleGateRun
public import proofs.«01_k».proof.Proof.SbOutRun
public import proofs.«01_k».proof.Proof.SsdOutRun
public import proofs.«01_k».proof.Proof.SsdInRun
public import proofs.«01_k».proof.Proof.SsdBcRun
public import proofs.«01_k».proof.Proof.PleProjRun
public import proofs.«01_k».proof.Proof.Gates
public import proofs.«01_k».proof.Proof.FwdValues
public import proofs.«01_k».proof.Proof.SsdDtRun
public import proofs.«01_k».proof.Proof.Forward
public import proofs.«01_k».proof.Proof.NormBack
public import proofs.«01_k».proof.Proof.DtBack

@[expose] public section

noncomputable section

namespace Cert.Proof

open Idealize.ShloMosaic Idealize.ShloMosaic.TcCoe
open Idealize.SL Idealize.SL.Sem

/-- The frame of the idealized text, read at the machine's floats. -/
def FrameBits : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

/-- The kernel as compiled has the text of the idealized one. -/
theorem frameBits_eq : FrameBits = Cert.quiescent_Kernel := by
  sl_kernel_rfl

/-- So the run of the one is the run of the other. -/
theorem frame_kernel : Cert.quiescent_Kernel :=
  frameBits_eq ▸ (fun m ρ _ => Attn.frame_main (F := Bits) m ρ : FrameBits)

/-- For operands that are real, both programs end with the same three gradients. -/
theorem algebraic : Cert.algebraic_KernelIdeal_ReferenceIdeal_pre_finite := by
  intro m ρ m' ρ' hpre hag
  choose Q K W D h0 h1 h2 h3 using fun c => Attn.reals_of_pre _ _ _ _ (hpre c)
  refine ⟨Attn.gq Q K W D, Attn.gk Q K W D, Attn.gv Q K D, Attn.run_kernel m ρ Q K W D h0 h1 h2 h3, ?_⟩
  exact Attn.run_ref m' ρ' Q K W D (fun c => (hag c).1.trans (h0 c)) (fun c => (hag c).2.1.trans (h1 c))
    (fun c => (congrArg (Attn.IsV · (W c)) (hag c).2.2.1).mpr (h2 c)) (fun c => (hag c).2.2.2.trans (h3 c))

/-- A proof of one statement is a proof of another that has the same text. -/
theorem cast {P Q : Prop} (h : P) (e : P = Q) : Q := e ▸ h

/-- The run of `SbIn` as compiled is the one of its idealized text. -/
theorem frame_SbIn : Cert.quiescent_SbIn :=
  cast (fun m ρ (_ : True) => Cert.SbInIdeal.Gen.frame (F := Bits) m ρ) (by sl_kernel_rfl)

/-- The run of `SbInBack` as compiled is the one of its idealized text. -/
theorem frame_SbInBack : Cert.quiescent_SbInBack :=
  cast (fun m ρ (_ : True) => Cert.SbInBackIdeal.Gen.frame (F := Bits) m ρ) (by sl_kernel_rfl)

/-- The run of `PleGate` as compiled is the one of its idealized text. -/
theorem frame_PleGate : Cert.quiescent_PleGate :=
  cast (fun m ρ (_ : True) => Cert.PleGateIdeal.Gen.frame (F := Bits) m ρ) (by sl_kernel_rfl)

/-- The run of `SbOut` as compiled is the one of its idealized text. -/
theorem frame_SbOut : Cert.quiescent_SbOut :=
  cast (fun m ρ (_ : True) => Cert.SbOutIdeal.Gen.frame (F := Bits) m ρ) (by sl_kernel_rfl)

/-- The run of `SsdOut` as compiled is the one of its idealized text. -/
theorem frame_SsdOut : Cert.quiescent_SsdOut :=
  cast (fun m ρ (_ : True) => Cert.SsdOutIdeal.Gen.frame (F := Bits) m ρ) (by sl_kernel_rfl)

/-- The run of `SsdIn` as compiled is the one of its idealized text. -/
theorem frame_SsdIn : Cert.quiescent_SsdIn :=
  cast (fun m ρ (_ : True) => Cert.SsdInIdeal.Gen.frame (F := Bits) m ρ) (by sl_kernel_rfl)

/-- The run of `SsdBc` as compiled is the one of its idealized text. -/
theorem frame_SsdBc : Cert.quiescent_SsdBc :=
  cast (fun m ρ (_ : True) => Cert.SsdBcIdeal.Gen.frame (F := Bits) m ρ) (by sl_kernel_rfl)

/-- The run of `PleProj` as compiled is the one of its idealized text. -/
theorem frame_PleProj : Cert.quiescent_PleProj :=
  cast (fun m ρ (_ : True) => Cert.PleProjIdeal.Gen.frame (F := Bits) m ρ) (by sl_kernel_rfl)

/-- The run of `PleBack` as compiled is the one of its idealized text. -/
theorem frame_PleBack : Cert.quiescent_PleBack :=
  cast (fun m ρ (_ : True) => Cert.PleBackIdeal.Gen.frame (F := Bits) m ρ) (by sl_kernel_rfl)

/-- The run of `SbGateBack` as compiled is the one of its idealized text. -/
theorem frame_SbGateBack : Cert.quiescent_SbGateBack :=
  cast (fun m ρ (_ : True) => Cert.SbGateBackIdeal.Gen.frame (F := Bits) m ρ) (by sl_kernel_rfl)

/-- The run of `SbFwd` as compiled is the one of its idealized text. -/
theorem frame_SbFwd : Cert.quiescent_SbFwd :=
  cast (fun m ρ (_ : True) => Cert.SbFwdIdeal.Gen.frame (F := Bits) m ρ) (by sl_kernel_rfl)

/-- The run of `SsdDt` as compiled is the one of its idealized text. -/
theorem frame_SsdDt : Cert.quiescent_SsdDt :=
  cast (fun m ρ (_ : True) => Cert.SsdDtIdeal.Gen.frame (F := Bits) m ρ) (by sl_kernel_rfl)

/-- The run of `PleFwd` as compiled is the one of its idealized text. -/
theorem frame_PleFwd : Cert.quiescent_PleFwd :=
  cast (fun m ρ (_ : True) => Cert.PleFwdIdeal.Gen.frame (F := Bits) m ρ) (by sl_kernel_rfl)

/-- The run of `Norm` as compiled is the one of its idealized text. -/
theorem frame_Norm : Cert.quiescent_Norm :=
  cast (fun m ρ (_ : True) => Cert.NormIdeal.Gen.frame (F := Bits) m ρ) (by sl_kernel_rfl)

/-- The run of `DtFwd` as compiled is the one of its idealized text. -/
theorem frame_DtFwd : Cert.quiescent_DtFwd :=
  cast (fun m ρ (_ : True) => Cert.DtFwdIdeal.Gen.frame (F := Bits) m ρ) (by sl_kernel_rfl)

/-- The run of `NormBack` as compiled is the one of its idealized text. -/
theorem frame_NormBack : Cert.quiescent_NormBack :=
  cast (fun m ρ (_ : True) => Cert.NormBackIdeal.Gen.frame (F := Bits) m ρ) (by sl_kernel_rfl)

/-- The run of `DtBack` as compiled is the one of its idealized text. -/
theorem frame_DtBack : Cert.quiescent_DtBack :=
  cast (fun m ρ (_ : True) => Cert.DtBackIdeal.Gen.frame (F := Bits) m ρ) (by sl_kernel_rfl)

/-- All the claims of all the programs. -/
theorem claim : Cert.Claim := ⟨Cert.Kernel.Gen.facts, Cert.KernelIdeal.Gen.facts, Cert.ReferenceIdeal.Gen.facts,
  Cert.SbIn.Gen.facts, Cert.SbInIdeal.Gen.facts, Cert.SbInRefIdeal.Gen.facts,
  Cert.SbInBack.Gen.facts, Cert.SbInBackIdeal.Gen.facts, Cert.SbInBackRefIdeal.Gen.facts,
  Cert.PleGate.Gen.facts, Cert.PleGateIdeal.Gen.facts, Cert.PleGateRefIdeal.Gen.facts,
  Cert.SbOut.Gen.facts, Cert.SbOutIdeal.Gen.facts, Cert.SbOutRefIdeal.Gen.facts,
  Cert.SsdOut.Gen.facts, Cert.SsdOutIdeal.Gen.facts, Cert.SsdOutRefIdeal.Gen.facts,
  Cert.SsdIn.Gen.facts, Cert.SsdInIdeal.Gen.facts, Cert.SsdInRefIdeal.Gen.facts,
  Cert.SsdBc.Gen.facts, Cert.SsdBcIdeal.Gen.facts, Cert.SsdBcRefIdeal.Gen.facts,
  Cert.PleProj.Gen.facts, Cert.PleProjIdeal.Gen.facts, Cert.PleProjRefIdeal.Gen.facts,
  Cert.PleBack.Gen.facts, Cert.PleBackIdeal.Gen.facts, Cert.PleBackRefIdeal.Gen.facts,
  Cert.SbGateBack.Gen.facts, Cert.SbGateBackIdeal.Gen.facts, Cert.SbGateBackRefIdeal.Gen.facts,
  Cert.SbFwd.Gen.facts, Cert.SbFwdIdeal.Gen.facts, Cert.SbFwdRefIdeal.Gen.facts,
  Cert.SsdDt.Gen.facts, Cert.SsdDtIdeal.Gen.facts, Cert.SsdDtRefIdeal.Gen.facts,
  Cert.PleFwd.Gen.facts, Cert.PleFwdIdeal.Gen.facts, Cert.PleFwdRefIdeal.Gen.facts,
  Cert.Norm.Gen.facts, Cert.NormIdeal.Gen.facts, Cert.NormRefIdeal.Gen.facts,
  Cert.DtFwd.Gen.facts, Cert.DtFwdIdeal.Gen.facts, Cert.DtFwdRefIdeal.Gen.facts,
  Cert.NormBack.Gen.facts, Cert.NormBackIdeal.Gen.facts, Cert.NormBackRefIdeal.Gen.facts,
  Cert.DtBack.Gen.facts, Cert.DtBackIdeal.Gen.facts, Cert.DtBackRefIdeal.Gen.facts,
  Cert.Pre_finite.Gen.facts, Cert.Pre_finite_gate.Gen.facts, Cert.Pre_finite_logits.Gen.facts,
  frame_kernel, fun m ρ _ => Attn.frame_main m ρ, fun m ρ _ => Attn.frame_main m ρ,
  fun m ρ _ => Attn.frame_ref m ρ, fun m ρ _ => Attn.frame_ref m ρ,
  frame_SbIn, fun m ρ _ => Cert.SbInIdeal.Gen.frame m ρ, fun m ρ _ => SbIn.frame_ref m ρ,
  frame_SbInBack, fun m ρ _ => Cert.SbInBackIdeal.Gen.frame m ρ, fun m ρ _ => SbInBack.frame_ref m ρ,
  frame_PleGate, fun m ρ _ => Cert.PleGateIdeal.Gen.frame m ρ, fun m ρ _ => PleGate.frame_ref m ρ,
  frame_SbOut, fun m ρ _ => Cert.SbOutIdeal.Gen.frame m ρ, fun m ρ _ => SbOut.frame_ref m ρ,
  frame_SsdOut, fun m ρ _ => Cert.SsdOutIdeal.Gen.frame m ρ, fun m ρ _ => SsdOut.frame_ref m ρ,
  frame_SsdIn, fun m ρ _ => Cert.SsdInIdeal.Gen.frame m ρ, fun m ρ _ => SsdIn.frame_ref m ρ,
  frame_SsdBc, fun m ρ _ => Cert.SsdBcIdeal.Gen.frame m ρ, fun m ρ _ => SsdBc.frame_ref m ρ,
  frame_PleProj, fun m ρ _ => Cert.PleProjIdeal.Gen.frame m ρ, fun m ρ _ => PleProj.frame_ref m ρ,
  frame_PleBack, fun m ρ _ => Cert.PleBackIdeal.Gen.frame m ρ, PleBack.frame_ref,
  frame_SbGateBack, fun m ρ _ => Cert.SbGateBackIdeal.Gen.frame m ρ, fun m ρ _ => Cert.SbGateBackIdeal.Gen.frame m ρ,
  SbGateBack.frame_ref, fun m ρ _ => SbGateBack.frame_ref m ρ trivial,
  frame_SbFwd, fun m ρ _ => Cert.SbFwdIdeal.Gen.frame m ρ, fun m ρ _ => Cert.SbFwdIdeal.Gen.frame m ρ,
  SbFwd.frame_ref, fun m ρ _ => SbFwd.frame_ref m ρ trivial,
  frame_SsdDt, fun m ρ _ => Cert.SsdDtIdeal.Gen.frame m ρ, fun m ρ _ => SsdDt.frame_ref m ρ,
  frame_PleFwd, fun m ρ _ => Cert.PleFwdIdeal.Gen.frame m ρ, PleFwd.frame_ref,
  frame_Norm, fun m ρ _ => Cert.NormIdeal.Gen.frame m ρ, Norm.frame_ref,
  frame_DtFwd, fun m ρ _ => Cert.DtFwdIdeal.Gen.frame m ρ, DtFwd.frame_ref,
  frame_NormBack, fun m ρ _ => Cert.NormBackIdeal.Gen.frame m ρ, NormBack.frame_ref,
  frame_DtBack, fun m ρ _ => Cert.DtBackIdeal.Gen.frame m ρ, DtBack.frame_ref,
  trivial, algebraic,
  trivial, SbIn.algebraic,
  trivial, SbInBack.algebraic,
  trivial, PleGate.algebraic,
  trivial, SbOut.algebraic,
  trivial, SsdOut.algebraic,
  trivial, SsdIn.algebraic,
  trivial, SsdBc.algebraic,
  trivial, PleProj.algebraic,
  trivial, PleBack.algebraic,
  trivial, SbGateBack.algebraic,
  trivial, SbFwd.algebraic,
  trivial, SsdDt.algebraic,
  trivial, PleFwd.algebraic,
  trivial, Norm.algebraic,
  trivial, DtFwd.algebraic,
  trivial, NormBack.algebraic,
  trivial, DtBack.algebraic⟩

end Cert.Proof

end
